-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8)
      ∧ r.2.mem ((c.tc : Thread Cert.Kernel11.nD Cert.Kernel11.τ).loc Cert.Kernel11.main_arg9) = m ((c.tc : Thread Cert.Kernel11.nD Cert.Kernel11.τ).loc Cert.Kernel11.main_arg9))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8)
      ∧ r.2.mem ((c.tc : Thread Cert.Kernel12.nD Cert.Kernel12.τ).loc Cert.Kernel12.main_arg9) = m ((c.tc : Thread Cert.Kernel12.nD Cert.Kernel12.τ).loc Cert.Kernel12.main_arg9))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
      ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8)
      ∧ r.2.mem ((c.tc : Thread Cert.Reference12Ideal.nD Cert.Reference12Ideal.τ).loc Cert.Reference12Ideal.main_arg9) = m ((c.tc : Thread Cert.Reference12Ideal.nD Cert.Reference12Ideal.τ).loc Cert.Reference12Ideal.main_arg9))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7)
      ∧ r.2.mem ((c.tc : Thread Cert.Kernel13.nD Cert.Kernel13.τ).loc Cert.Kernel13.main_arg8) = m ((c.tc : Thread Cert.Kernel13.nD Cert.Kernel13.τ).loc Cert.Kernel13.main_arg8)
      ∧ r.2.mem ((c.tc : Thread Cert.Kernel13.nD Cert.Kernel13.τ).loc Cert.Kernel13.main_arg9) = m ((c.tc : Thread Cert.Kernel13.nD Cert.Kernel13.τ).loc Cert.Kernel13.main_arg9))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
      ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
      ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7)
      ∧ r.2.mem ((c.tc : Thread Cert.Reference13Ideal.nD Cert.Reference13Ideal.τ).loc Cert.Reference13Ideal.main_arg8) = m ((c.tc : Thread Cert.Reference13Ideal.nD Cert.Reference13Ideal.τ).loc Cert.Reference13Ideal.main_arg8)
      ∧ r.2.mem ((c.tc : Thread Cert.Reference13Ideal.nD Cert.Reference13Ideal.τ).loc Cert.Reference13Ideal.main_arg9) = m ((c.tc : Thread Cert.Reference13Ideal.nD Cert.Reference13Ideal.τ).loc Cert.Reference13Ideal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v40_0)) (v1 : (c : Dev Cert.KernelIdeal.nD) → Buf (Elt Ideal) ((c.tc : Thread Cert.KernelIdeal.nD Cert.KernelIdeal.τ).loc Cert.KernelIdeal.main_v40_1)) (v2 : (c : Dev Cert.KernelIdeal.nD) → Buf (Elt Ideal) ((c.tc : Thread Cert.KernelIdeal.nD Cert.KernelIdeal.τ).loc Cert.KernelIdeal.main_v40_2)) (v3 : (c : Dev Cert.KernelIdeal.nD) → Buf (Elt Ideal) ((c.tc : Thread Cert.KernelIdeal.nD Cert.KernelIdeal.τ).loc Cert.KernelIdeal.main_v40_3)) (v4 : (c : Dev Cert.KernelIdeal.nD) → Buf (Elt Ideal) ((c.tc : Thread Cert.KernelIdeal.nD Cert.KernelIdeal.τ).loc Cert.KernelIdeal.main_v40_4)) (v5 : (c : Dev Cert.KernelIdeal.nD) → Buf (Elt Ideal) ((c.tc : Thread Cert.KernelIdeal.nD Cert.KernelIdeal.τ).loc Cert.KernelIdeal.main_v40_5)) (v6 : (c : Dev Cert.KernelIdeal.nD) → Buf (Elt Ideal) ((c.tc : Thread Cert.KernelIdeal.nD Cert.KernelIdeal.τ).loc Cert.KernelIdeal.main_v40_6)) (v7 : (c : Dev Cert.KernelIdeal.nD) → Buf (Elt Ideal) ((c.tc : Thread Cert.KernelIdeal.nD Cert.KernelIdeal.τ).loc Cert.KernelIdeal.main_v40_7)) (v8 : (c : Dev Cert.KernelIdeal.nD) → Buf (Elt Ideal) ((c.tc : Thread Cert.KernelIdeal.nD Cert.KernelIdeal.τ).loc Cert.KernelIdeal.main_v40_8)) (v9 : (c : Dev Cert.KernelIdeal.nD) → Buf (Elt Ideal) ((c.tc : Thread Cert.KernelIdeal.nD Cert.KernelIdeal.τ).loc Cert.KernelIdeal.main_v40_9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40_0) = v0 c
          ∧ r.2.mem ((c.tc : Thread Cert.KernelIdeal.nD Cert.KernelIdeal.τ).loc Cert.KernelIdeal.main_v40_1) = v1 c
          ∧ r.2.mem ((c.tc : Thread Cert.KernelIdeal.nD Cert.KernelIdeal.τ).loc Cert.KernelIdeal.main_v40_2) = v2 c
          ∧ r.2.mem ((c.tc : Thread Cert.KernelIdeal.nD Cert.KernelIdeal.τ).loc Cert.KernelIdeal.main_v40_3) = v3 c
          ∧ r.2.mem ((c.tc : Thread Cert.KernelIdeal.nD Cert.KernelIdeal.τ).loc Cert.KernelIdeal.main_v40_4) = v4 c
          ∧ r.2.mem ((c.tc : Thread Cert.KernelIdeal.nD Cert.KernelIdeal.τ).loc Cert.KernelIdeal.main_v40_5) = v5 c
          ∧ r.2.mem ((c.tc : Thread Cert.KernelIdeal.nD Cert.KernelIdeal.τ).loc Cert.KernelIdeal.main_v40_6) = v6 c
          ∧ r.2.mem ((c.tc : Thread Cert.KernelIdeal.nD Cert.KernelIdeal.τ).loc Cert.KernelIdeal.main_v40_7) = v7 c
          ∧ r.2.mem ((c.tc : Thread Cert.KernelIdeal.nD Cert.KernelIdeal.τ).loc Cert.KernelIdeal.main_v40_8) = v8 c
          ∧ r.2.mem ((c.tc : Thread Cert.KernelIdeal.nD Cert.KernelIdeal.τ).loc Cert.KernelIdeal.main_v40_9) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_v87) = v2 c
          ∧ r.2.mem ((c.tc : Thread Cert.ReferenceIdeal.nD Cert.ReferenceIdeal.τ).loc Cert.ReferenceIdeal.main_v88) = v3 c
          ∧ r.2.mem ((c.tc : Thread Cert.ReferenceIdeal.nD Cert.ReferenceIdeal.τ).loc Cert.ReferenceIdeal.main_v89) = v4 c
          ∧ r.2.mem ((c.tc : Thread Cert.ReferenceIdeal.nD Cert.ReferenceIdeal.τ).loc Cert.ReferenceIdeal.main_v90) = v5 c
          ∧ r.2.mem ((c.tc : Thread Cert.ReferenceIdeal.nD Cert.ReferenceIdeal.τ).loc Cert.ReferenceIdeal.main_v91) = v6 c
          ∧ r.2.mem ((c.tc : Thread Cert.ReferenceIdeal.nD Cert.ReferenceIdeal.τ).loc Cert.ReferenceIdeal.main_v92) = v7 c
          ∧ r.2.mem ((c.tc : Thread Cert.ReferenceIdeal.nD Cert.ReferenceIdeal.τ).loc Cert.ReferenceIdeal.main_v94) = v8 c
          ∧ r.2.mem ((c.tc : Thread Cert.ReferenceIdeal.nD Cert.ReferenceIdeal.τ).loc Cert.ReferenceIdeal.main_v84) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v57_0)) (v1 : (c : Dev Cert.Kernel2Ideal.nD) → Buf (Elt Ideal) ((c.tc : Thread Cert.Kernel2Ideal.nD Cert.Kernel2Ideal.τ).loc Cert.Kernel2Ideal.main_v57_1)) (v2 : (c : Dev Cert.Kernel2Ideal.nD) → Buf (Elt Ideal) ((c.tc : Thread Cert.Kernel2Ideal.nD Cert.Kernel2Ideal.τ).loc Cert.Kernel2Ideal.main_v57_2)) (v3 : (c : Dev Cert.Kernel2Ideal.nD) → Buf (Elt Ideal) ((c.tc : Thread Cert.Kernel2Ideal.nD Cert.Kernel2Ideal.τ).loc Cert.Kernel2Ideal.main_v57_3)) (v4 : (c : Dev Cert.Kernel2Ideal.nD) → Buf (Elt Ideal) ((c.tc : Thread Cert.Kernel2Ideal.nD Cert.Kernel2Ideal.τ).loc Cert.Kernel2Ideal.main_v57_4)) (v5 : (c : Dev Cert.Kernel2Ideal.nD) → Buf (Elt Ideal) ((c.tc : Thread Cert.Kernel2Ideal.nD Cert.Kernel2Ideal.τ).loc Cert.Kernel2Ideal.main_v57_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v57_0) = v0 c
          ∧ r.2.mem ((c.tc : Thread Cert.Kernel2Ideal.nD Cert.Kernel2Ideal.τ).loc Cert.Kernel2Ideal.main_v57_1) = v1 c
          ∧ r.2.mem ((c.tc : Thread Cert.Kernel2Ideal.nD Cert.Kernel2Ideal.τ).loc Cert.Kernel2Ideal.main_v57_2) = v2 c
          ∧ r.2.mem ((c.tc : Thread Cert.Kernel2Ideal.nD Cert.Kernel2Ideal.τ).loc Cert.Kernel2Ideal.main_v57_3) = v3 c
          ∧ r.2.mem ((c.tc : Thread Cert.Kernel2Ideal.nD Cert.Kernel2Ideal.τ).loc Cert.Kernel2Ideal.main_v57_4) = v4 c
          ∧ r.2.mem ((c.tc : Thread Cert.Kernel2Ideal.nD Cert.Kernel2Ideal.τ).loc Cert.Kernel2Ideal.main_v57_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v100) = v0 c
          ∧ r.2.mem ((c.tc : Thread Cert.Reference2Ideal.nD Cert.Reference2Ideal.τ).loc Cert.Reference2Ideal.main_v107) = v1 c
          ∧ r.2.mem ((c.tc : Thread Cert.Reference2Ideal.nD Cert.Reference2Ideal.τ).loc Cert.Reference2Ideal.main_v110) = v2 c
          ∧ r.2.mem ((c.tc : Thread Cert.Reference2Ideal.nD Cert.Reference2Ideal.τ).loc Cert.Reference2Ideal.main_v113) = v3 c
          ∧ r.2.mem ((c.tc : Thread Cert.Reference2Ideal.nD Cert.Reference2Ideal.τ).loc Cert.Reference2Ideal.main_v104) = v4 c
          ∧ r.2.mem ((c.tc : Thread Cert.Reference2Ideal.nD Cert.Reference2Ideal.τ).loc Cert.Reference2Ideal.main_v116) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)) (v2 : (c : Dev Cert.Kernel8Ideal.nD) → Buf (Elt Ideal) ((c.tc : Thread Cert.Kernel8Ideal.nD Cert.Kernel8Ideal.τ).loc Cert.Kernel8Ideal.main_v1_2)) (v3 : (c : Dev Cert.Kernel8Ideal.nD) → Buf (Elt Ideal) ((c.tc : Thread Cert.Kernel8Ideal.nD Cert.Kernel8Ideal.τ).loc Cert.Kernel8Ideal.main_v1_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_v1_2) = v2 c
          ∧ r.2.mem ((c.tc : Thread Cert.Kernel8Ideal.nD Cert.Kernel8Ideal.τ).loc Cert.Kernel8Ideal.main_v1_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v137) = v0 c
          ∧ r.2.mem ((c.tc : Thread Cert.Reference8Ideal.nD Cert.Reference8Ideal.τ).loc Cert.Reference8Ideal.main_v138) = v1 c
          ∧ r.2.mem ((c.tc : Thread Cert.Reference8Ideal.nD Cert.Reference8Ideal.τ).loc Cert.Reference8Ideal.main_v139) = v2 c
          ∧ r.2.mem ((c.tc : Thread Cert.Reference8Ideal.nD Cert.Reference8Ideal.τ).loc Cert.Reference8Ideal.main_v135) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)) (v2 : (c : Dev Cert.Kernel9Ideal.nD) → Buf (Elt Ideal) ((c.tc : Thread Cert.Kernel9Ideal.nD Cert.Kernel9Ideal.τ).loc Cert.Kernel9Ideal.main_v1_2)) (v3 : (c : Dev Cert.Kernel9Ideal.nD) → Buf (Elt Ideal) ((c.tc : Thread Cert.Kernel9Ideal.nD Cert.Kernel9Ideal.τ).loc Cert.Kernel9Ideal.main_v1_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_v1_2) = v2 c
          ∧ r.2.mem ((c.tc : Thread Cert.Kernel9Ideal.nD Cert.Kernel9Ideal.τ).loc Cert.Kernel9Ideal.main_v1_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v69) = v0 c
          ∧ r.2.mem ((c.tc : Thread Cert.Reference9Ideal.nD Cert.Reference9Ideal.τ).loc Cert.Reference9Ideal.main_v72) = v1 c
          ∧ r.2.mem ((c.tc : Thread Cert.Reference9Ideal.nD Cert.Reference9Ideal.τ).loc Cert.Reference9Ideal.main_v75) = v2 c
          ∧ r.2.mem ((c.tc : Thread Cert.Reference9Ideal.nD Cert.Reference9Ideal.τ).loc Cert.Reference9Ideal.main_v79) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)) →
    ∃ (v0 : (c : Dev Cert.Kernel10Ideal.nD) → Buf (Elt Ideal) ((c.tc : Thread Cert.Kernel10Ideal.nD Cert.Kernel10Ideal.τ).loc Cert.Kernel10Ideal.main_v1_0)) (v1 : (c : Dev Cert.Kernel10Ideal.nD) → Buf (Elt Ideal) ((c.tc : Thread Cert.Kernel10Ideal.nD Cert.Kernel10Ideal.τ).loc Cert.Kernel10Ideal.main_v1_1)) (v2 : (c : Dev Cert.Kernel10Ideal.nD) → Buf (Elt Ideal) ((c.tc : Thread Cert.Kernel10Ideal.nD Cert.Kernel10Ideal.τ).loc Cert.Kernel10Ideal.main_v1_2)) (v3 : (c : Dev Cert.Kernel10Ideal.nD) → Buf (Elt Ideal) ((c.tc : Thread Cert.Kernel10Ideal.nD Cert.Kernel10Ideal.τ).loc Cert.Kernel10Ideal.main_v1_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1_0) = v0 c
          ∧ r.2.mem ((c.tc : Thread Cert.Kernel10Ideal.nD Cert.Kernel10Ideal.τ).loc Cert.Kernel10Ideal.main_v1_1) = v1 c
          ∧ r.2.mem ((c.tc : Thread Cert.Kernel10Ideal.nD Cert.Kernel10Ideal.τ).loc Cert.Kernel10Ideal.main_v1_2) = v2 c
          ∧ r.2.mem ((c.tc : Thread Cert.Kernel10Ideal.nD Cert.Kernel10Ideal.τ).loc Cert.Kernel10Ideal.main_v1_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v140) = v0 c
          ∧ r.2.mem ((c.tc : Thread Cert.Reference10Ideal.nD Cert.Reference10Ideal.τ).loc Cert.Reference10Ideal.main_v141) = v1 c
          ∧ r.2.mem ((c.tc : Thread Cert.Reference10Ideal.nD Cert.Reference10Ideal.τ).loc Cert.Reference10Ideal.main_v142) = v2 c
          ∧ r.2.mem ((c.tc : Thread Cert.Reference10Ideal.nD Cert.Reference10Ideal.τ).loc Cert.Reference10Ideal.main_v135) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)
      ∧ m' ((c.tc : Thread Cert.Reference11Ideal.nD Cert.Reference11Ideal.τ).loc Cert.Reference11Ideal.main_arg9) = m ((c.tc : Thread Cert.Kernel11Ideal.nD Cert.Kernel11Ideal.τ).loc Cert.Kernel11Ideal.main_arg9)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
          ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v54) = v0 c
          ∧ r.2.mem ((c.tc : Thread Cert.Reference11Ideal.nD Cert.Reference11Ideal.τ).loc Cert.Reference11Ideal.main_v55) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8)
          ∧ r.2.mem ((c.tc : Thread Cert.Reference11Ideal.nD Cert.Reference11Ideal.τ).loc Cert.Reference11Ideal.main_arg9) = m' ((c.tc : Thread Cert.Reference11Ideal.nD Cert.Reference11Ideal.τ).loc Cert.Reference11Ideal.main_arg9))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)
      ∧ m' ((c.tc : Thread Cert.Reference12Ideal.nD Cert.Reference12Ideal.τ).loc Cert.Reference12Ideal.main_arg9) = m ((c.tc : Thread Cert.Kernel12Ideal.nD Cert.Kernel12Ideal.τ).loc Cert.Kernel12Ideal.main_arg9)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
          ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v47) = v0 c
          ∧ r.2.mem ((c.tc : Thread Cert.Reference12Ideal.nD Cert.Reference12Ideal.τ).loc Cert.Reference12Ideal.main_v51) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8)
          ∧ r.2.mem ((c.tc : Thread Cert.Reference12Ideal.nD Cert.Reference12Ideal.τ).loc Cert.Reference12Ideal.main_arg9) = m' ((c.tc : Thread Cert.Reference12Ideal.nD Cert.Reference12Ideal.τ).loc Cert.Reference12Ideal.main_arg9))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)
      ∧ m' ((c.tc : Thread Cert.Reference13Ideal.nD Cert.Reference13Ideal.τ).loc Cert.Reference13Ideal.main_arg8) = m ((c.tc : Thread Cert.Kernel13Ideal.nD Cert.Kernel13Ideal.τ).loc Cert.Kernel13Ideal.main_arg8)
      ∧ m' ((c.tc : Thread Cert.Reference13Ideal.nD Cert.Reference13Ideal.τ).loc Cert.Reference13Ideal.main_arg9) = m ((c.tc : Thread Cert.Kernel13Ideal.nD Cert.Kernel13Ideal.τ).loc Cert.Kernel13Ideal.main_arg9)) →
    ∃ (v0 : (c : Dev Cert.Kernel13Ideal.nD) → Buf (Elt Ideal) ((c.tc : Thread Cert.Kernel13Ideal.nD Cert.Kernel13Ideal.τ).loc Cert.Kernel13Ideal.main_v43_0)) (v1 : (c : Dev Cert.Kernel13Ideal.nD) → Buf (Elt Ideal) ((c.tc : Thread Cert.Kernel13Ideal.nD Cert.Kernel13Ideal.τ).loc Cert.Kernel13Ideal.main_v43_1)) (v2 : (c : Dev Cert.Kernel13Ideal.nD) → Buf (Elt Ideal) ((c.tc : Thread Cert.Kernel13Ideal.nD Cert.Kernel13Ideal.τ).loc Cert.Kernel13Ideal.main_v43_2)) (v3 : (c : Dev Cert.Kernel13Ideal.nD) → Buf (Elt Ideal) ((c.tc : Thread Cert.Kernel13Ideal.nD Cert.Kernel13Ideal.τ).loc Cert.Kernel13Ideal.main_v43_3)) (v4 : (c : Dev Cert.Kernel13Ideal.nD) → Buf (Elt Ideal) ((c.tc : Thread Cert.Kernel13Ideal.nD Cert.Kernel13Ideal.τ).loc Cert.Kernel13Ideal.main_v43_4)) (v5 : (c : Dev Cert.Kernel13Ideal.nD) → Buf (Elt Ideal) ((c.tc : Thread Cert.Kernel13Ideal.nD Cert.Kernel13Ideal.τ).loc Cert.Kernel13Ideal.main_v43_5)) (v6 : (c : Dev Cert.Kernel13Ideal.nD) → Buf (Elt Ideal) ((c.tc : Thread Cert.Kernel13Ideal.nD Cert.Kernel13Ideal.τ).loc Cert.Kernel13Ideal.main_v43_6)) (v7 : (c : Dev Cert.Kernel13Ideal.nD) → Buf (Elt Ideal) ((c.tc : Thread Cert.Kernel13Ideal.nD Cert.Kernel13Ideal.τ).loc Cert.Kernel13Ideal.main_v43_7)) (v8 : (c : Dev Cert.Kernel13Ideal.nD) → Buf (Elt Ideal) ((c.tc : Thread Cert.Kernel13Ideal.nD Cert.Kernel13Ideal.τ).loc Cert.Kernel13Ideal.main_v43_8)) (v9 : (c : Dev Cert.Kernel13Ideal.nD) → Buf (Elt Ideal) ((c.tc : Thread Cert.Kernel13Ideal.nD Cert.Kernel13Ideal.τ).loc Cert.Kernel13Ideal.main_v43_9)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v43_0) = v0 c
          ∧ r.2.mem ((c.tc : Thread Cert.Kernel13Ideal.nD Cert.Kernel13Ideal.τ).loc Cert.Kernel13Ideal.main_v43_1) = v1 c
          ∧ r.2.mem ((c.tc : Thread Cert.Kernel13Ideal.nD Cert.Kernel13Ideal.τ).loc Cert.Kernel13Ideal.main_v43_2) = v2 c
          ∧ r.2.mem ((c.tc : Thread Cert.Kernel13Ideal.nD Cert.Kernel13Ideal.τ).loc Cert.Kernel13Ideal.main_v43_3) = v3 c
          ∧ r.2.mem ((c.tc : Thread Cert.Kernel13Ideal.nD Cert.Kernel13Ideal.τ).loc Cert.Kernel13Ideal.main_v43_4) = v4 c
          ∧ r.2.mem ((c.tc : Thread Cert.Kernel13Ideal.nD Cert.Kernel13Ideal.τ).loc Cert.Kernel13Ideal.main_v43_5) = v5 c
          ∧ r.2.mem ((c.tc : Thread Cert.Kernel13Ideal.nD Cert.Kernel13Ideal.τ).loc Cert.Kernel13Ideal.main_v43_6) = v6 c
          ∧ r.2.mem ((c.tc : Thread Cert.Kernel13Ideal.nD Cert.Kernel13Ideal.τ).loc Cert.Kernel13Ideal.main_v43_7) = v7 c
          ∧ r.2.mem ((c.tc : Thread Cert.Kernel13Ideal.nD Cert.Kernel13Ideal.τ).loc Cert.Kernel13Ideal.main_v43_8) = v8 c
          ∧ r.2.mem ((c.tc : Thread Cert.Kernel13Ideal.nD Cert.Kernel13Ideal.τ).loc Cert.Kernel13Ideal.main_v43_9) = v9 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
          ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
          ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v86) = v0 c
          ∧ r.2.mem ((c.tc : Thread Cert.Reference13Ideal.nD Cert.Reference13Ideal.τ).loc Cert.Reference13Ideal.main_v90) = v1 c
          ∧ r.2.mem ((c.tc : Thread Cert.Reference13Ideal.nD Cert.Reference13Ideal.τ).loc Cert.Reference13Ideal.main_v94) = v2 c
          ∧ r.2.mem ((c.tc : Thread Cert.Reference13Ideal.nD Cert.Reference13Ideal.τ).loc Cert.Reference13Ideal.main_v98) = v3 c
          ∧ r.2.mem ((c.tc : Thread Cert.Reference13Ideal.nD Cert.Reference13Ideal.τ).loc Cert.Reference13Ideal.main_v102) = v4 c
          ∧ r.2.mem ((c.tc : Thread Cert.Reference13Ideal.nD Cert.Reference13Ideal.τ).loc Cert.Reference13Ideal.main_v106) = v5 c
          ∧ r.2.mem ((c.tc : Thread Cert.Reference13Ideal.nD Cert.Reference13Ideal.τ).loc Cert.Reference13Ideal.main_v110) = v6 c
          ∧ r.2.mem ((c.tc : Thread Cert.Reference13Ideal.nD Cert.Reference13Ideal.τ).loc Cert.Reference13Ideal.main_v114) = v7 c
          ∧ r.2.mem ((c.tc : Thread Cert.Reference13Ideal.nD Cert.Reference13Ideal.τ).loc Cert.Reference13Ideal.main_v118) = v8 c
          ∧ r.2.mem ((c.tc : Thread Cert.Reference13Ideal.nD Cert.Reference13Ideal.τ).loc Cert.Reference13Ideal.main_v120) = v9 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7)
          ∧ r.2.mem ((c.tc : Thread Cert.Reference13Ideal.nD Cert.Reference13Ideal.τ).loc Cert.Reference13Ideal.main_arg8) = m' ((c.tc : Thread Cert.Reference13Ideal.nD Cert.Reference13Ideal.τ).loc Cert.Reference13Ideal.main_arg8)
          ∧ r.2.mem ((c.tc : Thread Cert.Reference13Ideal.nD Cert.Reference13Ideal.τ).loc Cert.Reference13Ideal.main_arg9) = m' ((c.tc : Thread Cert.Reference13Ideal.nD Cert.Reference13Ideal.τ).loc Cert.Reference13Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Kernel.lean ====
abbrev S4x2304x1024 : Shape := ⟨3, ![4, 2304, 1024]⟩
abbrev S4x2304x384 : Shape := ⟨3, ![4, 2304, 384]⟩
abbrev S4x2304x256 : Shape := ⟨3, ![4, 2304, 256]⟩
abbrev S4x2304x4608 : Shape := ⟨3, ![4, 2304, 4608]⟩
abbrev S8x6144 : Shape := ⟨2, ![8, 6144]⟩
abbrev S384x1024 : Shape := ⟨2, ![384, 1024]⟩
abbrev S256x1024 : Shape := ⟨2, ![256, 1024]⟩
abbrev S1024x1024 : Shape := ⟨2, ![1024, 1024]⟩
abbrev S4x2304x3072 : Shape := ⟨3, ![4, 2304, 3072]⟩
abbrev S_ : Shape := ⟨0, ![]⟩
abbrev S8x1024 : Shape := ⟨2, ![8, 1024]⟩
abbrev S1x256x1024 : Shape := ⟨3, ![1, 256, 1024]⟩
abbrev S1x256x384 : Shape := ⟨3, ![1, 256, 384]⟩
abbrev S1x256x256 : Shape := ⟨3, ![1, 256, 256]⟩
abbrev S1x256x512 : Shape := ⟨3, ![1, 256, 512]⟩
abbrev S1x256x3072 : Shape := ⟨3, ![1, 256, 3072]⟩
abbrev S1x1024 : Shape := ⟨2, ![1, 1024]⟩
abbrev S1024 : Shape := ⟨1, ![1024]⟩
abbrev S256x512 : Shape := ⟨2, ![256, 512]⟩
abbrev S256x384 : Shape := ⟨2, ![256, 384]⟩
abbrev S256x256 : Shape := ⟨2, ![256, 256]⟩
abbrev S256x3072 : Shape := ⟨2, ![256, 3072]⟩

abbrev nBuf : Space → Nat
  | .hbm => 66
  | .vmem => 46
  | .smem => 0
  | _ => 0

abbrev bufTy : (tb : Table) → Fin (tcTables nBuf tb) → BufTy
  | .hbm, ⟨0, _⟩ => ⟨S4x2304x1024, .f32⟩
  | .hbm, ⟨1, _⟩ => ⟨S4x2304x384, .bf16⟩
  | .hbm, ⟨2, _⟩ => ⟨S4x2304x256, .bf16⟩
  | .hbm, ⟨3, _⟩ => ⟨S4x2304x384, .bf16⟩
  | .hbm, ⟨4, _⟩ => ⟨S4x2304x4608, .bf16⟩
  | .hbm, ⟨5, _⟩ => ⟨S8x6144, .f32⟩
  | .hbm, ⟨6, _⟩ => ⟨S384x1024, .bf16⟩
  | .hbm, ⟨7, _⟩ => ⟨S256x1024, .bf16⟩
  | .hbm, ⟨8, _⟩ => ⟨S384x1024, .bf16⟩
  | .hbm, ⟨9, _⟩ => ⟨S1024x1024, .bf16⟩
  | .hbm, ⟨10, _⟩ => ⟨S4x2304x4608, .f32⟩
  | .hbm, ⟨11, _⟩ => ⟨S4x2304x3072, .f32⟩
  | .hbm, ⟨12, _⟩ => ⟨S4x2304x1024, .f32⟩
  | .hbm, ⟨13, _⟩ => ⟨S4x2304x1024, .f32⟩
  | .hbm, ⟨14, _⟩ => ⟨S4x2304x1024, .f32⟩
  | .hbm, ⟨15, _⟩ => ⟨S4x2304x384, .f32⟩
  | .hbm, ⟨16, _⟩ => ⟨S4x2304x256, .f32⟩
  | .hbm, ⟨17, _⟩ => ⟨S4x2304x384, .f32⟩
  | .hbm, ⟨18, _⟩ => ⟨S384x1024, .f32⟩
  | .hbm, ⟨19, _⟩ => ⟨S256x1024, .f32⟩
  | .hbm, ⟨20, _⟩ => ⟨S384x1024, .f32⟩
  | .hbm, ⟨21, _⟩ => ⟨S1024x1024, .f32⟩
  | .hbm, ⟨22, _⟩ => ⟨S4x2304x1024, .f32⟩
  | .hbm, ⟨23, _⟩ => ⟨S4x2304x1024, .f32⟩
  | .hbm, ⟨24, _⟩ => ⟨S_, .f32⟩
  | .hbm, ⟨25, _⟩ => ⟨S4x2304x1024, .f32⟩
  | .hbm, ⟨26, _⟩ => ⟨S4x2304x1024, .f32⟩
  | .hbm, ⟨27, _⟩ => ⟨S_, .f32⟩
  | .hbm, ⟨28, _⟩ => ⟨S4x2304x1024, .f32⟩
  | .hbm, ⟨29, _⟩ => ⟨S4x2304x1024, .f32⟩
  | .hbm, ⟨30, _⟩ => ⟨S4x2304x1024, .f32⟩
  | .hbm, ⟨31, _⟩ => ⟨S4x2304x1024, .f32⟩
  | .hbm, ⟨32, _⟩ => ⟨S4x2304x1024, .f32⟩
  | .hbm, ⟨33, _⟩ => ⟨S4x2304x1024, .f32⟩
  | .hbm, ⟨34, _⟩ => ⟨S_, .f32⟩
  | .hbm, ⟨35, _⟩ => ⟨S4x2304x1024, .f32⟩
  | .hbm, ⟨36, _⟩ => ⟨S4x2304x1024, .f32⟩
  | .hbm, ⟨37, _⟩ => ⟨S_, .f32⟩
  | .hbm, ⟨38, _⟩ => ⟨S4x2304x1024, .f32⟩
  | .hbm, ⟨39, _⟩ => ⟨S4x2304x1024, .f32⟩
  | .hbm, ⟨40, _⟩ => ⟨S4x2304x1024, .f32⟩
  | .hbm, ⟨41, _⟩ => ⟨S4x2304x1024, .f32⟩
  | .hbm, ⟨42, _⟩ => ⟨S4x2304x1024, .f32⟩
  | .hbm, ⟨43, _⟩ => ⟨S4x2304x1024, .f32⟩
  | .hbm, ⟨44, _⟩ => ⟨S4x2304x1024, .f32⟩
  | .hbm, ⟨45, _⟩ => ⟨S_, .f32⟩
  | .hbm, ⟨46, _⟩ => ⟨S4x2304x1024, .f32⟩
  | .hbm, ⟨47, _⟩ => ⟨S4x2304x1024, .f32⟩
  | .hbm, ⟨48, _⟩ => ⟨S_, .f32⟩
  | .hbm, ⟨49, _⟩ => ⟨S4x2304x1024, .f32⟩
  | .hbm, ⟨50, _⟩ => ⟨S4x2304x1024, .f32⟩
  | .hbm, ⟨51, _⟩ => ⟨S4x2304x1024, .f32⟩
  | .hbm, ⟨52, _⟩ => ⟨S4x2304x1024, .f32⟩
  | .hbm, ⟨53, _⟩ => ⟨S4x2304x1024, .f32⟩
  | .hbm, ⟨54, _⟩ => ⟨S4x2304x1024, .f32⟩
  | .hbm, ⟨55, _⟩ => ⟨S4x2304x1024, .bf16⟩
  | .hbm, ⟨56, _⟩ => ⟨S4x2304x384, .bf16⟩
  | .hbm, ⟨57, _⟩ => ⟨S4x2304x256, .bf16⟩
  | .hbm, ⟨58, _⟩ => ⟨S4x2304x384, .bf16⟩
  | .hbm, ⟨59, _⟩ => ⟨S4x2304x1024, .bf16⟩
  | .hbm, ⟨60, _⟩ => ⟨S4x2304x1024, .bf16⟩
  | .hbm, ⟨61, _⟩ => ⟨S4x2304x1024, .bf16⟩
  | .hbm, ⟨62, _⟩ => ⟨S4x2304x1024, .bf16⟩
  | .hbm, ⟨63, _⟩ => ⟨S4x2304x1024, .bf16⟩
  | .hbm, ⟨64, _⟩ => ⟨S4x2304x3072, .bf16⟩
  | .hbm, ⟨65, _⟩ => ⟨S8x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .bf16⟩
  | .local _ .vmem, ⟨3, _⟩ => ⟨S1x256x1024, .bf16⟩
  | .local _ .vmem, ⟨4, _⟩ => ⟨S1x256x384, .bf16⟩
  | .local _ .vmem, ⟨5, _⟩ => ⟨S1x256x384, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x384, .bf16⟩
  | .local _ .vmem, ⟨9, _⟩ => ⟨S1x256x384, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S1x256x512, .bf16⟩
  | .local _ .vmem, ⟨15, _⟩ => ⟨S1x256x512, .bf16⟩
  | .local _ .vmem, ⟨16, _⟩ => ⟨S1x256x512, .bf16⟩
  | .local _ .vmem, ⟨17, _⟩ => ⟨S1x256x512, .bf16⟩
  | .local _ .vmem, ⟨18, _⟩ => ⟨S1x256x512, .bf16⟩
  | .local _ .vmem, ⟨19, _⟩ => ⟨S1x256x512, .bf16⟩
  | .local _ .vmem, ⟨20, _⟩ => ⟨S1x256x512, .bf16⟩
  | .local _ .vmem, ⟨21, _⟩ => ⟨S1x256x512, .bf16⟩
  | .local _ .vmem, ⟨22, _⟩ => ⟨S8x6144, .f32⟩
  | .local _ .vmem, ⟨23, _⟩ => ⟨S384x1024, .bf16⟩
  | .local _ .vmem, ⟨24, _⟩ => ⟨S256x1024, .bf16⟩
  | .local _ .vmem, ⟨25, _⟩ => ⟨S384x1024, .bf16⟩
  | .local _ .vmem, ⟨26, _⟩ => ⟨S1024x1024, .bf16⟩
  | .local _ .vmem, ⟨27, _⟩ => ⟨S1x256x384, .bf16⟩
  | .local _ .vmem, ⟨28, _⟩ => ⟨S1x256x384, .bf16⟩
  | .local _ .vmem, ⟨29, _⟩ => ⟨S1x256x256, .bf16⟩
  | .local _ .vmem, ⟨30, _⟩ => ⟨S1x256x256, .bf16⟩
  | .local _ .vmem, ⟨31, _⟩ => ⟨S1x256x384, .bf16⟩
  | .local _ .vmem, ⟨32, _⟩ => ⟨S1x256x384, .bf16⟩
  | .local _ .vmem, ⟨33, _⟩ => ⟨S1x256x1024, .bf16⟩
  | .local _ .vmem, ⟨34, _⟩ => ⟨S1x256x1024, .bf16⟩
  | .local _ .vmem, ⟨35, _⟩ => ⟨S1x256x1024, .bf16⟩
  | .local _ .vmem, ⟨36, _⟩ => ⟨S1x256x1024, .bf16⟩
  | .local _ .vmem, ⟨37, _⟩ => ⟨S1x256x1024, .bf16⟩
  | .local _ .vmem, ⟨38, _⟩ => ⟨S1x256x1024, .bf16⟩
  | .local _ .vmem, ⟨39, _⟩ => ⟨S1x256x1024, .bf16⟩
  | .local _ .vmem, ⟨40, _⟩ => ⟨S1x256x1024, .bf16⟩
  | .local _ .vmem, ⟨41, _⟩ => ⟨S1x256x1024, .bf16⟩
  | .local _ .vmem, ⟨42, _⟩ => ⟨S1x256x1024, .bf16⟩
  | .local _ .vmem, ⟨43, _⟩ => ⟨S1x256x3072, .bf16⟩
  | .local _ .vmem, ⟨44, _⟩ => ⟨S1x256x3072, .bf16⟩
  | .local _ .vmem, ⟨45, _⟩ => ⟨S8x1024, .f32⟩
  | _, _ => ⟨S4x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40_0 : Ref sig .tc := ⟨.hbm, 56, rfl⟩
abbrev main_v40_1 : Ref sig .tc := ⟨.hbm, 57, rfl⟩
abbrev main_v40_2 : Ref sig .tc := ⟨.hbm, 58, rfl⟩
abbrev main_v40_3 : Ref sig .tc := ⟨.hbm, 59, rfl⟩
abbrev main_v40_4 : Ref sig .tc := ⟨.hbm, 60, rfl⟩
abbrev main_v40_5 : Ref sig .tc := ⟨.hbm, 61, rfl⟩
abbrev main_v40_6 : Ref sig .tc := ⟨.hbm, 62, rfl⟩
abbrev main_v40_7 : Ref sig .tc := ⟨.hbm, 63, rfl⟩
abbrev main_v40_8 : Ref sig .tc := ⟨.hbm, 64, rfl⟩
abbrev main_v40_9 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_stg21_0 : Ref sig .tc := ⟨.vmem, 37, rfl⟩
abbrev cc0_stg21_1 : Ref sig .tc := ⟨.vmem, 38, rfl⟩
abbrev cc0_stg22_0 : Ref sig .tc := ⟨.vmem, 39, rfl⟩
abbrev cc0_stg22_1 : Ref sig .tc := ⟨.vmem, 40, rfl⟩
abbrev cc0_stg23_0 : Ref sig .tc := ⟨.vmem, 41, rfl⟩
abbrev cc0_stg23_1 : Ref sig .tc := ⟨.vmem, 42, rfl⟩
abbrev cc0_stg24_0 : Ref sig .tc := ⟨.vmem, 43, rfl⟩
abbrev cc0_stg24_1 : Ref sig .tc := ⟨.vmem, 44, rfl⟩
abbrev cc0_stg25_0 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36
abbrev cc0_sem21_0 : DmaSem sig := 37
abbrev cc0_sem21_1 : DmaSem sig := 38
abbrev cc0_sem22_0 : DmaSem sig := 39
abbrev cc0_sem22_1 : DmaSem sig := 40
abbrev cc0_sem23_0 : DmaSem sig := 41
abbrev cc0_sem23_1 : DmaSem sig := 42
abbrev cc0_sem24_0 : DmaSem sig := 43
abbrev cc0_sem24_1 : DmaSem sig := 44
abbrev cc0_sem25_0 : DmaSem sig := 45

abbrev nD : Nat := 1
abbrev τ : Topo := Topo.v7x

variable {F : FTy → Type} [FloatOps F]

abbrev grid0 : Pipeline.Grid := ⟨2, ![4, 9], ![false, false]⟩

def k0_off1 (i : grid0.Coords) : Fin 2 → Nat :=
  let arg1 : BitVec 32 := BitVec.ofNat 32 (i 1).val
  let c1_i32 : BitVec 32 := 1#32
  let v5 : BitVec 1 := Scalar.cmpi .slt arg1 c1_i32
  let c4_i32 : BitVec 32 := 4#32
  let arg0 : BitVec 32 := BitVec.ofNat 32 (i 0).val
  let v6 : BitVec 32 := Scalar.select v5 c4_i32 arg0
  let v9 : Index := Scalar.indexCast v6
  let c0_4 : Index := 0#32
  ![v9.toNat, 0]
def k0_off2 (i : grid0.Coords) : Fin 2 → Nat :=
  let arg1 : BitVec 32 := BitVec.ofNat 32 (i 1).val
  let c1_i32 : BitVec 32 := 1#32
  let v5 : BitVec 1 := Scalar.cmpi .slt arg1 c1_i32
  let c4_i32 : BitVec 32 := 4#32
  let arg0 : BitVec 32 := BitVec.ofNat 32 (i 0).val
  let v6 : BitVec 32 := Scalar.select v5 c4_i32 arg0
  let v21 : Index := Scalar.indexCast v6
  let c2048 : Index := 2048#32
  ![v21.toNat, 2048]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_7 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_8 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_9 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_10 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_25 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S8x6144 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S384x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S384x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x256x384 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x384 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x256x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x256x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x256x3072 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 1 → Memref sig .tc .vmem S8x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false, false]
-- ==== ReferenceIdeal.lean ====
abbrev S4x2304x1024 : Shape := ⟨3, ![4, 2304, 1024]⟩
abbrev S4x2304x384 : Shape := ⟨3, ![4, 2304, 384]⟩
abbrev S4x2304x256 : Shape := ⟨3, ![4, 2304, 256]⟩
abbrev S4x2304x4608 : Shape := ⟨3, ![4, 2304, 4608]⟩
abbrev S8x6144 : Shape := ⟨2, ![8, 6144]⟩
abbrev S384x1024 : Shape := ⟨2, ![384, 1024]⟩
abbrev S256x1024 : Shape := ⟨2, ![256, 1024]⟩
abbrev S1024x1024 : Shape := ⟨2, ![1024, 1024]⟩
abbrev S4x2304x3072 : Shape := ⟨3, ![4, 2304, 3072]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S4x1x1024 : Shape := ⟨3, ![4, 1, 1024]⟩
abbrev S4x256x1024 : Shape := ⟨3, ![4, 256, 1024]⟩
abbrev S4x2048x1024 : Shape := ⟨3, ![4, 2048, 1024]⟩
abbrev S3x1024 : Shape := ⟨2, ![3, 1024]⟩
abbrev S8x1024 : Shape := ⟨2, ![8, 1024]⟩

abbrev nBuf : Space → Nat
  | .hbm => 120
  | .vmem => 0
  | .smem => 0
  | _ => 0

abbrev bufTy : (tb : Table) → Fin (tcTables nBuf tb) → BufTy
  | .hbm, ⟨0, _⟩ => ⟨S4x2304x1024, .f32⟩
  | .hbm, ⟨1, _⟩ => ⟨S4x2304x384, .bf16⟩
  | .hbm, ⟨2, _⟩ => ⟨S4x2304x256, .bf16⟩
  | .hbm, ⟨3, _⟩ => ⟨S4x2304x384, .bf16⟩
  | .hbm, ⟨4, _⟩ => ⟨S4x2304x4608, .bf16⟩
  | .hbm, ⟨5, _⟩ => ⟨S8x6144, .f32⟩
  | .hbm, ⟨6, _⟩ => ⟨S384x1024, .bf16⟩
  | .hbm, ⟨7, _⟩ => ⟨S256x1024, .bf16⟩
  | .hbm, ⟨8, _⟩ => ⟨S384x1024, .bf16⟩
  | .hbm, ⟨9, _⟩ => ⟨S1024x1024, .bf16⟩
  | .hbm, ⟨10, _⟩ => ⟨S4x2304x384, .f32⟩
  | .hbm, ⟨11, _⟩ => ⟨S4x2304x256, .f32⟩
  | .hbm, ⟨12, _⟩ => ⟨S4x2304x384, .f32⟩
  | .hbm, ⟨13, _⟩ => ⟨S384x1024, .f32⟩
  | .hbm, ⟨14, _⟩ => ⟨S256x1024, .f32⟩
  | .hbm, ⟨15, _⟩ => ⟨S384x1024, .f32⟩
  | .hbm, ⟨16, _⟩ => ⟨S1024x1024, .f32⟩
  | .hbm, ⟨17, _⟩ => ⟨S4x2304x4608, .f32⟩
  | .hbm, ⟨18, _⟩ => ⟨S4x2304x3072, .f32⟩
  | .hbm, ⟨19, _⟩ => ⟨S4x2304x1024, .f32⟩
  | .hbm, ⟨20, _⟩ => ⟨S4x2304x1024, .f32⟩
  | .hbm, ⟨21, _⟩ => ⟨S4x2304x1024, .f32⟩
  | .hbm, ⟨22, _⟩ => ⟨S4x1024, .f32⟩
  | .hbm, ⟨23, _⟩ => ⟨S1x1024, .f32⟩
  | .hbm, ⟨24, _⟩ => ⟨S1024, .f32⟩
  | .hbm, ⟨25, _⟩ => ⟨S4x2304x1024, .f32⟩
  | .hbm, ⟨26, _⟩ => ⟨S4x2304x1024, .f32⟩
  | .hbm, ⟨27, _⟩ => ⟨S4x2304x1024, .f32⟩
  | .hbm, ⟨28, _⟩ => ⟨S4x2304x1024, .f32⟩
  | .hbm, ⟨29, _⟩ => ⟨S4x2304x1024, .f32⟩
  | .hbm, ⟨30, _⟩ => ⟨S_, .f32⟩
  | .hbm, ⟨31, _⟩ => ⟨S4x2304x1024, .f32⟩
  | .hbm, ⟨32, _⟩ => ⟨S4x2304x1024, .f32⟩
  | .hbm, ⟨33, _⟩ => ⟨S_, .f32⟩
  | .hbm, ⟨34, _⟩ => ⟨S4x2304x1024, .f32⟩
  | .hbm, ⟨35, _⟩ => ⟨S4x2304x1024, .f32⟩
  | .hbm, ⟨36, _⟩ => ⟨S_, .f32⟩
  | .hbm, ⟨37, _⟩ => ⟨S4x2304x1024, .f32⟩
  | .hbm, ⟨38, _⟩ => ⟨S4x2304x1024, .f32⟩
  | .hbm, ⟨39, _⟩ => ⟨S4x2304x1024, .f32⟩
  | .hbm, ⟨40, _⟩ => ⟨S4x2304x1024, .f32⟩
  | .hbm, ⟨41, _⟩ => ⟨S4x2304x1024, .f32⟩
  | .hbm, ⟨42, _⟩ => ⟨S4x2304x1024, .f32⟩
  | .hbm, ⟨43, _⟩ => ⟨S_, .f32⟩
  | .hbm, ⟨44, _⟩ => ⟨S4x2304x1024, .f32⟩
  | .hbm, ⟨45, _⟩ => ⟨S4x2304x1024, .f32⟩
  | .hbm, ⟨46, _⟩ => ⟨S_, .f32⟩
  | .hbm, ⟨47, _⟩ => ⟨S4x2304x1024, .f32⟩
  | .hbm, ⟨48, _⟩ => ⟨S4x2304x1024, .f32⟩
  | .hbm, ⟨49, _⟩ => ⟨S_, .f32⟩
  | .hbm, ⟨50, _⟩ => ⟨S4x2304x1024, .f32⟩
  | .hbm, ⟨51, _⟩ => ⟨S4x2304x1024, .f32⟩
  | .hbm, ⟨52, _⟩ => ⟨S4x2304x1024, .f32⟩
  | .hbm, ⟨53, _⟩ => ⟨S4x2304x1024, .f32⟩
  | .hbm, ⟨54, _⟩ => ⟨S4x2304x1024, .f32⟩
  | .hbm, ⟨55, _⟩ => ⟨S4x2304x1024, .f32⟩
  | .hbm, ⟨56, _⟩ => ⟨S4x2304x1024, .f32⟩
  | .hbm, ⟨57, _⟩ => ⟨S_, .f32⟩
  | .hbm, ⟨58, _⟩ => ⟨S4x2304x1024, .f32⟩
  | .hbm, ⟨59, _⟩ => ⟨S4x2304x1024, .f32⟩
  | .hbm, ⟨60, _⟩ => ⟨S_, .f32⟩
  | .hbm, ⟨61, _⟩ => ⟨S4x2304x1024, .f32⟩
  | .hbm, ⟨62, _⟩ => ⟨S4x2304x1024, .f32⟩
  | .hbm, ⟨63, _⟩ => ⟨S_, .f32⟩
  | .hbm, ⟨64, _⟩ => ⟨S4x2304x1024, .f32⟩
  | .hbm, ⟨65, _⟩ => ⟨S4x2304x1024, .f32⟩
  | .hbm, ⟨66, _⟩ => ⟨S4x2304x1024, .f32⟩
  | .hbm, ⟨67, _⟩ => ⟨S4x2304x1024, .f32⟩
  | .hbm, ⟨68, _⟩ => ⟨S4x2304x1024, .f32⟩
  | .hbm, ⟨69, _⟩ => ⟨S4x2304x1024, .f32⟩
  | .hbm, ⟨70, _⟩ => ⟨S4x1024, .f32⟩
  | .hbm, ⟨71, _⟩ => ⟨S4x1x1024, .f32⟩
  | .hbm, ⟨72, _⟩ => ⟨S4x256x1024, .f32⟩
  | .hbm, ⟨73, _⟩ => ⟨S4x1x1024, .f32⟩
  | .hbm, ⟨74, _⟩ => ⟨S4x2048x1024, .f32⟩
  | .hbm, ⟨75, _⟩ => ⟨S4x2304x1024, .f32⟩
  | .hbm, ⟨76, _⟩ => ⟨S4x2304x1024, .f32⟩
  | .hbm, ⟨77, _⟩ => ⟨S4x2304x1024, .f32⟩
  | .hbm, ⟨78, _⟩ => ⟨S4x2304x1024, .f32⟩
  | .hbm, ⟨79, _⟩ => ⟨S4x256x1024, .f32⟩
  | .hbm, ⟨80, _⟩ => ⟨S4x2048x1024, .f32⟩
  | .hbm, ⟨81, _⟩ => ⟨S_, .f32⟩
  | .hbm, ⟨82, _⟩ => ⟨S4x1024, .f32⟩
  | .hbm, ⟨83, _⟩ => ⟨S4x1x1024, .f32⟩
  | .hbm, ⟨84, _⟩ => ⟨S_, .f32⟩
  | .hbm, ⟨85, _⟩ => ⟨S4x1024, .f32⟩
  | .hbm, ⟨86, _⟩ => ⟨S_, .f32⟩
  | .hbm, ⟨87, _⟩ => ⟨S4x1024, .f32⟩
  | .hbm, ⟨88, _⟩ => ⟨S4x1x1024, .f32⟩
  | .hbm, ⟨89, _⟩ => ⟨S_, .f32⟩
  | .hbm, ⟨90, _⟩ => ⟨S4x1024, .f32⟩
  | .hbm, ⟨91, _⟩ => ⟨S_, .f32⟩
  | .hbm, ⟨92, _⟩ => ⟨S1024, .f32⟩
  | .hbm, ⟨93, _⟩ => ⟨S4x2304x1024, .f32⟩
  | .hbm, ⟨94, _⟩ => ⟨S4x2304x1024, .f32⟩
  | .hbm, ⟨95, _⟩ => ⟨S4x2304x1024, .f32⟩
  | .hbm, ⟨96, _⟩ => ⟨S4x2304x1024, .f32⟩
  | .hbm, ⟨97, _⟩ => ⟨S4x2304x1024, .f32⟩
  | .hbm, ⟨98, _⟩ => ⟨S4x2304x1024, .f32⟩
  | .hbm, ⟨99, _⟩ => ⟨S4x2304x1024, .f32⟩
  | .hbm, ⟨100, _⟩ => ⟨S4x2304x1024, .f32⟩
  | .hbm, ⟨101, _⟩ => ⟨S4x2304x1024, .f32⟩
  | .hbm, ⟨102, _⟩ => ⟨S4x2304x1024, .f32⟩
  | .hbm, ⟨103, _⟩ => ⟨S4x2304x384, .f32⟩
  | .hbm, ⟨104, _⟩ => ⟨S4x2304x256, .f32⟩
  | .hbm, ⟨105, _⟩ => ⟨S4x2304x384, .f32⟩
  | .hbm, ⟨106, _⟩ => ⟨S1x1024, .f32⟩
  | .hbm, ⟨107, _⟩ => ⟨S_, .f32⟩
  | .hbm, ⟨108, _⟩ => ⟨S3x1024, .f32⟩
  | .hbm, ⟨109, _⟩ => ⟨S8x1024, .f32⟩
  | .hbm, ⟨110, _⟩ => ⟨S4x2304x384, .bf16⟩
  | .hbm, ⟨111, _⟩ => ⟨S4x2304x256, .bf16⟩
  | .hbm, ⟨112, _⟩ => ⟨S4x2304x384, .bf16⟩
  | .hbm, ⟨113, _⟩ => ⟨S4x2304x1024, .bf16⟩
  | .hbm, ⟨114, _⟩ => ⟨S4x2304x1024, .bf16⟩
  | .hbm, ⟨115, _⟩ => ⟨S4x2304x1024, .bf16⟩
  | .hbm, ⟨116, _⟩ => ⟨S4x2304x1024, .bf16⟩
  | .hbm, ⟨117, _⟩ => ⟨S4x2304x1024, .bf16⟩
  | .hbm, ⟨118, _⟩ => ⟨S4x2304x3072, .f32⟩
  | .hbm, ⟨119, _⟩ => ⟨S4x2304x3072, .bf16⟩
  | _, _ => ⟨S4x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_cst_0 : Ref sig .tc := ⟨.hbm, 33, rfl⟩
abbrev main_v22 : Ref sig .tc := ⟨.hbm, 34, rfl⟩
abbrev main_v23 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_5 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_8 : Ref sig .tc := ⟨.hbm, 81, rfl⟩
abbrev main_v62 : Ref sig .tc := ⟨.hbm, 82, rfl⟩
abbrev main_v63 : Ref sig .tc := ⟨.hbm, 83, rfl⟩
abbrev main_cst_9 : Ref sig .tc := ⟨.hbm, 84, rfl⟩
abbrev main_v64 : Ref sig .tc := ⟨.hbm, 85, rfl⟩
abbrev main_cst_10 : Ref sig .tc := ⟨.hbm, 86, rfl⟩
abbrev main_v65 : Ref sig .tc := ⟨.hbm, 87, rfl⟩
abbrev main_v66 : Ref sig .tc := ⟨.hbm, 88, rfl⟩
abbrev main_cst_11 : Ref sig .tc := ⟨.hbm, 89, rfl⟩
abbrev main_v67 : Ref sig .tc := ⟨.hbm, 90, rfl⟩
abbrev main_cst_12 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_13 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩

abbrev nD : Nat := 1
abbrev τ : Topo := Topo.v7x

variable {F : FTy → Type} [FloatOps F]
-- ==== Kernel2.lean ====
abbrev S4x2304x1024 : Shape := ⟨3, ![4, 2304, 1024]⟩
abbrev S2x1024 : Shape := ⟨2, ![2, 1024]⟩
abbrev S8x6144 : Shape := ⟨2, ![8, 6144]⟩
abbrev S8x1024x512 : Shape := ⟨3, ![8, 1024, 512]⟩
abbrev S4096x1024 : Shape := ⟨2, ![4096, 1024]⟩
abbrev S4x3072 : Shape := ⟨2, ![4, 3072]⟩
abbrev S4x1x3072 : Shape := ⟨3, ![4, 1, 3072]⟩
abbrev S4x1x1024 : Shape := ⟨3, ![4, 1, 1024]⟩
abbrev S4x2048x1024 : Shape := ⟨3, ![4, 2048, 1024]⟩
abbrev S1x1024 : Shape := ⟨2, ![1, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S1x1024x512 : Shape := ⟨3, ![1, 1024, 512]⟩
abbrev S1024x512 : Shape := ⟨2, ![1024, 512]⟩
abbrev S1024x4096 : Shape := ⟨2, ![1024, 4096]⟩
abbrev S4x2048x4096 : Shape := ⟨3, ![4, 2048, 4096]⟩
abbrev S4x256x1024 : Shape := ⟨3, ![4, 256, 1024]⟩
abbrev S4x256x4096 : Shape := ⟨3, ![4, 256, 4096]⟩
abbrev S4x2304x4096 : Shape := ⟨3, ![4, 2304, 4096]⟩
abbrev S2x1x1024 : Shape := ⟨3, ![2, 1, 1024]⟩
abbrev S8x3072 : Shape := ⟨2, ![8, 3072]⟩
abbrev S8x1024 : Shape := ⟨2, ![8, 1024]⟩
abbrev S1x256x1024 : Shape := ⟨3, ![1, 256, 1024]⟩
abbrev S1x256x4096 : Shape := ⟨3, ![1, 256, 4096]⟩
abbrev S256x1024 : Shape := ⟨2, ![256, 1024]⟩
abbrev S256 : Shape := ⟨1, ![256]⟩
abbrev S256x1 : Shape := ⟨2, ![256, 1]⟩
abbrev S256x4096 : Shape := ⟨2, ![256, 4096]⟩
abbrev S256x512 : Shape := ⟨2, ![256, 512]⟩
abbrev S1x3072 : Shape := ⟨2, ![1, 3072]⟩

abbrev nBuf : Space → Nat
  | .hbm => 77
  | .vmem => 22
  | .smem => 0
  | _ => 0

abbrev bufTy : (tb : Table) → Fin (tcTables nBuf tb) → BufTy
  | .hbm, ⟨0, _⟩ => ⟨S4x2304x1024, .f32⟩
  | .hbm, ⟨1, _⟩ => ⟨S4x2304x1024, .f32⟩
  | .hbm, ⟨2, _⟩ => ⟨S2x1024, .f32⟩
  | .hbm, ⟨3, _⟩ => ⟨S8x6144, .f32⟩
  | .hbm, ⟨4, _⟩ => ⟨S8x1024x512, .bf16⟩
  | .hbm, ⟨5, _⟩ => ⟨S4096x1024, .bf16⟩
  | .hbm, ⟨6, _⟩ => ⟨S4x3072, .f32⟩
  | .hbm, ⟨7, _⟩ => ⟨S4x1x3072, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x2048x1024, .f32⟩
  | .hbm, ⟨12, _⟩ => ⟨S1x1024, .f32⟩
  | .hbm, ⟨13, _⟩ => ⟨S1024, .f32⟩
  | .hbm, ⟨14, _⟩ => ⟨S4x2048x1024, .f32⟩
  | .hbm, ⟨15, _⟩ => ⟨S_, .f32⟩
  | .hbm, ⟨16, _⟩ => ⟨S4x2048, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S4x2048x1, .f32⟩
  | .hbm, ⟨25, _⟩ => ⟨S4x2048x1024, .f32⟩
  | .hbm, ⟨26, _⟩ => ⟨S4x2048x1024, .f32⟩
  | .hbm, ⟨27, _⟩ => ⟨S1x1x1024, .f32⟩
  | .hbm, ⟨28, _⟩ => ⟨S4x2048x1024, .f32⟩
  | .hbm, ⟨29, _⟩ => ⟨S4x2048x1024, .f32⟩
  | .hbm, ⟨30, _⟩ => ⟨S_, .f32⟩
  | .hbm, ⟨31, _⟩ => ⟨S4x1x1024, .f32⟩
  | .hbm, ⟨32, _⟩ => ⟨S4x1x1024, .f32⟩
  | .hbm, ⟨33, _⟩ => ⟨S4x2048x1024, .f32⟩
  | .hbm, ⟨34, _⟩ => ⟨S4x2048x1024, .f32⟩
  | .hbm, ⟨35, _⟩ => ⟨S4x2048x1024, .f32⟩
  | .hbm, ⟨36, _⟩ => ⟨S4x2048x1024, .f32⟩
  | .hbm, ⟨37, _⟩ => ⟨S8x1024x512, .f32⟩
  | .hbm, ⟨38, _⟩ => ⟨S1x1024x512, .f32⟩
  | .hbm, ⟨39, _⟩ => ⟨S1024x512, .f32⟩
  | .hbm, ⟨40, _⟩ => ⟨S1x1024x512, .f32⟩
  | .hbm, ⟨41, _⟩ => ⟨S1024x512, .f32⟩
  | .hbm, ⟨42, _⟩ => ⟨S1x1024x512, .f32⟩
  | .hbm, ⟨43, _⟩ => ⟨S1024x512, .f32⟩
  | .hbm, ⟨44, _⟩ => ⟨S1x1024x512, .f32⟩
  | .hbm, ⟨45, _⟩ => ⟨S1024x512, .f32⟩
  | .hbm, ⟨46, _⟩ => ⟨S1x1024x512, .f32⟩
  | .hbm, ⟨47, _⟩ => ⟨S1024x512, .f32⟩
  | .hbm, ⟨48, _⟩ => ⟨S1x1024x512, .f32⟩
  | .hbm, ⟨49, _⟩ => ⟨S1024x512, .f32⟩
  | .hbm, ⟨50, _⟩ => ⟨S1x1024x512, .f32⟩
  | .hbm, ⟨51, _⟩ => ⟨S1024x512, .f32⟩
  | .hbm, ⟨52, _⟩ => ⟨S1x1024x512, .f32⟩
  | .hbm, ⟨53, _⟩ => ⟨S1024x512, .f32⟩
  | .hbm, ⟨54, _⟩ => ⟨S1024x4096, .f32⟩
  | .hbm, ⟨55, _⟩ => ⟨S4x2048x4096, .f32⟩
  | .hbm, ⟨56, _⟩ => ⟨S_, .f32⟩
  | .hbm, ⟨57, _⟩ => ⟨S4x2048x4096, .f32⟩
  | .hbm, ⟨58, _⟩ => ⟨S4x2048x4096, .f32⟩
  | .hbm, ⟨59, _⟩ => ⟨S4x2048x4096, .f32⟩
  | .hbm, ⟨60, _⟩ => ⟨S4096x1024, .f32⟩
  | .hbm, ⟨61, _⟩ => ⟨S4x2048x1024, .f32⟩
  | .hbm, ⟨62, _⟩ => ⟨S4x2048x1024, .bf16⟩
  | .hbm, ⟨63, _⟩ => ⟨S_, .bf16⟩
  | .hbm, ⟨64, _⟩ => ⟨S4x256x1024, .bf16⟩
  | .hbm, ⟨65, _⟩ => ⟨S4x2304x1024, .bf16⟩
  | .hbm, ⟨66, _⟩ => ⟨S4x2048x4096, .bf16⟩
  | .hbm, ⟨67, _⟩ => ⟨S_, .bf16⟩
  | .hbm, ⟨68, _⟩ => ⟨S4x256x4096, .bf16⟩
  | .hbm, ⟨69, _⟩ => ⟨S4x2304x4096, .bf16⟩
  | .hbm, ⟨70, _⟩ => ⟨S2x1x1024, .f32⟩
  | .hbm, ⟨71, _⟩ => ⟨S4x2304x1024, .f32⟩
  | .hbm, ⟨72, _⟩ => ⟨S4x2304x1024, .bf16⟩
  | .hbm, ⟨73, _⟩ => ⟨S4x2304x4096, .bf16⟩
  | .hbm, ⟨74, _⟩ => ⟨S4x2304x1024, .bf16⟩
  | .hbm, ⟨75, _⟩ => ⟨S8x3072, .f32⟩
  | .hbm, ⟨76, _⟩ => ⟨S8x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .bf16⟩
  | .local _ .vmem, ⟨5, _⟩ => ⟨S1x256x1024, .bf16⟩
  | .local _ .vmem, ⟨6, _⟩ => ⟨S1x256x4096, .bf16⟩
  | .local _ .vmem, ⟨7, _⟩ => ⟨S1x256x4096, .bf16⟩
  | .local _ .vmem, ⟨8, _⟩ => ⟨S1x1x1024, .f32⟩
  | .local _ .vmem, ⟨9, _⟩ => ⟨S8x6144, .f32⟩
  | .local _ .vmem, ⟨10, _⟩ => ⟨S8x1024x512, .bf16⟩
  | .local _ .vmem, ⟨11, _⟩ => ⟨S4096x1024, .bf16⟩
  | .local _ .vmem, ⟨12, _⟩ => ⟨S1x256x1024, .f32⟩
  | .local _ .vmem, ⟨13, _⟩ => ⟨S1x256x1024, .f32⟩
  | .local _ .vmem, ⟨14, _⟩ => ⟨S1x256x1024, .bf16⟩
  | .local _ .vmem, ⟨15, _⟩ => ⟨S1x256x1024, .bf16⟩
  | .local _ .vmem, ⟨16, _⟩ => ⟨S1x256x4096, .bf16⟩
  | .local _ .vmem, ⟨17, _⟩ => ⟨S1x256x4096, .bf16⟩
  | .local _ .vmem, ⟨18, _⟩ => ⟨S1x256x1024, .bf16⟩
  | .local _ .vmem, ⟨19, _⟩ => ⟨S1x256x1024, .bf16⟩
  | .local _ .vmem, ⟨20, _⟩ => ⟨S8x3072, .f32⟩
  | .local _ .vmem, ⟨21, _⟩ => ⟨S8x1024, .f32⟩
  | _, _ => ⟨S4x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_call0_cst : Ref sig .tc := ⟨.hbm, 56, rfl⟩
abbrev main_call0_v0 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_3 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_4 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57_0 : Ref sig .tc := ⟨.hbm, 71, rfl⟩
abbrev main_v57_1 : Ref sig .tc := ⟨.hbm, 72, rfl⟩
abbrev main_v57_2 : Ref sig .tc := ⟨.hbm, 73, rfl⟩
abbrev main_v57_3 : Ref sig .tc := ⟨.hbm, 74, rfl⟩
abbrev main_v57_4 : Ref sig .tc := ⟨.hbm, 75, rfl⟩
abbrev main_v57_5 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨2, ![4, 9], ![false, false]⟩

def k0_cond2 (i : grid0.Coords) : BitVec 1 :=
  let arg1 : BitVec 32 := BitVec.ofNat 32 (i 1).val
  let c1_i32 : BitVec 32 := 1#32
  let v5 : BitVec 1 := Scalar.cmpi .sge arg1 c1_i32
  let v6 : BitVec 32 := Scalar.extui v5
  let c0_i32_2 : BitVec 32 := 0#32
  let v7 : BitVec 1 := Scalar.cmpi .ne v6 c0_i32_2
  v7

def k0_off1 (i : grid0.Coords) : Fin 2 → Nat :=
  let arg1 : BitVec 32 := BitVec.ofNat 32 (i 1).val
  let c1_i32_5 : BitVec 32 := 1#32
  let v11 : BitVec 1 := Scalar.cmpi .slt arg1 c1_i32_5
  let c4_i32 : BitVec 32 := 4#32
  let arg0 : BitVec 32 := BitVec.ofNat 32 (i 0).val
  let v12 : BitVec 32 := Scalar.select v11 c4_i32 arg0
  let v15 : Index := Scalar.indexCast v12
  let c4096 : Index := 4096#32
  ![v15.toNat, 4096]
def k0_off2 (i : grid0.Coords) : Fin 2 → Nat :=
  let arg1 : BitVec 32 := BitVec.ofNat 32 (i 1).val
  let c1_i32_5 : BitVec 32 := 1#32
  let v11 : BitVec 1 := Scalar.cmpi .slt arg1 c1_i32_5
  let c4_i32 : BitVec 32 := 4#32
  let arg0 : BitVec 32 := BitVec.ofNat 32 (i 0).val
  let v12 : BitVec 32 := Scalar.select v11 c4_i32 arg0
  let v19 : Index := Scalar.indexCast v12
  let c3072 : Index := 3072#32
  ![v19.toNat, 3072]
def k0_off3 (i : grid0.Coords) : Fin 2 → Nat :=
  let arg1 : BitVec 32 := BitVec.ofNat 32 (i 1).val
  let c1_i32_5 : BitVec 32 := 1#32
  let v11 : BitVec 1 := Scalar.cmpi .slt arg1 c1_i32_5
  let c4_i32 : BitVec 32 := 4#32
  let arg0 : BitVec 32 := BitVec.ofNat 32 (i 0).val
  let v12 : BitVec 32 := Scalar.select v11 c4_i32 arg0
  let v42 : Index := Scalar.indexCast v12
  let c5120 : Index := 5120#32
  ![v42.toNat, 5120]
def k0_off4 (i : grid0.Coords) : Fin 2 → Nat :=
  let arg1 : BitVec 32 := BitVec.ofNat 32 (i 1).val
  let c1_i32_5 : BitVec 32 := 1#32
  let v11 : BitVec 1 := Scalar.cmpi .slt arg1 c1_i32_5
  let c4_i32 : BitVec 32 := 4#32
  let arg0 : BitVec 32 := BitVec.ofNat 32 (i 0).val
  let v12 : BitVec 32 := Scalar.select v11 c4_i32 arg0
  let v141 : Index := Scalar.indexCast v12
  let c0_71 : Index := 0#32
  ![v141.toNat, 0]
def k0_cond3 (i : grid0.Coords) : BitVec 1 :=
  let arg1 : BitVec 32 := BitVec.ofNat 32 (i 1).val
  let c1_i32_3 : BitVec 32 := 1#32
  let v8 : BitVec 1 := Scalar.cmpi .slt arg1 c1_i32_3
  let v9 : BitVec 32 := Scalar.extui v8
  let c0_i32_4 : BitVec 32 := 0#32
  let v10 : BitVec 1 := Scalar.cmpi .ne v9 c0_i32_4
  v10

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S8x3072 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== Reference2Ideal.lean ====
abbrev S4x2304x1024 : Shape := ⟨3, ![4, 2304, 1024]⟩
abbrev S2x1024 : Shape := ⟨2, ![2, 1024]⟩
abbrev S8x6144 : Shape := ⟨2, ![8, 6144]⟩
abbrev S8x1024x512 : Shape := ⟨3, ![8, 1024, 512]⟩
abbrev S4096x1024 : Shape := ⟨2, ![4096, 1024]⟩
abbrev S4x3072 : Shape := ⟨2, ![4, 3072]⟩
abbrev S4x1x3072 : Shape := ⟨3, ![4, 1, 3072]⟩
abbrev S4x1x1024 : Shape := ⟨3, ![4, 1, 1024]⟩
abbrev S1x1024x512 : Shape := ⟨3, ![1, 1024, 512]⟩
abbrev S1024x512 : Shape := ⟨2, ![1024, 512]⟩
abbrev S1024x4096 : Shape := ⟨2, ![1024, 4096]⟩
abbrev S4x2048x1024 : Shape := ⟨3, ![4, 2048, 1024]⟩
abbrev S1x1024 : Shape := ⟨2, ![1, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x4096 : Shape := ⟨3, ![4, 2048, 4096]⟩
abbrev S4x1024 : Shape := ⟨2, ![4, 1024]⟩
abbrev S4x256x1024 : Shape := ⟨3, ![4, 256, 1024]⟩
abbrev S8x3072 : Shape := ⟨2, ![8, 3072]⟩
abbrev S4x256x4096 : Shape := ⟨3, ![4, 256, 4096]⟩
abbrev S4x2304x4096 : Shape := ⟨3, ![4, 2304, 4096]⟩
abbrev S7x1024 : Shape := ⟨2, ![7, 1024]⟩
abbrev S8x1024 : Shape := ⟨2, ![8, 1024]⟩

abbrev nBuf : Space → Nat
  | .hbm => 147
  | .vmem => 0
  | .smem => 0
  | _ => 0

abbrev hbmTy0_0 (i : Nat) : BufTy := match i % 128 with
  | 0 => ⟨S4x2304x1024, .f32⟩
  | 1 => ⟨S4x2304x1024, .f32⟩
  | 2 => ⟨S2x1024, .f32⟩
  | 3 => ⟨S8x6144, .f32⟩
  | 4 => ⟨S8x1024x512, .bf16⟩
  | 5 => ⟨S4096x1024, .bf16⟩
  | 6 => ⟨S4x3072, .f32⟩
  | 7 => ⟨S4x1x3072, .f32⟩
  | 8 => ⟨S4x1x1024, .f32⟩
  | 9 => ⟨S4x1x1024, .f32⟩
  | 10 => ⟨S4x1x1024, .f32⟩
  | 11 => ⟨S8x1024x512, .f32⟩
  | 12 => ⟨S1x1024x512, .f32⟩
  | 13 => ⟨S1024x512, .f32⟩
  | 14 => ⟨S1x1024x512, .f32⟩
  | 15 => ⟨S1024x512, .f32⟩
  | 16 => ⟨S1x1024x512, .f32⟩
  | 17 => ⟨S1024x512, .f32⟩
  | 18 => ⟨S1x1024x512, .f32⟩
  | 19 => ⟨S1024x512, .f32⟩
  | 20 => ⟨S1x1024x512, .f32⟩
  | 21 => ⟨S1024x512, .f32⟩
  | 22 => ⟨S1x1024x512, .f32⟩
  | 23 => ⟨S1024x512, .f32⟩
  | 24 => ⟨S1x1024x512, .f32⟩
  | 25 => ⟨S1024x512, .f32⟩
  | 26 => ⟨S1x1024x512, .f32⟩
  | 27 => ⟨S1024x512, .f32⟩
  | 28 => ⟨S1024x4096, .f32⟩
  | 29 => ⟨S4096x1024, .f32⟩
  | 30 => ⟨S4x2048x1024, .f32⟩
  | 31 => ⟨S4x2048x1024, .f32⟩
  | 32 => ⟨S1x1024, .f32⟩
  | 33 => ⟨S1024, .f32⟩
  | 34 => ⟨S4x2048x1024, .f32⟩
  | 35 => ⟨S_, .f32⟩
  | 36 => ⟨S4x2048, .f32⟩
  | 37 => ⟨S4x2048x1, .f32⟩
  | 38 => ⟨S_, .f32⟩
  | 39 => ⟨S4x2048x1, .f32⟩
  | 40 => ⟨S4x2048x1, .f32⟩
  | 41 => ⟨S_, .f32⟩
  | 42 => ⟨S4x2048x1, .f32⟩
  | 43 => ⟨S4x2048x1, .f32⟩
  | 44 => ⟨S4x2048x1, .f32⟩
  | 45 => ⟨S4x2048x1, .f32⟩
  | 46 => ⟨S_, .f32⟩
  | 47 => ⟨S4x2048x1, .f32⟩
  | 48 => ⟨S4x2048x1, .f32⟩
  | 49 => ⟨S4x2048x1024, .f32⟩
  | 50 => ⟨S4x2048x1024, .f32⟩
  | 51 => ⟨S1x1x1024, .f32⟩
  | 52 => ⟨S4x2048x1024, .f32⟩
  | 53 => ⟨S4x2048x1024, .f32⟩
  | 54 => ⟨S_, .f32⟩
  | 55 => ⟨S4x1x1024, .f32⟩
  | 56 => ⟨S4x1x1024, .f32⟩
  | 57 => ⟨S4x2048x1024, .f32⟩
  | 58 => ⟨S4x2048x1024, .f32⟩
  | 59 => ⟨S4x2048x1024, .f32⟩
  | 60 => ⟨S4x2048x1024, .f32⟩
  | 61 => ⟨S4x2048x4096, .f32⟩
  | 62 => ⟨S_, .f32⟩
  | 63 => ⟨S4x2048x4096, .f32⟩
  | 64 => ⟨S4x2048x4096, .f32⟩
  | 65 => ⟨S_, .f32⟩
  | 66 => ⟨S4x2048x4096, .f32⟩
  | 67 => ⟨S4x2048x4096, .i1⟩
  | 68 => ⟨S_, .f32⟩
  | 69 => ⟨S4x2048x4096, .f32⟩
  | 70 => ⟨S4x2048x4096, .f32⟩
  | 71 => ⟨S_, .f32⟩
  | 72 => ⟨S4x2048x4096, .f32⟩
  | 73 => ⟨S4x2048x4096, .f32⟩
  | 74 => ⟨S4x2048x1024, .f32⟩
  | 75 => ⟨S4x2048x1024, .f32⟩
  | 76 => ⟨S4x2048x1024, .f32⟩
  | 77 => ⟨S4x2048x1024, .f32⟩
  | 78 => ⟨S4x2048x1024, .f32⟩
  | 79 => ⟨S4x2048x1024, .f32⟩
  | 80 => ⟨S_, .f32⟩
  | 81 => ⟨S4x1024, .f32⟩
  | 82 => ⟨S4x1x1024, .f32⟩
  | 83 => ⟨S4x2048x4096, .f32⟩
  | 84 => ⟨S4x2048x4096, .f32⟩
  | 85 => ⟨S_, .f32⟩
  | 86 => ⟨S4x2048x4096, .f32⟩
  | 87 => ⟨S4x2048x4096, .f32⟩
  | 88 => ⟨S4x2048x1024, .f32⟩
  | 89 => ⟨S_, .f32⟩
  | 90 => ⟨S4x1024, .f32⟩
  | 91 => ⟨S4x1x1024, .f32⟩
  | 92 => ⟨S4x2048x1024, .f32⟩
  | 93 => ⟨S_, .f32⟩
  | 94 => ⟨S4x1024, .f32⟩
  | 95 => ⟨S4x1x1024, .f32⟩
  | 96 => ⟨S4x2048x1024, .f32⟩
  | 97 => ⟨S4x2048x1024, .f32⟩
  | 98 => ⟨S4x2048x1024, .f32⟩
  | 99 => ⟨S_, .f32⟩
  | 100 => ⟨S1024, .f32⟩
  | 101 => ⟨S1x1x1024, .f32⟩
  | 102 => ⟨S4x2048x1024, .f32⟩
  | 103 => ⟨S4x2048x1024, .f32⟩
  | 104 => ⟨S_, .f32⟩
  | 105 => ⟨S1024, .f32⟩
  | 106 => ⟨S4x2048x1024, .f32⟩
  | 107 => ⟨S_, .f32⟩
  | 108 => ⟨S4x2048, .f32⟩
  | 109 => ⟨S4x2048x1, .f32⟩
  | 110 => ⟨S4x2048x1024, .f32⟩
  | 111 => ⟨S4x2048x1024, .f32⟩
  | 112 => ⟨S4x2048x1, .f32⟩
  | 113 => ⟨S_, .f32⟩
  | 114 => ⟨S4x2048x1, .f32⟩
  | 115 => ⟨S4x2048x1, .f32⟩
  | 116 => ⟨S_, .f32⟩
  | 117 => ⟨S4x2048, .f32⟩
  | 118 => ⟨S4x2048x1024, .f32⟩
  | 119 => ⟨S4x2048x1024, .f32⟩
  | 120 => ⟨S4x2048x1024, .f32⟩
  | 121 => ⟨S4x2048x1024, .f32⟩
  | 122 => ⟨S4x2048x1024, .f32⟩
  | 123 => ⟨S4x256x1024, .f32⟩
  | 124 => ⟨S4x2048x1024, .f32⟩
  | 125 => ⟨S4x2304x1024, .f32⟩
  | 126 => ⟨S4x1x3072, .f32⟩
  | 127 => ⟨S4x3072, .f32⟩
  | _ => ⟨S4x2304x1024, .f32⟩

abbrev hbmTy0_1 (i : Nat) : BufTy := match i % 128 with
  | 0 => ⟨S_, .f32⟩
  | 1 => ⟨S4x3072, .f32⟩
  | 2 => ⟨S8x3072, .f32⟩
  | 3 => ⟨S_, .f32⟩
  | 4 => ⟨S4x256x1024, .f32⟩
  | 5 => ⟨S4x2304x1024, .f32⟩
  | 6 => ⟨S4x2304x1024, .bf16⟩
  | 7 => ⟨S_, .f32⟩
  | 8 => ⟨S4x256x4096, .f32⟩
  | 9 => ⟨S4x2304x4096, .f32⟩
  | 10 => ⟨S4x2304x4096, .bf16⟩
  | 11 => ⟨S_, .f32⟩
  | 12 => ⟨S4x256x1024, .f32⟩
  | 13 => ⟨S4x2304x1024, .f32⟩
  | 14 => ⟨S4x2304x1024, .bf16⟩
  | 15 => ⟨S1x1024, .f32⟩
  | 16 => ⟨S_, .f32⟩
  | 17 => ⟨S7x1024, .f32⟩
  | 18 => ⟨S8x1024, .f32⟩
  | _ => ⟨S4x2304x1024, .f32⟩

abbrev hbmTy (i : Nat) : BufTy := match i / 128 with
  | 0 => hbmTy0_0 i
  | 1 => hbmTy0_1 i
  | _ => ⟨S4x2304x1024, .f32⟩

abbrev bufTy : (tb : Table) → Fin (tcTables nBuf tb) → BufTy
  | .hbm, ⟨i, _⟩ => hbmTy i
  | _, _ => ⟨S4x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst : Ref sig .tc := ⟨.hbm, 35, rfl⟩
abbrev main_v29 : Ref sig .tc := ⟨.hbm, 36, rfl⟩
abbrev main_v30 : Ref sig .tc := ⟨.hbm, 37, rfl⟩
abbrev main_cst_0 : Ref sig .tc := ⟨.hbm, 38, rfl⟩
abbrev main_v31 : Ref sig .tc := ⟨.hbm, 39, rfl⟩
abbrev main_v32 : Ref sig .tc := ⟨.hbm, 40, rfl⟩
abbrev main_cst_1 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_2 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_3 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_call0_cst : Ref sig .tc := ⟨.hbm, 62, rfl⟩
abbrev main_call0_v0 : Ref sig .tc := ⟨.hbm, 63, rfl⟩
abbrev main_v51 : Ref sig .tc := ⟨.hbm, 64, rfl⟩
abbrev main_cst_4 : Ref sig .tc := ⟨.hbm, 65, rfl⟩
abbrev main_v52 : Ref sig .tc := ⟨.hbm, 66, rfl⟩
abbrev main_v53 : Ref sig .tc := ⟨.hbm, 67, rfl⟩
abbrev main_cst_5 : Ref sig .tc := ⟨.hbm, 68, rfl⟩
abbrev main_v54 : Ref sig .tc := ⟨.hbm, 69, rfl⟩
abbrev main_v55 : Ref sig .tc := ⟨.hbm, 70, rfl⟩
abbrev main_cst_6 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_7 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_8 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_9 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_10 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst_11 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_cst_12 : Ref sig .tc := ⟨.hbm, 104, rfl⟩
abbrev main_v83 : Ref sig .tc := ⟨.hbm, 105, rfl⟩
abbrev main_v84 : Ref sig .tc := ⟨.hbm, 106, rfl⟩
abbrev main_cst_13 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_cst_14 : Ref sig .tc := ⟨.hbm, 113, rfl⟩
abbrev main_v90 : Ref sig .tc := ⟨.hbm, 114, rfl⟩
abbrev main_v91 : Ref sig .tc := ⟨.hbm, 115, rfl⟩
abbrev main_cst_15 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_cst_16 : Ref sig .tc := ⟨.hbm, 128, rfl⟩
abbrev main_v103 : Ref sig .tc := ⟨.hbm, 129, rfl⟩
abbrev main_v104 : Ref sig .tc := ⟨.hbm, 130, rfl⟩
abbrev main_cst_17 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_cst_18 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_cst_19 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_cst_20 : Ref sig .tc := ⟨.hbm, 144, rfl⟩
abbrev main_v115 : Ref sig .tc := ⟨.hbm, 145, rfl⟩
abbrev main_v116 : Ref sig .tc := ⟨.hbm, 146, rfl⟩

abbrev nD : Nat := 1
abbrev τ : Topo := Topo.v7x

variable {F : FTy → Type} [FloatOps F]
-- ==== Kernel3.lean ====
abbrev S4x2304x1024 : Shape := ⟨3, ![4, 2304, 1024]⟩
abbrev S4x2304x4096 : Shape := ⟨3, ![4, 2304, 4096]⟩
abbrev S9216x1024 : Shape := ⟨2, ![9216, 1024]⟩
abbrev S9216x4096 : Shape := ⟨2, ![9216, 4096]⟩
abbrev S8x1024x512 : Shape := ⟨3, ![8, 1024, 512]⟩
abbrev S2304x1024 : Shape := ⟨2, ![2304, 1024]⟩
abbrev S2x1024x512 : Shape := ⟨3, ![2, 1024, 512]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S4x2304x1024, .bf16⟩
  | .hbm, ⟨1, _⟩ => ⟨S4x2304x4096, .bf16⟩
  | .hbm, ⟨2, _⟩ => ⟨S9216x1024, .bf16⟩
  | .hbm, ⟨3, _⟩ => ⟨S9216x4096, .bf16⟩
  | .hbm, ⟨4, _⟩ => ⟨S8x1024x512, .bf16⟩
  | .local _ .vmem, ⟨0, _⟩ => ⟨S2304x1024, .bf16⟩
  | .local _ .vmem, ⟨1, _⟩ => ⟨S2304x1024, .bf16⟩
  | .local _ .vmem, ⟨2, _⟩ => ⟨S2304x1024, .bf16⟩
  | .local _ .vmem, ⟨3, _⟩ => ⟨S2304x1024, .bf16⟩
  | .local _ .vmem, ⟨4, _⟩ => ⟨S2x1024x512, .bf16⟩
  | .local _ .vmem, ⟨5, _⟩ => ⟨S2x1024x512, .bf16⟩
  | .local _ .vmem, ⟨6, _⟩ => ⟨S1024x1024, .f32⟩
  | _, _ => ⟨S4x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4x2304x1024 : Shape := ⟨3, ![4, 2304, 1024]⟩
abbrev S4x2304x4096 : Shape := ⟨3, ![4, 2304, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S4x2304x1024, .bf16⟩
  | .hbm, ⟨1, _⟩ => ⟨S4x2304x4096, .bf16⟩
  | .hbm, ⟨2, _⟩ => ⟨S_, .f32⟩
  | .hbm, ⟨3, _⟩ => ⟨S1024x4096, .f32⟩
  | .hbm, ⟨4, _⟩ => ⟨S4x2304x1024, .f32⟩
  | .hbm, ⟨5, _⟩ => ⟨S4x2304x4096, .f32⟩
  | .hbm, ⟨6, _⟩ => ⟨S4x2304x4096, .f32⟩
  | .hbm, ⟨7, _⟩ => ⟨S4096x1024, .f32⟩
  | .hbm, ⟨8, _⟩ => ⟨S1024x4096, .f32⟩
  | .hbm, ⟨9, _⟩ => ⟨S1024x8x512, .f32⟩
  | .hbm, ⟨10, _⟩ => ⟨S8x1024x512, .f32⟩
  | .hbm, ⟨11, _⟩ => ⟨S8x1024x512, .bf16⟩
  | _, _ => ⟨S4x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S4x2304x4096 : Shape := ⟨3, ![4, 2304, 4096]⟩
abbrev S4x2304x1024 : Shape := ⟨3, ![4, 2304, 1024]⟩
abbrev S9216x4096 : Shape := ⟨2, ![9216, 4096]⟩
abbrev S9216x1024 : Shape := ⟨2, ![9216, 1024]⟩
abbrev S4096x1024 : Shape := ⟨2, ![4096, 1024]⟩
abbrev S2304x1024 : Shape := ⟨2, ![2304, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4x2304x4096, .bf16⟩
  | .hbm, ⟨1, _⟩ => ⟨S4x2304x1024, .bf16⟩
  | .hbm, ⟨2, _⟩ => ⟨S9216x4096, .bf16⟩
  | .hbm, ⟨3, _⟩ => ⟨S9216x1024, .bf16⟩
  | .hbm, ⟨4, _⟩ => ⟨S4096x1024, .bf16⟩
  | .local _ .vmem, ⟨0, _⟩ => ⟨S2304x1024, .bf16⟩
  | .local _ .vmem, ⟨1, _⟩ => ⟨S2304x1024, .bf16⟩
  | .local _ .vmem, ⟨2, _⟩ => ⟨S2304x1024, .bf16⟩
  | .local _ .vmem, ⟨3, _⟩ => ⟨S2304x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4x2304x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4x2304x4096 : Shape := ⟨3, ![4, 2304, 4096]⟩
abbrev S4x2304x1024 : Shape := ⟨3, ![4, 2304, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4x2304x4096, .bf16⟩
  | .hbm, ⟨1, _⟩ => ⟨S4x2304x1024, .bf16⟩
  | .hbm, ⟨2, _⟩ => ⟨S_, .f32⟩
  | .hbm, ⟨3, _⟩ => ⟨S4096x1024, .f32⟩
  | .hbm, ⟨4, _⟩ => ⟨S4x2304x4096, .f32⟩
  | .hbm, ⟨5, _⟩ => ⟨S4x2304x1024, .f32⟩
  | .hbm, ⟨6, _⟩ => ⟨S4x2304x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S4x2304x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4x2304x1024 : Shape := ⟨3, ![4, 2304, 1024]⟩
abbrev S9216x1024 : Shape := ⟨2, ![9216, 1024]⟩
abbrev S1024x1024 : Shape := ⟨2, ![1024, 1024]⟩
abbrev S2304x1024 : Shape := ⟨2, ![2304, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4x2304x1024, .bf16⟩
  | .hbm, ⟨1, _⟩ => ⟨S4x2304x1024, .bf16⟩
  | .hbm, ⟨2, _⟩ => ⟨S9216x1024, .bf16⟩
  | .hbm, ⟨3, _⟩ => ⟨S9216x1024, .bf16⟩
  | .hbm, ⟨4, _⟩ => ⟨S1024x1024, .bf16⟩
  | .local _ .vmem, ⟨0, _⟩ => ⟨S2304x1024, .bf16⟩
  | .local _ .vmem, ⟨1, _⟩ => ⟨S2304x1024, .bf16⟩
  | .local _ .vmem, ⟨2, _⟩ => ⟨S2304x1024, .bf16⟩
  | .local _ .vmem, ⟨3, _⟩ => ⟨S2304x1024, .bf16⟩
  | .local _ .vmem, ⟨4, _⟩ => ⟨S1024x1024, .bf16⟩
  | .local _ .vmem, ⟨5, _⟩ => ⟨S1024x1024, .f32⟩
  | _, _ => ⟨S4x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference5Ideal.lean ====
abbrev S4x2304x1024 : Shape := ⟨3, ![4, 2304, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4x2304x1024, .bf16⟩
  | .hbm, ⟨1, _⟩ => ⟨S4x2304x1024, .bf16⟩
  | .hbm, ⟨2, _⟩ => ⟨S_, .f32⟩
  | .hbm, ⟨3, _⟩ => ⟨S1024x1024, .f32⟩
  | .hbm, ⟨4, _⟩ => ⟨S4x2304x1024, .f32⟩
  | .hbm, ⟨5, _⟩ => ⟨S4x2304x1024, .f32⟩
  | .hbm, ⟨6, _⟩ => ⟨S4x2304x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4x2304x384 : Shape := ⟨3, ![4, 2304, 384]⟩
abbrev S4x2304x1024 : Shape := ⟨3, ![4, 2304, 1024]⟩
abbrev S9216x384 : Shape := ⟨2, ![9216, 384]⟩
abbrev S9216x1024 : Shape := ⟨2, ![9216, 1024]⟩
abbrev S8x384x128 : Shape := ⟨3, ![8, 384, 128]⟩
abbrev S2304x384 : Shape := ⟨2, ![2304, 384]⟩
abbrev S2304x1024 : Shape := ⟨2, ![2304, 1024]⟩
abbrev S384x1024 : Shape := ⟨2, ![384, 1024]⟩
abbrev S384x128 : Shape := ⟨2, ![384, 128]⟩
abbrev S1x384x128 : Shape := ⟨3, ![1, 384, 128]⟩

abbrev nBuf : Space → Nat
  | .hbm => 5
  | .vmem => 6
  | .smem => 0
  | _ => 0

abbrev bufTy : (tb : Table) → Fin (tcTables nBuf tb) → BufTy
  | .hbm, ⟨0, _⟩ => ⟨S4x2304x384, .bf16⟩
  | .hbm, ⟨1, _⟩ => ⟨S4x2304x1024, .bf16⟩
  | .hbm, ⟨2, _⟩ => ⟨S9216x384, .bf16⟩
  | .hbm, ⟨3, _⟩ => ⟨S9216x1024, .bf16⟩
  | .hbm, ⟨4, _⟩ => ⟨S8x384x128, .bf16⟩
  | .local _ .vmem, ⟨0, _⟩ => ⟨S2304x384, .bf16⟩
  | .local _ .vmem, ⟨1, _⟩ => ⟨S2304x384, .bf16⟩
  | .local _ .vmem, ⟨2, _⟩ => ⟨S2304x1024, .bf16⟩
  | .local _ .vmem, ⟨3, _⟩ => ⟨S2304x1024, .bf16⟩
  | .local _ .vmem, ⟨4, _⟩ => ⟨S8x384x128, .bf16⟩
  | .local _ .vmem, ⟨5, _⟩ => ⟨S384x1024, .f32⟩
  | _, _ => ⟨S4x2304x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2304x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x384x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S4x2304x384 : Shape := ⟨3, ![4, 2304, 384]⟩
abbrev S4x2304x1024 : Shape := ⟨3, ![4, 2304, 1024]⟩
abbrev S_ : Shape := ⟨0, ![]⟩
abbrev S384x1024 : Shape := ⟨2, ![384, 1024]⟩
abbrev S1024x384 : Shape := ⟨2, ![1024, 384]⟩
abbrev S384x8x128 : Shape := ⟨3, ![384, 8, 128]⟩
abbrev S8x384x128 : Shape := ⟨3, ![8, 384, 128]⟩

abbrev nBuf : Space → Nat
  | .hbm => 12
  | .vmem => 0
  | .smem => 0
  | _ => 0

abbrev bufTy : (tb : Table) → Fin (tcTables nBuf tb) → BufTy
  | .hbm, ⟨0, _⟩ => ⟨S4x2304x384, .bf16⟩
  | .hbm, ⟨1, _⟩ => ⟨S4x2304x1024, .bf16⟩
  | .hbm, ⟨2, _⟩ => ⟨S_, .f32⟩
  | .hbm, ⟨3, _⟩ => ⟨S384x1024, .f32⟩
  | .hbm, ⟨4, _⟩ => ⟨S4x2304x384, .f32⟩
  | .hbm, ⟨5, _⟩ => ⟨S4x2304x1024, .f32⟩
  | .hbm, ⟨6, _⟩ => ⟨S4x2304x1024, .f32⟩
  | .hbm, ⟨7, _⟩ => ⟨S1024x384, .f32⟩
  | .hbm, ⟨8, _⟩ => ⟨S384x1024, .f32⟩
  | .hbm, ⟨9, _⟩ => ⟨S384x8x128, .f32⟩
  | .hbm, ⟨10, _⟩ => ⟨S8x384x128, .f32⟩
  | .hbm, ⟨11, _⟩ => ⟨S8x384x128, .bf16⟩
  | _, _ => ⟨S4x2304x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S4x2304x256 : Shape := ⟨3, ![4, 2304, 256]⟩
abbrev S4x2304x1024 : Shape := ⟨3, ![4, 2304, 1024]⟩
abbrev S9216x256 : Shape := ⟨2, ![9216, 256]⟩
abbrev S9216x1024 : Shape := ⟨2, ![9216, 1024]⟩
abbrev S8x256x128 : Shape := ⟨3, ![8, 256, 128]⟩
abbrev S2304x256 : Shape := ⟨2, ![2304, 256]⟩
abbrev S2304x1024 : Shape := ⟨2, ![2304, 1024]⟩
abbrev S256x1024 : Shape := ⟨2, ![256, 1024]⟩
abbrev S256x128 : Shape := ⟨2, ![256, 128]⟩
abbrev S1x256x128 : Shape := ⟨3, ![1, 256, 128]⟩

abbrev nBuf : Space → Nat
  | .hbm => 5
  | .vmem => 6
  | .smem => 0
  | _ => 0

abbrev bufTy : (tb : Table) → Fin (tcTables nBuf tb) → BufTy
  | .hbm, ⟨0, _⟩ => ⟨S4x2304x256, .bf16⟩
  | .hbm, ⟨1, _⟩ => ⟨S4x2304x1024, .bf16⟩
  | .hbm, ⟨2, _⟩ => ⟨S9216x256, .bf16⟩
  | .hbm, ⟨3, _⟩ => ⟨S9216x1024, .bf16⟩
  | .hbm, ⟨4, _⟩ => ⟨S8x256x128, .bf16⟩
  | .local _ .vmem, ⟨0, _⟩ => ⟨S2304x256, .bf16⟩
  | .local _ .vmem, ⟨1, _⟩ => ⟨S2304x256, .bf16⟩
  | .local _ .vmem, ⟨2, _⟩ => ⟨S2304x1024, .bf16⟩
  | .local _ .vmem, ⟨3, _⟩ => ⟨S2304x1024, .bf16⟩
  | .local _ .vmem, ⟨4, _⟩ => ⟨S8x256x128, .bf16⟩
  | .local _ .vmem, ⟨5, _⟩ => ⟨S256x1024, .f32⟩
  | _, _ => ⟨S4x2304x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2304x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S4x2304x256 : Shape := ⟨3, ![4, 2304, 256]⟩
abbrev S4x2304x1024 : Shape := ⟨3, ![4, 2304, 1024]⟩
abbrev S_ : Shape := ⟨0, ![]⟩
abbrev S256x1024 : Shape := ⟨2, ![256, 1024]⟩
abbrev S1024x256 : Shape := ⟨2, ![1024, 256]⟩
abbrev S256x8x128 : Shape := ⟨3, ![256, 8, 128]⟩
abbrev S8x256x128 : Shape := ⟨3, ![8, 256, 128]⟩

abbrev nBuf : Space → Nat
  | .hbm => 12
  | .vmem => 0
  | .smem => 0
  | _ => 0

abbrev bufTy : (tb : Table) → Fin (tcTables nBuf tb) → BufTy
  | .hbm, ⟨0, _⟩ => ⟨S4x2304x256, .bf16⟩
  | .hbm, ⟨1, _⟩ => ⟨S4x2304x1024, .bf16⟩
  | .hbm, ⟨2, _⟩ => ⟨S_, .f32⟩
  | .hbm, ⟨3, _⟩ => ⟨S256x1024, .f32⟩
  | .hbm, ⟨4, _⟩ => ⟨S4x2304x256, .f32⟩
  | .hbm, ⟨5, _⟩ => ⟨S4x2304x1024, .f32⟩
  | .hbm, ⟨6, _⟩ => ⟨S4x2304x1024, .f32⟩
  | .hbm, ⟨7, _⟩ => ⟨S1024x256, .f32⟩
  | .hbm, ⟨8, _⟩ => ⟨S256x1024, .f32⟩
  | .hbm, ⟨9, _⟩ => ⟨S256x8x128, .f32⟩
  | .hbm, ⟨10, _⟩ => ⟨S8x256x128, .f32⟩
  | .hbm, ⟨11, _⟩ => ⟨S8x256x128, .bf16⟩
  | _, _ => ⟨S4x2304x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel8.lean ====
abbrev S4x2304x1280 : Shape := ⟨3, ![4, 2304, 1280]⟩
abbrev S4x2304x256 : Shape := ⟨3, ![4, 2304, 256]⟩
abbrev S4x2304x3072 : Shape := ⟨3, ![4, 2304, 3072]⟩
abbrev S1024x4608 : Shape := ⟨2, ![1024, 4608]⟩
abbrev S4x2304x1024 : Shape := ⟨3, ![4, 2304, 1024]⟩
abbrev S2x1024 : Shape := ⟨2, ![2, 1024]⟩
abbrev S8x6144 : Shape := ⟨2, ![8, 6144]⟩
abbrev S2x1x1024 : Shape := ⟨3, ![2, 1, 1024]⟩
abbrev S4x2048x1024 : Shape := ⟨3, ![4, 2048, 1024]⟩
abbrev S4x2304x4608 : Shape := ⟨3, ![4, 2304, 4608]⟩
abbrev S8x2048 : Shape := ⟨2, ![8, 2048]⟩
abbrev S8x1024 : Shape := ⟨2, ![8, 1024]⟩
abbrev S1x256x1280 : Shape := ⟨3, ![1, 256, 1280]⟩
abbrev S1x256x256 : Shape := ⟨3, ![1, 256, 256]⟩
abbrev S1x256x3072 : Shape := ⟨3, ![1, 256, 3072]⟩
abbrev S1x256x1024 : Shape := ⟨3, ![1, 256, 1024]⟩
abbrev S1x1x1024 : Shape := ⟨3, ![1, 1, 1024]⟩
abbrev S1x256x4608 : Shape := ⟨3, ![1, 256, 4608]⟩
abbrev S256x1280 : Shape := ⟨2, ![256, 1280]⟩
abbrev S256x256 : Shape := ⟨2, ![256, 256]⟩
abbrev S256x3072 : Shape := ⟨2, ![256, 3072]⟩
abbrev S256x4608 : Shape := ⟨2, ![256, 4608]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩
abbrev S1x2048 : Shape := ⟨2, ![1, 2048]⟩

abbrev nBuf : Space → Nat
  | .hbm => 13
  | .vmem => 19
  | .smem => 0
  | _ => 0

abbrev bufTy : (tb : Table) → Fin (tcTables nBuf tb) → BufTy
  | .hbm, ⟨0, _⟩ => ⟨S4x2304x1280, .bf16⟩
  | .hbm, ⟨1, _⟩ => ⟨S4x2304x256, .bf16⟩
  | .hbm, ⟨2, _⟩ => ⟨S4x2304x3072, .bf16⟩
  | .hbm, ⟨3, _⟩ => ⟨S1024x4608, .bf16⟩
  | .hbm, ⟨4, _⟩ => ⟨S4x2304x1024, .f32⟩
  | .hbm, ⟨5, _⟩ => ⟨S4x2304x1024, .f32⟩
  | .hbm, ⟨6, _⟩ => ⟨S2x1024, .f32⟩
  | .hbm, ⟨7, _⟩ => ⟨S8x6144, .f32⟩
  | .hbm, ⟨8, _⟩ => ⟨S2x1x1024, .f32⟩
  | .hbm, ⟨9, _⟩ => ⟨S4x2048x1024, .f32⟩
  | .hbm, ⟨10, _⟩ => ⟨S4x2304x4608, .bf16⟩
  | .hbm, ⟨11, _⟩ => ⟨S8x2048, .f32⟩
  | .hbm, ⟨12, _⟩ => ⟨S8x1024, .f32⟩
  | .local _ .vmem, ⟨0, _⟩ => ⟨S1x256x1280, .bf16⟩
  | .local _ .vmem, ⟨1, _⟩ => ⟨S1x256x1280, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x3072, .bf16⟩
  | .local _ .vmem, ⟨5, _⟩ => ⟨S1x256x3072, .bf16⟩
  | .local _ .vmem, ⟨6, _⟩ => ⟨S1024x4608, .bf16⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x1x1024, .f32⟩
  | .local _ .vmem, ⟨12, _⟩ => ⟨S8x6144, .f32⟩
  | .local _ .vmem, ⟨13, _⟩ => ⟨S1x256x1024, .f32⟩
  | .local _ .vmem, ⟨14, _⟩ => ⟨S1x256x1024, .f32⟩
  | .local _ .vmem, ⟨15, _⟩ => ⟨S1x256x4608, .bf16⟩
  | .local _ .vmem, ⟨16, _⟩ => ⟨S1x256x4608, .bf16⟩
  | .local _ .vmem, ⟨17, _⟩ => ⟨S8x2048, .f32⟩
  | .local _ .vmem, ⟨18, _⟩ => ⟨S8x1024, .f32⟩
  | _, _ => ⟨S4x2304x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨2, ![4, 9], ![false, false]⟩

def k0_off1 (i : grid0.Coords) : Fin 2 → Nat :=
  let arg1 : BitVec 32 := BitVec.ofNat 32 (i 1).val
  let c1_i32 : BitVec 32 := 1#32
  let v5 : BitVec 1 := Scalar.cmpi .slt arg1 c1_i32
  let c4_i32 : BitVec 32 := 4#32
  let arg0 : BitVec 32 := BitVec.ofNat 32 (i 0).val
  let v6 : BitVec 32 := Scalar.select v5 c4_i32 arg0
  let v21 : Index := Scalar.indexCast v6
  let c1024 : Index := 1024#32
  ![v21.toNat, 1024]
def k0_off2 (i : grid0.Coords) : Fin 2 → Nat :=
  let arg1 : BitVec 32 := BitVec.ofNat 32 (i 1).val
  let c1_i32 : BitVec 32 := 1#32
  let v5 : BitVec 1 := Scalar.cmpi .slt arg1 c1_i32
  let c4_i32 : BitVec 32 := 4#32
  let arg0 : BitVec 32 := BitVec.ofNat 32 (i 0).val
  let v6 : BitVec 32 := Scalar.select v5 c4_i32 arg0
  let v67 : Index := Scalar.indexCast v6
  let c0_36 : Index := 0#32
  ![v67.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x4608 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x4608 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S8x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== Reference8Ideal.lean ====
abbrev S4x2304x1280 : Shape := ⟨3, ![4, 2304, 1280]⟩
abbrev S4x2304x256 : Shape := ⟨3, ![4, 2304, 256]⟩
abbrev S4x2304x3072 : Shape := ⟨3, ![4, 2304, 3072]⟩
abbrev S1024x4608 : Shape := ⟨2, ![1024, 4608]⟩
abbrev S4x2304x1024 : Shape := ⟨3, ![4, 2304, 1024]⟩
abbrev S2x1024 : Shape := ⟨2, ![2, 1024]⟩
abbrev S8x6144 : Shape := ⟨2, ![8, 6144]⟩
abbrev S4x2048 : Shape := ⟨2, ![4, 2048]⟩
abbrev S4x1x2048 : Shape := ⟨3, ![4, 1, 2048]⟩
abbrev S4x1x1024 : Shape := ⟨3, ![4, 1, 1024]⟩
abbrev S1x2048 : Shape := ⟨2, ![1, 2048]⟩
abbrev S2048 : Shape := ⟨1, ![2048]⟩
abbrev S1024 : Shape := ⟨1, ![1024]⟩
abbrev S4x2304x4608 : Shape := ⟨3, ![4, 2304, 4608]⟩
abbrev S4x256x1024 : Shape := ⟨3, ![4, 256, 1024]⟩
abbrev S1x1024 : Shape := ⟨2, ![1, 1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x2048x1024 : Shape := ⟨3, ![4, 2048, 1024]⟩
abbrev S4x2048x1 : Shape := ⟨3, ![4, 2048, 1]⟩
abbrev S4x256x4608 : Shape := ⟨3, ![4, 256, 4608]⟩
abbrev S4x2048x4608 : Shape := ⟨3, ![4, 2048, 4608]⟩
abbrev S4x1024 : Shape := ⟨2, ![4, 1024]⟩
abbrev S3x2048 : Shape := ⟨2, ![3, 2048]⟩
abbrev S7x1024 : Shape := ⟨2, ![7, 1024]⟩
abbrev S8x1024 : Shape := ⟨2, ![8, 1024]⟩
abbrev S8x2048 : Shape := ⟨2, ![8, 2048]⟩

abbrev nBuf : Space → Nat
  | .hbm => 176
  | .vmem => 0
  | .smem => 0
  | _ => 0

abbrev hbmTy0_0 (i : Nat) : BufTy := match i % 128 with
  | 0 => ⟨S4x2304x1280, .bf16⟩
  | 1 => ⟨S4x2304x256, .bf16⟩
  | 2 => ⟨S4x2304x3072, .bf16⟩
  | 3 => ⟨S1024x4608, .bf16⟩
  | 4 => ⟨S4x2304x1024, .f32⟩
  | 5 => ⟨S4x2304x1024, .f32⟩
  | 6 => ⟨S2x1024, .f32⟩
  | 7 => ⟨S8x6144, .f32⟩
  | 8 => ⟨S4x2048, .f32⟩
  | 9 => ⟨S4x1x2048, .f32⟩
  | 10 => ⟨S4x1x1024, .f32⟩
  | 11 => ⟨S4x1x1024, .f32⟩
  | 12 => ⟨S1x2048, .f32⟩
  | 13 => ⟨S2048, .f32⟩
  | 14 => ⟨S1024, .f32⟩
  | 15 => ⟨S1024, .f32⟩
  | 16 => ⟨S1024x4608, .f32⟩
  | 17 => ⟨S4x2304x1280, .f32⟩
  | 18 => ⟨S4x2304x256, .f32⟩
  | 19 => ⟨S4x2304x3072, .f32⟩
  | 20 => ⟨S4x2304x4608, .f32⟩
  | 21 => ⟨S4x256x1024, .f32⟩
  | 22 => ⟨S1x1024, .f32⟩
  | 23 => ⟨S1024, .f32⟩
  | 24 => ⟨S4x256x1024, .f32⟩
  | 25 => ⟨S_, .f32⟩
  | 26 => ⟨S4x256, .f32⟩
  | 27 => ⟨S4x256x1, .f32⟩
  | 28 => ⟨S_, .f32⟩
  | 29 => ⟨S4x256x1, .f32⟩
  | 30 => ⟨S4x256x1, .f32⟩
  | 31 => ⟨S_, .f32⟩
  | 32 => ⟨S4x256x1, .f32⟩
  | 33 => ⟨S4x256x1, .f32⟩
  | 34 => ⟨S4x256x1, .f32⟩
  | 35 => ⟨S4x256x1, .f32⟩
  | 36 => ⟨S_, .f32⟩
  | 37 => ⟨S4x256x1, .f32⟩
  | 38 => ⟨S4x256x1, .f32⟩
  | 39 => ⟨S4x256x1024, .f32⟩
  | 40 => ⟨S4x256x1024, .f32⟩
  | 41 => ⟨S1x1x1024, .f32⟩
  | 42 => ⟨S4x256x1024, .f32⟩
  | 43 => ⟨S4x256x1024, .f32⟩
  | 44 => ⟨S_, .f32⟩
  | 45 => ⟨S1024, .f32⟩
  | 46 => ⟨S1024, .f32⟩
  | 47 => ⟨S1x1x1024, .f32⟩
  | 48 => ⟨S4x256x1024, .f32⟩
  | 49 => ⟨S4x256x1024, .f32⟩
  | 50 => ⟨S1x1x1024, .f32⟩
  | 51 => ⟨S4x256x1024, .f32⟩
  | 52 => ⟨S4x256x1024, .f32⟩
  | 53 => ⟨S4x2048x1024, .f32⟩
  | 54 => ⟨S1x1024, .f32⟩
  | 55 => ⟨S1024, .f32⟩
  | 56 => ⟨S4x2048x1024, .f32⟩
  | 57 => ⟨S_, .f32⟩
  | 58 => ⟨S4x2048, .f32⟩
  | 59 => ⟨S4x2048x1, .f32⟩
  | 60 => ⟨S_, .f32⟩
  | 61 => ⟨S4x2048x1, .f32⟩
  | 62 => ⟨S4x2048x1, .f32⟩
  | 63 => ⟨S_, .f32⟩
  | 64 => ⟨S4x2048x1, .f32⟩
  | 65 => ⟨S4x2048x1, .f32⟩
  | 66 => ⟨S4x2048x1, .f32⟩
  | 67 => ⟨S4x2048x1, .f32⟩
  | 68 => ⟨S_, .f32⟩
  | 69 => ⟨S4x2048x1, .f32⟩
  | 70 => ⟨S4x2048x1, .f32⟩
  | 71 => ⟨S4x2048x1024, .f32⟩
  | 72 => ⟨S4x2048x1024, .f32⟩
  | 73 => ⟨S1x1x1024, .f32⟩
  | 74 => ⟨S4x2048x1024, .f32⟩
  | 75 => ⟨S4x2048x1024, .f32⟩
  | 76 => ⟨S_, .f32⟩
  | 77 => ⟨S4x1x1024, .f32⟩
  | 78 => ⟨S4x1x1024, .f32⟩
  | 79 => ⟨S4x2048x1024, .f32⟩
  | 80 => ⟨S4x2048x1024, .f32⟩
  | 81 => ⟨S4x2048x1024, .f32⟩
  | 82 => ⟨S4x2048x1024, .f32⟩
  | 83 => ⟨S4x256x4608, .f32⟩
  | 84 => ⟨S4x256x4608, .f32⟩
  | 85 => ⟨S4x256x1024, .f32⟩
  | 86 => ⟨S4x2048x4608, .f32⟩
  | 87 => ⟨S4x2048x4608, .f32⟩
  | 88 => ⟨S4x2048x1024, .f32⟩
  | 89 => ⟨S_, .f32⟩
  | 90 => ⟨S1024, .f32⟩
  | 91 => ⟨S1x1x1024, .f32⟩
  | 92 => ⟨S_, .f32⟩
  | 93 => ⟨S1024, .f32⟩
  | 94 => ⟨S4x256x1024, .f32⟩
  | 95 => ⟨S_, .f32⟩
  | 96 => ⟨S1024, .f32⟩
  | 97 => ⟨S1x1x1024, .f32⟩
  | 98 => ⟨S4x256x1024, .f32⟩
  | 99 => ⟨S4x256x1024, .f32⟩
  | 100 => ⟨S_, .f32⟩
  | 101 => ⟨S1024, .f32⟩
  | 102 => ⟨S4x256x1024, .f32⟩
  | 103 => ⟨S_, .f32⟩
  | 104 => ⟨S1024, .f32⟩
  | 105 => ⟨S1x1x1024, .f32⟩
  | 106 => ⟨S4x256x1024, .f32⟩
  | 107 => ⟨S4x256x1024, .f32⟩
  | 108 => ⟨S_, .f32⟩
  | 109 => ⟨S1024, .f32⟩
  | 110 => ⟨S4x256x1024, .f32⟩
  | 111 => ⟨S_, .f32⟩
  | 112 => ⟨S4x256, .f32⟩
  | 113 => ⟨S4x256x1, .f32⟩
  | 114 => ⟨S4x256x1024, .f32⟩
  | 115 => ⟨S4x256x1024, .f32⟩
  | 116 => ⟨S4x256x1, .f32⟩
  | 117 => ⟨S_, .f32⟩
  | 118 => ⟨S4x256x1, .f32⟩
  | 119 => ⟨S4x256x1, .f32⟩
  | 120 => ⟨S_, .f32⟩
  | 121 => ⟨S4x256, .f32⟩
  | 122 => ⟨S4x256x1024, .f32⟩
  | 123 => ⟨S4x256x1024, .f32⟩
  | 124 => ⟨S4x256x1024, .f32⟩
  | 125 => ⟨S4x256x1024, .f32⟩
  | 126 => ⟨S4x256x1024, .f32⟩
  | 127 => ⟨S_, .f32⟩
  | _ => ⟨S4x2304x1280, .bf16⟩

abbrev hbmTy0_1 (i : Nat) : BufTy := match i % 128 with
  | 0 => ⟨S4x1024, .f32⟩
  | 1 => ⟨S4x1x1024, .f32⟩
  | 2 => ⟨S4x2048x1024, .f32⟩
  | 3 => ⟨S_, .f32⟩
  | 4 => ⟨S4x1024, .f32⟩
  | 5 => ⟨S4x1x1024, .f32⟩
  | 6 => ⟨S4x2048x1024, .f32⟩
  | 7 => ⟨S4x2048x1024, .f32⟩
  | 8 => ⟨S4x2048x1024, .f32⟩
  | 9 => ⟨S_, .f32⟩
  | 10 => ⟨S1024, .f32⟩
  | 11 => ⟨S1x1x1024, .f32⟩
  | 12 => ⟨S4x2048x1024, .f32⟩
  | 13 => ⟨S4x2048x1024, .f32⟩
  | 14 => ⟨S_, .f32⟩
  | 15 => ⟨S1024, .f32⟩
  | 16 => ⟨S4x2048x1024, .f32⟩
  | 17 => ⟨S_, .f32⟩
  | 18 => ⟨S4x2048, .f32⟩
  | 19 => ⟨S4x2048x1, .f32⟩
  | 20 => ⟨S4x2048x1024, .f32⟩
  | 21 => ⟨S4x2048x1024, .f32⟩
  | 22 => ⟨S4x2048x1, .f32⟩
  | 23 => ⟨S_, .f32⟩
  | 24 => ⟨S4x2048x1, .f32⟩
  | 25 => ⟨S4x2048x1, .f32⟩
  | 26 => ⟨S_, .f32⟩
  | 27 => ⟨S4x2048, .f32⟩
  | 28 => ⟨S4x2048x1024, .f32⟩
  | 29 => ⟨S4x2048x1024, .f32⟩
  | 30 => ⟨S4x2048x1024, .f32⟩
  | 31 => ⟨S4x2048x1024, .f32⟩
  | 32 => ⟨S4x2048x1024, .f32⟩
  | 33 => ⟨S4x1x2048, .f32⟩
  | 34 => ⟨S4x2048, .f32⟩
  | 35 => ⟨S2048, .f32⟩
  | 36 => ⟨S1x2048, .f32⟩
  | 37 => ⟨S_, .f32⟩
  | 38 => ⟨S3x2048, .f32⟩
  | 39 => ⟨S1024, .f32⟩
  | 40 => ⟨S1x1024, .f32⟩
  | 41 => ⟨S_, .f32⟩
  | 42 => ⟨S7x1024, .f32⟩
  | 43 => ⟨S8x1024, .f32⟩
  | 44 => ⟨S4x2048x1024, .f32⟩
  | 45 => ⟨S4x2048x1024, .f32⟩
  | 46 => ⟨S4x2304x4608, .bf16⟩
  | 47 => ⟨S8x2048, .f32⟩
  | _ => ⟨S4x2304x1280, .bf16⟩

abbrev hbmTy (i : Nat) : BufTy := match i / 128 with
  | 0 => hbmTy0_0 i
  | 1 => hbmTy0_1 i
  | _ => ⟨S4x2304x1280, .bf16⟩

abbrev bufTy : (tb : Table) → Fin (tcTables nBuf tb) → BufTy
  | .hbm, ⟨i, _⟩ => hbmTy i
  | _, _ => ⟨S4x2304x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_4 : Ref sig .tc := ⟨.hbm, 57, rfl⟩
abbrev main_v44 : Ref sig .tc := ⟨.hbm, 58, rfl⟩
abbrev main_v45 : Ref sig .tc := ⟨.hbm, 59, rfl⟩
abbrev main_cst_5 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_7 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_8 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_9 : Ref sig .tc := ⟨.hbm, 89, rfl⟩
abbrev main_v71 : Ref sig .tc := ⟨.hbm, 90, rfl⟩
abbrev main_v72 : Ref sig .tc := ⟨.hbm, 91, rfl⟩
abbrev main_cst_10 : Ref sig .tc := ⟨.hbm, 92, rfl⟩
abbrev main_v73 : Ref sig .tc := ⟨.hbm, 93, rfl⟩
abbrev main_v74 : Ref sig .tc := ⟨.hbm, 94, rfl⟩
abbrev main_cst_11 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_12 : Ref sig .tc := ⟨.hbm, 100, rfl⟩
abbrev main_v79 : Ref sig .tc := ⟨.hbm, 101, rfl⟩
abbrev main_v80 : Ref sig .tc := ⟨.hbm, 102, rfl⟩
abbrev main_cst_13 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_cst_14 : Ref sig .tc := ⟨.hbm, 108, rfl⟩
abbrev main_v85 : Ref sig .tc := ⟨.hbm, 109, rfl⟩
abbrev main_v86 : Ref sig .tc := ⟨.hbm, 110, rfl⟩
abbrev main_cst_15 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_cst_16 : Ref sig .tc := ⟨.hbm, 117, rfl⟩
abbrev main_v92 : Ref sig .tc := ⟨.hbm, 118, rfl⟩
abbrev main_v93 : Ref sig .tc := ⟨.hbm, 119, rfl⟩
abbrev main_cst_17 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_cst_18 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_cst_19 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_cst_20 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_cst_21 : Ref sig .tc := ⟨.hbm, 142, rfl⟩
abbrev main_v112 : Ref sig .tc := ⟨.hbm, 143, rfl⟩
abbrev main_v113 : Ref sig .tc := ⟨.hbm, 144, rfl⟩
abbrev main_cst_22 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_cst_23 : Ref sig .tc := ⟨.hbm, 151, rfl⟩
abbrev main_v119 : Ref sig .tc := ⟨.hbm, 152, rfl⟩
abbrev main_v120 : Ref sig .tc := ⟨.hbm, 153, rfl⟩
abbrev main_cst_24 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_cst_25 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_cst_26 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩

abbrev nD : Nat := 1
abbrev τ : Topo := Topo.v7x

variable {F : FTy → Type} [FloatOps F]
-- ==== Kernel9.lean ====
abbrev S4x2304x1024 : Shape := ⟨3, ![4, 2304, 1024]⟩
abbrev S2x1024 : Shape := ⟨2, ![2, 1024]⟩
abbrev S8x6144 : Shape := ⟨2, ![8, 6144]⟩
abbrev S8x1024x512 : Shape := ⟨3, ![8, 1024, 512]⟩
abbrev S4096x1024 : Shape := ⟨2, ![4096, 1024]⟩
abbrev S4x2048x1024 : Shape := ⟨3, ![4, 2048, 1024]⟩
abbrev S2x1x1024 : Shape := ⟨3, ![2, 1, 1024]⟩
abbrev S4x2304x4096 : Shape := ⟨3, ![4, 2304, 4096]⟩
abbrev S8x128 : Shape := ⟨2, ![8, 128]⟩
abbrev S1x256x1024 : Shape := ⟨3, ![1, 256, 1024]⟩
abbrev S1x1x1024 : Shape := ⟨3, ![1, 1, 1024]⟩
abbrev S1x256x4096 : Shape := ⟨3, ![1, 256, 4096]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1x1024x512 : Shape := ⟨3, ![1, 1024, 512]⟩
abbrev S1024x512 : Shape := ⟨2, ![1024, 512]⟩
abbrev S256x512 : Shape := ⟨2, ![256, 512]⟩
abbrev S256x4096 : Shape := ⟨2, ![256, 4096]⟩
abbrev S1 : Shape := ⟨1, ![1]⟩
abbrev S1x1x1 : Shape := ⟨3, ![1, 1, 1]⟩

abbrev nBuf : Space → Nat
  | .hbm => 11
  | .vmem => 15
  | .smem => 0
  | _ => 0

abbrev bufTy : (tb : Table) → Fin (tcTables nBuf tb) → BufTy
  | .hbm, ⟨0, _⟩ => ⟨S4x2304x1024, .f32⟩
  | .hbm, ⟨1, _⟩ => ⟨S2x1024, .f32⟩
  | .hbm, ⟨2, _⟩ => ⟨S8x6144, .f32⟩
  | .hbm, ⟨3, _⟩ => ⟨S8x1024x512, .bf16⟩
  | .hbm, ⟨4, _⟩ => ⟨S4096x1024, .bf16⟩
  | .hbm, ⟨5, _⟩ => ⟨S4x2048x1024, .f32⟩
  | .hbm, ⟨6, _⟩ => ⟨S2x1x1024, .f32⟩
  | .hbm, ⟨7, _⟩ => ⟨S4x2304x1024, .f32⟩
  | .hbm, ⟨8, _⟩ => ⟨S4x2304x1024, .bf16⟩
  | .hbm, ⟨9, _⟩ => ⟨S4x2304x4096, .bf16⟩
  | .hbm, ⟨10, _⟩ => ⟨S8x128, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S8x6144, .f32⟩
  | .local _ .vmem, ⟨4, _⟩ => ⟨S8x1024x512, .bf16⟩
  | .local _ .vmem, ⟨5, _⟩ => ⟨S4096x1024, .bf16⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .bf16⟩
  | .local _ .vmem, ⟨11, _⟩ => ⟨S1x256x1024, .bf16⟩
  | .local _ .vmem, ⟨12, _⟩ => ⟨S1x256x4096, .bf16⟩
  | .local _ .vmem, ⟨13, _⟩ => ⟨S1x256x4096, .bf16⟩
  | .local _ .vmem, ⟨14, _⟩ => ⟨S8x128, .f32⟩
  | _, _ => ⟨S4x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14

abbrev nD : Nat := 1
abbrev τ : Topo := Topo.v7x

variable {F : FTy → Type} [FloatOps F]

abbrev grid0 : Pipeline.Grid := ⟨2, ![4, 9], ![false, false]⟩

def k0_cond2 (i : grid0.Coords) : BitVec 1 :=
  let arg1 : BitVec 32 := BitVec.ofNat 32 (i 1).val
  let c1_i32 : BitVec 32 := 1#32
  let v5 : BitVec 1 := Scalar.cmpi .sge arg1 c1_i32
  let v6 : BitVec 32 := Scalar.extui v5
  let c0_i32_2 : BitVec 32 := 0#32
  let v7 : BitVec 1 := Scalar.cmpi .ne v6 c0_i32_2
  v7

def k0_off1 (i : grid0.Coords) : Fin 2 → Nat :=
  let arg1 : BitVec 32 := BitVec.ofNat 32 (i 1).val
  let c1_i32_5 : BitVec 32 := 1#32
  let v11 : BitVec 1 := Scalar.cmpi .slt arg1 c1_i32_5
  let c4_i32 : BitVec 32 := 4#32
  let arg0 : BitVec 32 := BitVec.ofNat 32 (i 0).val
  let v12 : BitVec 32 := Scalar.select v11 c4_i32 arg0
  let v17 : Index := Scalar.indexCast v12
  let c3072 : Index := 3072#32
  ![v17.toNat, 3072]
def k0_off2 (i : grid0.Coords) : Fin 2 → Nat :=
  let arg1 : BitVec 32 := BitVec.ofNat 32 (i 1).val
  let c1_i32_5 : BitVec 32 := 1#32
  let v11 : BitVec 1 := Scalar.cmpi .slt arg1 c1_i32_5
  let c4_i32 : BitVec 32 := 4#32
  let arg0 : BitVec 32 := BitVec.ofNat 32 (i 0).val
  let v12 : BitVec 32 := Scalar.select v11 c4_i32 arg0
  let v19 : Index := Scalar.indexCast v12
  let c4096 : Index := 4096#32
  ![v19.toNat, 4096]
def k0_off3 (i : grid0.Coords) : Fin 2 → Nat :=
  let arg1 : BitVec 32 := BitVec.ofNat 32 (i 1).val
  let c1_i32_5 : BitVec 32 := 1#32
  let v11 : BitVec 1 := Scalar.cmpi .slt arg1 c1_i32_5
  let c4_i32 : BitVec 32 := 4#32
  let arg0 : BitVec 32 := BitVec.ofNat 32 (i 0).val
  let v12 : BitVec 32 := Scalar.select v11 c4_i32 arg0
  let v78 : Index := Scalar.indexCast v12
  let c5120 : Index := 5120#32
  ![v78.toNat, 5120]
def k0_cond3 (i : grid0.Coords) : BitVec 1 :=
  let arg1 : BitVec 32 := BitVec.ofNat 32 (i 1).val
  let c1_i32_3 : BitVec 32 := 1#32
  let v8 : BitVec 1 := Scalar.cmpi .slt arg1 c1_i32_3
  let v9 : BitVec 32 := Scalar.extui v8
  let c0_i32_4 : BitVec 32 := 0#32
  let v10 : BitVec 1 := Scalar.cmpi .ne v9 c0_i32_4
  v10

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== Reference9Ideal.lean ====
abbrev S4x2304x1024 : Shape := ⟨3, ![4, 2304, 1024]⟩
abbrev S2x1024 : Shape := ⟨2, ![2, 1024]⟩
abbrev S8x6144 : Shape := ⟨2, ![8, 6144]⟩
abbrev S8x1024x512 : Shape := ⟨3, ![8, 1024, 512]⟩
abbrev S4096x1024 : Shape := ⟨2, ![4096, 1024]⟩
abbrev S4x2048x1024 : Shape := ⟨3, ![4, 2048, 1024]⟩
abbrev S4x3072 : Shape := ⟨2, ![4, 3072]⟩
abbrev S4x1x3072 : Shape := ⟨3, ![4, 1, 3072]⟩
abbrev S4x1x1024 : Shape := ⟨3, ![4, 1, 1024]⟩
abbrev S1x1024 : Shape := ⟨2, ![1, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S1x1024x512 : Shape := ⟨3, ![1, 1024, 512]⟩
abbrev S1024x512 : Shape := ⟨2, ![1024, 512]⟩
abbrev S1024x4096 : Shape := ⟨2, ![1024, 4096]⟩
abbrev S4x2048x4096 : Shape := ⟨3, ![4, 2048, 4096]⟩
abbrev S4x256x1024 : Shape := ⟨3, ![4, 256, 1024]⟩
abbrev S4x256x4096 : Shape := ⟨3, ![4, 256, 4096]⟩
abbrev S4x2304x4096 : Shape := ⟨3, ![4, 2304, 4096]⟩
abbrev S8x128 : Shape := ⟨2, ![8, 128]⟩

abbrev nBuf : Space → Nat
  | .hbm => 104
  | .vmem => 0
  | .smem => 0
  | _ => 0

abbrev bufTy : (tb : Table) → Fin (tcTables nBuf tb) → BufTy
  | .hbm, ⟨0, _⟩ => ⟨S4x2304x1024, .f32⟩
  | .hbm, ⟨1, _⟩ => ⟨S2x1024, .f32⟩
  | .hbm, ⟨2, _⟩ => ⟨S8x6144, .f32⟩
  | .hbm, ⟨3, _⟩ => ⟨S8x1024x512, .bf16⟩
  | .hbm, ⟨4, _⟩ => ⟨S4096x1024, .bf16⟩
  | .hbm, ⟨5, _⟩ => ⟨S4x2048x1024, .f32⟩
  | .hbm, ⟨6, _⟩ => ⟨S4x3072, .f32⟩
  | .hbm, ⟨7, _⟩ => ⟨S4x1x3072, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x2048x1024, .f32⟩
  | .hbm, ⟨12, _⟩ => ⟨S1x1024, .f32⟩
  | .hbm, ⟨13, _⟩ => ⟨S1024, .f32⟩
  | .hbm, ⟨14, _⟩ => ⟨S4x2048x1024, .f32⟩
  | .hbm, ⟨15, _⟩ => ⟨S_, .f32⟩
  | .hbm, ⟨16, _⟩ => ⟨S4x2048, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S4x2048x1, .f32⟩
  | .hbm, ⟨25, _⟩ => ⟨S4x2048x1024, .f32⟩
  | .hbm, ⟨26, _⟩ => ⟨S4x2048x1024, .f32⟩
  | .hbm, ⟨27, _⟩ => ⟨S1x1x1024, .f32⟩
  | .hbm, ⟨28, _⟩ => ⟨S4x2048x1024, .f32⟩
  | .hbm, ⟨29, _⟩ => ⟨S4x2048x1024, .f32⟩
  | .hbm, ⟨30, _⟩ => ⟨S_, .f32⟩
  | .hbm, ⟨31, _⟩ => ⟨S4x1x1024, .f32⟩
  | .hbm, ⟨32, _⟩ => ⟨S4x1x1024, .f32⟩
  | .hbm, ⟨33, _⟩ => ⟨S4x2048x1024, .f32⟩
  | .hbm, ⟨34, _⟩ => ⟨S4x2048x1024, .f32⟩
  | .hbm, ⟨35, _⟩ => ⟨S4x2048x1024, .f32⟩
  | .hbm, ⟨36, _⟩ => ⟨S4x2048x1024, .f32⟩
  | .hbm, ⟨37, _⟩ => ⟨S8x1024x512, .f32⟩
  | .hbm, ⟨38, _⟩ => ⟨S1x1024x512, .f32⟩
  | .hbm, ⟨39, _⟩ => ⟨S1024x512, .f32⟩
  | .hbm, ⟨40, _⟩ => ⟨S1x1024x512, .f32⟩
  | .hbm, ⟨41, _⟩ => ⟨S1024x512, .f32⟩
  | .hbm, ⟨42, _⟩ => ⟨S1x1024x512, .f32⟩
  | .hbm, ⟨43, _⟩ => ⟨S1024x512, .f32⟩
  | .hbm, ⟨44, _⟩ => ⟨S1x1024x512, .f32⟩
  | .hbm, ⟨45, _⟩ => ⟨S1024x512, .f32⟩
  | .hbm, ⟨46, _⟩ => ⟨S1x1024x512, .f32⟩
  | .hbm, ⟨47, _⟩ => ⟨S1024x512, .f32⟩
  | .hbm, ⟨48, _⟩ => ⟨S1x1024x512, .f32⟩
  | .hbm, ⟨49, _⟩ => ⟨S1024x512, .f32⟩
  | .hbm, ⟨50, _⟩ => ⟨S1x1024x512, .f32⟩
  | .hbm, ⟨51, _⟩ => ⟨S1024x512, .f32⟩
  | .hbm, ⟨52, _⟩ => ⟨S1x1024x512, .f32⟩
  | .hbm, ⟨53, _⟩ => ⟨S1024x512, .f32⟩
  | .hbm, ⟨54, _⟩ => ⟨S1024x4096, .f32⟩
  | .hbm, ⟨55, _⟩ => ⟨S4x2048x4096, .f32⟩
  | .hbm, ⟨56, _⟩ => ⟨S_, .f32⟩
  | .hbm, ⟨57, _⟩ => ⟨S4x2048x4096, .f32⟩
  | .hbm, ⟨58, _⟩ => ⟨S4x2048x4096, .f32⟩
  | .hbm, ⟨59, _⟩ => ⟨S4x2048x4096, .f32⟩
  | .hbm, ⟨60, _⟩ => ⟨S4096x1024, .f32⟩
  | .hbm, ⟨61, _⟩ => ⟨S4x2048x1024, .f32⟩
  | .hbm, ⟨62, _⟩ => ⟨S4x2048x1024, .f32⟩
  | .hbm, ⟨63, _⟩ => ⟨S4x2048x1024, .f32⟩
  | .hbm, ⟨64, _⟩ => ⟨S4x2048x1024, .f32⟩
  | .hbm, ⟨65, _⟩ => ⟨S4x2048x1024, .f32⟩
  | .hbm, ⟨66, _⟩ => ⟨S4x2048x1024, .f32⟩
  | .hbm, ⟨67, _⟩ => ⟨S_, .f32⟩
  | .hbm, ⟨68, _⟩ => ⟨S4x2048x1024, .f32⟩
  | .hbm, ⟨69, _⟩ => ⟨S4x2048x1024, .f32⟩
  | .hbm, ⟨70, _⟩ => ⟨S_, .f32⟩
  | .hbm, ⟨71, _⟩ => ⟨S4x2048, .f32⟩
  | .hbm, ⟨72, _⟩ => ⟨S_, .f32⟩
  | .hbm, ⟨73, _⟩ => ⟨S4x2048, .f32⟩
  | .hbm, ⟨74, _⟩ => ⟨S4x2048, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S4x2048, .f32⟩
  | .hbm, ⟨83, _⟩ => ⟨S_, .f32⟩
  | .hbm, ⟨84, _⟩ => ⟨S4x2048, .f32⟩
  | .hbm, ⟨85, _⟩ => ⟨S4x2048, .f32⟩
  | .hbm, ⟨86, _⟩ => ⟨S4x2048x1024, .f32⟩
  | .hbm, ⟨87, _⟩ => ⟨S4x2048x1024, .f32⟩
  | .hbm, ⟨88, _⟩ => ⟨S_, .f32⟩
  | .hbm, ⟨89, _⟩ => ⟨S4x256x1024, .f32⟩
  | .hbm, ⟨90, _⟩ => ⟨S4x2304x1024, .f32⟩
  | .hbm, ⟨91, _⟩ => ⟨S_, .f32⟩
  | .hbm, ⟨92, _⟩ => ⟨S4x256x1024, .f32⟩
  | .hbm, ⟨93, _⟩ => ⟨S4x2304x1024, .f32⟩
  | .hbm, ⟨94, _⟩ => ⟨S4x2304x1024, .bf16⟩
  | .hbm, ⟨95, _⟩ => ⟨S_, .f32⟩
  | .hbm, ⟨96, _⟩ => ⟨S4x256x4096, .f32⟩
  | .hbm, ⟨97, _⟩ => ⟨S4x2304x4096, .f32⟩
  | .hbm, ⟨98, _⟩ => ⟨S4x2304x4096, .bf16⟩
  | .hbm, ⟨99, _⟩ => ⟨S4x2048x1024, .f32⟩
  | .hbm, ⟨100, _⟩ => ⟨S4x2048x1024, .f32⟩
  | .hbm, ⟨101, _⟩ => ⟨S_, .f32⟩
  | .hbm, ⟨102, _⟩ => ⟨S_, .f32⟩
  | .hbm, ⟨103, _⟩ => ⟨S8x128, .f32⟩
  | _, _ => ⟨S4x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_call0_cst : Ref sig .tc := ⟨.hbm, 56, rfl⟩
abbrev main_call0_v0 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_3 : Ref sig .tc := ⟨.hbm, 67, rfl⟩
abbrev main_v55 : Ref sig .tc := ⟨.hbm, 68, rfl⟩
abbrev main_v56 : Ref sig .tc := ⟨.hbm, 69, rfl⟩
abbrev main_cst_4 : Ref sig .tc := ⟨.hbm, 70, rfl⟩
abbrev main_v57 : Ref sig .tc := ⟨.hbm, 71, rfl⟩
abbrev main_cst_5 : Ref sig .tc := ⟨.hbm, 72, rfl⟩
abbrev main_v58 : Ref sig .tc := ⟨.hbm, 73, rfl⟩
abbrev main_v59 : Ref sig .tc := ⟨.hbm, 74, rfl⟩
abbrev main_cst_6 : Ref sig .tc := ⟨.hbm, 75, rfl⟩
abbrev main_v60 : Ref sig .tc := ⟨.hbm, 76, rfl⟩
abbrev main_cst_7 : Ref sig .tc := ⟨.hbm, 77, rfl⟩
abbrev main_v61 : Ref sig .tc := ⟨.hbm, 78, rfl⟩
abbrev main_cst_8 : Ref sig .tc := ⟨.hbm, 79, rfl⟩
abbrev main_cst_9 : Ref sig .tc := ⟨.hbm, 80, rfl⟩
abbrev main_v62 : Ref sig .tc := ⟨.hbm, 81, rfl⟩
abbrev main_v63 : Ref sig .tc := ⟨.hbm, 82, rfl⟩
abbrev main_cst_10 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_11 : Ref sig .tc := ⟨.hbm, 88, rfl⟩
abbrev main_v68 : Ref sig .tc := ⟨.hbm, 89, rfl⟩
abbrev main_v69 : Ref sig .tc := ⟨.hbm, 90, rfl⟩
abbrev main_cst_12 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_13 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_14 : Ref sig .tc := ⟨.hbm, 101, rfl⟩
abbrev main_v78 : Ref sig .tc := ⟨.hbm, 102, rfl⟩
abbrev main_v79 : Ref sig .tc := ⟨.hbm, 103, rfl⟩

abbrev nD : Nat := 1
abbrev τ : Topo := Topo.v7x

variable {F : FTy → Type} [FloatOps F]
-- ==== Kernel10.lean ====
abbrev S4x2304x1280 : Shape := ⟨3, ![4, 2304, 1280]⟩
abbrev S4x2304x256 : Shape := ⟨3, ![4, 2304, 256]⟩
abbrev S4x2304x3072 : Shape := ⟨3, ![4, 2304, 3072]⟩
abbrev S1024x4608 : Shape := ⟨2, ![1024, 4608]⟩
abbrev S4x2304x1024 : Shape := ⟨3, ![4, 2304, 1024]⟩
abbrev S2x1024 : Shape := ⟨2, ![2, 1024]⟩
abbrev S8x6144 : Shape := ⟨2, ![8, 6144]⟩
abbrev S2x1x1024 : Shape := ⟨3, ![2, 1, 1024]⟩
abbrev S4x2304x4608 : Shape := ⟨3, ![4, 2304, 4608]⟩
abbrev S8x2048 : Shape := ⟨2, ![8, 2048]⟩
abbrev S8x1024 : Shape := ⟨2, ![8, 1024]⟩
abbrev S1x256x1280 : Shape := ⟨3, ![1, 256, 1280]⟩
abbrev S1x256x256 : Shape := ⟨3, ![1, 256, 256]⟩
abbrev S1x256x3072 : Shape := ⟨3, ![1, 256, 3072]⟩
abbrev S1x256x1024 : Shape := ⟨3, ![1, 256, 1024]⟩
abbrev S1x1x1024 : Shape := ⟨3, ![1, 1, 1024]⟩
abbrev S1x256x4608 : Shape := ⟨3, ![1, 256, 4608]⟩
abbrev S256x1280 : Shape := ⟨2, ![256, 1280]⟩
abbrev S256x256 : Shape := ⟨2, ![256, 256]⟩
abbrev S256x3072 : Shape := ⟨2, ![256, 3072]⟩
abbrev S256x4608 : Shape := ⟨2, ![256, 4608]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩
abbrev S1x2048 : Shape := ⟨2, ![1, 2048]⟩

abbrev nBuf : Space → Nat
  | .hbm => 13
  | .vmem => 19
  | .smem => 0
  | _ => 0

abbrev bufTy : (tb : Table) → Fin (tcTables nBuf tb) → BufTy
  | .hbm, ⟨0, _⟩ => ⟨S4x2304x1280, .bf16⟩
  | .hbm, ⟨1, _⟩ => ⟨S4x2304x256, .bf16⟩
  | .hbm, ⟨2, _⟩ => ⟨S4x2304x3072, .bf16⟩
  | .hbm, ⟨3, _⟩ => ⟨S1024x4608, .bf16⟩
  | .hbm, ⟨4, _⟩ => ⟨S4x2304x1024, .f32⟩
  | .hbm, ⟨5, _⟩ => ⟨S4x2304x1024, .f32⟩
  | .hbm, ⟨6, _⟩ => ⟨S2x1024, .f32⟩
  | .hbm, ⟨7, _⟩ => ⟨S8x6144, .f32⟩
  | .hbm, ⟨8, _⟩ => ⟨S2x1x1024, .f32⟩
  | .hbm, ⟨9, _⟩ => ⟨S4x2304x1024, .f32⟩
  | .hbm, ⟨10, _⟩ => ⟨S4x2304x4608, .bf16⟩
  | .hbm, ⟨11, _⟩ => ⟨S8x2048, .f32⟩
  | .hbm, ⟨12, _⟩ => ⟨S8x1024, .f32⟩
  | .local _ .vmem, ⟨0, _⟩ => ⟨S1x256x1280, .bf16⟩
  | .local _ .vmem, ⟨1, _⟩ => ⟨S1x256x1280, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x3072, .bf16⟩
  | .local _ .vmem, ⟨5, _⟩ => ⟨S1x256x3072, .bf16⟩
  | .local _ .vmem, ⟨6, _⟩ => ⟨S1024x4608, .bf16⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x1x1024, .f32⟩
  | .local _ .vmem, ⟨12, _⟩ => ⟨S8x6144, .f32⟩
  | .local _ .vmem, ⟨13, _⟩ => ⟨S1x256x1024, .f32⟩
  | .local _ .vmem, ⟨14, _⟩ => ⟨S1x256x1024, .f32⟩
  | .local _ .vmem, ⟨15, _⟩ => ⟨S1x256x4608, .bf16⟩
  | .local _ .vmem, ⟨16, _⟩ => ⟨S1x256x4608, .bf16⟩
  | .local _ .vmem, ⟨17, _⟩ => ⟨S8x2048, .f32⟩
  | .local _ .vmem, ⟨18, _⟩ => ⟨S8x1024, .f32⟩
  | _, _ => ⟨S4x2304x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨2, ![4, 9], ![false, false]⟩

def k0_off1 (i : grid0.Coords) : Fin 2 → Nat :=
  let arg1 : BitVec 32 := BitVec.ofNat 32 (i 1).val
  let c1_i32 : BitVec 32 := 1#32
  let v5 : BitVec 1 := Scalar.cmpi .slt arg1 c1_i32
  let c4_i32 : BitVec 32 := 4#32
  let arg0 : BitVec 32 := BitVec.ofNat 32 (i 0).val
  let v6 : BitVec 32 := Scalar.select v5 c4_i32 arg0
  let v21 : Index := Scalar.indexCast v6
  let c1024 : Index := 1024#32
  ![v21.toNat, 1024]
def k0_off2 (i : grid0.Coords) : Fin 2 → Nat :=
  let arg1 : BitVec 32 := BitVec.ofNat 32 (i 1).val
  let c1_i32 : BitVec 32 := 1#32
  let v5 : BitVec 1 := Scalar.cmpi .slt arg1 c1_i32
  let c4_i32 : BitVec 32 := 4#32
  let arg0 : BitVec 32 := BitVec.ofNat 32 (i 0).val
  let v6 : BitVec 32 := Scalar.select v5 c4_i32 arg0
  let v67 : Index := Scalar.indexCast v6
  let c0_36 : Index := 0#32
  ![v67.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x4608 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x4608 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S8x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== Reference10Ideal.lean ====
abbrev S4x2304x1280 : Shape := ⟨3, ![4, 2304, 1280]⟩
abbrev S4x2304x256 : Shape := ⟨3, ![4, 2304, 256]⟩
abbrev S4x2304x3072 : Shape := ⟨3, ![4, 2304, 3072]⟩
abbrev S1024x4608 : Shape := ⟨2, ![1024, 4608]⟩
abbrev S4x2304x1024 : Shape := ⟨3, ![4, 2304, 1024]⟩
abbrev S2x1024 : Shape := ⟨2, ![2, 1024]⟩
abbrev S8x6144 : Shape := ⟨2, ![8, 6144]⟩
abbrev S4x2048 : Shape := ⟨2, ![4, 2048]⟩
abbrev S4x1x2048 : Shape := ⟨3, ![4, 1, 2048]⟩
abbrev S4x1x1024 : Shape := ⟨3, ![4, 1, 1024]⟩
abbrev S1x2048 : Shape := ⟨2, ![1, 2048]⟩
abbrev S2048 : Shape := ⟨1, ![2048]⟩
abbrev S1024 : Shape := ⟨1, ![1024]⟩
abbrev S4x2304x4608 : Shape := ⟨3, ![4, 2304, 4608]⟩
abbrev S4x256x1024 : Shape := ⟨3, ![4, 256, 1024]⟩
abbrev S1x1024 : Shape := ⟨2, ![1, 1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x2048x1024 : Shape := ⟨3, ![4, 2048, 1024]⟩
abbrev S4x2048x1 : Shape := ⟨3, ![4, 2048, 1]⟩
abbrev S4x256x4608 : Shape := ⟨3, ![4, 256, 4608]⟩
abbrev S4x2048x4608 : Shape := ⟨3, ![4, 2048, 4608]⟩
abbrev S4x1024 : Shape := ⟨2, ![4, 1024]⟩
abbrev S3x2048 : Shape := ⟨2, ![3, 2048]⟩
abbrev S7x1024 : Shape := ⟨2, ![7, 1024]⟩
abbrev S8x1024 : Shape := ⟨2, ![8, 1024]⟩
abbrev S8x2048 : Shape := ⟨2, ![8, 2048]⟩

abbrev nBuf : Space → Nat
  | .hbm => 179
  | .vmem => 0
  | .smem => 0
  | _ => 0

abbrev hbmTy0_0 (i : Nat) : BufTy := match i % 128 with
  | 0 => ⟨S4x2304x1280, .bf16⟩
  | 1 => ⟨S4x2304x256, .bf16⟩
  | 2 => ⟨S4x2304x3072, .bf16⟩
  | 3 => ⟨S1024x4608, .bf16⟩
  | 4 => ⟨S4x2304x1024, .f32⟩
  | 5 => ⟨S4x2304x1024, .f32⟩
  | 6 => ⟨S2x1024, .f32⟩
  | 7 => ⟨S8x6144, .f32⟩
  | 8 => ⟨S4x2048, .f32⟩
  | 9 => ⟨S4x1x2048, .f32⟩
  | 10 => ⟨S4x1x1024, .f32⟩
  | 11 => ⟨S4x1x1024, .f32⟩
  | 12 => ⟨S1x2048, .f32⟩
  | 13 => ⟨S2048, .f32⟩
  | 14 => ⟨S1024, .f32⟩
  | 15 => ⟨S1024, .f32⟩
  | 16 => ⟨S1024x4608, .f32⟩
  | 17 => ⟨S4x2304x1280, .f32⟩
  | 18 => ⟨S4x2304x256, .f32⟩
  | 19 => ⟨S4x2304x3072, .f32⟩
  | 20 => ⟨S4x2304x4608, .f32⟩
  | 21 => ⟨S4x256x1024, .f32⟩
  | 22 => ⟨S1x1024, .f32⟩
  | 23 => ⟨S1024, .f32⟩
  | 24 => ⟨S4x256x1024, .f32⟩
  | 25 => ⟨S_, .f32⟩
  | 26 => ⟨S4x256, .f32⟩
  | 27 => ⟨S4x256x1, .f32⟩
  | 28 => ⟨S_, .f32⟩
  | 29 => ⟨S4x256x1, .f32⟩
  | 30 => ⟨S4x256x1, .f32⟩
  | 31 => ⟨S_, .f32⟩
  | 32 => ⟨S4x256x1, .f32⟩
  | 33 => ⟨S4x256x1, .f32⟩
  | 34 => ⟨S4x256x1, .f32⟩
  | 35 => ⟨S4x256x1, .f32⟩
  | 36 => ⟨S_, .f32⟩
  | 37 => ⟨S4x256x1, .f32⟩
  | 38 => ⟨S4x256x1, .f32⟩
  | 39 => ⟨S4x256x1024, .f32⟩
  | 40 => ⟨S4x256x1024, .f32⟩
  | 41 => ⟨S1x1x1024, .f32⟩
  | 42 => ⟨S4x256x1024, .f32⟩
  | 43 => ⟨S4x256x1024, .f32⟩
  | 44 => ⟨S_, .f32⟩
  | 45 => ⟨S1024, .f32⟩
  | 46 => ⟨S1024, .f32⟩
  | 47 => ⟨S1x1x1024, .f32⟩
  | 48 => ⟨S4x256x1024, .f32⟩
  | 49 => ⟨S4x256x1024, .f32⟩
  | 50 => ⟨S1x1x1024, .f32⟩
  | 51 => ⟨S4x256x1024, .f32⟩
  | 52 => ⟨S4x256x1024, .f32⟩
  | 53 => ⟨S4x2048x1024, .f32⟩
  | 54 => ⟨S1x1024, .f32⟩
  | 55 => ⟨S1024, .f32⟩
  | 56 => ⟨S4x2048x1024, .f32⟩
  | 57 => ⟨S_, .f32⟩
  | 58 => ⟨S4x2048, .f32⟩
  | 59 => ⟨S4x2048x1, .f32⟩
  | 60 => ⟨S_, .f32⟩
  | 61 => ⟨S4x2048x1, .f32⟩
  | 62 => ⟨S4x2048x1, .f32⟩
  | 63 => ⟨S_, .f32⟩
  | 64 => ⟨S4x2048x1, .f32⟩
  | 65 => ⟨S4x2048x1, .f32⟩
  | 66 => ⟨S4x2048x1, .f32⟩
  | 67 => ⟨S4x2048x1, .f32⟩
  | 68 => ⟨S_, .f32⟩
  | 69 => ⟨S4x2048x1, .f32⟩
  | 70 => ⟨S4x2048x1, .f32⟩
  | 71 => ⟨S4x2048x1024, .f32⟩
  | 72 => ⟨S4x2048x1024, .f32⟩
  | 73 => ⟨S1x1x1024, .f32⟩
  | 74 => ⟨S4x2048x1024, .f32⟩
  | 75 => ⟨S4x2048x1024, .f32⟩
  | 76 => ⟨S_, .f32⟩
  | 77 => ⟨S4x1x1024, .f32⟩
  | 78 => ⟨S4x1x1024, .f32⟩
  | 79 => ⟨S4x2048x1024, .f32⟩
  | 80 => ⟨S4x2048x1024, .f32⟩
  | 81 => ⟨S4x2048x1024, .f32⟩
  | 82 => ⟨S4x2048x1024, .f32⟩
  | 83 => ⟨S4x256x4608, .f32⟩
  | 84 => ⟨S4x256x4608, .f32⟩
  | 85 => ⟨S4x256x1024, .f32⟩
  | 86 => ⟨S4x2048x4608, .f32⟩
  | 87 => ⟨S4x2048x4608, .f32⟩
  | 88 => ⟨S4x2048x1024, .f32⟩
  | 89 => ⟨S_, .f32⟩
  | 90 => ⟨S1024, .f32⟩
  | 91 => ⟨S1x1x1024, .f32⟩
  | 92 => ⟨S_, .f32⟩
  | 93 => ⟨S1024, .f32⟩
  | 94 => ⟨S4x256x1024, .f32⟩
  | 95 => ⟨S_, .f32⟩
  | 96 => ⟨S1024, .f32⟩
  | 97 => ⟨S1x1x1024, .f32⟩
  | 98 => ⟨S4x256x1024, .f32⟩
  | 99 => ⟨S4x256x1024, .f32⟩
  | 100 => ⟨S_, .f32⟩
  | 101 => ⟨S1024, .f32⟩
  | 102 => ⟨S4x256x1024, .f32⟩
  | 103 => ⟨S_, .f32⟩
  | 104 => ⟨S1024, .f32⟩
  | 105 => ⟨S1x1x1024, .f32⟩
  | 106 => ⟨S4x256x1024, .f32⟩
  | 107 => ⟨S4x256x1024, .f32⟩
  | 108 => ⟨S_, .f32⟩
  | 109 => ⟨S1024, .f32⟩
  | 110 => ⟨S4x256x1024, .f32⟩
  | 111 => ⟨S_, .f32⟩
  | 112 => ⟨S4x256, .f32⟩
  | 113 => ⟨S4x256x1, .f32⟩
  | 114 => ⟨S4x256x1024, .f32⟩
  | 115 => ⟨S4x256x1024, .f32⟩
  | 116 => ⟨S4x256x1, .f32⟩
  | 117 => ⟨S_, .f32⟩
  | 118 => ⟨S4x256x1, .f32⟩
  | 119 => ⟨S4x256x1, .f32⟩
  | 120 => ⟨S_, .f32⟩
  | 121 => ⟨S4x256, .f32⟩
  | 122 => ⟨S4x256x1024, .f32⟩
  | 123 => ⟨S4x256x1024, .f32⟩
  | 124 => ⟨S4x256x1024, .f32⟩
  | 125 => ⟨S4x256x1024, .f32⟩
  | 126 => ⟨S4x256x1024, .f32⟩
  | 127 => ⟨S_, .f32⟩
  | _ => ⟨S4x2304x1280, .bf16⟩

abbrev hbmTy0_1 (i : Nat) : BufTy := match i % 128 with
  | 0 => ⟨S4x1024, .f32⟩
  | 1 => ⟨S4x1x1024, .f32⟩
  | 2 => ⟨S4x2048x1024, .f32⟩
  | 3 => ⟨S_, .f32⟩
  | 4 => ⟨S4x1024, .f32⟩
  | 5 => ⟨S4x1x1024, .f32⟩
  | 6 => ⟨S4x2048x1024, .f32⟩
  | 7 => ⟨S4x2048x1024, .f32⟩
  | 8 => ⟨S4x2048x1024, .f32⟩
  | 9 => ⟨S_, .f32⟩
  | 10 => ⟨S1024, .f32⟩
  | 11 => ⟨S1x1x1024, .f32⟩
  | 12 => ⟨S4x2048x1024, .f32⟩
  | 13 => ⟨S4x2048x1024, .f32⟩
  | 14 => ⟨S_, .f32⟩
  | 15 => ⟨S1024, .f32⟩
  | 16 => ⟨S4x2048x1024, .f32⟩
  | 17 => ⟨S_, .f32⟩
  | 18 => ⟨S4x2048, .f32⟩
  | 19 => ⟨S4x2048x1, .f32⟩
  | 20 => ⟨S4x2048x1024, .f32⟩
  | 21 => ⟨S4x2048x1024, .f32⟩
  | 22 => ⟨S4x2048x1, .f32⟩
  | 23 => ⟨S_, .f32⟩
  | 24 => ⟨S4x2048x1, .f32⟩
  | 25 => ⟨S4x2048x1, .f32⟩
  | 26 => ⟨S_, .f32⟩
  | 27 => ⟨S4x2048, .f32⟩
  | 28 => ⟨S4x2048x1024, .f32⟩
  | 29 => ⟨S4x2048x1024, .f32⟩
  | 30 => ⟨S4x2048x1024, .f32⟩
  | 31 => ⟨S4x2048x1024, .f32⟩
  | 32 => ⟨S4x2048x1024, .f32⟩
  | 33 => ⟨S4x1x2048, .f32⟩
  | 34 => ⟨S4x2048, .f32⟩
  | 35 => ⟨S2048, .f32⟩
  | 36 => ⟨S1x2048, .f32⟩
  | 37 => ⟨S_, .f32⟩
  | 38 => ⟨S3x2048, .f32⟩
  | 39 => ⟨S1024, .f32⟩
  | 40 => ⟨S1x1024, .f32⟩
  | 41 => ⟨S_, .f32⟩
  | 42 => ⟨S7x1024, .f32⟩
  | 43 => ⟨S8x1024, .f32⟩
  | 44 => ⟨S4x256x1024, .f32⟩
  | 45 => ⟨S4x256x1024, .f32⟩
  | 46 => ⟨S4x2048x1024, .f32⟩
  | 47 => ⟨S4x2048x1024, .f32⟩
  | 48 => ⟨S4x2304x1024, .f32⟩
  | 49 => ⟨S4x2304x4608, .bf16⟩
  | 50 => ⟨S8x2048, .f32⟩
  | _ => ⟨S4x2304x1280, .bf16⟩

abbrev hbmTy (i : Nat) : BufTy := match i / 128 with
  | 0 => hbmTy0_0 i
  | 1 => hbmTy0_1 i
  | _ => ⟨S4x2304x1280, .bf16⟩

abbrev bufTy : (tb : Table) → Fin (tcTables nBuf tb) → BufTy
  | .hbm, ⟨i, _⟩ => hbmTy i
  | _, _ => ⟨S4x2304x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_4 : Ref sig .tc := ⟨.hbm, 57, rfl⟩
abbrev main_v44 : Ref sig .tc := ⟨.hbm, 58, rfl⟩
abbrev main_v45 : Ref sig .tc := ⟨.hbm, 59, rfl⟩
abbrev main_cst_5 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_7 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_8 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_9 : Ref sig .tc := ⟨.hbm, 89, rfl⟩
abbrev main_v71 : Ref sig .tc := ⟨.hbm, 90, rfl⟩
abbrev main_v72 : Ref sig .tc := ⟨.hbm, 91, rfl⟩
abbrev main_cst_10 : Ref sig .tc := ⟨.hbm, 92, rfl⟩
abbrev main_v73 : Ref sig .tc := ⟨.hbm, 93, rfl⟩
abbrev main_v74 : Ref sig .tc := ⟨.hbm, 94, rfl⟩
abbrev main_cst_11 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_12 : Ref sig .tc := ⟨.hbm, 100, rfl⟩
abbrev main_v79 : Ref sig .tc := ⟨.hbm, 101, rfl⟩
abbrev main_v80 : Ref sig .tc := ⟨.hbm, 102, rfl⟩
abbrev main_cst_13 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_cst_14 : Ref sig .tc := ⟨.hbm, 108, rfl⟩
abbrev main_v85 : Ref sig .tc := ⟨.hbm, 109, rfl⟩
abbrev main_v86 : Ref sig .tc := ⟨.hbm, 110, rfl⟩
abbrev main_cst_15 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_cst_16 : Ref sig .tc := ⟨.hbm, 117, rfl⟩
abbrev main_v92 : Ref sig .tc := ⟨.hbm, 118, rfl⟩
abbrev main_v93 : Ref sig .tc := ⟨.hbm, 119, rfl⟩
abbrev main_cst_17 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_cst_18 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_cst_19 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_cst_20 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_cst_21 : Ref sig .tc := ⟨.hbm, 142, rfl⟩
abbrev main_v112 : Ref sig .tc := ⟨.hbm, 143, rfl⟩
abbrev main_v113 : Ref sig .tc := ⟨.hbm, 144, rfl⟩
abbrev main_cst_22 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_cst_23 : Ref sig .tc := ⟨.hbm, 151, rfl⟩
abbrev main_v119 : Ref sig .tc := ⟨.hbm, 152, rfl⟩
abbrev main_v120 : Ref sig .tc := ⟨.hbm, 153, rfl⟩
abbrev main_cst_24 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_cst_25 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_cst_26 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩

abbrev nD : Nat := 1
abbrev τ : Topo := Topo.v7x

variable {F : FTy → Type} [FloatOps F]
-- ==== Kernel11.lean ====
abbrev S4x2304x1024 : Shape := ⟨3, ![4, 2304, 1024]⟩
abbrev S4x2304x384 : Shape := ⟨3, ![4, 2304, 384]⟩
abbrev S4x2304x256 : Shape := ⟨3, ![4, 2304, 256]⟩
abbrev S4x2304x4608 : Shape := ⟨3, ![4, 2304, 4608]⟩
abbrev S8x6144 : Shape := ⟨2, ![8, 6144]⟩
abbrev S384x1024 : Shape := ⟨2, ![384, 1024]⟩
abbrev S256x1024 : Shape := ⟨2, ![256, 1024]⟩
abbrev S1024x1024 : Shape := ⟨2, ![1024, 1024]⟩
abbrev S1x256x1024 : Shape := ⟨3, ![1, 256, 1024]⟩
abbrev S1x256x384 : Shape := ⟨3, ![1, 256, 384]⟩
abbrev S1x256x256 : Shape := ⟨3, ![1, 256, 256]⟩
abbrev S1x256x512 : Shape := ⟨3, ![1, 256, 512]⟩
abbrev S256x512 : Shape := ⟨2, ![256, 512]⟩
abbrev S256x384 : Shape := ⟨2, ![256, 384]⟩
abbrev S256x256 : Shape := ⟨2, ![256, 256]⟩
abbrev S1x1024 : Shape := ⟨2, ![1, 1024]⟩

abbrev nBuf : Space → Nat
  | .hbm => 12
  | .vmem => 29
  | .smem => 0
  | _ => 0

abbrev bufTy : (tb : Table) → Fin (tcTables nBuf tb) → BufTy
  | .hbm, ⟨0, _⟩ => ⟨S4x2304x1024, .f32⟩
  | .hbm, ⟨1, _⟩ => ⟨S4x2304x384, .bf16⟩
  | .hbm, ⟨2, _⟩ => ⟨S4x2304x256, .bf16⟩
  | .hbm, ⟨3, _⟩ => ⟨S4x2304x384, .bf16⟩
  | .hbm, ⟨4, _⟩ => ⟨S4x2304x4608, .bf16⟩
  | .hbm, ⟨5, _⟩ => ⟨S8x6144, .f32⟩
  | .hbm, ⟨6, _⟩ => ⟨S384x1024, .bf16⟩
  | .hbm, ⟨7, _⟩ => ⟨S256x1024, .bf16⟩
  | .hbm, ⟨8, _⟩ => ⟨S384x1024, .bf16⟩
  | .hbm, ⟨9, _⟩ => ⟨S1024x1024, .bf16⟩
  | .hbm, ⟨10, _⟩ => ⟨S4x2304x1024, .f32⟩
  | .hbm, ⟨11, _⟩ => ⟨S4x2304x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x384, .bf16⟩
  | .local _ .vmem, ⟨3, _⟩ => ⟨S1x256x384, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x384, .bf16⟩
  | .local _ .vmem, ⟨7, _⟩ => ⟨S1x256x384, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S1x256x512, .bf16⟩
  | .local _ .vmem, ⟨15, _⟩ => ⟨S1x256x512, .bf16⟩
  | .local _ .vmem, ⟨16, _⟩ => ⟨S1x256x512, .bf16⟩
  | .local _ .vmem, ⟨17, _⟩ => ⟨S1x256x512, .bf16⟩
  | .local _ .vmem, ⟨18, _⟩ => ⟨S1x256x512, .bf16⟩
  | .local _ .vmem, ⟨19, _⟩ => ⟨S1x256x512, .bf16⟩
  | .local _ .vmem, ⟨20, _⟩ => ⟨S8x6144, .f32⟩
  | .local _ .vmem, ⟨21, _⟩ => ⟨S384x1024, .bf16⟩
  | .local _ .vmem, ⟨22, _⟩ => ⟨S256x1024, .bf16⟩
  | .local _ .vmem, ⟨23, _⟩ => ⟨S384x1024, .bf16⟩
  | .local _ .vmem, ⟨24, _⟩ => ⟨S1024x1024, .bf16⟩
  | .local _ .vmem, ⟨25, _⟩ => ⟨S1x256x1024, .f32⟩
  | .local _ .vmem, ⟨26, _⟩ => ⟨S1x256x1024, .f32⟩
  | .local _ .vmem, ⟨27, _⟩ => ⟨S1x256x1024, .bf16⟩
  | .local _ .vmem, ⟨28, _⟩ => ⟨S1x256x1024, .bf16⟩
  | _, _ => ⟨S4x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨2, ![4, 9], ![false, false]⟩

def k0_off1 (i : grid0.Coords) : Fin 2 → Nat :=
  let arg1 : BitVec 32 := BitVec.ofNat 32 (i 1).val
  let c1_i32 : BitVec 32 := 1#32
  let v0 : BitVec 1 := Scalar.cmpi .slt arg1 c1_i32
  let c4_i32 : BitVec 32 := 4#32
  let arg0 : BitVec 32 := BitVec.ofNat 32 (i 0).val
  let v1 : BitVec 32 := Scalar.select v0 c4_i32 arg0
  let v49 : Index := Scalar.indexCast v1
  let c2048 : Index := 2048#32
  ![v49.toNat, 2048]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_6 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_7 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_8 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S8x6144 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S384x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S384x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference11Ideal.lean ====
abbrev S4x2304x1024 : Shape := ⟨3, ![4, 2304, 1024]⟩
abbrev S4x2304x384 : Shape := ⟨3, ![4, 2304, 384]⟩
abbrev S4x2304x256 : Shape := ⟨3, ![4, 2304, 256]⟩
abbrev S4x2304x4608 : Shape := ⟨3, ![4, 2304, 4608]⟩
abbrev S8x6144 : Shape := ⟨2, ![8, 6144]⟩
abbrev S384x1024 : Shape := ⟨2, ![384, 1024]⟩
abbrev S256x1024 : Shape := ⟨2, ![256, 1024]⟩
abbrev S1024x1024 : Shape := ⟨2, ![1024, 1024]⟩
abbrev S4x2304x3072 : Shape := ⟨3, ![4, 2304, 3072]⟩
abbrev S_ : Shape := ⟨0, ![]⟩
abbrev S4x1024 : Shape := ⟨2, ![4, 1024]⟩
abbrev S4x1x1024 : Shape := ⟨3, ![4, 1, 1024]⟩
abbrev S1x1024 : Shape := ⟨2, ![1, 1024]⟩
abbrev S1024 : Shape := ⟨1, ![1024]⟩
abbrev S4x256x1024 : Shape := ⟨3, ![4, 256, 1024]⟩
abbrev S1x1x1024 : Shape := ⟨3, ![1, 1, 1024]⟩
abbrev S4x2048x1024 : Shape := ⟨3, ![4, 2048, 1024]⟩

abbrev nBuf : Space → Nat
  | .hbm => 72
  | .vmem => 0
  | .smem => 0
  | _ => 0

abbrev bufTy : (tb : Table) → Fin (tcTables nBuf tb) → BufTy
  | .hbm, ⟨0, _⟩ => ⟨S4x2304x1024, .f32⟩
  | .hbm, ⟨1, _⟩ => ⟨S4x2304x384, .bf16⟩
  | .hbm, ⟨2, _⟩ => ⟨S4x2304x256, .bf16⟩
  | .hbm, ⟨3, _⟩ => ⟨S4x2304x384, .bf16⟩
  | .hbm, ⟨4, _⟩ => ⟨S4x2304x4608, .bf16⟩
  | .hbm, ⟨5, _⟩ => ⟨S8x6144, .f32⟩
  | .hbm, ⟨6, _⟩ => ⟨S384x1024, .bf16⟩
  | .hbm, ⟨7, _⟩ => ⟨S256x1024, .bf16⟩
  | .hbm, ⟨8, _⟩ => ⟨S384x1024, .bf16⟩
  | .hbm, ⟨9, _⟩ => ⟨S1024x1024, .bf16⟩
  | .hbm, ⟨10, _⟩ => ⟨S4x2304x4608, .f32⟩
  | .hbm, ⟨11, _⟩ => ⟨S4x2304x3072, .f32⟩
  | .hbm, ⟨12, _⟩ => ⟨S4x2304x1024, .f32⟩
  | .hbm, ⟨13, _⟩ => ⟨S4x2304x1024, .f32⟩
  | .hbm, ⟨14, _⟩ => ⟨S4x2304x1024, .f32⟩
  | .hbm, ⟨15, _⟩ => ⟨S4x2304x384, .f32⟩
  | .hbm, ⟨16, _⟩ => ⟨S4x2304x256, .f32⟩
  | .hbm, ⟨17, _⟩ => ⟨S4x2304x384, .f32⟩
  | .hbm, ⟨18, _⟩ => ⟨S384x1024, .f32⟩
  | .hbm, ⟨19, _⟩ => ⟨S256x1024, .f32⟩
  | .hbm, ⟨20, _⟩ => ⟨S384x1024, .f32⟩
  | .hbm, ⟨21, _⟩ => ⟨S1024x1024, .f32⟩
  | .hbm, ⟨22, _⟩ => ⟨S4x2304x1024, .f32⟩
  | .hbm, ⟨23, _⟩ => ⟨S4x2304x1024, .f32⟩
  | .hbm, ⟨24, _⟩ => ⟨S_, .f32⟩
  | .hbm, ⟨25, _⟩ => ⟨S4x2304x1024, .f32⟩
  | .hbm, ⟨26, _⟩ => ⟨S4x2304x1024, .f32⟩
  | .hbm, ⟨27, _⟩ => ⟨S_, .f32⟩
  | .hbm, ⟨28, _⟩ => ⟨S4x2304x1024, .f32⟩
  | .hbm, ⟨29, _⟩ => ⟨S4x2304x1024, .f32⟩
  | .hbm, ⟨30, _⟩ => ⟨S4x2304x1024, .f32⟩
  | .hbm, ⟨31, _⟩ => ⟨S4x2304x1024, .f32⟩
  | .hbm, ⟨32, _⟩ => ⟨S4x2304x1024, .f32⟩
  | .hbm, ⟨33, _⟩ => ⟨S4x2304x1024, .f32⟩
  | .hbm, ⟨34, _⟩ => ⟨S_, .f32⟩
  | .hbm, ⟨35, _⟩ => ⟨S4x2304x1024, .f32⟩
  | .hbm, ⟨36, _⟩ => ⟨S4x2304x1024, .f32⟩
  | .hbm, ⟨37, _⟩ => ⟨S_, .f32⟩
  | .hbm, ⟨38, _⟩ => ⟨S4x2304x1024, .f32⟩
  | .hbm, ⟨39, _⟩ => ⟨S4x2304x1024, .f32⟩
  | .hbm, ⟨40, _⟩ => ⟨S4x2304x1024, .f32⟩
  | .hbm, ⟨41, _⟩ => ⟨S4x2304x1024, .f32⟩
  | .hbm, ⟨42, _⟩ => ⟨S4x2304x1024, .f32⟩
  | .hbm, ⟨43, _⟩ => ⟨S4x2304x1024, .f32⟩
  | .hbm, ⟨44, _⟩ => ⟨S4x2304x1024, .f32⟩
  | .hbm, ⟨45, _⟩ => ⟨S_, .f32⟩
  | .hbm, ⟨46, _⟩ => ⟨S4x2304x1024, .f32⟩
  | .hbm, ⟨47, _⟩ => ⟨S4x2304x1024, .f32⟩
  | .hbm, ⟨48, _⟩ => ⟨S_, .f32⟩
  | .hbm, ⟨49, _⟩ => ⟨S4x2304x1024, .f32⟩
  | .hbm, ⟨50, _⟩ => ⟨S4x2304x1024, .f32⟩
  | .hbm, ⟨51, _⟩ => ⟨S4x2304x1024, .f32⟩
  | .hbm, ⟨52, _⟩ => ⟨S4x2304x1024, .f32⟩
  | .hbm, ⟨53, _⟩ => ⟨S4x2304x1024, .f32⟩
  | .hbm, ⟨54, _⟩ => ⟨S4x2304x1024, .f32⟩
  | .hbm, ⟨55, _⟩ => ⟨S4x1024, .f32⟩
  | .hbm, ⟨56, _⟩ => ⟨S4x1x1024, .f32⟩
  | .hbm, ⟨57, _⟩ => ⟨S1x1024, .f32⟩
  | .hbm, ⟨58, _⟩ => ⟨S1024, .f32⟩
  | .hbm, ⟨59, _⟩ => ⟨S4x256x1024, .f32⟩
  | .hbm, ⟨60, _⟩ => ⟨S4x256x1024, .f32⟩
  | .hbm, ⟨61, _⟩ => ⟨S1x1x1024, .f32⟩
  | .hbm, ⟨62, _⟩ => ⟨S4x256x1024, .f32⟩
  | .hbm, ⟨63, _⟩ => ⟨S4x256x1024, .f32⟩
  | .hbm, ⟨64, _⟩ => ⟨S4x256x1024, .f32⟩
  | .hbm, ⟨65, _⟩ => ⟨S4x2048x1024, .f32⟩
  | .hbm, ⟨66, _⟩ => ⟨S4x2048x1024, .f32⟩
  | .hbm, ⟨67, _⟩ => ⟨S4x2048x1024, .f32⟩
  | .hbm, ⟨68, _⟩ => ⟨S4x2048x1024, .f32⟩
  | .hbm, ⟨69, _⟩ => ⟨S4x2048x1024, .f32⟩
  | .hbm, ⟨70, _⟩ => ⟨S4x2304x1024, .f32⟩
  | .hbm, ⟨71, _⟩ => ⟨S4x2304x1024, .bf16⟩
  | _, _ => ⟨S4x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩

abbrev nD : Nat := 1
abbrev τ : Topo := Topo.v7x

variable {F : FTy → Type} [FloatOps F]
-- ==== Kernel12.lean ====
abbrev S4x2304x1024 : Shape := ⟨3, ![4, 2304, 1024]⟩
abbrev S4x2304x384 : Shape := ⟨3, ![4, 2304, 384]⟩
abbrev S4x2304x256 : Shape := ⟨3, ![4, 2304, 256]⟩
abbrev S4x2304x4608 : Shape := ⟨3, ![4, 2304, 4608]⟩
abbrev S8x6144 : Shape := ⟨2, ![8, 6144]⟩
abbrev S384x1024 : Shape := ⟨2, ![384, 1024]⟩
abbrev S256x1024 : Shape := ⟨2, ![256, 1024]⟩
abbrev S1024x1024 : Shape := ⟨2, ![1024, 1024]⟩
abbrev S1x256x1024 : Shape := ⟨3, ![1, 256, 1024]⟩
abbrev S1x256x384 : Shape := ⟨3, ![1, 256, 384]⟩
abbrev S1x256x256 : Shape := ⟨3, ![1, 256, 256]⟩
abbrev S1x256x512 : Shape := ⟨3, ![1, 256, 512]⟩
abbrev S256x512 : Shape := ⟨2, ![256, 512]⟩
abbrev S256x384 : Shape := ⟨2, ![256, 384]⟩
abbrev S256x256 : Shape := ⟨2, ![256, 256]⟩
abbrev S1x1024 : Shape := ⟨2, ![1, 1024]⟩

abbrev nBuf : Space → Nat
  | .hbm => 12
  | .vmem => 29
  | .smem => 0
  | _ => 0

abbrev bufTy : (tb : Table) → Fin (tcTables nBuf tb) → BufTy
  | .hbm, ⟨0, _⟩ => ⟨S4x2304x1024, .f32⟩
  | .hbm, ⟨1, _⟩ => ⟨S4x2304x384, .bf16⟩
  | .hbm, ⟨2, _⟩ => ⟨S4x2304x256, .bf16⟩
  | .hbm, ⟨3, _⟩ => ⟨S4x2304x384, .bf16⟩
  | .hbm, ⟨4, _⟩ => ⟨S4x2304x4608, .bf16⟩
  | .hbm, ⟨5, _⟩ => ⟨S8x6144, .f32⟩
  | .hbm, ⟨6, _⟩ => ⟨S384x1024, .bf16⟩
  | .hbm, ⟨7, _⟩ => ⟨S256x1024, .bf16⟩
  | .hbm, ⟨8, _⟩ => ⟨S384x1024, .bf16⟩
  | .hbm, ⟨9, _⟩ => ⟨S1024x1024, .bf16⟩
  | .hbm, ⟨10, _⟩ => ⟨S4x2304x1024, .f32⟩
  | .hbm, ⟨11, _⟩ => ⟨S4x2304x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x384, .bf16⟩
  | .local _ .vmem, ⟨3, _⟩ => ⟨S1x256x384, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x384, .bf16⟩
  | .local _ .vmem, ⟨7, _⟩ => ⟨S1x256x384, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S1x256x512, .bf16⟩
  | .local _ .vmem, ⟨15, _⟩ => ⟨S1x256x512, .bf16⟩
  | .local _ .vmem, ⟨16, _⟩ => ⟨S1x256x512, .bf16⟩
  | .local _ .vmem, ⟨17, _⟩ => ⟨S1x256x512, .bf16⟩
  | .local _ .vmem, ⟨18, _⟩ => ⟨S1x256x512, .bf16⟩
  | .local _ .vmem, ⟨19, _⟩ => ⟨S1x256x512, .bf16⟩
  | .local _ .vmem, ⟨20, _⟩ => ⟨S8x6144, .f32⟩
  | .local _ .vmem, ⟨21, _⟩ => ⟨S384x1024, .bf16⟩
  | .local _ .vmem, ⟨22, _⟩ => ⟨S256x1024, .bf16⟩
  | .local _ .vmem, ⟨23, _⟩ => ⟨S384x1024, .bf16⟩
  | .local _ .vmem, ⟨24, _⟩ => ⟨S1024x1024, .bf16⟩
  | .local _ .vmem, ⟨25, _⟩ => ⟨S1x256x1024, .f32⟩
  | .local _ .vmem, ⟨26, _⟩ => ⟨S1x256x1024, .f32⟩
  | .local _ .vmem, ⟨27, _⟩ => ⟨S1x256x1024, .bf16⟩
  | .local _ .vmem, ⟨28, _⟩ => ⟨S1x256x1024, .bf16⟩
  | _, _ => ⟨S4x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨2, ![4, 9], ![false, false]⟩

def k0_cond1 (i : grid0.Coords) : BitVec 1 :=
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg1 : BitVec 32 := BitVec.ofNat 32 (i 1).val
  let c1_i32_2 : BitVec 32 := 1#32
  let v6 : BitVec 1 := Scalar.cmpi .slt arg1 c1_i32_2
  let c4_i32 : BitVec 32 := 4#32
  let arg0 : BitVec 32 := BitVec.ofNat 32 (i 0).val
  let v7 : BitVec 32 := Scalar.select v6 c4_i32 arg0
  let v55 : Index := Scalar.indexCast v7
  let c2048 : Index := 2048#32
  ![v55.toNat, 2048]
def k0_cond2 (i : grid0.Coords) : BitVec 1 :=
  let arg1 : BitVec 32 := BitVec.ofNat 32 (i 1).val
  let c1_i32_0 : BitVec 32 := 1#32
  let v3 : BitVec 1 := Scalar.cmpi .slt arg1 c1_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_6 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_7 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_8 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S8x6144 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S384x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S384x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference12Ideal.lean ====
abbrev S4x2304x1024 : Shape := ⟨3, ![4, 2304, 1024]⟩
abbrev S4x2304x384 : Shape := ⟨3, ![4, 2304, 384]⟩
abbrev S4x2304x256 : Shape := ⟨3, ![4, 2304, 256]⟩
abbrev S4x2304x4608 : Shape := ⟨3, ![4, 2304, 4608]⟩
abbrev S8x6144 : Shape := ⟨2, ![8, 6144]⟩
abbrev S384x1024 : Shape := ⟨2, ![384, 1024]⟩
abbrev S256x1024 : Shape := ⟨2, ![256, 1024]⟩
abbrev S1024x1024 : Shape := ⟨2, ![1024, 1024]⟩
abbrev S4x2304x3072 : Shape := ⟨3, ![4, 2304, 3072]⟩
abbrev S_ : Shape := ⟨0, ![]⟩
abbrev S4x1024 : Shape := ⟨2, ![4, 1024]⟩
abbrev S4x1x1024 : Shape := ⟨3, ![4, 1, 1024]⟩
abbrev S4x256x1024 : Shape := ⟨3, ![4, 256, 1024]⟩
abbrev S4x2048x1024 : Shape := ⟨3, ![4, 2048, 1024]⟩

abbrev nBuf : Space → Nat
  | .hbm => 69
  | .vmem => 0
  | .smem => 0
  | _ => 0

abbrev bufTy : (tb : Table) → Fin (tcTables nBuf tb) → BufTy
  | .hbm, ⟨0, _⟩ => ⟨S4x2304x1024, .f32⟩
  | .hbm, ⟨1, _⟩ => ⟨S4x2304x384, .bf16⟩
  | .hbm, ⟨2, _⟩ => ⟨S4x2304x256, .bf16⟩
  | .hbm, ⟨3, _⟩ => ⟨S4x2304x384, .bf16⟩
  | .hbm, ⟨4, _⟩ => ⟨S4x2304x4608, .bf16⟩
  | .hbm, ⟨5, _⟩ => ⟨S8x6144, .f32⟩
  | .hbm, ⟨6, _⟩ => ⟨S384x1024, .bf16⟩
  | .hbm, ⟨7, _⟩ => ⟨S256x1024, .bf16⟩
  | .hbm, ⟨8, _⟩ => ⟨S384x1024, .bf16⟩
  | .hbm, ⟨9, _⟩ => ⟨S1024x1024, .bf16⟩
  | .hbm, ⟨10, _⟩ => ⟨S4x2304x4608, .f32⟩
  | .hbm, ⟨11, _⟩ => ⟨S4x2304x3072, .f32⟩
  | .hbm, ⟨12, _⟩ => ⟨S4x2304x1024, .f32⟩
  | .hbm, ⟨13, _⟩ => ⟨S4x2304x1024, .f32⟩
  | .hbm, ⟨14, _⟩ => ⟨S4x2304x1024, .f32⟩
  | .hbm, ⟨15, _⟩ => ⟨S4x2304x384, .f32⟩
  | .hbm, ⟨16, _⟩ => ⟨S4x2304x256, .f32⟩
  | .hbm, ⟨17, _⟩ => ⟨S4x2304x384, .f32⟩
  | .hbm, ⟨18, _⟩ => ⟨S384x1024, .f32⟩
  | .hbm, ⟨19, _⟩ => ⟨S256x1024, .f32⟩
  | .hbm, ⟨20, _⟩ => ⟨S384x1024, .f32⟩
  | .hbm, ⟨21, _⟩ => ⟨S1024x1024, .f32⟩
  | .hbm, ⟨22, _⟩ => ⟨S4x2304x1024, .f32⟩
  | .hbm, ⟨23, _⟩ => ⟨S4x2304x1024, .f32⟩
  | .hbm, ⟨24, _⟩ => ⟨S_, .f32⟩
  | .hbm, ⟨25, _⟩ => ⟨S4x2304x1024, .f32⟩
  | .hbm, ⟨26, _⟩ => ⟨S4x2304x1024, .f32⟩
  | .hbm, ⟨27, _⟩ => ⟨S_, .f32⟩
  | .hbm, ⟨28, _⟩ => ⟨S4x2304x1024, .f32⟩
  | .hbm, ⟨29, _⟩ => ⟨S4x2304x1024, .f32⟩
  | .hbm, ⟨30, _⟩ => ⟨S4x2304x1024, .f32⟩
  | .hbm, ⟨31, _⟩ => ⟨S4x2304x1024, .f32⟩
  | .hbm, ⟨32, _⟩ => ⟨S4x2304x1024, .f32⟩
  | .hbm, ⟨33, _⟩ => ⟨S4x2304x1024, .f32⟩
  | .hbm, ⟨34, _⟩ => ⟨S_, .f32⟩
  | .hbm, ⟨35, _⟩ => ⟨S4x2304x1024, .f32⟩
  | .hbm, ⟨36, _⟩ => ⟨S4x2304x1024, .f32⟩
  | .hbm, ⟨37, _⟩ => ⟨S_, .f32⟩
  | .hbm, ⟨38, _⟩ => ⟨S4x2304x1024, .f32⟩
  | .hbm, ⟨39, _⟩ => ⟨S4x2304x1024, .f32⟩
  | .hbm, ⟨40, _⟩ => ⟨S4x2304x1024, .f32⟩
  | .hbm, ⟨41, _⟩ => ⟨S4x2304x1024, .f32⟩
  | .hbm, ⟨42, _⟩ => ⟨S4x2304x1024, .f32⟩
  | .hbm, ⟨43, _⟩ => ⟨S4x2304x1024, .f32⟩
  | .hbm, ⟨44, _⟩ => ⟨S4x2304x1024, .f32⟩
  | .hbm, ⟨45, _⟩ => ⟨S_, .f32⟩
  | .hbm, ⟨46, _⟩ => ⟨S4x2304x1024, .f32⟩
  | .hbm, ⟨47, _⟩ => ⟨S4x2304x1024, .f32⟩
  | .hbm, ⟨48, _⟩ => ⟨S_, .f32⟩
  | .hbm, ⟨49, _⟩ => ⟨S4x2304x1024, .f32⟩
  | .hbm, ⟨50, _⟩ => ⟨S4x2304x1024, .f32⟩
  | .hbm, ⟨51, _⟩ => ⟨S4x2304x1024, .f32⟩
  | .hbm, ⟨52, _⟩ => ⟨S4x2304x1024, .f32⟩
  | .hbm, ⟨53, _⟩ => ⟨S4x2304x1024, .f32⟩
  | .hbm, ⟨54, _⟩ => ⟨S4x2304x1024, .f32⟩
  | .hbm, ⟨55, _⟩ => ⟨S4x1024, .f32⟩
  | .hbm, ⟨56, _⟩ => ⟨S4x1x1024, .f32⟩
  | .hbm, ⟨57, _⟩ => ⟨S4x256x1024, .f32⟩
  | .hbm, ⟨58, _⟩ => ⟨S4x2048x1024, .f32⟩
  | .hbm, ⟨59, _⟩ => ⟨S4x2048x1024, .f32⟩
  | .hbm, ⟨60, _⟩ => ⟨S4x2048x1024, .f32⟩
  | .hbm, ⟨61, _⟩ => ⟨S4x2048x1024, .f32⟩
  | .hbm, ⟨62, _⟩ => ⟨S4x2048x1024, .f32⟩
  | .hbm, ⟨63, _⟩ => ⟨S4x2304x1024, .f32⟩
  | .hbm, ⟨64, _⟩ => ⟨S4x2048x1024, .f32⟩
  | .hbm, ⟨65, _⟩ => ⟨S4x2048x1024, .bf16⟩
  | .hbm, ⟨66, _⟩ => ⟨S_, .bf16⟩
  | .hbm, ⟨67, _⟩ => ⟨S4x256x1024, .bf16⟩
  | .hbm, ⟨68, _⟩ => ⟨S4x2304x1024, .bf16⟩
  | _, _ => ⟨S4x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_5 : Ref sig .tc := ⟨.hbm, 66, rfl⟩
abbrev main_v50 : Ref sig .tc := ⟨.hbm, 67, rfl⟩
abbrev main_v51 : Ref sig .tc := ⟨.hbm, 68, rfl⟩

abbrev nD : Nat := 1
abbrev τ : Topo := Topo.v7x

variable {F : FTy → Type} [FloatOps F]
-- ==== Kernel13.lean ====
abbrev S4x2304x1024 : Shape := ⟨3, ![4, 2304, 1024]⟩
abbrev S4x2304x384 : Shape := ⟨3, ![4, 2304, 384]⟩
abbrev S4x2304x256 : Shape := ⟨3, ![4, 2304, 256]⟩
abbrev S4x2304x4608 : Shape := ⟨3, ![4, 2304, 4608]⟩
abbrev S8x6144 : Shape := ⟨2, ![8, 6144]⟩
abbrev S384x1024 : Shape := ⟨2, ![384, 1024]⟩
abbrev S256x1024 : Shape := ⟨2, ![256, 1024]⟩
abbrev S1024x1024 : Shape := ⟨2, ![1024, 1024]⟩
abbrev S4x2304x3072 : Shape := ⟨3, ![4, 2304, 3072]⟩
abbrev S_ : Shape := ⟨0, ![]⟩
abbrev S4x2048x1024 : Shape := ⟨3, ![4, 2048, 1024]⟩
abbrev S4x256x1024 : Shape := ⟨3, ![4, 256, 1024]⟩
abbrev S8x1024 : Shape := ⟨2, ![8, 1024]⟩
abbrev S1x256x1024 : Shape := ⟨3, ![1, 256, 1024]⟩
abbrev S1x256x384 : Shape := ⟨3, ![1, 256, 384]⟩
abbrev S1x256x256 : Shape := ⟨3, ![1, 256, 256]⟩
abbrev S1x256x512 : Shape := ⟨3, ![1, 256, 512]⟩
abbrev S1x256x3072 : Shape := ⟨3, ![1, 256, 3072]⟩
abbrev S1x1024 : Shape := ⟨2, ![1, 1024]⟩
abbrev S1024 : Shape := ⟨1, ![1024]⟩
abbrev S256x512 : Shape := ⟨2, ![256, 512]⟩
abbrev S256x384 : Shape := ⟨2, ![256, 384]⟩
abbrev S256x256 : Shape := ⟨2, ![256, 256]⟩
abbrev S256x3072 : Shape := ⟨2, ![256, 3072]⟩

abbrev nBuf : Space → Nat
  | .hbm => 70
  | .vmem => 46
  | .smem => 0
  | _ => 0

abbrev bufTy : (tb : Table) → Fin (tcTables nBuf tb) → BufTy
  | .hbm, ⟨0, _⟩ => ⟨S4x2304x1024, .f32⟩
  | .hbm, ⟨1, _⟩ => ⟨S4x2304x384, .bf16⟩
  | .hbm, ⟨2, _⟩ => ⟨S4x2304x256, .bf16⟩
  | .hbm, ⟨3, _⟩ => ⟨S4x2304x384, .bf16⟩
  | .hbm, ⟨4, _⟩ => ⟨S4x2304x4608, .bf16⟩
  | .hbm, ⟨5, _⟩ => ⟨S8x6144, .f32⟩
  | .hbm, ⟨6, _⟩ => ⟨S384x1024, .bf16⟩
  | .hbm, ⟨7, _⟩ => ⟨S256x1024, .bf16⟩
  | .hbm, ⟨8, _⟩ => ⟨S384x1024, .bf16⟩
  | .hbm, ⟨9, _⟩ => ⟨S1024x1024, .bf16⟩
  | .hbm, ⟨10, _⟩ => ⟨S4x2304x4608, .f32⟩
  | .hbm, ⟨11, _⟩ => ⟨S4x2304x3072, .f32⟩
  | .hbm, ⟨12, _⟩ => ⟨S4x2304x1024, .f32⟩
  | .hbm, ⟨13, _⟩ => ⟨S4x2304x1024, .f32⟩
  | .hbm, ⟨14, _⟩ => ⟨S4x2304x1024, .f32⟩
  | .hbm, ⟨15, _⟩ => ⟨S4x2304x384, .f32⟩
  | .hbm, ⟨16, _⟩ => ⟨S4x2304x256, .f32⟩
  | .hbm, ⟨17, _⟩ => ⟨S4x2304x384, .f32⟩
  | .hbm, ⟨18, _⟩ => ⟨S384x1024, .f32⟩
  | .hbm, ⟨19, _⟩ => ⟨S256x1024, .f32⟩
  | .hbm, ⟨20, _⟩ => ⟨S384x1024, .f32⟩
  | .hbm, ⟨21, _⟩ => ⟨S1024x1024, .f32⟩
  | .hbm, ⟨22, _⟩ => ⟨S4x2304x1024, .f32⟩
  | .hbm, ⟨23, _⟩ => ⟨S4x2304x1024, .f32⟩
  | .hbm, ⟨24, _⟩ => ⟨S_, .f32⟩
  | .hbm, ⟨25, _⟩ => ⟨S4x2304x1024, .f32⟩
  | .hbm, ⟨26, _⟩ => ⟨S4x2304x1024, .f32⟩
  | .hbm, ⟨27, _⟩ => ⟨S_, .f32⟩
  | .hbm, ⟨28, _⟩ => ⟨S4x2304x1024, .f32⟩
  | .hbm, ⟨29, _⟩ => ⟨S4x2304x1024, .f32⟩
  | .hbm, ⟨30, _⟩ => ⟨S4x2304x1024, .f32⟩
  | .hbm, ⟨31, _⟩ => ⟨S4x2304x1024, .f32⟩
  | .hbm, ⟨32, _⟩ => ⟨S4x2304x1024, .f32⟩
  | .hbm, ⟨33, _⟩ => ⟨S4x2304x1024, .f32⟩
  | .hbm, ⟨34, _⟩ => ⟨S_, .f32⟩
  | .hbm, ⟨35, _⟩ => ⟨S4x2304x1024, .f32⟩
  | .hbm, ⟨36, _⟩ => ⟨S4x2304x1024, .f32⟩
  | .hbm, ⟨37, _⟩ => ⟨S_, .f32⟩
  | .hbm, ⟨38, _⟩ => ⟨S4x2304x1024, .f32⟩
  | .hbm, ⟨39, _⟩ => ⟨S4x2304x1024, .f32⟩
  | .hbm, ⟨40, _⟩ => ⟨S4x2304x1024, .f32⟩
  | .hbm, ⟨41, _⟩ => ⟨S4x2304x1024, .f32⟩
  | .hbm, ⟨42, _⟩ => ⟨S4x2304x1024, .f32⟩
  | .hbm, ⟨43, _⟩ => ⟨S4x2304x1024, .f32⟩
  | .hbm, ⟨44, _⟩ => ⟨S4x2304x1024, .f32⟩
  | .hbm, ⟨45, _⟩ => ⟨S_, .f32⟩
  | .hbm, ⟨46, _⟩ => ⟨S4x2304x1024, .f32⟩
  | .hbm, ⟨47, _⟩ => ⟨S4x2304x1024, .f32⟩
  | .hbm, ⟨48, _⟩ => ⟨S_, .f32⟩
  | .hbm, ⟨49, _⟩ => ⟨S4x2304x1024, .f32⟩
  | .hbm, ⟨50, _⟩ => ⟨S4x2304x1024, .f32⟩
  | .hbm, ⟨51, _⟩ => ⟨S4x2304x1024, .f32⟩
  | .hbm, ⟨52, _⟩ => ⟨S4x2304x1024, .f32⟩
  | .hbm, ⟨53, _⟩ => ⟨S4x2304x1024, .f32⟩
  | .hbm, ⟨54, _⟩ => ⟨S4x2304x1024, .f32⟩
  | .hbm, ⟨55, _⟩ => ⟨S4x2304x1024, .bf16⟩
  | .hbm, ⟨56, _⟩ => ⟨S4x2048x1024, .bf16⟩
  | .hbm, ⟨57, _⟩ => ⟨S_, .bf16⟩
  | .hbm, ⟨58, _⟩ => ⟨S4x256x1024, .bf16⟩
  | .hbm, ⟨59, _⟩ => ⟨S4x2304x1024, .bf16⟩
  | .hbm, ⟨60, _⟩ => ⟨S4x2304x384, .bf16⟩
  | .hbm, ⟨61, _⟩ => ⟨S4x2304x256, .bf16⟩
  | .hbm, ⟨62, _⟩ => ⟨S4x2304x384, .bf16⟩
  | .hbm, ⟨63, _⟩ => ⟨S4x2304x1024, .bf16⟩
  | .hbm, ⟨64, _⟩ => ⟨S4x2304x1024, .bf16⟩
  | .hbm, ⟨65, _⟩ => ⟨S4x2304x1024, .bf16⟩
  | .hbm, ⟨66, _⟩ => ⟨S4x2304x1024, .bf16⟩
  | .hbm, ⟨67, _⟩ => ⟨S4x2304x1024, .bf16⟩
  | .hbm, ⟨68, _⟩ => ⟨S4x2304x3072, .bf16⟩
  | .hbm, ⟨69, _⟩ => ⟨S8x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .bf16⟩
  | .local _ .vmem, ⟨3, _⟩ => ⟨S1x256x1024, .bf16⟩
  | .local _ .vmem, ⟨4, _⟩ => ⟨S1x256x384, .bf16⟩
  | .local _ .vmem, ⟨5, _⟩ => ⟨S1x256x384, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x384, .bf16⟩
  | .local _ .vmem, ⟨9, _⟩ => ⟨S1x256x384, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S1x256x512, .bf16⟩
  | .local _ .vmem, ⟨15, _⟩ => ⟨S1x256x512, .bf16⟩
  | .local _ .vmem, ⟨16, _⟩ => ⟨S1x256x512, .bf16⟩
  | .local _ .vmem, ⟨17, _⟩ => ⟨S1x256x512, .bf16⟩
  | .local _ .vmem, ⟨18, _⟩ => ⟨S1x256x512, .bf16⟩
  | .local _ .vmem, ⟨19, _⟩ => ⟨S1x256x512, .bf16⟩
  | .local _ .vmem, ⟨20, _⟩ => ⟨S1x256x512, .bf16⟩
  | .local _ .vmem, ⟨21, _⟩ => ⟨S1x256x512, .bf16⟩
  | .local _ .vmem, ⟨22, _⟩ => ⟨S8x6144, .f32⟩
  | .local _ .vmem, ⟨23, _⟩ => ⟨S384x1024, .bf16⟩
  | .local _ .vmem, ⟨24, _⟩ => ⟨S256x1024, .bf16⟩
  | .local _ .vmem, ⟨25, _⟩ => ⟨S384x1024, .bf16⟩
  | .local _ .vmem, ⟨26, _⟩ => ⟨S1024x1024, .bf16⟩
  | .local _ .vmem, ⟨27, _⟩ => ⟨S1x256x384, .bf16⟩
  | .local _ .vmem, ⟨28, _⟩ => ⟨S1x256x384, .bf16⟩
  | .local _ .vmem, ⟨29, _⟩ => ⟨S1x256x256, .bf16⟩
  | .local _ .vmem, ⟨30, _⟩ => ⟨S1x256x256, .bf16⟩
  | .local _ .vmem, ⟨31, _⟩ => ⟨S1x256x384, .bf16⟩
  | .local _ .vmem, ⟨32, _⟩ => ⟨S1x256x384, .bf16⟩
  | .local _ .vmem, ⟨33, _⟩ => ⟨S1x256x1024, .bf16⟩
  | .local _ .vmem, ⟨34, _⟩ => ⟨S1x256x1024, .bf16⟩
  | .local _ .vmem, ⟨35, _⟩ => ⟨S1x256x1024, .bf16⟩
  | .local _ .vmem, ⟨36, _⟩ => ⟨S1x256x1024, .bf16⟩
  | .local _ .vmem, ⟨37, _⟩ => ⟨S1x256x1024, .bf16⟩
  | .local _ .vmem, ⟨38, _⟩ => ⟨S1x256x1024, .bf16⟩
  | .local _ .vmem, ⟨39, _⟩ => ⟨S1x256x1024, .bf16⟩
  | .local _ .vmem, ⟨40, _⟩ => ⟨S1x256x1024, .bf16⟩
  | .local _ .vmem, ⟨41, _⟩ => ⟨S1x256x1024, .bf16⟩
  | .local _ .vmem, ⟨42, _⟩ => ⟨S1x256x1024, .bf16⟩
  | .local _ .vmem, ⟨43, _⟩ => ⟨S1x256x3072, .bf16⟩
  | .local _ .vmem, ⟨44, _⟩ => ⟨S1x256x3072, .bf16⟩
  | .local _ .vmem, ⟨45, _⟩ => ⟨S8x1024, .f32⟩
  | _, _ => ⟨S4x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_5 : Ref sig .tc := ⟨.hbm, 57, rfl⟩
abbrev main_v41 : Ref sig .tc := ⟨.hbm, 58, rfl⟩
abbrev main_v42 : Ref sig .tc := ⟨.hbm, 59, rfl⟩
abbrev main_v43_0 : Ref sig .tc := ⟨.hbm, 60, rfl⟩
abbrev main_v43_1 : Ref sig .tc := ⟨.hbm, 61, rfl⟩
abbrev main_v43_2 : Ref sig .tc := ⟨.hbm, 62, rfl⟩
abbrev main_v43_3 : Ref sig .tc := ⟨.hbm, 63, rfl⟩
abbrev main_v43_4 : Ref sig .tc := ⟨.hbm, 64, rfl⟩
abbrev main_v43_5 : Ref sig .tc := ⟨.hbm, 65, rfl⟩
abbrev main_v43_6 : Ref sig .tc := ⟨.hbm, 66, rfl⟩
abbrev main_v43_7 : Ref sig .tc := ⟨.hbm, 67, rfl⟩
abbrev main_v43_8 : Ref sig .tc := ⟨.hbm, 68, rfl⟩
abbrev main_v43_9 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_stg21_0 : Ref sig .tc := ⟨.vmem, 37, rfl⟩
abbrev cc0_stg21_1 : Ref sig .tc := ⟨.vmem, 38, rfl⟩
abbrev cc0_stg22_0 : Ref sig .tc := ⟨.vmem, 39, rfl⟩
abbrev cc0_stg22_1 : Ref sig .tc := ⟨.vmem, 40, rfl⟩
abbrev cc0_stg23_0 : Ref sig .tc := ⟨.vmem, 41, rfl⟩
abbrev cc0_stg23_1 : Ref sig .tc := ⟨.vmem, 42, rfl⟩
abbrev cc0_stg24_0 : Ref sig .tc := ⟨.vmem, 43, rfl⟩
abbrev cc0_stg24_1 : Ref sig .tc := ⟨.vmem, 44, rfl⟩
abbrev cc0_stg25_0 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36
abbrev cc0_sem21_0 : DmaSem sig := 37
abbrev cc0_sem21_1 : DmaSem sig := 38
abbrev cc0_sem22_0 : DmaSem sig := 39
abbrev cc0_sem22_1 : DmaSem sig := 40
abbrev cc0_sem23_0 : DmaSem sig := 41
abbrev cc0_sem23_1 : DmaSem sig := 42
abbrev cc0_sem24_0 : DmaSem sig := 43
abbrev cc0_sem24_1 : DmaSem sig := 44
abbrev cc0_sem25_0 : DmaSem sig := 45

abbrev nD : Nat := 1
abbrev τ : Topo := Topo.v7x

variable {F : FTy → Type} [FloatOps F]

abbrev grid0 : Pipeline.Grid := ⟨2, ![4, 9], ![false, false]⟩

def k0_cond2 (i : grid0.Coords) : BitVec 1 :=
  let arg1 : BitVec 32 := BitVec.ofNat 32 (i 1).val
  let c1_i32 : BitVec 32 := 1#32
  let v5 : BitVec 1 := Scalar.cmpi .sge arg1 c1_i32
  let v6 : BitVec 32 := Scalar.extui v5
  let c0_i32_2 : BitVec 32 := 0#32
  let v7 : BitVec 1 := Scalar.cmpi .ne v6 c0_i32_2
  v7

def k0_off1 (i : grid0.Coords) : Fin 2 → Nat :=
  let arg1 : BitVec 32 := BitVec.ofNat 32 (i 1).val
  let c1_i32_5 : BitVec 32 := 1#32
  let v11 : BitVec 1 := Scalar.cmpi .slt arg1 c1_i32_5
  let c4_i32 : BitVec 32 := 4#32
  let arg0 : BitVec 32 := BitVec.ofNat 32 (i 0).val
  let v12 : BitVec 32 := Scalar.select v11 c4_i32 arg0
  let v15 : Index := Scalar.indexCast v12
  let c0_8 : Index := 0#32
  ![v15.toNat, 0]
def k0_off2 (i : grid0.Coords) : Fin 2 → Nat :=
  let arg1 : BitVec 32 := BitVec.ofNat 32 (i 1).val
  let c1_i32_5 : BitVec 32 := 1#32
  let v11 : BitVec 1 := Scalar.cmpi .slt arg1 c1_i32_5
  let c4_i32 : BitVec 32 := 4#32
  let arg0 : BitVec 32 := BitVec.ofNat 32 (i 0).val
  let v12 : BitVec 32 := Scalar.select v11 c4_i32 arg0
  let v27 : Index := Scalar.indexCast v12
  let c2048 : Index := 2048#32
  ![v27.toNat, 2048]
def k0_cond3 (i : grid0.Coords) : BitVec 1 :=
  let arg1 : BitVec 32 := BitVec.ofNat 32 (i 1).val
  let c1_i32_3 : BitVec 32 := 1#32
  let v8 : BitVec 1 := Scalar.cmpi .slt arg1 c1_i32_3
  let v9 : BitVec 32 := Scalar.extui v8
  let c0_i32_4 : BitVec 32 := 0#32
  let v10 : BitVec 1 := Scalar.cmpi .ne v9 c0_i32_4
  v10

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_7 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_8 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_9 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_10 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_25 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S8x6144 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S384x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S384x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x256x384 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x384 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x256x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x256x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x256x3072 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 1 → Memref sig .tc .vmem S8x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false, false]
-- ==== Reference13Ideal.lean ====
abbrev S4x2304x1024 : Shape := ⟨3, ![4, 2304, 1024]⟩
abbrev S4x2304x384 : Shape := ⟨3, ![4, 2304, 384]⟩
abbrev S4x2304x256 : Shape := ⟨3, ![4, 2304, 256]⟩
abbrev S4x2304x4608 : Shape := ⟨3, ![4, 2304, 4608]⟩
abbrev S8x6144 : Shape := ⟨2, ![8, 6144]⟩
abbrev S384x1024 : Shape := ⟨2, ![384, 1024]⟩
abbrev S256x1024 : Shape := ⟨2, ![256, 1024]⟩
abbrev S1024x1024 : Shape := ⟨2, ![1024, 1024]⟩
abbrev S4x2304x3072 : Shape := ⟨3, ![4, 2304, 3072]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S4x1x1024 : Shape := ⟨3, ![4, 1, 1024]⟩
abbrev S4x256x1024 : Shape := ⟨3, ![4, 256, 1024]⟩
abbrev S4x2048x1024 : Shape := ⟨3, ![4, 2048, 1024]⟩
abbrev S4x2048x384 : Shape := ⟨3, ![4, 2048, 384]⟩
abbrev S4x256x384 : Shape := ⟨3, ![4, 256, 384]⟩
abbrev S4x2048x256 : Shape := ⟨3, ![4, 2048, 256]⟩
abbrev S4x256x256 : Shape := ⟨3, ![4, 256, 256]⟩
abbrev S4x2048x3072 : Shape := ⟨3, ![4, 2048, 3072]⟩
abbrev S4x256x3072 : Shape := ⟨3, ![4, 256, 3072]⟩
abbrev S8x1024 : Shape := ⟨2, ![8, 1024]⟩

abbrev nBuf : Space → Nat
  | .hbm => 155
  | .vmem => 0
  | .smem => 0
  | _ => 0

abbrev hbmTy0_0 (i : Nat) : BufTy := match i % 128 with
  | 0 => ⟨S4x2304x1024, .f32⟩
  | 1 => ⟨S4x2304x384, .bf16⟩
  | 2 => ⟨S4x2304x256, .bf16⟩
  | 3 => ⟨S4x2304x384, .bf16⟩
  | 4 => ⟨S4x2304x4608, .bf16⟩
  | 5 => ⟨S8x6144, .f32⟩
  | 6 => ⟨S384x1024, .bf16⟩
  | 7 => ⟨S256x1024, .bf16⟩
  | 8 => ⟨S384x1024, .bf16⟩
  | 9 => ⟨S1024x1024, .bf16⟩
  | 10 => ⟨S4x2304x384, .f32⟩
  | 11 => ⟨S4x2304x256, .f32⟩
  | 12 => ⟨S4x2304x384, .f32⟩
  | 13 => ⟨S384x1024, .f32⟩
  | 14 => ⟨S256x1024, .f32⟩
  | 15 => ⟨S384x1024, .f32⟩
  | 16 => ⟨S1024x1024, .f32⟩
  | 17 => ⟨S4x2304x4608, .f32⟩
  | 18 => ⟨S4x2304x3072, .f32⟩
  | 19 => ⟨S4x2304x1024, .f32⟩
  | 20 => ⟨S4x2304x1024, .f32⟩
  | 21 => ⟨S4x2304x1024, .f32⟩
  | 22 => ⟨S4x1024, .f32⟩
  | 23 => ⟨S1x1024, .f32⟩
  | 24 => ⟨S1024, .f32⟩
  | 25 => ⟨S4x2304x1024, .f32⟩
  | 26 => ⟨S4x2304x1024, .f32⟩
  | 27 => ⟨S4x2304x1024, .f32⟩
  | 28 => ⟨S4x2304x1024, .f32⟩
  | 29 => ⟨S4x2304x1024, .f32⟩
  | 30 => ⟨S_, .f32⟩
  | 31 => ⟨S4x2304x1024, .f32⟩
  | 32 => ⟨S4x2304x1024, .f32⟩
  | 33 => ⟨S_, .f32⟩
  | 34 => ⟨S4x2304x1024, .f32⟩
  | 35 => ⟨S4x2304x1024, .f32⟩
  | 36 => ⟨S_, .f32⟩
  | 37 => ⟨S4x2304x1024, .f32⟩
  | 38 => ⟨S4x2304x1024, .f32⟩
  | 39 => ⟨S4x2304x1024, .f32⟩
  | 40 => ⟨S4x2304x1024, .f32⟩
  | 41 => ⟨S4x2304x1024, .f32⟩
  | 42 => ⟨S4x2304x1024, .f32⟩
  | 43 => ⟨S_, .f32⟩
  | 44 => ⟨S4x2304x1024, .f32⟩
  | 45 => ⟨S4x2304x1024, .f32⟩
  | 46 => ⟨S_, .f32⟩
  | 47 => ⟨S4x2304x1024, .f32⟩
  | 48 => ⟨S4x2304x1024, .f32⟩
  | 49 => ⟨S_, .f32⟩
  | 50 => ⟨S4x2304x1024, .f32⟩
  | 51 => ⟨S4x2304x1024, .f32⟩
  | 52 => ⟨S4x2304x1024, .f32⟩
  | 53 => ⟨S4x2304x1024, .f32⟩
  | 54 => ⟨S4x2304x1024, .f32⟩
  | 55 => ⟨S4x2304x1024, .f32⟩
  | 56 => ⟨S4x2304x1024, .f32⟩
  | 57 => ⟨S_, .f32⟩
  | 58 => ⟨S4x2304x1024, .f32⟩
  | 59 => ⟨S4x2304x1024, .f32⟩
  | 60 => ⟨S_, .f32⟩
  | 61 => ⟨S4x2304x1024, .f32⟩
  | 62 => ⟨S4x2304x1024, .f32⟩
  | 63 => ⟨S_, .f32⟩
  | 64 => ⟨S4x2304x1024, .f32⟩
  | 65 => ⟨S4x2304x1024, .f32⟩
  | 66 => ⟨S4x2304x1024, .f32⟩
  | 67 => ⟨S4x2304x1024, .f32⟩
  | 68 => ⟨S4x2304x1024, .f32⟩
  | 69 => ⟨S4x2304x1024, .f32⟩
  | 70 => ⟨S4x1024, .f32⟩
  | 71 => ⟨S4x1x1024, .f32⟩
  | 72 => ⟨S4x256x1024, .f32⟩
  | 73 => ⟨S4x1x1024, .f32⟩
  | 74 => ⟨S4x2048x1024, .f32⟩
  | 75 => ⟨S4x2304x1024, .f32⟩
  | 76 => ⟨S4x2304x1024, .f32⟩
  | 77 => ⟨S4x2304x1024, .f32⟩
  | 78 => ⟨S4x2304x1024, .f32⟩
  | 79 => ⟨S4x256x1024, .f32⟩
  | 80 => ⟨S4x2048x1024, .f32⟩
  | 81 => ⟨S_, .f32⟩
  | 82 => ⟨S4x1024, .f32⟩
  | 83 => ⟨S4x1x1024, .f32⟩
  | 84 => ⟨S_, .f32⟩
  | 85 => ⟨S4x1024, .f32⟩
  | 86 => ⟨S_, .f32⟩
  | 87 => ⟨S4x1024, .f32⟩
  | 88 => ⟨S4x1x1024, .f32⟩
  | 89 => ⟨S_, .f32⟩
  | 90 => ⟨S4x1024, .f32⟩
  | 91 => ⟨S_, .f32⟩
  | 92 => ⟨S1024, .f32⟩
  | 93 => ⟨S4x2304x1024, .f32⟩
  | 94 => ⟨S4x2304x1024, .f32⟩
  | 95 => ⟨S4x2304x1024, .f32⟩
  | 96 => ⟨S4x2304x1024, .f32⟩
  | 97 => ⟨S4x2304x1024, .f32⟩
  | 98 => ⟨S4x2304x1024, .f32⟩
  | 99 => ⟨S4x2304x1024, .f32⟩
  | 100 => ⟨S4x2304x1024, .f32⟩
  | 101 => ⟨S4x2304x1024, .f32⟩
  | 102 => ⟨S4x2304x1024, .f32⟩
  | 103 => ⟨S4x2304x384, .f32⟩
  | 104 => ⟨S4x2304x256, .f32⟩
  | 105 => ⟨S4x2304x384, .f32⟩
  | 106 => ⟨S4x2304x3072, .f32⟩
  | 107 => ⟨S4x2048x384, .f32⟩
  | 108 => ⟨S4x2048x384, .bf16⟩
  | 109 => ⟨S_, .bf16⟩
  | 110 => ⟨S4x256x384, .bf16⟩
  | 111 => ⟨S4x2304x384, .bf16⟩
  | 112 => ⟨S4x2048x256, .f32⟩
  | 113 => ⟨S4x2048x256, .bf16⟩
  | 114 => ⟨S_, .bf16⟩
  | 115 => ⟨S4x256x256, .bf16⟩
  | 116 => ⟨S4x2304x256, .bf16⟩
  | 117 => ⟨S4x2048x384, .f32⟩
  | 118 => ⟨S4x2048x384, .bf16⟩
  | 119 => ⟨S_, .bf16⟩
  | 120 => ⟨S4x256x384, .bf16⟩
  | 121 => ⟨S4x2304x384, .bf16⟩
  | 122 => ⟨S4x2048x1024, .f32⟩
  | 123 => ⟨S4x2048x1024, .bf16⟩
  | 124 => ⟨S_, .bf16⟩
  | 125 => ⟨S4x256x1024, .bf16⟩
  | 126 => ⟨S4x2304x1024, .bf16⟩
  | 127 => ⟨S4x2048x1024, .f32⟩
  | _ => ⟨S4x2304x1024, .f32⟩

abbrev hbmTy0_1 (i : Nat) : BufTy := match i % 128 with
  | 0 => ⟨S4x2048x1024, .bf16⟩
  | 1 => ⟨S_, .bf16⟩
  | 2 => ⟨S4x256x1024, .bf16⟩
  | 3 => ⟨S4x2304x1024, .bf16⟩
  | 4 => ⟨S4x2048x1024, .f32⟩
  | 5 => ⟨S4x2048x1024, .bf16⟩
  | 6 => ⟨S_, .bf16⟩
  | 7 => ⟨S4x256x1024, .bf16⟩
  | 8 => ⟨S4x2304x1024, .bf16⟩
  | 9 => ⟨S4x2048x1024, .f32⟩
  | 10 => ⟨S4x2048x1024, .bf16⟩
  | 11 => ⟨S_, .bf16⟩
  | 12 => ⟨S4x256x1024, .bf16⟩
  | 13 => ⟨S4x2304x1024, .bf16⟩
  | 14 => ⟨S4x2048x1024, .f32⟩
  | 15 => ⟨S4x2048x1024, .bf16⟩
  | 16 => ⟨S_, .bf16⟩
  | 17 => ⟨S4x256x1024, .bf16⟩
  | 18 => ⟨S4x2304x1024, .bf16⟩
  | 19 => ⟨S4x2048x3072, .f32⟩
  | 20 => ⟨S4x2048x3072, .bf16⟩
  | 21 => ⟨S_, .bf16⟩
  | 22 => ⟨S4x256x3072, .bf16⟩
  | 23 => ⟨S4x2304x3072, .bf16⟩
  | 24 => ⟨S_, .f32⟩
  | 25 => ⟨S4x1024, .f32⟩
  | 26 => ⟨S8x1024, .f32⟩
  | _ => ⟨S4x2304x1024, .f32⟩

abbrev hbmTy (i : Nat) : BufTy := match i / 128 with
  | 0 => hbmTy0_0 i
  | 1 => hbmTy0_1 i
  | _ => ⟨S4x2304x1024, .f32⟩

abbrev bufTy : (tb : Table) → Fin (tcTables nBuf tb) → BufTy
  | .hbm, ⟨i, _⟩ => hbmTy i
  | _, _ => ⟨S4x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_cst_0 : Ref sig .tc := ⟨.hbm, 33, rfl⟩
abbrev main_v22 : Ref sig .tc := ⟨.hbm, 34, rfl⟩
abbrev main_v23 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_5 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_8 : Ref sig .tc := ⟨.hbm, 81, rfl⟩
abbrev main_v62 : Ref sig .tc := ⟨.hbm, 82, rfl⟩
abbrev main_v63 : Ref sig .tc := ⟨.hbm, 83, rfl⟩
abbrev main_cst_9 : Ref sig .tc := ⟨.hbm, 84, rfl⟩
abbrev main_v64 : Ref sig .tc := ⟨.hbm, 85, rfl⟩
abbrev main_cst_10 : Ref sig .tc := ⟨.hbm, 86, rfl⟩
abbrev main_v65 : Ref sig .tc := ⟨.hbm, 87, rfl⟩
abbrev main_v66 : Ref sig .tc := ⟨.hbm, 88, rfl⟩
abbrev main_cst_11 : Ref sig .tc := ⟨.hbm, 89, rfl⟩
abbrev main_v67 : Ref sig .tc := ⟨.hbm, 90, rfl⟩
abbrev main_cst_12 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_13 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_cst_14 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_cst_15 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_cst_16 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_cst_17 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_cst_18 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_cst_19 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_cst_20 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_cst_21 : Ref sig .tc := ⟨.hbm, 149, rfl⟩
abbrev main_v117 : Ref sig .tc := ⟨.hbm, 150, rfl⟩
abbrev main_v118 : Ref sig .tc := ⟨.hbm, 151, rfl⟩
abbrev main_cst_22 : Ref sig .tc := ⟨.hbm, 152, rfl⟩
abbrev main_v119 : Ref sig .tc := ⟨.hbm, 153, rfl⟩
abbrev main_v120 : Ref sig .tc := ⟨.hbm, 154, rfl⟩

abbrev nD : Nat := 1
abbrev τ : Topo := Topo.v7x

variable {F : FTy → Type} [FloatOps F]
-- ==== Proof.RunA.lean ====
module

public import proofs.«01_k».proof.Proof.Gen.KernelIdeal.Frame.Runs

/-! # One grid point's body: the first point

The body run once on any staging buffers, at the grid's first point: it clears the gate's gradient, then computes. -/

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large
set_option maxHeartbeats 2000000 in
/-- At the first point: from the input buffers at their contents and the outputs' at anything, the body ends with the inputs
    as they were and each output's buffer with the stored pieces (last first) written. -/
noncomputable def kernelRun0_A (c : Dev nD) (i : grid0.Coords) (arg2 : Memref sig .tc .vmem S1x256x1024 .f32) (harg2 : arg2.IsWhole) (arg3 : Memref sig .tc .vmem S1x256x1024 .bf16) (harg3 : arg3.IsWhole) (arg4 : Memref sig .tc .vmem S1x256x384 .bf16) (harg4 : arg4.IsWhole) (arg5 : Memref sig .tc .vmem S1x256x256 .bf16) (harg5 : arg5.IsWhole) (arg6 : Memref sig .tc .vmem S1x256x384 .bf16) (harg6 : arg6.IsWhole) (arg7 : Memref sig .tc .vmem S1x256x512 .bf16) (harg7 : arg7.IsWhole) (arg8 : Memref sig .tc .vmem S1x256x512 .bf16) (harg8 : arg8.IsWhole) (arg9 : Memref sig .tc .vmem S1x256x512 .bf16) (harg9 : arg9.IsWhole) (arg10 : Memref sig .tc .vmem S1x256x512 .bf16) (harg10 : arg10.IsWhole) (arg11 : Memref sig .tc .vmem S1x256x512 .bf16) (harg11 : arg11.IsWhole) (arg12 : Memref sig .tc .vmem S1x256x512 .bf16) (harg12 : arg12.IsWhole) (arg13 : Memref sig .tc .vmem S8x6144 .f32) (harg13 : arg13.IsWhole) (arg14 : Memref sig .tc .vmem S384x1024 .bf16) (harg14 : arg14.IsWhole) (arg15 : Memref sig .tc .vmem S256x1024 .bf16) (harg15 : arg15.IsWhole) (arg16 : Memref sig .tc .vmem S384x1024 .bf16) (harg16 : arg16.IsWhole) (arg17 : Memref sig .tc .vmem S1024x1024 .bf16) (harg17 : arg17.IsWhole) (arg18 : Memref sig .tc .vmem S1x256x384 .bf16) (harg18 : arg18.IsWhole) (arg19 : Memref sig .tc .vmem S1x256x256 .bf16) (harg19 : arg19.IsWhole) (arg20 : Memref sig .tc .vmem S1x256x384 .bf16) (harg20 : arg20.IsWhole) (arg21 : Memref sig .tc .vmem S1x256x1024 .bf16) (harg21 : arg21.IsWhole) (arg22 : Memref sig .tc .vmem S1x256x1024 .bf16) (harg22 : arg22.IsWhole) (arg23 : Memref sig .tc .vmem S1x256x1024 .bf16) (harg23 : arg23.IsWhole) (arg24 : Memref sig .tc .vmem S1x256x1024 .bf16) (harg24 : arg24.IsWhole) (arg25 : Memref sig .tc .vmem S1x256x1024 .bf16) (harg25 : arg25.IsWhole) (arg26 : Memref sig .tc .vmem S1x256x3072 .bf16) (harg26 : arg26.IsWhole) (arg27 : Memref sig .tc .vmem S8x1024 .f32) (harg27 : arg27.IsWhole) (hc0 : cond0_0 i)
    (x0 : Vec F S1x256x1024 .f32) (x1 : Vec F S1x256x1024 .bf16) (x2 : Vec F S1x256x384 .bf16) (x3 : Vec F S1x256x256 .bf16) (x4 : Vec F S1x256x384 .bf16) (x5 : Vec F S1x256x512 .bf16) (x6 : Vec F S1x256x512 .bf16) (x7 : Vec F S1x256x512 .bf16) (x8 : Vec F S1x256x512 .bf16) (x9 : Vec F S1x256x512 .bf16) (x10 : Vec F S1x256x512 .bf16) (x11 : Vec F S8x6144 .f32) (x12 : Vec F S384x1024 .bf16) (x13 : Vec F S256x1024 .bf16) (x14 : Vec F S384x1024 .bf16) (x15 : Vec F S1024x1024 .bf16) :
    Σ' (L16 : List (View.Piece (Elt F) S1x256x384 .bf16)), Σ' (L17 : List (View.Piece (Elt F) S1x256x256 .bf16)), Σ' (L18 : List (View.Piece (Elt F) S1x256x384 .bf16)), Σ' (L19 : List (View.Piece (Elt F) S1x256x1024 .bf16)), Σ' (L20 : List (View.Piece (Elt F) S1x256x1024 .bf16)), Σ' (L21 : List (View.Piece (Elt F) S1x256x1024 .bf16)), Σ' (L22 : List (View.Piece (Elt F) S1x256x1024 .bf16)), Σ' (L23 : List (View.Piece (Elt F) S1x256x1024 .bf16)), Σ' (L24 : List (View.Piece (Elt F) S1x256x3072 .bf16)), { L25 : List (View.Piece (Elt F) S8x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f L24) ∗ (∃ f, arg27.view.loc (c : Thread nD τ) ↦[arg27.view.set]{fullShare} arg27.view.writes (Elt F) f L25)) -∗ K ⟨⟩))
          ⊢ wp frame (wpE (defs₀ (F := F)) Variants.none c none) E (cc0_merge_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, ?_, ?_, ?_, ?_, ?_, fun E K => ?run⟩
  case run =>
    simp only [cc0_merge_bwd_eq_skeleton]; unfold cc0_merge_bwd_skel
    simp only [k0_part4_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    iexists _; iexact H25

end Cert.KernelIdeal.Gen

end
-- ==== Proof.RunB.lean ====
module

public import proofs.«01_k».proof.Proof.RunA

/-! # One grid point's body: a later point

The body run once on any staging buffers, at a point that is not the first: the gate's gradient is carried over. -/

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large
set_option maxHeartbeats 2000000 in
/-- At a later point: from the input buffers and the carried gradient at their contents and the other outputs' at anything,
    the body ends with the inputs as they were and each output's buffer with the stored pieces (last first) written. -/
noncomputable def kernelRun0_B (c : Dev nD) (i : grid0.Coords) (arg2 : Memref sig .tc .vmem S1x256x1024 .f32) (harg2 : arg2.IsWhole) (arg3 : Memref sig .tc .vmem S1x256x1024 .bf16) (harg3 : arg3.IsWhole) (arg4 : Memref sig .tc .vmem S1x256x384 .bf16) (harg4 : arg4.IsWhole) (arg5 : Memref sig .tc .vmem S1x256x256 .bf16) (harg5 : arg5.IsWhole) (arg6 : Memref sig .tc .vmem S1x256x384 .bf16) (harg6 : arg6.IsWhole) (arg7 : Memref sig .tc .vmem S1x256x512 .bf16) (harg7 : arg7.IsWhole) (arg8 : Memref sig .tc .vmem S1x256x512 .bf16) (harg8 : arg8.IsWhole) (arg9 : Memref sig .tc .vmem S1x256x512 .bf16) (harg9 : arg9.IsWhole) (arg10 : Memref sig .tc .vmem S1x256x512 .bf16) (harg10 : arg10.IsWhole) (arg11 : Memref sig .tc .vmem S1x256x512 .bf16) (harg11 : arg11.IsWhole) (arg12 : Memref sig .tc .vmem S1x256x512 .bf16) (harg12 : arg12.IsWhole) (arg13 : Memref sig .tc .vmem S8x6144 .f32) (harg13 : arg13.IsWhole) (arg14 : Memref sig .tc .vmem S384x1024 .bf16) (harg14 : arg14.IsWhole) (arg15 : Memref sig .tc .vmem S256x1024 .bf16) (harg15 : arg15.IsWhole) (arg16 : Memref sig .tc .vmem S384x1024 .bf16) (harg16 : arg16.IsWhole) (arg17 : Memref sig .tc .vmem S1024x1024 .bf16) (harg17 : arg17.IsWhole) (arg18 : Memref sig .tc .vmem S1x256x384 .bf16) (harg18 : arg18.IsWhole) (arg19 : Memref sig .tc .vmem S1x256x256 .bf16) (harg19 : arg19.IsWhole) (arg20 : Memref sig .tc .vmem S1x256x384 .bf16) (harg20 : arg20.IsWhole) (arg21 : Memref sig .tc .vmem S1x256x1024 .bf16) (harg21 : arg21.IsWhole) (arg22 : Memref sig .tc .vmem S1x256x1024 .bf16) (harg22 : arg22.IsWhole) (arg23 : Memref sig .tc .vmem S1x256x1024 .bf16) (harg23 : arg23.IsWhole) (arg24 : Memref sig .tc .vmem S1x256x1024 .bf16) (harg24 : arg24.IsWhole) (arg25 : Memref sig .tc .vmem S1x256x1024 .bf16) (harg25 : arg25.IsWhole) (arg26 : Memref sig .tc .vmem S1x256x3072 .bf16) (harg26 : arg26.IsWhole) (arg27 : Memref sig .tc .vmem S8x1024 .f32) (harg27 : arg27.IsWhole) (hc0 : ¬cond0_0 i)
    (x0 : Vec F S1x256x1024 .f32) (x1 : Vec F S1x256x1024 .bf16) (x2 : Vec F S1x256x384 .bf16) (x3 : Vec F S1x256x256 .bf16) (x4 : Vec F S1x256x384 .bf16) (x5 : Vec F S1x256x512 .bf16) (x6 : Vec F S1x256x512 .bf16) (x7 : Vec F S1x256x512 .bf16) (x8 : Vec F S1x256x512 .bf16) (x9 : Vec F S1x256x512 .bf16) (x10 : Vec F S1x256x512 .bf16) (x11 : Vec F S8x6144 .f32) (x12 : Vec F S384x1024 .bf16) (x13 : Vec F S256x1024 .bf16) (x14 : Vec F S384x1024 .bf16) (x15 : Vec F S1024x1024 .bf16) (xo25 : Vec F S8x1024 .f32) :
    Σ' (L16 : List (View.Piece (Elt F) S1x256x384 .bf16)), Σ' (L17 : List (View.Piece (Elt F) S1x256x256 .bf16)), Σ' (L18 : List (View.Piece (Elt F) S1x256x384 .bf16)), Σ' (L19 : List (View.Piece (Elt F) S1x256x1024 .bf16)), Σ' (L20 : List (View.Piece (Elt F) S1x256x1024 .bf16)), Σ' (L21 : List (View.Piece (Elt F) S1x256x1024 .bf16)), Σ' (L22 : List (View.Piece (Elt F) S1x256x1024 .bf16)), Σ' (L23 : List (View.Piece (Elt F) S1x256x1024 .bf16)), Σ' (L24 : List (View.Piece (Elt F) S1x256x3072 .bf16)), { L25 : List (View.Piece (Elt F) S8x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ owns (c : Thread nD τ) arg27 fullShare xo25
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f L24) ∗ (arg27.view.loc (c : Thread nD τ) ↦[arg27.view.set]{fullShare} arg27.view.writes (Elt F) (harg27.unread xo25) L25)) -∗ K ⟨⟩))
          ⊢ wp frame (wpE (defs₀ (F := F)) Variants.none c none) E (cc0_merge_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, ?_, ?_, ?_, ?_, ?_, fun E K => ?run⟩
  case run =>
    simp only [cc0_merge_bwd_eq_skeleton]; unfold cc0_merge_bwd_skel
    simp only [k0_part4_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%f25, %hf25, H25⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg27.eq_unread hf25
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    iexact H25

end Cert.KernelIdeal.Gen

end
-- ==== Proof.Frame.lean ====
module

public import proofs.«01_k».proof.Proof.RunB
public import Idealize.ShloMosaic.Lib.Claim

/-! # The whole grid

What the output buffers hold after every grid point, the pipeline's proof data, and the run of the whole program. The
text is over any reading of the floats, so it serves the program as printed and its ideal reading. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the ten outputs' buffers hold. -/
abbrev Outs (F : FTy → Type) : Type := Vec F S1x256x384 .bf16 × Vec F S1x256x256 .bf16 × Vec F S1x256x384 .bf16 × Vec F S1x256x1024 .bf16 × Vec F S1x256x1024 .bf16 × Vec F S1x256x1024 .bf16 × Vec F S1x256x1024 .bf16 × Vec F S1x256x1024 .bf16 × Vec F S1x256x3072 .bf16 × Vec F S8x1024 .f32

/-- The body's run at point `t`, on the point's own buffers and blocks: the first point, -/
abbrev runA (c : Dev nD) (t : Fin cfg0.N) (h : t.val % 36 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) ((hcond0_0 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
/-- and a later one, over the gradient `xo` the point before left. -/
abbrev runB (c : Dev nD) (t : Fin cfg0.N) (h : ¬t.val % 36 = 0) (xo : Vec F S8x1024 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (fun h' => h ((hcond0_0 t).mp h')) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) xo

/-! ## Each output's stores cover its buffer -/

theorem coverA_16 (c : Dev nD) (t : Fin cfg0.N) (h : t.val % 36 = 0) (y : S1x256x384.Idx) :
    ∃ pc ∈ (runA m c t h).1, y ∈ pc.1.set :=
  View.cover_of_tiledL _ S1x256x384.size (by sl_kernel_rfl) y
theorem coverA_17 (c : Dev nD) (t : Fin cfg0.N) (h : t.val % 36 = 0) (y : S1x256x256.Idx) :
    ∃ pc ∈ (runA m c t h).2.1, y ∈ pc.1.set :=
  View.cover_of_tiledL _ S1x256x256.size (by sl_kernel_rfl) y
theorem coverA_18 (c : Dev nD) (t : Fin cfg0.N) (h : t.val % 36 = 0) (y : S1x256x384.Idx) :
    ∃ pc ∈ (runA m c t h).2.2.1, y ∈ pc.1.set :=
  View.cover_of_tiledL _ S1x256x384.size (by sl_kernel_rfl) y
theorem coverA_19 (c : Dev nD) (t : Fin cfg0.N) (h : t.val % 36 = 0) (y : S1x256x1024.Idx) :
    ∃ pc ∈ (runA m c t h).2.2.2.1, y ∈ pc.1.set :=
  View.cover_of_tiledL _ S1x256x1024.size (by sl_kernel_rfl) y
theorem coverA_20 (c : Dev nD) (t : Fin cfg0.N) (h : t.val % 36 = 0) (y : S1x256x1024.Idx) :
    ∃ pc ∈ (runA m c t h).2.2.2.2.1, y ∈ pc.1.set :=
  View.cover_of_tiledL _ S1x256x1024.size (by sl_kernel_rfl) y
theorem coverA_21 (c : Dev nD) (t : Fin cfg0.N) (h : t.val % 36 = 0) (y : S1x256x1024.Idx) :
    ∃ pc ∈ (runA m c t h).2.2.2.2.2.1, y ∈ pc.1.set :=
  View.cover_of_tiledL _ S1x256x1024.size (by sl_kernel_rfl) y
theorem coverA_22 (c : Dev nD) (t : Fin cfg0.N) (h : t.val % 36 = 0) (y : S1x256x1024.Idx) :
    ∃ pc ∈ (runA m c t h).2.2.2.2.2.2.1, y ∈ pc.1.set :=
  View.cover_of_tiledL _ S1x256x1024.size (by sl_kernel_rfl) y
theorem coverA_23 (c : Dev nD) (t : Fin cfg0.N) (h : t.val % 36 = 0) (y : S1x256x1024.Idx) :
    ∃ pc ∈ (runA m c t h).2.2.2.2.2.2.2.1, y ∈ pc.1.set :=
  View.cover_of_tiledL _ S1x256x1024.size (by sl_kernel_rfl) y
theorem coverA_24 (c : Dev nD) (t : Fin cfg0.N) (h : t.val % 36 = 0) (y : S1x256x3072.Idx) :
    ∃ pc ∈ (runA m c t h).2.2.2.2.2.2.2.2.1, y ∈ pc.1.set :=
  View.cover_of_tiledL _ S1x256x3072.size (by sl_kernel_rfl) y
theorem coverA_25 (c : Dev nD) (t : Fin cfg0.N) (h : t.val % 36 = 0) (y : S8x1024.Idx) :
    ∃ pc ∈ (runA m c t h).2.2.2.2.2.2.2.2.2.1, y ∈ pc.1.set :=
  View.cover_of_wholeMem _ (by sl_whole_mem) y
theorem coverB_16 (c : Dev nD) (t : Fin cfg0.N) (h : ¬t.val % 36 = 0) (xo : Vec F S8x1024 .f32) (y : S1x256x384.Idx) :
    ∃ pc ∈ (runB m c t h xo).1, y ∈ pc.1.set :=
  View.cover_of_tiledL _ S1x256x384.size (by sl_kernel_rfl) y
theorem coverB_17 (c : Dev nD) (t : Fin cfg0.N) (h : ¬t.val % 36 = 0) (xo : Vec F S8x1024 .f32) (y : S1x256x256.Idx) :
    ∃ pc ∈ (runB m c t h xo).2.1, y ∈ pc.1.set :=
  View.cover_of_tiledL _ S1x256x256.size (by sl_kernel_rfl) y
theorem coverB_18 (c : Dev nD) (t : Fin cfg0.N) (h : ¬t.val % 36 = 0) (xo : Vec F S8x1024 .f32) (y : S1x256x384.Idx) :
    ∃ pc ∈ (runB m c t h xo).2.2.1, y ∈ pc.1.set :=
  View.cover_of_tiledL _ S1x256x384.size (by sl_kernel_rfl) y
theorem coverB_19 (c : Dev nD) (t : Fin cfg0.N) (h : ¬t.val % 36 = 0) (xo : Vec F S8x1024 .f32) (y : S1x256x1024.Idx) :
    ∃ pc ∈ (runB m c t h xo).2.2.2.1, y ∈ pc.1.set :=
  View.cover_of_tiledL _ S1x256x1024.size (by sl_kernel_rfl) y
theorem coverB_20 (c : Dev nD) (t : Fin cfg0.N) (h : ¬t.val % 36 = 0) (xo : Vec F S8x1024 .f32) (y : S1x256x1024.Idx) :
    ∃ pc ∈ (runB m c t h xo).2.2.2.2.1, y ∈ pc.1.set :=
  View.cover_of_tiledL _ S1x256x1024.size (by sl_kernel_rfl) y
theorem coverB_21 (c : Dev nD) (t : Fin cfg0.N) (h : ¬t.val % 36 = 0) (xo : Vec F S8x1024 .f32) (y : S1x256x1024.Idx) :
    ∃ pc ∈ (runB m c t h xo).2.2.2.2.2.1, y ∈ pc.1.set :=
  View.cover_of_tiledL _ S1x256x1024.size (by sl_kernel_rfl) y
theorem coverB_22 (c : Dev nD) (t : Fin cfg0.N) (h : ¬t.val % 36 = 0) (xo : Vec F S8x1024 .f32) (y : S1x256x1024.Idx) :
    ∃ pc ∈ (runB m c t h xo).2.2.2.2.2.2.1, y ∈ pc.1.set :=
  View.cover_of_tiledL _ S1x256x1024.size (by sl_kernel_rfl) y
theorem coverB_23 (c : Dev nD) (t : Fin cfg0.N) (h : ¬t.val % 36 = 0) (xo : Vec F S8x1024 .f32) (y : S1x256x1024.Idx) :
    ∃ pc ∈ (runB m c t h xo).2.2.2.2.2.2.2.1, y ∈ pc.1.set :=
  View.cover_of_tiledL _ S1x256x1024.size (by sl_kernel_rfl) y
theorem coverB_24 (c : Dev nD) (t : Fin cfg0.N) (h : ¬t.val % 36 = 0) (xo : Vec F S8x1024 .f32) (y : S1x256x3072.Idx) :
    ∃ pc ∈ (runB m c t h xo).2.2.2.2.2.2.2.2.1, y ∈ pc.1.set :=
  View.cover_of_tiledL _ S1x256x3072.size (by sl_kernel_rfl) y

/-- What the first point leaves in the outputs' buffers: its pieces read back. -/
def outA (c : Dev nD) (t : Fin cfg0.N) (h : t.val % 36 = 0) : Outs F :=
  (VO0_16.read (Elt F) (VO0_16.writes (Elt F) VO0_16.junk (runA m c t h).1),
   VO0_17.read (Elt F) (VO0_17.writes (Elt F) VO0_17.junk (runA m c t h).2.1),
   VO0_18.read (Elt F) (VO0_18.writes (Elt F) VO0_18.junk (runA m c t h).2.2.1),
   VO0_19.read (Elt F) (VO0_19.writes (Elt F) VO0_19.junk (runA m c t h).2.2.2.1),
   VO0_20.read (Elt F) (VO0_20.writes (Elt F) VO0_20.junk (runA m c t h).2.2.2.2.1),
   VO0_21.read (Elt F) (VO0_21.writes (Elt F) VO0_21.junk (runA m c t h).2.2.2.2.2.1),
   VO0_22.read (Elt F) (VO0_22.writes (Elt F) VO0_22.junk (runA m c t h).2.2.2.2.2.2.1),
   VO0_23.read (Elt F) (VO0_23.writes (Elt F) VO0_23.junk (runA m c t h).2.2.2.2.2.2.2.1),
   VO0_24.read (Elt F) (VO0_24.writes (Elt F) VO0_24.junk (runA m c t h).2.2.2.2.2.2.2.2.1),
   VO0_25.read (Elt F) (VO0_25.writes (Elt F) VO0_25.junk (runA m c t h).2.2.2.2.2.2.2.2.2.1))

/-- What a later point leaves, over the gradient `xo` the point before left. -/
def outB (c : Dev nD) (t : Fin cfg0.N) (h : ¬t.val % 36 = 0) (xo : Vec F S8x1024 .f32) : Outs F :=
  (VO0_16.read (Elt F) (VO0_16.writes (Elt F) VO0_16.junk (runB m c t h xo).1),
   VO0_17.read (Elt F) (VO0_17.writes (Elt F) VO0_17.junk (runB m c t h xo).2.1),
   VO0_18.read (Elt F) (VO0_18.writes (Elt F) VO0_18.junk (runB m c t h xo).2.2.1),
   VO0_19.read (Elt F) (VO0_19.writes (Elt F) VO0_19.junk (runB m c t h xo).2.2.2.1),
   VO0_20.read (Elt F) (VO0_20.writes (Elt F) VO0_20.junk (runB m c t h xo).2.2.2.2.1),
   VO0_21.read (Elt F) (VO0_21.writes (Elt F) VO0_21.junk (runB m c t h xo).2.2.2.2.2.1),
   VO0_22.read (Elt F) (VO0_22.writes (Elt F) VO0_22.junk (runB m c t h xo).2.2.2.2.2.2.1),
   VO0_23.read (Elt F) (VO0_23.writes (Elt F) VO0_23.junk (runB m c t h xo).2.2.2.2.2.2.2.1),
   VO0_24.read (Elt F) (VO0_24.writes (Elt F) VO0_24.junk (runB m c t h xo).2.2.2.2.2.2.2.2.1),
   (ms0_25 t).view.read (Elt F) ((ms0_25 t).view.writes (Elt F) ((hs0_25 t).unread xo) (runB m c t h xo).2.2.2.2.2.2.2.2.2.1))

/-- What the outputs' buffers hold after point `n`. -/
def outs (c : Dev nD) : (n : ℕ) → n < cfg0.N → Outs F
  | 0, hn => outA m c ⟨0, hn⟩ (Nat.zero_mod _)
  | n + 1, hn =>
    if h : (n + 1) % 36 = 0 then outA m c ⟨n + 1, hn⟩ h
    else outB m c ⟨n + 1, hn⟩ h (outs c n (Nat.lt_of_succ_lt hn)).2.2.2.2.2.2.2.2.2

theorem outs_A (c : Dev nD) (t : Fin cfg0.N) (h : t.val % 36 = 0) : outs m c t.val t.isLt = outA m c t h := by
  obtain ⟨n, hn⟩ := t
  cases n with
  | zero => rfl
  | succ n => exact dif_pos h

theorem outs_B (c : Dev nD) (t : Fin cfg0.N) (h : ¬t.val % 36 = 0) :
    outs m c t.val t.isLt = outB m c t h (outs m c (t.val - 1) (Nat.lt_of_le_of_lt (Nat.sub_le _ _) t.isLt)).2.2.2.2.2.2.2.2.2 := by
  obtain ⟨n, hn⟩ := t
  cases n with
  | zero => exact absurd (Nat.zero_mod _) h
  | succ n => exact dif_neg h

/-! ## The pipeline's proof data -/

/-- The arrays as the region finds them; after a point each input's buffer at its block and the outputs' at `outs`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => (outs m c t.val t.isLt).1
    | ⟨17, _⟩ => (outs m c t.val t.isLt).2.1
    | ⟨18, _⟩ => (outs m c t.val t.isLt).2.2.1
    | ⟨19, _⟩ => (outs m c t.val t.isLt).2.2.2.1
    | ⟨20, _⟩ => (outs m c t.val t.isLt).2.2.2.2.1
    | ⟨21, _⟩ => (outs m c t.val t.isLt).2.2.2.2.2.1
    | ⟨22, _⟩ => (outs m c t.val t.isLt).2.2.2.2.2.2.1
    | ⟨23, _⟩ => (outs m c t.val t.isLt).2.2.2.2.2.2.2.1
    | ⟨24, _⟩ => (outs m c t.val t.isLt).2.2.2.2.2.2.2.2.1
    | ⟨25, _⟩ => (outs m c t.val t.isLt).2.2.2.2.2.2.2.2.2
    | ⟨_ + 26, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = (outs m c t.val t.isLt).1 := by dsimp only [dats]
theorem after0_17 (c : Dev nD) (t : Fin cfg0.N) : (dats m 0 c).after 17 t = (outs m c t.val t.isLt).2.1 := by dsimp only [dats]
theorem after0_18 (c : Dev nD) (t : Fin cfg0.N) : (dats m 0 c).after 18 t = (outs m c t.val t.isLt).2.2.1 := by dsimp only [dats]
theorem after0_19 (c : Dev nD) (t : Fin cfg0.N) : (dats m 0 c).after 19 t = (outs m c t.val t.isLt).2.2.2.1 := by dsimp only [dats]
theorem after0_20 (c : Dev nD) (t : Fin cfg0.N) : (dats m 0 c).after 20 t = (outs m c t.val t.isLt).2.2.2.2.1 := by dsimp only [dats]
theorem after0_21 (c : Dev nD) (t : Fin cfg0.N) : (dats m 0 c).after 21 t = (outs m c t.val t.isLt).2.2.2.2.2.1 := by dsimp only [dats]
theorem after0_22 (c : Dev nD) (t : Fin cfg0.N) : (dats m 0 c).after 22 t = (outs m c t.val t.isLt).2.2.2.2.2.2.1 := by dsimp only [dats]
theorem after0_23 (c : Dev nD) (t : Fin cfg0.N) : (dats m 0 c).after 23 t = (outs m c t.val t.isLt).2.2.2.2.2.2.2.1 := by dsimp only [dats]
theorem after0_24 (c : Dev nD) (t : Fin cfg0.N) : (dats m 0 c).after 24 t = (outs m c t.val t.isLt).2.2.2.2.2.2.2.2.1 := by dsimp only [dats]
theorem after0_25 (c : Dev nD) (t : Fin cfg0.N) : (dats m 0 c).after 25 t = (outs m c t.val t.isLt).2.2.2.2.2.2.2.2.2 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-- At a later point the gradient's buffer holds what the body left at the point before. -/
theorem before0_25_B (c : Dev nD) (t : Fin cfg0.N) (h0 : ¬t.val % 36 = 0) (d) :
    (dats m 0 c).before 25 t d = (outs m c (t.val - 1) (Nat.lt_of_le_of_lt (Nat.sub_le _ _) t.isLt)).2.2.2.2.2.2.2.2.2 := by
  have hN : t.val < 36 := lt_of_lt_of_eq t.isLt (show cfg0.N = 36 from N_0)
  rw [Dat.before_out_kept _ 25 rfl t (by omega) (Bool.eq_false_iff.mpr fun h => by have := (flush0_25 _).mp h; dsimp only at this; omega)
    (fun _ => rfl) (fun _ _ => rfl)]
  dsimp only [dats]

/-! ## The body at a point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t))

set_option maxHeartbeats 4800000 in
/-- The body at any point: the run of the point's case applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25]
  by_cases h0 : t.val % 36 = 0
  · rw [outs_A m c t h0]
    unfold outA; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
    iapply ((runA m c t h0).2.2.2.2.2.2.2.2.2.2 Set.univ _)
    isplitl [H0]; iexact H0; isplitl [H1]; iexact H1; isplitl [H2]; iexact H2; isplitl [H3]; iexact H3
    isplitl [H4]; iexact H4; isplitl [H5]; iexact H5; isplitl [H6]; iexact H6; isplitl [H7]; iexact H7
    isplitl [H8]; iexact H8; isplitl [H9]; iexact H9; isplitl [H10]; iexact H10; isplitl [H11]; iexact H11
    isplitl [H12]; iexact H12; isplitl [H13]; iexact H13; isplitl [H14]; iexact H14; isplitl [H15]; iexact H15
    isplitl [H16]; iexists _; iexact H16; isplitl [H17]; iexists _; iexact H17; isplitl [H18]; iexists _; iexact H18; isplitl [H19]; iexists _; iexact H19
    isplitl [H20]; iexists _; iexact H20; isplitl [H21]; iexists _; iexact H21; isplitl [H22]; iexists _; iexact H22; isplitl [H23]; iexists _; iexact H23
    isplitl [H24]; iexists _; iexact H24; isplitl [H25]; iexists _; iexact H25
    iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩⟩
    isplitl [HΦ]; iexact HΦ; isplitl [Ho]; iexact Ho
    isplitl [H0]; iexact H0; isplitl [H1]; iexact H1; isplitl [H2]; iexact H2; isplitl [H3]; iexact H3
    isplitl [H4]; iexact H4; isplitl [H5]; iexact H5; isplitl [H6]; iexact H6; isplitl [H7]; iexact H7
    isplitl [H8]; iexact H8; isplitl [H9]; iexact H9; isplitl [H10]; iexact H10; isplitl [H11]; iexact H11
    isplitl [H12]; iexact H12; isplitl [H13]; iexact H13; isplitl [H14]; iexact H14; isplitl [H15]; iexact H15
    isplitl [H16]
    · unfold owns; iexists _; isplitr
      swap; · iexact H16
      ipureintro; exact View.read_writes_of_cover _ _ _ _ _ (coverA_16 m c t h0)
    isplitl [H17]
    · unfold owns; iexists _; isplitr
      swap; · iexact H17
      ipureintro; exact View.read_writes_of_cover _ _ _ _ _ (coverA_17 m c t h0)
    isplitl [H18]
    · unfold owns; iexists _; isplitr
      swap; · iexact H18
      ipureintro; exact View.read_writes_of_cover _ _ _ _ _ (coverA_18 m c t h0)
    isplitl [H19]
    · unfold owns; iexists _; isplitr
      swap; · iexact H19
      ipureintro; exact View.read_writes_of_cover _ _ _ _ _ (coverA_19 m c t h0)
    isplitl [H20]
    · unfold owns; iexists _; isplitr
      swap; · iexact H20
      ipureintro; exact View.read_writes_of_cover _ _ _ _ _ (coverA_20 m c t h0)
    isplitl [H21]
    · unfold owns; iexists _; isplitr
      swap; · iexact H21
      ipureintro; exact View.read_writes_of_cover _ _ _ _ _ (coverA_21 m c t h0)
    isplitl [H22]
    · unfold owns; iexists _; isplitr
      swap; · iexact H22
      ipureintro; exact View.read_writes_of_cover _ _ _ _ _ (coverA_22 m c t h0)
    isplitl [H23]
    · unfold owns; iexists _; isplitr
      swap; · iexact H23
      ipureintro; exact View.read_writes_of_cover _ _ _ _ _ (coverA_23 m c t h0)
    isplitl [H24]
    · unfold owns; iexists _; isplitr
      swap; · iexact H24
      ipureintro; exact View.read_writes_of_cover _ _ _ _ _ (coverA_24 m c t h0)
    unfold owns; iexists _; isplitr
    swap; · iexact H25
    ipureintro; exact View.read_writes_of_cover _ _ _ _ _ (coverA_25 m c t h0)
  · rw [outs_B m c t h0]
    simp only [before0_25_B m c t h0]
    unfold outB; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
    iapply ((runB m c t h0 _).2.2.2.2.2.2.2.2.2.2 Set.univ _)
    isplitl [H0]; iexact H0; isplitl [H1]; iexact H1; isplitl [H2]; iexact H2; isplitl [H3]; iexact H3
    isplitl [H4]; iexact H4; isplitl [H5]; iexact H5; isplitl [H6]; iexact H6; isplitl [H7]; iexact H7
    isplitl [H8]; iexact H8; isplitl [H9]; iexact H9; isplitl [H10]; iexact H10; isplitl [H11]; iexact H11
    isplitl [H12]; iexact H12; isplitl [H13]; iexact H13; isplitl [H14]; iexact H14; isplitl [H15]; iexact H15
    isplitl [H16]; iexists _; iexact H16; isplitl [H17]; iexists _; iexact H17; isplitl [H18]; iexists _; iexact H18; isplitl [H19]; iexists _; iexact H19
    isplitl [H20]; iexists _; iexact H20; isplitl [H21]; iexists _; iexact H21; isplitl [H22]; iexists _; iexact H22; isplitl [H23]; iexists _; iexact H23
    isplitl [H24]; iexists _; iexact H24
    isplitl [H25]; iexact H25
    iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, H25⟩
    isplitl [HΦ]; iexact HΦ; isplitl [Ho]; iexact Ho
    isplitl [H0]; iexact H0; isplitl [H1]; iexact H1; isplitl [H2]; iexact H2; isplitl [H3]; iexact H3
    isplitl [H4]; iexact H4; isplitl [H5]; iexact H5; isplitl [H6]; iexact H6; isplitl [H7]; iexact H7
    isplitl [H8]; iexact H8; isplitl [H9]; iexact H9; isplitl [H10]; iexact H10; isplitl [H11]; iexact H11
    isplitl [H12]; iexact H12; isplitl [H13]; iexact H13; isplitl [H14]; iexact H14; isplitl [H15]; iexact H15
    isplitl [H16]
    · unfold owns; iexists _; isplitr
      swap; · iexact H16
      ipureintro; exact View.read_writes_of_cover _ _ _ _ _ (coverB_16 m c t h0 _)
    isplitl [H17]
    · unfold owns; iexists _; isplitr
      swap; · iexact H17
      ipureintro; exact View.read_writes_of_cover _ _ _ _ _ (coverB_17 m c t h0 _)
    isplitl [H18]
    · unfold owns; iexists _; isplitr
      swap; · iexact H18
      ipureintro; exact View.read_writes_of_cover _ _ _ _ _ (coverB_18 m c t h0 _)
    isplitl [H19]
    · unfold owns; iexists _; isplitr
      swap; · iexact H19
      ipureintro; exact View.read_writes_of_cover _ _ _ _ _ (coverB_19 m c t h0 _)
    isplitl [H20]
    · unfold owns; iexists _; isplitr
      swap; · iexact H20
      ipureintro; exact View.read_writes_of_cover _ _ _ _ _ (coverB_20 m c t h0 _)
    isplitl [H21]
    · unfold owns; iexists _; isplitr
      swap; · iexact H21
      ipureintro; exact View.read_writes_of_cover _ _ _ _ _ (coverB_21 m c t h0 _)
    isplitl [H22]
    · unfold owns; iexists _; isplitr
      swap; · iexact H22
      ipureintro; exact View.read_writes_of_cover _ _ _ _ _ (coverB_22 m c t h0 _)
    isplitl [H23]
    · unfold owns; iexists _; isplitr
      swap; · iexact H23
      ipureintro; exact View.read_writes_of_cover _ _ _ _ _ (coverB_23 m c t h0 _)
    isplitl [H24]
    · unfold owns; iexists _; isplitr
      swap; · iexact H24
      ipureintro; exact View.read_writes_of_cover _ _ _ _ _ (coverB_24 m c t h0 _)
    unfold owns; iexists _; isplitr
    swap; · iexact H25
    ipureintro; rfl

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

set_option maxHeartbeats 1600000 in
/-- The pipeline's body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every fair run ends, with each pipelined array at what the proof data says and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The frame: the arguments unchanged and the machine quiet. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.KernelIdeal.Gen

end
-- ==== Proof.Frames.lean ====
module

public import proofs.«01_k».proof.Defs
public import proofs.«01_k».proof.Proof.Gen.Kernel
public import proofs.«01_k».proof.Proof.Frame

/-! # The two frames

The program as printed and its ideal reading are the same text, so the run of `Frame`, over any reading of the floats,
gives both frames. -/

@[expose] public section

set_option maxRecDepth 16384

noncomputable section

namespace Cert.Proof

open Idealize.ShloMosaic Idealize.ShloMosaic.TcCoe Idealize.SL.Sem

/-- The ideal program's frame over any reading `F` of the floats. -/
def FrameAt (F : FTy → Type) [FloatOps F] : Prop :=
  ∀ (m : (ℓ : Loc Cert.KernelIdeal.nD Cert.KernelIdeal.τ Cert.KernelIdeal.sig) → Buf (Elt F) ℓ) (g : Dev Cert.KernelIdeal.nD → PrngReg), True →
    θ_run (@Cert.KernelIdeal.defs F _ Cert.KernelIdeal.Gen.facts) (onTc (τ := Cert.KernelIdeal.τ) (@Cert.KernelIdeal.main F _ Cert.KernelIdeal.Gen.facts))
      ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

theorem frameAt (F : FTy → Type) [FloatOps F] : FrameAt F := fun m g _ => Cert.KernelIdeal.Gen.frame m g

theorem frame_ideal : @Cert.quiescent_KernelIdeal Cert.KernelIdeal.Gen.facts :=
  fun m g _ => Cert.KernelIdeal.Gen.frame m g

/-- The two programs are one text, so their frame statements are one proposition. -/
theorem same : @Cert.quiescent_Kernel Cert.Kernel.Gen.facts = FrameAt Bits := by sl_kernel_rfl

theorem frame_printed : @Cert.quiescent_Kernel Cert.Kernel.Gen.facts := same.mpr (frameAt Bits)

end Cert.Proof

end
-- ==== Proof.Body.lean ====
module

public import proofs.«01_k».proof.Proof.Gen.KernelIdeal.Skeleton
public import Idealize.ShloMosaic.Lib.Pipeline.ValueKit

/-! # What one block computes

The values the kernel's body names, read at one row and one channel of a block of 256 tokens. -/

@[expose] public section

set_option maxRecDepth 16384

noncomputable section

namespace Cert.KernelIdeal.Body

open Cert.KernelIdeal Cert.KernelIdeal.Gen Idealize.ShloMosaic Idealize.ShloMosaic.TcCoe

/-- The cotangent of the merge's result: the residual's cotangent times the gate. -/
theorem pay4_at (v7 : Vec Ideal S1x256x1024 .f32) (v22 : Vec Ideal S1x1024 .f32) (r : Fin 256) (k : Fin 1024) :
    k0_pay4 v7 v22 (ix2 r k) = v7 (ix3 0 r k) * v22 (ix2 0 k) := by
  pointwise [k0_pay4, k0_pay2]

theorem pay5_at (v7 : Vec Ideal S1x256x1024 .f32) (v22 : Vec Ideal S1x1024 .f32) (r : Fin 256) (k : Fin 1024) :
    k0_pay5 v7 v22 (ix3 0 r k) = v7 (ix3 0 r k) * v22 (ix2 0 k) := by
  pointwise [k0_pay5, k0_pay4, k0_pay2]

theorem pay6_at (v7 : Vec Ideal S1x256x1024 .f32) (v22 : Vec Ideal S1x1024 .f32) (v29 : Vec Ideal S1024x1024 .bf16)
    (r : Fin 256) (d : Fin 1024) :
    k0_pay6 v7 v22 v29 (ix2 r d) = ∑ k : Fin 1024, v7 (ix3 0 r k) * v22 (ix2 0 k) * v29 (ix2 d k) := by
  pointwise [k0_pay6, k0_pay4, k0_pay2]

theorem pay9_at (v31 v33 : Vec Ideal S1x256x512 .bf16) (r : Fin 256) (d : Fin 1024) :
    k0_pay9 v31 v33 (ix2 r d) = Ideal.logistic (if h : d.val < 512 then v31 (ix3 0 r ⟨d.val, h⟩) else v33 (ix3 0 r ⟨d.val - 512, by omega⟩)) := by
  pointwise [k0_pay9]

theorem pay10_at (v51 : Vec Ideal S1x256x384 .bf16) (v53 : Vec Ideal S384x1024 .bf16) (r : Fin 256) (d : Fin 1024) :
    k0_pay10 v51 v53 (ix2 r d) = ∑ k : Fin 384, v51 (ix3 0 r k) * v53 (ix2 k d) := by
  pointwise [k0_pay10]

theorem pay14_at (v58 : FVec Ideal S256x1024 .bf16) (v62 : Vec Ideal S384x1024 .bf16) (r : Fin 256) (j : Fin 384) :
    k0_pay14 v58 v62 (ix3 0 r j) = ∑ d : Fin 1024, v58 (ix2 r d) * v62 (ix2 j d) := by
  pointwise [k0_pay14]

theorem pay15_at (v30 v50 v54 : FVec Ideal S256x1024 .f32) (r : Fin 256) (d : Fin 1024) :
    k0_pay15 v30 v50 v54 (ix2 r d) = v30 (ix2 r d) * v54 (ix2 r d) * v50 (ix2 r d) * (1 - v50 (ix2 r d)) := by
  pointwise [k0_pay15]

theorem pay3_at (v7 : Vec Ideal S1x256x1024 .f32) (v10 : Vec Ideal S1x1024 .f32) (v12 : Vec Ideal S1x256x1024 .bf16) (k : Fin 1024) :
    k0_pay3 v7 v10 v12 (ix2 0 k) = v10 (ix2 0 k) + ∑ r : Fin 256, v7 (ix3 0 r k) * v12 (ix3 0 r k) := by
  pointwise [k0_pay3, k0_pay2]

/-- A value of type bf16 or f32 is the same extended real. -/
theorem pay12_at (v30 : FVec Ideal S256x1024 .f32) (v31 v33 : Vec Ideal S1x256x512 .bf16) (r : Fin 256) (d : Fin 1024) :
    k0_pay12 v30 v31 v33 (ix2 r d) = v30 (ix2 r d) * k0_pay9 v31 v33 (ix2 r d) := by
  pointwise [k0_pay12]

theorem pay13_at (v30 : FVec Ideal S256x1024 .f32) (v31 v33 : Vec Ideal S1x256x512 .bf16) (r : Fin 256) (d : Fin 1024) :
    k0_pay13 v30 v31 v33 (ix3 0 r d) = v30 (ix2 r d) * k0_pay9 v31 v33 (ix2 r d) := by
  pointwise [k0_pay13, k0_pay12]

/-- The second gate: the sigmoid of two joined blocks. -/
theorem pay16_at (v37 v39 : Vec Ideal S1x256x512 .bf16) (r : Fin 256) (d : Fin 1024) :
    k0_pay16 (k0_pay7 v37 v39) (ix2 r d) = Ideal.logistic (if h : d.val < 512 then v37 (ix3 0 r ⟨d.val, h⟩) else v39 (ix3 0 r ⟨d.val - 512, by omega⟩)) := by
  pointwise [k0_pay16, k0_pay7]

/-- The third gate: the sigmoid of two joined blocks. -/
theorem pay23_at (v43 v45 : Vec Ideal S1x256x512 .bf16) (r : Fin 256) (d : Fin 1024) :
    k0_pay23 (k0_pay8 v43 v45) (ix2 r d) = Ideal.logistic (if h : d.val < 512 then v43 (ix3 0 r ⟨d.val, h⟩) else v45 (ix3 0 r ⟨d.val - 512, by omega⟩)) := by
  pointwise [k0_pay23, k0_pay8]

/-- The second branch's projection. -/
theorem pay17_at (v75 : Vec Ideal S1x256x256 .bf16) (v77 : Vec Ideal S256x1024 .bf16) (r : Fin 256) (d : Fin 1024) :
    k0_pay17 v75 v77 (ix2 r d) = ∑ k : Fin 256, v75 (ix3 0 r k) * v77 (ix2 k d) := by
  pointwise [k0_pay17]

/-- The third branch's projection. -/
theorem pay24_at (v99 : Vec Ideal S1x256x384 .bf16) (v101 : Vec Ideal S384x1024 .bf16) (r : Fin 256) (d : Fin 1024) :
    k0_pay24 v99 v101 (ix2 r d) = ∑ k : Fin 384, v99 (ix3 0 r k) * v101 (ix2 k d) := by
  pointwise [k0_pay24]

theorem pay11_at (v31 v33 : Vec Ideal S1x256x512 .bf16) (v51 : Vec Ideal S1x256x384 .bf16) (v53 : Vec Ideal S384x1024 .bf16) (r : Fin 256) (d : Fin 1024) :
    k0_pay11 v31 v33 v51 v53 (ix2 r d) = k0_pay9 v31 v33 (ix2 r d) * k0_pay10 v51 v53 (ix2 r d) := by
  pointwise [k0_pay11]

theorem pay18_at (v42 v56 : FVec Ideal S256x1024 .f32) (v75 : Vec Ideal S1x256x256 .bf16) (v77 : Vec Ideal S256x1024 .bf16) (r : Fin 256) (d : Fin 1024) :
    k0_pay18 v42 v56 v75 v77 (ix2 r d) = v56 (ix2 r d) + k0_pay16 v42 (ix2 r d) * k0_pay17 v75 v77 (ix2 r d) := by
  pointwise [k0_pay18]

theorem pay28_at (v80 v98 : FVec Ideal S256x1024 .f32) (v99 : Vec Ideal S1x256x384 .bf16) (v101 : Vec Ideal S384x1024 .bf16)
    (r : Fin 256) (d : Fin 1024) :
    k0_pay28 v80 v98 v99 v101 (ix3 0 r d) = v80 (ix2 r d) + v98 (ix2 r d) * k0_pay24 v99 v101 (ix2 r d) := by
  pointwise [k0_pay28]

theorem pay20_at (v30 v42 : FVec Ideal S256x1024 .f32) (r : Fin 256) (d : Fin 1024) :
    k0_pay20 v30 v42 (ix3 0 r d) = v30 (ix2 r d) * k0_pay16 v42 (ix2 r d) := by
  pointwise [k0_pay20, k0_pay19]

theorem pay21_at (v30 v42 : FVec Ideal S256x1024 .f32) (v86 : Vec Ideal S256x1024 .bf16) (r : Fin 256) (j : Fin 256) :
    k0_pay21 v30 v42 v86 (ix3 0 r j) = ∑ d : Fin 1024, v30 (ix2 r d) * k0_pay16 v42 (ix2 r d) * v86 (ix2 j d) := by
  pointwise [k0_pay21, k0_pay19]

theorem pay22_at (v30 v42 : FVec Ideal S256x1024 .f32) (v75 : Vec Ideal S1x256x256 .bf16) (v77 : Vec Ideal S256x1024 .bf16) (r : Fin 256) (d : Fin 1024) :
    k0_pay22 v30 v42 v75 v77 (ix2 r d)
      = v30 (ix2 r d) * k0_pay17 v75 v77 (ix2 r d) * k0_pay16 v42 (ix2 r d) * (1 - k0_pay16 v42 (ix2 r d)) := by
  pointwise [k0_pay22]

theorem pay26_at (v30 v98 : FVec Ideal S256x1024 .f32) (r : Fin 256) (d : Fin 1024) :
    k0_pay26 v30 v98 (ix3 0 r d) = v30 (ix2 r d) * v98 (ix2 r d) := by
  pointwise [k0_pay26, k0_pay25]

theorem pay27_at (v30 v98 : FVec Ideal S256x1024 .f32) (v110 : Vec Ideal S384x1024 .bf16) (r : Fin 256) (j : Fin 384) :
    k0_pay27 v30 v98 v110 (ix3 0 r j) = ∑ d : Fin 1024, v30 (ix2 r d) * v98 (ix2 r d) * v110 (ix2 j d) := by
  pointwise [k0_pay27, k0_pay25]

/-- The three gates' cotangents side by side. -/
theorem pay29_at (v30 : FVec Ideal S256x1024 .f32) (v73 v97 : FVec Ideal S256x1024 .bf16) (v98 : FVec Ideal S256x1024 .f32)
    (v99 : Vec Ideal S1x256x384 .bf16) (v101 : Vec Ideal S384x1024 .bf16) (r : Fin 256) (e : Fin 3072) :
    k0_pay29 v30 v73 v97 v98 v99 v101 (ix3 0 r e)
      = if h : e.val < 1024 then v73 (ix2 r ⟨e.val, h⟩)
        else if h' : e.val - 1024 < 1024 then v97 (ix2 r ⟨e.val - 1024, by omega⟩)
        else v30 (ix2 r ⟨e.val - 1024 - 1024, by omega⟩) * k0_pay24 v99 v101 (ix2 r ⟨e.val - 1024 - 1024, by omega⟩)
          * v98 (ix2 r ⟨e.val - 1024 - 1024, by omega⟩) * (1 - v98 (ix2 r ⟨e.val - 1024 - 1024, by omega⟩)) := by
  pointwise [k0_pay29]

end Cert.KernelIdeal.Body
end
-- ==== Proof.Spec.lean ====
module

public import Idealize.ShloMosaic.Lib.Pointwise

/-! # What the backward pass of the gated merge computes

Every quantity of the merge's backward pass as a function of the arguments, one array element at a time: the
cotangent of the merge's result, its pull-back through the output matrix, through the three gates and through the
three branch matrices, and the cotangent of the modulation's gate. Both programs are shown to leave these values. -/

@[expose] public section

noncomputable section

namespace Cert.Merge

open Idealize.ShloMosaic

/-- An array of extended reals of rank three, by batch element, token and channel. -/
abbrev Tok (K : ℕ) (φ : FTy) := FVec Ideal ⟨3, ![4, 2304, K]⟩ φ
/-- A matrix of extended reals. -/
abbrev Mat (K L : ℕ) (φ : FTy) := FVec Ideal ⟨2, ![K, L]⟩ φ

/-- The modulation row a token takes: row 4 for the 256 context tokens that come first, else its batch element's. -/
def row (b : Fin 4) (t : Fin 2304) : Fin 8 := if t.val < 256 then 4 else ⟨b.val, by omega⟩

/-- The gate of the residual branch at a token: the third of the modulation's six parts. -/
def gate (x5 : Mat 8 6144 .f32) (b : Fin 4) (t : Fin 2304) (k : Fin 1024) : EReal :=
  x5 (ix2 (row b t) ⟨2048 + k.val, by omega⟩)

/-- The cotangent of the merge's result. -/
def dmo (x0 : Tok 1024 .f32) (x5 : Mat 8 6144 .f32) (b : Fin 4) (t : Fin 2304) (k : Fin 1024) : EReal :=
  x0 (ix3 b t k) * gate x5 b t k

/-- The cotangent of the gated sum: through the output matrix. -/
def dy (x0 : Tok 1024 .f32) (x5 : Mat 8 6144 .f32) (x9 : Mat 1024 1024 .bf16) (b : Fin 4) (t : Fin 2304) (d : Fin 1024) : EReal :=
  ∑ k : Fin 1024, dmo x0 x5 b t k * x9 (ix2 d k)

/-- The sigmoid gate whose channels begin at column `o` of the input projection. -/
def sg (x4 : Tok 4608 .bf16) (o : ℕ) (ho : o + 1024 ≤ 4608) (b : Fin 4) (t : Fin 2304) (d : Fin 1024) : EReal :=
  Ideal.logistic (x4 (ix3 b t ⟨o + d.val, by omega⟩))

/-- A branch projected to the model's width. -/
def proj {K : ℕ} (x : Tok K .bf16) (w : Mat K 1024 .bf16) (b : Fin 4) (t : Fin 2304) (d : Fin 1024) : EReal :=
  ∑ k : Fin K, x (ix3 b t k) * w (ix2 k d)

/-- The gated sum of the three branches. -/
def ysum (x1 : Tok 384 .bf16) (x2 : Tok 256 .bf16) (x3 : Tok 384 .bf16) (x4 : Tok 4608 .bf16) (x6 : Mat 384 1024 .bf16)
    (x7 : Mat 256 1024 .bf16) (x8 : Mat 384 1024 .bf16) (b : Fin 4) (t : Fin 2304) (d : Fin 1024) : EReal :=
  sg x4 1536 (by omega) b t d * proj x1 x6 b t d + sg x4 2560 (by omega) b t d * proj x2 x7 b t d
    + sg x4 3584 (by omega) b t d * proj x3 x8 b t d

/-- The merge's result: the gated sum through the output matrix. -/
def mo (x1 : Tok 384 .bf16) (x2 : Tok 256 .bf16) (x3 : Tok 384 .bf16) (x4 : Tok 4608 .bf16) (x6 : Mat 384 1024 .bf16)
    (x7 : Mat 256 1024 .bf16) (x8 : Mat 384 1024 .bf16) (x9 : Mat 1024 1024 .bf16) (b : Fin 4) (t : Fin 2304) (k : Fin 1024) : EReal :=
  ∑ d : Fin 1024, ysum x1 x2 x3 x4 x6 x7 x8 b t d * x9 (ix2 d k)

/-- The cotangent of a projected branch. -/
def dp (x0 : Tok 1024 .f32) (x4 : Tok 4608 .bf16) (x5 : Mat 8 6144 .f32) (x9 : Mat 1024 1024 .bf16) (o : ℕ) (ho : o + 1024 ≤ 4608)
    (b : Fin 4) (t : Fin 2304) (d : Fin 1024) : EReal :=
  dy x0 x5 x9 b t d * sg x4 o ho b t d

/-- The cotangent of a branch: through its matrix. -/
def dbr {K : ℕ} (w : Mat K 1024 .bf16) (x0 : Tok 1024 .f32) (x4 : Tok 4608 .bf16) (x5 : Mat 8 6144 .f32) (x9 : Mat 1024 1024 .bf16)
    (o : ℕ) (ho : o + 1024 ≤ 4608) (b : Fin 4) (t : Fin 2304) (j : Fin K) : EReal :=
  ∑ d : Fin 1024, dp x0 x4 x5 x9 o ho b t d * w (ix2 j d)

/-- The cotangent of a gate's argument: the sigmoid's derivative is `s (1 - s)`. -/
def dz {K : ℕ} (x : Tok K .bf16) (w : Mat K 1024 .bf16) (x0 : Tok 1024 .f32) (x4 : Tok 4608 .bf16) (x5 : Mat 8 6144 .f32)
    (x9 : Mat 1024 1024 .bf16) (o : ℕ) (ho : o + 1024 ≤ 4608) (b : Fin 4) (t : Fin 2304) (d : Fin 1024) : EReal :=
  dy x0 x5 x9 b t d * proj x w b t d * sg x4 o ho b t d * (1 - sg x4 o ho b t d)

/-- The three gates' cotangents side by side. -/
def dzg (x0 : Tok 1024 .f32) (x1 : Tok 384 .bf16) (x2 : Tok 256 .bf16) (x3 : Tok 384 .bf16) (x4 : Tok 4608 .bf16) (x5 : Mat 8 6144 .f32)
    (x6 : Mat 384 1024 .bf16) (x7 : Mat 256 1024 .bf16) (x8 : Mat 384 1024 .bf16) (x9 : Mat 1024 1024 .bf16)
    (b : Fin 4) (t : Fin 2304) (e : Fin 3072) : EReal :=
  if h : e.val < 1024 then dz x1 x6 x0 x4 x5 x9 1536 (by omega) b t ⟨e.val, h⟩
  else if h' : e.val - 1024 < 1024 then dz x2 x7 x0 x4 x5 x9 2560 (by omega) b t ⟨e.val - 1024, h'⟩
  else dz x3 x8 x0 x4 x5 x9 3584 (by omega) b t ⟨e.val - 1024 - 1024, by omega⟩

/-- A token's share in the cotangent of a modulation gate. -/
def gterm (x0 : Tok 1024 .f32) (x1 : Tok 384 .bf16) (x2 : Tok 256 .bf16) (x3 : Tok 384 .bf16) (x4 : Tok 4608 .bf16)
    (x6 : Mat 384 1024 .bf16) (x7 : Mat 256 1024 .bf16) (x8 : Mat 384 1024 .bf16) (x9 : Mat 1024 1024 .bf16)
    (b : Fin 4) (t : Fin 2304) (k : Fin 1024) : EReal :=
  x0 (ix3 b t k) * mo x1 x2 x3 x4 x6 x7 x8 x9 b t k

/-- The cotangent of the eight gates: a batch element's latent tokens sum into its own row, all context tokens into row 4. -/
def dgate (g : Fin 4 → Fin 2304 → Fin 1024 → EReal) (r : Fin 8) (k : Fin 1024) : EReal :=
  if h : r.val < 4 then ∑ t : Fin 2048, g ⟨r.val, h⟩ ⟨256 + t.val, by omega⟩ k
  else if r.val < 5 then ∑ b : Fin 4, ∑ t : Fin 256, g b ⟨t.val, by omega⟩ k
  else 0

end Cert.Merge

end
-- ==== Proof.Blocks.lean ====
module

public import proofs.«01_k».proof.Proof.Frame
public import proofs.«01_k».proof.Proof.Body
public import proofs.«01_k».proof.Proof.Spec
public import Idealize.ShloMosaic.Lib.Pipeline.ValueKit

/-! # The blocks a grid point reads

Point `t` of the grid works on batch element `t / 9` and on the 256 tokens from `256 (t % 9)` on. Every block it reads, at
one row and one channel, is the argument array at that token. -/

@[expose] public section

set_option maxRecDepth 16384

noncomputable section

namespace Cert.KernelIdeal.Blocks

open Cert.KernelIdeal Cert.KernelIdeal.Gen Cert.Merge Idealize.ShloMosaic Idealize.ShloMosaic.TcCoe Idealize.SL.Sem

variable (m : (ℓ : Loc nD τ sig) → Buf (Elt Ideal) ℓ)

/-- The batch element of a grid point. -/
def bt (t : Fin cfg0.N) : Fin 4 := ⟨t.val / 9, by have := t.isLt; have h : cfg0.N = 36 := N_0; omega⟩
/-- The token of row `r` of a grid point's blocks. -/
def tk (t : Fin cfg0.N) (r : Fin 256) : Fin 2304 := ⟨t.val % 9 * 256 + r.val, by omega⟩

theorem idx : ∀ t : Fin cfg0.N,
    win0_0.index t = ![t.val / 9, t.val % 9, 0] ∧ win0_1.index t = ![t.val / 9, t.val % 9, 0]
    ∧ win0_2.index t = ![t.val / 9, t.val % 9, 0] ∧ win0_3.index t = ![t.val / 9, t.val % 9, 0]
    ∧ win0_4.index t = ![t.val / 9, t.val % 9, 0] ∧ win0_5.index t = ![t.val / 9, t.val % 9, 3]
    ∧ win0_6.index t = ![t.val / 9, t.val % 9, 4] ∧ win0_7.index t = ![t.val / 9, t.val % 9, 5]
    ∧ win0_8.index t = ![t.val / 9, t.val % 9, 6] ∧ win0_9.index t = ![t.val / 9, t.val % 9, 7]
    ∧ win0_10.index t = ![t.val / 9, t.val % 9, 8] ∧ win0_11.index t = ![0, 0] ∧ win0_12.index t = ![0, 0]
    ∧ win0_13.index t = ![0, 0] ∧ win0_14.index t = ![0, 0] ∧ win0_15.index t = ![0, 0] :=
  (by decide +kernel : ∀ t : Fin grid0.N, _)

theorem idx_out : ∀ t : Fin cfg0.N,
    win0_16.index t = ![t.val / 9, t.val % 9, 0] ∧ win0_17.index t = ![t.val / 9, t.val % 9, 0]
    ∧ win0_18.index t = ![t.val / 9, t.val % 9, 0] ∧ win0_19.index t = ![t.val / 9, t.val % 9, 0]
    ∧ win0_20.index t = ![t.val / 9, t.val % 9, 0] ∧ win0_21.index t = ![t.val / 9, t.val % 9, 0]
    ∧ win0_22.index t = ![t.val / 9, t.val % 9, 0] ∧ win0_23.index t = ![t.val / 9, t.val % 9, 0]
    ∧ win0_24.index t = ![t.val / 9, t.val % 9, 0] ∧ win0_25.index t = ![0, 0] :=
  (by decide +kernel : ∀ t : Fin grid0.N, _)

/-- The modulation row of a grid point: row 4 at the context tile, else its batch element's. -/
def rw_ (t : Fin cfg0.N) : Fin 8 := if t.val % 9 = 0 then 4 else ⟨t.val / 9, by have := t.isLt; have h : cfg0.N = 36 := N_0; omega⟩

theorem row_eq (t : Fin cfg0.N) (r : Fin 256) : row (bt t) (tk t r) = rw_ t := by
  unfold row rw_ bt tk
  by_cases h : t.val % 9 = 0
  · rw [if_pos h, if_pos (by have := r.isLt; dsimp only; omega)]
  · rw [if_neg h, if_neg (by dsimp only; omega)]

/-- Where a point finds its row of the modulation and of the gate's gradient. -/
theorem off2 : ∀ t : Fin cfg0.N, k0_off2 (grid0.coords t) = ![if t.val % 9 = 0 then 4 else t.val / 9, 2048] :=
  (by decide +kernel : ∀ t : Fin grid0.N, _)
theorem off1 : ∀ t : Fin cfg0.N, k0_off1 (grid0.coords t) = ![if t.val % 9 = 0 then 4 else t.val / 9, 0] :=
  (by decide +kernel : ∀ t : Fin grid0.N, _)

theorem blk0 (c : Dev nD) (t : Fin cfg0.N) (r : Fin 256) (k : Fin 1024) :
    (iblk m c 0 t : Vec Ideal S1x256x1024 .f32) (ix3 0 r k) = m ((c : Thread nD τ).loc main_arg0) (ix3 (bt t) (tk t r) k) := by
  blk_point [iblk, V, idx t, bt, tk]

theorem blk2 (c : Dev nD) (t : Fin cfg0.N) (r : Fin 256) (k : Fin 384) :
    (iblk m c 2 t : Vec Ideal S1x256x384 .bf16) (ix3 0 r k) = m ((c : Thread nD τ).loc main_arg1) (ix3 (bt t) (tk t r) k) := by
  blk_point [iblk, V, idx t, bt, tk]

theorem blk3 (c : Dev nD) (t : Fin cfg0.N) (r : Fin 256) (k : Fin 256) :
    (iblk m c 3 t : Vec Ideal S1x256x256 .bf16) (ix3 0 r k) = m ((c : Thread nD τ).loc main_arg2) (ix3 (bt t) (tk t r) k) := by
  blk_point [iblk, V, idx t, bt, tk]

theorem blk4 (c : Dev nD) (t : Fin cfg0.N) (r : Fin 256) (k : Fin 384) :
    (iblk m c 4 t : Vec Ideal S1x256x384 .bf16) (ix3 0 r k) = m ((c : Thread nD τ).loc main_arg3) (ix3 (bt t) (tk t r) k) := by
  blk_point [iblk, V, idx t, bt, tk]

theorem blk1 (c : Dev nD) (t : Fin cfg0.N) (r : Fin 256) (k : Fin 1024) :
    (iblk m c 1 t : Vec Ideal S1x256x1024 .bf16) (ix3 0 r k) = V m c main_v39 (ix3 (bt t) (tk t r) k) := by
  blk_point [iblk, idx t, bt, tk]

theorem blk5 (c : Dev nD) (t : Fin cfg0.N) (r : Fin 256) (k : Fin 512) :
    (iblk m c 5 t : Vec Ideal S1x256x512 .bf16) (ix3 0 r k) = m ((c : Thread nD τ).loc main_arg4) (ix3 (bt t) (tk t r) ⟨1536 + k.val, by omega⟩) := by
  blk_point [iblk, V, idx t, bt, tk]

theorem blk6 (c : Dev nD) (t : Fin cfg0.N) (r : Fin 256) (k : Fin 512) :
    (iblk m c 6 t : Vec Ideal S1x256x512 .bf16) (ix3 0 r k) = m ((c : Thread nD τ).loc main_arg4) (ix3 (bt t) (tk t r) ⟨2048 + k.val, by omega⟩) := by
  blk_point [iblk, V, idx t, bt, tk]

theorem blk7 (c : Dev nD) (t : Fin cfg0.N) (r : Fin 256) (k : Fin 512) :
    (iblk m c 7 t : Vec Ideal S1x256x512 .bf16) (ix3 0 r k) = m ((c : Thread nD τ).loc main_arg4) (ix3 (bt t) (tk t r) ⟨2560 + k.val, by omega⟩) := by
  blk_point [iblk, V, idx t, bt, tk]

theorem blk8 (c : Dev nD) (t : Fin cfg0.N) (r : Fin 256) (k : Fin 512) :
    (iblk m c 8 t : Vec Ideal S1x256x512 .bf16) (ix3 0 r k) = m ((c : Thread nD τ).loc main_arg4) (ix3 (bt t) (tk t r) ⟨3072 + k.val, by omega⟩) := by
  blk_point [iblk, V, idx t, bt, tk]

theorem blk9 (c : Dev nD) (t : Fin cfg0.N) (r : Fin 256) (k : Fin 512) :
    (iblk m c 9 t : Vec Ideal S1x256x512 .bf16) (ix3 0 r k) = m ((c : Thread nD τ).loc main_arg4) (ix3 (bt t) (tk t r) ⟨3584 + k.val, by omega⟩) := by
  blk_point [iblk, V, idx t, bt, tk]

theorem blk10 (c : Dev nD) (t : Fin cfg0.N) (r : Fin 256) (k : Fin 512) :
    (iblk m c 10 t : Vec Ideal S1x256x512 .bf16) (ix3 0 r k) = m ((c : Thread nD τ).loc main_arg4) (ix3 (bt t) (tk t r) ⟨4096 + k.val, by omega⟩) := by
  blk_point [iblk, V, idx t, bt, tk]

theorem blk12 (c : Dev nD) (t : Fin cfg0.N) (r : Fin 384) (k : Fin 1024) :
    (iblk m c 12 t : Vec Ideal S384x1024 .bf16) (ix2 r k) = m ((c : Thread nD τ).loc main_arg6) (ix2 r k) := by
  blk_point [iblk, V, idx t, bt, tk]

theorem blk13 (c : Dev nD) (t : Fin cfg0.N) (r : Fin 256) (k : Fin 1024) :
    (iblk m c 13 t : Vec Ideal S256x1024 .bf16) (ix2 r k) = m ((c : Thread nD τ).loc main_arg7) (ix2 r k) := by
  blk_point [iblk, V, idx t, bt, tk]

theorem blk14 (c : Dev nD) (t : Fin cfg0.N) (r : Fin 384) (k : Fin 1024) :
    (iblk m c 14 t : Vec Ideal S384x1024 .bf16) (ix2 r k) = m ((c : Thread nD τ).loc main_arg8) (ix2 r k) := by
  blk_point [iblk, V, idx t, bt, tk]

theorem blk15 (c : Dev nD) (t : Fin cfg0.N) (r : Fin 1024) (k : Fin 1024) :
    (iblk m c 15 t : Vec Ideal S1024x1024 .bf16) (ix2 r k) = m ((c : Thread nD τ).loc main_arg9) (ix2 r k) := by
  blk_point [iblk, V, idx t, bt, tk]

/-- The gate a point multiplies its tokens by. -/
theorem gate_at (c : Dev nD) (t : Fin cfg0.N) (k : Fin 1024) (h) :
    View.ld (iblk m c 11 t : Vec Ideal S8x6144 .f32) (Rect.unit (s := S8x6144) (k0_off2 (grid0.coords t)) ![1, 1024] h) (ix2 0 k)
      = m ((c : Thread nD τ).loc main_arg5) (ix2 (rw_ t) ⟨2048 + k.val, by omega⟩) := by
  pointwise []
  blk_point [iblk, V, idx t, bt, tk, off2 t]
  unfold rw_
  split <;> rfl

/-- The sigmoid gate of a point's tokens, from two joined blocks. -/
theorem pay9_gate (c : Dev nD) (t : Fin cfg0.N) (r : Fin 256) (d : Fin 1024) :
    k0_pay9 (iblk m c 5 t) (iblk m c 6 t) (ix2 r d) = sg (m ((c : Thread nD τ).loc main_arg4)) 1536 (by omega) (bt t) (tk t r) d := by
  rw [Body.pay9_at]
  unfold sg
  congr 1
  split
  · rw [blk5]
  · rw [blk6]
    congr 2
    apply Fin.ext
    dsimp only
    omega

/-- The sigmoid gate of a point's tokens, from two joined blocks. -/
theorem pay16_gate (c : Dev nD) (t : Fin cfg0.N) (r : Fin 256) (d : Fin 1024) :
    k0_pay16 (k0_pay7 (iblk m c 7 t) (iblk m c 8 t)) (ix2 r d) = sg (m ((c : Thread nD τ).loc main_arg4)) 2560 (by omega) (bt t) (tk t r) d := by
  rw [Body.pay16_at]
  unfold sg
  congr 1
  split
  · rw [blk7]
  · rw [blk8]
    congr 2
    apply Fin.ext
    dsimp only
    omega

/-- The sigmoid gate of a point's tokens, from two joined blocks. -/
theorem pay23_gate (c : Dev nD) (t : Fin cfg0.N) (r : Fin 256) (d : Fin 1024) :
    k0_pay23 (k0_pay8 (iblk m c 9 t) (iblk m c 10 t)) (ix2 r d) = sg (m ((c : Thread nD τ).loc main_arg4)) 3584 (by omega) (bt t) (tk t r) d := by
  rw [Body.pay23_at]
  unfold sg
  congr 1
  split
  · rw [blk9]
  · rw [blk10]
    congr 2
    apply Fin.ext
    dsimp only
    omega

/-- The branches projected at a point's tokens. -/
theorem pay10_proj (c : Dev nD) (t : Fin cfg0.N) (r : Fin 256) (d : Fin 1024) :
    k0_pay10 (iblk m c 2 t) (iblk m c 12 t) (ix2 r d)
      = proj (m ((c : Thread nD τ).loc main_arg1)) (m ((c : Thread nD τ).loc main_arg6)) (bt t) (tk t r) d := by
  rw [Body.pay10_at]; simp only [blk2, blk12]; rfl

theorem pay17_proj (c : Dev nD) (t : Fin cfg0.N) (r : Fin 256) (d : Fin 1024) :
    k0_pay17 (iblk m c 3 t) (iblk m c 13 t) (ix2 r d)
      = proj (m ((c : Thread nD τ).loc main_arg2)) (m ((c : Thread nD τ).loc main_arg7)) (bt t) (tk t r) d := by
  rw [Body.pay17_at]; simp only [blk3, blk13]; rfl

theorem pay24_proj (c : Dev nD) (t : Fin cfg0.N) (r : Fin 256) (d : Fin 1024) :
    k0_pay24 (iblk m c 4 t) (iblk m c 14 t) (ix2 r d)
      = proj (m ((c : Thread nD τ).loc main_arg3)) (m ((c : Thread nD τ).loc main_arg8)) (bt t) (tk t r) d := by
  rw [Body.pay24_at]; simp only [blk4, blk14]; rfl

/-- The gated sum's cotangent at a point's tokens. -/
theorem pay6_dy (c : Dev nD) (t : Fin cfg0.N) (r : Fin 256) (d : Fin 1024) (h) :
    k0_pay6 (iblk m c 0 t) (View.ld (iblk m c 11 t : Vec Ideal S8x6144 .f32) (Rect.unit (s := S8x6144) (k0_off2 (grid0.coords t)) ![1, 1024] h))
        (iblk m c 15 t) (ix2 r d)
      = dy (m ((c : Thread nD τ).loc main_arg0)) (m ((c : Thread nD τ).loc main_arg5)) (m ((c : Thread nD τ).loc main_arg9)) (bt t) (tk t r) d := by
  rw [Body.pay6_at]; simp only [blk0, gate_at, blk15]
  unfold dy dmo gate; simp only [row_eq]

/-- A block index `y` of point `t` sits at the array index `i` when the coordinates say so. -/
theorem close {K : ℕ} {X : Shape.Idx ⟨3, ![1, 256, K]⟩ → EReal} {f : Fin 4 → Fin 2304 → Fin K → EReal} {t : Fin cfg0.N}
    {y : Shape.Idx ⟨3, ![1, 256, K]⟩} {i : Shape.Idx ⟨3, ![4, 2304, K]⟩}
    (hX : ∀ (r : Fin 256) (k : Fin K), X (ix3 0 r k) = f (bt t) (tk t r) k)
    (h0 : (i 0).val = t.val / 9) (h1 : (i 1).val = t.val % 9 * 256 + (y 1).val) (h2 : (i 2).val = (y 2).val) :
    X y = f (i 0) (i 1) (i 2) := by
  have hy : y = ix3 0 (y 1) (y 2) := by blk_ext []
  refine (congrArg X hy).trans ((hX (y 1) (y 2)).trans ?_)
  have e0 : bt t = i 0 := Fin.ext h0.symm
  have e1 : tk t (y 1) = i 1 := Fin.ext h1.symm
  have e2 : y 2 = i 2 := Fin.ext h2.symm
  rw [← e0, ← e1, ← e2]

end Cert.KernelIdeal.Blocks
end
-- ==== Proof.Outs.lean ====
module

public import proofs.«01_k».proof.Proof.Blocks

/-! # What the kernel's arrays hold after the run

Each block-wise output of the launch, read at one element: the value the specification names. -/

@[expose] public section

set_option maxRecDepth 16384
set_option maxHeartbeats 1600000

noncomputable section

namespace Cert.KernelIdeal.Blocks

open Cert.KernelIdeal Cert.KernelIdeal.Gen Cert.Merge Idealize.ShloMosaic Idealize.ShloMosaic.TcCoe Idealize.SL.Sem

variable (m : (ℓ : Loc nD τ sig) → Buf (Elt Ideal) ℓ)

/-- The first branch's cotangent. -/
theorem out16 (c : Dev nD) : (dats m 0 c).arrAt 16 cfg0.N = fun i => dbr (m ((c : Thread nD τ).loc main_arg6)) (m ((c : Thread nD τ).loc main_arg0)) (m ((c : Thread nD τ).loc main_arg4)) (m ((c : Thread nD τ).loc main_arg5)) (m ((c : Thread nD τ).loc main_arg9)) 1536 (by omega) (i 0) (i 1) (i 2) := by
  refine (dats m 0 c).arrAt_eq_of_covers 16 _ (by decide +kernel) fun t hf y => ?_
  blk_simp
  rw [after0_16]
  by_cases h : t.val % 36 = 0
  · rw [outs_A m c t h]
    unfold outA runA
    frame_out
    refine close (t := t) (f := dbr (m ((c : Thread nD τ).loc main_arg6)) (m ((c : Thread nD τ).loc main_arg0)) (m ((c : Thread nD τ).loc main_arg4)) (m ((c : Thread nD τ).loc main_arg5)) (m ((c : Thread nD τ).loc main_arg9)) 1536 (by omega)) (fun r k => ?_) ?_ ?_ ?_
    · simp only [Body.pay14_at, Body.pay12_at, pay6_dy, pay9_gate, blk12]; rfl
    all_goals blk_simp [idx_out t]
  · rw [outs_B m c t h]
    unfold outB runB
    frame_out
    refine close (t := t) (f := dbr (m ((c : Thread nD τ).loc main_arg6)) (m ((c : Thread nD τ).loc main_arg0)) (m ((c : Thread nD τ).loc main_arg4)) (m ((c : Thread nD τ).loc main_arg5)) (m ((c : Thread nD τ).loc main_arg9)) 1536 (by omega)) (fun r k => ?_) ?_ ?_ ?_
    · simp only [Body.pay14_at, Body.pay12_at, pay6_dy, pay9_gate, blk12]; rfl
    all_goals blk_simp [idx_out t]

/-- The second branch's cotangent. -/
theorem out17 (c : Dev nD) : (dats m 0 c).arrAt 17 cfg0.N = fun i => dbr (m ((c : Thread nD τ).loc main_arg7)) (m ((c : Thread nD τ).loc main_arg0)) (m ((c : Thread nD τ).loc main_arg4)) (m ((c : Thread nD τ).loc main_arg5)) (m ((c : Thread nD τ).loc main_arg9)) 2560 (by omega) (i 0) (i 1) (i 2) := by
  refine (dats m 0 c).arrAt_eq_of_covers 17 _ (by decide +kernel) fun t hf y => ?_
  blk_simp
  rw [after0_17]
  by_cases h : t.val % 36 = 0
  · rw [outs_A m c t h]
    unfold outA runA
    frame_out
    refine close (t := t) (f := dbr (m ((c : Thread nD τ).loc main_arg7)) (m ((c : Thread nD τ).loc main_arg0)) (m ((c : Thread nD τ).loc main_arg4)) (m ((c : Thread nD τ).loc main_arg5)) (m ((c : Thread nD τ).loc main_arg9)) 2560 (by omega)) (fun r k => ?_) ?_ ?_ ?_
    · simp only [Body.pay21_at, pay6_dy, pay16_gate, blk13]; rfl
    all_goals blk_simp [idx_out t]
  · rw [outs_B m c t h]
    unfold outB runB
    frame_out
    refine close (t := t) (f := dbr (m ((c : Thread nD τ).loc main_arg7)) (m ((c : Thread nD τ).loc main_arg0)) (m ((c : Thread nD τ).loc main_arg4)) (m ((c : Thread nD τ).loc main_arg5)) (m ((c : Thread nD τ).loc main_arg9)) 2560 (by omega)) (fun r k => ?_) ?_ ?_ ?_
    · simp only [Body.pay21_at, pay6_dy, pay16_gate, blk13]; rfl
    all_goals blk_simp [idx_out t]

/-- The third branch's cotangent. -/
theorem out18 (c : Dev nD) : (dats m 0 c).arrAt 18 cfg0.N = fun i => dbr (m ((c : Thread nD τ).loc main_arg8)) (m ((c : Thread nD τ).loc main_arg0)) (m ((c : Thread nD τ).loc main_arg4)) (m ((c : Thread nD τ).loc main_arg5)) (m ((c : Thread nD τ).loc main_arg9)) 3584 (by omega) (i 0) (i 1) (i 2) := by
  refine (dats m 0 c).arrAt_eq_of_covers 18 _ (by decide +kernel) fun t hf y => ?_
  blk_simp
  rw [after0_18]
  by_cases h : t.val % 36 = 0
  · rw [outs_A m c t h]
    unfold outA runA
    frame_out
    refine close (t := t) (f := dbr (m ((c : Thread nD τ).loc main_arg8)) (m ((c : Thread nD τ).loc main_arg0)) (m ((c : Thread nD τ).loc main_arg4)) (m ((c : Thread nD τ).loc main_arg5)) (m ((c : Thread nD τ).loc main_arg9)) 3584 (by omega)) (fun r k => ?_) ?_ ?_ ?_
    · simp only [Body.pay27_at, pay6_dy, pay23_gate, blk14]; rfl
    all_goals blk_simp [idx_out t]
  · rw [outs_B m c t h]
    unfold outB runB
    frame_out
    refine close (t := t) (f := dbr (m ((c : Thread nD τ).loc main_arg8)) (m ((c : Thread nD τ).loc main_arg0)) (m ((c : Thread nD τ).loc main_arg4)) (m ((c : Thread nD τ).loc main_arg5)) (m ((c : Thread nD τ).loc main_arg9)) 3584 (by omega)) (fun r k => ?_) ?_ ?_ ?_
    · simp only [Body.pay27_at, pay6_dy, pay23_gate, blk14]; rfl
    all_goals blk_simp [idx_out t]

/-- The first projection's cotangent. -/
theorem out19 (c : Dev nD) : (dats m 0 c).arrAt 19 cfg0.N = fun i => dp (m ((c : Thread nD τ).loc main_arg0)) (m ((c : Thread nD τ).loc main_arg4)) (m ((c : Thread nD τ).loc main_arg5)) (m ((c : Thread nD τ).loc main_arg9)) 1536 (by omega) (i 0) (i 1) (i 2) := by
  refine (dats m 0 c).arrAt_eq_of_covers 19 _ (by decide +kernel) fun t hf y => ?_
  blk_simp
  rw [after0_19]
  by_cases h : t.val % 36 = 0
  · rw [outs_A m c t h]
    unfold outA runA
    frame_out
    refine close (t := t) (f := dp (m ((c : Thread nD τ).loc main_arg0)) (m ((c : Thread nD τ).loc main_arg4)) (m ((c : Thread nD τ).loc main_arg5)) (m ((c : Thread nD τ).loc main_arg9)) 1536 (by omega)) (fun r k => ?_) ?_ ?_ ?_
    · simp only [Body.pay13_at, pay6_dy, pay9_gate]; rfl
    all_goals blk_simp [idx_out t]
  · rw [outs_B m c t h]
    unfold outB runB
    frame_out
    refine close (t := t) (f := dp (m ((c : Thread nD τ).loc main_arg0)) (m ((c : Thread nD τ).loc main_arg4)) (m ((c : Thread nD τ).loc main_arg5)) (m ((c : Thread nD τ).loc main_arg9)) 1536 (by omega)) (fun r k => ?_) ?_ ?_ ?_
    · simp only [Body.pay13_at, pay6_dy, pay9_gate]; rfl
    all_goals blk_simp [idx_out t]

/-- The second projection's cotangent. -/
theorem out20 (c : Dev nD) : (dats m 0 c).arrAt 20 cfg0.N = fun i => dp (m ((c : Thread nD τ).loc main_arg0)) (m ((c : Thread nD τ).loc main_arg4)) (m ((c : Thread nD τ).loc main_arg5)) (m ((c : Thread nD τ).loc main_arg9)) 2560 (by omega) (i 0) (i 1) (i 2) := by
  refine (dats m 0 c).arrAt_eq_of_covers 20 _ (by decide +kernel) fun t hf y => ?_
  blk_simp
  rw [after0_20]
  by_cases h : t.val % 36 = 0
  · rw [outs_A m c t h]
    unfold outA runA
    frame_out
    refine close (t := t) (f := dp (m ((c : Thread nD τ).loc main_arg0)) (m ((c : Thread nD τ).loc main_arg4)) (m ((c : Thread nD τ).loc main_arg5)) (m ((c : Thread nD τ).loc main_arg9)) 2560 (by omega)) (fun r k => ?_) ?_ ?_ ?_
    · simp only [Body.pay20_at, pay6_dy, pay16_gate]; rfl
    all_goals blk_simp [idx_out t]
  · rw [outs_B m c t h]
    unfold outB runB
    frame_out
    refine close (t := t) (f := dp (m ((c : Thread nD τ).loc main_arg0)) (m ((c : Thread nD τ).loc main_arg4)) (m ((c : Thread nD τ).loc main_arg5)) (m ((c : Thread nD τ).loc main_arg9)) 2560 (by omega)) (fun r k => ?_) ?_ ?_ ?_
    · simp only [Body.pay20_at, pay6_dy, pay16_gate]; rfl
    all_goals blk_simp [idx_out t]

/-- The third projection's cotangent. -/
theorem out21 (c : Dev nD) : (dats m 0 c).arrAt 21 cfg0.N = fun i => dp (m ((c : Thread nD τ).loc main_arg0)) (m ((c : Thread nD τ).loc main_arg4)) (m ((c : Thread nD τ).loc main_arg5)) (m ((c : Thread nD τ).loc main_arg9)) 3584 (by omega) (i 0) (i 1) (i 2) := by
  refine (dats m 0 c).arrAt_eq_of_covers 21 _ (by decide +kernel) fun t hf y => ?_
  blk_simp
  rw [after0_21]
  by_cases h : t.val % 36 = 0
  · rw [outs_A m c t h]
    unfold outA runA
    frame_out
    refine close (t := t) (f := dp (m ((c : Thread nD τ).loc main_arg0)) (m ((c : Thread nD τ).loc main_arg4)) (m ((c : Thread nD τ).loc main_arg5)) (m ((c : Thread nD τ).loc main_arg9)) 3584 (by omega)) (fun r k => ?_) ?_ ?_ ?_
    · simp only [Body.pay26_at, pay6_dy, pay23_gate]; rfl
    all_goals blk_simp [idx_out t]
  · rw [outs_B m c t h]
    unfold outB runB
    frame_out
    refine close (t := t) (f := dp (m ((c : Thread nD τ).loc main_arg0)) (m ((c : Thread nD τ).loc main_arg4)) (m ((c : Thread nD τ).loc main_arg5)) (m ((c : Thread nD τ).loc main_arg9)) 3584 (by omega)) (fun r k => ?_) ?_ ?_ ?_
    · simp only [Body.pay26_at, pay6_dy, pay23_gate]; rfl
    all_goals blk_simp [idx_out t]

/-- The gated sum. -/
theorem out22 (c : Dev nD) : (dats m 0 c).arrAt 22 cfg0.N = fun i => ysum (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (i 0) (i 1) (i 2) := by
  refine (dats m 0 c).arrAt_eq_of_covers 22 _ (by decide +kernel) fun t hf y => ?_
  blk_simp
  rw [after0_22]
  by_cases h : t.val % 36 = 0
  · rw [outs_A m c t h]
    unfold outA runA
    frame_out
    refine close (t := t) (f := ysum (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8))) (fun r k => ?_) ?_ ?_ ?_
    · simp only [Body.pay28_at, Body.pay18_at, Body.pay11_at, pay9_gate, pay16_gate, pay23_gate, pay10_proj, pay17_proj, pay24_proj]; rfl
    all_goals blk_simp [idx_out t]
  · rw [outs_B m c t h]
    unfold outB runB
    frame_out
    refine close (t := t) (f := ysum (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8))) (fun r k => ?_) ?_ ?_ ?_
    · simp only [Body.pay28_at, Body.pay18_at, Body.pay11_at, pay9_gate, pay16_gate, pay23_gate, pay10_proj, pay17_proj, pay24_proj]; rfl
    all_goals blk_simp [idx_out t]

/-- The cotangent of the merge's result. -/
theorem out23 (c : Dev nD) : (dats m 0 c).arrAt 23 cfg0.N = fun i => dmo (m ((c : Thread nD τ).loc main_arg0)) (m ((c : Thread nD τ).loc main_arg5)) (i 0) (i 1) (i 2) := by
  refine (dats m 0 c).arrAt_eq_of_covers 23 _ (by decide +kernel) fun t hf y => ?_
  blk_simp
  rw [after0_23]
  by_cases h : t.val % 36 = 0
  · rw [outs_A m c t h]
    unfold outA runA
    frame_out
    refine close (t := t) (f := dmo (m ((c : Thread nD τ).loc main_arg0)) (m ((c : Thread nD τ).loc main_arg5))) (fun r k => ?_) ?_ ?_ ?_
    · simp only [Body.pay5_at, blk0, gate_at]; unfold dmo gate; rw [row_eq]
    all_goals blk_simp [idx_out t]
  · rw [outs_B m c t h]
    unfold outB runB
    frame_out
    refine close (t := t) (f := dmo (m ((c : Thread nD τ).loc main_arg0)) (m ((c : Thread nD τ).loc main_arg5))) (fun r k => ?_) ?_ ?_ ?_
    · simp only [Body.pay5_at, blk0, gate_at]; unfold dmo gate; rw [row_eq]
    all_goals blk_simp [idx_out t]

/-- The three gates' cotangents side by side. -/
theorem out24 (c : Dev nD) : (dats m 0 c).arrAt 24 cfg0.N = fun i => dzg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (i 0) (i 1) (i 2) := by
  refine (dats m 0 c).arrAt_eq_of_covers 24 _ (by decide +kernel) fun t hf y => ?_
  blk_simp
  rw [after0_24]
  by_cases h : t.val % 36 = 0
  · rw [outs_A m c t h]
    unfold outA runA
    frame_out
    refine close (t := t) (f := dzg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (fun r k => ?_) ?_ ?_ ?_
    · simp only [Body.pay29_at, Body.pay15_at, Body.pay22_at, pay6_dy, pay9_gate, pay16_gate, pay23_gate, pay10_proj, pay17_proj, pay24_proj]; rfl
    all_goals blk_simp [idx_out t]
  · rw [outs_B m c t h]
    unfold outB runB
    frame_out
    refine close (t := t) (f := dzg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (fun r k => ?_) ?_ ?_ ?_
    · simp only [Body.pay29_at, Body.pay15_at, Body.pay22_at, pay6_dy, pay9_gate, pay16_gate, pay23_gate, pay10_proj, pay17_proj, pay24_proj]; rfl
    all_goals blk_simp [idx_out t]

end Cert.KernelIdeal.Blocks

end
-- ==== Proof.Gates.lean ====
module

public import proofs.«01_k».proof.Proof.Blocks

/-! # The cotangent of the modulation's gates

The launch keeps one block of eight rows for its whole length: zeroed at the first point, one row added into at each point,
written back after the last. Point `t` adds its 256 tokens' shares to row 4 when they are context tokens, else to its batch
element's row; the 36 points together are the sums the specification names. -/

@[expose] public section

set_option maxRecDepth 16384

noncomputable section

namespace Cert.KernelIdeal.Blocks

open Cert.KernelIdeal Cert.KernelIdeal.Gen Cert.Merge Idealize.ShloMosaic Idealize.ShloMosaic.TcCoe Idealize.SL.Sem

variable (m : (ℓ : Loc nD τ sig) → Buf (Elt Ideal) ℓ)

/-- The saved result of the merge, that the host recomputes from its lines. -/
theorem mgo_at (c : Dev nD) (b : Fin 4) (t : Fin 2304) (k : Fin 1024) :
    V m c main_v39 (ix3 b t k)
      = mo (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) b t k := by
  entry_read
  pointwise []
  have e1 : ∀ (x : Fin 1024) (h), (⟨1536 + (1024 + x.val), h⟩ : Fin 4608) = ⟨2560 + x.val, by omega⟩ := fun x h => Fin.ext (by dsimp only; omega)
  have e2 : ∀ (x : Fin 1024) (h), (⟨1536 + (2048 + x.val), h⟩ : Fin 4608) = ⟨3584 + x.val, by omega⟩ := fun x h => Fin.ext (by dsimp only; omega)
  simp only [e1, e2]
  rfl

/-- A token's share in the cotangent, from the program's arguments. -/
def share (c : Dev nD) : Fin 4 → Fin 2304 → Fin 1024 → EReal :=
  gterm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9))

/-- The element of a one-row rectangle above column `k`. -/
theorem row_emb {off : Fin 2 → ℕ} {ρ : ℕ} (ho : off = ![ρ, 0]) (inb) (i : Fin 8) (k : Fin 1024) (h : i.val = ρ) :
    (Rect.unit (s := S8x1024) off ![1, 1024] inb).emb (ix2 0 k) = ix2 i k := by
  subst ho h
  blk_ext []

theorem row_not_mem {off : Fin 2 → ℕ} {ρ : ℕ} (ho : off = ![ρ, 0]) (inb) (i : Fin 8) (k : Fin 1024) (h : i.val ≠ ρ) :
    (ix2 i k : S8x1024.Idx) ∉ (Rect.unit (s := S8x1024) off ![1, 1024] inb).set := by
  subst ho
  intro hm
  have := (Rect.mem_set_unit.mp hm) 0
  have h1 : ρ ≤ i.val ∧ i.val < ρ + 1 := this
  omega

/-- A load of that rectangle. -/
theorem row_ld {off : Fin 2 → ℕ} {ρ : ℕ} (ho : off = ![ρ, 0]) (inb) (X : Vec Ideal S8x1024 .f32) (i : Fin 8) (k : Fin 1024) (h : i.val = ρ) :
    View.ld X (Rect.unit (s := S8x1024) off ![1, 1024] inb) (ix2 0 k) = X (ix2 i k) :=
  congrArg X (row_emb ho inb i k h)

/-- What a point adds to row `i`. -/
def part (c : Dev nD) (t : Fin cfg0.N) (i : Fin 8) (k : Fin 1024) : EReal :=
  if i = rw_ t then ∑ r : Fin 256, share m c (bt t) (tk t r) k else 0

theorem off1' (t : Fin cfg0.N) : k0_off1 (grid0.coords t) = ![(rw_ t).val, 0] := by
  rw [off1 t]; unfold rw_; split <;> rfl

/-- The row a point stores: what it read, plus its tokens' shares. -/
theorem pay3_share (c : Dev nD) (t : Fin cfg0.N) (v : Vec Ideal S1x1024 .f32) (k : Fin 1024) :
    k0_pay3 (iblk m c 0 t) v (iblk m c 1 t) (ix2 0 k) = v (ix2 0 k) + ∑ r : Fin 256, share m c (bt t) (tk t r) k := by
  rw [Body.pay3_at]
  refine congrArg (_ + ·) (Finset.sum_congr rfl fun r _ => ?_)
  rw [blk0, blk1, mgo_at]
  rfl

set_option maxHeartbeats 1600000 in
theorem stepA (c : Dev nD) (t : Fin cfg0.N) (h : t.val % 36 = 0) (i : Fin 8) (k : Fin 1024) :
    (outs m c t.val t.isLt).2.2.2.2.2.2.2.2.2 (ix2 i k) = 0 + part m c t i k := by
  rw [outs_A m c t h]
  unfold outA runA
  frame_out
  have hz : ∀ j, k0_pay1 (F := Ideal) j = 0 := fun j => by pointwise [k0_pay1]
  unfold part
  by_cases hi : i = rw_ t
  · rw [if_pos hi]
    have hv : i.val = (rw_ t).val := congrArg Fin.val hi
    refine (congrArg (View.canon _) (row_emb (off1' t) (k0_off1_inb (grid0.coords t)) i k hv).symm).trans ?_
    rw [View.canon_cons_emb, pay3_share, row_ld (off1' t) _ _ i k hv, hz]
  · rw [if_neg hi, View.canon_cons_of_not_mem _ _ (row_not_mem (off1' t) (k0_off1_inb (grid0.coords t)) i k fun e => hi (Fin.ext e)), View.canon_unit_zero (by decide), hz, add_zero]

set_option maxHeartbeats 1600000 in
theorem stepB (c : Dev nD) (t : Fin cfg0.N) (h : ¬t.val % 36 = 0) (i : Fin 8) (k : Fin 1024) :
    (outs m c t.val t.isLt).2.2.2.2.2.2.2.2.2 (ix2 i k)
      = (outs m c (t.val - 1) (Nat.lt_of_le_of_lt (Nat.sub_le _ _) t.isLt)).2.2.2.2.2.2.2.2.2 (ix2 i k) + part m c t i k := by
  rw [outs_B m c t h]
  unfold outB runB
  frame_out
  unfold part
  by_cases hi : i = rw_ t
  · rw [if_pos hi]
    have hv : i.val = (rw_ t).val := congrArg Fin.val hi
    refine (congrArg (View.read _ _ _) (row_emb (off1' t) (k0_off1_inb (grid0.coords t)) i k hv).symm).trans ?_
    rw [View.read_writes_cons_emb, pay3_share, row_ld (off1' t) _ _ i k hv]
  · rw [if_neg hi, View.read_writes_apply_of_forall_not_mem _ _ _ _ (fun p hp => by
      obtain rfl := List.mem_singleton.mp hp
      exact row_not_mem (off1' t) (k0_off1_inb (grid0.coords t)) i k fun e => hi (Fin.ext e)), add_zero, Memref.IsWhole.read_unread]

/-- The points' rows and tokens put together. -/
theorem total (g : Fin 4 → Fin 2304 → EReal) (i : Fin 8) :
    (∑ p : Fin 36, if i = (if p.val % 9 = 0 then (4 : Fin 8) else ⟨p.val / 9, by omega⟩) then
        ∑ r : Fin 256, g ⟨p.val / 9, by omega⟩ ⟨p.val % 9 * 256 + r.val, by omega⟩ else 0)
      = if h : i.val < 4 then ∑ t : Fin 2048, g ⟨i.val, h⟩ ⟨256 + t.val, by omega⟩
        else if i.val < 5 then ∑ b : Fin 4, ∑ t : Fin 256, g b ⟨t.val, by omega⟩ else 0 := by
  rw [← (finProdFinEquiv (m := 4) (n := 9)).sum_comp, Fintype.sum_prod_type]
  have hd : ∀ (a : Fin 4) (b : Fin 9), (finProdFinEquiv (a, b)).val / 9 = a.val := fun a b => by
    simp only [finProdFinEquiv_apply_val]; omega
  have hm : ∀ (a : Fin 4) (b : Fin 9), (finProdFinEquiv (a, b)).val % 9 = b.val := fun a b => by
    simp only [finProdFinEquiv_apply_val]; omega
  simp only [hd, hm, Fin.eta]
  by_cases h4 : i.val < 4
  · rw [dif_pos h4]
    rw [Finset.sum_eq_single (⟨i.val, h4⟩ : Fin 4)]
    · rw [Fin.sum_univ_succ, if_neg (by intro e; have := congrArg Fin.val e; simp at this; omega), zero_add]
      have e8 : ∀ b : Fin 8, (if i = (if (Fin.succ b).val = 0 then (4 : Fin 8) else ⟨i.val, by omega⟩) then
          ∑ r : Fin 256, g ⟨i.val, h4⟩ ⟨(Fin.succ b).val * 256 + r.val, by have := b.isLt; rw [Fin.val_succ]; omega⟩ else (0 : EReal))
          = ∑ r : Fin 256, g ⟨i.val, h4⟩ ⟨256 + (b.val * 256 + r.val), by omega⟩ := fun b => by
        rw [if_neg (by rw [Fin.val_succ]; omega : ¬(Fin.succ b).val = 0), if_pos (Fin.ext rfl)]
        refine Finset.sum_congr rfl fun r _ => congrArg _ (Fin.ext ?_)
        simp only [Fin.val_succ]; omega
      refine (Finset.sum_congr rfl fun b _ => e8 b).trans ?_
      exact Fin.sum_mul_add_congr fun s k hl => rfl
    · intro a _ ha
      refine Finset.sum_eq_zero fun b _ => if_neg fun e => ?_
      by_cases hb : b.val = 0
      · rw [if_pos hb] at e; have := congrArg Fin.val e; simp at this; omega
      · rw [if_neg hb] at e; exact ha (Fin.ext (congrArg Fin.val e).symm)
    · exact fun h => absurd (Finset.mem_univ _) h
  · rw [dif_neg h4]
    by_cases h5 : i.val < 5
    · rw [if_pos h5]
      refine Finset.sum_congr rfl fun a _ => ?_
      rw [Fin.sum_univ_succ, if_pos (by apply Fin.ext; show i.val = 4; omega)]
      rw [Finset.sum_eq_zero (s := Finset.univ) (fun b _ => if_neg fun e => ?_), add_zero]
      · refine Finset.sum_congr rfl fun r _ => congrArg _ (Fin.ext ?_)
        simp
      · rw [if_neg (by rw [Fin.val_succ]; omega)] at e
        have := congrArg Fin.val e; simp at this; omega
    · rw [if_neg h5]
      refine Finset.sum_eq_zero fun a _ => Finset.sum_eq_zero fun b _ => if_neg fun e => ?_
      have := congrArg Fin.val e
      split at this <;> simp at this <;> omega

/-- The cotangent of the eight gates after the run. -/
theorem out25 (c : Dev nD) : (dats m 0 c).arrAt 25 cfg0.N = fun i => dgate (share m c) (i 0) (i 1) := by
  refine (dats m 0 c).arrAt_eq_of_covers 25 _ (by decide +kernel) fun t hf y => ?_
  blk_simp
  rw [after0_25]
  have ht : t.val % 36 = 35 := (flush0_25 t).mp hf
  have hN : cfg0.N = 36 := N_0
  have e : ∀ (i : Fin 8) (k : Fin 1024), (outs m c t.val t.isLt).2.2.2.2.2.2.2.2.2 (ix2 i k) = dgate (share m c) i k := fun i k => by
    have := Pipeline.eq_sum_fin_of_reset_step_apply_last (fun n h (j : Fin 8 × Fin 1024) => (outs m c n h).2.2.2.2.2.2.2.2.2 (ix2 j.1 j.2)) 36
      (fun _ => (0 : EReal)) (fun t j => part m c t j.1 j.2) (fun t h j => stepA m c t h j.1 j.2) (fun t h j => stepB m c t h j.1 j.2)
      (le_of_eq hN) t (by have h1 : t.val < cfg0.N := t.isLt; omega) (i, k)
    refine this.trans ((zero_add _).trans ?_)
    exact total (fun b t => share m c b t k) i
  have hy : y = ix2 (y 0) (y 1) := by blk_ext []
  refine (congrArg _ hy).trans ((e (y 0) (y 1)).trans ?_)
  have e0 : (y 0 : Fin 8) = ((win0_25.blk t).view.emb y 0 : Fin 8) := Fin.ext (by blk_simp [idx_out t])
  have e1 : (y 1 : Fin 1024) = ((win0_25.blk t).view.emb y 1 : Fin 1024) := Fin.ext (by blk_simp [idx_out t])
  exact congrArg₂ _ e0 e1

end Cert.KernelIdeal.Blocks
end
-- ==== Proof.Values.lean ====
module

public import proofs.«01_k».proof.Proof.Outs
public import proofs.«01_k».proof.Proof.Gates

/-! # The kernel's run, with every result named -/

@[expose] public section

set_option maxRecDepth 16384

noncomputable section

namespace Cert.KernelIdeal.Blocks

open Cert.KernelIdeal Cert.KernelIdeal.Gen Cert.Merge Idealize.ShloMosaic Idealize.ShloMosaic.TcCoe Idealize.SL.Sem

variable (m : (ℓ : Loc nD τ sig) → Buf (Elt Ideal) ℓ)

/-! After the run, a result's array is what the launch left in it. -/

theorem post16 (r : PUnit × MemSt nD τ sig (Elt Ideal)) (h : Pipeline.FramePost cfgs (dats m) 0 (V m) r) (c : Dev nD) :
    r.2.mem ((c : Thread nD τ).loc main_v40_0) = (dats m 0 c).arrAt 16 cfg0.N := (h c).1 16
theorem post17 (r : PUnit × MemSt nD τ sig (Elt Ideal)) (h : Pipeline.FramePost cfgs (dats m) 0 (V m) r) (c : Dev nD) :
    r.2.mem ((c : Thread nD τ).loc main_v40_1) = (dats m 0 c).arrAt 17 cfg0.N := (h c).1 17
theorem post18 (r : PUnit × MemSt nD τ sig (Elt Ideal)) (h : Pipeline.FramePost cfgs (dats m) 0 (V m) r) (c : Dev nD) :
    r.2.mem ((c : Thread nD τ).loc main_v40_2) = (dats m 0 c).arrAt 18 cfg0.N := (h c).1 18
theorem post19 (r : PUnit × MemSt nD τ sig (Elt Ideal)) (h : Pipeline.FramePost cfgs (dats m) 0 (V m) r) (c : Dev nD) :
    r.2.mem ((c : Thread nD τ).loc main_v40_3) = (dats m 0 c).arrAt 19 cfg0.N := (h c).1 19
theorem post20 (r : PUnit × MemSt nD τ sig (Elt Ideal)) (h : Pipeline.FramePost cfgs (dats m) 0 (V m) r) (c : Dev nD) :
    r.2.mem ((c : Thread nD τ).loc main_v40_4) = (dats m 0 c).arrAt 20 cfg0.N := (h c).1 20
theorem post21 (r : PUnit × MemSt nD τ sig (Elt Ideal)) (h : Pipeline.FramePost cfgs (dats m) 0 (V m) r) (c : Dev nD) :
    r.2.mem ((c : Thread nD τ).loc main_v40_5) = (dats m 0 c).arrAt 21 cfg0.N := (h c).1 21
theorem post22 (r : PUnit × MemSt nD τ sig (Elt Ideal)) (h : Pipeline.FramePost cfgs (dats m) 0 (V m) r) (c : Dev nD) :
    r.2.mem ((c : Thread nD τ).loc main_v40_6) = (dats m 0 c).arrAt 22 cfg0.N := (h c).1 22
theorem post23 (r : PUnit × MemSt nD τ sig (Elt Ideal)) (h : Pipeline.FramePost cfgs (dats m) 0 (V m) r) (c : Dev nD) :
    r.2.mem ((c : Thread nD τ).loc main_v40_7) = (dats m 0 c).arrAt 23 cfg0.N := (h c).1 23
theorem post24 (r : PUnit × MemSt nD τ sig (Elt Ideal)) (h : Pipeline.FramePost cfgs (dats m) 0 (V m) r) (c : Dev nD) :
    r.2.mem ((c : Thread nD τ).loc main_v40_8) = (dats m 0 c).arrAt 24 cfg0.N := (h c).1 24
theorem post25 (r : PUnit × MemSt nD τ sig (Elt Ideal)) (h : Pipeline.FramePost cfgs (dats m) 0 (V m) r) (c : Dev nD) :
    r.2.mem ((c : Thread nD τ).loc main_v40_9) = (dats m 0 c).arrAt 25 cfg0.N := (h c).1 25

/-- The launch's results and its unchanged arguments. -/
theorem run_values (g : Dev nD → PrngReg) : θ_run defs (onTc (τ := τ) (main (F := Ideal))) ⟨m, fun _ => 0, g⟩ fun r => ∀ c : Dev nD,
      r.2.mem ((c : Thread nD τ).loc main_v40_0) = (fun i => dbr (m ((c : Thread nD τ).loc main_arg6)) (m ((c : Thread nD τ).loc main_arg0)) (m ((c : Thread nD τ).loc main_arg4)) (m ((c : Thread nD τ).loc main_arg5)) (m ((c : Thread nD τ).loc main_arg9)) 1536 (by omega) (i 0) (i 1) (i 2))
      ∧ r.2.mem ((c : Thread nD τ).loc main_v40_1) = (fun i => dbr (m ((c : Thread nD τ).loc main_arg7)) (m ((c : Thread nD τ).loc main_arg0)) (m ((c : Thread nD τ).loc main_arg4)) (m ((c : Thread nD τ).loc main_arg5)) (m ((c : Thread nD τ).loc main_arg9)) 2560 (by omega) (i 0) (i 1) (i 2))
      ∧ r.2.mem ((c : Thread nD τ).loc main_v40_2) = (fun i => dbr (m ((c : Thread nD τ).loc main_arg8)) (m ((c : Thread nD τ).loc main_arg0)) (m ((c : Thread nD τ).loc main_arg4)) (m ((c : Thread nD τ).loc main_arg5)) (m ((c : Thread nD τ).loc main_arg9)) 3584 (by omega) (i 0) (i 1) (i 2))
      ∧ r.2.mem ((c : Thread nD τ).loc main_v40_3) = (fun i => dp (m ((c : Thread nD τ).loc main_arg0)) (m ((c : Thread nD τ).loc main_arg4)) (m ((c : Thread nD τ).loc main_arg5)) (m ((c : Thread nD τ).loc main_arg9)) 1536 (by omega) (i 0) (i 1) (i 2))
      ∧ r.2.mem ((c : Thread nD τ).loc main_v40_4) = (fun i => dp (m ((c : Thread nD τ).loc main_arg0)) (m ((c : Thread nD τ).loc main_arg4)) (m ((c : Thread nD τ).loc main_arg5)) (m ((c : Thread nD τ).loc main_arg9)) 2560 (by omega) (i 0) (i 1) (i 2))
      ∧ r.2.mem ((c : Thread nD τ).loc main_v40_5) = (fun i => dp (m ((c : Thread nD τ).loc main_arg0)) (m ((c : Thread nD τ).loc main_arg4)) (m ((c : Thread nD τ).loc main_arg5)) (m ((c : Thread nD τ).loc main_arg9)) 3584 (by omega) (i 0) (i 1) (i 2))
      ∧ r.2.mem ((c : Thread nD τ).loc main_v40_6) = (fun i => ysum (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (i 0) (i 1) (i 2))
      ∧ r.2.mem ((c : Thread nD τ).loc main_v40_7) = (fun i => dmo (m ((c : Thread nD τ).loc main_arg0)) (m ((c : Thread nD τ).loc main_arg5)) (i 0) (i 1) (i 2))
      ∧ r.2.mem ((c : Thread nD τ).loc main_v40_8) = (fun i => dzg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (i 0) (i 1) (i 2))
      ∧ r.2.mem ((c : Thread nD τ).loc main_v40_9) = (fun i => dgate (gterm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9))) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(post16 m r h.1 c).trans (out16 m c),
      (post17 m r h.1 c).trans (out17 m c),
      (post18 m r h.1 c).trans (out18 m c),
      (post19 m r h.1 c).trans (out19 m c),
      (post20 m r h.1 c).trans (out20 m c),
      (post21 m r h.1 c).trans (out21 m c),
      (post22 m r h.1 c).trans (out22 m c),
      (post23 m r h.1 c).trans (out23 m c),
      (post24 m r h.1 c).trans (out24 m c),
      (post25 m r h.1 c).trans (out25 m c),
      h.2 c⟩) (θ_run_and (run_main m g) (unchanged m g))

end Cert.KernelIdeal.Blocks

end
-- ==== Proof.Ref.lean ====
module

public import proofs.«01_k».proof.Proof.Gen.ReferenceIdeal.Read
public import proofs.«01_k».proof.Proof.Spec
public import Idealize.ShloMosaic.Lib.Pipeline.ValueKit

/-! # What the reference computes

The plain program's arrays, read at one element: the same quantities of the specification. -/

@[expose] public section

set_option maxRecDepth 16384

noncomputable section

namespace Cert.ReferenceIdeal.Stage

open Cert.ReferenceIdeal Cert.ReferenceIdeal.Gen Cert.ReferenceIdeal.Read Cert.Merge Idealize.ShloMosaic Idealize.ShloMosaic.TcCoe Idealize.SL.Sem

variable (x0 : FVec Ideal S4x2304x1024 .f32)
variable (x1 : FVec Ideal S4x2304x384 .bf16)
variable (x2 : FVec Ideal S4x2304x256 .bf16)
variable (x3 : FVec Ideal S4x2304x384 .bf16)
variable (x4 : FVec Ideal S4x2304x4608 .bf16)
variable (x5 : FVec Ideal S8x6144 .f32)
variable (x6 : FVec Ideal S384x1024 .bf16)
variable (x7 : FVec Ideal S256x1024 .bf16)
variable (x8 : FVec Ideal S384x1024 .bf16)
variable (x9 : FVec Ideal S1024x1024 .bf16)

/-- The first gate. -/
theorem s_a (b : Fin 4) (t : Fin 2304) (d : Fin 1024) : val_main_v23 (F := Ideal) x4 (ix3 b t d) = sg x4 1536 (by omega) b t d := by
  pointwise [val_main_v23, val_main_v22, val_main_cst_0, val_main_v21, val_main_v20, val_main_cst, val_main_v19, val_main_v18, val_main_v9, val_main_v8, val_main_v7]
  rfl
/-- The second gate. -/
theorem s_b (b : Fin 4) (t : Fin 2304) (d : Fin 1024) : val_main_v33 (F := Ideal) x4 (ix3 b t d) = sg x4 2560 (by omega) b t d := by
  pointwise [val_main_v33, val_main_v32, val_main_cst_3, val_main_v31, val_main_v30, val_main_cst_2, val_main_v29, val_main_v28, val_main_v10, val_main_v8, val_main_v7]
  rw [show (⟨1536 + (1024 + d.val), by omega⟩ : Fin 4608) = ⟨2560 + d.val, by omega⟩ from Fin.ext (by dsimp only; omega)]
  rfl
/-- The third gate. -/
theorem s_c (b : Fin 4) (t : Fin 2304) (d : Fin 1024) : val_main_v44 (F := Ideal) x4 (ix3 b t d) = sg x4 3584 (by omega) b t d := by
  pointwise [val_main_v44, val_main_v43, val_main_cst_6, val_main_v42, val_main_v41, val_main_cst_5, val_main_v40, val_main_v39, val_main_v11, val_main_v8, val_main_v7]
  rw [show (⟨1536 + (2048 + d.val), by omega⟩ : Fin 4608) = ⟨3584 + d.val, by omega⟩ from Fin.ext (by dsimp only; omega)]
  rfl
/-- The branches projected. -/
theorem p_a (b : Fin 4) (t : Fin 2304) (d : Fin 1024) : val_main_v15 (F := Ideal) x1 x6 (ix3 b t d) = proj x1 x6 b t d := by
  pointwise [val_main_v15, val_main_v0, val_main_v3]
  rfl
theorem p_b (b : Fin 4) (t : Fin 2304) (d : Fin 1024) : val_main_v16 (F := Ideal) x2 x7 (ix3 b t d) = proj x2 x7 b t d := by
  pointwise [val_main_v16, val_main_v1, val_main_v4]
  rfl
theorem p_c (b : Fin 4) (t : Fin 2304) (d : Fin 1024) : val_main_v17 (F := Ideal) x3 x8 (ix3 b t d) = proj x3 x8 b t d := by
  pointwise [val_main_v17, val_main_v2, val_main_v5]
  rfl
/-- The gated sum. -/
theorem y_at (b : Fin 4) (t : Fin 2304) (d : Fin 1024) : val_main_v49 (F := Ideal) x1 x2 x3 x4 x6 x7 x8 (ix3 b t d) = ysum x1 x2 x3 x4 x6 x7 x8 b t d := by
  pointwise [val_main_v49, val_main_v48, val_main_v38, val_main_v37, val_main_v27]
  rw [s_a, s_b, s_c, p_a, p_b, p_c]
  rfl
/-- The merge's result. -/
theorem mo_at (b : Fin 4) (t : Fin 2304) (k : Fin 1024) : val_main_v50 (F := Ideal) x1 x2 x3 x4 x6 x7 x8 x9 (ix3 b t k) = mo x1 x2 x3 x4 x6 x7 x8 x9 b t k := by
  pointwise [val_main_v50, val_main_v6]
  simp only [y_at]
  rfl
/-- The gates of all tokens: row 4 for the first 256, else the batch element's. -/
theorem gate_at (b : Fin 4) (t : Fin 2304) (k : Fin 1024) : val_main_v56 (F := Ideal) x5 (ix3 b t k) = gate x5 b t k := by
  pointwise [val_main_v56, val_main_v55, val_main_v54, val_main_v53, val_main_v52, val_main_v51, val_main_v14, val_main_v13, val_main_v12]
  unfold gate row
  by_cases h : t.val < 256
  · rw [dif_pos h, if_pos h]
  · rw [dif_neg h, if_neg h]
theorem dmo_at (b : Fin 4) (t : Fin 2304) (k : Fin 1024) : val_main_v58 (F := Ideal) x0 x5 (ix3 b t k) = dmo x0 x5 b t k := by
  pointwise [val_main_v58]
  rw [gate_at]
  exact mul_comm _ _
theorem dy_at (b : Fin 4) (t : Fin 2304) (d : Fin 1024) : val_main_v69 (F := Ideal) x0 x5 x9 (ix3 b t d) = dy x0 x5 x9 b t d := by
  pointwise [val_main_v69, val_main_v6]
  simp only [dmo_at]
  rfl
/-- The cotangents of the projected branches. -/
theorem dp_a (b : Fin 4) (t : Fin 2304) (d : Fin 1024) : val_main_v76 (F := Ideal) x0 x4 x5 x9 (ix3 b t d) = dp x0 x4 x5 x9 1536 (by omega) b t d := by
  pointwise [val_main_v76]
  rw [s_a, dy_at]
  exact mul_comm _ _
theorem dp_b (b : Fin 4) (t : Fin 2304) (d : Fin 1024) : val_main_v73 (F := Ideal) x0 x4 x5 x9 (ix3 b t d) = dp x0 x4 x5 x9 2560 (by omega) b t d := by
  pointwise [val_main_v73]
  rw [s_b, dy_at]
  exact mul_comm _ _
theorem dp_c (b : Fin 4) (t : Fin 2304) (d : Fin 1024) : val_main_v70 (F := Ideal) x0 x4 x5 x9 (ix3 b t d) = dp x0 x4 x5 x9 3584 (by omega) b t d := by
  pointwise [val_main_v70]
  rw [s_c, dy_at]
  exact mul_comm _ _
/-- The cotangents of the branches. -/
theorem do_a (b : Fin 4) (t : Fin 2304) (j : Fin 384) : val_main_v85 (F := Ideal) x0 x4 x5 x6 x9 (ix3 b t j) = dbr x6 x0 x4 x5 x9 1536 (by omega) b t j := by
  pointwise [val_main_v85, val_main_v81, val_main_v3]
  simp only [dp_a]
  rfl
theorem do_b (b : Fin 4) (t : Fin 2304) (j : Fin 256) : val_main_v86 (F := Ideal) x0 x4 x5 x7 x9 (ix3 b t j) = dbr x7 x0 x4 x5 x9 2560 (by omega) b t j := by
  pointwise [val_main_v86, val_main_v80, val_main_v4]
  simp only [dp_b]
  rfl
theorem do_c (b : Fin 4) (t : Fin 2304) (j : Fin 384) : val_main_v87 (F := Ideal) x0 x4 x5 x8 x9 (ix3 b t j) = dbr x8 x0 x4 x5 x9 3584 (by omega) b t j := by
  pointwise [val_main_v87, val_main_v79, val_main_v5]
  simp only [dp_c]
  rfl
/-- The cotangents of the gates' arguments. -/
theorem dz_a (b : Fin 4) (t : Fin 2304) (d : Fin 1024) : val_main_v78 (F := Ideal) x0 x1 x4 x5 x6 x9 (ix3 b t d) = dz x1 x6 x0 x4 x5 x9 1536 (by omega) b t d := by
  pointwise [val_main_v78, val_main_v77, val_main_v26, val_main_v25, val_main_v24, val_main_cst_1]
  rw [s_a, p_a, dy_at]
  exact (mul_assoc _ _ _).symm
theorem dz_b (b : Fin 4) (t : Fin 2304) (d : Fin 1024) : val_main_v75 (F := Ideal) x0 x2 x4 x5 x7 x9 (ix3 b t d) = dz x2 x7 x0 x4 x5 x9 2560 (by omega) b t d := by
  pointwise [val_main_v75, val_main_v74, val_main_v36, val_main_v35, val_main_v34, val_main_cst_4]
  rw [s_b, p_b, dy_at]
  exact (mul_assoc _ _ _).symm
theorem dz_c (b : Fin 4) (t : Fin 2304) (d : Fin 1024) : val_main_v72 (F := Ideal) x0 x3 x4 x5 x8 x9 (ix3 b t d) = dz x3 x8 x0 x4 x5 x9 3584 (by omega) b t d := by
  pointwise [val_main_v72, val_main_v71, val_main_v47, val_main_v46, val_main_v45, val_main_cst_7]
  rw [s_c, p_c, dy_at]
  exact (mul_assoc _ _ _).symm
theorem dzg_at (b : Fin 4) (t : Fin 2304) (e : Fin 3072) : val_main_v94 (F := Ideal) x0 x1 x2 x3 x4 x5 x6 x7 x8 x9 (ix3 b t e) = dzg x0 x1 x2 x3 x4 x5 x6 x7 x8 x9 b t e := by
  pointwise [val_main_v94, val_main_v93]
  simp only [dz_a, dz_b, dz_c]
  rfl
/-- A token's share of the modulation gate's cotangent. -/
theorem g_at (b : Fin 4) (t : Fin 2304) (k : Fin 1024) : val_main_v59 (F := Ideal) x0 x1 x2 x3 x4 x6 x7 x8 x9 (ix3 b t k) = gterm x0 x1 x2 x3 x4 x6 x7 x8 x9 b t k := by
  pointwise [val_main_v59]
  rw [mo_at]
  rfl
theorem dgate_at (r : Fin 8) (k : Fin 1024) : val_main_v84 (F := Ideal) x0 x1 x2 x3 x4 x6 x7 x8 x9 (ix2 r k) = dgate (gterm x0 x1 x2 x3 x4 x6 x7 x8 x9) r k := by
  pointwise [val_main_v84, val_main_v83, val_main_cst_13, val_main_v82, val_main_v68, val_main_v67, val_main_v66, val_main_v65, val_main_v64, val_main_v63, val_main_v62, val_main_v61, val_main_v60, val_main_cst_8, val_main_cst_9, val_main_cst_10, val_main_cst_11, val_main_cst_12]
  simp only [g_at]
  unfold dgate
  have e : (r.val - 4 < 1) = (r.val < 5) := propext (by omega)
  simp only [e, Fin.sum_univ_one]
  split
  · rfl
  · split <;> rfl

/-- An array is the function that its elements name. -/
theorem ext3 {K : ℕ} {X : Shape.Idx ⟨3, ![4, 2304, K]⟩ → EReal} {f : Fin 4 → Fin 2304 → Fin K → EReal}
    (h : ∀ b t k, X (ix3 b t k) = f b t k) : X = fun i => f (i 0) (i 1) (i 2) := by
  funext i
  have hi : i = ix3 (i 0) (i 1) (i 2) := by blk_ext []
  exact (congrArg X hi).trans (h (i 0) (i 1) (i 2))

/-! The reference's ten results as whole arrays. -/

theorem res85 : val_main_v85 (F := Ideal) x0 x4 x5 x6 x9 = fun i => dbr x6 x0 x4 x5 x9 1536 (by omega) (i 0) (i 1) (i 2) :=
  ext3 fun b t k => do_a x0 x4 x5 x6 x9 b t k
theorem res86 : val_main_v86 (F := Ideal) x0 x4 x5 x7 x9 = fun i => dbr x7 x0 x4 x5 x9 2560 (by omega) (i 0) (i 1) (i 2) :=
  ext3 fun b t k => do_b x0 x4 x5 x7 x9 b t k
theorem res87 : val_main_v87 (F := Ideal) x0 x4 x5 x8 x9 = fun i => dbr x8 x0 x4 x5 x9 3584 (by omega) (i 0) (i 1) (i 2) :=
  ext3 fun b t k => do_c x0 x4 x5 x8 x9 b t k
theorem res88 : val_main_v88 (F := Ideal) x0 x4 x5 x9 = fun i => dp x0 x4 x5 x9 1536 (by omega) (i 0) (i 1) (i 2) :=
  ext3 fun b t k => dp_a x0 x4 x5 x9 b t k
theorem res89 : val_main_v89 (F := Ideal) x0 x4 x5 x9 = fun i => dp x0 x4 x5 x9 2560 (by omega) (i 0) (i 1) (i 2) :=
  ext3 fun b t k => dp_b x0 x4 x5 x9 b t k
theorem res90 : val_main_v90 (F := Ideal) x0 x4 x5 x9 = fun i => dp x0 x4 x5 x9 3584 (by omega) (i 0) (i 1) (i 2) :=
  ext3 fun b t k => dp_c x0 x4 x5 x9 b t k
theorem res91 : val_main_v91 (F := Ideal) x1 x2 x3 x4 x6 x7 x8 = fun i => ysum x1 x2 x3 x4 x6 x7 x8 (i 0) (i 1) (i 2) :=
  ext3 fun b t k => y_at x1 x2 x3 x4 x6 x7 x8 b t k
theorem res92 : val_main_v92 (F := Ideal) x0 x5 = fun i => dmo x0 x5 (i 0) (i 1) (i 2) :=
  ext3 fun b t k => dmo_at x0 x5 b t k
theorem res94 : val_main_v94 (F := Ideal) x0 x1 x2 x3 x4 x5 x6 x7 x8 x9 = fun i => dzg x0 x1 x2 x3 x4 x5 x6 x7 x8 x9 (i 0) (i 1) (i 2) :=
  ext3 fun b t k => dzg_at x0 x1 x2 x3 x4 x5 x6 x7 x8 x9 b t k
theorem res84 : val_main_v84 (F := Ideal) x0 x1 x2 x3 x4 x6 x7 x8 x9 = fun i => dgate (gterm x0 x1 x2 x3 x4 x6 x7 x8 x9) (i 0) (i 1) := by
  funext i
  have hi : i = ix2 (i 0) (i 1) := by blk_ext []
  exact (congrArg _ hi).trans (dgate_at x0 x1 x2 x3 x4 x6 x7 x8 x9 (i 0) (i 1))

/-- The reference's run, with every result named. -/
theorem run_values (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c : Thread nD τ).loc main_v85) = (fun i => dbr (m ((c : Thread nD τ).loc main_arg6)) (m ((c : Thread nD τ).loc main_arg0)) (m ((c : Thread nD τ).loc main_arg4)) (m ((c : Thread nD τ).loc main_arg5)) (m ((c : Thread nD τ).loc main_arg9)) 1536 (by omega) (i 0) (i 1) (i 2))
      ∧ r.2.mem ((c : Thread nD τ).loc main_v86) = (fun i => dbr (m ((c : Thread nD τ).loc main_arg7)) (m ((c : Thread nD τ).loc main_arg0)) (m ((c : Thread nD τ).loc main_arg4)) (m ((c : Thread nD τ).loc main_arg5)) (m ((c : Thread nD τ).loc main_arg9)) 2560 (by omega) (i 0) (i 1) (i 2))
      ∧ r.2.mem ((c : Thread nD τ).loc main_v87) = (fun i => dbr (m ((c : Thread nD τ).loc main_arg8)) (m ((c : Thread nD τ).loc main_arg0)) (m ((c : Thread nD τ).loc main_arg4)) (m ((c : Thread nD τ).loc main_arg5)) (m ((c : Thread nD τ).loc main_arg9)) 3584 (by omega) (i 0) (i 1) (i 2))
      ∧ r.2.mem ((c : Thread nD τ).loc main_v88) = (fun i => dp (m ((c : Thread nD τ).loc main_arg0)) (m ((c : Thread nD τ).loc main_arg4)) (m ((c : Thread nD τ).loc main_arg5)) (m ((c : Thread nD τ).loc main_arg9)) 1536 (by omega) (i 0) (i 1) (i 2))
      ∧ r.2.mem ((c : Thread nD τ).loc main_v89) = (fun i => dp (m ((c : Thread nD τ).loc main_arg0)) (m ((c : Thread nD τ).loc main_arg4)) (m ((c : Thread nD τ).loc main_arg5)) (m ((c : Thread nD τ).loc main_arg9)) 2560 (by omega) (i 0) (i 1) (i 2))
      ∧ r.2.mem ((c : Thread nD τ).loc main_v90) = (fun i => dp (m ((c : Thread nD τ).loc main_arg0)) (m ((c : Thread nD τ).loc main_arg4)) (m ((c : Thread nD τ).loc main_arg5)) (m ((c : Thread nD τ).loc main_arg9)) 3584 (by omega) (i 0) (i 1) (i 2))
      ∧ r.2.mem ((c : Thread nD τ).loc main_v91) = (fun i => ysum (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (i 0) (i 1) (i 2))
      ∧ r.2.mem ((c : Thread nD τ).loc main_v92) = (fun i => dmo (m ((c : Thread nD τ).loc main_arg0)) (m ((c : Thread nD τ).loc main_arg5)) (i 0) (i 1) (i 2))
      ∧ r.2.mem ((c : Thread nD τ).loc main_v94) = (fun i => dzg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (i 0) (i 1) (i 2))
      ∧ r.2.mem ((c : Thread nD τ).loc main_v84) = (fun i => dgate (gterm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9))) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) := by
  refine (θ_run _ _ _).mono (fun r h c => ?_) (Cert.ReferenceIdeal.Value.run (F := Ideal) m g)
  obtain ⟨e85, e86, e87, e88, e89, e90, e91, e92, e94, e84, hk⟩ := h c
  exact ⟨(e85.trans (val_main_v85_eq _ _ _ _ _)).trans (res85 _ _ _ _ _),
    (e86.trans (val_main_v86_eq _ _ _ _ _)).trans (res86 _ _ _ _ _),
    (e87.trans (val_main_v87_eq _ _ _ _ _)).trans (res87 _ _ _ _ _),
    (e88.trans (val_main_v88_eq _ _ _ _)).trans (res88 _ _ _ _),
    (e89.trans (val_main_v89_eq _ _ _ _)).trans (res89 _ _ _ _),
    (e90.trans (val_main_v90_eq _ _ _ _)).trans (res90 _ _ _ _),
    (e91.trans (val_main_v91_eq _ _ _ _ _ _ _)).trans (res91 _ _ _ _ _ _ _),
    (e92.trans (val_main_v92_eq _ _)).trans (res92 _ _),
    (e94.trans (val_main_v94_eq m c)).trans (res94 _ _ _ _ _ _ _ _ _ _),
    (e84.trans (val_main_v84_eq m c)).trans (res84 _ _ _ _ _ _ _ _ _),
    hk⟩

end Cert.ReferenceIdeal.Stage
end
-- ==== Proof.Equation.lean ====
module

public import proofs.«01_k».proof.Defs
public import proofs.«01_k».proof.Proof.Values
public import proofs.«01_k».proof.Proof.Ref

/-! # The equation

Both programs leave the specification's ten arrays: the kernel by what its launch wrote, the reference by its lines. -/

@[expose] public section

set_option maxRecDepth 16384
set_option maxHeartbeats 1600000

noncomputable section

namespace Cert.Proof

open Cert.Merge Idealize.ShloMosaic Idealize.ShloMosaic.TcCoe Idealize.SL.Sem

/-- Kernel and reference compute the same ten arrays over the extended reals. -/
theorem merge_bwd : @Cert.algebraic_KernelIdeal_ReferenceIdeal Cert.KernelIdeal.Gen.facts Cert.ReferenceIdeal.Gen.facts := by
  intro m g m' g' _ hargs
  refine ⟨fun c i => dbr (m ((c : Thread Cert.KernelIdeal.nD Cert.KernelIdeal.τ).loc Cert.KernelIdeal.main_arg6)) (m ((c : Thread Cert.KernelIdeal.nD Cert.KernelIdeal.τ).loc Cert.KernelIdeal.main_arg0)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg9)) 1536 (by omega) (i 0) (i 1) (i 2),
    fun c i => dbr (m ((c : Thread Cert.KernelIdeal.nD Cert.KernelIdeal.τ).loc Cert.KernelIdeal.main_arg7)) (m ((c : Thread Cert.KernelIdeal.nD Cert.KernelIdeal.τ).loc Cert.KernelIdeal.main_arg0)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg9)) 2560 (by omega) (i 0) (i 1) (i 2),
    fun c i => dbr (m ((c : Thread Cert.KernelIdeal.nD Cert.KernelIdeal.τ).loc Cert.KernelIdeal.main_arg8)) (m ((c : Thread Cert.KernelIdeal.nD Cert.KernelIdeal.τ).loc Cert.KernelIdeal.main_arg0)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg9)) 3584 (by omega) (i 0) (i 1) (i 2),
    fun c i => dp (m ((c : Thread Cert.KernelIdeal.nD Cert.KernelIdeal.τ).loc Cert.KernelIdeal.main_arg0)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg9)) 1536 (by omega) (i 0) (i 1) (i 2),
    fun c i => dp (m ((c : Thread Cert.KernelIdeal.nD Cert.KernelIdeal.τ).loc Cert.KernelIdeal.main_arg0)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg9)) 2560 (by omega) (i 0) (i 1) (i 2),
    fun c i => dp (m ((c : Thread Cert.KernelIdeal.nD Cert.KernelIdeal.τ).loc Cert.KernelIdeal.main_arg0)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg9)) 3584 (by omega) (i 0) (i 1) (i 2),
    fun c i => ysum (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (i 0) (i 1) (i 2),
    fun c i => dmo (m ((c : Thread Cert.KernelIdeal.nD Cert.KernelIdeal.τ).loc Cert.KernelIdeal.main_arg0)) (m ((c : Thread Cert.KernelIdeal.nD Cert.KernelIdeal.τ).loc Cert.KernelIdeal.main_arg5)) (i 0) (i 1) (i 2),
    fun c i => dzg (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (i 0) (i 1) (i 2),
    fun c i => dgate (gterm (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9))) (i 0) (i 1), ?_, ?_⟩
  · exact Cert.KernelIdeal.Blocks.run_values m g
  · refine (θ_run _ _ _).mono (fun r h c => ?_) (Cert.ReferenceIdeal.Stage.run_values m' g')
    obtain ⟨h0, h1, h2, h3, h4, h5, h6, h7, h8, h9⟩ := hargs c
    have := h c
    rw [h0, h1, h2, h3, h4, h5, h6, h7, h8, h9] at this
    rw [h0, h1, h2, h3, h4, h5, h6, h7, h8, h9]
    exact this

end Cert.Proof

end
-- ==== Proof.Grads.lean ====
module

public import Idealize.ShloMosaic.Lib.Pipeline.ValueKit

/-! # A weight's gradient

The gradient of a product's weights: at input channel `k` and output channel `n`, the sum over all tokens of the batch of the
input at `k` times the output's cotangent at `n`. -/

@[expose] public section

noncomputable section

namespace Cert.Grads

open Idealize.ShloMosaic

/-- One batch element's share. -/
def share {K N : ℕ} (a : Fin 4 → Fin 2304 → Fin K → EReal) (g : Fin 4 → Fin 2304 → Fin N → EReal) (b : Fin 4) (k : Fin K) (n : Fin N) : EReal :=
  ∑ r : Fin 2304, a b r k * g b r n

/-- The gradient. -/
def dw {K N : ℕ} (a : Fin 4 → Fin 2304 → Fin K → EReal) (g : Fin 4 → Fin 2304 → Fin N → EReal) (k : Fin K) (n : Fin N) : EReal :=
  ∑ b : Fin 4, share a g b k n

/-- The gradient written with the cotangent first. -/
theorem dw_eq {K N : ℕ} (a : Fin 4 → Fin 2304 → Fin K → EReal) (g : Fin 4 → Fin 2304 → Fin N → EReal) (k : Fin K) (n : Fin N) :
    ∑ b : Fin 4, ∑ r : Fin 2304, g b r n * a b r k = dw a g k n :=
  Finset.sum_congr rfl fun _ _ => Finset.sum_congr rfl fun _ _ => mul_comm _ _

/-- A scratch block over a grid's points, in runs of four, one point per batch element: cleared and then given its share at a
    run's first point, given its share at each later one, it holds the gradient at the last. -/
theorem dw_of_steps {T K N KB NB : ℕ} (a : Fin 4 → Fin 2304 → Fin K → EReal) (g : Fin 4 → Fin 2304 → Fin N → EReal)
    (f : (n : ℕ) → n < T → Fin KB × Fin NB → EReal) (bt : Fin T → Fin 4) (row : Fin T → Fin KB → Fin K) (col : Fin T → Fin NB → Fin N)
    (hb : ∀ t, (bt t).val = t.val % 4) (hr : ∀ t s, t.val / 4 = s.val / 4 → row t = row s) (hc : ∀ t s, t.val / 4 = s.val / 4 → col t = col s)
    (h0 : ∀ t : Fin T, t.val % 4 = 0 → ∀ j, f t.val t.isLt j = 0 + share a g (bt t) (row t j.1) (col t j.2))
    (hs : ∀ t : Fin T, ¬t.val % 4 = 0 → ∀ j, f t.val t.isLt j = f (t.val - 1) (Nat.lt_of_le_of_lt (Nat.sub_le _ _) t.isLt) j + share a g (bt t) (row t j.1) (col t j.2))
    (t : Fin T) (h : t.val % 4 = 3) (k : Fin KB) (n : Fin NB) : f t.val t.isLt (k, n) = dw a g (row t k) (col t n) := by
  refine (Pipeline.eq_sum_fin_of_reset_step_apply_of_flush f 4 (fun _ => 0) (fun t j => share a g (bt t) (row t j.1) (col t j.2)) h0 hs t h (k, n)).trans ?_
  rw [zero_add]
  refine Finset.sum_congr rfl fun s _ => ?_
  have hq : (4 * (t.val / 4) + s.val) / 4 = t.val / 4 := by omega
  have e : (bt ⟨4 * (t.val / 4) + s.val, by omega⟩) = s := Fin.ext ((hb _).trans (by dsimp only; omega))
  dsimp only
  rw [e, hr _ t hq, hc _ t hq]

/-- Columns `o …` of a block stored whole, loaded. -/
theorem readCov_cols {sig : RefSig} {κ : Kind} {sp : Space} {K N w : ℕ} (v : View sig κ sp ⟨2, ![K, N]⟩ .f32)
    (P : Vec Ideal ⟨2, ![K, N]⟩ .f32) (inb) (o : ℕ) (inb' : ∀ a, ![0, o] a + ![K, w] a ≤ Shape.size ⟨2, ![K, N]⟩ a)
    (k : Fin K) (n : Fin w) (h : o + n.val < N) :
    (v.readCov [⟨Rect.unit ![0, 0] ![K, N] inb, P⟩] (Rect.unit ![0, o] ![K, w] inb' : Rect ⟨2, ![K, N]⟩).toLoadRect : Vec Ideal ⟨2, ![K, w]⟩ .f32) (ix2 k n) = P (ix2 k ⟨o + n.val, h⟩) := by
  rw [View.readCov_eq_canon', View.canon_unit_zero (by funext a; fin_cases a <;> rfl)]
  refine congrArg P (funext fun a => Fin.ext ?_)
  fin_cases a
  · show 0 + 1 * k.val = k.val
    omega
  · show o + 1 * n.val = o + n.val
    omega

end Cert.Grads
end
-- ==== Proof.Dw3.lean ====
module

public import proofs.«01_k».proof.Proof.Gen.Kernel3Ideal.Value
public import proofs.«01_k».proof.Proof.Grads

/-! # The gradient of the channel mixer's first weights

Four points run over the four batch elements and add each one's share to a scratch block, cleared at the first of them; the
fourth writes the block out, its columns cut into the two shards that it holds. -/

@[expose] public section

set_option maxRecDepth 16384
set_option maxHeartbeats 1600000

noncomputable section

namespace Cert.Kernel3Ideal.Dw

open Cert.Kernel3Ideal Cert.Kernel3Ideal.Gen Cert.Grads Idealize.ShloMosaic Idealize.ShloMosaic.TcCoe Idealize.SL.Sem

variable (m : (ℓ : Loc nD τ sig) → Buf (Elt Ideal) ℓ)

theorem N16 : cfg0.N = 16 := N_0

/-- The two arrays, by batch element, token and channel. -/
def A (c : Dev nD) (b : Fin 4) (r : Fin 2304) (k : Fin 1024) : EReal := m ((c : Thread nD τ).loc main_arg0) (ix3 b r k)
def G (c : Dev nD) (b : Fin 4) (r : Fin 2304) (n : Fin 4096) : EReal := m ((c : Thread nD τ).loc main_arg1) (ix3 b r n)

/-- A point's batch element. -/
def bt (t : Fin cfg0.N) : Fin 4 := ⟨t.val % 4, by omega⟩
/-- The output channel of a point's column. -/
def col (t : Fin cfg0.N) (n : Fin 1024) : Fin 4096 := ⟨t.val / 4 * 1024 + n.val, by have := t.isLt; have := N16; omega⟩

theorem idx : ∀ t : Fin cfg0.N, win0_0.index t = ![t.val % 4, 0] ∧ win0_1.index t = ![t.val % 4, t.val / 4] :=
  (by decide +kernel : ∀ t : Fin grid0.N, _)

theorem idx_out : ∀ t : Fin cfg0.N, win0_2.index t = ![t.val / 4, 0, 0] :=
  (by decide +kernel : ∀ t : Fin grid0.N, _)

theorem flat0 (c : Dev nD) (t : Fin cfg0.N) (r : Fin 2304) (k : Fin 1024) (h) :
    V m c main_v0 (ix2 ⟨t.val % 4 * 2304 + r.val, h⟩ k) = A m c (bt t) r k := by
  entry_read
  pointwise []
  unfold A bt
  congr 2
  all_goals (apply Fin.ext; dsimp only; omega)

theorem blk0 (c : Dev nD) (t : Fin cfg0.N) (r : Fin 2304) (k : Fin 1024) :
    (iblk m c 0 t : Vec Ideal S2304x1024 .bf16) (ix2 r k) = A m c (bt t) r k := by
  have e : (iblk m c 0 t : Vec Ideal S2304x1024 .bf16) (ix2 r k) = V m c main_v0 (ix2 ⟨t.val % 4 * 2304 + r.val, by omega⟩ k) := by
    blk_point [iblk, idx t]
  exact e.trans (flat0 m c t r k _)

theorem pay2_at (v3 : Vec Ideal S1024x1024 .f32) (v4 v6 : Vec Ideal S2304x1024 .bf16) (k n : Fin 1024) :
    k0_pay2 v3 v4 v6 (ix2 k n) = v3 (ix2 k n) + ∑ r : Fin 2304, v4 (ix2 r k) * v6 (ix2 r n) := by
  pointwise [k0_pay2]

theorem blk1 (c : Dev nD) (t : Fin cfg0.N) (r : Fin 2304) (n : Fin 1024) :
    (iblk m c 1 t : Vec Ideal S2304x1024 .bf16) (ix2 r n) = G m c (bt t) r (col t n) := by
  have e : (iblk m c 1 t : Vec Ideal S2304x1024 .bf16) (ix2 r n) = V m c main_v1 (ix2 ⟨t.val % 4 * 2304 + r.val, by omega⟩ (col t n)) := by
    blk_point [iblk, idx t, col]
  refine e.trans ?_
  entry_read
  pointwise []
  unfold G bt
  congr 2
  all_goals (apply Fin.ext; dsimp only; omega)

/-- What a point adds. -/
theorem pay2_part (c : Dev nD) (t : Fin cfg0.N) (v : Vec Ideal S1024x1024 .f32) (k n : Fin 1024) :
    k0_pay2 v (iblk m c 0 t) (iblk m c 1 t) (ix2 k n) = v (ix2 k n) + share (A m c) (G m c) (bt t) k (col t n) := by
  rw [pay2_at]
  unfold share
  refine congrArg (_ + ·) (Finset.sum_congr rfl fun r _ => ?_)
  rw [blk0, blk1]

theorem sc_read (h : (Memref.whole cc0_scratch0 : Memref sig .tc .vmem S1024x1024 .f32).IsWhole) (X : Vec Ideal S1024x1024 .f32) :
    View.read (Elt Ideal) (View.whole cc0_scratch0) (h.unread X) = X := h.read_unread X

theorem stepA (c : Dev nD) (t : Fin cfg0.N) (h : t.val % 4 = 0) (k n : Fin 1024) :
    (outsAt0 m c t.val t.isLt).2 (ix2 k n) = 0 + share (A m c) (G m c) (bt t) k (col t n) := by
  rw [outsAt0_A m c t h (by omega)]
  dsimp only
  unfold sout0_A_0 kernelRun0_A
  frame_out
  rw [pay2_part]
  congr 1
  pointwise [k0_pay1]

theorem stepB (c : Dev nD) (t : Fin cfg0.N) (h : ¬t.val % 4 = 0) (k n : Fin 1024) :
    (outsAt0 m c t.val t.isLt).2 (ix2 k n) = (outsAt0 m c (t.val - 1) (Nat.lt_of_le_of_lt (Nat.sub_le _ _) t.isLt)).2 (ix2 k n) + share (A m c) (G m c) (bt t) k (col t n) := by
  by_cases h1 : t.val % 4 = 3
  · rw [outsAt0_C m c t h h1]
    dsimp only
    unfold sout0_C_0 kernelRun0_C
    frame_out
    rw [pay2_part, sc_read]
  · rw [outsAt0_B m c t h h1]
    dsimp only
    unfold sout0_B_0 kernelRun0_B
    frame_out
    rw [pay2_part, sc_read]

theorem pay3_at (v : Vec Ideal S1024x512 .f32) (a : Fin 1) (k : Fin 1024) (n : Fin 512) : k0_pay3 v (ix3 a k n) = v (ix2 k n) := by
  pointwise [k0_pay3]
theorem pay4_at (v : Vec Ideal S1024x512 .f32) (a : Fin 1) (k : Fin 1024) (n : Fin 512) : k0_pay4 v (ix3 a k n) = v (ix2 k n) := by
  pointwise [k0_pay4]

/-- A flushing point's block: its scratch, cut into two shards. -/
theorem cut (c : Dev nD) (t : Fin cfg0.N) (h : t.val % 4 = 3) (d : Fin 2) (k : Fin 1024) (n : Fin 512) :
    (outsAt0 m c t.val t.isLt).1 (ix3 d k n) = (outsAt0 m c t.val t.isLt).2 (ix2 k ⟨d.val * 512 + n.val, by omega⟩) := by
  rw [outsAt0_C m c t (by omega) h]
  dsimp only
  unfold sout0_C_0 out0_C_2 kernelRun0_C
  frame_out
  canon_tiles x hx
  all_goals
    obtain ⟨b, e, rfl⟩ : ∃ (b : Fin 1024) (e : Fin 512), x = ix3 ⟨0, by decide⟩ b e := ⟨x 1, x 2, by blk_ext []⟩
    have hd : d.val = _ := hx0
    dsimp only [ix3] at hd
    have h1 : k = b := Fin.ext hx1
    have h2 : n = e := Fin.ext hx2
    subst h1 h2
    clear x0_lt x1_lt x2_lt hx0 hx1 hx2
    first | rw [pay4_at] | rw [pay3_at]
    refine (readCov_cols _ _ _ _ _ _ _ (by omega)).trans ?_
    congr 2
    apply Fin.ext
    dsimp only
    omega

/-- The scratch at a flushing point: the sum over the batch. -/
theorem acc (c : Dev nD) (t : Fin cfg0.N) (h : t.val % 4 = 3) (k n : Fin 1024) :
    (outsAt0 m c t.val t.isLt).2 (ix2 k n) = dw (A m c) (G m c) k (col t n) := by
  exact dw_of_steps (A m c) (G m c) (fun n h j => (outsAt0 m c n h).2 (ix2 j.1 j.2)) bt (fun _ k => k) col (fun _ => rfl)
    (fun _ _ _ => rfl) (fun t s e => by funext n; apply Fin.ext; simp only [col, e])
    (fun t h j => stepA m c t h j.1 j.2) (fun t h j => stepB m c t h j.1 j.2) t h k n

/-- The array: shard `i 0`'s columns. -/
def out (c : Dev nD) (i : S8x1024x512.Idx) : EReal :=
  dw (A m c) (G m c) (i 1) ⟨(i 0).val * 512 + (i 2).val, by have h0 : (i 0).val < 8 := (i 0).isLt; have h2 : (i 2).val < 512 := (i 2).isLt; omega⟩

theorem close (c : Dev nD) (t : Fin cfg0.N) (h : t.val % 4 = 3) (y : S2x1024x512.Idx) (i : S8x1024x512.Idx)
    (h0 : (i 0 : ℕ) = t.val / 4 * 2 + y 0) (h1 : (i 1 : ℕ) = y 1) (h2 : (i 2 : ℕ) = y 2) : (outsAt0 m c t.val t.isLt).1 y = out m c i := by
  obtain ⟨d, k, n, rfl⟩ : ∃ (d : Fin 2) (k : Fin 1024) (n : Fin 512), y = ix3 d k n := ⟨y 0, y 1, y 2, by blk_ext []⟩
  refine (cut m c t h d k n).trans ((acc m c t h _ _).trans ?_)
  have h0' : (i 0 : ℕ) = t.val / 4 * 2 + d.val := h0
  have h2' : (i 2 : ℕ) = n.val := h2
  unfold out
  congr 1
  · exact Fin.ext h1.symm
  · apply Fin.ext
    simp only [col]
    omega

theorem out2 (c : Dev nD) : (dats m 0 c).arrAt 2 cfg0.N = out m c := by
  refine (dats m 0 c).arrAt_eq_of_covers 2 _ (by decide +kernel) fun t hf y => ?_
  have h3 : t.val % 4 = 3 := (flush0_2 t).mp hf
  blk_simp
  rw [after0_2]
  refine close m c t h3 y _ ?_ ?_ ?_
  all_goals blk_simp [idx_out t]

theorem run_values (ρ : Dev nD → PrngReg) : θ_run defs (onTc (τ := τ) (main (F := Ideal))) ⟨m, fun _ => 0, ρ⟩ fun r => ∀ c : Dev nD,
    r.2.mem ((c : Thread nD τ).loc main_v2) = out m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(Value.post2 m r h c).trans (out2 m c), Value.kept_main_arg0 m r h c, Value.kept_main_arg1 m r h c⟩)
    (run_main m ρ)

end Cert.Kernel3Ideal.Dw
end
-- ==== Proof.Dw4.lean ====
module

public import proofs.«01_k».proof.Proof.Gen.Kernel4Ideal.Value
public import proofs.«01_k».proof.Proof.Grads

/-! # The gradient of the channel mixer's second weights

Four points run over the four batch elements and add each one's share to a scratch block, cleared at the first of them; the
fourth writes the block out. -/

@[expose] public section

set_option maxRecDepth 16384
set_option maxHeartbeats 1600000

noncomputable section

namespace Cert.Kernel4Ideal.Dw

open Cert.Kernel4Ideal Cert.Kernel4Ideal.Gen Cert.Grads Idealize.ShloMosaic Idealize.ShloMosaic.TcCoe Idealize.SL.Sem

variable (m : (ℓ : Loc nD τ sig) → Buf (Elt Ideal) ℓ)

theorem N16 : cfg0.N = 16 := N_0

/-- The two arrays, by batch element, token and channel. -/
def A (c : Dev nD) (b : Fin 4) (r : Fin 2304) (k : Fin 4096) : EReal := m ((c : Thread nD τ).loc main_arg0) (ix3 b r k)
def G (c : Dev nD) (b : Fin 4) (r : Fin 2304) (n : Fin 1024) : EReal := m ((c : Thread nD τ).loc main_arg1) (ix3 b r n)

/-- A point's batch element. -/
def bt (t : Fin cfg0.N) : Fin 4 := ⟨t.val % 4, by omega⟩
/-- The input channel of a point's row. -/
def row (t : Fin cfg0.N) (k : Fin 1024) : Fin 4096 := ⟨t.val / 4 * 1024 + k.val, by have := t.isLt; have := N16; omega⟩

theorem idx : ∀ t : Fin cfg0.N, win0_0.index t = ![t.val % 4, t.val / 4] ∧ win0_1.index t = ![t.val % 4, 0] :=
  (by decide +kernel : ∀ t : Fin grid0.N, _)

theorem idx_out : ∀ t : Fin cfg0.N, win0_2.index t = ![t.val / 4, 0] :=
  (by decide +kernel : ∀ t : Fin grid0.N, _)

theorem blk0 (c : Dev nD) (t : Fin cfg0.N) (r : Fin 2304) (k : Fin 1024) :
    (iblk m c 0 t : Vec Ideal S2304x1024 .bf16) (ix2 r k) = A m c (bt t) r (row t k) := by
  have e : (iblk m c 0 t : Vec Ideal S2304x1024 .bf16) (ix2 r k) = V m c main_v0 (ix2 ⟨t.val % 4 * 2304 + r.val, by omega⟩ (row t k)) := by
    blk_point [iblk, idx t, row]
  refine e.trans ?_
  entry_read
  pointwise []
  unfold A bt
  congr 2
  all_goals (apply Fin.ext; dsimp only; omega)

theorem pay2_at (v3 : Vec Ideal S1024x1024 .f32) (v4 v6 : Vec Ideal S2304x1024 .bf16) (k n : Fin 1024) :
    k0_pay2 v3 v4 v6 (ix2 k n) = v3 (ix2 k n) + ∑ r : Fin 2304, v4 (ix2 r k) * v6 (ix2 r n) := by
  pointwise [k0_pay2]

theorem blk1 (c : Dev nD) (t : Fin cfg0.N) (r : Fin 2304) (n : Fin 1024) :
    (iblk m c 1 t : Vec Ideal S2304x1024 .bf16) (ix2 r n) = G m c (bt t) r n := by
  have e : (iblk m c 1 t : Vec Ideal S2304x1024 .bf16) (ix2 r n) = V m c main_v1 (ix2 ⟨t.val % 4 * 2304 + r.val, by omega⟩ n) := by
    blk_point [iblk, idx t]
  refine e.trans ?_
  entry_read
  pointwise []
  unfold G bt
  congr 2
  all_goals (apply Fin.ext; dsimp only; omega)

/-- What a point adds. -/
theorem pay2_part (c : Dev nD) (t : Fin cfg0.N) (v : Vec Ideal S1024x1024 .f32) (k n : Fin 1024) :
    k0_pay2 v (iblk m c 0 t) (iblk m c 1 t) (ix2 k n) = v (ix2 k n) + share (A m c) (G m c) (bt t) (row t k) n := by
  rw [pay2_at]
  unfold share
  refine congrArg (_ + ·) (Finset.sum_congr rfl fun r _ => ?_)
  rw [blk0, blk1]

theorem sc_read (h : (Memref.whole cc0_scratch0 : Memref sig .tc .vmem S1024x1024 .f32).IsWhole) (X : Vec Ideal S1024x1024 .f32) :
    View.read (Elt Ideal) (View.whole cc0_scratch0) (h.unread X) = X := h.read_unread X

theorem stepA (c : Dev nD) (t : Fin cfg0.N) (h : t.val % 4 = 0) (k n : Fin 1024) :
    (outsAt0 m c t.val t.isLt).2 (ix2 k n) = 0 + share (A m c) (G m c) (bt t) (row t k) n := by
  rw [outsAt0_A m c t h (by omega)]
  dsimp only
  unfold sout0_A_0 kernelRun0_A
  frame_out
  rw [pay2_part]
  congr 1
  pointwise [k0_pay1]

theorem stepB (c : Dev nD) (t : Fin cfg0.N) (h : ¬t.val % 4 = 0) (k n : Fin 1024) :
    (outsAt0 m c t.val t.isLt).2 (ix2 k n) = (outsAt0 m c (t.val - 1) (Nat.lt_of_le_of_lt (Nat.sub_le _ _) t.isLt)).2 (ix2 k n) + share (A m c) (G m c) (bt t) (row t k) n := by
  by_cases h1 : t.val % 4 = 3
  · rw [outsAt0_C m c t h h1]
    dsimp only
    unfold sout0_C_0 kernelRun0_C
    frame_out
    rw [pay2_part, sc_read]
  · rw [outsAt0_B m c t h h1]
    dsimp only
    unfold sout0_B_0 kernelRun0_B
    frame_out
    rw [pay2_part, sc_read]

theorem pay3_at (v : Vec Ideal S1024x1024 .f32) (k n : Fin 1024) : k0_pay3 v (ix2 k n) = v (ix2 k n) := by
  pointwise [k0_pay3]

/-- A flushing point's block: its scratch. -/
theorem cut (c : Dev nD) (t : Fin cfg0.N) (h : t.val % 4 = 3) (k n : Fin 1024) :
    (outsAt0 m c t.val t.isLt).1 (ix2 k n) = (outsAt0 m c t.val t.isLt).2 (ix2 k n) := by
  rw [outsAt0_C m c t (by omega) h]
  dsimp only
  unfold sout0_C_0 out0_C_2 kernelRun0_C
  frame_out
  rw [pay3_at]

/-- The scratch at a flushing point: the sum over the batch. -/
theorem acc (c : Dev nD) (t : Fin cfg0.N) (h : t.val % 4 = 3) (k n : Fin 1024) :
    (outsAt0 m c t.val t.isLt).2 (ix2 k n) = dw (A m c) (G m c) (row t k) n := by
  exact dw_of_steps (A m c) (G m c) (fun n h j => (outsAt0 m c n h).2 (ix2 j.1 j.2)) bt row (fun _ n => n) (fun _ => rfl)
    (fun t s e => by funext n; apply Fin.ext; simp only [row, e]) (fun _ _ _ => rfl)
    (fun t h j => stepA m c t h j.1 j.2) (fun t h j => stepB m c t h j.1 j.2) t h k n

/-- The array. -/
def out (c : Dev nD) (i : S4096x1024.Idx) : EReal := dw (A m c) (G m c) (i 0) (i 1)

theorem close (c : Dev nD) (t : Fin cfg0.N) (h : t.val % 4 = 3) (y : S1024x1024.Idx) (i : S4096x1024.Idx)
    (h0 : (i 0 : ℕ) = t.val / 4 * 1024 + y 0) (h1 : (i 1 : ℕ) = y 1) : (outsAt0 m c t.val t.isLt).1 y = out m c i := by
  obtain ⟨k, n, rfl⟩ : ∃ k n : Fin 1024, y = ix2 k n := ⟨y 0, y 1, by blk_ext []⟩
  refine (cut m c t h k n).trans ((acc m c t h _ _).trans ?_)
  unfold out
  congr 1
  · exact Fin.ext h0.symm
  · exact Fin.ext h1.symm

theorem out2 (c : Dev nD) : (dats m 0 c).arrAt 2 cfg0.N = out m c := by
  refine (dats m 0 c).arrAt_eq_of_covers 2 _ (by decide +kernel) fun t hf y => ?_
  have h3 : t.val % 4 = 3 := (flush0_2 t).mp hf
  blk_simp
  rw [after0_2]
  refine close m c t h3 y _ ?_ ?_
  all_goals blk_simp [idx_out t]

theorem run_values (ρ : Dev nD → PrngReg) : θ_run defs (onTc (τ := τ) (main (F := Ideal))) ⟨m, fun _ => 0, ρ⟩ fun r => ∀ c : Dev nD,
    r.2.mem ((c : Thread nD τ).loc main_v2) = out m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(Value.post2 m r h c).trans (out2 m c), Value.kept_main_arg0 m r h c, Value.kept_main_arg1 m r h c⟩)
    (run_main m ρ)

end Cert.Kernel4Ideal.Dw
end
-- ==== Proof.Dw5.lean ====
module

public import proofs.«01_k».proof.Proof.Gen.Kernel5Ideal.Value
public import proofs.«01_k».proof.Proof.Grads

/-! # The gradient of the output projection's weights

The four points run over the four batch elements and add each one's share to a scratch block, cleared at the first of them; the
fourth writes the block out. -/

@[expose] public section

set_option maxRecDepth 16384
set_option maxHeartbeats 1600000

noncomputable section

namespace Cert.Kernel5Ideal.Dw

open Cert.Kernel5Ideal Cert.Kernel5Ideal.Gen Cert.Grads Idealize.ShloMosaic Idealize.ShloMosaic.TcCoe Idealize.SL.Sem

variable (m : (ℓ : Loc nD τ sig) → Buf (Elt Ideal) ℓ)

theorem N4 : cfg0.N = 4 := N_0

/-- The two arrays, by batch element, token and channel. -/
def A (c : Dev nD) (b : Fin 4) (r : Fin 2304) (k : Fin 1024) : EReal := m ((c : Thread nD τ).loc main_arg0) (ix3 b r k)
def G (c : Dev nD) (b : Fin 4) (r : Fin 2304) (n : Fin 1024) : EReal := m ((c : Thread nD τ).loc main_arg1) (ix3 b r n)

/-- A point's batch element. -/
def bt (t : Fin cfg0.N) : Fin 4 := ⟨t.val % 4, by omega⟩
theorem idx : ∀ t : Fin cfg0.N, win0_0.index t = ![t.val % 4, 0] ∧ win0_1.index t = ![t.val % 4, 0] :=
  (by decide +kernel : ∀ t : Fin grid0.N, _)

theorem idx_out : ∀ t : Fin cfg0.N, win0_2.index t = ![0, 0] :=
  (by decide +kernel : ∀ t : Fin grid0.N, _)

theorem blk0 (c : Dev nD) (t : Fin cfg0.N) (r : Fin 2304) (k : Fin 1024) :
    (iblk m c 0 t : Vec Ideal S2304x1024 .bf16) (ix2 r k) = A m c (bt t) r k := by
  have e : (iblk m c 0 t : Vec Ideal S2304x1024 .bf16) (ix2 r k) = V m c main_v0 (ix2 ⟨t.val % 4 * 2304 + r.val, by omega⟩ k) := by
    blk_point [iblk, idx t]
  refine e.trans ?_
  entry_read
  pointwise []
  unfold A bt
  congr 2
  all_goals (apply Fin.ext; dsimp only; have := t.isLt; have := N4; omega)

theorem pay2_at (v3 : Vec Ideal S1024x1024 .f32) (v4 v6 : Vec Ideal S2304x1024 .bf16) (k n : Fin 1024) :
    k0_pay2 v3 v4 v6 (ix2 k n) = v3 (ix2 k n) + ∑ r : Fin 2304, v4 (ix2 r k) * v6 (ix2 r n) := by
  pointwise [k0_pay2]

theorem blk1 (c : Dev nD) (t : Fin cfg0.N) (r : Fin 2304) (n : Fin 1024) :
    (iblk m c 1 t : Vec Ideal S2304x1024 .bf16) (ix2 r n) = G m c (bt t) r n := by
  have e : (iblk m c 1 t : Vec Ideal S2304x1024 .bf16) (ix2 r n) = V m c main_v1 (ix2 ⟨t.val % 4 * 2304 + r.val, by omega⟩ n) := by
    blk_point [iblk, idx t]
  refine e.trans ?_
  entry_read
  pointwise []
  unfold G bt
  congr 2
  all_goals (apply Fin.ext; dsimp only; have := t.isLt; have := N4; omega)

/-- What a point adds. -/
theorem pay2_part (c : Dev nD) (t : Fin cfg0.N) (v : Vec Ideal S1024x1024 .f32) (k n : Fin 1024) :
    k0_pay2 v (iblk m c 0 t) (iblk m c 1 t) (ix2 k n) = v (ix2 k n) + share (A m c) (G m c) (bt t) k n := by
  rw [pay2_at]
  unfold share
  refine congrArg (_ + ·) (Finset.sum_congr rfl fun r _ => ?_)
  rw [blk0, blk1]

theorem sc_read (h : (Memref.whole cc0_scratch0 : Memref sig .tc .vmem S1024x1024 .f32).IsWhole) (X : Vec Ideal S1024x1024 .f32) :
    View.read (Elt Ideal) (View.whole cc0_scratch0) (h.unread X) = X := h.read_unread X

theorem stepA (c : Dev nD) (t : Fin cfg0.N) (h : t.val % 4 = 0) (k n : Fin 1024) :
    (outsAt0 m c t.val t.isLt).2 (ix2 k n) = 0 + share (A m c) (G m c) (bt t) k n := by
  rw [outsAt0_A m c t h (by omega)]
  dsimp only
  unfold sout0_A_0 kernelRun0_A
  frame_out
  rw [pay2_part]
  congr 1
  pointwise [k0_pay1]

theorem stepB (c : Dev nD) (t : Fin cfg0.N) (h : ¬t.val % 4 = 0) (k n : Fin 1024) :
    (outsAt0 m c t.val t.isLt).2 (ix2 k n) = (outsAt0 m c (t.val - 1) (Nat.lt_of_le_of_lt (Nat.sub_le _ _) t.isLt)).2 (ix2 k n) + share (A m c) (G m c) (bt t) k n := by
  by_cases h1 : t.val % 4 = 3
  · rw [outsAt0_C m c t h h1]
    dsimp only
    unfold sout0_C_0 kernelRun0_C
    frame_out
    rw [pay2_part, sc_read]
  · rw [outsAt0_B m c t h h1]
    dsimp only
    unfold sout0_B_0 kernelRun0_B
    frame_out
    rw [pay2_part, sc_read]

theorem pay3_at (v : Vec Ideal S1024x1024 .f32) (k n : Fin 1024) : k0_pay3 v (ix2 k n) = v (ix2 k n) := by
  pointwise [k0_pay3]

/-- A flushing point's block: its scratch. -/
theorem cut (c : Dev nD) (t : Fin cfg0.N) (h : t.val % 4 = 3) (k n : Fin 1024) :
    (outsAt0 m c t.val t.isLt).1 (ix2 k n) = (outsAt0 m c t.val t.isLt).2 (ix2 k n) := by
  rw [outsAt0_C m c t (by omega) h]
  dsimp only
  unfold sout0_C_0 out0_C_2 kernelRun0_C
  frame_out
  rw [pay3_at]

/-- The scratch at a flushing point: the sum over the batch. -/
theorem acc (c : Dev nD) (t : Fin cfg0.N) (h : t.val % 4 = 3) (k n : Fin 1024) :
    (outsAt0 m c t.val t.isLt).2 (ix2 k n) = dw (A m c) (G m c) k n := by
  exact dw_of_steps (A m c) (G m c) (fun n h j => (outsAt0 m c n h).2 (ix2 j.1 j.2)) bt (fun _ k => k) (fun _ n => n) (fun _ => rfl)
    (fun _ _ _ => rfl) (fun _ _ _ => rfl)
    (fun t h j => stepA m c t h j.1 j.2) (fun t h j => stepB m c t h j.1 j.2) t h k n

/-- The array. -/
def out (c : Dev nD) (i : S1024x1024.Idx) : EReal := dw (A m c) (G m c) (i 0) (i 1)

theorem close (c : Dev nD) (t : Fin cfg0.N) (h : t.val % 4 = 3) (y : S1024x1024.Idx) (i : S1024x1024.Idx)
    (h0 : (i 0 : ℕ) = y 0) (h1 : (i 1 : ℕ) = y 1) : (outsAt0 m c t.val t.isLt).1 y = out m c i := by
  obtain ⟨k, n, rfl⟩ : ∃ k n : Fin 1024, y = ix2 k n := ⟨y 0, y 1, by blk_ext []⟩
  refine (cut m c t h k n).trans ((acc m c t h _ _).trans ?_)
  unfold out
  congr 1
  · exact Fin.ext h0.symm
  · exact Fin.ext h1.symm

theorem out2 (c : Dev nD) : (dats m 0 c).arrAt 2 cfg0.N = out m c := by
  refine (dats m 0 c).arrAt_eq_of_covers 2 _ (by decide +kernel) fun t hf y => ?_
  have h3 : t.val % 4 = 3 := (flush0_2 t).mp hf
  blk_simp
  rw [after0_2]
  refine close m c t h3 y _ ?_ ?_
  all_goals blk_simp [idx_out t]

theorem run_values (ρ : Dev nD → PrngReg) : θ_run defs (onTc (τ := τ) (main (F := Ideal))) ⟨m, fun _ => 0, ρ⟩ fun r => ∀ c : Dev nD,
    r.2.mem ((c : Thread nD τ).loc main_v2) = out m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(Value.post2 m r h c).trans (out2 m c), Value.kept_main_arg0 m r h c, Value.kept_main_arg1 m r h c⟩)
    (run_main m ρ)

end Cert.Kernel5Ideal.Dw
end
-- ==== Proof.Dw6.lean ====
module

public import proofs.«01_k».proof.Proof.Gen.Kernel6Ideal.Value
public import proofs.«01_k».proof.Proof.Grads

/-! # The gradient of the first branch's projection

The four points run over the four batch elements and add each one's share to a scratch block, cleared at the first of them; the
fourth writes the block out, its columns cut into eight shards. -/

@[expose] public section

set_option maxRecDepth 16384
set_option maxHeartbeats 1600000

noncomputable section

namespace Cert.Kernel6Ideal.Dw

open Cert.Kernel6Ideal Cert.Kernel6Ideal.Gen Cert.Grads Idealize.ShloMosaic Idealize.ShloMosaic.TcCoe Idealize.SL.Sem

variable (m : (ℓ : Loc nD τ sig) → Buf (Elt Ideal) ℓ)

theorem N4 : cfg0.N = 4 := N_0

/-- The two arrays, by batch element, token and channel. -/
def A (c : Dev nD) (b : Fin 4) (r : Fin 2304) (k : Fin 384) : EReal := m ((c : Thread nD τ).loc main_arg0) (ix3 b r k)
def G (c : Dev nD) (b : Fin 4) (r : Fin 2304) (n : Fin 1024) : EReal := m ((c : Thread nD τ).loc main_arg1) (ix3 b r n)

/-- A point's batch element. -/
def bt (t : Fin cfg0.N) : Fin 4 := ⟨t.val % 4, by omega⟩
theorem idx : ∀ t : Fin cfg0.N, win0_0.index t = ![t.val % 4, 0] ∧ win0_1.index t = ![t.val % 4, 0] :=
  (by decide +kernel : ∀ t : Fin grid0.N, _)

theorem idx_out : ∀ t : Fin cfg0.N, win0_2.index t = ![0, 0, 0] :=
  (by decide +kernel : ∀ t : Fin grid0.N, _)

theorem blk0 (c : Dev nD) (t : Fin cfg0.N) (r : Fin 2304) (k : Fin 384) :
    (iblk m c 0 t : Vec Ideal S2304x384 .bf16) (ix2 r k) = A m c (bt t) r k := by
  have e : (iblk m c 0 t : Vec Ideal S2304x384 .bf16) (ix2 r k) = V m c main_v0 (ix2 ⟨t.val % 4 * 2304 + r.val, by omega⟩ k) := by
    blk_point [iblk, idx t]
  refine e.trans ?_
  entry_read
  pointwise []
  unfold A bt
  congr 2
  all_goals (apply Fin.ext; dsimp only; have := t.isLt; have := N4; omega)

theorem pay2_at (v3 : Vec Ideal S384x1024 .f32) (v4 : Vec Ideal S2304x384 .bf16) (v6 : Vec Ideal S2304x1024 .bf16) (k : Fin 384) (n : Fin 1024) :
    k0_pay2 v3 v4 v6 (ix2 k n) = v3 (ix2 k n) + ∑ r : Fin 2304, v4 (ix2 r k) * v6 (ix2 r n) := by
  pointwise [k0_pay2]

theorem blk1 (c : Dev nD) (t : Fin cfg0.N) (r : Fin 2304) (n : Fin 1024) :
    (iblk m c 1 t : Vec Ideal S2304x1024 .bf16) (ix2 r n) = G m c (bt t) r n := by
  have e : (iblk m c 1 t : Vec Ideal S2304x1024 .bf16) (ix2 r n) = V m c main_v1 (ix2 ⟨t.val % 4 * 2304 + r.val, by omega⟩ n) := by
    blk_point [iblk, idx t]
  refine e.trans ?_
  entry_read
  pointwise []
  unfold G bt
  congr 2
  all_goals (apply Fin.ext; dsimp only; have := t.isLt; have := N4; omega)

/-- What a point adds. -/
theorem pay2_part (c : Dev nD) (t : Fin cfg0.N) (v : Vec Ideal S384x1024 .f32) (k : Fin 384) (n : Fin 1024) :
    k0_pay2 v (iblk m c 0 t) (iblk m c 1 t) (ix2 k n) = v (ix2 k n) + share (A m c) (G m c) (bt t) k n := by
  rw [pay2_at]
  unfold share
  refine congrArg (_ + ·) (Finset.sum_congr rfl fun r _ => ?_)
  rw [blk0, blk1]

theorem sc_read (h : (Memref.whole cc0_scratch0 : Memref sig .tc .vmem S384x1024 .f32).IsWhole) (X : Vec Ideal S384x1024 .f32) :
    View.read (Elt Ideal) (View.whole cc0_scratch0) (h.unread X) = X := h.read_unread X

theorem stepA (c : Dev nD) (t : Fin cfg0.N) (h : t.val % 4 = 0) (k : Fin 384) (n : Fin 1024) :
    (outsAt0 m c t.val t.isLt).2 (ix2 k n) = 0 + share (A m c) (G m c) (bt t) k n := by
  rw [outsAt0_A m c t h (by omega)]
  dsimp only
  unfold sout0_A_0 kernelRun0_A
  frame_out
  rw [pay2_part]
  congr 1
  pointwise [k0_pay1]

theorem stepB (c : Dev nD) (t : Fin cfg0.N) (h : ¬t.val % 4 = 0) (k : Fin 384) (n : Fin 1024) :
    (outsAt0 m c t.val t.isLt).2 (ix2 k n) = (outsAt0 m c (t.val - 1) (Nat.lt_of_le_of_lt (Nat.sub_le _ _) t.isLt)).2 (ix2 k n) + share (A m c) (G m c) (bt t) k n := by
  by_cases h1 : t.val % 4 = 3
  · rw [outsAt0_C m c t h h1]
    dsimp only
    unfold sout0_C_0 kernelRun0_C
    frame_out
    rw [pay2_part, sc_read]
  · rw [outsAt0_B m c t h h1]
    dsimp only
    unfold sout0_B_0 kernelRun0_B
    frame_out
    rw [pay2_part, sc_read]

/-- The eight shards' conversions. -/
theorem pay_at (v : Vec Ideal S384x128 .f32) (k : Fin 384) (n : Fin 128) :
    k0_pay6 v (ix3 ⟨0, by decide⟩ k n) = v (ix2 k n) ∧ k0_pay7 v (ix3 ⟨0, by decide⟩ k n) = v (ix2 k n)
      ∧ k0_pay8 v (ix3 ⟨0, by decide⟩ k n) = v (ix2 k n) ∧ k0_pay9 v (ix3 ⟨0, by decide⟩ k n) = v (ix2 k n)
      ∧ k0_pay10 v (ix3 ⟨0, by decide⟩ k n) = v (ix2 k n) ∧ k0_pay3 (k0_pay11 v) (ix3 ⟨0, by decide⟩ k n) = v (ix2 k n)
      ∧ k0_pay4 v (ix3 ⟨0, by decide⟩ k n) = v (ix2 k n) ∧ k0_pay5 v (ix3 ⟨0, by decide⟩ k n) = v (ix2 k n) := by
  refine ⟨?_, ?_, ?_, ?_, ?_, ?_, ?_, ?_⟩ <;>
    pointwise [k0_pay3, k0_pay4, k0_pay5, k0_pay6, k0_pay7, k0_pay8, k0_pay9, k0_pay10, k0_pay11]

/-- A flushing point's block: its scratch, cut into eight shards. -/
theorem cut (c : Dev nD) (t : Fin cfg0.N) (h : t.val % 4 = 3) (d : Fin 8) (k : Fin 384) (n : Fin 128) :
    (outsAt0 m c t.val t.isLt).1 (ix3 d k n) = (outsAt0 m c t.val t.isLt).2 (ix2 k ⟨d.val * 128 + n.val, by omega⟩) := by
  rw [outsAt0_C m c t (by omega) h]
  dsimp only
  unfold sout0_C_0 out0_C_2 kernelRun0_C
  frame_out
  canon_tiles x hx
  all_goals
    obtain ⟨b, e, rfl⟩ : ∃ (b : Fin 384) (e : Fin 128), x = ix3 ⟨0, by decide⟩ b e := ⟨x 1, x 2, by blk_ext []⟩
    have hd : d.val = _ := hx0
    dsimp only [ix3] at hd
    have h1 : k = b := Fin.ext hx1
    have h2 : n = e := Fin.ext hx2
    subst h1 h2
    clear x0_lt x1_lt x2_lt hx0 hx1 hx2
    simp only [pay_at]
    refine (readCov_cols _ _ _ _ _ _ _ (by omega)).trans ?_
    congr 2
    apply Fin.ext
    dsimp only
    omega

/-- The scratch at a flushing point: the sum over the batch. -/
theorem acc (c : Dev nD) (t : Fin cfg0.N) (h : t.val % 4 = 3) (k : Fin 384) (n : Fin 1024) :
    (outsAt0 m c t.val t.isLt).2 (ix2 k n) = dw (A m c) (G m c) k n := by
  exact dw_of_steps (A m c) (G m c) (fun n h j => (outsAt0 m c n h).2 (ix2 j.1 j.2)) bt (fun _ k => k) (fun _ n => n) (fun _ => rfl)
    (fun _ _ _ => rfl) (fun _ _ _ => rfl)
    (fun t h j => stepA m c t h j.1 j.2) (fun t h j => stepB m c t h j.1 j.2) t h k n

/-- The array: shard `i 0`'s columns. -/
def out (c : Dev nD) (i : S8x384x128.Idx) : EReal :=
  dw (A m c) (G m c) (i 1) ⟨(i 0).val * 128 + (i 2).val, by have h0 : (i 0).val < 8 := (i 0).isLt; have h2 : (i 2).val < 128 := (i 2).isLt; omega⟩

theorem close (c : Dev nD) (t : Fin cfg0.N) (h : t.val % 4 = 3) (y : S8x384x128.Idx) (i : S8x384x128.Idx)
    (h0 : (i 0 : ℕ) = y 0) (h1 : (i 1 : ℕ) = y 1) (h2 : (i 2 : ℕ) = y 2) : (outsAt0 m c t.val t.isLt).1 y = out m c i := by
  obtain ⟨d, k, n, rfl⟩ : ∃ (d : Fin 8) (k : Fin 384) (n : Fin 128), y = ix3 d k n := ⟨y 0, y 1, y 2, by blk_ext []⟩
  refine (cut m c t h d k n).trans ((acc m c t h _ _).trans ?_)
  have h0' : (i 0 : ℕ) = d.val := h0
  have h2' : (i 2 : ℕ) = n.val := h2
  unfold out
  congr 1
  · exact Fin.ext h1.symm
  · apply Fin.ext
    dsimp only
    omega

theorem out2 (c : Dev nD) : (dats m 0 c).arrAt 2 cfg0.N = out m c := by
  refine (dats m 0 c).arrAt_eq_of_covers 2 _ (by decide +kernel) fun t hf y => ?_
  have h3 : t.val % 4 = 3 := (flush0_2 t).mp hf
  blk_simp
  rw [after0_2]
  refine close m c t h3 y _ ?_ ?_ ?_
  all_goals blk_simp [idx_out t]

theorem run_values (ρ : Dev nD → PrngReg) : θ_run defs (onTc (τ := τ) (main (F := Ideal))) ⟨m, fun _ => 0, ρ⟩ fun r => ∀ c : Dev nD,
    r.2.mem ((c : Thread nD τ).loc main_v2) = out m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(Value.post2 m r h c).trans (out2 m c), Value.kept_main_arg0 m r h c, Value.kept_main_arg1 m r h c⟩)
    (run_main m ρ)

end Cert.Kernel6Ideal.Dw
end
-- ==== Proof.Dw7.lean ====
module

public import proofs.«01_k».proof.Proof.Gen.Kernel7Ideal.Value
public import proofs.«01_k».proof.Proof.Grads

/-! # The gradient of the second branch's projection

The four points run over the four batch elements and add each one's share to a scratch block, cleared at the first of them; the
fourth writes the block out, its columns cut into eight shards. -/

@[expose] public section

set_option maxRecDepth 16384
set_option maxHeartbeats 1600000

noncomputable section

namespace Cert.Kernel7Ideal.Dw

open Cert.Kernel7Ideal Cert.Kernel7Ideal.Gen Cert.Grads Idealize.ShloMosaic Idealize.ShloMosaic.TcCoe Idealize.SL.Sem

variable (m : (ℓ : Loc nD τ sig) → Buf (Elt Ideal) ℓ)

theorem N4 : cfg0.N = 4 := N_0

/-- The two arrays, by batch element, token and channel. -/
def A (c : Dev nD) (b : Fin 4) (r : Fin 2304) (k : Fin 256) : EReal := m ((c : Thread nD τ).loc main_arg0) (ix3 b r k)
def G (c : Dev nD) (b : Fin 4) (r : Fin 2304) (n : Fin 1024) : EReal := m ((c : Thread nD τ).loc main_arg1) (ix3 b r n)

/-- A point's batch element. -/
def bt (t : Fin cfg0.N) : Fin 4 := ⟨t.val % 4, by omega⟩
theorem idx : ∀ t : Fin cfg0.N, win0_0.index t = ![t.val % 4, 0] ∧ win0_1.index t = ![t.val % 4, 0] :=
  (by decide +kernel : ∀ t : Fin grid0.N, _)

theorem idx_out : ∀ t : Fin cfg0.N, win0_2.index t = ![0, 0, 0] :=
  (by decide +kernel : ∀ t : Fin grid0.N, _)

theorem blk0 (c : Dev nD) (t : Fin cfg0.N) (r : Fin 2304) (k : Fin 256) :
    (iblk m c 0 t : Vec Ideal S2304x256 .bf16) (ix2 r k) = A m c (bt t) r k := by
  have e : (iblk m c 0 t : Vec Ideal S2304x256 .bf16) (ix2 r k) = V m c main_v0 (ix2 ⟨t.val % 4 * 2304 + r.val, by omega⟩ k) := by
    blk_point [iblk, idx t]
  refine e.trans ?_
  entry_read
  pointwise []
  unfold A bt
  congr 2
  all_goals (apply Fin.ext; dsimp only; have := t.isLt; have := N4; omega)

theorem pay2_at (v3 : Vec Ideal S256x1024 .f32) (v4 : Vec Ideal S2304x256 .bf16) (v6 : Vec Ideal S2304x1024 .bf16) (k : Fin 256) (n : Fin 1024) :
    k0_pay2 v3 v4 v6 (ix2 k n) = v3 (ix2 k n) + ∑ r : Fin 2304, v4 (ix2 r k) * v6 (ix2 r n) := by
  pointwise [k0_pay2]

theorem blk1 (c : Dev nD) (t : Fin cfg0.N) (r : Fin 2304) (n : Fin 1024) :
    (iblk m c 1 t : Vec Ideal S2304x1024 .bf16) (ix2 r n) = G m c (bt t) r n := by
  have e : (iblk m c 1 t : Vec Ideal S2304x1024 .bf16) (ix2 r n) = V m c main_v1 (ix2 ⟨t.val % 4 * 2304 + r.val, by omega⟩ n) := by
    blk_point [iblk, idx t]
  refine e.trans ?_
  entry_read
  pointwise []
  unfold G bt
  congr 2
  all_goals (apply Fin.ext; dsimp only; have := t.isLt; have := N4; omega)

/-- What a point adds. -/
theorem pay2_part (c : Dev nD) (t : Fin cfg0.N) (v : Vec Ideal S256x1024 .f32) (k : Fin 256) (n : Fin 1024) :
    k0_pay2 v (iblk m c 0 t) (iblk m c 1 t) (ix2 k n) = v (ix2 k n) + share (A m c) (G m c) (bt t) k n := by
  rw [pay2_at]
  unfold share
  refine congrArg (_ + ·) (Finset.sum_congr rfl fun r _ => ?_)
  rw [blk0, blk1]

theorem sc_read (h : (Memref.whole cc0_scratch0 : Memref sig .tc .vmem S256x1024 .f32).IsWhole) (X : Vec Ideal S256x1024 .f32) :
    View.read (Elt Ideal) (View.whole cc0_scratch0) (h.unread X) = X := h.read_unread X

theorem stepA (c : Dev nD) (t : Fin cfg0.N) (h : t.val % 4 = 0) (k : Fin 256) (n : Fin 1024) :
    (outsAt0 m c t.val t.isLt).2 (ix2 k n) = 0 + share (A m c) (G m c) (bt t) k n := by
  rw [outsAt0_A m c t h (by omega)]
  dsimp only
  unfold sout0_A_0 kernelRun0_A
  frame_out
  rw [pay2_part]
  congr 1
  pointwise [k0_pay1]

theorem stepB (c : Dev nD) (t : Fin cfg0.N) (h : ¬t.val % 4 = 0) (k : Fin 256) (n : Fin 1024) :
    (outsAt0 m c t.val t.isLt).2 (ix2 k n) = (outsAt0 m c (t.val - 1) (Nat.lt_of_le_of_lt (Nat.sub_le _ _) t.isLt)).2 (ix2 k n) + share (A m c) (G m c) (bt t) k n := by
  by_cases h1 : t.val % 4 = 3
  · rw [outsAt0_C m c t h h1]
    dsimp only
    unfold sout0_C_0 kernelRun0_C
    frame_out
    rw [pay2_part, sc_read]
  · rw [outsAt0_B m c t h h1]
    dsimp only
    unfold sout0_B_0 kernelRun0_B
    frame_out
    rw [pay2_part, sc_read]

/-- The eight shards' conversions. -/
theorem pay_at (v : Vec Ideal S256x128 .f32) (k : Fin 256) (n : Fin 128) :
    k0_pay6 v (ix3 ⟨0, by decide⟩ k n) = v (ix2 k n) ∧ k0_pay7 v (ix3 ⟨0, by decide⟩ k n) = v (ix2 k n)
      ∧ k0_pay8 v (ix3 ⟨0, by decide⟩ k n) = v (ix2 k n) ∧ k0_pay9 v (ix3 ⟨0, by decide⟩ k n) = v (ix2 k n)
      ∧ k0_pay10 v (ix3 ⟨0, by decide⟩ k n) = v (ix2 k n) ∧ k0_pay3 (k0_pay11 v) (ix3 ⟨0, by decide⟩ k n) = v (ix2 k n)
      ∧ k0_pay4 v (ix3 ⟨0, by decide⟩ k n) = v (ix2 k n) ∧ k0_pay5 v (ix3 ⟨0, by decide⟩ k n) = v (ix2 k n) := by
  refine ⟨?_, ?_, ?_, ?_, ?_, ?_, ?_, ?_⟩ <;>
    pointwise [k0_pay3, k0_pay4, k0_pay5, k0_pay6, k0_pay7, k0_pay8, k0_pay9, k0_pay10, k0_pay11]

/-- A flushing point's block: its scratch, cut into eight shards. -/
theorem cut (c : Dev nD) (t : Fin cfg0.N) (h : t.val % 4 = 3) (d : Fin 8) (k : Fin 256) (n : Fin 128) :
    (outsAt0 m c t.val t.isLt).1 (ix3 d k n) = (outsAt0 m c t.val t.isLt).2 (ix2 k ⟨d.val * 128 + n.val, by omega⟩) := by
  rw [outsAt0_C m c t (by omega) h]
  dsimp only
  unfold sout0_C_0 out0_C_2 kernelRun0_C
  frame_out
  canon_tiles x hx
  all_goals
    obtain ⟨b, e, rfl⟩ : ∃ (b : Fin 256) (e : Fin 128), x = ix3 ⟨0, by decide⟩ b e := ⟨x 1, x 2, by blk_ext []⟩
    have hd : d.val = _ := hx0
    dsimp only [ix3] at hd
    have h1 : k = b := Fin.ext hx1
    have h2 : n = e := Fin.ext hx2
    subst h1 h2
    clear x0_lt x1_lt x2_lt hx0 hx1 hx2
    simp only [pay_at]
    refine (readCov_cols _ _ _ _ _ _ _ (by omega)).trans ?_
    congr 2
    apply Fin.ext
    dsimp only
    omega

/-- The scratch at a flushing point: the sum over the batch. -/
theorem acc (c : Dev nD) (t : Fin cfg0.N) (h : t.val % 4 = 3) (k : Fin 256) (n : Fin 1024) :
    (outsAt0 m c t.val t.isLt).2 (ix2 k n) = dw (A m c) (G m c) k n := by
  exact dw_of_steps (A m c) (G m c) (fun n h j => (outsAt0 m c n h).2 (ix2 j.1 j.2)) bt (fun _ k => k) (fun _ n => n) (fun _ => rfl)
    (fun _ _ _ => rfl) (fun _ _ _ => rfl)
    (fun t h j => stepA m c t h j.1 j.2) (fun t h j => stepB m c t h j.1 j.2) t h k n

/-- The array: shard `i 0`'s columns. -/
def out (c : Dev nD) (i : S8x256x128.Idx) : EReal :=
  dw (A m c) (G m c) (i 1) ⟨(i 0).val * 128 + (i 2).val, by have h0 : (i 0).val < 8 := (i 0).isLt; have h2 : (i 2).val < 128 := (i 2).isLt; omega⟩

theorem close (c : Dev nD) (t : Fin cfg0.N) (h : t.val % 4 = 3) (y : S8x256x128.Idx) (i : S8x256x128.Idx)
    (h0 : (i 0 : ℕ) = y 0) (h1 : (i 1 : ℕ) = y 1) (h2 : (i 2 : ℕ) = y 2) : (outsAt0 m c t.val t.isLt).1 y = out m c i := by
  obtain ⟨d, k, n, rfl⟩ : ∃ (d : Fin 8) (k : Fin 256) (n : Fin 128), y = ix3 d k n := ⟨y 0, y 1, y 2, by blk_ext []⟩
  refine (cut m c t h d k n).trans ((acc m c t h _ _).trans ?_)
  have h0' : (i 0 : ℕ) = d.val := h0
  have h2' : (i 2 : ℕ) = n.val := h2
  unfold out
  congr 1
  · exact Fin.ext h1.symm
  · apply Fin.ext
    dsimp only
    omega

theorem out2 (c : Dev nD) : (dats m 0 c).arrAt 2 cfg0.N = out m c := by
  refine (dats m 0 c).arrAt_eq_of_covers 2 _ (by decide +kernel) fun t hf y => ?_
  have h3 : t.val % 4 = 3 := (flush0_2 t).mp hf
  blk_simp
  rw [after0_2]
  refine close m c t h3 y _ ?_ ?_ ?_
  all_goals blk_simp [idx_out t]

theorem run_values (ρ : Dev nD → PrngReg) : θ_run defs (onTc (τ := τ) (main (F := Ideal))) ⟨m, fun _ => 0, ρ⟩ fun r => ∀ c : Dev nD,
    r.2.mem ((c : Thread nD τ).loc main_v2) = out m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(Value.post2 m r h c).trans (out2 m c), Value.kept_main_arg0 m r h c, Value.kept_main_arg1 m r h c⟩)
    (run_main m ρ)

end Cert.Kernel7Ideal.Dw
end
-- ==== Proof.DwRef.lean ====
module

public import proofs.«01_k».proof.Proof.Gen.Reference3Ideal.Read
public import proofs.«01_k».proof.Proof.Gen.Reference3Ideal.Run
public import proofs.«01_k».proof.Proof.Gen.Reference4Ideal.Read
public import proofs.«01_k».proof.Proof.Gen.Reference4Ideal.Run
public import proofs.«01_k».proof.Proof.Gen.Reference5Ideal.Read
public import proofs.«01_k».proof.Proof.Gen.Reference5Ideal.Run
public import proofs.«01_k».proof.Proof.Gen.Reference6Ideal.Read
public import proofs.«01_k».proof.Proof.Gen.Reference6Ideal.Run
public import proofs.«01_k».proof.Proof.Gen.Reference7Ideal.Read
public import proofs.«01_k».proof.Proof.Gen.Reference7Ideal.Run
public import proofs.«01_k».proof.Proof.Grads

/-! # What the weights' references compute

Each is the gradient, its columns cut into eight shards where the kernel cuts them. -/

@[expose] public section

set_option maxRecDepth 16384

noncomputable section

namespace Cert.Reference3Ideal.Dw

open Cert.Reference3Ideal Cert.Reference3Ideal.Gen Cert.Reference3Ideal.Read Cert.Grads Idealize.ShloMosaic Idealize.ShloMosaic.TcCoe Idealize.SL.Sem

theorem grad (x0 : Vec Ideal S4x2304x1024 .bf16) (x1 : Vec Ideal S4x2304x4096 .bf16) (d : Fin 8) (k : Fin 1024) (n : Fin 512) :
    val_main_v8 (F := Ideal) x0 x1 (ix3 d k n) = dw (fun b r k => x0 (ix3 b r k)) (fun b r n => x1 (ix3 b r n)) k ⟨d.val * 512 + n.val, by omega⟩ := by
  pointwise [val_main_v8, val_main_v7, val_main_v6, val_main_v5, val_main_v4, val_main_v3, val_main_v1]
  exact dw_eq (fun b r k => x0 (ix3 b r k)) (fun b r n => x1 (ix3 b r n)) _ _

theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v8) = (fun i : S8x1024x512.Idx => dw (fun b r k => m ((c : Thread nD τ).loc main_arg0) (ix3 b r k)) (fun b r n => m ((c : Thread nD τ).loc main_arg1) (ix3 b r n)) (i 1) ⟨(i 0).val * 512 + (i 2).val, by have h0 : (i 0).val < 8 := (i 0).isLt; have h2 : (i 2).val < 512 := (i 2).isLt; omega⟩)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1.trans (val_main_v8_eq _ _)).trans (funext fun i => by
      obtain ⟨d, k, n, rfl⟩ : ∃ (d : Fin 8) (k : Fin 1024) (n : Fin 512), i = ix3 d k n := ⟨i 0, i 1, i 2, by blk_ext []⟩
      exact grad _ _ d k n), (h c).2⟩) (Value.run m ρ)

end Cert.Reference3Ideal.Dw

namespace Cert.Reference4Ideal.Dw

open Cert.Reference4Ideal Cert.Reference4Ideal.Gen Cert.Reference4Ideal.Read Cert.Grads Idealize.ShloMosaic Idealize.ShloMosaic.TcCoe Idealize.SL.Sem

theorem grad (x0 : Vec Ideal S4x2304x4096 .bf16) (x1 : Vec Ideal S4x2304x1024 .bf16) (k : Fin 4096) (n : Fin 1024) :
    val_main_v6 (F := Ideal) x0 x1 (ix2 k n) = dw (fun b r k => x0 (ix3 b r k)) (fun b r n => x1 (ix3 b r n)) k n := by
  pointwise [val_main_v6, val_main_v5, val_main_v4, val_main_v3, val_main_v1]
  exact dw_eq (fun b r k => x0 (ix3 b r k)) (fun b r n => x1 (ix3 b r n)) _ _

theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v6) = (fun i : S4096x1024.Idx => dw (fun b r k => m ((c : Thread nD τ).loc main_arg0) (ix3 b r k)) (fun b r n => m ((c : Thread nD τ).loc main_arg1) (ix3 b r n)) (i 0) (i 1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1.trans (val_main_v6_eq _ _)).trans (funext fun i => by
      obtain ⟨k, n, rfl⟩ : ∃ (k : Fin 4096) (n : Fin 1024), i = ix2 k n := ⟨i 0, i 1, by blk_ext []⟩
      exact grad _ _ k n), (h c).2⟩) (Value.run m ρ)

end Cert.Reference4Ideal.Dw

namespace Cert.Reference5Ideal.Dw

open Cert.Reference5Ideal Cert.Reference5Ideal.Gen Cert.Reference5Ideal.Read Cert.Grads Idealize.ShloMosaic Idealize.ShloMosaic.TcCoe Idealize.SL.Sem

theorem grad (x0 : Vec Ideal S4x2304x1024 .bf16) (x1 : Vec Ideal S4x2304x1024 .bf16) (k : Fin 1024) (n : Fin 1024) :
    val_main_v6 (F := Ideal) x0 x1 (ix2 k n) = dw (fun b r k => x0 (ix3 b r k)) (fun b r n => x1 (ix3 b r n)) k n := by
  pointwise [val_main_v6, val_main_v5, val_main_v4, val_main_v3, val_main_v1]
  exact dw_eq (fun b r k => x0 (ix3 b r k)) (fun b r n => x1 (ix3 b r n)) _ _

theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v6) = (fun i : S1024x1024.Idx => dw (fun b r k => m ((c : Thread nD τ).loc main_arg0) (ix3 b r k)) (fun b r n => m ((c : Thread nD τ).loc main_arg1) (ix3 b r n)) (i 0) (i 1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1.trans (val_main_v6_eq _ _)).trans (funext fun i => by
      obtain ⟨k, n, rfl⟩ : ∃ (k : Fin 1024) (n : Fin 1024), i = ix2 k n := ⟨i 0, i 1, by blk_ext []⟩
      exact grad _ _ k n), (h c).2⟩) (Value.run m ρ)

end Cert.Reference5Ideal.Dw

namespace Cert.Reference6Ideal.Dw

open Cert.Reference6Ideal Cert.Reference6Ideal.Gen Cert.Reference6Ideal.Read Cert.Grads Idealize.ShloMosaic Idealize.ShloMosaic.TcCoe Idealize.SL.Sem

theorem grad (x0 : Vec Ideal S4x2304x384 .bf16) (x1 : Vec Ideal S4x2304x1024 .bf16) (d : Fin 8) (k : Fin 384) (n : Fin 128) :
    val_main_v8 (F := Ideal) x0 x1 (ix3 d k n) = dw (fun b r k => x0 (ix3 b r k)) (fun b r n => x1 (ix3 b r n)) k ⟨d.val * 128 + n.val, by omega⟩ := by
  pointwise [val_main_v8, val_main_v7, val_main_v6, val_main_v5, val_main_v4, val_main_v3, val_main_v1]
  exact dw_eq (fun b r k => x0 (ix3 b r k)) (fun b r n => x1 (ix3 b r n)) _ _

theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v8) = (fun i : S8x384x128.Idx => dw (fun b r k => m ((c : Thread nD τ).loc main_arg0) (ix3 b r k)) (fun b r n => m ((c : Thread nD τ).loc main_arg1) (ix3 b r n)) (i 1) ⟨(i 0).val * 128 + (i 2).val, by have h0 : (i 0).val < 8 := (i 0).isLt; have h2 : (i 2).val < 128 := (i 2).isLt; omega⟩)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1.trans (val_main_v8_eq _ _)).trans (funext fun i => by
      obtain ⟨d, k, n, rfl⟩ : ∃ (d : Fin 8) (k : Fin 384) (n : Fin 128), i = ix3 d k n := ⟨i 0, i 1, i 2, by blk_ext []⟩
      exact grad _ _ d k n), (h c).2⟩) (Value.run m ρ)

end Cert.Reference6Ideal.Dw

namespace Cert.Reference7Ideal.Dw

open Cert.Reference7Ideal Cert.Reference7Ideal.Gen Cert.Reference7Ideal.Read Cert.Grads Idealize.ShloMosaic Idealize.ShloMosaic.TcCoe Idealize.SL.Sem

theorem grad (x0 : Vec Ideal S4x2304x256 .bf16) (x1 : Vec Ideal S4x2304x1024 .bf16) (d : Fin 8) (k : Fin 256) (n : Fin 128) :
    val_main_v8 (F := Ideal) x0 x1 (ix3 d k n) = dw (fun b r k => x0 (ix3 b r k)) (fun b r n => x1 (ix3 b r n)) k ⟨d.val * 128 + n.val, by omega⟩ := by
  pointwise [val_main_v8, val_main_v7, val_main_v6, val_main_v5, val_main_v4, val_main_v3, val_main_v1]
  exact dw_eq (fun b r k => x0 (ix3 b r k)) (fun b r n => x1 (ix3 b r n)) _ _

theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v8) = (fun i : S8x256x128.Idx => dw (fun b r k => m ((c : Thread nD τ).loc main_arg0) (ix3 b r k)) (fun b r n => m ((c : Thread nD τ).loc main_arg1) (ix3 b r n)) (i 1) ⟨(i 0).val * 128 + (i 2).val, by have h0 : (i 0).val < 8 := (i 0).isLt; have h2 : (i 2).val < 128 := (i 2).isLt; omega⟩)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1.trans (val_main_v8_eq _ _)).trans (funext fun i => by
      obtain ⟨d, k, n, rfl⟩ : ∃ (d : Fin 8) (k : Fin 256) (n : Fin 128), i = ix3 d k n := ⟨i 0, i 1, i 2, by blk_ext []⟩
      exact grad _ _ d k n), (h c).2⟩) (Value.run m ρ)

end Cert.Reference7Ideal.Dw

end
-- ==== Proof.DwEquation.lean ====
module

public import proofs.«01_k».proof.Defs
public import proofs.«01_k».proof.Proof.Dw3
public import proofs.«01_k».proof.Proof.Dw4
public import proofs.«01_k».proof.Proof.Dw5
public import proofs.«01_k».proof.Proof.Dw6
public import proofs.«01_k».proof.Proof.Dw7
public import proofs.«01_k».proof.Proof.DwRef

/-! # The weights' equations

Each pair of programs leaves one gradient. -/

@[expose] public section

set_option maxRecDepth 16384

noncomputable section

namespace Cert.Proof

open Idealize.ShloMosaic Idealize.ShloMosaic.TcCoe Idealize.SL.Sem

theorem grad3 : @Cert.algebraic_Kernel3Ideal_Reference3Ideal Cert.Kernel3Ideal.Gen.facts Cert.Reference3Ideal.Gen.facts := by
  intro m g m' g' _ hargs
  refine ⟨fun c => Cert.Kernel3Ideal.Dw.out m c, Cert.Kernel3Ideal.Dw.run_values m g, (θ_run _ _ _).mono (fun r h c => ?_) (Cert.Reference3Ideal.Dw.run_values m' g')⟩
  have := h c
  rw [(hargs c).1, (hargs c).2] at this
  rw [(hargs c).1, (hargs c).2]
  exact this

theorem grad4 : @Cert.algebraic_Kernel4Ideal_Reference4Ideal Cert.Kernel4Ideal.Gen.facts Cert.Reference4Ideal.Gen.facts := by
  intro m g m' g' _ hargs
  refine ⟨fun c => Cert.Kernel4Ideal.Dw.out m c, Cert.Kernel4Ideal.Dw.run_values m g, (θ_run _ _ _).mono (fun r h c => ?_) (Cert.Reference4Ideal.Dw.run_values m' g')⟩
  have := h c
  rw [(hargs c).1, (hargs c).2] at this
  rw [(hargs c).1, (hargs c).2]
  exact this

theorem grad5 : @Cert.algebraic_Kernel5Ideal_Reference5Ideal Cert.Kernel5Ideal.Gen.facts Cert.Reference5Ideal.Gen.facts := by
  intro m g m' g' _ hargs
  refine ⟨fun c => Cert.Kernel5Ideal.Dw.out m c, Cert.Kernel5Ideal.Dw.run_values m g, (θ_run _ _ _).mono (fun r h c => ?_) (Cert.Reference5Ideal.Dw.run_values m' g')⟩
  have := h c
  rw [(hargs c).1, (hargs c).2] at this
  rw [(hargs c).1, (hargs c).2]
  exact this

theorem grad6 : @Cert.algebraic_Kernel6Ideal_Reference6Ideal Cert.Kernel6Ideal.Gen.facts Cert.Reference6Ideal.Gen.facts := by
  intro m g m' g' _ hargs
  refine ⟨fun c => Cert.Kernel6Ideal.Dw.out m c, Cert.Kernel6Ideal.Dw.run_values m g, (θ_run _ _ _).mono (fun r h c => ?_) (Cert.Reference6Ideal.Dw.run_values m' g')⟩
  have := h c
  rw [(hargs c).1, (hargs c).2] at this
  rw [(hargs c).1, (hargs c).2]
  exact this

theorem grad7 : @Cert.algebraic_Kernel7Ideal_Reference7Ideal Cert.Kernel7Ideal.Gen.facts Cert.Reference7Ideal.Gen.facts := by
  intro m g m' g' _ hargs
  refine ⟨fun c => Cert.Kernel7Ideal.Dw.out m c, Cert.Kernel7Ideal.Dw.run_values m g, (θ_run _ _ _).mono (fun r h c => ?_) (Cert.Reference7Ideal.Dw.run_values m' g')⟩
  have := h c
  rw [(hargs c).1, (hargs c).2] at this
  rw [(hargs c).1, (hargs c).2]
  exact this

end Cert.Proof

end
-- ==== Proof.Mlp.lean ====
module

public import Idealize.ShloMosaic.Lib.Pipeline.ValueKit

/-! # What the backward pass of the mixing layer computes

Every quantity of the latent tokens' mixing layer and of its backward pass as a function of the arguments, one array element at a
time: the normalised and modulated input, the hidden layer, its squared ramp, the output, and from the cotangent of the output back
to the input. Both programs are shown to leave these values. -/

@[expose] public section

noncomputable section

namespace Cert.Mlp

open Idealize.ShloMosaic

/-- The six arguments: the layer's input, the cotangent of its result, the norms' gains, the modulation's rows, the two weights. -/
structure Args where
  x : FVec Ideal ⟨3, ![4, 2304, 1024]⟩ .f32
  dx : FVec Ideal ⟨3, ![4, 2304, 1024]⟩ .f32
  gn : FVec Ideal ⟨2, ![2, 1024]⟩ .f32
  md : FVec Ideal ⟨2, ![8, 6144]⟩ .f32
  w1 : FVec Ideal ⟨3, ![8, 1024, 512]⟩ .bf16
  w2 : FVec Ideal ⟨2, ![4096, 1024]⟩ .bf16

/-- The number of channels, the norm's offset and two, as the programs write them. -/
abbrev chans : EReal := Ideal.ofBits FTy.f32 1149239296#32
abbrev eps : EReal := Ideal.ofBits FTy.f32 897988541#32
abbrev two : EReal := Ideal.ofBits FTy.f32 1073741824#32

variable (a : Args) (b : Fin 4) (t : Fin 2304)

/-- The root mean square's square, with the norm's offset. -/
def ms : EReal := Ideal.div (∑ d : Fin 1024, a.x (ix3 b t d) * a.x (ix3 b t d)) chans + eps
/-- The norm's factor. -/
def rs : EReal := Ideal.rsqrt (ms a b t)
/-- The normalised input. -/
def xh (d : Fin 1024) : EReal := a.x (ix3 b t d) * rs a b t
/-- The gain, the shift, the scale and the gate. -/
def gain (d : Fin 1024) : EReal := a.gn (ix2 1 d)
def shift (d : Fin 1024) : EReal := a.md (ix2 ⟨b.val, by omega⟩ ⟨3072 + d.val, by omega⟩)
def scale (d : Fin 1024) : EReal := 1 + a.md (ix2 ⟨b.val, by omega⟩ ⟨4096 + d.val, by omega⟩)
def gate (d : Fin 1024) : EReal := a.md (ix2 ⟨b.val, by omega⟩ ⟨5120 + d.val, by omega⟩)
/-- The layer's modulated input. -/
def hid (d : Fin 1024) : EReal := xh a b t d * gain a d * scale a b d + shift a b d
/-- The first weight, whose columns lie in eight pieces. -/
def wa (d : Fin 1024) (n : Fin 4096) : EReal := a.w1 (ix3 ⟨n.val / 512, by omega⟩ d ⟨n.val % 512, by omega⟩)
/-- The hidden layer before and after the ramp. -/
def up (n : Fin 4096) : EReal := ∑ d : Fin 1024, hid a b t d * wa a d n
def act (n : Fin 4096) : EReal := max (up a b t n) 0
/-- The layer's output. -/
def mo (d : Fin 1024) : EReal := ∑ n : Fin 4096, act a b t n * act a b t n * a.w2 (ix2 n d)
/-- The cotangents: of the output, of the squared ramp, of the hidden layer, of the modulated input. -/
def dout (d : Fin 1024) : EReal := a.dx (ix3 b t d) * gate a b d
def dr (n : Fin 4096) : EReal := ∑ d : Fin 1024, dout a b t d * a.w2 (ix2 n d)
def da (n : Fin 4096) : EReal := dr a b t n * (two * act a b t n)
def dh (d : Fin 1024) : EReal := ∑ n : Fin 4096, da a b t n * wa a d n
/-- The cotangent of the normalised input. -/
def dxh (d : Fin 1024) : EReal := dh a b t d * scale a b d * gain a d
/-- The cotangent of the input: what passes the layer by, and what comes back through it. -/
def dxn (d : Fin 1024) : EReal :=
  a.dx (ix3 b t d) + rs a b t * (dxh a b t d - xh a b t d * Ideal.div (∑ k : Fin 1024, dxh a b t k * xh a b t k) chans)

/-- A latent token's value, and nothing at a context token. -/
def lat {K : ℕ} (f : Fin 4 → Fin 2304 → Fin K → EReal) (b : Fin 4) (t : Fin 2304) (k : Fin K) : EReal :=
  if t.val < 256 then 0 else f b t k
/-- The cotangent of the input: a context token's passes by. -/
def dxa (a : Args) (b : Fin 4) (t : Fin 2304) (k : Fin 1024) : EReal :=
  if t.val < 256 then a.dx (ix3 b t k) else dxn a b t k

/-- A token's share in the cotangents of its batch element's shift, scale and gate, side by side. -/
def mterm (e : Fin 3072) : EReal :=
  if h : e.val < 1024 then dh a b t ⟨e.val, h⟩
  else if h : e.val - 1024 < 1024 then dh a b t ⟨e.val - 1024, h⟩ * (xh a b t ⟨e.val - 1024, h⟩ * gain a ⟨e.val - 1024, h⟩)
  else a.dx (ix3 b t ⟨e.val - 1024 - 1024, by omega⟩) * mo a b t ⟨e.val - 1024 - 1024, by omega⟩
/-- A token's share in the gain's cotangent. -/
def gterm (k : Fin 1024) : EReal := dh a b t k * scale a b k * xh a b t k

/-- The modulation rows' cotangent: the latent tokens of batch element `i` sum into row `i`. -/
def dmod (a : Args) (i : Fin 8) (e : Fin 3072) : EReal :=
  if h : i.val < 4 then ∑ s : Fin 2048, mterm a ⟨i.val, h⟩ ⟨256 + s.val, by omega⟩ e else 0
/-- The gain's cotangent, in the first of eight rows. -/
def dgn (a : Args) (i : Fin 8) (k : Fin 1024) : EReal :=
  if i.val = 0 then ∑ b : Fin 4, ∑ s : Fin 2048, gterm a b ⟨256 + s.val, by omega⟩ k else 0

/-- The root of a square that is not negative. -/
theorem sqrt_sq {x : EReal} (h : 0 ≤ x) : Ideal.sqrt (x * x) = x := by
  induction x using EReal.rec with
  | bot => exact absurd h (by simp)
  | top => rw [EReal.top_mul_top]; rfl
  | coe r =>
    have hr : 0 ≤ r := by exact_mod_cast h
    rw [← EReal.coe_mul]
    show (if r * r < 0 then ⊥ else ((√(r * r) : ℝ) : EReal)) = r
    rw [if_neg (not_lt.mpr (mul_self_nonneg r)), Real.sqrt_mul_self hr]

theorem act_nonneg (n : Fin 4096) : 0 ≤ act a b t n := le_max_right _ _

/-- The ramp's derivative: where the ramp is zero its product is zero already. -/
theorem ramp (u y : EReal) : (if 0 < u then y * (two * max u 0) else 0) = y * (two * max u 0) := by
  split
  · rfl
  · rw [max_eq_right (not_lt.mp ‹_›)]; simp

/-- The columns of the first weight, piece by piece. -/
theorem sum_pieces (f : Fin 4096 → EReal) :
    ∑ s : Fin 8, ∑ k : Fin 512, f ⟨512 * s.val + k.val, by omega⟩ = ∑ n : Fin 4096, f n := by
  refine Eq.trans ?_ (Fin.sum_mul_add_fin 8 512 f)
  refine Finset.sum_congr rfl fun s _ => Finset.sum_congr rfl fun k _ => congrArg f (Fin.ext ?_)
  dsimp only; omega

/-- An element of eight joined pieces, read piece by piece. -/
theorem ladder (f : Fin 8 → Fin 512 → EReal) (n : Fin 4096) :
    (if h : n.val < 512 then f 0 ⟨n.val, h⟩ else
    (if h : n.val - 512 < 512 then f 1 ⟨n.val - 512, h⟩ else
    (if h : n.val - 512 - 512 < 512 then f 2 ⟨n.val - 512 - 512, h⟩ else
    (if h : n.val - 512 - 512 - 512 < 512 then f 3 ⟨n.val - 512 - 512 - 512, h⟩ else
    (if h : n.val - 512 - 512 - 512 - 512 < 512 then f 4 ⟨n.val - 512 - 512 - 512 - 512, h⟩ else
    (if h : n.val - 512 - 512 - 512 - 512 - 512 < 512 then f 5 ⟨n.val - 512 - 512 - 512 - 512 - 512, h⟩ else
    (if h : n.val - 512 - 512 - 512 - 512 - 512 - 512 < 512 then f 6 ⟨n.val - 512 - 512 - 512 - 512 - 512 - 512, h⟩ else
    f 7 ⟨n.val - 512 - 512 - 512 - 512 - 512 - 512 - 512, by omega⟩))))))) = f ⟨n.val / 512, by omega⟩ ⟨n.val % 512, by omega⟩ := by
  have key : ∀ (s : Fin 8) (k : Fin 512), n.val = 512 * s.val + k.val → f s k = f ⟨n.val / 512, by omega⟩ ⟨n.val % 512, by omega⟩ := fun s k h => by
    congr 1 <;> apply Fin.ext <;> dsimp only <;> omega
  split_ifs <;> refine key _ _ ?_ <;> simp only [] <;> first | omega | (show n.val = 512 * 0 + _; omega) | (show n.val = 512 * 1 + _; omega) | (show n.val = 512 * 2 + _; omega) | (show n.val = 512 * 3 + _; omega) | (show n.val = 512 * 4 + _; omega) | (show n.val = 512 * 5 + _; omega) | (show n.val = 512 * 6 + _; omega) | (show n.val = 512 * 7 + _; omega)

end Cert.Mlp

end
-- ==== Proof.MlpHost.lean ====
module

public import proofs.«01_k».proof.Proof.Gen.Kernel2Ideal.Value
public import proofs.«01_k».proof.Proof.Mlp
public import Idealize.ShloMosaic.Lib.Pipeline.ValueKit
public import Idealize.ShloMosaic.Lib.StableHlo.RunRead

/-! # What the host saves for the mixing layer's launch -/

@[expose] public section

set_option maxRecDepth 16384

noncomputable section

namespace Cert.Kernel2Ideal.Blocks

open Cert.Kernel2Ideal Cert.Kernel2Ideal.Gen Cert.Mlp Idealize.ShloMosaic Idealize.ShloMosaic.TcCoe Idealize.SL.Sem

variable (m : (ℓ : Loc nD τ sig) → Buf (Elt Ideal) ℓ)

/-! ## The arrays the host saves for the launch -/

theorem after_app (l₁ l₂ : List (HloOp τ sig (Elt Ideal))) (σ : Valuation τ sig (Elt Ideal)) :
    StableHlo.after (l₁ ++ l₂) σ = StableHlo.after l₂ (StableHlo.after l₁ σ) := by
  induction l₁ generalizing σ with
  | nil => rfl
  | cons a l ih => exact ih _

/-- The host's lines run in three parts: up to the ramp, the ramp, and what follows it. -/
theorem parts (σ : Valuation τ sig (Elt Ideal)) :
    StableHlo.after (List.flatten [hostOps0, hostOps0_1, hostOps0_2]) σ
      = StableHlo.after hostOps0_2 (StableHlo.after hostOps0_1 (StableHlo.after hostOps0 σ)) := by
  rw [List.flatten_cons, List.flatten_cons, List.flatten_cons, List.flatten_nil, after_app, after_app, List.append_nil]

/-- The arguments a device's memory holds. -/
abbrev ar (c : Dev nD) : Args :=
  ⟨m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5)⟩

set_option maxHeartbeats 4000000 in
theorem up_at (c : Dev nD) (b : Fin 4) (s : Fin 2048) (n : Fin 4096) :
    StableHlo.after hostOps0 (fun b => m (c, b)) main_v45 (ix3 b s n) = up (ar m c) b ⟨256 + s.val, by omega⟩ n := by
  after_reads_simp
  pointwise []
  refine Fin.sum_fin_congr fun x => congrArg₂ (fun u v : EReal => u * v) ?_ ?_
  · have e1 : ∀ (h), (⟨3072 + (1024 + x.val), h⟩ : Fin 6144) = ⟨4096 + x.val, by omega⟩ := fun h => Fin.ext (by dsimp only; omega)
    rw [e1]
    rfl
  · after_reads_simp
    pointwise []
    exact ladder (fun s k => (ar m c).w1 (ix3 s x k)) n

/-- The ramp's array in a memory, and the second weight. -/
def av (σ : Valuation τ sig (Elt Ideal)) (b : Fin 4) (s : Fin 2048) (n : Fin 4096) : EReal := σ main_v46 (ix3 b s n)
def wv (σ : Valuation τ sig (Elt Ideal)) (n : Fin 4096) (d : Fin 1024) : EReal := σ main_arg5 (ix2 n d)

theorem act_at (σ : Valuation τ sig (Elt Ideal)) (b : Fin 4) (s : Fin 2048) (n : Fin 4096) :
    StableHlo.after hostOps0_1 σ main_v46 (ix3 b s n) = (max (σ main_v45 (ix3 b s n) : EReal) (0 : EReal) : EReal) := by
  entry_read
  refine (show _ = ((maximumf (σ main_v45 : FVec Ideal S4x2048x4096 .f32) (broadcastInDim S4x2048x4096 ![] bcast_S_S4x2048x4096 (constant S_ FTy.f32 0#32)) : FVec Ideal S4x2048x4096 .f32) (ix3 b s n)) from rfl).trans ?_
  pointwise []

theorem keep5 (σ : Valuation τ sig (Elt Ideal)) : StableHlo.after hostOps0_1 (StableHlo.after hostOps0 σ) main_arg5 = σ main_arg5 := by
  after_reads_simp
theorem keep2 (σ : Valuation τ sig (Elt Ideal)) : StableHlo.after hostOps0_1 (StableHlo.after hostOps0 σ) main_arg2 = σ main_arg2 := by
  after_reads_simp

theorem r_host (σ : Valuation τ sig (Elt Ideal)) (b : Fin 4) (s : Fin 2304) (n : Fin 4096) (hs : ¬s.val < 256) :
    StableHlo.after hostOps0_2 σ main_v55 (ix3 b s n)
      = av σ b ⟨s.val - 256, by omega⟩ n * av σ b ⟨s.val - 256, by omega⟩ n := by
  entry_read
  pointwise []
  rw [dif_neg hs]
  rfl
theorem mo_host (σ : Valuation τ sig (Elt Ideal)) (b : Fin 4) (s : Fin 2304) (n : Fin 1024) (hs : ¬s.val < 256) :
    StableHlo.after hostOps0_2 σ main_v52 (ix3 b s n)
      = ∑ x : Fin 4096, av σ b ⟨s.val - 256, by omega⟩ x * av σ b ⟨s.val - 256, by omega⟩ x * wv σ x n := by
  entry_read
  pointwise []
  rw [dif_neg hs]
  rfl
theorem gn_host (σ : Valuation τ sig (Elt Ideal)) (i : Fin 2) (n : Fin 1024) :
    StableHlo.after hostOps0_2 σ main_v56 (ix3 i 0 n) = (σ main_arg2 (ix2 i n) : EReal) := by
  entry_read
  pointwise []

theorem act_full (c : Dev nD) (b : Fin 4) (s : Fin 2304) (n : Fin 4096) (hs : ¬s.val < 256) :
    av (StableHlo.after hostOps0_1 (StableHlo.after hostOps0 (fun b => m (c, b)))) b ⟨s.val - 256, by omega⟩ n = act (ar m c) b s n := by
  unfold av
  rw [act_at, up_at]
  exact congrArg (act (ar m c) b · n) (Fin.ext (by dsimp only; omega) : (⟨256 + (s.val - 256), by omega⟩ : Fin 2304) = s)

/-- The squared ramp of the hidden layer, at a latent token. -/
theorem r_at (c : Dev nD) (b : Fin 4) (s : Fin 2304) (n : Fin 4096) (hs : ¬s.val < 256) :
    V m c main_v55 (ix3 b s n) = act (ar m c) b s n * act (ar m c) b s n := by
  unfold V
  rw [parts, r_host _ _ _ _ hs, act_full m c b s n hs]
/-- The layer's output, at a latent token. -/
theorem mo_at (c : Dev nD) (b : Fin 4) (s : Fin 2304) (n : Fin 1024) (hs : ¬s.val < 256) :
    V m c main_v52 (ix3 b s n) = mo (ar m c) b s n := by
  unfold V
  rw [parts, mo_host _ _ _ _ hs]
  refine Fin.sum_fin_congr fun x => ?_
  unfold wv
  rw [act_full m c b s x hs, keep5]
theorem gn_at (c : Dev nD) (i : Fin 2) (n : Fin 1024) : V m c main_v56 (ix3 i 0 n) = m ((c : Thread nD τ).loc main_arg2) (ix2 i n) := by
  unfold V
  rw [parts, gn_host, keep2]

end Cert.Kernel2Ideal.Blocks

end
-- ==== Proof.MlpBlocks.lean ====
module

public import proofs.«01_k».proof.Proof.MlpHost
public import Idealize.ShloMosaic.Lib.Pipeline.ValueKit

/-! # The blocks a grid point of the mixing layer's launch reads

Point `t` of the grid works on batch element `t / 9` and on the 256 tokens from `256 (t % 9)` on; the first 256 tokens are
the context's, which the layer passes by. -/

@[expose] public section

set_option maxRecDepth 16384

noncomputable section

namespace Cert.Kernel2Ideal.Blocks

open Cert.Kernel2Ideal Cert.Kernel2Ideal.Gen Cert.Mlp Idealize.ShloMosaic Idealize.ShloMosaic.TcCoe Idealize.SL.Sem

variable (m : (ℓ : Loc nD τ sig) → Buf (Elt Ideal) ℓ)

/-- The batch element of a grid point. -/
def bt (t : Fin cfg0.N) : Fin 4 := ⟨t.val / 9, by have := t.isLt; have h : cfg0.N = 36 := N_0; omega⟩
/-- The token of row `r` of a grid point's blocks. -/
def tk (t : Fin cfg0.N) (r : Fin 256) : Fin 2304 := ⟨t.val % 9 * 256 + r.val, by omega⟩

theorem tk_lat (t : Fin cfg0.N) (h : 1 ≤ t.val % 9) (r : Fin 256) : ¬(tk t r).val < 256 := by unfold tk; dsimp only; omega
theorem tk_ctx (t : Fin cfg0.N) (h : t.val % 9 = 0) (r : Fin 256) : (tk t r).val < 256 := by unfold tk; dsimp only; omega

theorem idx : ∀ t : Fin cfg0.N,
    win0_0.index t = ![t.val / 9, t.val % 9, 0] ∧ win0_1.index t = ![t.val / 9, t.val % 9, 0]
    ∧ win0_2.index t = ![t.val / 9, t.val % 9, 0] ∧ win0_3.index t = ![t.val / 9, t.val % 9, 0]
    ∧ win0_4.index t = ![1, 0, 0] ∧ win0_5.index t = ![0, 0] ∧ win0_6.index t = ![0, 0, 0] ∧ win0_7.index t = ![0, 0] :=
  (by decide +kernel : ∀ t : Fin grid0.N, _)

theorem idx_out : ∀ t : Fin cfg0.N,
    win0_8.index t = ![t.val / 9, t.val % 9, 0] ∧ win0_9.index t = ![t.val / 9, t.val % 9, 0]
    ∧ win0_10.index t = ![t.val / 9, t.val % 9, 0] ∧ win0_11.index t = ![t.val / 9, t.val % 9, 0]
    ∧ win0_12.index t = ![0, 0] ∧ win0_13.index t = ![0, 0] :=
  (by decide +kernel : ∀ t : Fin grid0.N, _)

/-- Where a latent point finds its rows of the modulation and of the modulation's cotangent. -/
theorem off1 : ∀ t : Fin cfg0.N, 1 ≤ t.val % 9 → k0_off1 (grid0.coords t) = ![t.val / 9, 4096] :=
  (by decide +kernel : ∀ t : Fin grid0.N, _)
theorem off2 : ∀ t : Fin cfg0.N, 1 ≤ t.val % 9 → k0_off2 (grid0.coords t) = ![t.val / 9, 3072] :=
  (by decide +kernel : ∀ t : Fin grid0.N, _)
theorem off3 : ∀ t : Fin cfg0.N, 1 ≤ t.val % 9 → k0_off3 (grid0.coords t) = ![t.val / 9, 5120] :=
  (by decide +kernel : ∀ t : Fin grid0.N, _)
theorem off4 : ∀ t : Fin cfg0.N, 1 ≤ t.val % 9 → k0_off4 (grid0.coords t) = ![t.val / 9, 0] :=
  (by decide +kernel : ∀ t : Fin grid0.N, _)

theorem blk0 (c : Dev nD) (t : Fin cfg0.N) (r : Fin 256) (k : Fin 1024) :
    (iblk m c 0 t : Vec Ideal S1x256x1024 .f32) (ix3 0 r k) = (ar m c).x (ix3 (bt t) (tk t r) k) := by
  blk_point [iblk, V_main_arg0, idx t, bt, tk]
theorem blk1 (c : Dev nD) (t : Fin cfg0.N) (r : Fin 256) (k : Fin 1024) :
    (iblk m c 1 t : Vec Ideal S1x256x1024 .f32) (ix3 0 r k) = (ar m c).dx (ix3 (bt t) (tk t r) k) := by
  blk_point [iblk, V_main_arg1, idx t, bt, tk]
theorem blk2' (c : Dev nD) (t : Fin cfg0.N) (r : Fin 256) (k : Fin 1024) :
    (iblk m c 2 t : Vec Ideal S1x256x1024 .bf16) (ix3 0 r k) = V m c main_v52 (ix3 (bt t) (tk t r) k) := by
  blk_point [iblk, idx t, bt, tk]
theorem blk3' (c : Dev nD) (t : Fin cfg0.N) (r : Fin 256) (k : Fin 4096) :
    (iblk m c 3 t : Vec Ideal S1x256x4096 .bf16) (ix3 0 r k) = V m c main_v55 (ix3 (bt t) (tk t r) k) := by
  blk_point [iblk, idx t, bt, tk]
theorem blk4' (c : Dev nD) (t : Fin cfg0.N) (k : Fin 1024) :
    (iblk m c 4 t : Vec Ideal S1x1x1024 .f32) (ix3 0 0 k) = V m c main_v56 (ix3 1 0 k) := by
  blk_point [iblk, idx t]

theorem blk2 (c : Dev nD) (t : Fin cfg0.N) (h : 1 ≤ t.val % 9) (r : Fin 256) (k : Fin 1024) :
    (iblk m c 2 t : Vec Ideal S1x256x1024 .bf16) (ix3 0 r k) = mo (ar m c) (bt t) (tk t r) k :=
  (blk2' m c t r k).trans (mo_at m c _ _ _ (tk_lat t h r))
theorem blk3 (c : Dev nD) (t : Fin cfg0.N) (h : 1 ≤ t.val % 9) (r : Fin 256) (k : Fin 4096) :
    (iblk m c 3 t : Vec Ideal S1x256x4096 .bf16) (ix3 0 r k) = act (ar m c) (bt t) (tk t r) k * act (ar m c) (bt t) (tk t r) k :=
  (blk3' m c t r k).trans (r_at m c _ _ _ (tk_lat t h r))
theorem blk4 (c : Dev nD) (t : Fin cfg0.N) (k : Fin 1024) :
    (iblk m c 4 t : Vec Ideal S1x1x1024 .f32) (ix3 0 0 k) = gain (ar m c) k :=
  (blk4' m c t k).trans (gn_at m c 1 k)

theorem blk7 (c : Dev nD) (t : Fin cfg0.N) (n : Fin 4096) (k : Fin 1024) :
    (iblk m c 7 t : Vec Ideal S4096x1024 .bf16) (ix2 n k) = (ar m c).w2 (ix2 n k) := by
  blk_point [iblk, V_main_arg5, idx t]

/-- A piece of the first weight. -/
theorem blk6 (c : Dev nD) (t : Fin cfg0.N) (e : Fin 8) (d : Fin 1024) (k : Fin 512) (off : Fin 3 → ℕ) (ho : off = ![e.val, 0, 0]) (h) :
    View.ld (iblk m c 6 t : Vec Ideal S8x1024x512 .bf16) (Rect.unit (s := S8x1024x512) off ![1, 1024, 512] h) (ix3 0 d k)
      = (ar m c).w1 (ix3 e d k) := by
  subst ho
  pointwise []
  blk_point [iblk, V_main_arg4, idx t]

/-- The modulation's rows a latent point reads. -/
theorem scale_at (c : Dev nD) (t : Fin cfg0.N) (h1 : 1 ≤ t.val % 9) (k : Fin 1024) (h) :
    View.ld (iblk m c 5 t : Vec Ideal S8x6144 .f32) (Rect.unit (s := S8x6144) (k0_off1 (grid0.coords t)) ![1, 1024] h) (ix2 0 k)
      = (ar m c).md (ix2 ⟨(bt t).val, by omega⟩ ⟨4096 + k.val, by omega⟩) := by
  pointwise []
  blk_point [iblk, V_main_arg3, idx t, bt, off1 t h1]
theorem shift_at (c : Dev nD) (t : Fin cfg0.N) (h1 : 1 ≤ t.val % 9) (k : Fin 1024) (h) :
    View.ld (iblk m c 5 t : Vec Ideal S8x6144 .f32) (Rect.unit (s := S8x6144) (k0_off2 (grid0.coords t)) ![1, 1024] h) (ix2 0 k)
      = (ar m c).md (ix2 ⟨(bt t).val, by omega⟩ ⟨3072 + k.val, by omega⟩) := by
  pointwise []
  blk_point [iblk, V_main_arg3, idx t, bt, off2 t h1]
theorem gate_at (c : Dev nD) (t : Fin cfg0.N) (h1 : 1 ≤ t.val % 9) (k : Fin 1024) (h) :
    View.ld (iblk m c 5 t : Vec Ideal S8x6144 .f32) (Rect.unit (s := S8x6144) (k0_off3 (grid0.coords t)) ![1, 1024] h) (ix2 0 k)
      = (ar m c).md (ix2 ⟨(bt t).val, by omega⟩ ⟨5120 + k.val, by omega⟩) := by
  pointwise []
  blk_point [iblk, V_main_arg3, idx t, bt, off3 t h1]

/-- A block index `y` of point `t` sits at the array index `i` when the coordinates say so. -/
theorem close {K : ℕ} {X : Shape.Idx ⟨3, ![1, 256, K]⟩ → EReal} {f : Fin 4 → Fin 2304 → Fin K → EReal} {t : Fin cfg0.N}
    {y : Shape.Idx ⟨3, ![1, 256, K]⟩} {i : Shape.Idx ⟨3, ![4, 2304, K]⟩}
    (hX : ∀ (r : Fin 256) (k : Fin K), X (ix3 0 r k) = f (bt t) (tk t r) k)
    (h0 : (i 0).val = t.val / 9) (h1 : (i 1).val = t.val % 9 * 256 + (y 1).val) (h2 : (i 2).val = (y 2).val) :
    X y = f (i 0) (i 1) (i 2) := by
  have hy : y = ix3 0 (y 1) (y 2) := by blk_ext []
  refine (congrArg X hy).trans ((hX (y 1) (y 2)).trans ?_)
  have e0 : bt t = i 0 := Fin.ext h0.symm
  have e1 : tk t (y 1) = i 1 := Fin.ext h1.symm
  have e2 : y 2 = i 2 := Fin.ext h2.symm
  rw [← e0, ← e1, ← e2]

end Cert.Kernel2Ideal.Blocks

end
-- ==== Proof.MlpBody.lean ====
module

public import proofs.«01_k».proof.Proof.MlpBlocks
public import Idealize.ShloMosaic.Lib.Pipeline.ValueKit

/-! # What a latent grid point of the mixing layer's launch computes -/

@[expose] public section

set_option maxRecDepth 16384

noncomputable section

namespace Cert.Kernel2Ideal.Blocks

open Cert.Kernel2Ideal Cert.Kernel2Ideal.Gen Cert.Mlp Idealize.ShloMosaic Idealize.ShloMosaic.TcCoe Idealize.SL.Sem

variable (m : (ℓ : Loc nD τ sig) → Buf (Elt Ideal) ℓ)

/-! ## The payloads, at one element -/

theorem pay3_at (v : FVec Ideal S256x1024 .f32) (r : Fin 256) (d : Fin 1024) : k0_pay3 v (ix3 0 r d) = v (ix2 r d) := by pointwise [k0_pay3]
theorem pay4_at (v : FVec Ideal S256x1024 .bf16) (r : Fin 256) (d : Fin 1024) : k0_pay4 v (ix3 0 r d) = v (ix2 r d) := by pointwise [k0_pay4]
theorem pay5_at (v : FVec Ideal S256x4096 .bf16) (r : Fin 256) (n : Fin 4096) : k0_pay5 v (ix3 0 r n) = v (ix2 r n) := by pointwise [k0_pay5]
theorem pay6_at (v : FVec Ideal S256x1024 .bf16) (r : Fin 256) (d : Fin 1024) : k0_pay6 v (ix3 0 r d) = v (ix2 r d) := by pointwise [k0_pay6]
theorem pay9_at (v : Vec Ideal S1x256x1024 .f32) (r : Fin 256) (d : Fin 1024) : k0_pay9 v (ix3 0 r d) = v (ix3 0 r d) := by pointwise [k0_pay9]
theorem pay10_at (r : Fin 256) (d : Fin 1024) : k0_pay10 (F := Ideal) (ix3 0 r d) = 0 := by pointwise [k0_pay10]
theorem pay11_at (r : Fin 256) (n : Fin 4096) : k0_pay11 (F := Ideal) (ix3 0 r n) = 0 := by pointwise [k0_pay11]
theorem pay12_at (r : Fin 256) (d : Fin 1024) : k0_pay12 (F := Ideal) (ix3 0 r d) = 0 := by pointwise [k0_pay12]
theorem pay13_at (v : Vec Ideal S1x1x1024 .f32) (d : Fin 1024) : k0_pay13 v (ix2 0 d) = v (ix3 0 0 d) := by pointwise [k0_pay13]
theorem pay15_at (v : Vec Ideal S1x256x1024 .f32) (r : Fin 256) :
    k0_pay15 v (ix2 r 0) = Ideal.rsqrt (Ideal.div (∑ x : Fin 1024, v (ix3 0 r x) * v (ix3 0 r x)) chans + eps) := by
  pointwise [k0_pay15, k0_pay14]
theorem pay16_at (v : Vec Ideal S1x256x1024 .f32) (r : Fin 256) (d : Fin 1024) :
    k0_pay16 v (ix2 r d) = v (ix3 0 r d) * k0_pay15 v (ix2 r 0) := by
  pointwise [k0_pay16, k0_pay14]
theorem pay17_at (v13 : Vec Ideal S1x1x1024 .f32) (v16 : Vec Ideal S1x1024 .f32) (v : Vec Ideal S1x256x1024 .f32) (v20 : Vec Ideal S1x1024 .f32)
    (r : Fin 256) (d : Fin 1024) :
    k0_pay17 v13 v16 v v20 (ix2 r d)
      = v (ix3 0 r d) * k0_pay15 v (ix2 r 0) * v13 (ix3 0 0 d) * (1 + v16 (ix2 0 d)) + v20 (ix2 0 d) := by
  pointwise [k0_pay17, k0_pay13, k0_pay16, k0_pay14]
theorem pay18_at (v40 : Vec Ideal S1x256x1024 .f32) (r : Fin 256) (d : Fin 1024) : k0_pay18 v40 (ix2 r d) = v40 (ix3 0 r d) := by
  pointwise [k0_pay18]
theorem pay19_at (v40 : Vec Ideal S1x256x1024 .f32) (v43 : Vec Ideal S1x1024 .f32) (r : Fin 256) (d : Fin 1024) :
    k0_pay19 v40 v43 (ix2 r d) = v40 (ix3 0 r d) * v43 (ix2 0 d) := by
  pointwise [k0_pay19, k0_pay18]
theorem pay20_at (v40 : Vec Ideal S1x256x1024 .f32) (v43 : Vec Ideal S1x1024 .f32) (v47 : Vec Ideal S4096x1024 .bf16) (r : Fin 256) (n : Fin 4096) :
    k0_pay20 v40 v43 v47 (ix2 r n) = ∑ x : Fin 1024, v40 (ix3 0 r x) * v43 (ix2 0 x) * v47 (ix2 n x) := by
  pointwise [k0_pay20, k0_pay19, k0_pay18]
theorem pay21_at (v48 : FVec Ideal S256x4096 .f32) (v49 : Vec Ideal S1x256x4096 .bf16) (r : Fin 256) (n : Fin 4096) :
    k0_pay21 v48 v49 (ix2 r n) = v48 (ix2 r n) * (two * Ideal.sqrt (v49 (ix3 0 r n))) := by
  pointwise [k0_pay21]

section
variable (v14 v16 : FVec Ideal S1x1024 .f32) (v28 : FVec Ideal S256x1 .f32) (v30 v41 : FVec Ideal S256x1024 .f32) (v48 : FVec Ideal S256x4096 .f32) (v49 : Vec Ideal S1x256x4096 .bf16)
  (v58 v62 v67 v72 v77 v82 v87 v92 : Vec Ideal S1x1024x512 .bf16)

theorem pay24_at (r : Fin 256) (d : Fin 1024) :
    k0_pay24 (k0_pay21 v48 v49) (k0_pay22 v48 v49 v58 v62 v67 v72 v77) (k0_pay23 v48 v49) v82 v87 v92 (ix2 r d)
      = (∑ x : Fin 512, k0_pay21 v48 v49 (ix2 r ⟨x.val, by omega⟩) * v58 (ix3 0 d x))
        + (∑ x : Fin 512, k0_pay21 v48 v49 (ix2 r ⟨512 + x.val, by omega⟩) * v62 (ix3 0 d x))
        + (∑ x : Fin 512, k0_pay21 v48 v49 (ix2 r ⟨1024 + x.val, by omega⟩) * v67 (ix3 0 d x))
        + (∑ x : Fin 512, k0_pay21 v48 v49 (ix2 r ⟨1536 + x.val, by omega⟩) * v72 (ix3 0 d x))
        + (∑ x : Fin 512, k0_pay21 v48 v49 (ix2 r ⟨2048 + x.val, by omega⟩) * v77 (ix3 0 d x))
        + (∑ x : Fin 512, k0_pay21 v48 v49 (ix2 r ⟨2560 + x.val, by omega⟩) * v82 (ix3 0 d x))
        + (∑ x : Fin 512, k0_pay21 v48 v49 (ix2 r ⟨3072 + x.val, by omega⟩) * v87 (ix3 0 d x))
        + (∑ x : Fin 512, k0_pay21 v48 v49 (ix2 r ⟨3584 + x.val, by omega⟩) * v92 (ix3 0 d x)) := by
  pointwise [k0_pay24, k0_pay22, k0_pay23]

variable (v56 : FVec Ideal S256x4096 .bf16) (v80 : FVec Ideal S256x1024 .f32) (v81 : FVec Ideal S256x512 .bf16)
theorem pay25_at (d : Fin 1024) :
    k0_pay25 v56 v80 v81 v82 v87 v92 (ix2 0 d) = ∑ x : Fin 256, k0_pay24 v56 v80 v81 v82 v87 v92 (ix2 x d) := by
  pointwise [k0_pay25]
theorem pay26_at (d : Fin 1024) :
    k0_pay26 v14 v30 v56 v80 v81 v82 v87 v92 (ix2 0 d)
      = ∑ x : Fin 256, k0_pay24 v56 v80 v81 v82 v87 v92 (ix2 x d) * v30 (ix2 x d) * v14 (ix2 0 d) := by
  pointwise [k0_pay26]
theorem pay28_at (d : Fin 1024) :
    k0_pay28 v16 v30 v56 v80 v81 v82 v87 v92 (ix2 0 d)
      = ∑ x : Fin 256, k0_pay24 v56 v80 v81 v82 v87 v92 (ix2 x d) * (1 + v16 (ix2 0 d)) * v30 (ix2 x d) := by
  pointwise [k0_pay28, k0_pay27]
theorem pay29_at (r : Fin 256) (d : Fin 1024) :
    k0_pay29 v14 v16 v28 v30 v41 v56 v80 v81 v82 v87 v92 (ix2 r d)
      = v41 (ix2 r d) + v28 (ix2 r 0) * (k0_pay24 v56 v80 v81 v82 v87 v92 (ix2 r d) * (1 + v16 (ix2 0 d)) * v14 (ix2 0 d)
          - v30 (ix2 r d) * Ideal.div (∑ x : Fin 1024, k0_pay24 v56 v80 v81 v82 v87 v92 (ix2 r x) * (1 + v16 (ix2 0 x)) * v14 (ix2 0 x) * v30 (ix2 r x)) chans) := by
  pointwise [k0_pay29, k0_pay27]
end

theorem pay7_at (v41 : FVec Ideal S256x1024 .f32) (v97 v102 : FVec Ideal S1x1024 .f32) (v135 : Vec Ideal S1x256x1024 .bf16) (v142 : Vec Ideal S1x3072 .f32)
    (e : Fin 3072) :
    k0_pay7 v41 v97 v102 v135 v142 (ix2 0 e) = v142 (ix2 0 e) + if h : e.val < 1024 then v97 (ix2 0 ⟨e.val, h⟩)
      else if h : e.val - 1024 < 1024 then v102 (ix2 0 ⟨e.val - 1024, h⟩)
      else ∑ x : Fin 256, v41 (ix2 x ⟨e.val - 1024 - 1024, by omega⟩) * v135 (ix3 0 x ⟨e.val - 1024 - 1024, by omega⟩) := by
  pointwise [k0_pay7]
theorem pay8_at (v109 : FVec Ideal S1x1024 .f32) (v148 : Vec Ideal S1x1024 .f32) (d : Fin 1024) :
    k0_pay8 v109 v148 (ix2 0 d) = v148 (ix2 0 d) + v109 (ix2 0 d) := by
  pointwise [k0_pay8]

/-! ## The same, from a latent point's blocks -/

theorem rs_blk (c : Dev nD) (t : Fin cfg0.N) (r : Fin 256) : k0_pay15 (iblk m c 0 t) (ix2 r 0) = rs (ar m c) (bt t) (tk t r) := by
  rw [pay15_at]; simp only [blk0]; rfl
theorem xh_blk (c : Dev nD) (t : Fin cfg0.N) (r : Fin 256) (d : Fin 1024) : k0_pay16 (iblk m c 0 t) (ix2 r d) = xh (ar m c) (bt t) (tk t r) d := by
  rw [pay16_at, rs_blk, blk0]; rfl

theorem da_blk (c : Dev nD) (t : Fin cfg0.N) (h1 : 1 ≤ t.val % 9) (r : Fin 256) (n : Fin 4096) (h) :
    k0_pay21 (k0_pay20 (iblk m c 1 t) (View.ld (iblk m c 5 t : Vec Ideal S8x6144 .f32) (Rect.unit (s := S8x6144) (k0_off3 (grid0.coords t)) ![1, 1024] h))
      (iblk m c 7 t)) (iblk m c 3 t) (ix2 r n) = da (ar m c) (bt t) (tk t r) n := by
  rw [pay21_at, pay20_at, blk3 m c t h1, sqrt_sq (act_nonneg _ _ _ _)]
  simp only [blk1, gate_at m c t h1, blk7]
  rfl

theorem wa_piece (a : Args) (d : Fin 1024) (s : Fin 8) (k : Fin 512) (n : Fin 4096) (h : n.val = 512 * s.val + k.val) : wa a d n = a.w1 (ix3 s d k) := by
  unfold wa
  have e0 : (⟨n.val / 512, by omega⟩ : Fin 8) = s := Fin.ext (by dsimp only; omega)
  have e1 : (⟨n.val % 512, by omega⟩ : Fin 512) = k := Fin.ext (by dsimp only; omega)
  rw [e0, e1]

set_option maxHeartbeats 1600000 in
theorem dh_blk (c : Dev nD) (t : Fin cfg0.N) (h1 : 1 ≤ t.val % 9) (r : Fin 256) (d : Fin 1024) (h) :
    k0_pay24 (k0_pay21 (k0_pay20 (iblk m c 1 t) (View.ld (iblk m c 5 t : Vec Ideal S8x6144 .f32) (Rect.unit (s := S8x6144) (k0_off3 (grid0.coords t)) ![1, 1024] h)) (iblk m c 7 t)) (iblk m c 3 t))
      (k0_pay22 (k0_pay20 (iblk m c 1 t) (View.ld (iblk m c 5 t : Vec Ideal S8x6144 .f32) (Rect.unit (s := S8x6144) (k0_off3 (grid0.coords t)) ![1, 1024] h)) (iblk m c 7 t)) (iblk m c 3 t)
        (View.ld (iblk m c 6 t : Vec Ideal S8x1024x512 .bf16) (Rect.unit (s := S8x1024x512) ![0, 0, 0] ![1, 1024, 512] inb_S8x1024x512_S1x1024x512_0_0_0))
        (View.ld (iblk m c 6 t : Vec Ideal S8x1024x512 .bf16) (Rect.unit (s := S8x1024x512) ![1, 0, 0] ![1, 1024, 512] inb_S8x1024x512_S1x1024x512_1_0_0))
        (View.ld (iblk m c 6 t : Vec Ideal S8x1024x512 .bf16) (Rect.unit (s := S8x1024x512) ![2, 0, 0] ![1, 1024, 512] inb_S8x1024x512_S1x1024x512_2_0_0))
        (View.ld (iblk m c 6 t : Vec Ideal S8x1024x512 .bf16) (Rect.unit (s := S8x1024x512) ![3, 0, 0] ![1, 1024, 512] inb_S8x1024x512_S1x1024x512_3_0_0))
        (View.ld (iblk m c 6 t : Vec Ideal S8x1024x512 .bf16) (Rect.unit (s := S8x1024x512) ![4, 0, 0] ![1, 1024, 512] inb_S8x1024x512_S1x1024x512_4_0_0)))
      (k0_pay23 (k0_pay20 (iblk m c 1 t) (View.ld (iblk m c 5 t : Vec Ideal S8x6144 .f32) (Rect.unit (s := S8x6144) (k0_off3 (grid0.coords t)) ![1, 1024] h)) (iblk m c 7 t)) (iblk m c 3 t))
      (View.ld (iblk m c 6 t : Vec Ideal S8x1024x512 .bf16) (Rect.unit (s := S8x1024x512) ![5, 0, 0] ![1, 1024, 512] inb_S8x1024x512_S1x1024x512_5_0_0))
      (View.ld (iblk m c 6 t : Vec Ideal S8x1024x512 .bf16) (Rect.unit (s := S8x1024x512) ![6, 0, 0] ![1, 1024, 512] inb_S8x1024x512_S1x1024x512_6_0_0))
      (View.ld (iblk m c 6 t : Vec Ideal S8x1024x512 .bf16) (Rect.unit (s := S8x1024x512) ![7, 0, 0] ![1, 1024, 512] inb_S8x1024x512_S1x1024x512_7_0_0)) (ix2 r d)
      = dh (ar m c) (bt t) (tk t r) d := by
  rw [pay24_at]
  unfold dh
  rw [← sum_pieces, Fin.sum_univ_eight]
  simp only [da_blk m c t h1]
  have key : ∀ (s : Fin 8) (x : Fin 512) (n n' : Fin 4096) (off : Fin 3 → ℕ) (ho : off = ![s.val, 0, 0]) (hb), n'.val = 512 * s.val + x.val → n = n' →
      da (ar m c) (bt t) (tk t r) n * View.ld (iblk m c 6 t : Vec Ideal S8x1024x512 .bf16) (Rect.unit (s := S8x1024x512) off ![1, 1024, 512] hb) (ix3 0 d x)
        = da (ar m c) (bt t) (tk t r) n' * wa (ar m c) d n' := fun s x n n' off ho hb hn e => by
    subst e
    rw [wa_piece _ d s x n hn, blk6 m c t s d x off ho hb]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  · exact Finset.sum_congr rfl fun x _ => key 0 x _ _ _ rfl _ rfl (Fin.ext (by simp))
  · exact Finset.sum_congr rfl fun x _ => key 1 x _ _ _ rfl _ rfl rfl
  · exact Finset.sum_congr rfl fun x _ => key 2 x _ _ _ rfl _ rfl rfl
  · exact Finset.sum_congr rfl fun x _ => key 3 x _ _ _ rfl _ rfl rfl
  · exact Finset.sum_congr rfl fun x _ => key 4 x _ _ _ rfl _ rfl rfl
  · exact Finset.sum_congr rfl fun x _ => key 5 x _ _ _ rfl _ rfl rfl
  · exact Finset.sum_congr rfl fun x _ => key 6 x _ _ _ rfl _ rfl rfl
  · exact Finset.sum_congr rfl fun x _ => key 7 x _ _ _ rfl _ rfl rfl

end Cert.Kernel2Ideal.Blocks

end
-- ==== Proof.MlpOuts.lean ====
module

public import proofs.«01_k».proof.Proof.MlpBody
public import Idealize.ShloMosaic.Lib.Pipeline.ValueKit

/-! # The token-wise cotangents of the mixing layer after the run

Four outputs of the launch hold a block for each grid point: a latent point stores its tokens' values, a context point passes the
input's cotangent by and stores zeros elsewhere. -/

@[expose] public section

set_option maxRecDepth 16384

noncomputable section

namespace Cert.Kernel2Ideal.Blocks

open Cert.Kernel2Ideal Cert.Kernel2Ideal.Gen Cert.Mlp Idealize.ShloMosaic Idealize.ShloMosaic.TcCoe Idealize.SL.Sem

variable (m : (ℓ : Loc nD τ sig) → Buf (Elt Ideal) ℓ)

set_option maxHeartbeats 1600000
/-- A latent token's cotangent, once the layer's input cotangent `dh` and the point's rows are known. -/
theorem dxn_of (c : Dev nD) (t : Fin cfg0.N) {v14 v16 : FVec Ideal S1x1024 .f32} {v28 : FVec Ideal S256x1 .f32} {v30 v41 : FVec Ideal S256x1024 .f32}
    {v56 : FVec Ideal S256x4096 .bf16} {v80 : FVec Ideal S256x1024 .f32} {v81 : FVec Ideal S256x512 .bf16} {v82 v87 v92 : Vec Ideal S1x1024x512 .bf16}
    (hD : ∀ r d, k0_pay24 v56 v80 v81 v82 v87 v92 (ix2 r d) = dh (ar m c) (bt t) (tk t r) d)
    (h14 : ∀ d, v14 (ix2 0 d) = gain (ar m c) d) (h16 : ∀ d, 1 + v16 (ix2 0 d) = scale (ar m c) (bt t) d)
    (h28 : ∀ r, v28 (ix2 r 0) = rs (ar m c) (bt t) (tk t r)) (h30 : ∀ r d, v30 (ix2 r d) = xh (ar m c) (bt t) (tk t r) d)
    (h41 : ∀ r d, v41 (ix2 r d) = (ar m c).dx (ix3 (bt t) (tk t r) d)) (r : Fin 256) (d : Fin 1024) :
    k0_pay3 (k0_pay29 v14 v16 v28 v30 v41 v56 v80 v81 v82 v87 v92) (ix3 0 r d) = dxn (ar m c) (bt t) (tk t r) d := by
  rw [pay3_at, pay29_at]
  simp only [hD, h14, h16, h28, h30, h41]
  rfl

/-- The cotangent of the layer's input. -/
theorem out8 (c : Dev nD) : (dats m 0 c).arrAt 8 cfg0.N = fun i => dxa (ar m c) (i 0) (i 1) (i 2) := by
  refine (dats m 0 c).arrAt_eq_of_covers 8 _ (by decide +kernel) fun t hf y => ?_
  blk_simp
  rw [after0_8]
  by_cases h1 : 1 ≤ t.val % 9
  · rw [outsAt0_B m c t (by omega) h1 (by omega)]
    dsimp only
    unfold out0_B_8 kernelRun0_B
    frame_out
    refine close (t := t) (f := dxa (ar m c)) (fun r k => ?_) ?_ ?_ ?_
    · unfold dxa
      rw [if_neg (tk_lat t h1 r)]
      refine dxn_of m c t ?_ ?_ ?_ ?_ ?_ ?_ r k
      · exact fun r d => dh_blk m c t h1 r d _
      · exact fun d => (pay13_at _ d).trans (blk4 m c t d)
      · exact fun d => congrArg (1 + ·) (scale_at m c t h1 d _)
      · exact fun r => rs_blk m c t r
      · exact fun r d => xh_blk m c t r d
      · exact fun r d => (pay18_at _ r d).trans (blk1 m c t r d)
    all_goals blk_simp [idx_out t]
  · have h2 : t.val % 9 = 0 := by omega
    have hc : ∀ r, (tk t r).val < 256 := tk_ctx t h2
    by_cases h0 : t.val % 36 = 0
    · rw [outsAt0_A m c t h0 h1 h2]
      dsimp only
      unfold out0_A_8 kernelRun0_A
      frame_out
      refine close (t := t) (f := dxa (ar m c)) (fun r k => ?_) ?_ ?_ ?_
      · unfold dxa
        rw [if_pos (hc r)]
        simp only [pay9_at, blk1]
      all_goals blk_simp [idx_out t]
    · rw [outsAt0_C m c t h0 h1 h2]
      dsimp only
      unfold out0_C_8 kernelRun0_C
      frame_out
      refine close (t := t) (f := dxa (ar m c)) (fun r k => ?_) ?_ ?_ ?_
      · unfold dxa
        rw [if_pos (hc r)]
        simp only [pay9_at, blk1]
      all_goals blk_simp [idx_out t]

/-- The modulated input. -/
theorem out9 (c : Dev nD) : (dats m 0 c).arrAt 9 cfg0.N = fun i => lat (hid (ar m c)) (i 0) (i 1) (i 2) := by
  refine (dats m 0 c).arrAt_eq_of_covers 9 _ (by decide +kernel) fun t hf y => ?_
  blk_simp
  rw [after0_9]
  by_cases h1 : 1 ≤ t.val % 9
  · rw [outsAt0_B m c t (by omega) h1 (by omega)]
    dsimp only
    unfold out0_B_9 kernelRun0_B
    frame_out
    refine close (t := t) (f := lat (hid (ar m c))) (fun r k => ?_) ?_ ?_ ?_
    · unfold lat
      rw [if_neg (tk_lat t h1 r)]
      simp only [pay4_at, pay17_at, rs_blk, blk0, blk4, scale_at m c t h1, shift_at m c t h1]
      rfl
    all_goals blk_simp [idx_out t]
  · have h2 : t.val % 9 = 0 := by omega
    have hc : ∀ r, (tk t r).val < 256 := tk_ctx t h2
    by_cases h0 : t.val % 36 = 0
    · rw [outsAt0_A m c t h0 h1 h2]
      dsimp only
      unfold out0_A_9 kernelRun0_A
      frame_out
      refine close (t := t) (f := lat (hid (ar m c))) (fun r k => ?_) ?_ ?_ ?_
      · unfold lat
        rw [if_pos (hc r)]
        simp only [pay10_at]
      all_goals blk_simp [idx_out t]
    · rw [outsAt0_C m c t h0 h1 h2]
      dsimp only
      unfold out0_C_9 kernelRun0_C
      frame_out
      refine close (t := t) (f := lat (hid (ar m c))) (fun r k => ?_) ?_ ?_ ?_
      · unfold lat
        rw [if_pos (hc r)]
        simp only [pay10_at]
      all_goals blk_simp [idx_out t]

/-- The hidden layer's cotangent. -/
theorem out10 (c : Dev nD) : (dats m 0 c).arrAt 10 cfg0.N = fun i => lat (da (ar m c)) (i 0) (i 1) (i 2) := by
  refine (dats m 0 c).arrAt_eq_of_covers 10 _ (by decide +kernel) fun t hf y => ?_
  blk_simp
  rw [after0_10]
  by_cases h1 : 1 ≤ t.val % 9
  · rw [outsAt0_B m c t (by omega) h1 (by omega)]
    dsimp only
    unfold out0_B_10 kernelRun0_B
    frame_out
    refine close (t := t) (f := lat (da (ar m c))) (fun r k => ?_) ?_ ?_ ?_
    · unfold lat
      rw [if_neg (tk_lat t h1 r)]
      simp only [pay5_at, da_blk m c t h1]
    all_goals blk_simp [idx_out t]
  · have h2 : t.val % 9 = 0 := by omega
    have hc : ∀ r, (tk t r).val < 256 := tk_ctx t h2
    by_cases h0 : t.val % 36 = 0
    · rw [outsAt0_A m c t h0 h1 h2]
      dsimp only
      unfold out0_A_10 kernelRun0_A
      frame_out
      refine close (t := t) (f := lat (da (ar m c))) (fun r k => ?_) ?_ ?_ ?_
      · unfold lat
        rw [if_pos (hc r)]
        simp only [pay11_at]
      all_goals blk_simp [idx_out t]
    · rw [outsAt0_C m c t h0 h1 h2]
      dsimp only
      unfold out0_C_10 kernelRun0_C
      frame_out
      refine close (t := t) (f := lat (da (ar m c))) (fun r k => ?_) ?_ ?_ ?_
      · unfold lat
        rw [if_pos (hc r)]
        simp only [pay11_at]
      all_goals blk_simp [idx_out t]

/-- The output's cotangent. -/
theorem out11 (c : Dev nD) : (dats m 0 c).arrAt 11 cfg0.N = fun i => lat (dout (ar m c)) (i 0) (i 1) (i 2) := by
  refine (dats m 0 c).arrAt_eq_of_covers 11 _ (by decide +kernel) fun t hf y => ?_
  blk_simp
  rw [after0_11]
  by_cases h1 : 1 ≤ t.val % 9
  · rw [outsAt0_B m c t (by omega) h1 (by omega)]
    dsimp only
    unfold out0_B_11 kernelRun0_B
    frame_out
    refine close (t := t) (f := lat (dout (ar m c))) (fun r k => ?_) ?_ ?_ ?_
    · unfold lat
      rw [if_neg (tk_lat t h1 r)]
      simp only [pay6_at, pay19_at, blk1, gate_at m c t h1]
      rfl
    all_goals blk_simp [idx_out t]
  · have h2 : t.val % 9 = 0 := by omega
    have hc : ∀ r, (tk t r).val < 256 := tk_ctx t h2
    by_cases h0 : t.val % 36 = 0
    · rw [outsAt0_A m c t h0 h1 h2]
      dsimp only
      unfold out0_A_11 kernelRun0_A
      frame_out
      refine close (t := t) (f := lat (dout (ar m c))) (fun r k => ?_) ?_ ?_ ?_
      · unfold lat
        rw [if_pos (hc r)]
        simp only [pay12_at]
      all_goals blk_simp [idx_out t]
    · rw [outsAt0_C m c t h0 h1 h2]
      dsimp only
      unfold out0_C_11 kernelRun0_C
      frame_out
      refine close (t := t) (f := lat (dout (ar m c))) (fun r k => ?_) ?_ ?_ ?_
      · unfold lat
        rw [if_pos (hc r)]
        simp only [pay12_at]
      all_goals blk_simp [idx_out t]

end Cert.Kernel2Ideal.Blocks

end
-- ==== Proof.MlpSums.lean ====
module

public import proofs.«01_k».proof.Proof.MlpBody
public import Idealize.ShloMosaic.Lib.Pipeline.ValueKit

/-! # The summed cotangents of the mixing layer after the run

The launch keeps two blocks of eight rows for its whole length: zeroed at the first point, one row of each added into at every
latent point, written back after the last. The 36 points together are the sums the specification names. -/

@[expose] public section

set_option maxRecDepth 16384

noncomputable section

namespace Cert.Kernel2Ideal.Blocks

open Cert.Kernel2Ideal Cert.Kernel2Ideal.Gen Cert.Mlp Idealize.ShloMosaic Idealize.ShloMosaic.TcCoe Idealize.SL.Sem

variable (m : (ℓ : Loc nD τ sig) → Buf (Elt Ideal) ℓ)

/-- The element of a one-row rectangle above column `k`. -/
theorem row_emb {K : ℕ} {off : Fin 2 → ℕ} {ρ : ℕ} (ho : off = ![ρ, 0]) (inb) (i : Fin 8) (k : Fin K) (h : i.val = ρ) :
    (Rect.unit (s := ⟨2, ![8, K]⟩) off ![1, K] inb).emb (ix2 0 k) = ix2 i k := by
  subst ho h
  blk_ext []

theorem row_not_mem {K : ℕ} {off : Fin 2 → ℕ} {ρ : ℕ} (ho : off = ![ρ, 0]) (inb) (i : Fin 8) (k : Fin K) (h : i.val ≠ ρ) :
    (ix2 i k : Shape.Idx ⟨2, ![8, K]⟩) ∉ (Rect.unit (s := ⟨2, ![8, K]⟩) off ![1, K] inb).set := by
  subst ho
  intro hm
  have := (Rect.mem_set_unit.mp hm) 0
  have h1 : ρ ≤ i.val ∧ i.val < ρ + 1 := this
  omega

/-- A load of that rectangle. -/
theorem row_ld {K : ℕ} {off : Fin 2 → ℕ} {ρ : ℕ} (ho : off = ![ρ, 0]) (inb) (X : Vec Ideal ⟨2, ![8, K]⟩ .f32) (i : Fin 8) (k : Fin K) (h : i.val = ρ) :
    View.ld X (Rect.unit (s := ⟨2, ![8, K]⟩) off ![1, K] inb) (ix2 0 k) = X (ix2 i k) :=
  congrArg X (row_emb ho inb i k h)

/-- What a point adds to row `i` of an accumulator, if the latent points of batch element `b` add their tokens' shares `g b` to row
`row b`. -/
def part (K : ℕ) (g : Fin 4 → Fin 2304 → Fin K → EReal) (row : Fin 4 → ℕ) (t : Fin cfg0.N) (i : Fin 8) (k : Fin K) : EReal :=
  if 1 ≤ t.val % 9 then if i.val = row (bt t) then ∑ r : Fin 256, g (bt t) (tk t r) k else 0 else 0

/-- What a latent point stores in its row of the modulation's cotangent, once its rows are known. -/
theorem mod_of (c : Dev nD) (t : Fin cfg0.N) {v14 : FVec Ideal S1x1024 .f32} {v30 v41 : FVec Ideal S256x1024 .f32}
    {v56 : FVec Ideal S256x4096 .bf16} {v80 : FVec Ideal S256x1024 .f32} {v81 : FVec Ideal S256x512 .bf16} {v82 v87 v92 : Vec Ideal S1x1024x512 .bf16}
    {v135 : Vec Ideal S1x256x1024 .bf16} {v142 : Vec Ideal S1x3072 .f32} {p : EReal} {e : Fin 3072}
    (hD : ∀ r d, k0_pay24 v56 v80 v81 v82 v87 v92 (ix2 r d) = dh (ar m c) (bt t) (tk t r) d)
    (h14 : ∀ d, v14 (ix2 0 d) = gain (ar m c) d) (h30 : ∀ r d, v30 (ix2 r d) = xh (ar m c) (bt t) (tk t r) d)
    (h41 : ∀ r d, v41 (ix2 r d) = (ar m c).dx (ix3 (bt t) (tk t r) d)) (h135 : ∀ r d, v135 (ix3 0 r d) = mo (ar m c) (bt t) (tk t r) d)
    (hp : v142 (ix2 0 e) = p) :
    k0_pay7 v41 (k0_pay25 v56 v80 v81 v82 v87 v92) (k0_pay26 v14 v30 v56 v80 v81 v82 v87 v92) v135 v142 (ix2 0 e)
      = p + ∑ r : Fin 256, mterm (ar m c) (bt t) (tk t r) e := by
  rw [pay7_at, hp]
  refine congrArg (p + ·) ?_
  unfold mterm
  simp only [pay25_at, pay26_at, hD, h14, h30, h41, h135, mul_assoc]
  split_ifs <;> rfl

/-- The same for the gain's cotangent. -/
theorem gn_of (c : Dev nD) (t : Fin cfg0.N) {v16 : FVec Ideal S1x1024 .f32} {v30 : FVec Ideal S256x1024 .f32}
    {v56 : FVec Ideal S256x4096 .bf16} {v80 : FVec Ideal S256x1024 .f32} {v81 : FVec Ideal S256x512 .bf16} {v82 v87 v92 : Vec Ideal S1x1024x512 .bf16}
    {v148 : Vec Ideal S1x1024 .f32} {p : EReal} {d : Fin 1024}
    (hD : ∀ r d, k0_pay24 v56 v80 v81 v82 v87 v92 (ix2 r d) = dh (ar m c) (bt t) (tk t r) d)
    (h16 : ∀ d, 1 + v16 (ix2 0 d) = scale (ar m c) (bt t) d) (h30 : ∀ r d, v30 (ix2 r d) = xh (ar m c) (bt t) (tk t r) d)
    (hp : v148 (ix2 0 d) = p) :
    k0_pay8 (k0_pay28 v16 v30 v56 v80 v81 v82 v87 v92) v148 (ix2 0 d) = p + ∑ r : Fin 256, gterm (ar m c) (bt t) (tk t r) d := by
  rw [pay8_at, hp, pay28_at]
  simp only [hD, h16, h30]
  rfl

/-- The points' rows and tokens put together. -/
theorem total (g : Fin 4 → Fin 2304 → EReal) (row : Fin 4 → ℕ) (i : Fin 8) :
    (∑ p : Fin 36, if 1 ≤ p.val % 9 then if i.val = row ⟨p.val / 9, by omega⟩ then
        ∑ r : Fin 256, g ⟨p.val / 9, by omega⟩ ⟨p.val % 9 * 256 + r.val, by omega⟩ else 0 else 0)
      = ∑ b : Fin 4, if i.val = row b then ∑ s : Fin 2048, g b ⟨256 + s.val, by omega⟩ else 0 := by
  rw [← (finProdFinEquiv (m := 4) (n := 9)).sum_comp, Fintype.sum_prod_type]
  have hd : ∀ (a : Fin 4) (b : Fin 9), (finProdFinEquiv (a, b)).val / 9 = a.val := fun a b => by
    simp only [finProdFinEquiv_apply_val]; omega
  have hm : ∀ (a : Fin 4) (b : Fin 9), (finProdFinEquiv (a, b)).val % 9 = b.val := fun a b => by
    simp only [finProdFinEquiv_apply_val]; omega
  simp only [hd, hm, Fin.eta]
  refine Finset.sum_congr rfl fun a _ => ?_
  rw [Fin.sum_univ_succ, if_neg (by simp : ¬1 ≤ (0 : Fin 9).val), zero_add]
  by_cases hi : i.val = row a
  · rw [if_pos hi]
    have e8 : ∀ b : Fin 8, (if 1 ≤ (Fin.succ b).val then if i.val = row a then
        ∑ r : Fin 256, g a ⟨(Fin.succ b).val * 256 + r.val, by have := b.isLt; rw [Fin.val_succ]; omega⟩ else 0 else (0 : EReal))
        = ∑ r : Fin 256, g a ⟨256 + (b.val * 256 + r.val), by omega⟩ := fun b => by
      rw [if_pos (by rw [Fin.val_succ]; omega : 1 ≤ (Fin.succ b).val), if_pos hi]
      refine Finset.sum_congr rfl fun r _ => congrArg _ (Fin.ext ?_)
      simp only [Fin.val_succ]; omega
    refine (Finset.sum_congr rfl fun b _ => e8 b).trans ?_
    exact Fin.sum_mul_add_congr fun s k hl => rfl
  · rw [if_neg hi]
    exact Finset.sum_eq_zero fun b _ => by simp only [if_neg hi, ite_self]

set_option maxHeartbeats 1600000 in
theorem mod_A (c : Dev nD) (t : Fin cfg0.N) (h0 : t.val % 36 = 0) (i : Fin 8) (k : Fin 3072) :
    (outsAt0 m c t.val t.isLt).2.2.2.2.1 (ix2 i k) = 0 + part 3072 (mterm (ar m c)) (fun b => b.val) t i k := by
  have h1 : ¬1 ≤ t.val % 9 := by omega
  unfold part
  rw [if_neg h1, add_zero, outsAt0_A m c t h0 h1 (by omega)]
  dsimp only
  unfold out0_A_12 kernelRun0_A
  frame_out
  pointwise [k0_pay1]

set_option maxHeartbeats 1600000 in
theorem mod_B (c : Dev nD) (t : Fin cfg0.N) (h0 : ¬t.val % 36 = 0) (i : Fin 8) (k : Fin 3072) :
    (outsAt0 m c t.val t.isLt).2.2.2.2.1 (ix2 i k)
      = (outsAt0 m c (t.val - 1) (Nat.lt_of_le_of_lt (Nat.sub_le _ _) t.isLt)).2.2.2.2.1 (ix2 i k) + part 3072 (mterm (ar m c)) (fun b => b.val) t i k := by
  unfold part
  by_cases h1 : 1 ≤ t.val % 9
  · rw [if_pos h1, outsAt0_B m c t h0 h1 (by omega)]
    dsimp only
    unfold out0_B_12 kernelRun0_B
    frame_out
    by_cases hv : i.val = (bt t).val
    · rw [if_pos hv]
      refine (congrArg (View.read _ _ _) (row_emb (K := 3072) (off4 t h1) (k0_off4_inb (grid0.coords t) ((hcond0_1 t).mpr h1)) i k hv).symm).trans ?_
      rw [View.read_writes_cons_emb]
      refine mod_of m c t ?_ ?_ ?_ ?_ ?_ ?_
      · exact fun r d => dh_blk m c t h1 r d _
      · exact fun d => (pay13_at _ d).trans (blk4 m c t d)
      · exact fun r d => xh_blk m c t r d
      · exact fun r d => (pay18_at _ r d).trans (blk1 m c t r d)
      · exact fun r d => blk2 m c t h1 r d
      · exact row_ld (off4 t h1) _ _ i k hv
    · rw [if_neg hv, View.read_writes_apply_of_forall_not_mem _ _ _ _ (fun p hp => by
        obtain rfl := List.mem_singleton.mp hp
        exact row_not_mem (K := 3072) (off4 t h1) (k0_off4_inb (grid0.coords t) ((hcond0_1 t).mpr h1)) i k hv), add_zero, Memref.IsWhole.read_unread]
  · rw [if_neg h1, add_zero, outsAt0_C m c t h0 h1 (by omega)]
    dsimp only
    unfold out0_C_12
    rfl

set_option maxHeartbeats 1600000 in
theorem gn_A (c : Dev nD) (t : Fin cfg0.N) (h0 : t.val % 36 = 0) (i : Fin 8) (k : Fin 1024) :
    (outsAt0 m c t.val t.isLt).2.2.2.2.2 (ix2 i k) = 0 + part 1024 (gterm (ar m c)) (fun _ => 0) t i k := by
  have h1 : ¬1 ≤ t.val % 9 := by omega
  unfold part
  rw [if_neg h1, add_zero, outsAt0_A m c t h0 h1 (by omega)]
  dsimp only
  unfold out0_A_13 kernelRun0_A
  frame_out
  pointwise [k0_pay2]

set_option maxHeartbeats 1600000 in
theorem gn_B (c : Dev nD) (t : Fin cfg0.N) (h0 : ¬t.val % 36 = 0) (i : Fin 8) (k : Fin 1024) :
    (outsAt0 m c t.val t.isLt).2.2.2.2.2 (ix2 i k)
      = (outsAt0 m c (t.val - 1) (Nat.lt_of_le_of_lt (Nat.sub_le _ _) t.isLt)).2.2.2.2.2 (ix2 i k) + part 1024 (gterm (ar m c)) (fun _ => 0) t i k := by
  unfold part
  by_cases h1 : 1 ≤ t.val % 9
  · rw [if_pos h1, outsAt0_B m c t h0 h1 (by omega)]
    dsimp only
    unfold out0_B_13 kernelRun0_B
    frame_out
    by_cases hv : i.val = 0
    · rw [if_pos hv]
      refine (congrArg (View.read _ _ _) (row_emb (K := 1024) (rfl : (![0, 0] : Fin 2 → ℕ) = ![0, 0]) inb_S8x1024_S1x1024_0_0 i k hv).symm).trans ?_
      rw [View.read_writes_cons_emb]
      refine gn_of m c t ?_ ?_ ?_ ?_
      · exact fun r d => dh_blk m c t h1 r d _
      · exact fun d => congrArg (1 + ·) (scale_at m c t h1 d _)
      · exact fun r d => xh_blk m c t r d
      · exact row_ld (rfl : (![0, 0] : Fin 2 → ℕ) = ![0, 0]) _ _ i k hv
    · rw [if_neg hv, View.read_writes_apply_of_forall_not_mem _ _ _ _ (fun p hp => by
        obtain rfl := List.mem_singleton.mp hp
        exact row_not_mem (K := 1024) (rfl : (![0, 0] : Fin 2 → ℕ) = ![0, 0]) inb_S8x1024_S1x1024_0_0 i k hv), add_zero, Memref.IsWhole.read_unread]
  · rw [if_neg h1, add_zero, outsAt0_C m c t h0 h1 (by omega)]
    dsimp only
    unfold out0_C_13
    rfl

/-- The cotangent of the shift, scale and gate rows. -/
theorem out12 (c : Dev nD) : (dats m 0 c).arrAt 12 cfg0.N = fun i => dmod (ar m c) (i 0) (i 1) := by
  refine (dats m 0 c).arrAt_eq_of_covers 12 _ (by decide +kernel) fun t hf y => ?_
  blk_simp
  rw [after0_12]
  have ht : t.val % 36 = 35 := (flush0_12 t).mp hf
  have hN : cfg0.N = 36 := N_0
  have e : ∀ (i : Fin 8) (k : Fin 3072), (outsAt0 m c t.val t.isLt).2.2.2.2.1 (ix2 i k) = dmod (ar m c) i k := fun i k => by
    have := Pipeline.eq_sum_fin_of_reset_step_apply_last (fun n h (j : Fin 8 × Fin 3072) => (outsAt0 m c n h).2.2.2.2.1 (ix2 j.1 j.2)) 36
      (fun _ => (0 : EReal)) (fun t j => part 3072 (mterm (ar m c)) (fun b => b.val) t j.1 j.2) (fun t h j => mod_A m c t h j.1 j.2) (fun t h j => mod_B m c t h j.1 j.2)
      (le_of_eq hN) t (by have h1 : t.val < cfg0.N := t.isLt; omega) (i, k)
    refine this.trans ((zero_add _).trans ?_)
    refine (total (fun b t => mterm (ar m c) b t k) (fun b => b.val) i).trans ?_
    unfold dmod
    split_ifs with h4
    · rw [Finset.sum_eq_single (⟨i.val, h4⟩ : Fin 4) (fun b _ hb => if_neg fun e => hb (Fin.ext e.symm)) (fun h => absurd (Finset.mem_univ _) h), if_pos rfl]
    · exact Finset.sum_eq_zero fun b _ => if_neg fun e => h4 (by have := b.isLt; omega)
  have hy : y = ix2 (y 0) (y 1) := by blk_ext []
  refine (congrArg _ hy).trans ((e (y 0) (y 1)).trans ?_)
  have e0 : (y 0 : Fin 8) = ((win0_12.blk t).view.emb y 0 : Fin 8) := Fin.ext (by blk_simp [idx_out t])
  have e1 : (y 1 : Fin 3072) = ((win0_12.blk t).view.emb y 1 : Fin 3072) := Fin.ext (by blk_simp [idx_out t])
  exact congrArg₂ _ e0 e1

/-- The cotangent of the gain. -/
theorem out13 (c : Dev nD) : (dats m 0 c).arrAt 13 cfg0.N = fun i => dgn (ar m c) (i 0) (i 1) := by
  refine (dats m 0 c).arrAt_eq_of_covers 13 _ (by decide +kernel) fun t hf y => ?_
  blk_simp
  rw [after0_13]
  have ht : t.val % 36 = 35 := (flush0_13 t).mp hf
  have hN : cfg0.N = 36 := N_0
  have e : ∀ (i : Fin 8) (k : Fin 1024), (outsAt0 m c t.val t.isLt).2.2.2.2.2 (ix2 i k) = dgn (ar m c) i k := fun i k => by
    have := Pipeline.eq_sum_fin_of_reset_step_apply_last (fun n h (j : Fin 8 × Fin 1024) => (outsAt0 m c n h).2.2.2.2.2 (ix2 j.1 j.2)) 36
      (fun _ => (0 : EReal)) (fun t j => part 1024 (gterm (ar m c)) (fun _ => 0) t j.1 j.2) (fun t h j => gn_A m c t h j.1 j.2) (fun t h j => gn_B m c t h j.1 j.2)
      (le_of_eq hN) t (by have h1 : t.val < cfg0.N := t.isLt; omega) (i, k)
    refine this.trans ((zero_add _).trans ?_)
    refine (total (fun b t => gterm (ar m c) b t k) (fun _ => 0) i).trans ?_
    unfold dgn
    split_ifs with h4
    · rfl
    · exact Finset.sum_eq_zero fun b _ => rfl
  have hy : y = ix2 (y 0) (y 1) := by blk_ext []
  refine (congrArg _ hy).trans ((e (y 0) (y 1)).trans ?_)
  have e0 : (y 0 : Fin 8) = ((win0_13.blk t).view.emb y 0 : Fin 8) := Fin.ext (by blk_simp [idx_out t])
  have e1 : (y 1 : Fin 1024) = ((win0_13.blk t).view.emb y 1 : Fin 1024) := Fin.ext (by blk_simp [idx_out t])
  exact congrArg₂ _ e0 e1

end Cert.Kernel2Ideal.Blocks

end
-- ==== Proof.MlpValues.lean ====
module

public import proofs.«01_k».proof.Proof.MlpOuts
public import proofs.«01_k».proof.Proof.MlpSums

/-! # The mixing layer's run, with every result named -/

@[expose] public section

set_option maxRecDepth 16384

noncomputable section

namespace Cert.Kernel2Ideal.Blocks

open Cert.Kernel2Ideal Cert.Kernel2Ideal.Gen Cert.Mlp Idealize.ShloMosaic Idealize.ShloMosaic.TcCoe Idealize.SL.Sem

variable (m : (ℓ : Loc nD τ sig) → Buf (Elt Ideal) ℓ)

/-! After the run, a result's array is what the launch left in it. -/

theorem post8 (r : PUnit × MemSt nD τ sig (Elt Ideal)) (h : Pipeline.FramePost cfgs (dats m) 0 (V m) r) (c : Dev nD) :
    r.2.mem ((c : Thread nD τ).loc main_v57_0) = (dats m 0 c).arrAt 8 cfg0.N := (h c).1 8
theorem post9 (r : PUnit × MemSt nD τ sig (Elt Ideal)) (h : Pipeline.FramePost cfgs (dats m) 0 (V m) r) (c : Dev nD) :
    r.2.mem ((c : Thread nD τ).loc main_v57_1) = (dats m 0 c).arrAt 9 cfg0.N := (h c).1 9
theorem post10 (r : PUnit × MemSt nD τ sig (Elt Ideal)) (h : Pipeline.FramePost cfgs (dats m) 0 (V m) r) (c : Dev nD) :
    r.2.mem ((c : Thread nD τ).loc main_v57_2) = (dats m 0 c).arrAt 10 cfg0.N := (h c).1 10
theorem post11 (r : PUnit × MemSt nD τ sig (Elt Ideal)) (h : Pipeline.FramePost cfgs (dats m) 0 (V m) r) (c : Dev nD) :
    r.2.mem ((c : Thread nD τ).loc main_v57_3) = (dats m 0 c).arrAt 11 cfg0.N := (h c).1 11
theorem post12 (r : PUnit × MemSt nD τ sig (Elt Ideal)) (h : Pipeline.FramePost cfgs (dats m) 0 (V m) r) (c : Dev nD) :
    r.2.mem ((c : Thread nD τ).loc main_v57_4) = (dats m 0 c).arrAt 12 cfg0.N := (h c).1 12
theorem post13 (r : PUnit × MemSt nD τ sig (Elt Ideal)) (h : Pipeline.FramePost cfgs (dats m) 0 (V m) r) (c : Dev nD) :
    r.2.mem ((c : Thread nD τ).loc main_v57_5) = (dats m 0 c).arrAt 13 cfg0.N := (h c).1 13

/-- The launch's results and its unchanged arguments. -/
theorem run_values (g : Dev nD → PrngReg) : θ_run defs (onTc (τ := τ) (main (F := Ideal))) ⟨m, fun _ => 0, g⟩ fun r => ∀ c : Dev nD,
      r.2.mem ((c : Thread nD τ).loc main_v57_0) = (fun i => dxa (ar m c) (i 0) (i 1) (i 2))
      ∧ r.2.mem ((c : Thread nD τ).loc main_v57_1) = (fun i => lat (hid (ar m c)) (i 0) (i 1) (i 2))
      ∧ r.2.mem ((c : Thread nD τ).loc main_v57_2) = (fun i => lat (da (ar m c)) (i 0) (i 1) (i 2))
      ∧ r.2.mem ((c : Thread nD τ).loc main_v57_3) = (fun i => lat (dout (ar m c)) (i 0) (i 1) (i 2))
      ∧ r.2.mem ((c : Thread nD τ).loc main_v57_4) = (fun i => dmod (ar m c) (i 0) (i 1))
      ∧ r.2.mem ((c : Thread nD τ).loc main_v57_5) = (fun i => dgn (ar m c) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(post8 m r h.1 c).trans (out8 m c),
      (post9 m r h.1 c).trans (out9 m c),
      (post10 m r h.1 c).trans (out10 m c),
      (post11 m r h.1 c).trans (out11 m c),
      (post12 m r h.1 c).trans (out12 m c),
      (post13 m r h.1 c).trans (out13 m c),
      h.2 c⟩) (θ_run_and (run_main m g) (unchanged m g))

end Cert.Kernel2Ideal.Blocks

end
-- ==== Proof.MlpReal.lean ====
module

public import proofs.«01_k».proof.Proof.Mlp

/-! # The norm's derivative

The cotangent of the layer's input comes out of the norm. The kernel takes the norm's part out in one step; the derivative of
the norm's lines takes it apart into the mean square's and the factor's. The mean square with its offset is positive or infinite. Where
it is infinite the factor is zero, and both are zero; where it is a number the factor is a positive number, and distributes over sums
whatever they hold. -/

@[expose] public section

noncomputable section

namespace Cert.Mlp

open Idealize.ShloMosaic

theorem chans_eq : chans = ((1024 : ℝ) : EReal) := by
  simp [chans, Ideal.ofBits, Ideal.ieee, -EReal.coe_mul]; norm_num
theorem eps_pos : 0 < eps := by
  have h : eps = ((8796093 / 2 ^ 43 : ℝ) : EReal) := by
    simp [eps, Ideal.ofBits, Ideal.ieee, -EReal.coe_mul]; norm_num
  rw [h]
  exact EReal.coe_pos.mpr (by norm_num)
/-- The exponent of the mean square in the norm's factor. -/
abbrev mhalf : EReal := Ideal.ofBits FTy.f32 3204448256#32
theorem mhalf_eq : mhalf = ((-(1 / 2) : ℝ) : EReal) := by
  simp [mhalf, Ideal.ofBits, Ideal.ieee, -EReal.coe_mul, -EReal.coe_neg]; norm_num

theorem sq_nonneg (x : EReal) : 0 ≤ x * x := by
  induction x using EReal.rec with
  | bot => rw [EReal.bot_mul_bot]; exact le_top
  | top => rw [EReal.top_mul_top]; exact le_top
  | coe r => rw [← EReal.coe_mul]; exact EReal.coe_nonneg.mpr (mul_self_nonneg r)

/-- A mean square with its offset is positive. -/
theorem mean_pos (x : Fin 1024 → EReal) : 0 < Ideal.div (∑ d : Fin 1024, x d * x d) chans + eps := by
  rw [chans_eq, Ideal.div_coe (by norm_num)]
  refine lt_of_lt_of_le eps_pos (le_add_of_nonneg_left (EReal.mul_nonneg (Finset.sum_nonneg fun d _ => sq_nonneg _) ?_))
  exact EReal.coe_nonneg.mpr (by norm_num)

/-- A positive number distributes over any sum. -/
theorem sum_mul_pos {ι : Type*} (s : Finset ι) (f : ι → EReal) {r : ℝ} (hr : 0 ≤ r) : ∑ i ∈ s, f i * r = (∑ i ∈ s, f i) * r := by
  classical
  induction s using Finset.induction_on with
  | empty => simp
  | insert i s hi ih =>
    rw [Finset.sum_insert hi, Finset.sum_insert hi, ih, EReal.right_distrib_of_nonneg_of_ne_top (EReal.coe_nonneg.mpr hr) (EReal.coe_ne_top r)]

/-- Twice minus a half. -/
theorem halves (y : EReal) {e : ℝ} (he : 0 < e) : y * ((-(1 / 2) * e : ℝ) : EReal) + y * ((-(1 / 2) * e : ℝ) : EReal) = -(y * (e : EReal)) := by
  have hn : -(1 / 2) * e < 0 := by linarith
  induction y using EReal.rec with
  | bot => rw [EReal.bot_mul_coe_of_neg hn, EReal.bot_mul_coe_of_pos he]; rfl
  | top => rw [EReal.top_mul_coe_of_neg hn, EReal.top_mul_coe_of_pos he]; rfl
  | coe r =>
    simp only [← EReal.coe_mul, ← EReal.coe_add, ← EReal.coe_neg]
    exact congrArg _ (by ring)

/-- The two forms of the norm's derivative, where the mean square is a positive number `M`. -/
theorem apart_pos (x g : Fin 1024 → EReal) {M : ℝ} (hM : 0 < M) (d : Fin 1024) :
    g d * ((√M)⁻¹ : ℝ)
        + x d * Ideal.div ((∑ k : Fin 1024, x k * g k) * (mhalf * Ideal.div (((√M)⁻¹ : ℝ) : EReal) (M : EReal))) chans
        + Ideal.div ((∑ k : Fin 1024, x k * g k) * (mhalf * Ideal.div (((√M)⁻¹ : ℝ) : EReal) (M : EReal))) chans * x d
      = (((√M)⁻¹ : ℝ) : EReal) * (g d - x d * ((√M)⁻¹ : ℝ) * Ideal.div (∑ k : Fin 1024, g k * (x k * ((√M)⁻¹ : ℝ))) chans) := by
  have hr : 0 < (√M)⁻¹ := inv_pos.mpr (Real.sqrt_pos.mpr hM)
  have hi : 1 / M = (√M)⁻¹ * (√M)⁻¹ := by rw [← mul_inv, Real.mul_self_sqrt hM.le, one_div]
  have hs : ∑ k : Fin 1024, g k * (x k * ((√M)⁻¹ : ℝ)) = (∑ k : Fin 1024, x k * g k) * ((√M)⁻¹ : ℝ) := by
    rw [← sum_mul_pos _ _ hr.le]
    exact Finset.sum_congr rfl fun k _ => by rw [← mul_assoc, mul_comm (g k)]
  rw [hs, chans_eq, mhalf_eq, Ideal.div_coe hM.ne', Ideal.div_coe (by norm_num), Ideal.div_coe (by norm_num), hi]
  generalize (√M)⁻¹ = r at hr
  generalize (∑ k : Fin 1024, x k * g k) = S
  have hc : S * (((-(1 / 2) : ℝ) : EReal) * ((r : EReal) * ((r * r : ℝ) : EReal))) * ((1 / 1024 : ℝ) : EReal)
      = S * ((-(1 / 2) * (r * r * r * (1 / 1024)) : ℝ) : EReal) := by
    rw [mul_assoc, ← EReal.coe_mul, ← EReal.coe_mul, ← EReal.coe_mul]
    exact congrArg (fun z : ℝ => S * (z : EReal)) (by ring)
  have hk : (r : EReal) * (x d * r * (S * r * ((1 / 1024 : ℝ) : EReal))) = x d * S * ((r * r * r * (1 / 1024) : ℝ) : EReal) := by
    simp only [EReal.coe_mul]
    ac_rfl
  rw [hc, sub_eq_add_neg, EReal.left_distrib_of_nonneg_of_ne_top (EReal.coe_nonneg.mpr hr.le) (EReal.coe_ne_top r), mul_neg, hk,
    mul_comm _ (x d), ← mul_assoc (x d), add_assoc, halves _ (by positivity), mul_comm (r : EReal)]

/-- The two forms of the norm's derivative, of channels `x` whose mean square is `M`. -/
theorem apart (x g : Fin 1024 → EReal) {M : EReal} (hM : 0 < M) (d : Fin 1024) :
    g d * Ideal.rsqrt M
        + x d * Ideal.div ((∑ k : Fin 1024, x k * g k) * (mhalf * Ideal.div (Ideal.rsqrt M) M)) chans
        + Ideal.div ((∑ k : Fin 1024, x k * g k) * (mhalf * Ideal.div (Ideal.rsqrt M) M)) chans * x d
      = Ideal.rsqrt M * (g d - x d * Ideal.rsqrt M * Ideal.div (∑ k : Fin 1024, g k * (x k * Ideal.rsqrt M)) chans) := by
  induction M using EReal.rec with
  | bot => exact absurd hM (by simp)
  | top =>
    have h0 : Ideal.rsqrt ⊤ = 0 := rfl
    have h1 : Ideal.div 0 ⊤ = 0 := by unfold Ideal.div; simp
    have h2 : Ideal.div 0 chans = 0 := by rw [chans_eq, Ideal.div_coe (by norm_num), zero_mul]
    simp only [h0, h1, h2, mul_zero, zero_mul, add_zero]
  | coe M =>
    have hM : 0 < M := EReal.coe_pos.mp hM
    rw [Ideal.rsqrt_coe, if_neg (not_lt.mpr hM.le), if_neg hM.ne']
    exact apart_pos x g hM d

/-- The norm's derivative, taken apart into the factor's and the mean square's, is what the kernel computes. -/
theorem dxn_apart (a : Args) (b : Fin 4) (t : Fin 2304) (d : Fin 1024) :
    a.dx (ix3 b t d) + (dxh a b t d * rs a b t
        + a.x (ix3 b t d) * Ideal.div ((∑ k : Fin 1024, a.x (ix3 b t k) * dxh a b t k) * (mhalf * Ideal.div (rs a b t) (ms a b t))) chans
        + Ideal.div ((∑ k : Fin 1024, a.x (ix3 b t k) * dxh a b t k) * (mhalf * Ideal.div (rs a b t) (ms a b t))) chans * a.x (ix3 b t d))
      = dxn a b t d :=
  congrArg (a.dx (ix3 b t d) + ·) (apart (fun k => a.x (ix3 b t k)) (dxh a b t) (mean_pos fun k => a.x (ix3 b t k)) d)

end Cert.Mlp

end
-- ==== Proof.MlpRef.lean ====
module

public import proofs.«01_k».proof.Proof.Gen.Reference2Ideal.Read
public import proofs.«01_k».proof.Proof.Gen.Reference2Ideal.Run
public import proofs.«01_k».proof.Proof.MlpReal
public import Idealize.ShloMosaic.Lib.Pipeline.ValueKit

/-! # What the mixing layer's reference computes

The plain program's arrays, read at one element: the same quantities of the specification. Its arrays have the latent tokens only;
token `s` of them is token `256 + s` of the arguments. -/

@[expose] public section

set_option maxRecDepth 16384

noncomputable section

namespace Cert.Reference2Ideal.Stage

open Cert.Reference2Ideal Cert.Reference2Ideal.Gen Cert.Reference2Ideal.Read Cert.Mlp Idealize.ShloMosaic Idealize.ShloMosaic.TcCoe Idealize.SL.Sem

variable (a : Args)

/-- The latent token's place among all tokens. -/
abbrev lt (s : Fin 2048) : Fin 2304 := ⟨256 + s.val, by omega⟩

theorem lt_sub {t : Fin 2304} (h : ¬ t.val < 256) : lt ⟨t.val - 256, by omega⟩ = t := Fin.ext (by dsimp only; omega)

theorem w1_at (d : Fin 1024) (n : Fin 4096) : val_main_v22 (F := Ideal) a.w1 (ix2 d n) = wa a d n := by
  pointwise [val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5]
  exact ladder (fun s k => a.w1 (ix3 s d k)) n

theorem ms_at (b : Fin 4) (s : Fin 2048) : val_main_v34 (F := Ideal) a.x (ix3 b s 0) = ms a b (lt s) := by
  pointwise [val_main_v34, val_main_v33, val_main_v32, val_main_v31, val_main_v30, val_main_v29, val_main_v28, val_main_v24, val_main_cst, val_main_cst_0, val_main_cst_1]
  rfl
theorem rs_at (b : Fin 4) (s : Fin 2048) : val_main_v35 (F := Ideal) a.x (ix3 b s 0) = rs a b (lt s) := by
  pointwise [val_main_v35]
  rw [ms_at]
  rfl

theorem xh_at (b : Fin 4) (s : Fin 2048) (d : Fin 1024) : val_main_v40 (F := Ideal) a.x (ix3 b s d) = xh a b (lt s) d := by
  pointwise [val_main_v40, val_main_v39, val_main_v24]
  rw [rs_at]
  rfl
theorem gain_at (b : Fin 4) (s : Fin 2048) (d : Fin 1024) : val_main_v43 (F := Ideal) a.x a.gn (ix3 b s d) = xh a b (lt s) d * gain a d := by
  pointwise [val_main_v43, val_main_v42, val_main_v41, val_main_v27, val_main_v26]
  rw [xh_at]
  rfl
theorem scale_at (b : Fin 4) (s : Fin 2048) (d : Fin 1024) : val_main_v46 (F := Ideal) a.md (ix3 b s d) = scale a b d := by
  pointwise [val_main_v46, val_main_v45, val_main_v44, val_main_cst_3, val_main_v3, val_main_v1, val_main_v0]
  have e1 : ∀ h, (⟨3072 + (1024 + d.val), h⟩ : Fin 6144) = ⟨4096 + d.val, by omega⟩ := fun h => Fin.ext (by dsimp only; omega)
  simp only [e1]
  rfl
theorem hid_at (b : Fin 4) (s : Fin 2048) (d : Fin 1024) : val_main_v49 (F := Ideal) a.x a.gn a.md (ix3 b s d) = hid a b (lt s) d := by
  pointwise [val_main_v49, val_main_v48, val_main_v47, val_main_v2, val_main_v1, val_main_v0]
  rw [gain_at, scale_at]
  rfl

theorem up_at (b : Fin 4) (s : Fin 2048) (n : Fin 4096) : val_main_v50 (F := Ideal) a.x a.gn a.md a.w1 (ix3 b s n) = up a b (lt s) n := by
  pointwise [val_main_v50]
  simp only [hid_at, w1_at]
  rfl
theorem act_at (b : Fin 4) (s : Fin 2048) (n : Fin 4096) : val_main_v51 (F := Ideal) a.x a.gn a.md a.w1 (ix3 b s n) = act a b (lt s) n := by
  pointwise [val_main_v51, val_main_call0_v0, val_main_call0_cst]
  rw [up_at]
  rfl
theorem mo_at (b : Fin 4) (s : Fin 2048) (d : Fin 1024) : val_main_v58 (F := Ideal) a.x a.gn a.md a.w1 a.w2 (ix3 b s d) = mo a b (lt s) d := by
  pointwise [val_main_v58, val_main_v55, val_main_v23]
  simp only [act_at]
  rfl

theorem dout_at (b : Fin 4) (s : Fin 2048) (d : Fin 1024) : val_main_v62 (F := Ideal) a.dx a.md (ix3 b s d) = dout a b (lt s) d := by
  pointwise [val_main_v62, val_main_v61, val_main_v25, val_main_v4, val_main_v1, val_main_v0]
  have e1 : ∀ h, (⟨3072 + (2048 + d.val), h⟩ : Fin 6144) = ⟨5120 + d.val, by omega⟩ := fun h => Fin.ext (by dsimp only; omega)
  simp only [e1]
  exact mul_comm _ _
theorem da_at (b : Fin 4) (s : Fin 2048) (n : Fin 4096) :
    val_main_v69 (F := Ideal) a.x a.dx a.gn a.md a.w1 a.w2 (ix3 b s n) = da a b (lt s) n := by
  pointwise [val_main_v69, val_main_v68, val_main_v67, val_main_v66, val_main_v57, val_main_v56, val_main_v53, val_main_v52, val_main_v51, val_main_call0_v0, val_main_call0_cst, val_main_v23, val_main_cst_4, val_main_cst_6, val_main_cst_8]
  simp only [up_at, dout_at]
  exact ramp _ _
theorem dh_at (b : Fin 4) (s : Fin 2048) (d : Fin 1024) :
    val_main_v70 (F := Ideal) a.x a.dx a.gn a.md a.w1 a.w2 (ix3 b s d) = dh a b (lt s) d := by
  pointwise [val_main_v70]
  simp only [da_at, w1_at]
  rfl

theorem dhs_at (b : Fin 4) (s : Fin 2048) (d : Fin 1024) :
    val_main_v77 (F := Ideal) a.x a.dx a.gn a.md a.w1 a.w2 (ix3 b s d) = dh a b (lt s) d * scale a b d := by
  pointwise [val_main_v77, val_main_v76, val_main_v45, val_main_v44, val_main_cst_3, val_main_v3, val_main_v1, val_main_v0]
  have e1 : ∀ h, (⟨3072 + (1024 + d.val), h⟩ : Fin 6144) = ⟨4096 + d.val, by omega⟩ := fun h => Fin.ext (by dsimp only; omega)
  simp only [e1, dh_at]
  rfl
theorem dxh_at (b : Fin 4) (s : Fin 2048) (d : Fin 1024) :
    val_main_v82 (F := Ideal) a.x a.dx a.gn a.md a.w1 a.w2 (ix3 b s d) = dxh a b (lt s) d := by
  pointwise [val_main_v82, val_main_v81, val_main_v41, val_main_v27, val_main_v26]
  rw [dhs_at]
  rfl

/-! ## The results -/

theorem dxn_at (b : Fin 4) (s : Fin 2048) (d : Fin 1024) :
    val_main_v99 (F := Ideal) a.x a.dx a.gn a.md a.w1 a.w2 (ix3 b s d) = dxn a b (lt s) d := by
  pointwise [val_main_v99, val_main_v97, val_main_v96, val_main_v95, val_main_v94, val_main_v93, val_main_v92, val_main_v91, val_main_v90, val_main_v89, val_main_v88, val_main_v87, val_main_v86, val_main_v85, val_main_v84, val_main_v38, val_main_v37, val_main_v36, val_main_v25, val_main_v24, val_main_cst_2, val_main_cst_13, val_main_cst_14, val_main_cst_15]
  simp only [Fin.sum_univ_one, Fin.isValue, dxh_at, rs_at, ms_at]
  exact dxn_apart a b (lt s) d
theorem dx1_at (b : Fin 4) (t : Fin 2304) (d : Fin 1024) :
    val_main_v100 (F := Ideal) a.x a.dx a.gn a.md a.w1 a.w2 (ix3 b t d) = dxa a b t d := by
  pointwise [val_main_v100, val_main_v98]
  unfold dxa
  by_cases h : t.val < 256
  · rw [dif_pos h, if_pos h]
  · rw [dif_neg h, if_neg h, dxn_at a, lt_sub h]
theorem h_at (b : Fin 4) (t : Fin 2304) (d : Fin 1024) : val_main_v107 (F := Ideal) a.x a.gn a.md (ix3 b t d) = lat (hid a) b t d := by
  pointwise [val_main_v107, val_main_v106, val_main_v105, val_main_cst_17]
  unfold lat
  by_cases h : t.val < 256
  · rw [dif_pos h, if_pos h]
  · rw [dif_neg h, if_neg h, hid_at, lt_sub h]
theorem hda_at (b : Fin 4) (t : Fin 2304) (n : Fin 4096) :
    val_main_v110 (F := Ideal) a.x a.dx a.gn a.md a.w1 a.w2 (ix3 b t n) = lat (da a) b t n := by
  pointwise [val_main_v110, val_main_v109, val_main_v108, val_main_cst_18]
  unfold lat
  by_cases h : t.val < 256
  · rw [dif_pos h, if_pos h]
  · rw [dif_neg h, if_neg h, da_at, lt_sub h]
theorem hdout_at (b : Fin 4) (t : Fin 2304) (d : Fin 1024) : val_main_v113 (F := Ideal) a.dx a.md (ix3 b t d) = lat (dout a) b t d := by
  pointwise [val_main_v113, val_main_v112, val_main_v111, val_main_cst_19]
  unfold lat
  by_cases h : t.val < 256
  · rw [dif_pos h, if_pos h]
  · rw [dif_neg h, if_neg h, dout_at, lt_sub h]
theorem dmod_at (i : Fin 8) (e : Fin 3072) : val_main_v104 (F := Ideal) a.x a.dx a.gn a.md a.w1 a.w2 (ix2 i e) = dmod a i e := by
  pointwise [val_main_v104, val_main_v103, val_main_v102, val_main_v101, val_main_v72, val_main_v75, val_main_v65, val_main_v71, val_main_v74, val_main_v64, val_main_v73, val_main_v63, val_main_v25, val_main_cst_16, val_main_cst_7, val_main_cst_9, val_main_cst_10]
  simp only [dh_at, gain_at, mo_at]
  unfold dmod mterm
  by_cases h : i.val < 4
  · rw [dif_pos h, dif_pos h]
    by_cases h1 : e.val < 1024
    · simp only [dif_pos h1]
    · simp only [dif_neg h1]
      by_cases h2 : e.val - 1024 < 1024
      · simp only [dif_pos h2]
        exact Finset.sum_congr rfl fun s _ => mul_comm _ _
      · simp only [dif_neg h2]
  · rw [dif_neg h, dif_neg h]

/-- A sum over the first two of three axes. -/
theorem sum01 (x : FVec Ideal S4x2048x1024 .f32) (init : EReal) (d : Fin 1024) :
    Ideal.hostReduceAdd reducesTo_S4x2048x1024_S1024_d0_1 x init (ix1 d) = init + ∑ b : Fin 4, ∑ s : Fin 2048, x (ix3 b s d) := by
  refine congrArg (init + ·) ?_
  refine (Finset.sum_filter_eq_sum_of_fiber _ (fun k : Fin 4 × Fin 2048 => (ix3 k.1 k.2 d : S4x2048x1024.Idx))
    (fun _ _ e => Prod.ext (congrFun e 0) (congrFun e 1)) (fun i => ⟨fun e => ⟨(i 0, i 1), ?_⟩, ?_⟩) x).trans ?_
  · funext k; apply Fin.ext
    match k with
    | ⟨0, _⟩ => rfl
    | ⟨1, _⟩ => rfl
    | ⟨2, _⟩ => exact (congrArg Fin.val (congrFun e 0)).symm
  · rintro ⟨k, rfl⟩
    funext j; apply Fin.ext
    match j with
    | ⟨0, _⟩ => rfl
  · simp only [Fintype.sum_prod_type]
theorem sum01' (x : FVec Ideal S1x1x1024 .f32) (init : EReal) (d : Fin 1024) :
    Ideal.hostReduceAdd reducesTo_S1x1x1024_S1024_d0_1 x init (ix1 d) = init + x (ix3 0 0 d) := by
  refine congrArg (init + ·) ?_
  refine (Finset.sum_filter_eq_sum_of_fiber _ (fun k : Fin 1 × Fin 1 => (ix3 k.1 k.2 d : S1x1x1024.Idx))
    (fun _ _ e => Prod.ext (congrFun e 0) (congrFun e 1)) (fun i => ⟨fun e => ⟨(i 0, i 1), ?_⟩, ?_⟩) x).trans ?_
  · funext k; apply Fin.ext
    match k with
    | ⟨0, _⟩ => rfl
    | ⟨1, _⟩ => rfl
    | ⟨2, _⟩ => exact (congrArg Fin.val (congrFun e 0)).symm
  · rintro ⟨k, rfl⟩
    funext j; apply Fin.ext
    match j with
    | ⟨0, _⟩ => rfl
  · simp only [Fintype.sum_prod_type, Fin.sum_univ_one, Fin.isValue]
theorem g_at (b : Fin 4) (s : Fin 2048) (d : Fin 1024) :
    val_main_v78 (F := Ideal) a.x a.dx a.gn a.md a.w1 a.w2 (ix3 b s d) = gterm a b (lt s) d := by
  pointwise [val_main_v78]
  rw [xh_at, dhs_at]
  exact mul_comm _ _
theorem dgn_at (i : Fin 8) (d : Fin 1024) : val_main_v116 (F := Ideal) a.x a.dx a.gn a.md a.w1 a.w2 (ix2 i d) = dgn a i d := by
  pointwise [val_main_v116, val_main_v115, val_main_v114, val_main_v83, val_main_v80, val_main_v79, val_main_cst_20, val_main_cst_11, val_main_cst_12]
  unfold dgn
  by_cases h : i.val = 0
  · rw [dif_pos (by omega), if_pos h, sum01']
    pointwise []
    rw [sum01, zero_add]
    exact Finset.sum_congr rfl fun b _ => Finset.sum_congr rfl fun s _ => g_at a b s d
  · rw [dif_neg (by omega), if_neg h]

/-! ## The run -/

theorem ext3 {K : ℕ} {X : Shape.Idx ⟨3, ![4, 2304, K]⟩ → EReal} {f : Fin 4 → Fin 2304 → Fin K → EReal}
    (h : ∀ b t k, X (ix3 b t k) = f b t k) : X = fun i => f (i 0) (i 1) (i 2) := by
  funext i
  have hi : i = ix3 (i 0) (i 1) (i 2) := by blk_ext []
  exact (congrArg X hi).trans (h (i 0) (i 1) (i 2))
theorem ext2 {K : ℕ} {X : Shape.Idx ⟨2, ![8, K]⟩ → EReal} {f : Fin 8 → Fin K → EReal}
    (h : ∀ i k, X (ix2 i k) = f i k) : X = fun i => f (i 0) (i 1) := by
  funext i
  have hi : i = ix2 (i 0) (i 1) := by blk_ext []
  exact (congrArg X hi).trans (h (i 0) (i 1))

variable (m : (ℓ : Loc nD τ sig) → Buf (Elt Ideal) ℓ)

/-- A device's arguments. -/
abbrev ar (c : Dev nD) : Args :=
  ⟨m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5)⟩

/-- The reference's run, with every result named. -/
theorem run_values (g : Dev nD → PrngReg) :
    θ_run defs (onTc (τ := τ) (main (F := Ideal))) ⟨m, fun _ => 0, g⟩ fun r => ∀ c : Dev nD,
      r.2.mem ((c : Thread nD τ).loc main_v100) = (fun i => dxa (ar m c) (i 0) (i 1) (i 2))
      ∧ r.2.mem ((c : Thread nD τ).loc main_v107) = (fun i => lat (hid (ar m c)) (i 0) (i 1) (i 2))
      ∧ r.2.mem ((c : Thread nD τ).loc main_v110) = (fun i => lat (da (ar m c)) (i 0) (i 1) (i 2))
      ∧ r.2.mem ((c : Thread nD τ).loc main_v113) = (fun i => lat (dout (ar m c)) (i 0) (i 1) (i 2))
      ∧ r.2.mem ((c : Thread nD τ).loc main_v104) = (fun i => dmod (ar m c) (i 0) (i 1))
      ∧ r.2.mem ((c : Thread nD τ).loc main_v116) = (fun i => dgn (ar m c) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run _ _ _).mono (fun r h c => ?_) (Cert.Reference2Ideal.Value.run (F := Ideal) m g)
  obtain ⟨e100, e107, e110, e113, e104, e116, hk⟩ := h c
  exact ⟨(e100.trans (val_main_v100_eq m c)).trans (ext3 (dx1_at (ar m c))),
    (e107.trans (val_main_v107_eq _ _ _)).trans (ext3 (h_at (ar m c))),
    (e110.trans (val_main_v110_eq m c)).trans (ext3 (hda_at (ar m c))),
    (e113.trans (val_main_v113_eq _ _)).trans (ext3 (hdout_at (ar m c))),
    (e104.trans (val_main_v104_eq m c)).trans (ext2 (dmod_at (ar m c))),
    (e116.trans (val_main_v116_eq m c)).trans (ext2 (dgn_at (ar m c))),
    hk⟩

end Cert.Reference2Ideal.Stage

end
-- ==== Proof.MlpEquation.lean ====
module

public import proofs.«01_k».proof.Defs
public import proofs.«01_k».proof.Proof.MlpValues
public import proofs.«01_k».proof.Proof.MlpRef

/-! # The mixing layer's equation

Both programs leave the specification's six arrays. -/

@[expose] public section

set_option maxRecDepth 16384
set_option maxHeartbeats 1600000

noncomputable section

namespace Cert.Proof

open Cert.Mlp Idealize.ShloMosaic Idealize.ShloMosaic.TcCoe Idealize.SL.Sem

/-- Kernel and reference compute the same six arrays over the extended reals. -/
theorem mlp_bwd : @Cert.algebraic_Kernel2Ideal_Reference2Ideal Cert.Kernel2Ideal.Gen.facts Cert.Reference2Ideal.Gen.facts := by
  intro m g m' g' _ hargs
  have e : ∀ c, Cert.Reference2Ideal.Stage.ar m' c = Cert.Kernel2Ideal.Blocks.ar m c := fun c => by
    obtain ⟨h0, h1, h2, h3, h4, h5⟩ := hargs c
    unfold Cert.Reference2Ideal.Stage.ar Cert.Kernel2Ideal.Blocks.ar
    rw [h0, h1, h2, h3, h4, h5]
  refine ⟨fun c i => dxa (Cert.Kernel2Ideal.Blocks.ar m c) (i 0) (i 1) (i 2),
    fun c i => lat (hid (Cert.Kernel2Ideal.Blocks.ar m c)) (i 0) (i 1) (i 2),
    fun c i => lat (da (Cert.Kernel2Ideal.Blocks.ar m c)) (i 0) (i 1) (i 2),
    fun c i => lat (dout (Cert.Kernel2Ideal.Blocks.ar m c)) (i 0) (i 1) (i 2),
    fun c i => dmod (Cert.Kernel2Ideal.Blocks.ar m c) (i 0) (i 1),
    fun c i => dgn (Cert.Kernel2Ideal.Blocks.ar m c) (i 0) (i 1), ?_, ?_⟩
  · exact Cert.Kernel2Ideal.Blocks.run_values m g
  · refine (θ_run _ _ _).mono (fun r h c => ?_) (Cert.Reference2Ideal.Stage.run_values m' g')
    have := h c
    rw [e c] at this
    exact this

end Cert.Proof

end
-- ==== Proof.Inp.lean ====
module

public import proofs.«01_k».proof.Proof.MlpReal

/-! # What the backward pass of the input projection computes

Every quantity of the first norm's and the input projection's backward pass as a function of the arguments, one array element at a
time. The projection's cotangent comes in three parts side by side; a context token takes its shift and scale from row 4 of the
modulation, a latent token from its batch element's row. Both programs are shown to leave these values. -/

@[expose] public section

noncomputable section

namespace Cert.Inp

open Idealize.ShloMosaic Cert.Mlp

/-- The eight arguments: the three parts of the projection's cotangent, the projection's weight, the norm's input, the cotangent that
passes the layer by, the norms' gains, the modulation's rows. -/
structure Args where
  zq : FVec Ideal ⟨3, ![4, 2304, 1280]⟩ .bf16
  zu : FVec Ideal ⟨3, ![4, 2304, 256]⟩ .bf16
  zg : FVec Ideal ⟨3, ![4, 2304, 3072]⟩ .bf16
  w : FVec Ideal ⟨2, ![1024, 4608]⟩ .bf16
  x : FVec Ideal ⟨3, ![4, 2304, 1024]⟩ .f32
  dx : FVec Ideal ⟨3, ![4, 2304, 1024]⟩ .f32
  gn : FVec Ideal ⟨2, ![2, 1024]⟩ .f32
  md : FVec Ideal ⟨2, ![8, 6144]⟩ .f32

/-- The gains with layer `l`'s in every row: the specification reads the first. -/
def pick (l : Fin 2) (gn : FVec Ideal ⟨2, ![2, 1024]⟩ .f32) : FVec Ideal ⟨2, ![2, 1024]⟩ .f32 := fun i => gn (ix2 l (i 1))

variable (a : Args) (b : Fin 4) (t : Fin 2304)

/-- A token's row of the modulation. -/
def row (b : Fin 4) (t : Fin 2304) : Fin 8 := if t.val < 256 then 4 else ⟨b.val, by omega⟩
/-- The projection's cotangent. -/
def dz (n : Fin 4608) : EReal :=
  if h : n.val < 1280 then a.zq (ix3 b t ⟨n.val, h⟩)
  else if h : n.val - 1280 < 256 then a.zu (ix3 b t ⟨n.val - 1280, h⟩)
  else a.zg (ix3 b t ⟨n.val - 1280 - 256, by omega⟩)
/-- The cotangent of the modulated input. -/
def dh (d : Fin 1024) : EReal := ∑ n : Fin 4608, dz a b t n * a.w (ix2 d n)
/-- The mean square with the norm's offset, the norm's factor, the normalised input. -/
def ms : EReal := Ideal.div (∑ d : Fin 1024, a.x (ix3 b t d) * a.x (ix3 b t d)) chans + eps
def rs : EReal := Ideal.rsqrt (ms a b t)
def xh (d : Fin 1024) : EReal := a.x (ix3 b t d) * rs a b t
/-- The gain and the scale. -/
def gain (d : Fin 1024) : EReal := a.gn (ix2 0 d)
def scale (i : Fin 8) (d : Fin 1024) : EReal := 1 + a.md (ix2 i ⟨1024 + d.val, by omega⟩)
/-- The cotangent of the normalised input. -/
def dxh (d : Fin 1024) : EReal := dh a b t d * scale a (row b t) d * gain a d
/-- The cotangent of the input: what passes the layer by, and what comes back through it. -/
def dxn (d : Fin 1024) : EReal :=
  a.dx (ix3 b t d) + rs a b t * (dxh a b t d - xh a b t d * Ideal.div (∑ k : Fin 1024, dxh a b t k * xh a b t k) chans)

/-- A token's share in the cotangents of its shift and its scale, side by side. -/
def mterm (e : Fin 2048) : EReal :=
  if h : e.val < 1024 then dh a b t ⟨e.val, h⟩
  else dh a b t ⟨e.val - 1024, by omega⟩ * (xh a b t ⟨e.val - 1024, by omega⟩ * gain a ⟨e.val - 1024, by omega⟩)
/-- A token's share in the gain's cotangent. -/
def gterm (k : Fin 1024) : EReal := dh a b t k * scale a (row b t) k * xh a b t k

/-- The cotangent of the latent tokens' input. -/
def dx0 (b : Fin 4) (s : Fin 2048) (d : Fin 1024) : EReal := dxn a b ⟨256 + s.val, by omega⟩ d
/-- The modulation rows' cotangent: a batch element's latent tokens sum into its own row, all context tokens into row 4. -/
def dmod (i : Fin 8) (e : Fin 2048) : EReal :=
  if h : i.val < 4 then ∑ s : Fin 2048, mterm a ⟨i.val, h⟩ ⟨256 + s.val, by omega⟩ e
  else if i.val < 5 then ∑ b : Fin 4, ∑ s : Fin 256, mterm a b ⟨s.val, by omega⟩ e else 0
/-- The gain's cotangent, in the first of eight rows. -/
def dgn (i : Fin 8) (k : Fin 1024) : EReal :=
  if i.val = 0 then ∑ b : Fin 4, ((∑ s : Fin 2048, gterm a b ⟨256 + s.val, by omega⟩ k) + ∑ s : Fin 256, gterm a b ⟨s.val, by omega⟩ k) else 0

/-- The norm's derivative, taken apart, is what the kernel computes. -/
theorem dxn_apart (d : Fin 1024) :
    a.dx (ix3 b t d) + (dxh a b t d * rs a b t
        + a.x (ix3 b t d) * Ideal.div ((∑ k : Fin 1024, a.x (ix3 b t k) * dxh a b t k) * (mhalf * Ideal.div (rs a b t) (ms a b t))) chans
        + Ideal.div ((∑ k : Fin 1024, a.x (ix3 b t k) * dxh a b t k) * (mhalf * Ideal.div (rs a b t) (ms a b t))) chans * a.x (ix3 b t d))
      = dxn a b t d :=
  congrArg (a.dx (ix3 b t d) + ·) (apart (fun k => a.x (ix3 b t k)) (dxh a b t) (mean_pos fun k => a.x (ix3 b t k)) d)

end Cert.Inp

end
-- ==== Proof.InpBlocks.lean ====
module

public import proofs.«01_k».proof.Proof.Gen.Kernel8Ideal.Value
public import proofs.«01_k».proof.Proof.Inp
public import Idealize.ShloMosaic.Lib.Pipeline.ValueKit

/-! # What a grid point of the input projection's launch reads and computes

Point `t` of the grid works on batch element `t / 9` and on the 256 tokens from `256 (t % 9)` on; the first 256 tokens are
the context's. -/

@[expose] public section

set_option maxRecDepth 16384

noncomputable section

namespace Cert.Kernel8Ideal.Blocks

open Cert.Kernel8Ideal Cert.Kernel8Ideal.Gen Cert.Inp Idealize.ShloMosaic Idealize.ShloMosaic.TcCoe Idealize.SL.Sem
open Cert.Mlp (chans eps)

variable (m : (ℓ : Loc nD τ sig) → Buf (Elt Ideal) ℓ)

/-- The arguments a device's memory holds. -/
abbrev ar (c : Dev nD) : Args :=
  ⟨m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5),
    m ((c : Thread nD τ).loc main_arg6), m ((c : Thread nD τ).loc main_arg7)⟩

/-- The batch element of a grid point, and the token of row `r` of its blocks. -/
def bt (t : Fin cfg0.N) : Fin 4 := ⟨t.val / 9, by have := t.isLt; have h : cfg0.N = 36 := N_0; omega⟩
def tk (t : Fin cfg0.N) (r : Fin 256) : Fin 2304 := ⟨t.val % 9 * 256 + r.val, by omega⟩
/-- Its modulation row. -/
def rw_ (t : Fin cfg0.N) : Fin 8 := if t.val % 9 = 0 then 4 else ⟨t.val / 9, by have := t.isLt; have h : cfg0.N = 36 := N_0; omega⟩

theorem row_eq (t : Fin cfg0.N) (r : Fin 256) : row (bt t) (tk t r) = rw_ t := by
  unfold row rw_ bt tk
  by_cases h : t.val % 9 = 0
  · rw [if_pos h, if_pos (by have := r.isLt; dsimp only; omega)]
  · rw [if_neg h, if_neg (by dsimp only; omega)]

theorem idx : ∀ t : Fin cfg0.N,
    win0_0.index t = ![t.val / 9, t.val % 9, 0] ∧ win0_1.index t = ![t.val / 9, t.val % 9, 0]
    ∧ win0_2.index t = ![t.val / 9, t.val % 9, 0] ∧ win0_3.index t = ![0, 0] ∧ win0_4.index t = ![t.val / 9, t.val % 9, 0]
    ∧ win0_5.index t = ![t.val / 9, t.val % 9, 0] ∧ win0_6.index t = ![0, 0, 0] ∧ win0_7.index t = ![0, 0] :=
  (by decide +kernel : ∀ t : Fin grid0.N, _)

theorem idx_out : ∀ t : Fin cfg0.N,
    win0_8.index t = ![t.val / 9, t.val % 9 - 1, 0] ∧ win0_9.index t = ![t.val / 9, t.val % 9, 0]
    ∧ win0_10.index t = ![0, 0] ∧ win0_11.index t = ![0, 0] :=
  (by decide +kernel : ∀ t : Fin grid0.N, _)

/-- Where a point finds its row of the modulation and of the modulation's cotangent. -/
theorem off1' : ∀ t : Fin cfg0.N, k0_off1 (grid0.coords t) = ![if t.val % 9 = 0 then 4 else t.val / 9, 1024] :=
  (by decide +kernel : ∀ t : Fin grid0.N, _)
theorem off2' : ∀ t : Fin cfg0.N, k0_off2 (grid0.coords t) = ![if t.val % 9 = 0 then 4 else t.val / 9, 0] :=
  (by decide +kernel : ∀ t : Fin grid0.N, _)
theorem rw_val (t : Fin cfg0.N) : (rw_ t).val = if t.val % 9 = 0 then 4 else t.val / 9 := by unfold rw_; split <;> rfl
theorem off1 (t : Fin cfg0.N) : k0_off1 (grid0.coords t) = ![(rw_ t).val, 1024] := by rw [off1' t, rw_val]
theorem off2 (t : Fin cfg0.N) : k0_off2 (grid0.coords t) = ![(rw_ t).val, 0] := by rw [off2' t, rw_val]

/-! ## The blocks -/

theorem blk0 (c : Dev nD) (t : Fin cfg0.N) (r : Fin 256) (k : Fin 1280) :
    (iblk m c 0 t : Vec Ideal S1x256x1280 .bf16) (ix3 0 r k) = (ar m c).zq (ix3 (bt t) (tk t r) k) := by
  blk_point [iblk, V_main_arg0, idx t, bt, tk]
theorem blk1 (c : Dev nD) (t : Fin cfg0.N) (r : Fin 256) (k : Fin 256) :
    (iblk m c 1 t : Vec Ideal S1x256x256 .bf16) (ix3 0 r k) = (ar m c).zu (ix3 (bt t) (tk t r) k) := by
  blk_point [iblk, V_main_arg1, idx t, bt, tk]
theorem blk2 (c : Dev nD) (t : Fin cfg0.N) (r : Fin 256) (k : Fin 3072) :
    (iblk m c 2 t : Vec Ideal S1x256x3072 .bf16) (ix3 0 r k) = (ar m c).zg (ix3 (bt t) (tk t r) k) := by
  blk_point [iblk, V_main_arg2, idx t, bt, tk]
theorem blk3 (c : Dev nD) (t : Fin cfg0.N) (d : Fin 1024) (n : Fin 4608) :
    (iblk m c 3 t : Vec Ideal S1024x4608 .bf16) (ix2 d n) = (ar m c).w (ix2 d n) := by
  blk_point [iblk, V_main_arg3, idx t]
theorem blk4 (c : Dev nD) (t : Fin cfg0.N) (r : Fin 256) (k : Fin 1024) :
    (iblk m c 4 t : Vec Ideal S1x256x1024 .f32) (ix3 0 r k) = (ar m c).x (ix3 (bt t) (tk t r) k) := by
  blk_point [iblk, V_main_arg4, idx t, bt, tk]
theorem blk5 (c : Dev nD) (t : Fin cfg0.N) (r : Fin 256) (k : Fin 1024) :
    (iblk m c 5 t : Vec Ideal S1x256x1024 .f32) (ix3 0 r k) = (ar m c).dx (ix3 (bt t) (tk t r) k) := by
  blk_point [iblk, V_main_arg5, idx t, bt, tk]
theorem gn_at (c : Dev nD) (i : Fin 2) (n : Fin 1024) : V m c main_v0 (ix3 i 0 n) = m ((c : Thread nD τ).loc main_arg6) (ix2 i n) := by
  entry_read
  pointwise []
theorem blk6' (c : Dev nD) (t : Fin cfg0.N) (k : Fin 1024) :
    (iblk m c 6 t : Vec Ideal S1x1x1024 .f32) (ix3 0 0 k) = V m c main_v0 (ix3 0 0 k) := by
  blk_point [iblk, idx t]
theorem blk6 (c : Dev nD) (t : Fin cfg0.N) (k : Fin 1024) :
    (iblk m c 6 t : Vec Ideal S1x1x1024 .f32) (ix3 0 0 k) = gain (ar m c) k :=
  (blk6' m c t k).trans (gn_at m c 0 k)
theorem scale_at (c : Dev nD) (t : Fin cfg0.N) (k : Fin 1024) (h) :
    View.ld (iblk m c 7 t : Vec Ideal S8x6144 .f32) (Rect.unit (s := S8x6144) (k0_off1 (grid0.coords t)) ![1, 1024] h) (ix2 0 k)
      = (ar m c).md (ix2 (rw_ t) ⟨1024 + k.val, by omega⟩) := by
  pointwise []
  blk_point [iblk, V_main_arg7, idx t, off1 t]

/-! ## The payloads, at one element -/

theorem pay1_at (v48 : FVec Ideal S1x1024 .f32) (v74 : Vec Ideal S1x1024 .f32) (d : Fin 1024) :
    k0_pay1 v48 v74 (ix2 0 d) = v74 (ix2 0 d) + v48 (ix2 0 d) := by pointwise [k0_pay1]
theorem pay2_at (i : Fin 8) (d : Fin 2048) : k0_pay2 (F := Ideal) (ix2 i d) = 0 := by pointwise [k0_pay2]
theorem pay3_at (i : Fin 8) (d : Fin 1024) : k0_pay3 (F := Ideal) (ix2 i d) = 0 := by pointwise [k0_pay3]
theorem pay4_at (v7 : Vec Ideal S1x256x1280 .bf16) (v9 : Vec Ideal S1x256x256 .bf16) (v11 : Vec Ideal S1x256x3072 .bf16) (r : Fin 256) (n : Fin 4608) :
    k0_pay4 v7 v9 v11 (ix2 r n) = if h : n.val < 1280 then v7 (ix3 0 r ⟨n.val, h⟩)
      else if h : n.val - 1280 < 256 then v9 (ix3 0 r ⟨n.val - 1280, h⟩)
      else v11 (ix3 0 r ⟨n.val - 1280 - 256, by omega⟩) := by
  pointwise [k0_pay4]
theorem pay5_at (v7 : Vec Ideal S1x256x1280 .bf16) (v9 : Vec Ideal S1x256x256 .bf16) (v11 : Vec Ideal S1x256x3072 .bf16) (r : Fin 256) (n : Fin 4608) :
    k0_pay5 v7 v9 v11 (ix3 0 r n) = k0_pay4 v7 v9 v11 (ix2 r n) := by
  pointwise [k0_pay5]
theorem pay6_at (v7 : Vec Ideal S1x256x1280 .bf16) (v9 : Vec Ideal S1x256x256 .bf16) (v11 : Vec Ideal S1x256x3072 .bf16) (v17 : Vec Ideal S1024x4608 .bf16)
    (r : Fin 256) (d : Fin 1024) :
    k0_pay6 v7 v9 v11 v17 (ix2 r d) = ∑ n : Fin 4608, k0_pay4 v7 v9 v11 (ix2 r n) * v17 (ix2 d n) := by
  pointwise [k0_pay6]
theorem pay7_at (v : Vec Ideal S1x1x1024 .f32) (d : Fin 1024) : k0_pay7 v (ix2 0 d) = v (ix3 0 0 d) := by pointwise [k0_pay7]
theorem pay8_at (v : Vec Ideal S1x256x1024 .f32) (r : Fin 256) (d : Fin 1024) : k0_pay8 v (ix2 r d) = v (ix3 0 r d) := by pointwise [k0_pay8]
theorem pay10_at (v : Vec Ideal S1x256x1024 .f32) (r : Fin 256) :
    k0_pay10 (k0_pay9 v) (ix2 r 0) = Ideal.rsqrt (Ideal.div (∑ x : Fin 1024, v (ix3 0 r x) * v (ix3 0 r x)) chans + eps) := by
  pointwise [k0_pay10, k0_pay9, k0_pay8]

section
variable (v18 : FVec Ideal S256x1024 .f32) (v20 : FVec Ideal S1x1024 .f32) (v22 : Vec Ideal S1x1024 .f32) (v24 : FVec Ideal S256x1024 .f32)
  (v27 : FVec Ideal S256x1 .f32) (v61 : Vec Ideal S1x256x1024 .f32) (v68 : Vec Ideal S1x2048 .f32)

theorem pay11_at (r : Fin 256) (d : Fin 1024) : k0_pay11 v24 v27 (ix2 r d) = v24 (ix2 r d) * k0_pay10 v27 (ix2 r 0) := by
  pointwise [k0_pay11]
theorem pay12_at (r : Fin 256) (d : Fin 1024) : k0_pay12 v18 v22 (ix2 r d) = v18 (ix2 r d) * (1 + v22 (ix2 0 d)) := by
  pointwise [k0_pay12]
theorem pay13_at (d : Fin 1024) :
    k0_pay13 v18 v22 v24 v27 (ix2 0 d) = ∑ x : Fin 256, k0_pay12 v18 v22 (ix2 x d) * k0_pay11 v24 v27 (ix2 x d) := by
  pointwise [k0_pay13]
theorem pay14_at (r : Fin 256) (d : Fin 1024) :
    k0_pay14 v18 v20 v22 v24 v27 v61 (ix3 0 r d)
      = v61 (ix3 0 r d) + k0_pay10 v27 (ix2 r 0) * (k0_pay12 v18 v22 (ix2 r d) * v20 (ix2 0 d)
          - k0_pay11 v24 v27 (ix2 r d) * Ideal.div (∑ x : Fin 1024, k0_pay12 v18 v22 (ix2 r x) * v20 (ix2 0 x) * k0_pay11 v24 v27 (ix2 r x)) chans) := by
  pointwise [k0_pay14]
theorem pay15_at (e : Fin 2048) :
    k0_pay15 v18 v20 v24 v27 v68 (ix2 0 e) = v68 (ix2 0 e) + if h : e.val < 1024 then ∑ x : Fin 256, v18 (ix2 x ⟨e.val, h⟩)
      else ∑ x : Fin 256, v18 (ix2 x ⟨e.val - 1024, by omega⟩) * k0_pay11 v24 v27 (ix2 x ⟨e.val - 1024, by omega⟩) * v20 (ix2 0 ⟨e.val - 1024, by omega⟩) := by
  pointwise [k0_pay15]
end

/-! ## The same, from a point's blocks -/

theorem dz_blk (c : Dev nD) (t : Fin cfg0.N) (r : Fin 256) (n : Fin 4608) :
    k0_pay4 (iblk m c 0 t) (iblk m c 1 t) (iblk m c 2 t) (ix2 r n) = dz (ar m c) (bt t) (tk t r) n := by
  rw [pay4_at]
  unfold dz
  simp only [blk0, blk1, blk2]
theorem dh_blk (c : Dev nD) (t : Fin cfg0.N) (r : Fin 256) (d : Fin 1024) :
    k0_pay6 (iblk m c 0 t) (iblk m c 1 t) (iblk m c 2 t) (iblk m c 3 t) (ix2 r d) = dh (ar m c) (bt t) (tk t r) d := by
  rw [pay6_at]
  simp only [dz_blk, blk3]
  rfl
theorem rs_blk (c : Dev nD) (t : Fin cfg0.N) (r : Fin 256) : k0_pay10 (k0_pay9 (iblk m c 4 t)) (ix2 r 0) = rs (ar m c) (bt t) (tk t r) := by
  rw [pay10_at]; simp only [blk4]; rfl
theorem xh_blk (c : Dev nD) (t : Fin cfg0.N) (r : Fin 256) (d : Fin 1024) :
    k0_pay11 (k0_pay8 (iblk m c 4 t)) (k0_pay9 (iblk m c 4 t)) (ix2 r d) = xh (ar m c) (bt t) (tk t r) d := by
  rw [pay11_at, pay8_at, rs_blk, blk4]; rfl

/-! ## What a point computes, once its rows are known -/

section
variable (a : Args) (t : Fin cfg0.N) {v18 : FVec Ideal S256x1024 .f32} {v20 : FVec Ideal S1x1024 .f32} {v22 : Vec Ideal S1x1024 .f32}
  {v24 : FVec Ideal S256x1024 .f32} {v27 : FVec Ideal S256x1 .f32} {v61 : Vec Ideal S1x256x1024 .f32} {v68 : Vec Ideal S1x2048 .f32} {v74 : Vec Ideal S1x1024 .f32}
  (hD : ∀ r d, v18 (ix2 r d) = dh a (bt t) (tk t r) d) (hG : ∀ d, v20 (ix2 0 d) = gain a d)
  (hS : ∀ d, 1 + v22 (ix2 0 d) = scale a (rw_ t) d) (hR : ∀ r, k0_pay10 v27 (ix2 r 0) = rs a (bt t) (tk t r))
  (hX : ∀ r d, k0_pay11 v24 v27 (ix2 r d) = xh a (bt t) (tk t r) d)

include hD hG hS hR hX in
theorem dxn_of (h61 : ∀ r d, v61 (ix3 0 r d) = a.dx (ix3 (bt t) (tk t r) d)) (r : Fin 256) (d : Fin 1024) :
    k0_pay14 v18 v20 v22 v24 v27 v61 (ix3 0 r d) = dxn a (bt t) (tk t r) d := by
  rw [pay14_at]
  unfold dxn dxh
  simp only [pay12_at, hD, hG, hS, hR, hX, h61, row_eq]

include hD hG hX in
theorem mod_of {p : EReal} {e : Fin 2048} (hp : v68 (ix2 0 e) = p) :
    k0_pay15 v18 v20 v24 v27 v68 (ix2 0 e) = p + ∑ r : Fin 256, mterm a (bt t) (tk t r) e := by
  rw [pay15_at, hp]
  refine congrArg (p + ·) ?_
  unfold mterm
  simp only [hD, hG, hX, mul_assoc]
  split_ifs <;> rfl

include hD hS hX in
theorem gn_of {p : EReal} {d : Fin 1024} (hp : v74 (ix2 0 d) = p) :
    k0_pay1 (k0_pay13 v18 v22 v24 v27) v74 (ix2 0 d) = p + ∑ r : Fin 256, gterm a (bt t) (tk t r) d := by
  rw [pay1_at, hp, pay13_at]
  unfold gterm
  simp only [pay12_at, hD, hS, hX, row_eq]
end

end Cert.Kernel8Ideal.Blocks

end
-- ==== Proof.InpOuts.lean ====
module

public import proofs.«01_k».proof.Proof.InpBlocks
public import Idealize.ShloMosaic.Lib.Pipeline.ValueKit

/-! # The token-wise cotangents of the input projection after the run

The projection's cotangent has a block for each grid point. The input's cotangent has the latent tokens only: a context point shares
its block with the first latent point of its batch element, which overwrites it before it is written back. -/

@[expose] public section

set_option maxRecDepth 16384

noncomputable section

namespace Cert.Kernel8Ideal.Blocks

open Cert.Kernel8Ideal Cert.Kernel8Ideal.Gen Cert.Inp Idealize.ShloMosaic Idealize.ShloMosaic.TcCoe Idealize.SL.Sem

variable (m : (ℓ : Loc nD τ sig) → Buf (Elt Ideal) ℓ)

set_option maxHeartbeats 1600000

theorem flush8 : ∀ t : Fin cfg0.N, (cfg0.win 8).flush t = true → ¬t.val % 9 = 0 :=
  (by decide +kernel : ∀ t : Fin grid0.N, _)

/-- A block index `y` of point `t` sits at the array index `i` when the coordinates say so. -/
theorem close {S K : ℕ} {p : ℕ} {X : Shape.Idx ⟨3, ![1, 256, K]⟩ → EReal} {f : Fin 4 → Fin S → Fin K → EReal} {t : Fin cfg0.N}
    {y : Shape.Idx ⟨3, ![1, 256, K]⟩} {i : Shape.Idx ⟨3, ![4, S, K]⟩} (hp : ∀ r : Fin 256, p * 256 + r.val < S)
    (hX : ∀ (r : Fin 256) (k : Fin K), X (ix3 0 r k) = f (bt t) ⟨p * 256 + r.val, hp r⟩ k)
    (h0 : (i 0).val = t.val / 9) (h1 : (i 1).val = p * 256 + (y 1).val) (h2 : (i 2).val = (y 2).val) :
    X y = f (i 0) (i 1) (i 2) := by
  have hy : y = ix3 0 (y 1) (y 2) := by blk_ext []
  refine (congrArg X hy).trans ((hX (y 1) (y 2)).trans ?_)
  have e0 : bt t = i 0 := Fin.ext h0.symm
  have e1 : (⟨p * 256 + (y 1).val, hp (y 1)⟩ : Fin S) = i 1 := Fin.ext h1.symm
  have e2 : y 2 = i 2 := Fin.ext h2.symm
  rw [← e0, ← e1, ← e2]

/-- The cotangent of the latent tokens' input. -/
theorem out8 (c : Dev nD) : (dats m 0 c).arrAt 8 cfg0.N = fun i => dx0 (ar m c) (i 0) (i 1) (i 2) := by
  refine (dats m 0 c).arrAt_eq_of_covers 8 _ (by decide +kernel) fun t hf y => ?_
  have h9 : ¬t.val % 9 = 0 := flush8 t hf
  blk_simp
  rw [after0_8, outsAt0_B m c t (by omega)]
  dsimp only
  unfold out0_B_8 kernelRun0_B
  frame_out
  refine close (t := t) (p := t.val % 9 - 1) (f := dx0 (ar m c)) (fun r => by omega) (fun r k => ?_) ?_ ?_ ?_
  · unfold dx0
    have et : (⟨256 + ((t.val % 9 - 1) * 256 + r.val), by omega⟩ : Fin 2304) = tk t r := Fin.ext (by unfold tk; dsimp only; omega)
    refine Eq.trans ?_ (congrArg (dxn (ar m c) (bt t) · k) et.symm)
    refine dxn_of (ar m c) t ?_ ?_ ?_ ?_ ?_ ?_ r k
    · exact fun r d => dh_blk m c t r d
    · exact fun d => (pay7_at _ d).trans (blk6 m c t d)
    · exact fun d => congrArg (1 + ·) (scale_at m c t d _)
    · exact fun r => rs_blk m c t r
    · exact fun r d => xh_blk m c t r d
    · exact fun r d => blk5 m c t r d
  all_goals blk_simp [idx_out t]

/-- The projection's cotangent. -/
theorem out9 (c : Dev nD) : (dats m 0 c).arrAt 9 cfg0.N = fun i => dz (ar m c) (i 0) (i 1) (i 2) := by
  refine (dats m 0 c).arrAt_eq_of_covers 9 _ (by decide +kernel) fun t hf y => ?_
  blk_simp
  rw [after0_9]
  have hX : ∀ (r : Fin 256) (k : Fin 4608), k0_pay5 (iblk m c 0 t) (iblk m c 1 t) (iblk m c 2 t) (ix3 0 r k) = dz (ar m c) (bt t) (tk t r) k :=
    fun r k => (pay5_at _ _ _ r k).trans (dz_blk m c t r k)
  by_cases h0 : t.val % 36 = 0
  · rw [outsAt0_A m c t h0]
    dsimp only
    unfold out0_A_9 kernelRun0_A
    frame_out
    refine close (t := t) (p := t.val % 9) (f := dz (ar m c)) (fun r => by omega) hX ?_ ?_ ?_
    all_goals blk_simp [idx_out t]
  · rw [outsAt0_B m c t h0]
    dsimp only
    unfold out0_B_9 kernelRun0_B
    frame_out
    refine close (t := t) (p := t.val % 9) (f := dz (ar m c)) (fun r => by omega) hX ?_ ?_ ?_
    all_goals blk_simp [idx_out t]

end Cert.Kernel8Ideal.Blocks

end
-- ==== Proof.InpSums.lean ====
module

public import proofs.«01_k».proof.Proof.InpBlocks
public import proofs.«01_k».proof.Proof.MlpSums
public import proofs.«01_k».proof.Proof.Gates
public import Idealize.ShloMosaic.Lib.Pipeline.ValueKit

/-! # The summed cotangents of the input projection's launch after the run

The launch keeps two blocks of eight rows for its whole length: zeroed at the first point, one row of each added into at every
point, written back after the last. The 36 points together are the sums the specification names. -/

@[expose] public section

set_option maxRecDepth 16384

noncomputable section

namespace Cert.Kernel8Ideal.Blocks

open Cert.Kernel8Ideal Cert.Kernel8Ideal.Gen Cert.Inp Idealize.ShloMosaic Idealize.ShloMosaic.TcCoe Idealize.SL.Sem
open Cert.Kernel2Ideal.Blocks (row_emb row_not_mem row_ld)
open Cert.KernelIdeal.Blocks (total)

variable (m : (ℓ : Loc nD τ sig) → Buf (Elt Ideal) ℓ)

/-- What a point adds to row `i` of an accumulator, if it adds its tokens' shares `g` to row `ρ`. -/
def part (K : ℕ) (g : Fin 4 → Fin 2304 → Fin K → EReal) (ρ : Fin 8) (t : Fin cfg0.N) (i : Fin 8) (k : Fin K) : EReal :=
  if i = ρ then ∑ r : Fin 256, g (bt t) (tk t r) k else 0

/-- All points' tokens put together. -/
theorem total_all (g : Fin 4 → Fin 2304 → EReal) :
    (∑ p : Fin 36, ∑ r : Fin 256, g ⟨p.val / 9, by omega⟩ ⟨p.val % 9 * 256 + r.val, by omega⟩)
      = ∑ b : Fin 4, ((∑ s : Fin 2048, g b ⟨256 + s.val, by omega⟩) + ∑ s : Fin 256, g b ⟨s.val, by omega⟩) := by
  rw [← (finProdFinEquiv (m := 4) (n := 9)).sum_comp, Fintype.sum_prod_type]
  have hd : ∀ (a : Fin 4) (b : Fin 9), (finProdFinEquiv (a, b)).val / 9 = a.val := fun a b => by
    simp only [finProdFinEquiv_apply_val]; omega
  have hm : ∀ (a : Fin 4) (b : Fin 9), (finProdFinEquiv (a, b)).val % 9 = b.val := fun a b => by
    simp only [finProdFinEquiv_apply_val]; omega
  simp only [hd, hm, Fin.eta]
  refine Finset.sum_congr rfl fun a _ => ?_
  rw [Fin.sum_univ_succ, add_comm]
  refine congrArg₂ (· + ·) ?_ (Finset.sum_congr rfl fun r _ => congrArg (g a) (Fin.ext (by simp)))
  have e8 : ∀ b : Fin 8, ∑ r : Fin 256, g a ⟨(Fin.succ b).val * 256 + r.val, by have := b.isLt; rw [Fin.val_succ]; omega⟩
      = ∑ r : Fin 256, g a ⟨256 + (b.val * 256 + r.val), by omega⟩ := fun b =>
    Finset.sum_congr rfl fun r _ => congrArg _ (Fin.ext (by simp only [Fin.val_succ]; omega))
  refine (Finset.sum_congr rfl fun b _ => e8 b).trans ?_
  exact Fin.sum_mul_add_congr fun s k hl => rfl

set_option maxHeartbeats 1600000 in
theorem mod_A (c : Dev nD) (t : Fin cfg0.N) (h0 : t.val % 36 = 0) (i : Fin 8) (k : Fin 2048) :
    (outsAt0 m c t.val t.isLt).2.2.1 (ix2 i k) = 0 + part 2048 (mterm (ar m c)) (rw_ t) t i k := by
  rw [outsAt0_A m c t h0]
  dsimp only
  unfold out0_A_10 kernelRun0_A
  frame_out
  unfold part
  by_cases hi : i = rw_ t
  · rw [if_pos hi]
    have hv : i.val = (rw_ t).val := congrArg Fin.val hi
    refine (congrArg (View.canon _) (row_emb (K := 2048) (off2 t) (k0_off2_inb (grid0.coords t)) i k hv).symm).trans ?_
    rw [View.canon_cons_emb]
    refine mod_of (ar m c) t ?_ ?_ ?_ ?_
    · exact fun r d => dh_blk m c t r d
    · exact fun d => (pay7_at _ d).trans (blk6 m c t d)
    · exact fun r d => xh_blk m c t r d
    · exact (row_ld (off2 t) _ _ i k hv).trans (pay2_at i k)
  · rw [if_neg hi, View.canon_cons_of_not_mem _ _ (row_not_mem (K := 2048) (off2 t) (k0_off2_inb (grid0.coords t)) i k fun e => hi (Fin.ext e)), View.canon_unit_zero (by decide), pay2_at, add_zero]

set_option maxHeartbeats 1600000 in
theorem mod_B (c : Dev nD) (t : Fin cfg0.N) (h0 : ¬t.val % 36 = 0) (i : Fin 8) (k : Fin 2048) :
    (outsAt0 m c t.val t.isLt).2.2.1 (ix2 i k)
      = (outsAt0 m c (t.val - 1) (Nat.lt_of_le_of_lt (Nat.sub_le _ _) t.isLt)).2.2.1 (ix2 i k) + part 2048 (mterm (ar m c)) (rw_ t) t i k := by
  rw [outsAt0_B m c t h0]
  dsimp only
  unfold out0_B_10 kernelRun0_B
  frame_out
  unfold part
  by_cases hi : i = rw_ t
  · rw [if_pos hi]
    have hv : i.val = (rw_ t).val := congrArg Fin.val hi
    refine (congrArg (View.read _ _ _) (row_emb (K := 2048) (off2 t) (k0_off2_inb (grid0.coords t)) i k hv).symm).trans ?_
    rw [View.read_writes_cons_emb]
    refine mod_of (ar m c) t ?_ ?_ ?_ ?_
    · exact fun r d => dh_blk m c t r d
    · exact fun d => (pay7_at _ d).trans (blk6 m c t d)
    · exact fun r d => xh_blk m c t r d
    · exact row_ld (off2 t) _ _ i k hv
  · rw [if_neg hi, View.read_writes_apply_of_forall_not_mem _ _ _ _ (fun p hp => by
      obtain rfl := List.mem_singleton.mp hp
      exact row_not_mem (K := 2048) (off2 t) (k0_off2_inb (grid0.coords t)) i k fun e => hi (Fin.ext e)), add_zero, Memref.IsWhole.read_unread]

set_option maxHeartbeats 1600000 in
theorem gn_A (c : Dev nD) (t : Fin cfg0.N) (h0 : t.val % 36 = 0) (i : Fin 8) (k : Fin 1024) :
    (outsAt0 m c t.val t.isLt).2.2.2 (ix2 i k) = 0 + part 1024 (gterm (ar m c)) 0 t i k := by
  rw [outsAt0_A m c t h0]
  dsimp only
  unfold out0_A_11 kernelRun0_A
  frame_out
  unfold part
  by_cases hi : i = 0
  · rw [if_pos hi]
    have hv : i.val = 0 := congrArg Fin.val hi
    refine (congrArg (View.canon _) (row_emb (K := 1024) (rfl : (![0, 0] : Fin 2 → ℕ) = ![0, 0]) inb_S8x1024_S1x1024_0_0 i k hv).symm).trans ?_
    rw [View.canon_cons_emb]
    refine gn_of (ar m c) t ?_ ?_ ?_ ?_
    · exact fun r d => dh_blk m c t r d
    · exact fun d => congrArg (1 + ·) (scale_at m c t d _)
    · exact fun r d => xh_blk m c t r d
    · refine (row_ld (rfl : (![0, 0] : Fin 2 → ℕ) = ![0, 0]) _ _ i k hv).trans ?_
      rw [View.read_writes_junk_eq_canon, View.canon_unit_zero (by decide)]
      exact pay3_at i k
  · rw [if_neg hi, View.canon_cons_of_not_mem _ _ (row_not_mem (K := 1024) (rfl : (![0, 0] : Fin 2 → ℕ) = ![0, 0]) inb_S8x1024_S1x1024_0_0 i k fun e => hi (Fin.ext e)), View.canon_unit_zero (by decide), pay3_at, add_zero]

set_option maxHeartbeats 1600000 in
theorem gn_B (c : Dev nD) (t : Fin cfg0.N) (h0 : ¬t.val % 36 = 0) (i : Fin 8) (k : Fin 1024) :
    (outsAt0 m c t.val t.isLt).2.2.2 (ix2 i k)
      = (outsAt0 m c (t.val - 1) (Nat.lt_of_le_of_lt (Nat.sub_le _ _) t.isLt)).2.2.2 (ix2 i k) + part 1024 (gterm (ar m c)) 0 t i k := by
  rw [outsAt0_B m c t h0]
  dsimp only
  unfold out0_B_11 kernelRun0_B
  frame_out
  unfold part
  by_cases hi : i = 0
  · rw [if_pos hi]
    have hv : i.val = 0 := congrArg Fin.val hi
    refine (congrArg (View.read _ _ _) (row_emb (K := 1024) (rfl : (![0, 0] : Fin 2 → ℕ) = ![0, 0]) inb_S8x1024_S1x1024_0_0 i k hv).symm).trans ?_
    rw [View.read_writes_cons_emb]
    refine gn_of (ar m c) t ?_ ?_ ?_ ?_
    · exact fun r d => dh_blk m c t r d
    · exact fun d => congrArg (1 + ·) (scale_at m c t d _)
    · exact fun r d => xh_blk m c t r d
    · exact row_ld (rfl : (![0, 0] : Fin 2 → ℕ) = ![0, 0]) _ _ i k hv
  · rw [if_neg hi, View.read_writes_apply_of_forall_not_mem _ _ _ _ (fun p hp => by
      obtain rfl := List.mem_singleton.mp hp
      exact row_not_mem (K := 1024) (rfl : (![0, 0] : Fin 2 → ℕ) = ![0, 0]) inb_S8x1024_S1x1024_0_0 i k fun e => hi (Fin.ext e)), add_zero, Memref.IsWhole.read_unread]

/-- The cotangent of the shift and scale rows. -/
theorem out10 (c : Dev nD) : (dats m 0 c).arrAt 10 cfg0.N = fun i => dmod (ar m c) (i 0) (i 1) := by
  refine (dats m 0 c).arrAt_eq_of_covers 10 _ (by decide +kernel) fun t hf y => ?_
  blk_simp
  rw [after0_10]
  have ht : t.val % 36 = 35 := (flush0_10 t).mp hf
  have hN : cfg0.N = 36 := N_0
  have e : ∀ (i : Fin 8) (k : Fin 2048), (outsAt0 m c t.val t.isLt).2.2.1 (ix2 i k) = dmod (ar m c) i k := fun i k => by
    have := Pipeline.eq_sum_fin_of_reset_step_apply_last (fun n h (j : Fin 8 × Fin 2048) => (outsAt0 m c n h).2.2.1 (ix2 j.1 j.2)) 36
      (fun _ => (0 : EReal)) (fun t j => part 2048 (mterm (ar m c)) (rw_ t) t j.1 j.2) (fun t h j => mod_A m c t h j.1 j.2) (fun t h j => mod_B m c t h j.1 j.2)
      (le_of_eq hN) t (by have h1 : t.val < cfg0.N := t.isLt; omega) (i, k)
    refine this.trans ((zero_add _).trans ?_)
    exact total (fun b t => mterm (ar m c) b t k) i
  have hy : y = ix2 (y 0) (y 1) := by blk_ext []
  refine (congrArg _ hy).trans ((e (y 0) (y 1)).trans ?_)
  have e0 : (y 0 : Fin 8) = ((win0_10.blk t).view.emb y 0 : Fin 8) := Fin.ext (by blk_simp [idx_out t])
  have e1 : (y 1 : Fin 2048) = ((win0_10.blk t).view.emb y 1 : Fin 2048) := Fin.ext (by blk_simp [idx_out t])
  exact congrArg₂ _ e0 e1

/-- The cotangent of the gain. -/
theorem out11 (c : Dev nD) : (dats m 0 c).arrAt 11 cfg0.N = fun i => dgn (ar m c) (i 0) (i 1) := by
  refine (dats m 0 c).arrAt_eq_of_covers 11 _ (by decide +kernel) fun t hf y => ?_
  blk_simp
  rw [after0_11]
  have ht : t.val % 36 = 35 := (flush0_11 t).mp hf
  have hN : cfg0.N = 36 := N_0
  have e : ∀ (i : Fin 8) (k : Fin 1024), (outsAt0 m c t.val t.isLt).2.2.2 (ix2 i k) = dgn (ar m c) i k := fun i k => by
    have := Pipeline.eq_sum_fin_of_reset_step_apply_last (fun n h (j : Fin 8 × Fin 1024) => (outsAt0 m c n h).2.2.2 (ix2 j.1 j.2)) 36
      (fun _ => (0 : EReal)) (fun t j => part 1024 (gterm (ar m c)) 0 t j.1 j.2) (fun t h j => gn_A m c t h j.1 j.2) (fun t h j => gn_B m c t h j.1 j.2)
      (le_of_eq hN) t (by have h1 : t.val < cfg0.N := t.isLt; omega) (i, k)
    refine this.trans ((zero_add _).trans ?_)
    unfold part dgn
    by_cases hi : i.val = 0
    · rw [if_pos hi]
      simp only [if_pos (Fin.ext hi : i = 0)]
      exact total_all (fun b t => gterm (ar m c) b t k)
    · rw [if_neg hi]
      exact Finset.sum_eq_zero fun b _ => if_neg fun h => hi (congrArg Fin.val h)
  have hy : y = ix2 (y 0) (y 1) := by blk_ext []
  refine (congrArg _ hy).trans ((e (y 0) (y 1)).trans ?_)
  have e0 : (y 0 : Fin 8) = ((win0_11.blk t).view.emb y 0 : Fin 8) := Fin.ext (by blk_simp [idx_out t])
  have e1 : (y 1 : Fin 1024) = ((win0_11.blk t).view.emb y 1 : Fin 1024) := Fin.ext (by blk_simp [idx_out t])
  exact congrArg₂ _ e0 e1

end Cert.Kernel8Ideal.Blocks

end
-- ==== Proof.InpValues.lean ====
module

public import proofs.«01_k».proof.Proof.InpOuts
public import proofs.«01_k».proof.Proof.InpSums

/-! # The input projection's run, with every result named -/

@[expose] public section

set_option maxRecDepth 16384

noncomputable section

namespace Cert.Kernel8Ideal.Blocks

open Cert.Kernel8Ideal Cert.Kernel8Ideal.Gen Cert.Inp Idealize.ShloMosaic Idealize.ShloMosaic.TcCoe Idealize.SL.Sem

variable (m : (ℓ : Loc nD τ sig) → Buf (Elt Ideal) ℓ)

/-! After the run, a result's array is what the launch left in it. -/

theorem post8 (r : PUnit × MemSt nD τ sig (Elt Ideal)) (h : Pipeline.FramePost cfgs (dats m) 0 (V m) r) (c : Dev nD) :
    r.2.mem ((c : Thread nD τ).loc main_v1_0) = (dats m 0 c).arrAt 8 cfg0.N := (h c).1 8
theorem post9 (r : PUnit × MemSt nD τ sig (Elt Ideal)) (h : Pipeline.FramePost cfgs (dats m) 0 (V m) r) (c : Dev nD) :
    r.2.mem ((c : Thread nD τ).loc main_v1_1) = (dats m 0 c).arrAt 9 cfg0.N := (h c).1 9
theorem post10 (r : PUnit × MemSt nD τ sig (Elt Ideal)) (h : Pipeline.FramePost cfgs (dats m) 0 (V m) r) (c : Dev nD) :
    r.2.mem ((c : Thread nD τ).loc main_v1_2) = (dats m 0 c).arrAt 10 cfg0.N := (h c).1 10
theorem post11 (r : PUnit × MemSt nD τ sig (Elt Ideal)) (h : Pipeline.FramePost cfgs (dats m) 0 (V m) r) (c : Dev nD) :
    r.2.mem ((c : Thread nD τ).loc main_v1_3) = (dats m 0 c).arrAt 11 cfg0.N := (h c).1 11

/-- The launch's results and its unchanged arguments. -/
theorem run_values (g : Dev nD → PrngReg) : θ_run defs (onTc (τ := τ) (main (F := Ideal))) ⟨m, fun _ => 0, g⟩ fun r => ∀ c : Dev nD,
      r.2.mem ((c : Thread nD τ).loc main_v1_0) = (fun i => dx0 (ar m c) (i 0) (i 1) (i 2))
      ∧ r.2.mem ((c : Thread nD τ).loc main_v1_1) = (fun i => dz (ar m c) (i 0) (i 1) (i 2))
      ∧ r.2.mem ((c : Thread nD τ).loc main_v1_2) = (fun i => dmod (ar m c) (i 0) (i 1))
      ∧ r.2.mem ((c : Thread nD τ).loc main_v1_3) = (fun i => dgn (ar m c) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(post8 m r h.1 c).trans (out8 m c),
      (post9 m r h.1 c).trans (out9 m c),
      (post10 m r h.1 c).trans (out10 m c),
      (post11 m r h.1 c).trans (out11 m c),
      h.2 c⟩) (θ_run_and (run_main m g) (unchanged m g))

end Cert.Kernel8Ideal.Blocks

end
-- ==== Proof.InpRef.lean ====
module

public import proofs.«01_k».proof.Proof.Gen.Reference8Ideal.Read
public import proofs.«01_k».proof.Proof.Gen.Reference8Ideal.Run
public import proofs.«01_k».proof.Proof.Inp
public import proofs.«01_k».proof.Proof.MlpRef
public import Idealize.ShloMosaic.Lib.Pipeline.ValueKit

/-! # What the input projection's reference computes

The plain program's arrays, read at one element: the same quantities of the specification. It takes the context's tokens and the
latent tokens apart; context token `s` is token `s` of the arguments, latent token `s` is token `256 + s`. -/

@[expose] public section

set_option maxRecDepth 16384

noncomputable section

namespace Cert.Reference8Ideal.Stage

open Cert.Reference8Ideal Cert.Reference8Ideal.Gen Cert.Reference8Ideal.Read Cert.Inp Idealize.ShloMosaic Idealize.ShloMosaic.TcCoe Idealize.SL.Sem
open Cert.Reference2Ideal.Stage (lt ext3 ext2)

variable (a : Args)

/-- The context token's place among all tokens. -/
abbrev ct (s : Fin 256) : Fin 2304 := ⟨s.val, by omega⟩

theorem row_ct (b : Fin 4) (s : Fin 256) : row b (ct s) = 4 := if_pos s.isLt
theorem row_lt (b : Fin 4) (s : Fin 2048) : row b (lt s) = ⟨b.val, by omega⟩ := if_neg (by dsimp only; omega)

theorem dz_at (b : Fin 4) (t : Fin 2304) (n : Fin 4608) : val_main_v12 (F := Ideal) a.zq a.zu a.zg (ix3 b t n) = dz a b t n := by
  pointwise [val_main_v12, val_main_v11, val_main_v10, val_main_v9]
  rfl

/-! ## The context's tokens -/

theorem ms_c (b : Fin 4) (s : Fin 256) : val_main_v22 (F := Ideal) a.x (ix3 b s 0) = ms a b (ct s) := by
  pointwise [val_main_v22, val_main_v21, val_main_v20, val_main_v19, val_main_v18, val_main_v17, val_main_v16, val_main_v13, val_main_cst, val_main_cst_0, val_main_cst_1]
  rfl
theorem rs_c (b : Fin 4) (s : Fin 256) : val_main_v23 (F := Ideal) a.x (ix3 b s 0) = rs a b (ct s) := by
  pointwise [val_main_v23]
  rw [ms_c]
  rfl
theorem xh_c (b : Fin 4) (s : Fin 256) (d : Fin 1024) : val_main_v28 (F := Ideal) a.x (ix3 b s d) = xh a b (ct s) d := by
  pointwise [val_main_v28, val_main_v27, val_main_v13]
  rw [rs_c]
  rfl
theorem xg_c (b : Fin 4) (s : Fin 256) (d : Fin 1024) : val_main_v31 (F := Ideal) a.x a.gn (ix3 b s d) = xh a b (ct s) d * gain a d := by
  pointwise [val_main_v31, val_main_v30, val_main_v29, val_main_v15, val_main_v14]
  rw [xh_c]
  rfl
theorem dh_c (b : Fin 4) (s : Fin 256) (d : Fin 1024) : val_main_v67 (F := Ideal) a.zq a.zu a.zg a.w (ix3 b s d) = dh a b (ct s) d := by
  pointwise [val_main_v67, val_main_v66, val_main_v8]
  simp only [dz_at]
  rfl
theorem dhs_c (b : Fin 4) (s : Fin 256) (d : Fin 1024) :
    val_main_v78 (F := Ideal) a.zq a.zu a.zg a.w a.md (ix3 b s d) = dh a b (ct s) d * scale a (row b (ct s)) d := by
  pointwise [val_main_v78, val_main_v77, val_main_v34, val_main_v33, val_main_v32, val_main_cst_3, val_main_v7, val_main_v5, val_main_v4]
  rw [dh_c, row_ct]
  rfl
theorem g_c (b : Fin 4) (s : Fin 256) (d : Fin 1024) :
    val_main_v80 (F := Ideal) a.zq a.zu a.zg a.w a.x a.md (ix3 b s d) = gterm a b (ct s) d := by
  pointwise [val_main_v80]
  rw [xh_c, dhs_c]
  exact mul_comm _ _
theorem sc_c (b : Fin 4) (s : Fin 256) (d : Fin 1024) :
    val_main_v74 (F := Ideal) a.zq a.zu a.zg a.w a.x a.gn (ix3 b s d) = dh a b (ct s) d * (xh a b (ct s) d * gain a d) := by
  pointwise [val_main_v74]
  rw [xg_c, dh_c]
  exact mul_comm _ _

/-! ## The latent tokens -/

theorem ms_l (b : Fin 4) (s : Fin 2048) : val_main_v49 (F := Ideal) a.x (ix3 b s 0) = ms a b (lt s) := by
  pointwise [val_main_v49, val_main_v48, val_main_v47, val_main_v46, val_main_v45, val_main_v44, val_main_v43, val_main_v40, val_main_cst_4, val_main_cst_5, val_main_cst_6]
  rfl
theorem rs_l (b : Fin 4) (s : Fin 2048) : val_main_v50 (F := Ideal) a.x (ix3 b s 0) = rs a b (lt s) := by
  pointwise [val_main_v50]
  rw [ms_l]
  rfl
theorem xh_l (b : Fin 4) (s : Fin 2048) (d : Fin 1024) : val_main_v55 (F := Ideal) a.x (ix3 b s d) = xh a b (lt s) d := by
  pointwise [val_main_v55, val_main_v54, val_main_v40]
  rw [rs_l]
  rfl
theorem xg_l (b : Fin 4) (s : Fin 2048) (d : Fin 1024) : val_main_v58 (F := Ideal) a.x a.gn (ix3 b s d) = xh a b (lt s) d * gain a d := by
  pointwise [val_main_v58, val_main_v57, val_main_v56, val_main_v42, val_main_v41]
  rw [xh_l]
  rfl
theorem dh_l (b : Fin 4) (s : Fin 2048) (d : Fin 1024) : val_main_v70 (F := Ideal) a.zq a.zu a.zg a.w (ix3 b s d) = dh a b (lt s) d := by
  pointwise [val_main_v70, val_main_v69, val_main_v8]
  simp only [dz_at]
  rfl
theorem dhs_l (b : Fin 4) (s : Fin 2048) (d : Fin 1024) :
    val_main_v106 (F := Ideal) a.zq a.zu a.zg a.w a.md (ix3 b s d) = dh a b (lt s) d * scale a (row b (lt s)) d := by
  pointwise [val_main_v106, val_main_v105, val_main_v60, val_main_v59, val_main_cst_8, val_main_v3, val_main_v1, val_main_v0]
  rw [dh_l, row_lt]
  rfl
theorem dxh_l (b : Fin 4) (s : Fin 2048) (d : Fin 1024) :
    val_main_v111 (F := Ideal) a.zq a.zu a.zg a.w a.gn a.md (ix3 b s d) = dxh a b (lt s) d := by
  pointwise [val_main_v111, val_main_v110, val_main_v56, val_main_v42, val_main_v41]
  rw [dhs_l]
  rfl
theorem g_l (b : Fin 4) (s : Fin 2048) (d : Fin 1024) :
    val_main_v107 (F := Ideal) a.zq a.zu a.zg a.w a.x a.md (ix3 b s d) = gterm a b (lt s) d := by
  pointwise [val_main_v107]
  rw [xh_l, dhs_l]
  exact mul_comm _ _

/-! ## The results -/

theorem dx_at (b : Fin 4) (s : Fin 2048) (d : Fin 1024) :
    val_main_v137 (F := Ideal) a.zq a.zu a.zg a.w a.x a.dx a.gn a.md (ix3 b s d) = dx0 a b s d := by
  pointwise [val_main_v137, val_main_v136, val_main_v126, val_main_v125, val_main_v124, val_main_v123, val_main_v122, val_main_v121, val_main_v120, val_main_v119, val_main_v118, val_main_v117, val_main_v116, val_main_v115, val_main_v114, val_main_v113, val_main_v53, val_main_v52, val_main_v51, val_main_v40, val_main_cst_7, val_main_cst_22, val_main_cst_23, val_main_cst_24]
  simp only [Fin.sum_univ_one, Fin.isValue, dxh_l, rs_l, ms_l]
  exact dxn_apart a b (lt s) d

theorem dz16_at (b : Fin 4) (t : Fin 2304) (n : Fin 4608) : val_main_v138 (F := Ideal) a.zq a.zu a.zg (ix3 b t n) = dz a b t n := by
  pointwise [val_main_v138]
  exact dz_at a b t n

/-- A sum over the first two of three axes. -/
theorem sumc (x : FVec Ideal S4x256x1024 .f32) (init : EReal) (d : Fin 1024) :
    Ideal.hostReduceAdd reducesTo_S4x256x1024_S1024_d0_1 x init (ix1 d) = init + ∑ b : Fin 4, ∑ s : Fin 256, x (ix3 b s d) := by
  refine congrArg (init + ·) ?_
  refine (Finset.sum_filter_eq_sum_of_fiber _ (fun k : Fin 4 × Fin 256 => (ix3 k.1 k.2 d : S4x256x1024.Idx))
    (fun _ _ e => Prod.ext (congrFun e 0) (congrFun e 1)) (fun i => ⟨fun e => ⟨(i 0, i 1), ?_⟩, ?_⟩) x).trans ?_
  · funext k; apply Fin.ext
    match k with
    | ⟨0, _⟩ => rfl
    | ⟨1, _⟩ => rfl
    | ⟨2, _⟩ => exact (congrArg Fin.val (congrFun e 0)).symm
  · rintro ⟨k, rfl⟩
    funext j; apply Fin.ext
    match j with
    | ⟨0, _⟩ => rfl
  · simp only [Fintype.sum_prod_type]
theorem suml (x : FVec Ideal S4x2048x1024 .f32) (init : EReal) (d : Fin 1024) :
    Ideal.hostReduceAdd reducesTo_S4x2048x1024_S1024_d0_1 x init (ix1 d) = init + ∑ b : Fin 4, ∑ s : Fin 2048, x (ix3 b s d) :=
  Cert.Reference2Ideal.Stage.sum01 x init d
theorem sum1 (x : FVec Ideal S1x1x1024 .f32) (init : EReal) (d : Fin 1024) :
    Ideal.hostReduceAdd reducesTo_S1x1x1024_S1024_d0_1 x init (ix1 d) = init + x (ix3 0 0 d) :=
  Cert.Reference2Ideal.Stage.sum01' x init d

theorem shift_c (d : Fin 1024) : val_main_v73 (F := Ideal) a.zq a.zu a.zg a.w (ix1 d) = ∑ b : Fin 4, ∑ s : Fin 256, dh a b (ct s) d := by
  pointwise [val_main_v73, val_main_v72, val_main_v71, val_main_cst_9, val_main_cst_10]
  rw [sum1]
  pointwise []
  rw [sumc, zero_add]
  simp only [dh_c]
theorem scale_c (d : Fin 1024) :
    val_main_v79 (F := Ideal) a.zq a.zu a.zg a.w a.x a.gn (ix1 d) = ∑ b : Fin 4, ∑ s : Fin 256, dh a b (ct s) d * (xh a b (ct s) d * gain a d) := by
  pointwise [val_main_v79, val_main_v76, val_main_v75, val_main_cst_11, val_main_cst_12]
  rw [sum1]
  pointwise []
  rw [sumc, zero_add]
  simp only [sc_c]
theorem gain_c (d : Fin 1024) :
    val_main_v85 (F := Ideal) a.zq a.zu a.zg a.w a.x a.md (ix1 d) = ∑ b : Fin 4, ∑ s : Fin 256, gterm a b (ct s) d := by
  pointwise [val_main_v85, val_main_v82, val_main_v81, val_main_cst_13, val_main_cst_14]
  rw [sum1]
  pointwise []
  rw [sumc, zero_add]
  simp only [g_c]
theorem gain_l (d : Fin 1024) :
    val_main_v112 (F := Ideal) a.zq a.zu a.zg a.w a.x a.md (ix1 d) = ∑ b : Fin 4, ∑ s : Fin 2048, gterm a b (lt s) d := by
  pointwise [val_main_v112, val_main_v109, val_main_v108, val_main_cst_20, val_main_cst_21]
  rw [sum1]
  pointwise []
  rw [suml, zero_add]
  simp only [g_l]

theorem dgn_at (i : Fin 8) (d : Fin 1024) : val_main_v135 (F := Ideal) a.zq a.zu a.zg a.w a.x a.md (ix2 i d) = dgn a i d := by
  pointwise [val_main_v135, val_main_v134, val_main_v133, val_main_v132, val_main_cst_26]
  unfold dgn
  by_cases h : i.val = 0
  · rw [dif_pos (by omega), if_pos h, gain_l, gain_c, Finset.sum_add_distrib]
  · rw [dif_neg (by omega), if_neg h]

theorem dmod_at (i : Fin 8) (e : Fin 2048) : val_main_v139 (F := Ideal) a.zq a.zu a.zg a.w a.x a.gn (ix2 i e) = dmod a i e := by
  pointwise [val_main_v139, val_main_v131, val_main_v130, val_main_v129, val_main_v128, val_main_v127, val_main_v104, val_main_v103, val_main_v102, val_main_v101, val_main_v100, val_main_cst_18, val_main_cst_19, val_main_cst_25]
  unfold dmod mterm
  by_cases h : i.val < 4
  · rw [dif_pos h, dif_pos h]
    by_cases h1 : e.val < 1024
    · simp only [dif_pos h1, dh_l]
    · simp only [dif_neg h1, dh_l, xg_l]
      exact Finset.sum_congr rfl fun s _ => mul_comm _ _
  · rw [dif_neg h, dif_neg h]
    by_cases h5 : i.val < 5
    · rw [dif_pos (by omega), if_pos h5]
      by_cases h1 : e.val < 1024
      · simp only [dif_pos h1, shift_c]
      · simp only [dif_neg h1, scale_c]
    · rw [dif_neg (by omega), if_neg h5]

/-! ## The run -/

theorem ext3' {X : Shape.Idx ⟨3, ![4, 2048, 1024]⟩ → EReal} {f : Fin 4 → Fin 2048 → Fin 1024 → EReal}
    (h : ∀ b t k, X (ix3 b t k) = f b t k) : X = fun i => f (i 0) (i 1) (i 2) := by
  funext i
  have hi : i = ix3 (i 0) (i 1) (i 2) := by blk_ext []
  exact (congrArg X hi).trans (h (i 0) (i 1) (i 2))

variable (m : (ℓ : Loc nD τ sig) → Buf (Elt Ideal) ℓ)

/-- A device's arguments. -/
abbrev ar (c : Dev nD) : Args :=
  ⟨m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5),
    m ((c : Thread nD τ).loc main_arg6), m ((c : Thread nD τ).loc main_arg7)⟩

/-- The reference's run, with every result named. -/
theorem run_values (g : Dev nD → PrngReg) :
    θ_run defs (onTc (τ := τ) (main (F := Ideal))) ⟨m, fun _ => 0, g⟩ fun r => ∀ c : Dev nD,
      r.2.mem ((c : Thread nD τ).loc main_v137) = (fun i => dx0 (ar m c) (i 0) (i 1) (i 2))
      ∧ r.2.mem ((c : Thread nD τ).loc main_v138) = (fun i => dz (ar m c) (i 0) (i 1) (i 2))
      ∧ r.2.mem ((c : Thread nD τ).loc main_v139) = (fun i => dmod (ar m c) (i 0) (i 1))
      ∧ r.2.mem ((c : Thread nD τ).loc main_v135) = (fun i => dgn (ar m c) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := by
  refine (θ_run _ _ _).mono (fun r h c => ?_) (Cert.Reference8Ideal.Value.run (F := Ideal) m g)
  obtain ⟨e137, e138, e139, e135, hk⟩ := h c
  exact ⟨(e137.trans (val_main_v137_eq m c)).trans (ext3' (dx_at (ar m c))),
    (e138.trans (val_main_v138_eq _ _ _)).trans (ext3 (dz16_at (ar m c))),
    (e139.trans (val_main_v139_eq m c)).trans (ext2 (dmod_at (ar m c))),
    (e135.trans (val_main_v135_eq m c)).trans (ext2 (dgn_at (ar m c))),
    hk⟩

end Cert.Reference8Ideal.Stage

end
-- ==== Proof.InpEquation.lean ====
module

public import proofs.«01_k».proof.Defs
public import proofs.«01_k».proof.Proof.InpValues
public import proofs.«01_k».proof.Proof.InpRef

/-! # The input projection's equation

Both programs leave the specification's four arrays. -/

@[expose] public section

set_option maxRecDepth 16384
set_option maxHeartbeats 1600000

noncomputable section

namespace Cert.Proof

open Cert.Inp Idealize.ShloMosaic Idealize.ShloMosaic.TcCoe Idealize.SL.Sem

/-- Kernel and reference compute the same four arrays over the extended reals. -/
theorem in_proj_bwd : @Cert.algebraic_Kernel8Ideal_Reference8Ideal Cert.Kernel8Ideal.Gen.facts Cert.Reference8Ideal.Gen.facts := by
  intro m g m' g' _ hargs
  have e : ∀ c, Cert.Reference8Ideal.Stage.ar m' c = Cert.Kernel8Ideal.Blocks.ar m c := fun c => by
    obtain ⟨h0, h1, h2, h3, h4, h5, h6, h7⟩ := hargs c
    unfold Cert.Reference8Ideal.Stage.ar Cert.Kernel8Ideal.Blocks.ar
    rw [h0, h1, h2, h3, h4, h5, h6, h7]
  refine ⟨fun c i => dx0 (Cert.Kernel8Ideal.Blocks.ar m c) (i 0) (i 1) (i 2),
    fun c i => dz (Cert.Kernel8Ideal.Blocks.ar m c) (i 0) (i 1) (i 2),
    fun c i => dmod (Cert.Kernel8Ideal.Blocks.ar m c) (i 0) (i 1),
    fun c i => dgn (Cert.Kernel8Ideal.Blocks.ar m c) (i 0) (i 1), ?_, ?_⟩
  · exact Cert.Kernel8Ideal.Blocks.run_values m g
  · refine (θ_run _ _ _).mono (fun r h c => ?_) (Cert.Reference8Ideal.Stage.run_values m' g')
    have := h c
    rw [e c] at this
    exact this

end Cert.Proof

end
-- ==== Proof.Out.lean ====
module

public import proofs.«01_k».proof.Proof.MlpReal

/-! # What the last layer's channel mixer and the loss compute

The latent tokens' channel mixer is the one of the mixing layer. What it adds to its input is the prediction; the
prediction's error against the target gives the summed squares and the loss's cotangent. -/

@[expose] public section

noncomputable section

namespace Cert.Out

open Idealize.ShloMosaic

/-- The six arguments: the layer's input, the norms' gains, the modulation's rows, the two weights, the target. -/
structure Args where
  x : FVec Ideal ⟨3, ![4, 2304, 1024]⟩ .f32
  gn : FVec Ideal ⟨2, ![2, 1024]⟩ .f32
  md : FVec Ideal ⟨2, ![8, 6144]⟩ .f32
  w1 : FVec Ideal ⟨3, ![8, 1024, 512]⟩ .bf16
  w2 : FVec Ideal ⟨2, ![4096, 1024]⟩ .bf16
  tg : FVec Ideal ⟨3, ![4, 2048, 1024]⟩ .f32

/-- The arguments of the channel mixer, whose forward quantities read no cotangent. -/
abbrev fw (a : Args) : Mlp.Args := ⟨a.x, a.x, a.gn, a.md, a.w1, a.w2⟩

/-- A half, and the cotangent's factor as the kernel writes it. -/
abbrev half : EReal := Ideal.ofBits FTy.f32 1056964608#32
abbrev scl : EReal := Ideal.ofBits FTy.f32 981467136#32

variable (a : Args) (b : Fin 4) (t : Fin 2304)

/-- The squared ramp of the hidden layer. -/
def sq (n : Fin 4096) : EReal := Mlp.act (fw a) b t n * Mlp.act (fw a) b t n
/-- The error of a latent token's prediction. -/
def err (d : Fin 1024) : EReal :=
  a.x (ix3 b t d) + Mlp.gate (fw a) b d * Mlp.mo (fw a) b t d - a.tg (ix3 b ⟨t.val - 256, by omega⟩ d)
/-- The loss's cotangent. -/
def dy (d : Fin 1024) : EReal := err a b t d * scl
/-- A token's squared errors. -/
def se : EReal := ∑ d : Fin 1024, err a b t d * err a b t d
/-- The latent tokens' squared errors, summed. -/
def sse (a : Args) : EReal := ∑ b : Fin 4, ∑ s : Fin 2048, se a b ⟨256 + s.val, by omega⟩

theorem half_eq : half = ((1 / 2 : ℝ) : EReal) := by
  simp [half, Ideal.ofBits, Ideal.ieee, -EReal.coe_mul]; norm_num
theorem two_eq : Mlp.two = ((2 : ℝ) : EReal) := by
  simp [Mlp.two, Ideal.ofBits, Ideal.ieee, -EReal.coe_mul]; norm_num
theorem scl_eq : scl = ((1 / 1024 : ℝ) : EReal) := by
  simp [scl, Ideal.ofBits, Ideal.ieee, -EReal.coe_mul]; norm_num

/-- Half of the mean's share, times the square's derivative. -/
theorem share (e : EReal) : Ideal.div half Mlp.chans * (Mlp.two * e) = e * scl := by
  rw [half_eq, Mlp.chans_eq, two_eq, scl_eq, Ideal.div_coe (by norm_num), ← mul_assoc, ← EReal.coe_mul, ← EReal.coe_mul, mul_comm e]
  exact congrArg (fun z : ℝ => (z : EReal) * e) (by norm_num)

end Cert.Out

end
-- ==== Proof.OutBlocks.lean ====
module

public import proofs.«01_k».proof.Proof.Gen.Kernel9Ideal.Value
public import proofs.«01_k».proof.Proof.Out
public import Idealize.ShloMosaic.Lib.Pipeline.ValueKit

/-! # What a grid point of the last channel mixer's launch reads and computes

Point `t` of the grid works on batch element `t / 9` and on the 256 tokens from `256 (t % 9)` on; the first 256 tokens are
the context's, which the channel mixer passes by. -/

@[expose] public section

set_option maxRecDepth 16384

noncomputable section

namespace Cert.Kernel9Ideal.Blocks

open Cert.Kernel9Ideal Cert.Kernel9Ideal.Gen Cert.Out Idealize.ShloMosaic Idealize.ShloMosaic.TcCoe Idealize.SL.Sem
open Cert.Mlp (chans eps ms rs xh gain shift scale gate hid wa up act mo lat ladder)

variable (m : (ℓ : Loc nD τ sig) → Buf (Elt Ideal) ℓ)

/-- The arguments a device's memory holds. -/
abbrev ar (c : Dev nD) : Args :=
  ⟨m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5)⟩

/-- The batch element of a grid point, and the token of row `r` of its blocks. -/
def bt (t : Fin cfg0.N) : Fin 4 := ⟨t.val / 9, by have := t.isLt; have h : cfg0.N = 36 := N_0; omega⟩
def tk (t : Fin cfg0.N) (r : Fin 256) : Fin 2304 := ⟨t.val % 9 * 256 + r.val, by omega⟩

theorem tk_lat (t : Fin cfg0.N) (h : 1 ≤ t.val % 9) (r : Fin 256) : ¬(tk t r).val < 256 := by unfold tk; dsimp only; omega
theorem tk_ctx (t : Fin cfg0.N) (h : t.val % 9 = 0) (r : Fin 256) : (tk t r).val < 256 := by unfold tk; dsimp only; omega

theorem idx : ∀ t : Fin cfg0.N,
    win0_0.index t = ![t.val / 9, t.val % 9, 0] ∧ win0_1.index t = ![1, 0, 0] ∧ win0_2.index t = ![0, 0]
    ∧ win0_3.index t = ![0, 0, 0] ∧ win0_4.index t = ![0, 0] ∧ win0_5.index t = ![t.val / 9, t.val % 9 - 1, 0] :=
  (by decide +kernel : ∀ t : Fin grid0.N, _)

theorem idx_out : ∀ t : Fin cfg0.N,
    win0_6.index t = ![t.val / 9, t.val % 9, 0] ∧ win0_7.index t = ![t.val / 9, t.val % 9, 0]
    ∧ win0_8.index t = ![t.val / 9, t.val % 9, 0] ∧ win0_9.index t = ![0, 0] :=
  (by decide +kernel : ∀ t : Fin grid0.N, _)

/-- Where a latent point finds its rows of the modulation. -/
theorem off1 : ∀ t : Fin cfg0.N, 1 ≤ t.val % 9 → k0_off1 (grid0.coords t) = ![t.val / 9, 3072] :=
  (by decide +kernel : ∀ t : Fin grid0.N, _)
theorem off2 : ∀ t : Fin cfg0.N, 1 ≤ t.val % 9 → k0_off2 (grid0.coords t) = ![t.val / 9, 4096] :=
  (by decide +kernel : ∀ t : Fin grid0.N, _)
theorem off3 : ∀ t : Fin cfg0.N, 1 ≤ t.val % 9 → k0_off3 (grid0.coords t) = ![t.val / 9, 5120] :=
  (by decide +kernel : ∀ t : Fin grid0.N, _)

/-! ## The blocks -/

theorem gn_at (c : Dev nD) (i : Fin 2) (k : Fin 1024) : V m c main_v0 (ix3 i 0 k) = (ar m c).gn (ix2 i k) := by
  entry_read
  pointwise []

theorem blk0 (c : Dev nD) (t : Fin cfg0.N) (r : Fin 256) (k : Fin 1024) :
    (iblk m c 0 t : Vec Ideal S1x256x1024 .f32) (ix3 0 r k) = (ar m c).x (ix3 (bt t) (tk t r) k) := by
  blk_point [iblk, V_main_arg0, idx t, bt, tk]
theorem blk1' (c : Dev nD) (t : Fin cfg0.N) (k : Fin 1024) :
    (iblk m c 1 t : Vec Ideal S1x1x1024 .f32) (ix3 0 0 k) = V m c main_v0 (ix3 1 0 k) := by
  blk_point [iblk, idx t]
theorem blk1 (c : Dev nD) (t : Fin cfg0.N) (k : Fin 1024) :
    (iblk m c 1 t : Vec Ideal S1x1x1024 .f32) (ix3 0 0 k) = gain (fw (ar m c)) k :=
  (blk1' m c t k).trans (gn_at m c 1 k)
theorem blk4 (c : Dev nD) (t : Fin cfg0.N) (n : Fin 4096) (k : Fin 1024) :
    (iblk m c 4 t : Vec Ideal S4096x1024 .bf16) (ix2 n k) = (ar m c).w2 (ix2 n k) := by
  blk_point [iblk, V_main_arg4, idx t]
theorem blk5 (c : Dev nD) (t : Fin cfg0.N) (h1 : 1 ≤ t.val % 9) (r : Fin 256) (k : Fin 1024) :
    (iblk m c 5 t : Vec Ideal S1x256x1024 .f32) (ix3 0 r k) = (ar m c).tg (ix3 (bt t) ⟨(tk t r).val - 256, by omega⟩ k) := by
  blk_point [iblk, V_main_arg5, idx t, bt, tk]

/-- A piece of the first weight. -/
theorem blk3 (c : Dev nD) (t : Fin cfg0.N) (e : Fin 8) (d : Fin 1024) (k : Fin 512) (off : Fin 3 → ℕ) (ho : off = ![e.val, 0, 0]) (h) :
    View.ld (iblk m c 3 t : Vec Ideal S8x1024x512 .bf16) (Rect.unit (s := S8x1024x512) off ![1, 1024, 512] h) (ix3 0 d k)
      = (ar m c).w1 (ix3 e d k) := by
  subst ho
  pointwise []
  blk_point [iblk, V_main_arg3, idx t]

/-- The modulation's rows a latent point reads. -/
theorem shift_at (c : Dev nD) (t : Fin cfg0.N) (h1 : 1 ≤ t.val % 9) (k : Fin 1024) (h) :
    View.ld (iblk m c 2 t : Vec Ideal S8x6144 .f32) (Rect.unit (s := S8x6144) (k0_off1 (grid0.coords t)) ![1, 1024] h) (ix2 0 k)
      = (ar m c).md (ix2 ⟨(bt t).val, by omega⟩ ⟨3072 + k.val, by omega⟩) := by
  pointwise []
  blk_point [iblk, V_main_arg2, idx t, bt, off1 t h1]
theorem scale_at (c : Dev nD) (t : Fin cfg0.N) (h1 : 1 ≤ t.val % 9) (k : Fin 1024) (h) :
    View.ld (iblk m c 2 t : Vec Ideal S8x6144 .f32) (Rect.unit (s := S8x6144) (k0_off2 (grid0.coords t)) ![1, 1024] h) (ix2 0 k)
      = (ar m c).md (ix2 ⟨(bt t).val, by omega⟩ ⟨4096 + k.val, by omega⟩) := by
  pointwise []
  blk_point [iblk, V_main_arg2, idx t, bt, off2 t h1]
theorem gate_at (c : Dev nD) (t : Fin cfg0.N) (h1 : 1 ≤ t.val % 9) (k : Fin 1024) (h) :
    View.ld (iblk m c 2 t : Vec Ideal S8x6144 .f32) (Rect.unit (s := S8x6144) (k0_off3 (grid0.coords t)) ![1, 1024] h) (ix2 0 k)
      = (ar m c).md (ix2 ⟨(bt t).val, by omega⟩ ⟨5120 + k.val, by omega⟩) := by
  pointwise []
  blk_point [iblk, V_main_arg2, idx t, bt, off3 t h1]

/-- A block index `y` of point `t` sits at the array index `i` when the coordinates say so. -/
theorem close {K : ℕ} {X : Shape.Idx ⟨3, ![1, 256, K]⟩ → EReal} {f : Fin 4 → Fin 2304 → Fin K → EReal} {t : Fin cfg0.N}
    {y : Shape.Idx ⟨3, ![1, 256, K]⟩} {i : Shape.Idx ⟨3, ![4, 2304, K]⟩}
    (hX : ∀ (r : Fin 256) (k : Fin K), X (ix3 0 r k) = f (bt t) (tk t r) k)
    (h0 : (i 0).val = t.val / 9) (h1 : (i 1).val = t.val % 9 * 256 + (y 1).val) (h2 : (i 2).val = (y 2).val) :
    X y = f (i 0) (i 1) (i 2) := by
  have hy : y = ix3 0 (y 1) (y 2) := by blk_ext []
  refine (congrArg X hy).trans ((hX (y 1) (y 2)).trans ?_)
  have e0 : bt t = i 0 := Fin.ext h0.symm
  have e1 : tk t (y 1) = i 1 := Fin.ext h1.symm
  have e2 : y 2 = i 2 := Fin.ext h2.symm
  rw [← e0, ← e1, ← e2]

/-! ## The payloads, at one element -/

theorem pay1_at (i : Fin 8) (k : Fin 128) : k0_pay1 (F := Ideal) (ix2 i k) = 0 := by pointwise [k0_pay1]
theorem pay2_at (v : FVec Ideal S256x1024 .bf16) (r : Fin 256) (d : Fin 1024) : k0_pay2 v (ix3 0 r d) = v (ix2 r d) := by pointwise [k0_pay2]
theorem pay6_at (r : Fin 256) (d : Fin 1024) : k0_pay6 (F := Ideal) (ix3 0 r d) = 0 := by pointwise [k0_pay6]
theorem pay7_at (r : Fin 256) (n : Fin 4096) : k0_pay7 (F := Ideal) (ix3 0 r n) = 0 := by pointwise [k0_pay7]
theorem pay8_at (r : Fin 256) (d : Fin 1024) : k0_pay8 (F := Ideal) (ix3 0 r d) = 0 := by pointwise [k0_pay8]
theorem pay9_at (v : Vec Ideal S1x256x1024 .f32) (r : Fin 256) (d : Fin 1024) : k0_pay9 v (ix2 r d) = v (ix3 0 r d) := by pointwise [k0_pay9]
theorem pay3_at (v14 v73 : FVec Ideal S256x1024 .f32) (v79 : Vec Ideal S1x1024 .f32) (v83 : Vec Ideal S1x256x1024 .f32) (r : Fin 256) (d : Fin 1024) :
    k0_pay3 v14 v73 v79 v83 (ix2 r d) = v14 (ix2 r d) + v79 (ix2 0 d) * v73 (ix2 r d) - v83 (ix3 0 r d) := by
  pointwise [k0_pay3]
theorem pay4_at (v14 v73 : FVec Ideal S256x1024 .f32) (v79 : Vec Ideal S1x1024 .f32) (v83 : Vec Ideal S1x256x1024 .f32) (r : Fin 256) (d : Fin 1024) :
    k0_pay4 v14 v73 v79 v83 (ix3 0 r d) = k0_pay3 v14 v73 v79 v83 (ix2 r d) * scl := by
  pointwise [k0_pay4]
theorem pay10_at (v13 : Vec Ideal S1x256x1024 .f32) (v15 : Vec Ideal S1x1x1024 .f32) (v18 v20 : Vec Ideal S1x1024 .f32) (r : Fin 256) (d : Fin 1024) :
    k0_pay10 v13 v15 v18 v20 (ix2 r d)
      = v13 (ix3 0 r d) * Ideal.rsqrt (Ideal.div (∑ x : Fin 1024, v13 (ix3 0 r x) * v13 (ix3 0 r x)) chans + eps) * v15 (ix3 0 0 d) * (1 + v20 (ix2 0 d))
        + v18 (ix2 0 d) := by
  pointwise [k0_pay10, k0_pay9]
theorem pay11_at (v13 : Vec Ideal S1x256x1024 .f32) (v15 : Vec Ideal S1x1x1024 .f32) (v18 v20 : Vec Ideal S1x1024 .f32) (v40 : Vec Ideal S1x1024x512 .bf16)
    (r : Fin 256) (k : Fin 512) :
    k0_pay11 v13 v15 v18 v20 v40 (ix2 r k) = ∑ x : Fin 1024, k0_pay10 v13 v15 v18 v20 (ix2 r x) * v40 (ix3 0 x k) := by
  pointwise [k0_pay11]
theorem pay12_at (v13 : Vec Ideal S1x256x1024 .f32) (v15 : Vec Ideal S1x1x1024 .f32) (v18 v20 : Vec Ideal S1x1024 .f32) (v43 : Vec Ideal S1x1024x512 .bf16)
    (r : Fin 256) (k : Fin 512) :
    k0_pay12 v13 v15 v18 v20 v43 (ix2 r k) = ∑ x : Fin 1024, k0_pay10 v13 v15 v18 v20 (ix2 r x) * v43 (ix3 0 x k) := by
  pointwise [k0_pay12]

section
variable (v39 : FVec Ideal S256x1024 .bf16) (v42 v45 : FVec Ideal S256x512 .f32) (v46 v49 v52 v55 v58 v61 : Vec Ideal S1x1024x512 .bf16)

theorem pay13_at (f : Fin 8 → Fin 512 → EReal) (r : Fin 256) (h42 : ∀ k, v42 (ix2 r k) = f 0 k) (h45 : ∀ k, v45 (ix2 r k) = f 1 k)
    (h46 : ∀ k, ∑ x : Fin 1024, v39 (ix2 r x) * v46 (ix3 0 x k) = f 2 k) (h49 : ∀ k, ∑ x : Fin 1024, v39 (ix2 r x) * v49 (ix3 0 x k) = f 3 k)
    (h52 : ∀ k, ∑ x : Fin 1024, v39 (ix2 r x) * v52 (ix3 0 x k) = f 4 k) (h55 : ∀ k, ∑ x : Fin 1024, v39 (ix2 r x) * v55 (ix3 0 x k) = f 5 k)
    (h58 : ∀ k, ∑ x : Fin 1024, v39 (ix2 r x) * v58 (ix3 0 x k) = f 6 k) (h61 : ∀ k, ∑ x : Fin 1024, v39 (ix2 r x) * v61 (ix3 0 x k) = f 7 k)
    (n : Fin 4096) :
    k0_pay13 v39 v42 v45 v46 v49 v52 v55 v58 v61 (ix2 r n)
      = max (f ⟨n.val / 512, by omega⟩ ⟨n.val % 512, by omega⟩) 0 * max (f ⟨n.val / 512, by omega⟩ ⟨n.val % 512, by omega⟩) 0 := by
  pointwise [k0_pay13]
  simp only [h42, h45, h46, h49, h52, h55, h58, h61]
  exact congrArg (fun u : EReal => max u 0 * max u 0) (ladder f n)
theorem pay14_at (r : Fin 256) (n : Fin 4096) :
    k0_pay14 v39 v42 v45 v46 v49 v52 v55 v58 v61 (ix3 0 r n) = k0_pay13 v39 v42 v45 v46 v49 v52 v55 v58 v61 (ix2 r n) := by
  pointwise [k0_pay14]
theorem pay15_at (v72 : Vec Ideal S4096x1024 .bf16) (r : Fin 256) (d : Fin 1024) :
    k0_pay15 v39 v42 v45 v46 v49 v52 v55 v58 v61 v72 (ix2 r d)
      = ∑ n : Fin 4096, k0_pay13 v39 v42 v45 v46 v49 v52 v55 v58 v61 (ix2 r n) * v72 (ix2 n d) := by
  pointwise [k0_pay15]
theorem pay16_at (v72 : Vec Ideal S4096x1024 .bf16) (r : Fin 256) (d : Fin 1024) :
    k0_pay16 v39 v42 v45 v46 v49 v52 v55 v58 v61 v72 (ix2 r d) = k0_pay15 v39 v42 v45 v46 v49 v52 v55 v58 v61 v72 (ix2 r d) := by
  pointwise [k0_pay16]
end

theorem pay5_at (v14 v73 : FVec Ideal S256x1024 .f32) (v79 : Vec Ideal S1x1024 .f32) (v83 : Vec Ideal S1x256x1024 .f32) (v91 : Vec Ideal S8x128 .f32)
    (i : Fin 8) (k : Fin 128) :
    k0_pay5 v14 v73 v79 v83 v91 (ix2 i k)
      = v91 (ix2 i k) + ∑ r : Fin 256, ∑ d : Fin 1024, k0_pay3 v14 v73 v79 v83 (ix2 r d) * k0_pay3 v14 v73 v79 v83 (ix2 r d) := by
  pointwise [k0_pay5]

end Cert.Kernel9Ideal.Blocks

end
-- ==== Proof.OutOuts.lean ====
module

public import proofs.«01_k».proof.Proof.OutBlocks
public import Idealize.ShloMosaic.Lib.Pipeline.ValueKit

/-! # The last channel mixer's token-wise arrays after the run

Three outputs of the launch hold a block for each grid point: a latent point stores its tokens' values, a context point zeros. -/

@[expose] public section

set_option maxRecDepth 16384

noncomputable section

namespace Cert.Kernel9Ideal.Blocks

open Cert.Kernel9Ideal Cert.Kernel9Ideal.Gen Cert.Out Idealize.ShloMosaic Idealize.ShloMosaic.TcCoe Idealize.SL.Sem
open Cert.Mlp (chans eps ms rs xh gain shift scale gate hid wa up act mo lat ladder)

variable (m : (ℓ : Loc nD τ sig) → Buf (Elt Ideal) ℓ)

set_option maxHeartbeats 1600000

/-! ## A latent point -/

/-- A piece of the hidden layer before the ramp. -/
def piece (c : Dev nD) (t : Fin cfg0.N) (r : Fin 256) (s : Fin 8) (k : Fin 512) : EReal :=
  ∑ x : Fin 1024, hid (fw (ar m c)) (bt t) (tk t r) x * (ar m c).w1 (ix3 s x k)

section
variable (c : Dev nD) (t : Fin cfg0.N) {v39 : FVec Ideal S256x1024 .bf16} {v42 v45 : FVec Ideal S256x512 .f32} {v46 v49 v52 v55 v58 v61 : Vec Ideal S1x1024x512 .bf16}

/-- What a latent point has at hand when it forms the ramp: the first two pieces of the hidden layer, the modulated input and the
other six pieces of the weight. -/
structure Pt (v39 : FVec Ideal S256x1024 .bf16) (v42 v45 : FVec Ideal S256x512 .f32) (v46 v49 v52 v55 v58 v61 : Vec Ideal S1x1024x512 .bf16) : Prop where
  h39 : ∀ r d, v39 (ix2 r d) = hid (fw (ar m c)) (bt t) (tk t r) d
  h42 : ∀ r k, v42 (ix2 r k) = piece m c t r 0 k
  h45 : ∀ r k, v45 (ix2 r k) = piece m c t r 1 k
  h46 : ∀ d k, v46 (ix3 0 d k) = (ar m c).w1 (ix3 2 d k)
  h49 : ∀ d k, v49 (ix3 0 d k) = (ar m c).w1 (ix3 3 d k)
  h52 : ∀ d k, v52 (ix3 0 d k) = (ar m c).w1 (ix3 4 d k)
  h55 : ∀ d k, v55 (ix3 0 d k) = (ar m c).w1 (ix3 5 d k)
  h58 : ∀ d k, v58 (ix3 0 d k) = (ar m c).w1 (ix3 6 d k)
  h61 : ∀ d k, v61 (ix3 0 d k) = (ar m c).w1 (ix3 7 d k)

variable (p : Pt m c t v39 v42 v45 v46 v49 v52 v55 v58 v61)
include p

theorem sq_of (r : Fin 256) (n : Fin 4096) : k0_pay13 v39 v42 v45 v46 v49 v52 v55 v58 v61 (ix2 r n) = sq (ar m c) (bt t) (tk t r) n := by
  have hp : ∀ (v : Vec Ideal S1x1024x512 .bf16) (s : Fin 8) (h : ∀ d k, v (ix3 0 d k) = (ar m c).w1 (ix3 s d k)) (k : Fin 512),
      ∑ x : Fin 1024, v39 (ix2 r x) * v (ix3 0 x k) = piece m c t r s k := fun v s h k =>
    Finset.sum_congr rfl fun x _ => congrArg₂ (fun u w : EReal => u * w) (p.h39 r x) (h x k)
  exact pay13_at v39 v42 v45 v46 v49 v52 v55 v58 v61 (piece m c t r) r (p.h42 r) (p.h45 r) (hp _ 2 p.h46) (hp _ 3 p.h49) (hp _ 4 p.h52)
    (hp _ 5 p.h55) (hp _ 6 p.h58) (hp _ 7 p.h61) n
theorem mo_of (r : Fin 256) (d : Fin 1024) :
    k0_pay15 v39 v42 v45 v46 v49 v52 v55 v58 v61 (iblk m c 4 t) (ix2 r d) = mo (fw (ar m c)) (bt t) (tk t r) d := by
  rw [pay15_at]
  exact Finset.sum_congr rfl fun n _ => congrArg₂ (fun u w : EReal => u * w) (sq_of m c t p r n) (blk4 m c t n d)
theorem err_of (h1 : 1 ≤ t.val % 9) (h) (r : Fin 256) (d : Fin 1024) :
    k0_pay3 (k0_pay9 (iblk m c 0 t)) (k0_pay15 v39 v42 v45 v46 v49 v52 v55 v58 v61 (iblk m c 4 t))
      (View.ld (iblk m c 2 t : Vec Ideal S8x6144 .f32) (Rect.unit (s := S8x6144) (k0_off3 (grid0.coords t)) ![1, 1024] h)) (iblk m c 5 t) (ix2 r d)
      = err (ar m c) (bt t) (tk t r) d := by
  rw [pay3_at, pay9_at, blk0, mo_of m c t p, gate_at m c t h1, blk5 m c t h1]
  rfl
end

/-- A latent point's blocks are those. -/
theorem pt (c : Dev nD) (t : Fin cfg0.N) (h1 : 1 ≤ t.val % 9) (hs) (hk) :
    Pt m c t
      (k0_pay10 (iblk m c 0 t) (iblk m c 1 t)
        (View.ld (iblk m c 2 t : Vec Ideal S8x6144 .f32) (Rect.unit (s := S8x6144) (k0_off1 (grid0.coords t)) ![1, 1024] hs))
        (View.ld (iblk m c 2 t : Vec Ideal S8x6144 .f32) (Rect.unit (s := S8x6144) (k0_off2 (grid0.coords t)) ![1, 1024] hk)))
      (k0_pay11 (iblk m c 0 t) (iblk m c 1 t)
        (View.ld (iblk m c 2 t : Vec Ideal S8x6144 .f32) (Rect.unit (s := S8x6144) (k0_off1 (grid0.coords t)) ![1, 1024] hs))
        (View.ld (iblk m c 2 t : Vec Ideal S8x6144 .f32) (Rect.unit (s := S8x6144) (k0_off2 (grid0.coords t)) ![1, 1024] hk))
        (View.ld (iblk m c 3 t : Vec Ideal S8x1024x512 .bf16) (Rect.unit (s := S8x1024x512) ![0, 0, 0] ![1, 1024, 512] inb_S8x1024x512_S1x1024x512_0_0_0)))
      (k0_pay12 (iblk m c 0 t) (iblk m c 1 t)
        (View.ld (iblk m c 2 t : Vec Ideal S8x6144 .f32) (Rect.unit (s := S8x6144) (k0_off1 (grid0.coords t)) ![1, 1024] hs))
        (View.ld (iblk m c 2 t : Vec Ideal S8x6144 .f32) (Rect.unit (s := S8x6144) (k0_off2 (grid0.coords t)) ![1, 1024] hk))
        (View.ld (iblk m c 3 t : Vec Ideal S8x1024x512 .bf16) (Rect.unit (s := S8x1024x512) ![1, 0, 0] ![1, 1024, 512] inb_S8x1024x512_S1x1024x512_1_0_0)))
      (View.ld (iblk m c 3 t : Vec Ideal S8x1024x512 .bf16) (Rect.unit (s := S8x1024x512) ![2, 0, 0] ![1, 1024, 512] inb_S8x1024x512_S1x1024x512_2_0_0))
      (View.ld (iblk m c 3 t : Vec Ideal S8x1024x512 .bf16) (Rect.unit (s := S8x1024x512) ![3, 0, 0] ![1, 1024, 512] inb_S8x1024x512_S1x1024x512_3_0_0))
      (View.ld (iblk m c 3 t : Vec Ideal S8x1024x512 .bf16) (Rect.unit (s := S8x1024x512) ![4, 0, 0] ![1, 1024, 512] inb_S8x1024x512_S1x1024x512_4_0_0))
      (View.ld (iblk m c 3 t : Vec Ideal S8x1024x512 .bf16) (Rect.unit (s := S8x1024x512) ![5, 0, 0] ![1, 1024, 512] inb_S8x1024x512_S1x1024x512_5_0_0))
      (View.ld (iblk m c 3 t : Vec Ideal S8x1024x512 .bf16) (Rect.unit (s := S8x1024x512) ![6, 0, 0] ![1, 1024, 512] inb_S8x1024x512_S1x1024x512_6_0_0))
      (View.ld (iblk m c 3 t : Vec Ideal S8x1024x512 .bf16) (Rect.unit (s := S8x1024x512) ![7, 0, 0] ![1, 1024, 512] inb_S8x1024x512_S1x1024x512_7_0_0)) := by
  have hh : ∀ r d, k0_pay10 (iblk m c 0 t) (iblk m c 1 t)
        (View.ld (iblk m c 2 t : Vec Ideal S8x6144 .f32) (Rect.unit (s := S8x6144) (k0_off1 (grid0.coords t)) ![1, 1024] hs))
        (View.ld (iblk m c 2 t : Vec Ideal S8x6144 .f32) (Rect.unit (s := S8x6144) (k0_off2 (grid0.coords t)) ![1, 1024] hk)) (ix2 r d) = hid (fw (ar m c)) (bt t) (tk t r) d := fun r d => by
    rw [pay10_at, shift_at m c t h1, scale_at m c t h1, blk1]
    simp only [blk0]
    rfl
  refine ⟨hh, fun r k => ?_, fun r k => ?_, fun d k => blk3 m c t 2 d k _ rfl _, fun d k => blk3 m c t 3 d k _ rfl _, fun d k => blk3 m c t 4 d k _ rfl _,
    fun d k => blk3 m c t 5 d k _ rfl _, fun d k => blk3 m c t 6 d k _ rfl _, fun d k => blk3 m c t 7 d k _ rfl _⟩
  · rw [pay11_at]
    exact Finset.sum_congr rfl fun x _ => congrArg₂ (fun u w : EReal => u * w) (hh r x) (blk3 m c t 0 x k _ rfl _)
  · rw [pay12_at]
    exact Finset.sum_congr rfl fun x _ => congrArg₂ (fun u w : EReal => u * w) (hh r x) (blk3 m c t 1 x k _ rfl _)

/-! ## The arrays -/

/-- The first point, a latent point, a later context point. -/
theorem cases_of (t : Fin cfg0.N) : (t.val % 36 = 0 ∧ ¬1 ≤ t.val % 9 ∧ t.val % 9 = 0) ∨ (¬t.val % 36 = 0 ∧ 1 ≤ t.val % 9 ∧ ¬t.val % 9 = 0)
    ∨ (¬t.val % 36 = 0 ∧ ¬1 ≤ t.val % 9 ∧ t.val % 9 = 0) := by omega

/-- The loss's cotangent. -/
theorem out6 (c : Dev nD) : (dats m 0 c).arrAt 6 cfg0.N = fun i => lat (dy (ar m c)) (i 0) (i 1) (i 2) := by
  refine (dats m 0 c).arrAt_eq_of_covers 6 _ (by decide +kernel) fun t hf y => ?_
  blk_simp
  rw [after0_6]
  rcases cases_of t with ⟨h0, h1, h2⟩ | ⟨h0, h1, h2⟩ | ⟨h0, h1, h2⟩
  · rw [outsAt0_A m c t h0 h1 h2]
    dsimp only
    unfold out0_A_6 kernelRun0_A
    frame_out
    exact close (t := t) (f := lat (dy (ar m c))) (fun r k => (pay8_at r k).trans (if_pos (tk_ctx t h2 r)).symm) (by blk_simp [idx_out t]) (by blk_simp [idx_out t]) (by blk_simp [idx_out t])
  · rw [outsAt0_B m c t h0 h1 h2]
    dsimp only
    unfold out0_B_6 kernelRun0_B
    frame_out
    refine close (t := t) (f := lat (dy (ar m c))) (fun r k => Eq.trans ?_ (if_neg (tk_lat t h1 r)).symm) ?_ ?_ ?_
    · exact (pay4_at _ _ _ _ r k).trans (congrArg (· * scl) (err_of m c t (pt m c t h1 _ _) h1 _ r k))
    all_goals blk_simp [idx_out t]
  · rw [outsAt0_C m c t h0 h1 h2]
    dsimp only
    unfold out0_C_6 kernelRun0_C
    frame_out
    exact close (t := t) (f := lat (dy (ar m c))) (fun r k => (pay8_at r k).trans (if_pos (tk_ctx t h2 r)).symm) (by blk_simp [idx_out t]) (by blk_simp [idx_out t]) (by blk_simp [idx_out t])

/-- The channel mixer's output. -/
theorem out7 (c : Dev nD) : (dats m 0 c).arrAt 7 cfg0.N = fun i => lat (mo (fw (ar m c))) (i 0) (i 1) (i 2) := by
  refine (dats m 0 c).arrAt_eq_of_covers 7 _ (by decide +kernel) fun t hf y => ?_
  blk_simp
  rw [after0_7]
  rcases cases_of t with ⟨h0, h1, h2⟩ | ⟨h0, h1, h2⟩ | ⟨h0, h1, h2⟩
  · rw [outsAt0_A m c t h0 h1 h2]
    dsimp only
    unfold out0_A_7 kernelRun0_A
    frame_out
    exact close (t := t) (f := lat (mo (fw (ar m c)))) (fun r k => (pay6_at r k).trans (if_pos (tk_ctx t h2 r)).symm) (by blk_simp [idx_out t]) (by blk_simp [idx_out t]) (by blk_simp [idx_out t])
  · rw [outsAt0_B m c t h0 h1 h2]
    dsimp only
    unfold out0_B_7 kernelRun0_B
    frame_out
    refine close (t := t) (f := lat (mo (fw (ar m c)))) (fun r k => Eq.trans ?_ (if_neg (tk_lat t h1 r)).symm) ?_ ?_ ?_
    · exact (pay2_at _ r k).trans ((pay16_at _ _ _ _ _ _ _ _ _ _ r k).trans (mo_of m c t (pt m c t h1 _ _) r k))
    all_goals blk_simp [idx_out t]
  · rw [outsAt0_C m c t h0 h1 h2]
    dsimp only
    unfold out0_C_7 kernelRun0_C
    frame_out
    exact close (t := t) (f := lat (mo (fw (ar m c)))) (fun r k => (pay6_at r k).trans (if_pos (tk_ctx t h2 r)).symm) (by blk_simp [idx_out t]) (by blk_simp [idx_out t]) (by blk_simp [idx_out t])

/-- The squared ramp. -/
theorem out8 (c : Dev nD) : (dats m 0 c).arrAt 8 cfg0.N = fun i => lat (sq (ar m c)) (i 0) (i 1) (i 2) := by
  refine (dats m 0 c).arrAt_eq_of_covers 8 _ (by decide +kernel) fun t hf y => ?_
  blk_simp
  rw [after0_8]
  rcases cases_of t with ⟨h0, h1, h2⟩ | ⟨h0, h1, h2⟩ | ⟨h0, h1, h2⟩
  · rw [outsAt0_A m c t h0 h1 h2]
    dsimp only
    unfold out0_A_8 kernelRun0_A
    frame_out
    exact close (t := t) (f := lat (sq (ar m c))) (fun r k => (pay7_at r k).trans (if_pos (tk_ctx t h2 r)).symm) (by blk_simp [idx_out t]) (by blk_simp [idx_out t]) (by blk_simp [idx_out t])
  · rw [outsAt0_B m c t h0 h1 h2]
    dsimp only
    unfold out0_B_8 kernelRun0_B
    frame_out
    refine close (t := t) (f := lat (sq (ar m c))) (fun r k => Eq.trans ?_ (if_neg (tk_lat t h1 r)).symm) ?_ ?_ ?_
    · exact (pay14_at _ _ _ _ _ _ _ _ _ r k).trans (sq_of m c t (pt m c t h1 _ _) r k)
    all_goals blk_simp [idx_out t]
  · rw [outsAt0_C m c t h0 h1 h2]
    dsimp only
    unfold out0_C_8 kernelRun0_C
    frame_out
    exact close (t := t) (f := lat (sq (ar m c))) (fun r k => (pay7_at r k).trans (if_pos (tk_ctx t h2 r)).symm) (by blk_simp [idx_out t]) (by blk_simp [idx_out t]) (by blk_simp [idx_out t])

end Cert.Kernel9Ideal.Blocks

end
-- ==== Proof.OutSums.lean ====
module

public import proofs.«01_k».proof.Proof.OutOuts
public import proofs.«01_k».proof.Proof.MlpSums
public import Idealize.ShloMosaic.Lib.Pipeline.ValueKit

/-! # The squared errors' sum after the run, and the run with every result named

The launch keeps one block for its whole length: zeroed at the first point, every latent point's squared errors added to each of its
elements, written back after the last. -/

@[expose] public section

set_option maxRecDepth 16384

noncomputable section

namespace Cert.Kernel9Ideal.Blocks

open Cert.Kernel9Ideal Cert.Kernel9Ideal.Gen Cert.Out Idealize.ShloMosaic Idealize.ShloMosaic.TcCoe Idealize.SL.Sem
open Cert.Mlp (lat mo)

variable (m : (ℓ : Loc nD τ sig) → Buf (Elt Ideal) ℓ)

/-- What a point adds. -/
def part (a : Args) (t : Fin cfg0.N) : EReal := if 1 ≤ t.val % 9 then ∑ r : Fin 256, se a (bt t) (tk t r) else 0

/-- The points' squared errors put together. -/
theorem total_part (a : Args) (hN : cfg0.N = 36) : ∑ p : Fin 36, part a ⟨p.val, by have := p.isLt; omega⟩ = sse a := by
  refine Eq.trans ?_ ((Cert.Kernel2Ideal.Blocks.total (se a) (fun _ => 0) 0).trans (Finset.sum_congr rfl fun b _ => if_pos rfl))
  exact Finset.sum_congr rfl fun p _ => if_congr Iff.rfl (if_pos rfl).symm rfl

set_option maxHeartbeats 1600000 in
theorem sse_A (c : Dev nD) (t : Fin cfg0.N) (h0 : t.val % 36 = 0) (i : Fin 8) (k : Fin 128) :
    (outsAt0 m c t.val t.isLt).2.2.2 (ix2 i k) = 0 + part (ar m c) t := by
  have h1 : ¬1 ≤ t.val % 9 := by omega
  unfold part
  rw [if_neg h1, add_zero, outsAt0_A m c t h0 h1 (by omega)]
  dsimp only
  unfold out0_A_9 kernelRun0_A
  frame_out
  exact pay1_at i k

set_option maxHeartbeats 1600000 in
theorem sse_B (c : Dev nD) (t : Fin cfg0.N) (h0 : ¬t.val % 36 = 0) (i : Fin 8) (k : Fin 128) :
    (outsAt0 m c t.val t.isLt).2.2.2 (ix2 i k)
      = (outsAt0 m c (t.val - 1) (Nat.lt_of_le_of_lt (Nat.sub_le _ _) t.isLt)).2.2.2 (ix2 i k) + part (ar m c) t := by
  unfold part
  by_cases h1 : 1 ≤ t.val % 9
  · rw [if_pos h1, outsAt0_B m c t h0 h1 (by omega)]
    dsimp only
    unfold out0_B_9 kernelRun0_B
    frame_out
    rw [pay5_at]
    refine congrArg₂ (· + ·) ?_ (Finset.sum_congr rfl fun r _ => Finset.sum_congr rfl fun d _ =>
      congrArg (fun u : EReal => u * u) (err_of m c t (pt m c t h1 _ _) h1 _ r d))
    rfl
  · rw [if_neg h1, add_zero, outsAt0_C m c t h0 h1 (by omega)]
    dsimp only
    unfold out0_C_9
    rfl

/-- The sum of the squared errors, in every element of the block. -/
theorem out9 (c : Dev nD) : (dats m 0 c).arrAt 9 cfg0.N = fun _ => sse (ar m c) := by
  refine (dats m 0 c).arrAt_eq_of_covers 9 _ (by decide +kernel) fun t hf y => ?_
  blk_simp
  rw [after0_9]
  have ht : t.val % 36 = 35 := (flush0_9 t).mp hf
  have hN : cfg0.N = 36 := N_0
  have e : ∀ (i : Fin 8) (k : Fin 128), (outsAt0 m c t.val t.isLt).2.2.2 (ix2 i k) = sse (ar m c) := fun i k => by
    have := Pipeline.eq_sum_fin_of_reset_step_apply_last (fun n h (j : Fin 8 × Fin 128) => (outsAt0 m c n h).2.2.2 (ix2 j.1 j.2)) 36
      (fun _ => (0 : EReal)) (fun t j => part (ar m c) t) (fun t h j => sse_A m c t h j.1 j.2) (fun t h j => sse_B m c t h j.1 j.2)
      (le_of_eq hN) t (by have h1 : t.val < cfg0.N := t.isLt; omega) (i, k)
    exact this.trans ((zero_add _).trans (total_part _ hN))
  have hy : y = ix2 (y 0) (y 1) := by blk_ext []
  exact (congrArg _ hy).trans (e (y 0) (y 1))

/-! ## The run -/

theorem post6 (r : PUnit × MemSt nD τ sig (Elt Ideal)) (h : Pipeline.FramePost cfgs (dats m) 0 (V m) r) (c : Dev nD) :
    r.2.mem ((c : Thread nD τ).loc main_v1_0) = (dats m 0 c).arrAt 6 cfg0.N := (h c).1 6
theorem post7 (r : PUnit × MemSt nD τ sig (Elt Ideal)) (h : Pipeline.FramePost cfgs (dats m) 0 (V m) r) (c : Dev nD) :
    r.2.mem ((c : Thread nD τ).loc main_v1_1) = (dats m 0 c).arrAt 7 cfg0.N := (h c).1 7
theorem post8 (r : PUnit × MemSt nD τ sig (Elt Ideal)) (h : Pipeline.FramePost cfgs (dats m) 0 (V m) r) (c : Dev nD) :
    r.2.mem ((c : Thread nD τ).loc main_v1_2) = (dats m 0 c).arrAt 8 cfg0.N := (h c).1 8
theorem post9 (r : PUnit × MemSt nD τ sig (Elt Ideal)) (h : Pipeline.FramePost cfgs (dats m) 0 (V m) r) (c : Dev nD) :
    r.2.mem ((c : Thread nD τ).loc main_v1_3) = (dats m 0 c).arrAt 9 cfg0.N := (h c).1 9

/-- The launch's results and its unchanged arguments. -/
theorem run_values (g : Dev nD → PrngReg) : θ_run defs (onTc (τ := τ) (main (F := Ideal))) ⟨m, fun _ => 0, g⟩ fun r => ∀ c : Dev nD,
      r.2.mem ((c : Thread nD τ).loc main_v1_0) = (fun i => lat (dy (ar m c)) (i 0) (i 1) (i 2))
      ∧ r.2.mem ((c : Thread nD τ).loc main_v1_1) = (fun i => lat (mo (fw (ar m c))) (i 0) (i 1) (i 2))
      ∧ r.2.mem ((c : Thread nD τ).loc main_v1_2) = (fun i => lat (sq (ar m c)) (i 0) (i 1) (i 2))
      ∧ r.2.mem ((c : Thread nD τ).loc main_v1_3) = (fun _ => sse (ar m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(post6 m r h.1 c).trans (out6 m c),
      (post7 m r h.1 c).trans (out7 m c),
      (post8 m r h.1 c).trans (out8 m c),
      (post9 m r h.1 c).trans (out9 m c),
      h.2 c⟩) (θ_run_and (run_main m g) (unchanged m g))

end Cert.Kernel9Ideal.Blocks

end
-- ==== Proof.OutRef.lean ====
module

public import proofs.«01_k».proof.Proof.Gen.Reference9Ideal.Read
public import proofs.«01_k».proof.Proof.Gen.Reference9Ideal.Run
public import proofs.«01_k».proof.Proof.Out
public import Idealize.ShloMosaic.Lib.Pipeline.ValueKit

/-! # What the last channel mixer's reference computes

The plain program's arrays, read at one element. Its arrays have the latent tokens only; token `s` of them is token `256 + s` of
the arguments. -/

@[expose] public section

set_option maxRecDepth 16384

noncomputable section

namespace Cert.Reference9Ideal.Stage

open Cert.Reference9Ideal Cert.Reference9Ideal.Gen Cert.Reference9Ideal.Read Cert.Out Idealize.ShloMosaic Idealize.ShloMosaic.TcCoe Idealize.SL.Sem
open Cert.Mlp (ms rs xh gain shift scale gate hid wa up act mo lat ladder)

variable (a : Args)

/-- The latent token's place among all tokens. -/
abbrev lt (s : Fin 2048) : Fin 2304 := ⟨256 + s.val, by omega⟩

theorem lt_sub {t : Fin 2304} (h : ¬ t.val < 256) : lt ⟨t.val - 256, by omega⟩ = t := Fin.ext (by dsimp only; omega)

theorem w1_at (d : Fin 1024) (n : Fin 4096) : val_main_v44 (F := Ideal) a.w1 (ix2 d n) = wa (fw a) d n := by
  pointwise [val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27]
  exact ladder (fun s k => a.w1 (ix3 s d k)) n

theorem rs_at (b : Fin 4) (s : Fin 2048) : val_main_v15 (F := Ideal) a.x (ix3 b s 0) = rs (fw a) b (lt s) := by
  pointwise [val_main_v15, val_main_v14, val_main_v13, val_main_v12, val_main_v11, val_main_v10, val_main_v9, val_main_v8, val_main_v5, val_main_cst, val_main_cst_0, val_main_cst_1]
  rfl
theorem xh_at (b : Fin 4) (s : Fin 2048) (d : Fin 1024) : val_main_v17 (F := Ideal) a.x (ix3 b s d) = xh (fw a) b (lt s) d := by
  pointwise [val_main_v17, val_main_v16, val_main_v5]
  rw [rs_at]
  rfl
theorem gain_at (b : Fin 4) (s : Fin 2048) (d : Fin 1024) : val_main_v20 (F := Ideal) a.x a.gn (ix3 b s d) = xh (fw a) b (lt s) d * gain (fw a) d := by
  pointwise [val_main_v20, val_main_v19, val_main_v18, val_main_v7, val_main_v6]
  rw [xh_at]
  rfl
theorem scale_at (b : Fin 4) (s : Fin 2048) (d : Fin 1024) : val_main_v23 (F := Ideal) a.md (ix3 b s d) = scale (fw a) b d := by
  pointwise [val_main_v23, val_main_v22, val_main_v21, val_main_cst_2, val_main_v3, val_main_v1, val_main_v0]
  have e1 : ∀ h, (⟨3072 + (1024 + d.val), h⟩ : Fin 6144) = ⟨4096 + d.val, by omega⟩ := fun h => Fin.ext (by dsimp only; omega)
  simp only [e1]
  rfl
theorem hid_at (b : Fin 4) (s : Fin 2048) (d : Fin 1024) : val_main_v26 (F := Ideal) a.x a.gn a.md (ix3 b s d) = hid (fw a) b (lt s) d := by
  pointwise [val_main_v26, val_main_v25, val_main_v24, val_main_v2, val_main_v1, val_main_v0]
  rw [gain_at, scale_at]
  rfl
theorem up_at (b : Fin 4) (s : Fin 2048) (n : Fin 4096) : val_main_v45 (F := Ideal) a.x a.gn a.md a.w1 (ix3 b s n) = up (fw a) b (lt s) n := by
  pointwise [val_main_v45]
  simp only [hid_at, w1_at]
  rfl
theorem sq_at (b : Fin 4) (s : Fin 2048) (n : Fin 4096) : val_main_v47 (F := Ideal) a.x a.gn a.md a.w1 (ix3 b s n) = sq a b (lt s) n := by
  pointwise [val_main_v47, val_main_v46, val_main_call0_v0, val_main_call0_cst]
  rw [up_at]
  rfl
theorem mo_at (b : Fin 4) (s : Fin 2048) (d : Fin 1024) : val_main_v49 (F := Ideal) a.x a.gn a.md a.w1 a.w2 (ix3 b s d) = mo (fw a) b (lt s) d := by
  pointwise [val_main_v49, val_main_v48]
  simp only [sq_at]
  rfl
theorem y_at (b : Fin 4) (s : Fin 2048) (d : Fin 1024) : val_main_v52 (F := Ideal) a.x a.gn a.md a.w1 a.w2 (ix3 b s d)
    = a.x (ix3 b (lt s) d) + gate (fw a) b d * mo (fw a) b (lt s) d := by
  pointwise [val_main_v52, val_main_v51, val_main_v50, val_main_v5, val_main_v4, val_main_v1, val_main_v0]
  have e1 : ∀ h, (⟨3072 + (2048 + d.val), h⟩ : Fin 6144) = ⟨5120 + d.val, by omega⟩ := fun h => Fin.ext (by dsimp only; omega)
  simp only [e1, mo_at]
  rfl
theorem tg_at (b : Fin 4) (s : Fin 2048) (d : Fin 1024) :
    a.x (ix3 b (lt s) d) + gate (fw a) b d * mo (fw a) b (lt s) d - a.tg (ix3 b s d) = err a b (lt s) d := by
  have e1 : ∀ h, (⟨(lt s).val - 256, h⟩ : Fin 2048) = s := fun h => Fin.ext (by dsimp only; omega)
  unfold err
  rw [e1]

/-! ## The results -/

theorem dy_at (b : Fin 4) (s : Fin 2048) (d : Fin 1024) : val_main_v67 (F := Ideal) a.x a.gn a.md a.w1 a.w2 a.tg (ix3 b s d) = dy a b (lt s) d := by
  pointwise [val_main_v67, val_main_v66, val_main_v65, val_main_v64, val_main_v63, val_main_v62, val_main_v56, val_main_v55, val_main_v53, val_main_cst_3, val_main_cst_8, val_main_cst_9, val_main_cst_10]
  rw [y_at, tg_at]
  exact share _
theorem dx_at (b : Fin 4) (t : Fin 2304) (d : Fin 1024) : val_main_v69 (F := Ideal) a.x a.gn a.md a.w1 a.w2 a.tg (ix3 b t d) = lat (dy a) b t d := by
  pointwise [val_main_v69, val_main_v68, val_main_cst_11]
  unfold lat
  by_cases h : t.val < 256
  · rw [dif_pos h, if_pos h]
  · rw [dif_neg h, if_neg h, dy_at, lt_sub h]
theorem hmo_at (b : Fin 4) (t : Fin 2304) (d : Fin 1024) : val_main_v72 (F := Ideal) a.x a.gn a.md a.w1 a.w2 (ix3 b t d) = lat (mo (fw a)) b t d := by
  pointwise [val_main_v72, val_main_v71, val_main_v70, val_main_cst_12]
  unfold lat
  by_cases h : t.val < 256
  · rw [dif_pos h, if_pos h]
  · rw [dif_neg h, if_neg h, mo_at, lt_sub h]
theorem hsq_at (b : Fin 4) (t : Fin 2304) (n : Fin 4096) : val_main_v75 (F := Ideal) a.x a.gn a.md a.w1 (ix3 b t n) = lat (sq a) b t n := by
  pointwise [val_main_v75, val_main_v74, val_main_v73, val_main_cst_13]
  unfold lat
  by_cases h : t.val < 256
  · rw [dif_pos h, if_pos h]
  · rw [dif_neg h, if_neg h, sq_at, lt_sub h]

/-- A sum over all three axes. -/
theorem sum012 (x : FVec Ideal S4x2048x1024 .f32) : ∑ j : S4x2048x1024.Idx, x j = ∑ b : Fin 4, ∑ s : Fin 2048, ∑ d : Fin 1024, x (ix3 b s d) := by
  refine Eq.symm ?_
  simp only [← Fintype.sum_prod_type']
  refine Fintype.sum_bijective (fun k : Fin 4 × Fin 2048 × Fin 1024 => (ix3 k.1 k.2.1 k.2.2 : S4x2048x1024.Idx)) ⟨fun p q e => ?_, fun i => ⟨(i 0, i 1, i 2), ?_⟩⟩ _ _ fun _ => rfl
  · exact Prod.ext (congrFun e 0) (Prod.ext (congrFun e 1) (congrFun e 2))
  · blk_ext []
theorem sse_at (i : Fin 8) (k : Fin 128) : val_main_v79 (F := Ideal) a.x a.gn a.md a.w1 a.w2 a.tg (ix2 i k) = sse a := by
  rw [val_main_v79_apply, val_main_v78_apply, sum012]
  pointwise [val_main_v77, val_main_v76, val_main_cst_14]
  simp only [y_at, tg_at]
  rfl

/-! ## The run -/

theorem ext3 {K : ℕ} {X : Shape.Idx ⟨3, ![4, 2304, K]⟩ → EReal} {f : Fin 4 → Fin 2304 → Fin K → EReal}
    (h : ∀ b t k, X (ix3 b t k) = f b t k) : X = fun i => f (i 0) (i 1) (i 2) := by
  funext i
  have hi : i = ix3 (i 0) (i 1) (i 2) := by blk_ext []
  exact (congrArg X hi).trans (h (i 0) (i 1) (i 2))
theorem ext2 {X : Shape.Idx ⟨2, ![8, 128]⟩ → EReal} {s : EReal} (h : ∀ i k, X (ix2 i k) = s) : X = fun _ => s := by
  funext i
  have hi : i = ix2 (i 0) (i 1) := by blk_ext []
  exact (congrArg X hi).trans (h (i 0) (i 1))

variable (m : (ℓ : Loc nD τ sig) → Buf (Elt Ideal) ℓ)

/-- A device's arguments. -/
abbrev ar (c : Dev nD) : Args :=
  ⟨m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5)⟩

/-- The reference's run, with every result named. -/
theorem run_values (g : Dev nD → PrngReg) :
    θ_run defs (onTc (τ := τ) (main (F := Ideal))) ⟨m, fun _ => 0, g⟩ fun r => ∀ c : Dev nD,
      r.2.mem ((c : Thread nD τ).loc main_v69) = (fun i => lat (dy (ar m c)) (i 0) (i 1) (i 2))
      ∧ r.2.mem ((c : Thread nD τ).loc main_v72) = (fun i => lat (mo (fw (ar m c))) (i 0) (i 1) (i 2))
      ∧ r.2.mem ((c : Thread nD τ).loc main_v75) = (fun i => lat (sq (ar m c)) (i 0) (i 1) (i 2))
      ∧ r.2.mem ((c : Thread nD τ).loc main_v79) = (fun _ => sse (ar m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run _ _ _).mono (fun r h c => ?_) (Cert.Reference9Ideal.Value.run (F := Ideal) m g)
  obtain ⟨e69, e72, e75, e79, hk⟩ := h c
  exact ⟨(e69.trans (val_main_v69_eq m c)).trans (ext3 (dx_at (ar m c))),
    (e72.trans (val_main_v72_eq m c)).trans (ext3 (hmo_at (ar m c))),
    (e75.trans (val_main_v75_eq m c)).trans (ext3 (hsq_at (ar m c))),
    (e79.trans (val_main_v79_eq m c)).trans (ext2 (sse_at (ar m c))),
    hk⟩

end Cert.Reference9Ideal.Stage

end
-- ==== Proof.OutEquation.lean ====
module

public import proofs.«01_k».proof.Defs
public import proofs.«01_k».proof.Proof.OutSums
public import proofs.«01_k».proof.Proof.OutRef

/-! # The last channel mixer's equation

Both programs leave the specification's four arrays. -/

@[expose] public section

set_option maxRecDepth 16384
set_option maxHeartbeats 1600000

noncomputable section

namespace Cert.Proof

open Cert.Out Idealize.ShloMosaic Idealize.ShloMosaic.TcCoe Idealize.SL.Sem
open Cert.Mlp (lat mo)

/-- Kernel and reference compute the same four arrays over the extended reals. -/
theorem mlp_fwd : @Cert.algebraic_Kernel9Ideal_Reference9Ideal Cert.Kernel9Ideal.Gen.facts Cert.Reference9Ideal.Gen.facts := by
  intro m g m' g' _ hargs
  have e : ∀ c, Cert.Reference9Ideal.Stage.ar m' c = Cert.Kernel9Ideal.Blocks.ar m c := fun c => by
    obtain ⟨h0, h1, h2, h3, h4, h5⟩ := hargs c
    unfold Cert.Reference9Ideal.Stage.ar Cert.Kernel9Ideal.Blocks.ar
    rw [h0, h1, h2, h3, h4, h5]
  refine ⟨fun c i => lat (dy (Cert.Kernel9Ideal.Blocks.ar m c)) (i 0) (i 1) (i 2),
    fun c i => lat (mo (fw (Cert.Kernel9Ideal.Blocks.ar m c))) (i 0) (i 1) (i 2),
    fun c i => lat (sq (Cert.Kernel9Ideal.Blocks.ar m c)) (i 0) (i 1) (i 2),
    fun c _ => sse (Cert.Kernel9Ideal.Blocks.ar m c), ?_, ?_⟩
  · exact Cert.Kernel9Ideal.Blocks.run_values m g
  · refine (θ_run _ _ _).mono (fun r h c => ?_) (Cert.Reference9Ideal.Stage.run_values m' g')
    have := h c
    rw [e c] at this
    exact this

end Cert.Proof

end
-- ==== Proof.InpNextBlocks.lean ====
module

public import proofs.«01_k».proof.Proof.Gen.Kernel10Ideal.Value
public import proofs.«01_k».proof.Proof.InpBlocks
public import Idealize.ShloMosaic.Lib.Pipeline.ValueKit

/-! # What a grid point of the second layer's input projection reads and computes

The body is the first layer's: its values are the first layer's values, of this launch's blocks. The gain is the second
layer's, and the input's cotangent has a block for every point. -/

@[expose] public section

set_option maxRecDepth 16384

noncomputable section

namespace Cert.Kernel10Ideal.Blocks

open Cert.Kernel10Ideal Cert.Kernel10Ideal.Gen Cert.Inp Idealize.ShloMosaic Idealize.ShloMosaic.TcCoe Idealize.SL.Sem
open Cert.Kernel8Ideal.Blocks (bt tk rw_ row_eq rw_val)

variable (m : (ℓ : Loc nD τ sig) → Buf (Elt Ideal) ℓ)

/-- The arguments a device's memory holds. -/
abbrev ar (c : Dev nD) : Args :=
  ⟨m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5),
    pick 1 (m ((c : Thread nD τ).loc main_arg6)), m ((c : Thread nD τ).loc main_arg7)⟩

theorem idx : ∀ t : Fin cfg0.N,
    win0_0.index t = ![t.val / 9, t.val % 9, 0] ∧ win0_1.index t = ![t.val / 9, t.val % 9, 0]
    ∧ win0_2.index t = ![t.val / 9, t.val % 9, 0] ∧ win0_3.index t = ![0, 0] ∧ win0_4.index t = ![t.val / 9, t.val % 9, 0]
    ∧ win0_5.index t = ![t.val / 9, t.val % 9, 0] ∧ win0_6.index t = ![1, 0, 0] ∧ win0_7.index t = ![0, 0] :=
  (by decide +kernel : ∀ t : Fin grid0.N, _)

theorem idx_out : ∀ t : Fin cfg0.N,
    win0_8.index t = ![t.val / 9, t.val % 9, 0] ∧ win0_9.index t = ![t.val / 9, t.val % 9, 0]
    ∧ win0_10.index t = ![0, 0] ∧ win0_11.index t = ![0, 0] :=
  (by decide +kernel : ∀ t : Fin grid0.N, _)

/-- Where a point finds its row of the modulation and of the modulation's cotangent. -/
theorem off1' : ∀ t : Fin cfg0.N, k0_off1 (grid0.coords t) = ![if t.val % 9 = 0 then 4 else t.val / 9, 1024] :=
  (by decide +kernel : ∀ t : Fin grid0.N, _)
theorem off2' : ∀ t : Fin cfg0.N, k0_off2 (grid0.coords t) = ![if t.val % 9 = 0 then 4 else t.val / 9, 0] :=
  (by decide +kernel : ∀ t : Fin grid0.N, _)
theorem off1 (t : Fin cfg0.N) : k0_off1 (grid0.coords t) = ![(rw_ t).val, 1024] := by rw [off1' t, rw_val]
theorem off2 (t : Fin cfg0.N) : k0_off2 (grid0.coords t) = ![(rw_ t).val, 0] := by rw [off2' t, rw_val]

/-! ## The blocks -/

theorem blk0 (c : Dev nD) (t : Fin cfg0.N) (r : Fin 256) (k : Fin 1280) :
    (iblk m c 0 t : Vec Ideal S1x256x1280 .bf16) (ix3 0 r k) = (ar m c).zq (ix3 (bt t) (tk t r) k) := by
  blk_point [iblk, V_main_arg0, idx t, bt, tk]
theorem blk1 (c : Dev nD) (t : Fin cfg0.N) (r : Fin 256) (k : Fin 256) :
    (iblk m c 1 t : Vec Ideal S1x256x256 .bf16) (ix3 0 r k) = (ar m c).zu (ix3 (bt t) (tk t r) k) := by
  blk_point [iblk, V_main_arg1, idx t, bt, tk]
theorem blk2 (c : Dev nD) (t : Fin cfg0.N) (r : Fin 256) (k : Fin 3072) :
    (iblk m c 2 t : Vec Ideal S1x256x3072 .bf16) (ix3 0 r k) = (ar m c).zg (ix3 (bt t) (tk t r) k) := by
  blk_point [iblk, V_main_arg2, idx t, bt, tk]
theorem blk3 (c : Dev nD) (t : Fin cfg0.N) (d : Fin 1024) (n : Fin 4608) :
    (iblk m c 3 t : Vec Ideal S1024x4608 .bf16) (ix2 d n) = (ar m c).w (ix2 d n) := by
  blk_point [iblk, V_main_arg3, idx t]
theorem blk4 (c : Dev nD) (t : Fin cfg0.N) (r : Fin 256) (k : Fin 1024) :
    (iblk m c 4 t : Vec Ideal S1x256x1024 .f32) (ix3 0 r k) = (ar m c).x (ix3 (bt t) (tk t r) k) := by
  blk_point [iblk, V_main_arg4, idx t, bt, tk]
theorem blk5 (c : Dev nD) (t : Fin cfg0.N) (r : Fin 256) (k : Fin 1024) :
    (iblk m c 5 t : Vec Ideal S1x256x1024 .f32) (ix3 0 r k) = (ar m c).dx (ix3 (bt t) (tk t r) k) := by
  blk_point [iblk, V_main_arg5, idx t, bt, tk]
theorem gn_at (c : Dev nD) (i : Fin 2) (n : Fin 1024) : V m c main_v0 (ix3 i 0 n) = m ((c : Thread nD τ).loc main_arg6) (ix2 i n) := by
  entry_read
  pointwise []
theorem blk6' (c : Dev nD) (t : Fin cfg0.N) (k : Fin 1024) :
    (iblk m c 6 t : Vec Ideal S1x1x1024 .f32) (ix3 0 0 k) = V m c main_v0 (ix3 1 0 k) := by
  blk_point [iblk, idx t]
theorem blk6 (c : Dev nD) (t : Fin cfg0.N) (k : Fin 1024) :
    (iblk m c 6 t : Vec Ideal S1x1x1024 .f32) (ix3 0 0 k) = gain (ar m c) k :=
  (blk6' m c t k).trans (gn_at m c 1 k)
theorem scale_at (c : Dev nD) (t : Fin cfg0.N) (k : Fin 1024) (h) :
    View.ld (iblk m c 7 t : Vec Ideal S8x6144 .f32) (Rect.unit (s := S8x6144) (k0_off1 (grid0.coords t)) ![1, 1024] h) (ix2 0 k)
      = (ar m c).md (ix2 (rw_ t) ⟨1024 + k.val, by omega⟩) := by
  pointwise []
  blk_point [iblk, V_main_arg7, idx t, off1 t]

/-! ## The body's values are the first layer's -/

theorem same1 : k0_pay1 (F := Ideal) = Cert.Kernel8Ideal.Gen.k0_pay1 (F := Ideal) := rfl
theorem same2 : k0_pay2 (F := Ideal) = Cert.Kernel8Ideal.Gen.k0_pay2 (F := Ideal) := rfl
theorem same3 : k0_pay3 (F := Ideal) = Cert.Kernel8Ideal.Gen.k0_pay3 (F := Ideal) := rfl
theorem same4 : k0_pay4 (F := Ideal) = Cert.Kernel8Ideal.Gen.k0_pay4 (F := Ideal) := rfl
theorem same5 : k0_pay5 (F := Ideal) = Cert.Kernel8Ideal.Gen.k0_pay5 (F := Ideal) := rfl
theorem same6 : k0_pay6 (F := Ideal) = Cert.Kernel8Ideal.Gen.k0_pay6 (F := Ideal) := rfl
theorem same7 : k0_pay7 (F := Ideal) = Cert.Kernel8Ideal.Gen.k0_pay7 (F := Ideal) := rfl
theorem same8 : k0_pay8 (F := Ideal) = Cert.Kernel8Ideal.Gen.k0_pay8 (F := Ideal) := rfl
theorem same9 : k0_pay9 (F := Ideal) = Cert.Kernel8Ideal.Gen.k0_pay9 (F := Ideal) := rfl
theorem same10 : k0_pay10 (F := Ideal) = Cert.Kernel8Ideal.Gen.k0_pay10 (F := Ideal) := rfl
theorem same11 : k0_pay11 (F := Ideal) = Cert.Kernel8Ideal.Gen.k0_pay11 (F := Ideal) := rfl
theorem same12 : k0_pay12 (F := Ideal) = Cert.Kernel8Ideal.Gen.k0_pay12 (F := Ideal) := rfl
theorem same13 : k0_pay13 (F := Ideal) = Cert.Kernel8Ideal.Gen.k0_pay13 (F := Ideal) := rfl
theorem same14 : k0_pay14 (F := Ideal) = Cert.Kernel8Ideal.Gen.k0_pay14 (F := Ideal) := rfl
theorem same15 : k0_pay15 (F := Ideal) = Cert.Kernel8Ideal.Gen.k0_pay15 (F := Ideal) := rfl

/-! ## The same, from a point's blocks -/

theorem dz_blk (c : Dev nD) (t : Fin cfg0.N) (r : Fin 256) (n : Fin 4608) :
    k0_pay4 (iblk m c 0 t) (iblk m c 1 t) (iblk m c 2 t) (ix2 r n) = dz (ar m c) (bt t) (tk t r) n := by
  rw [same4, Cert.Kernel8Ideal.Blocks.pay4_at]
  unfold dz
  simp only [blk0, blk1, blk2]
theorem dh_blk (c : Dev nD) (t : Fin cfg0.N) (r : Fin 256) (d : Fin 1024) :
    k0_pay6 (iblk m c 0 t) (iblk m c 1 t) (iblk m c 2 t) (iblk m c 3 t) (ix2 r d) = dh (ar m c) (bt t) (tk t r) d := by
  rw [same6, Cert.Kernel8Ideal.Blocks.pay6_at]
  simp only [← same4, dz_blk, blk3]
  rfl
theorem rs_blk (c : Dev nD) (t : Fin cfg0.N) (r : Fin 256) : k0_pay10 (k0_pay9 (iblk m c 4 t)) (ix2 r 0) = rs (ar m c) (bt t) (tk t r) := by
  rw [same10, same9, Cert.Kernel8Ideal.Blocks.pay10_at]; simp only [blk4]; rfl
theorem xh_blk (c : Dev nD) (t : Fin cfg0.N) (r : Fin 256) (d : Fin 1024) :
    k0_pay11 (k0_pay8 (iblk m c 4 t)) (k0_pay9 (iblk m c 4 t)) (ix2 r d) = xh (ar m c) (bt t) (tk t r) d := by
  rw [same11, Cert.Kernel8Ideal.Blocks.pay11_at, ← same10, same8, Cert.Kernel8Ideal.Blocks.pay8_at, rs_blk, blk4]; rfl

end Cert.Kernel10Ideal.Blocks

end
-- ==== Proof.InpNextOuts.lean ====
module

public import proofs.«01_k».proof.Proof.InpNextBlocks
public import proofs.«01_k».proof.Proof.InpOuts
public import Idealize.ShloMosaic.Lib.Pipeline.ValueKit

/-! # The token-wise cotangents of the second layer's input projection after the run

Both cotangents have a block for each grid point, whether it is the launch's first point or a later one. -/

@[expose] public section

set_option maxRecDepth 16384

noncomputable section

namespace Cert.Kernel10Ideal.Blocks

open Cert.Kernel10Ideal Cert.Kernel10Ideal.Gen Cert.Inp Idealize.ShloMosaic Idealize.ShloMosaic.TcCoe Idealize.SL.Sem

open Cert.Kernel8Ideal.Blocks (bt tk rw_ close pay5_at pay7_at dxn_of)

variable (m : (ℓ : Loc nD τ sig) → Buf (Elt Ideal) ℓ)

set_option maxHeartbeats 1600000

/-- What a point computes of the input's cotangent. -/
theorem dxn_blk (c : Dev nD) (t : Fin cfg0.N) (r : Fin 256) (k : Fin 1024) (h) :
    k0_pay14 (k0_pay6 (iblk m c 0 t) (iblk m c 1 t) (iblk m c 2 t) (iblk m c 3 t)) (k0_pay7 (iblk m c 6 t))
        (View.ld (iblk m c 7 t : Vec Ideal S8x6144 .f32) (Rect.unit (s := S8x6144) (k0_off1 (grid0.coords t)) ![1, 1024] h))
        (k0_pay8 (iblk m c 4 t)) (k0_pay9 (iblk m c 4 t)) (iblk m c 5 t) (ix3 0 r k) = dxn (ar m c) (bt t) (tk t r) k := by
  rw [same14]
  refine dxn_of (ar m c) t ?_ ?_ ?_ ?_ ?_ ?_ r k
  · exact fun r d => dh_blk m c t r d
  · exact fun d => (pay7_at _ d).trans (blk6 m c t d)
  · exact fun d => congrArg (1 + ·) (scale_at m c t d _)
  · exact fun r => rs_blk m c t r
  · exact fun r d => xh_blk m c t r d
  · exact fun r d => blk5 m c t r d

/-- The cotangent of the input. -/
theorem out8 (c : Dev nD) : (dats m 0 c).arrAt 8 cfg0.N = fun i => dxn (ar m c) (i 0) (i 1) (i 2) := by
  refine (dats m 0 c).arrAt_eq_of_covers 8 _ (by decide +kernel) fun t hf y => ?_
  blk_simp
  rw [after0_8]
  by_cases h0 : t.val % 36 = 0
  · rw [outsAt0_A m c t h0]
    dsimp only
    unfold out0_A_8 kernelRun0_A
    frame_out
    refine close (t := t) (p := t.val % 9) (f := dxn (ar m c)) (fun r => by omega) (fun r k => dxn_blk m c t r k _) ?_ ?_ ?_
    all_goals blk_simp [idx_out t]
  · rw [outsAt0_B m c t h0]
    dsimp only
    unfold out0_B_8 kernelRun0_B
    frame_out
    refine close (t := t) (p := t.val % 9) (f := dxn (ar m c)) (fun r => by omega) (fun r k => dxn_blk m c t r k _) ?_ ?_ ?_
    all_goals blk_simp [idx_out t]

/-- The projection's cotangent. -/
theorem out9 (c : Dev nD) : (dats m 0 c).arrAt 9 cfg0.N = fun i => dz (ar m c) (i 0) (i 1) (i 2) := by
  refine (dats m 0 c).arrAt_eq_of_covers 9 _ (by decide +kernel) fun t hf y => ?_
  blk_simp
  rw [after0_9]
  have hX : ∀ (r : Fin 256) (k : Fin 4608), k0_pay5 (iblk m c 0 t) (iblk m c 1 t) (iblk m c 2 t) (ix3 0 r k) = dz (ar m c) (bt t) (tk t r) k :=
    fun r k => (pay5_at _ _ _ r k).trans (dz_blk m c t r k)
  by_cases h0 : t.val % 36 = 0
  · rw [outsAt0_A m c t h0]
    dsimp only
    unfold out0_A_9 kernelRun0_A
    frame_out
    refine close (t := t) (p := t.val % 9) (f := dz (ar m c)) (fun r => by omega) hX ?_ ?_ ?_
    all_goals blk_simp [idx_out t]
  · rw [outsAt0_B m c t h0]
    dsimp only
    unfold out0_B_9 kernelRun0_B
    frame_out
    refine close (t := t) (p := t.val % 9) (f := dz (ar m c)) (fun r => by omega) hX ?_ ?_ ?_
    all_goals blk_simp [idx_out t]

end Cert.Kernel10Ideal.Blocks

end
-- ==== Proof.InpNextSums.lean ====
module

public import proofs.«01_k».proof.Proof.InpNextBlocks
public import proofs.«01_k».proof.Proof.InpSums
public import proofs.«01_k».proof.Proof.MlpSums
public import proofs.«01_k».proof.Proof.Gates
public import Idealize.ShloMosaic.Lib.Pipeline.ValueKit

/-! # The summed cotangents of the second layer's input projection after the run

As in the first layer, the launch keeps two blocks of eight rows for its whole length: zeroed at the first point, one row of each added into at every
point, written back after the last. The 36 points together are the sums the specification names. -/

@[expose] public section

set_option maxRecDepth 16384

noncomputable section

namespace Cert.Kernel10Ideal.Blocks

open Cert.Kernel10Ideal Cert.Kernel10Ideal.Gen Cert.Inp Idealize.ShloMosaic Idealize.ShloMosaic.TcCoe Idealize.SL.Sem
open Cert.Kernel2Ideal.Blocks (row_emb row_not_mem row_ld)
open Cert.KernelIdeal.Blocks (total)
open Cert.Kernel8Ideal.Blocks (bt tk rw_ part total_all pay2_at pay3_at pay7_at mod_of gn_of)

variable (m : (ℓ : Loc nD τ sig) → Buf (Elt Ideal) ℓ)

set_option maxHeartbeats 1600000 in
theorem mod_A (c : Dev nD) (t : Fin cfg0.N) (h0 : t.val % 36 = 0) (i : Fin 8) (k : Fin 2048) :
    (outsAt0 m c t.val t.isLt).2.2.1 (ix2 i k) = 0 + part 2048 (mterm (ar m c)) (rw_ t) t i k := by
  rw [outsAt0_A m c t h0]
  dsimp only
  unfold out0_A_10 kernelRun0_A
  frame_out
  unfold part
  by_cases hi : i = rw_ t
  · rw [if_pos hi]
    have hv : i.val = (rw_ t).val := congrArg Fin.val hi
    refine (congrArg (View.canon _) (row_emb (K := 2048) (off2 t) (k0_off2_inb (grid0.coords t)) i k hv).symm).trans ?_
    rw [View.canon_cons_emb]
    refine mod_of (ar m c) t ?_ ?_ ?_ ?_
    · exact fun r d => dh_blk m c t r d
    · exact fun d => (pay7_at _ d).trans (blk6 m c t d)
    · exact fun r d => xh_blk m c t r d
    · exact (row_ld (off2 t) _ _ i k hv).trans (pay2_at i k)
  · rw [if_neg hi, View.canon_cons_of_not_mem _ _ (row_not_mem (K := 2048) (off2 t) (k0_off2_inb (grid0.coords t)) i k fun e => hi (Fin.ext e)), View.canon_unit_zero (by decide), same2, pay2_at, add_zero]

set_option maxHeartbeats 1600000 in
theorem mod_B (c : Dev nD) (t : Fin cfg0.N) (h0 : ¬t.val % 36 = 0) (i : Fin 8) (k : Fin 2048) :
    (outsAt0 m c t.val t.isLt).2.2.1 (ix2 i k)
      = (outsAt0 m c (t.val - 1) (Nat.lt_of_le_of_lt (Nat.sub_le _ _) t.isLt)).2.2.1 (ix2 i k) + part 2048 (mterm (ar m c)) (rw_ t) t i k := by
  rw [outsAt0_B m c t h0]
  dsimp only
  unfold out0_B_10 kernelRun0_B
  frame_out
  unfold part
  by_cases hi : i = rw_ t
  · rw [if_pos hi]
    have hv : i.val = (rw_ t).val := congrArg Fin.val hi
    refine (congrArg (View.read _ _ _) (row_emb (K := 2048) (off2 t) (k0_off2_inb (grid0.coords t)) i k hv).symm).trans ?_
    rw [View.read_writes_cons_emb]
    refine mod_of (ar m c) t ?_ ?_ ?_ ?_
    · exact fun r d => dh_blk m c t r d
    · exact fun d => (pay7_at _ d).trans (blk6 m c t d)
    · exact fun r d => xh_blk m c t r d
    · exact row_ld (off2 t) _ _ i k hv
  · rw [if_neg hi, View.read_writes_apply_of_forall_not_mem _ _ _ _ (fun p hp => by
      obtain rfl := List.mem_singleton.mp hp
      exact row_not_mem (K := 2048) (off2 t) (k0_off2_inb (grid0.coords t)) i k fun e => hi (Fin.ext e)), add_zero, Memref.IsWhole.read_unread]

set_option maxHeartbeats 1600000 in
theorem gn_A (c : Dev nD) (t : Fin cfg0.N) (h0 : t.val % 36 = 0) (i : Fin 8) (k : Fin 1024) :
    (outsAt0 m c t.val t.isLt).2.2.2 (ix2 i k) = 0 + part 1024 (gterm (ar m c)) 0 t i k := by
  rw [outsAt0_A m c t h0]
  dsimp only
  unfold out0_A_11 kernelRun0_A
  frame_out
  unfold part
  by_cases hi : i = 0
  · rw [if_pos hi]
    have hv : i.val = 0 := congrArg Fin.val hi
    refine (congrArg (View.canon _) (row_emb (K := 1024) (rfl : (![0, 0] : Fin 2 → ℕ) = ![0, 0]) inb_S8x1024_S1x1024_0_0 i k hv).symm).trans ?_
    rw [View.canon_cons_emb]
    refine gn_of (ar m c) t ?_ ?_ ?_ ?_
    · exact fun r d => dh_blk m c t r d
    · exact fun d => congrArg (1 + ·) (scale_at m c t d _)
    · exact fun r d => xh_blk m c t r d
    · refine (row_ld (rfl : (![0, 0] : Fin 2 → ℕ) = ![0, 0]) _ _ i k hv).trans ?_
      rw [View.read_writes_junk_eq_canon, View.canon_unit_zero (by decide)]
      exact pay3_at i k
  · rw [if_neg hi, View.canon_cons_of_not_mem _ _ (row_not_mem (K := 1024) (rfl : (![0, 0] : Fin 2 → ℕ) = ![0, 0]) inb_S8x1024_S1x1024_0_0 i k fun e => hi (Fin.ext e)), View.canon_unit_zero (by decide), same3, pay3_at, add_zero]

set_option maxHeartbeats 1600000 in
theorem gn_B (c : Dev nD) (t : Fin cfg0.N) (h0 : ¬t.val % 36 = 0) (i : Fin 8) (k : Fin 1024) :
    (outsAt0 m c t.val t.isLt).2.2.2 (ix2 i k)
      = (outsAt0 m c (t.val - 1) (Nat.lt_of_le_of_lt (Nat.sub_le _ _) t.isLt)).2.2.2 (ix2 i k) + part 1024 (gterm (ar m c)) 0 t i k := by
  rw [outsAt0_B m c t h0]
  dsimp only
  unfold out0_B_11 kernelRun0_B
  frame_out
  unfold part
  by_cases hi : i = 0
  · rw [if_pos hi]
    have hv : i.val = 0 := congrArg Fin.val hi
    refine (congrArg (View.read _ _ _) (row_emb (K := 1024) (rfl : (![0, 0] : Fin 2 → ℕ) = ![0, 0]) inb_S8x1024_S1x1024_0_0 i k hv).symm).trans ?_
    rw [View.read_writes_cons_emb]
    refine gn_of (ar m c) t ?_ ?_ ?_ ?_
    · exact fun r d => dh_blk m c t r d
    · exact fun d => congrArg (1 + ·) (scale_at m c t d _)
    · exact fun r d => xh_blk m c t r d
    · exact row_ld (rfl : (![0, 0] : Fin 2 → ℕ) = ![0, 0]) _ _ i k hv
  · rw [if_neg hi, View.read_writes_apply_of_forall_not_mem _ _ _ _ (fun p hp => by
      obtain rfl := List.mem_singleton.mp hp
      exact row_not_mem (K := 1024) (rfl : (![0, 0] : Fin 2 → ℕ) = ![0, 0]) inb_S8x1024_S1x1024_0_0 i k fun e => hi (Fin.ext e)), add_zero, Memref.IsWhole.read_unread]

/-- The cotangent of the shift and scale rows. -/
theorem out10 (c : Dev nD) : (dats m 0 c).arrAt 10 cfg0.N = fun i => dmod (ar m c) (i 0) (i 1) := by
  refine (dats m 0 c).arrAt_eq_of_covers 10 _ (by decide +kernel) fun t hf y => ?_
  blk_simp
  rw [after0_10]
  have ht : t.val % 36 = 35 := (flush0_10 t).mp hf
  have hN : cfg0.N = 36 := N_0
  have e : ∀ (i : Fin 8) (k : Fin 2048), (outsAt0 m c t.val t.isLt).2.2.1 (ix2 i k) = dmod (ar m c) i k := fun i k => by
    have := Pipeline.eq_sum_fin_of_reset_step_apply_last (fun n h (j : Fin 8 × Fin 2048) => (outsAt0 m c n h).2.2.1 (ix2 j.1 j.2)) 36
      (fun _ => (0 : EReal)) (fun t j => part 2048 (mterm (ar m c)) (rw_ t) t j.1 j.2) (fun t h j => mod_A m c t h j.1 j.2) (fun t h j => mod_B m c t h j.1 j.2)
      (le_of_eq hN) t (by have h1 : t.val < cfg0.N := t.isLt; omega) (i, k)
    refine this.trans ((zero_add _).trans ?_)
    exact total (fun b t => mterm (ar m c) b t k) i
  have hy : y = ix2 (y 0) (y 1) := by blk_ext []
  refine (congrArg _ hy).trans ((e (y 0) (y 1)).trans ?_)
  have e0 : (y 0 : Fin 8) = ((win0_10.blk t).view.emb y 0 : Fin 8) := Fin.ext (by blk_simp [idx_out t])
  have e1 : (y 1 : Fin 2048) = ((win0_10.blk t).view.emb y 1 : Fin 2048) := Fin.ext (by blk_simp [idx_out t])
  exact congrArg₂ _ e0 e1

/-- The cotangent of the gain. -/
theorem out11 (c : Dev nD) : (dats m 0 c).arrAt 11 cfg0.N = fun i => dgn (ar m c) (i 0) (i 1) := by
  refine (dats m 0 c).arrAt_eq_of_covers 11 _ (by decide +kernel) fun t hf y => ?_
  blk_simp
  rw [after0_11]
  have ht : t.val % 36 = 35 := (flush0_11 t).mp hf
  have hN : cfg0.N = 36 := N_0
  have e : ∀ (i : Fin 8) (k : Fin 1024), (outsAt0 m c t.val t.isLt).2.2.2 (ix2 i k) = dgn (ar m c) i k := fun i k => by
    have := Pipeline.eq_sum_fin_of_reset_step_apply_last (fun n h (j : Fin 8 × Fin 1024) => (outsAt0 m c n h).2.2.2 (ix2 j.1 j.2)) 36
      (fun _ => (0 : EReal)) (fun t j => part 1024 (gterm (ar m c)) 0 t j.1 j.2) (fun t h j => gn_A m c t h j.1 j.2) (fun t h j => gn_B m c t h j.1 j.2)
      (le_of_eq hN) t (by have h1 : t.val < cfg0.N := t.isLt; omega) (i, k)
    refine this.trans ((zero_add _).trans ?_)
    unfold part dgn
    by_cases hi : i.val = 0
    · rw [if_pos hi]
      simp only [if_pos (Fin.ext hi : i = 0)]
      exact total_all (fun b t => gterm (ar m c) b t k)
    · rw [if_neg hi]
      exact Finset.sum_eq_zero fun b _ => if_neg fun h => hi (congrArg Fin.val h)
  have hy : y = ix2 (y 0) (y 1) := by blk_ext []
  refine (congrArg _ hy).trans ((e (y 0) (y 1)).trans ?_)
  have e0 : (y 0 : Fin 8) = ((win0_11.blk t).view.emb y 0 : Fin 8) := Fin.ext (by blk_simp [idx_out t])
  have e1 : (y 1 : Fin 1024) = ((win0_11.blk t).view.emb y 1 : Fin 1024) := Fin.ext (by blk_simp [idx_out t])
  exact congrArg₂ _ e0 e1

end Cert.Kernel10Ideal.Blocks

end
-- ==== Proof.InpNextValues.lean ====
module

public import proofs.«01_k».proof.Proof.InpNextOuts
public import proofs.«01_k».proof.Proof.InpNextSums

/-! # The second layer's input projection's run, with every result named -/

@[expose] public section

set_option maxRecDepth 16384

noncomputable section

namespace Cert.Kernel10Ideal.Blocks

open Cert.Kernel10Ideal Cert.Kernel10Ideal.Gen Cert.Inp Idealize.ShloMosaic Idealize.ShloMosaic.TcCoe Idealize.SL.Sem

variable (m : (ℓ : Loc nD τ sig) → Buf (Elt Ideal) ℓ)

/-! After the run, a result's array is what the launch left in it. -/

theorem post8 (r : PUnit × MemSt nD τ sig (Elt Ideal)) (h : Pipeline.FramePost cfgs (dats m) 0 (V m) r) (c : Dev nD) :
    r.2.mem ((c : Thread nD τ).loc main_v1_0) = (dats m 0 c).arrAt 8 cfg0.N := (h c).1 8
theorem post9 (r : PUnit × MemSt nD τ sig (Elt Ideal)) (h : Pipeline.FramePost cfgs (dats m) 0 (V m) r) (c : Dev nD) :
    r.2.mem ((c : Thread nD τ).loc main_v1_1) = (dats m 0 c).arrAt 9 cfg0.N := (h c).1 9
theorem post10 (r : PUnit × MemSt nD τ sig (Elt Ideal)) (h : Pipeline.FramePost cfgs (dats m) 0 (V m) r) (c : Dev nD) :
    r.2.mem ((c : Thread nD τ).loc main_v1_2) = (dats m 0 c).arrAt 10 cfg0.N := (h c).1 10
theorem post11 (r : PUnit × MemSt nD τ sig (Elt Ideal)) (h : Pipeline.FramePost cfgs (dats m) 0 (V m) r) (c : Dev nD) :
    r.2.mem ((c : Thread nD τ).loc main_v1_3) = (dats m 0 c).arrAt 11 cfg0.N := (h c).1 11

/-- The launch's results and its unchanged arguments. -/
theorem run_values (g : Dev nD → PrngReg) : θ_run defs (onTc (τ := τ) (main (F := Ideal))) ⟨m, fun _ => 0, g⟩ fun r => ∀ c : Dev nD,
      r.2.mem ((c : Thread nD τ).loc main_v1_0) = (fun i => dxn (ar m c) (i 0) (i 1) (i 2))
      ∧ r.2.mem ((c : Thread nD τ).loc main_v1_1) = (fun i => dz (ar m c) (i 0) (i 1) (i 2))
      ∧ r.2.mem ((c : Thread nD τ).loc main_v1_2) = (fun i => dmod (ar m c) (i 0) (i 1))
      ∧ r.2.mem ((c : Thread nD τ).loc main_v1_3) = (fun i => dgn (ar m c) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(post8 m r h.1 c).trans (out8 m c),
      (post9 m r h.1 c).trans (out9 m c),
      (post10 m r h.1 c).trans (out10 m c),
      (post11 m r h.1 c).trans (out11 m c),
      h.2 c⟩) (θ_run_and (run_main m g) (unchanged m g))

end Cert.Kernel10Ideal.Blocks

end
-- ==== Proof.InpNextRef.lean ====
module

public import proofs.«01_k».proof.Proof.Gen.Reference10Ideal.Read
public import proofs.«01_k».proof.Proof.Gen.Reference10Ideal.Run
public import proofs.«01_k».proof.Proof.InpRef
public import Idealize.ShloMosaic.Lib.Pipeline.ValueKit

/-! # What the second layer's input projection's reference computes

What does not read the gain is the first layer's value; what reads it takes the second layer's row. The context tokens' input has a
cotangent too. -/

@[expose] public section

set_option maxRecDepth 16384

noncomputable section

namespace Cert.Reference10Ideal.Stage

open Cert.Reference10Ideal Cert.Reference10Ideal.Gen Cert.Reference10Ideal.Read Cert.Inp Idealize.ShloMosaic Idealize.ShloMosaic.TcCoe Idealize.SL.Sem
open Cert.Reference2Ideal.Stage (lt ext3 ext2)
open Cert.Reference8Ideal.Stage (ct row_ct row_lt sumc sum1)

variable (a : Args)

/-! ## The first layer's values -/

theorem ms_c (b : Fin 4) (s : Fin 256) : val_main_v22 (F := Ideal) a.x (ix3 b s 0) = ms a b (ct s) := Cert.Reference8Ideal.Stage.ms_c a b s
theorem rs_c (b : Fin 4) (s : Fin 256) : val_main_v23 (F := Ideal) a.x (ix3 b s 0) = rs a b (ct s) := Cert.Reference8Ideal.Stage.rs_c a b s
theorem xh_c (b : Fin 4) (s : Fin 256) (d : Fin 1024) : val_main_v28 (F := Ideal) a.x (ix3 b s d) = xh a b (ct s) d :=
  Cert.Reference8Ideal.Stage.xh_c a b s d
theorem dh_c (b : Fin 4) (s : Fin 256) (d : Fin 1024) : val_main_v67 (F := Ideal) a.zq a.zu a.zg a.w (ix3 b s d) = dh a b (ct s) d :=
  Cert.Reference8Ideal.Stage.dh_c a b s d
theorem dhs_c (b : Fin 4) (s : Fin 256) (d : Fin 1024) :
    val_main_v78 (F := Ideal) a.zq a.zu a.zg a.w a.md (ix3 b s d) = dh a b (ct s) d * scale a (row b (ct s)) d :=
  Cert.Reference8Ideal.Stage.dhs_c a b s d
theorem ms_l (b : Fin 4) (s : Fin 2048) : val_main_v49 (F := Ideal) a.x (ix3 b s 0) = ms a b (lt s) := Cert.Reference8Ideal.Stage.ms_l a b s
theorem rs_l (b : Fin 4) (s : Fin 2048) : val_main_v50 (F := Ideal) a.x (ix3 b s 0) = rs a b (lt s) := Cert.Reference8Ideal.Stage.rs_l a b s
theorem xh_l (b : Fin 4) (s : Fin 2048) (d : Fin 1024) : val_main_v55 (F := Ideal) a.x (ix3 b s d) = xh a b (lt s) d :=
  Cert.Reference8Ideal.Stage.xh_l a b s d
theorem dh_l (b : Fin 4) (s : Fin 2048) (d : Fin 1024) : val_main_v70 (F := Ideal) a.zq a.zu a.zg a.w (ix3 b s d) = dh a b (lt s) d :=
  Cert.Reference8Ideal.Stage.dh_l a b s d
theorem dhs_l (b : Fin 4) (s : Fin 2048) (d : Fin 1024) :
    val_main_v106 (F := Ideal) a.zq a.zu a.zg a.w a.md (ix3 b s d) = dh a b (lt s) d * scale a (row b (lt s)) d :=
  Cert.Reference8Ideal.Stage.dhs_l a b s d
theorem dz16_at (b : Fin 4) (t : Fin 2304) (n : Fin 4608) : val_main_v141 (F := Ideal) a.zq a.zu a.zg (ix3 b t n) = dz a b t n :=
  Cert.Reference8Ideal.Stage.dz16_at a b t n
theorem shift_c (d : Fin 1024) : val_main_v73 (F := Ideal) a.zq a.zu a.zg a.w (ix1 d) = ∑ b : Fin 4, ∑ s : Fin 256, dh a b (ct s) d :=
  Cert.Reference8Ideal.Stage.shift_c a d
theorem dgn_at (i : Fin 8) (d : Fin 1024) : val_main_v135 (F := Ideal) a.zq a.zu a.zg a.w a.x a.md (ix2 i d) = dgn a i d :=
  Cert.Reference8Ideal.Stage.dgn_at a i d

/-! ## What reads the gain -/

variable {g : FVec Ideal ⟨2, ![2, 1024]⟩ .f32} (hg : ∀ d, g (ix2 1 d) = gain a d)

include hg

theorem xg_c (b : Fin 4) (s : Fin 256) (d : Fin 1024) : val_main_v31 (F := Ideal) a.x g (ix3 b s d) = xh a b (ct s) d * gain a d := by
  pointwise [val_main_v31, val_main_v30, val_main_v29, val_main_v15, val_main_v14]
  rw [xh_c, ← hg]
theorem xg_l (b : Fin 4) (s : Fin 2048) (d : Fin 1024) : val_main_v58 (F := Ideal) a.x g (ix3 b s d) = xh a b (lt s) d * gain a d := by
  pointwise [val_main_v58, val_main_v57, val_main_v56, val_main_v42, val_main_v41]
  rw [xh_l, ← hg]
theorem dxh_c (b : Fin 4) (s : Fin 256) (d : Fin 1024) :
    val_main_v84 (F := Ideal) a.zq a.zu a.zg a.w g a.md (ix3 b s d) = dxh a b (ct s) d := by
  pointwise [val_main_v84, val_main_v83, val_main_v29, val_main_v15, val_main_v14]
  rw [dhs_c]
  unfold dxh
  rw [← hg]
theorem dxh_l (b : Fin 4) (s : Fin 2048) (d : Fin 1024) :
    val_main_v111 (F := Ideal) a.zq a.zu a.zg a.w g a.md (ix3 b s d) = dxh a b (lt s) d := by
  pointwise [val_main_v111, val_main_v110, val_main_v56, val_main_v42, val_main_v41]
  rw [dhs_l]
  unfold dxh
  rw [← hg]
theorem scale_c (d : Fin 1024) :
    val_main_v79 (F := Ideal) a.zq a.zu a.zg a.w a.x g (ix1 d) = ∑ b : Fin 4, ∑ s : Fin 256, dh a b (ct s) d * (xh a b (ct s) d * gain a d) := by
  pointwise [val_main_v79, val_main_v76, val_main_v75, val_main_cst_11, val_main_cst_12]
  rw [sum1]
  pointwise []
  rw [sumc, zero_add]
  pointwise [val_main_v74]
  simp only [dh_c, xg_c a hg]
  exact Finset.sum_congr rfl fun b _ => Finset.sum_congr rfl fun s _ => mul_comm _ _

/-! ## The results -/

theorem dx_c (b : Fin 4) (s : Fin 256) (d : Fin 1024) :
    val_main_v137 (F := Ideal) a.zq a.zu a.zg a.w a.x a.dx g a.md (ix3 b s d) = dxn a b (ct s) d := by
  pointwise [val_main_v137, val_main_v136, val_main_v99, val_main_v98, val_main_v97, val_main_v96, val_main_v95, val_main_v94, val_main_v93, val_main_v92, val_main_v91, val_main_v90, val_main_v89, val_main_v88, val_main_v87, val_main_v86, val_main_v26, val_main_v25, val_main_v24, val_main_v13, val_main_cst_2, val_main_cst_15, val_main_cst_16, val_main_cst_17]
  simp only [Fin.sum_univ_one, Fin.isValue, dxh_c a hg, rs_c, ms_c]
  exact dxn_apart a b (ct s) d
theorem dx_l (b : Fin 4) (s : Fin 2048) (d : Fin 1024) :
    val_main_v139 (F := Ideal) a.zq a.zu a.zg a.w a.x a.dx g a.md (ix3 b s d) = dxn a b (lt s) d := by
  pointwise [val_main_v139, val_main_v138, val_main_v126, val_main_v125, val_main_v124, val_main_v123, val_main_v122, val_main_v121, val_main_v120, val_main_v119, val_main_v118, val_main_v117, val_main_v116, val_main_v115, val_main_v114, val_main_v113, val_main_v53, val_main_v52, val_main_v51, val_main_v40, val_main_cst_7, val_main_cst_22, val_main_cst_23, val_main_cst_24]
  simp only [Fin.sum_univ_one, Fin.isValue, dxh_l a hg, rs_l, ms_l]
  exact dxn_apart a b (lt s) d
theorem dx_at (b : Fin 4) (t : Fin 2304) (d : Fin 1024) :
    val_main_v140 (F := Ideal) a.zq a.zu a.zg a.w a.x a.dx g a.md (ix3 b t d) = dxn a b t d := by
  pointwise [val_main_v140]
  by_cases h : t.val < 256
  · rw [dif_pos h]
    exact dx_c a hg b ⟨t.val, h⟩ d
  · rw [dif_neg h]
    refine (dx_l a hg b ⟨t.val - 256, by omega⟩ d).trans (congrArg (dxn a b · d) (Fin.ext ?_))
    dsimp only
    omega

theorem dmod_at (i : Fin 8) (e : Fin 2048) : val_main_v142 (F := Ideal) a.zq a.zu a.zg a.w a.x g (ix2 i e) = dmod a i e := by
  pointwise [val_main_v142, val_main_v131, val_main_v130, val_main_v129, val_main_v128, val_main_v127, val_main_v104, val_main_v103, val_main_v102, val_main_v101, val_main_v100, val_main_cst_18, val_main_cst_19, val_main_cst_25]
  unfold dmod mterm
  by_cases h : i.val < 4
  · rw [dif_pos h, dif_pos h]
    by_cases h1 : e.val < 1024
    · simp only [dif_pos h1, dh_l]
    · simp only [dif_neg h1, dh_l, xg_l a hg]
      exact Finset.sum_congr rfl fun s _ => mul_comm _ _
  · rw [dif_neg h, dif_neg h]
    by_cases h5 : i.val < 5
    · rw [dif_pos (by omega), if_pos h5]
      by_cases h1 : e.val < 1024
      · simp only [dif_pos h1, shift_c]
      · simp only [dif_neg h1, scale_c a hg]
    · rw [dif_neg (by omega), if_neg h5]

omit hg

/-! ## The run -/

variable (m : (ℓ : Loc nD τ sig) → Buf (Elt Ideal) ℓ)

/-- A device's arguments. -/
abbrev ar (c : Dev nD) : Args :=
  ⟨m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5),
    pick 1 (m ((c : Thread nD τ).loc main_arg6)), m ((c : Thread nD τ).loc main_arg7)⟩

/-- The reference's run, with every result named. -/
theorem run_values (g : Dev nD → PrngReg) :
    θ_run defs (onTc (τ := τ) (main (F := Ideal))) ⟨m, fun _ => 0, g⟩ fun r => ∀ c : Dev nD,
      r.2.mem ((c : Thread nD τ).loc main_v140) = (fun i => dxn (ar m c) (i 0) (i 1) (i 2))
      ∧ r.2.mem ((c : Thread nD τ).loc main_v141) = (fun i => dz (ar m c) (i 0) (i 1) (i 2))
      ∧ r.2.mem ((c : Thread nD τ).loc main_v142) = (fun i => dmod (ar m c) (i 0) (i 1))
      ∧ r.2.mem ((c : Thread nD τ).loc main_v135) = (fun i => dgn (ar m c) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := by
  refine (θ_run _ _ _).mono (fun r h c => ?_) (Cert.Reference10Ideal.Value.run (F := Ideal) m g)
  obtain ⟨e0, e1, e2, e3, hk⟩ := h c
  exact ⟨(e0.trans (val_main_v140_eq m c)).trans (ext3 (dx_at (ar m c) fun _ => rfl)),
    (e1.trans (val_main_v141_eq _ _ _)).trans (ext3 (dz16_at (ar m c))),
    (e2.trans (val_main_v142_eq m c)).trans (ext2 (dmod_at (ar m c) fun _ => rfl)),
    (e3.trans (val_main_v135_eq m c)).trans (ext2 (dgn_at (ar m c))),
    hk⟩

end Cert.Reference10Ideal.Stage

end
-- ==== Proof.InpNextEquation.lean ====
module

public import proofs.«01_k».proof.Defs
public import proofs.«01_k».proof.Proof.InpNextValues
public import proofs.«01_k».proof.Proof.InpNextRef

/-! # The equation of the second layer's input projection

Both programs leave the specification's four arrays. -/

@[expose] public section

set_option maxRecDepth 16384
set_option maxHeartbeats 1600000

noncomputable section

namespace Cert.Proof

open Cert.Inp Idealize.ShloMosaic Idealize.ShloMosaic.TcCoe Idealize.SL.Sem

/-- Kernel and reference compute the same four arrays over the extended reals. -/
theorem in_proj_bwd_next : @Cert.algebraic_Kernel10Ideal_Reference10Ideal Cert.Kernel10Ideal.Gen.facts Cert.Reference10Ideal.Gen.facts := by
  intro m g m' g' _ hargs
  have e : ∀ c, Cert.Reference10Ideal.Stage.ar m' c = Cert.Kernel10Ideal.Blocks.ar m c := fun c => by
    obtain ⟨h0, h1, h2, h3, h4, h5, h6, h7⟩ := hargs c
    unfold Cert.Reference10Ideal.Stage.ar Cert.Kernel10Ideal.Blocks.ar
    rw [h0, h1, h2, h3, h4, h5, h6, h7]
  refine ⟨fun c i => dxn (Cert.Kernel10Ideal.Blocks.ar m c) (i 0) (i 1) (i 2),
    fun c i => dz (Cert.Kernel10Ideal.Blocks.ar m c) (i 0) (i 1) (i 2),
    fun c i => dmod (Cert.Kernel10Ideal.Blocks.ar m c) (i 0) (i 1),
    fun c i => dgn (Cert.Kernel10Ideal.Blocks.ar m c) (i 0) (i 1), ?_, ?_⟩
  · exact Cert.Kernel10Ideal.Blocks.run_values m g
  · refine (θ_run _ _ _).mono (fun r h c => ?_) (Cert.Reference10Ideal.Stage.run_values m' g')
    have := h c
    rw [e c] at this
    exact this

end Cert.Proof

end
-- ==== Proof.Fwd.lean ====
module

public import proofs.«01_k».proof.Proof.Blocks
public import proofs.«01_k».proof.Proof.Gen.Kernel11Ideal.Value
public import Idealize.ShloMosaic.Lib.Pipeline.ValueKit

/-! # What the forward pass of the gated merge computes

The merge's result is the one the backward pass's specification names; the block's result adds it to the input, by the modulation's
gate. A grid point that has read its tokens' blocks computes them. -/

@[expose] public section

set_option maxRecDepth 16384

noncomputable section

namespace Cert.MergeFwd

open Cert.Merge Idealize.ShloMosaic

/-- The ten arguments: the block's input, the three branches, the input projection, the modulation's rows, the four matrices. -/
structure Args where
  x : Tok 1024 .f32
  oa : Tok 384 .bf16
  ob : Tok 256 .bf16
  oc : Tok 384 .bf16
  z : Tok 4608 .bf16
  md : Mat 8 6144 .f32
  wa : Mat 384 1024 .bf16
  wb : Mat 256 1024 .bf16
  wc : Mat 384 1024 .bf16
  wo : Mat 1024 1024 .bf16

variable (a : Args) (b : Fin 4) (t : Fin 2304) (k : Fin 1024)

/-- The gated sum, the merge's result, the block's result. -/
def y : EReal := ysum a.oa a.ob a.oc a.z a.wa a.wb a.wc b t k
def out : EReal := mo a.oa a.ob a.oc a.z a.wa a.wb a.wc a.wo b t k
def x1 : EReal := a.x (ix3 b t k) + gate a.md b t k * out a b t k
/-- In the last layer the context's tokens pass by. -/
def lastOut : EReal := if t.val < 256 then 0 else out a b t k
def lastX1 : EReal := if t.val < 256 then a.x (ix3 b t k) else x1 a b t k

end Cert.MergeFwd

namespace Cert.Kernel11Ideal.Blocks

open Cert.Kernel11Ideal Cert.Kernel11Ideal.Gen Cert.Merge Cert.MergeFwd Idealize.ShloMosaic Idealize.ShloMosaic.TcCoe Idealize.SL.Sem
open Cert.KernelIdeal.Blocks (bt tk rw_ row_eq)

/-! ## The payloads, at one element -/

theorem pay4_at (v14 v16 : Vec Ideal S1x256x512 .bf16) (r : Fin 256) (d : Fin 1024) :
    k0_pay4 v14 v16 (ix2 r d) = if h : d.val < 512 then v14 (ix3 0 r ⟨d.val, h⟩) else v16 (ix3 0 r ⟨d.val - 512, by omega⟩) := by
  pointwise [k0_pay4]
theorem pay6_at (v8 v10 : Vec Ideal S1x256x512 .bf16) (r : Fin 256) (d : Fin 1024) :
    k0_pay6 v8 v10 (ix2 r d) = Ideal.logistic (if h : d.val < 512 then v8 (ix3 0 r ⟨d.val, h⟩) else v10 (ix3 0 r ⟨d.val - 512, by omega⟩)) := by
  pointwise [k0_pay6]
theorem pay5_at (v2 v4 : Vec Ideal S1x256x512 .bf16) (v21 : Vec Ideal S1x256x384 .bf16) (v23 : Vec Ideal S384x1024 .bf16) (r : Fin 256) (d : Fin 1024) :
    k0_pay5 v2 v4 v21 v23 (ix2 r d) = Ideal.logistic (if h : d.val < 512 then v2 (ix3 0 r ⟨d.val, h⟩) else v4 (ix3 0 r ⟨d.val - 512, by omega⟩))
      * ∑ j : Fin 384, v21 (ix3 0 r j) * v23 (ix2 j d) := by
  pointwise [k0_pay5]
theorem pay7_at (v27 : Vec Ideal S1x256x256 .bf16) (r : Fin 256) (j : Fin 256) : k0_pay7 v27 (ix2 r j) = v27 (ix3 0 r j) := by
  pointwise [k0_pay7]

section
variable (v19 v25 v26 : FVec Ideal S256x1024 .f32) (v28 : FVec Ideal S256x256 .bf16) (v29 : Vec Ideal S256x1024 .bf16) (v34 : Vec Ideal S1x256x384 .bf16)
  (v36 : Vec Ideal S384x1024 .bf16) (v41 : Vec Ideal S1024x1024 .bf16) (v47 : Vec Ideal S1x256x1024 .f32) (v50 : Vec Ideal S1x1024 .f32)

theorem pay1_at (r : Fin 256) (k : Fin 1024) :
    k0_pay1 v19 v25 v26 v28 v29 v34 v36 v41 (ix2 r k)
      = ∑ d : Fin 1024, (v25 (ix2 r d) + v26 (ix2 r d) * (∑ j : Fin 256, v28 (ix2 r j) * v29 (ix2 j d))
          + Ideal.logistic (v19 (ix2 r d)) * ∑ j : Fin 384, v34 (ix3 0 r j) * v36 (ix2 j d)) * v41 (ix2 d k) := by
  pointwise [k0_pay1]
theorem pay2_at (r : Fin 256) (k : Fin 1024) :
    k0_pay2 v19 v25 v26 v28 v29 v34 v36 v41 (ix3 0 r k) = k0_pay1 v19 v25 v26 v28 v29 v34 v36 v41 (ix2 r k) := by
  pointwise [k0_pay2]
theorem pay3_at (r : Fin 256) (k : Fin 1024) :
    k0_pay3 v19 v25 v26 v28 v29 v34 v36 v41 v47 v50 (ix3 0 r k)
      = v47 (ix3 0 r k) + v50 (ix2 0 k) * k0_pay1 v19 v25 v26 v28 v29 v34 v36 v41 (ix2 r k) := by
  pointwise [k0_pay3]
end

/-! ## What a point computes from its blocks -/

variable {a : Args} {t : Fin cfg0.N}

/-- A gate's channels lie in two blocks side by side. -/
theorem gate_of {X Y : Vec Ideal S1x256x512 .bf16} (o : ℕ) (ho : o + 1024 ≤ 4608)
    (hX : ∀ (r : Fin 256) (k : Fin 512), X (ix3 0 r k) = a.z (ix3 (bt t) (tk t r) ⟨o + k.val, by omega⟩))
    (hY : ∀ (r : Fin 256) (k : Fin 512), Y (ix3 0 r k) = a.z (ix3 (bt t) (tk t r) ⟨o + 512 + k.val, by omega⟩)) (r : Fin 256) (d : Fin 1024) :
    (if h : d.val < 512 then X (ix3 0 r ⟨d.val, h⟩) else Y (ix3 0 r ⟨d.val - 512, by omega⟩)) = a.z (ix3 (bt t) (tk t r) ⟨o + d.val, by omega⟩) := by
  split
  · rw [hX]
  · rw [hY]
    congr 2
    apply Fin.ext
    dsimp only
    omega

/-- A point's blocks: its tokens of the arrays, the six column blocks of the gates, the matrices whole, its row of the modulation. -/
structure Pt (a : Args) (t : Fin cfg0.N) (X0 : Vec Ideal S1x256x1024 .f32) (X1 : Vec Ideal S1x256x384 .bf16) (X2 : Vec Ideal S1x256x256 .bf16)
    (X3 : Vec Ideal S1x256x384 .bf16) (X4 X5 X6 X7 X8 X9 : Vec Ideal S1x256x512 .bf16) (X10 : Vec Ideal S1x1024 .f32)
    (X11 : Vec Ideal S384x1024 .bf16) (X12 : Vec Ideal S256x1024 .bf16) (X13 : Vec Ideal S384x1024 .bf16) (X14 : Vec Ideal S1024x1024 .bf16) : Prop where
  x : ∀ (r : Fin 256) (k : Fin 1024), X0 (ix3 0 r k) = a.x (ix3 (bt t) (tk t r) k)
  oa : ∀ (r : Fin 256) (k : Fin 384), X1 (ix3 0 r k) = a.oa (ix3 (bt t) (tk t r) k)
  ob : ∀ (r : Fin 256) (k : Fin 256), X2 (ix3 0 r k) = a.ob (ix3 (bt t) (tk t r) k)
  oc : ∀ (r : Fin 256) (k : Fin 384), X3 (ix3 0 r k) = a.oc (ix3 (bt t) (tk t r) k)
  z0 : ∀ (r : Fin 256) (k : Fin 512), X4 (ix3 0 r k) = a.z (ix3 (bt t) (tk t r) ⟨1536 + k.val, by omega⟩)
  z1 : ∀ (r : Fin 256) (k : Fin 512), X5 (ix3 0 r k) = a.z (ix3 (bt t) (tk t r) ⟨2048 + k.val, by omega⟩)
  z2 : ∀ (r : Fin 256) (k : Fin 512), X6 (ix3 0 r k) = a.z (ix3 (bt t) (tk t r) ⟨2560 + k.val, by omega⟩)
  z3 : ∀ (r : Fin 256) (k : Fin 512), X7 (ix3 0 r k) = a.z (ix3 (bt t) (tk t r) ⟨3072 + k.val, by omega⟩)
  z4 : ∀ (r : Fin 256) (k : Fin 512), X8 (ix3 0 r k) = a.z (ix3 (bt t) (tk t r) ⟨3584 + k.val, by omega⟩)
  z5 : ∀ (r : Fin 256) (k : Fin 512), X9 (ix3 0 r k) = a.z (ix3 (bt t) (tk t r) ⟨4096 + k.val, by omega⟩)
  md : ∀ k : Fin 1024, X10 (ix2 0 k) = a.md (ix2 (rw_ t) ⟨2048 + k.val, by omega⟩)
  wa : ∀ (r : Fin 384) (k : Fin 1024), X11 (ix2 r k) = a.wa (ix2 r k)
  wb : ∀ (r : Fin 256) (k : Fin 1024), X12 (ix2 r k) = a.wb (ix2 r k)
  wc : ∀ (r : Fin 384) (k : Fin 1024), X13 (ix2 r k) = a.wc (ix2 r k)
  wo : ∀ (r : Fin 1024) (k : Fin 1024), X14 (ix2 r k) = a.wo (ix2 r k)

variable {X0 : Vec Ideal S1x256x1024 .f32} {X1 : Vec Ideal S1x256x384 .bf16} {X2 : Vec Ideal S1x256x256 .bf16}
  {X3 : Vec Ideal S1x256x384 .bf16} {X4 X5 X6 X7 X8 X9 : Vec Ideal S1x256x512 .bf16} {X10 : Vec Ideal S1x1024 .f32}
  {X11 : Vec Ideal S384x1024 .bf16} {X12 : Vec Ideal S256x1024 .bf16} {X13 : Vec Ideal S384x1024 .bf16} {X14 : Vec Ideal S1024x1024 .bf16}
  (h : Pt a t X0 X1 X2 X3 X4 X5 X6 X7 X8 X9 X10 X11 X12 X13 X14)

include h

theorem out_of (r : Fin 256) (k : Fin 1024) :
    k0_pay1 (k0_pay4 X8 X9) (k0_pay5 X4 X5 X1 X11) (k0_pay6 X6 X7) (k0_pay7 X2) X12 X3 X13 X14 (ix2 r k) = out a (bt t) (tk t r) k := by
  rw [pay1_at]
  unfold out mo
  refine Finset.sum_congr rfl fun d _ => congrArg₂ (· * ·) ?_ (h.wo d k)
  rw [pay5_at, pay6_at, pay4_at, gate_of 1536 (by omega) h.z0 h.z1, gate_of 2560 (by omega) h.z2 h.z3, gate_of 3584 (by omega) h.z4 h.z5]
  simp only [pay7_at, h.oa, h.ob, h.oc, h.wa, h.wb, h.wc]
  rfl
theorem out16_of (r : Fin 256) (k : Fin 1024) :
    k0_pay2 (k0_pay4 X8 X9) (k0_pay5 X4 X5 X1 X11) (k0_pay6 X6 X7) (k0_pay7 X2) X12 X3 X13 X14 (ix3 0 r k) = out a (bt t) (tk t r) k :=
  (pay2_at _ _ _ _ _ _ _ _ r k).trans (out_of h r k)
theorem x1_of (r : Fin 256) (k : Fin 1024) :
    k0_pay3 (k0_pay4 X8 X9) (k0_pay5 X4 X5 X1 X11) (k0_pay6 X6 X7) (k0_pay7 X2) X12 X3 X13 X14 X0 X10 (ix3 0 r k) = x1 a (bt t) (tk t r) k := by
  rw [pay3_at, out_of h, h.x, h.md]
  unfold x1 gate
  rw [row_eq]

end Cert.Kernel11Ideal.Blocks

end
-- ==== Proof.FwdRef.lean ====
module

public import proofs.«01_k».proof.Proof.Gen.Reference11Ideal.Read
public import proofs.«01_k».proof.Proof.Gen.Reference11Ideal.Run
public import proofs.«01_k».proof.Proof.Fwd
public import proofs.«01_k».proof.Proof.Ref
public import proofs.«01_k».proof.Proof.MlpRef
public import Idealize.ShloMosaic.Lib.Pipeline.ValueKit

/-! # What the forward merge's reference computes -/

@[expose] public section

set_option maxRecDepth 16384

noncomputable section

namespace Cert.Reference11Ideal.Stage

open Cert.Reference11Ideal Cert.Reference11Ideal.Gen Cert.Reference11Ideal.Read Cert.Merge Cert.MergeFwd Idealize.ShloMosaic Idealize.ShloMosaic.TcCoe Idealize.SL.Sem
open Cert.Reference2Ideal.Stage (ext3)

variable (a : Args)

theorem out_at (b : Fin 4) (t : Fin 2304) (k : Fin 1024) : val_main_v38 (F := Ideal) a.oa a.ob a.oc a.z a.wa a.wb a.wc a.wo (ix3 b t k) = out a b t k :=
  Cert.ReferenceIdeal.Stage.mo_at a.oa a.ob a.oc a.z a.wa a.wb a.wc a.wo b t k
theorem out16_at (b : Fin 4) (t : Fin 2304) (k : Fin 1024) : val_main_v55 (F := Ideal) a.oa a.ob a.oc a.z a.wa a.wb a.wc a.wo (ix3 b t k) = out a b t k := by
  pointwise [val_main_v55]
  exact out_at a b t k
theorem x1_at (b : Fin 4) (t : Fin 2304) (k : Fin 1024) : val_main_v54 (F := Ideal) a.x a.oa a.ob a.oc a.z a.md a.wa a.wb a.wc a.wo (ix3 b t k) = x1 a b t k := by
  pointwise [val_main_v54, val_main_v53, val_main_v52, val_main_v51, val_main_v50, val_main_v49, val_main_v48, val_main_v47, val_main_v46, val_main_v45, val_main_v44, val_main_v43, val_main_v42, val_main_v41, val_main_v40, val_main_v39]
  unfold x1 gate row
  by_cases h : t.val < 256
  · rw [dif_pos h, if_pos h, out_at]
  · have e : ∀ q, (⟨256 + (t.val - 256), q⟩ : Fin 2304) = t := fun q => Fin.ext (by dsimp only; omega)
    rw [dif_neg h, if_neg h]
    simp only [e, out_at]

variable (m : (ℓ : Loc nD τ sig) → Buf (Elt Ideal) ℓ)

/-- A device's arguments. -/
abbrev ar (c : Dev nD) : Args :=
  ⟨m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5),
    m ((c : Thread nD τ).loc main_arg6), m ((c : Thread nD τ).loc main_arg7), m ((c : Thread nD τ).loc main_arg8),
    m ((c : Thread nD τ).loc main_arg9)⟩

/-- The reference's run, with every result named. -/
theorem run_values (g : Dev nD → PrngReg) : θ_run defs (onTc (τ := τ) (main (F := Ideal))) ⟨m, fun _ => 0, g⟩ fun r => ∀ c : Dev nD,
      r.2.mem ((c : Thread nD τ).loc main_v54) = (fun i => x1 (ar m c) (i 0) (i 1) (i 2))
      ∧ r.2.mem ((c : Thread nD τ).loc main_v55) = (fun i => out (ar m c) (i 0) (i 1) (i 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) := by
  refine (θ_run _ _ _).mono (fun r h c => ?_) (Cert.Reference11Ideal.Value.run (F := Ideal) m g)
  obtain ⟨e0, e1, hk⟩ := h c
  exact ⟨(e0.trans (val_main_v54_eq m c)).trans (ext3 (x1_at (ar m c))), (e1.trans (val_main_v55_eq _ _ _ _ _ _ _ _)).trans (ext3 (out16_at (ar m c))), hk⟩

end Cert.Reference11Ideal.Stage

end
-- ==== Proof.FwdEquation.lean ====
module

public import proofs.«01_k».proof.Defs
public import proofs.«01_k».proof.Proof.FwdValues
public import proofs.«01_k».proof.Proof.FwdRef

/-! # The forward merge's equation -/

@[expose] public section

set_option maxRecDepth 16384
set_option maxHeartbeats 1600000

noncomputable section

namespace Cert.Proof

open Cert.MergeFwd Idealize.ShloMosaic Idealize.ShloMosaic.TcCoe Idealize.SL.Sem

/-- Kernel and reference compute the same two arrays over the extended reals. -/
theorem merge_fwd : @Cert.algebraic_Kernel11Ideal_Reference11Ideal Cert.Kernel11Ideal.Gen.facts Cert.Reference11Ideal.Gen.facts := by
  intro m g m' g' _ hargs
  have e : ∀ c, Cert.Reference11Ideal.Stage.ar m' c = Cert.Kernel11Ideal.Blocks.ar m c := fun c => by
    obtain ⟨h0, h1, h2, h3, h4, h5, h6, h7, h8, h9⟩ := hargs c
    unfold Cert.Reference11Ideal.Stage.ar Cert.Kernel11Ideal.Blocks.ar
    rw [h0, h1, h2, h3, h4, h5, h6, h7, h8, h9]
  refine ⟨fun c i => x1 (Cert.Kernel11Ideal.Blocks.ar m c) (i 0) (i 1) (i 2),
    fun c i => out (Cert.Kernel11Ideal.Blocks.ar m c) (i 0) (i 1) (i 2), ?_, ?_⟩
  · exact Cert.Kernel11Ideal.Blocks.run_values m g
  · refine (θ_run _ _ _).mono (fun r h c => ?_) (Cert.Reference11Ideal.Stage.run_values m' g')
    have := h c
    rw [e c] at this
    exact this

end Cert.Proof

end
-- ==== Proof.FwdLastValues.lean ====
module

public import proofs.«01_k».proof.Proof.Fwd
public import proofs.«01_k».proof.Proof.Gen.Kernel12Ideal.Value
public import Idealize.ShloMosaic.Lib.Pipeline.ValueKit

/-! # The last layer's forward merge: its blocks and its results after the run

The body of a latent point is the first layer's; a context point passes its tokens by. -/

@[expose] public section

set_option maxRecDepth 16384

noncomputable section

namespace Cert.Kernel12Ideal.Blocks

open Cert.Kernel12Ideal Cert.Kernel12Ideal.Gen Cert.Merge Cert.MergeFwd Idealize.ShloMosaic Idealize.ShloMosaic.TcCoe Idealize.SL.Sem
open Cert.KernelIdeal.Blocks (bt tk rw_ row_eq close)
open Cert.Kernel11Ideal.Blocks (Pt out16_of x1_of)

variable (m : (ℓ : Loc nD τ sig) → Buf (Elt Ideal) ℓ)

/-- The arguments a device's memory holds. -/
abbrev ar (c : Dev nD) : Args :=
  ⟨m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5),
    m ((c : Thread nD τ).loc main_arg6), m ((c : Thread nD τ).loc main_arg7), m ((c : Thread nD τ).loc main_arg8),
    m ((c : Thread nD τ).loc main_arg9)⟩

theorem idx : ∀ t : Fin cfg0.N,
    win0_0.index t = ![t.val / 9, t.val % 9, 0]
    ∧ win0_1.index t = ![t.val / 9, t.val % 9, 0]
    ∧ win0_2.index t = ![t.val / 9, t.val % 9, 0]
    ∧ win0_3.index t = ![t.val / 9, t.val % 9, 0]
    ∧ win0_4.index t = ![t.val / 9, t.val % 9, 3]
    ∧ win0_5.index t = ![t.val / 9, t.val % 9, 4]
    ∧ win0_6.index t = ![t.val / 9, t.val % 9, 5]
    ∧ win0_7.index t = ![t.val / 9, t.val % 9, 6]
    ∧ win0_8.index t = ![t.val / 9, t.val % 9, 7]
    ∧ win0_9.index t = ![t.val / 9, t.val % 9, 8]
    ∧ win0_10.index t = ![0, 0]
    ∧ win0_11.index t = ![0, 0]
    ∧ win0_12.index t = ![0, 0]
    ∧ win0_13.index t = ![0, 0]
    ∧ win0_14.index t = ![0, 0] :=
  (by decide +kernel : ∀ t : Fin grid0.N, _)
theorem idx_out : ∀ t : Fin cfg0.N,
    win0_15.index t = ![t.val / 9, t.val % 9, 0] ∧ win0_16.index t = ![t.val / 9, t.val % 9, 0] :=
  (by decide +kernel : ∀ t : Fin grid0.N, _)
/-- Where a point finds its row of the modulation. -/
theorem off1 : ∀ t : Fin cfg0.N, k0_off1 (grid0.coords t) = ![if t.val % 9 = 0 then 4 else t.val / 9, 2048] :=
  (by decide +kernel : ∀ t : Fin grid0.N, _)

/-! ## The blocks -/

theorem blk0 (c : Dev nD) (t : Fin cfg0.N) (r : Fin 256) (k : Fin 1024) :
    (iblk m c 0 t : Vec Ideal S1x256x1024 .f32) (ix3 0 r k) = (ar m c).x (ix3 (bt t) (tk t r) k) := by
  blk_point [iblk, V_main_arg0, idx t, bt, tk]
theorem blk1 (c : Dev nD) (t : Fin cfg0.N) (r : Fin 256) (k : Fin 384) :
    (iblk m c 1 t : Vec Ideal S1x256x384 .bf16) (ix3 0 r k) = (ar m c).oa (ix3 (bt t) (tk t r) k) := by
  blk_point [iblk, V_main_arg1, idx t, bt, tk]
theorem blk2 (c : Dev nD) (t : Fin cfg0.N) (r : Fin 256) (k : Fin 256) :
    (iblk m c 2 t : Vec Ideal S1x256x256 .bf16) (ix3 0 r k) = (ar m c).ob (ix3 (bt t) (tk t r) k) := by
  blk_point [iblk, V_main_arg2, idx t, bt, tk]
theorem blk3 (c : Dev nD) (t : Fin cfg0.N) (r : Fin 256) (k : Fin 384) :
    (iblk m c 3 t : Vec Ideal S1x256x384 .bf16) (ix3 0 r k) = (ar m c).oc (ix3 (bt t) (tk t r) k) := by
  blk_point [iblk, V_main_arg3, idx t, bt, tk]
theorem blk4 (c : Dev nD) (t : Fin cfg0.N) (r : Fin 256) (k : Fin 512) :
    (iblk m c 4 t : Vec Ideal S1x256x512 .bf16) (ix3 0 r k) = (ar m c).z (ix3 (bt t) (tk t r) ⟨1536 + k.val, by omega⟩) := by
  blk_point [iblk, V_main_arg4, idx t, bt, tk]
theorem blk5 (c : Dev nD) (t : Fin cfg0.N) (r : Fin 256) (k : Fin 512) :
    (iblk m c 5 t : Vec Ideal S1x256x512 .bf16) (ix3 0 r k) = (ar m c).z (ix3 (bt t) (tk t r) ⟨2048 + k.val, by omega⟩) := by
  blk_point [iblk, V_main_arg4, idx t, bt, tk]
theorem blk6 (c : Dev nD) (t : Fin cfg0.N) (r : Fin 256) (k : Fin 512) :
    (iblk m c 6 t : Vec Ideal S1x256x512 .bf16) (ix3 0 r k) = (ar m c).z (ix3 (bt t) (tk t r) ⟨2560 + k.val, by omega⟩) := by
  blk_point [iblk, V_main_arg4, idx t, bt, tk]
theorem blk7 (c : Dev nD) (t : Fin cfg0.N) (r : Fin 256) (k : Fin 512) :
    (iblk m c 7 t : Vec Ideal S1x256x512 .bf16) (ix3 0 r k) = (ar m c).z (ix3 (bt t) (tk t r) ⟨3072 + k.val, by omega⟩) := by
  blk_point [iblk, V_main_arg4, idx t, bt, tk]
theorem blk8 (c : Dev nD) (t : Fin cfg0.N) (r : Fin 256) (k : Fin 512) :
    (iblk m c 8 t : Vec Ideal S1x256x512 .bf16) (ix3 0 r k) = (ar m c).z (ix3 (bt t) (tk t r) ⟨3584 + k.val, by omega⟩) := by
  blk_point [iblk, V_main_arg4, idx t, bt, tk]
theorem blk9 (c : Dev nD) (t : Fin cfg0.N) (r : Fin 256) (k : Fin 512) :
    (iblk m c 9 t : Vec Ideal S1x256x512 .bf16) (ix3 0 r k) = (ar m c).z (ix3 (bt t) (tk t r) ⟨4096 + k.val, by omega⟩) := by
  blk_point [iblk, V_main_arg4, idx t, bt, tk]
theorem blk11 (c : Dev nD) (t : Fin cfg0.N) (r : Fin 384) (k : Fin 1024) :
    (iblk m c 11 t : Vec Ideal S384x1024 .bf16) (ix2 r k) = (ar m c).wa (ix2 r k) := by
  blk_point [iblk, V_main_arg6, idx t]
theorem blk12 (c : Dev nD) (t : Fin cfg0.N) (r : Fin 256) (k : Fin 1024) :
    (iblk m c 12 t : Vec Ideal S256x1024 .bf16) (ix2 r k) = (ar m c).wb (ix2 r k) := by
  blk_point [iblk, V_main_arg7, idx t]
theorem blk13 (c : Dev nD) (t : Fin cfg0.N) (r : Fin 384) (k : Fin 1024) :
    (iblk m c 13 t : Vec Ideal S384x1024 .bf16) (ix2 r k) = (ar m c).wc (ix2 r k) := by
  blk_point [iblk, V_main_arg8, idx t]
theorem blk14 (c : Dev nD) (t : Fin cfg0.N) (r : Fin 1024) (k : Fin 1024) :
    (iblk m c 14 t : Vec Ideal S1024x1024 .bf16) (ix2 r k) = (ar m c).wo (ix2 r k) := by
  blk_point [iblk, V_main_arg9, idx t]
theorem blk10 (c : Dev nD) (t : Fin cfg0.N) (k : Fin 1024) (h) :
    View.ld (iblk m c 10 t : Vec Ideal S8x6144 .f32) (Rect.unit (s := S8x6144) (k0_off1 (grid0.coords t)) ![1, 1024] h) (ix2 0 k)
      = (ar m c).md (ix2 (rw_ t) ⟨2048 + k.val, by omega⟩) := by
  pointwise []
  blk_point [iblk, V_main_arg5, idx t, off1 t]
  unfold rw_
  split <;> rfl

theorem pt (c : Dev nD) (t : Fin cfg0.N) (h) :
    Pt (ar m c) t (iblk m c 0 t) (iblk m c 1 t) (iblk m c 2 t) (iblk m c 3 t) (iblk m c 4 t) (iblk m c 5 t) (iblk m c 6 t) (iblk m c 7 t)
      (iblk m c 8 t) (iblk m c 9 t) (View.ld (iblk m c 10 t : Vec Ideal S8x6144 .f32) (Rect.unit (s := S8x6144) (k0_off1 (grid0.coords t)) ![1, 1024] h))
      (iblk m c 11 t) (iblk m c 12 t) (iblk m c 13 t) (iblk m c 14 t) :=
  ⟨blk0 m c t, blk1 m c t, blk2 m c t, blk3 m c t, blk4 m c t, blk5 m c t, blk6 m c t, blk7 m c t, blk8 m c t, blk9 m c t, fun k => blk10 m c t k h,
    blk11 m c t, blk12 m c t, blk13 m c t, blk14 m c t⟩

/-! ## The results after the run -/

/-- A context point passes its tokens by. -/
theorem pass_at (v : Vec Ideal S1x256x1024 .f32) (r : Fin 256) (k : Fin 1024) : k0_pay5 v (ix3 0 r k) = v (ix3 0 r k) := by pointwise [k0_pay5]
theorem zero_at (r : Fin 256) (k : Fin 1024) : k0_pay4 (F := Ideal) (ix3 0 r k) = 0 := by pointwise [k0_pay4]
/-- Where a point's tokens lie. -/
theorem ctx (t : Fin cfg0.N) (h : t.val % 9 = 0) (r : Fin 256) : (tk t r).val < 256 := by unfold tk; dsimp only; omega
theorem lat (t : Fin cfg0.N) (h : ¬t.val % 9 = 0) (r : Fin 256) : ¬(tk t r).val < 256 := by unfold tk; dsimp only; omega

theorem out15 (c : Dev nD) : (dats m 0 c).arrAt 15 cfg0.N = fun i => lastX1 (ar m c) (i 0) (i 1) (i 2) := by
  refine (dats m 0 c).arrAt_eq_of_covers 15 _ (by decide +kernel) fun t hf y => ?_
  blk_simp
  rw [after0_15]
  by_cases h : t.val % 9 = 0
  · rw [outsAt0_A m c t (by omega) h]
    dsimp only
    unfold out0_A_15 kernelRun0_A
    frame_out
    refine close (t := t) (f := lastX1 (ar m c)) (fun r k => (pass_at _ r k).trans ((blk0 m c t r k).trans (if_pos (ctx t h r)).symm)) ?_ ?_ ?_
    all_goals blk_simp [idx_out t]
  · rw [outsAt0_B m c t (by omega) h]
    dsimp only
    unfold out0_B_15 kernelRun0_B
    frame_out
    refine close (t := t) (f := lastX1 (ar m c)) (fun r k => (x1_of (pt m c t _) r k).trans (if_neg (lat t h r)).symm) ?_ ?_ ?_
    all_goals blk_simp [idx_out t]
theorem out16 (c : Dev nD) : (dats m 0 c).arrAt 16 cfg0.N = fun i => lastOut (ar m c) (i 0) (i 1) (i 2) := by
  refine (dats m 0 c).arrAt_eq_of_covers 16 _ (by decide +kernel) fun t hf y => ?_
  blk_simp
  rw [after0_16]
  by_cases h : t.val % 9 = 0
  · rw [outsAt0_A m c t (by omega) h]
    dsimp only
    unfold out0_A_16 kernelRun0_A
    frame_out
    refine close (t := t) (f := lastOut (ar m c)) (fun r k => (zero_at r k).trans (if_pos (ctx t h r)).symm) ?_ ?_ ?_
    all_goals blk_simp [idx_out t]
  · rw [outsAt0_B m c t (by omega) h]
    dsimp only
    unfold out0_B_16 kernelRun0_B
    frame_out
    refine close (t := t) (f := lastOut (ar m c)) (fun r k => (out16_of (pt m c t (k0_off1_inb (grid0.coords t) ((hcond0_0 t).mpr (by omega)))) r k).trans (if_neg (lat t h r)).symm) ?_ ?_ ?_
    all_goals blk_simp [idx_out t]

theorem post15 (r : PUnit × MemSt nD τ sig (Elt Ideal)) (h : Pipeline.FramePost cfgs (dats m) 0 (V m) r) (c : Dev nD) :
    r.2.mem ((c : Thread nD τ).loc main_v0_0) = (dats m 0 c).arrAt 15 cfg0.N := (h c).1 15
theorem post16 (r : PUnit × MemSt nD τ sig (Elt Ideal)) (h : Pipeline.FramePost cfgs (dats m) 0 (V m) r) (c : Dev nD) :
    r.2.mem ((c : Thread nD τ).loc main_v0_1) = (dats m 0 c).arrAt 16 cfg0.N := (h c).1 16

/-- The launch's results and its unchanged arguments. -/
theorem run_values (g : Dev nD → PrngReg) : θ_run defs (onTc (τ := τ) (main (F := Ideal))) ⟨m, fun _ => 0, g⟩ fun r => ∀ c : Dev nD,
      r.2.mem ((c : Thread nD τ).loc main_v0_0) = (fun i => lastX1 (ar m c) (i 0) (i 1) (i 2))
      ∧ r.2.mem ((c : Thread nD τ).loc main_v0_1) = (fun i => lastOut (ar m c) (i 0) (i 1) (i 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(post15 m r h.1 c).trans (out15 m c), (post16 m r h.1 c).trans (out16 m c), h.2 c⟩)
    (θ_run_and (run_main m g) (unchanged m g))

end Cert.Kernel12Ideal.Blocks

end
-- ==== Proof.FwdLastRef.lean ====
module

public import proofs.«01_k».proof.Proof.Gen.Reference12Ideal.Read
public import proofs.«01_k».proof.Proof.Gen.Reference12Ideal.Run
public import proofs.«01_k».proof.Proof.Fwd
public import proofs.«01_k».proof.Proof.Ref
public import proofs.«01_k».proof.Proof.MlpRef
public import Idealize.ShloMosaic.Lib.Pipeline.ValueKit

/-! # What the reference of the last layer's forward merge computes -/

@[expose] public section

set_option maxRecDepth 16384

noncomputable section

namespace Cert.Reference12Ideal.Stage

open Cert.Reference12Ideal Cert.Reference12Ideal.Gen Cert.Reference12Ideal.Read Cert.Merge Cert.MergeFwd Idealize.ShloMosaic Idealize.ShloMosaic.TcCoe Idealize.SL.Sem
open Cert.Reference2Ideal.Stage (ext3)

variable (a : Args)

theorem out_at (b : Fin 4) (t : Fin 2304) (k : Fin 1024) : val_main_v38 (F := Ideal) a.oa a.ob a.oc a.z a.wa a.wb a.wc a.wo (ix3 b t k) = out a b t k :=
  Cert.ReferenceIdeal.Stage.mo_at a.oa a.ob a.oc a.z a.wa a.wb a.wc a.wo b t k
theorem out16_at (b : Fin 4) (t : Fin 2304) (k : Fin 1024) : val_main_v51 (F := Ideal) a.oa a.ob a.oc a.z a.wa a.wb a.wc a.wo (ix3 b t k) = lastOut a b t k := by
  pointwise [val_main_v51, val_main_v50, val_main_v49, val_main_v48, val_main_cst_5]
  unfold lastOut
  by_cases h : t.val < 256
  · rw [dif_pos h, if_pos h]
  · have e : ∀ q, (⟨256 + (t.val - 256), q⟩ : Fin 2304) = t := fun q => Fin.ext (by dsimp only; omega)
    rw [dif_neg h, if_neg h]
    simp only [e, out_at]
theorem x1_at (b : Fin 4) (t : Fin 2304) (k : Fin 1024) : val_main_v47 (F := Ideal) a.x a.oa a.ob a.oc a.z a.md a.wa a.wb a.wc a.wo (ix3 b t k) = lastX1 a b t k := by
  pointwise [val_main_v47, val_main_v46, val_main_v45, val_main_v44, val_main_v43, val_main_v42, val_main_v41, val_main_v40, val_main_v39]
  unfold lastX1 x1 gate row
  by_cases h : t.val < 256
  · rw [dif_pos h, if_pos h]
  · have e : ∀ q, (⟨256 + (t.val - 256), q⟩ : Fin 2304) = t := fun q => Fin.ext (by dsimp only; omega)
    rw [dif_neg h, if_neg h, if_neg h]
    simp only [e, out_at]

variable (m : (ℓ : Loc nD τ sig) → Buf (Elt Ideal) ℓ)

/-- A device's arguments. -/
abbrev ar (c : Dev nD) : Args :=
  ⟨m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5),
    m ((c : Thread nD τ).loc main_arg6), m ((c : Thread nD τ).loc main_arg7), m ((c : Thread nD τ).loc main_arg8),
    m ((c : Thread nD τ).loc main_arg9)⟩

/-- The reference's run, with every result named. -/
theorem run_values (g : Dev nD → PrngReg) : θ_run defs (onTc (τ := τ) (main (F := Ideal))) ⟨m, fun _ => 0, g⟩ fun r => ∀ c : Dev nD,
      r.2.mem ((c : Thread nD τ).loc main_v47) = (fun i => lastX1 (ar m c) (i 0) (i 1) (i 2))
      ∧ r.2.mem ((c : Thread nD τ).loc main_v51) = (fun i => lastOut (ar m c) (i 0) (i 1) (i 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) := by
  refine (θ_run _ _ _).mono (fun r h c => ?_) (Cert.Reference12Ideal.Value.run (F := Ideal) m g)
  obtain ⟨e0, e1, hk⟩ := h c
  exact ⟨(e0.trans (val_main_v47_eq _ _ _ _ _ _ _ _ _ _)).trans (ext3 (x1_at (ar m c))), (e1.trans (val_main_v51_eq _ _ _ _ _ _ _ _)).trans (ext3 (out16_at (ar m c))), hk⟩

end Cert.Reference12Ideal.Stage

end
-- ==== Proof.FwdLastEquation.lean ====
module

public import proofs.«01_k».proof.Defs
public import proofs.«01_k».proof.Proof.FwdLastValues
public import proofs.«01_k».proof.Proof.FwdLastRef

/-! # The equation of the last layer's forward merge -/

@[expose] public section

set_option maxRecDepth 16384
set_option maxHeartbeats 1600000

noncomputable section

namespace Cert.Proof

open Cert.MergeFwd Idealize.ShloMosaic Idealize.ShloMosaic.TcCoe Idealize.SL.Sem

/-- Kernel and reference compute the same two arrays over the extended reals. -/
theorem merge_fwd_last : @Cert.algebraic_Kernel12Ideal_Reference12Ideal Cert.Kernel12Ideal.Gen.facts Cert.Reference12Ideal.Gen.facts := by
  intro m g m' g' _ hargs
  have e : ∀ c, Cert.Reference12Ideal.Stage.ar m' c = Cert.Kernel12Ideal.Blocks.ar m c := fun c => by
    obtain ⟨h0, h1, h2, h3, h4, h5, h6, h7, h8, h9⟩ := hargs c
    unfold Cert.Reference12Ideal.Stage.ar Cert.Kernel12Ideal.Blocks.ar
    rw [h0, h1, h2, h3, h4, h5, h6, h7, h8, h9]
  refine ⟨fun c i => lastX1 (Cert.Kernel12Ideal.Blocks.ar m c) (i 0) (i 1) (i 2),
    fun c i => lastOut (Cert.Kernel12Ideal.Blocks.ar m c) (i 0) (i 1) (i 2), ?_, ?_⟩
  · exact Cert.Kernel12Ideal.Blocks.run_values m g
  · refine (θ_run _ _ _).mono (fun r h c => ?_) (Cert.Reference12Ideal.Stage.run_values m' g')
    have := h c
    rw [e c] at this
    exact this

end Cert.Proof

end
-- ==== Proof.MergeLastRunA.lean ====
module

public import proofs.«01_k».proof.Proof.Gen.Kernel13Ideal.Frame.Runs

/-! # The last layer's body: the first point

The body run once on any staging buffers at the first point: zero output blocks, and the gate's gradient reset to zero. -/

@[expose] public section

-- membership in a rectangle of production extents (`View.cover_of_tiled`): the elaborator's structural look
-- recurses once per coordinate of the long axes
set_option maxRecDepth 16384

noncomputable section

namespace Cert.Kernel13Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large
set_option maxHeartbeats 2000000 in
/-- At the first point: from the input buffers at their contents and the outputs' at anything, the body ends with the inputs as
    they were and each output's buffer with the stored pieces (last first) written. -/
noncomputable def kernelRun0_A (c : Dev nD) (i : grid0.Coords) (arg2 : Memref sig .tc .vmem S1x256x1024 .f32) (harg2 : arg2.IsWhole) (arg3 : Memref sig .tc .vmem S1x256x1024 .bf16) (harg3 : arg3.IsWhole) (arg4 : Memref sig .tc .vmem S1x256x384 .bf16) (harg4 : arg4.IsWhole) (arg5 : Memref sig .tc .vmem S1x256x256 .bf16) (harg5 : arg5.IsWhole) (arg6 : Memref sig .tc .vmem S1x256x384 .bf16) (harg6 : arg6.IsWhole) (arg7 : Memref sig .tc .vmem S1x256x512 .bf16) (harg7 : arg7.IsWhole) (arg8 : Memref sig .tc .vmem S1x256x512 .bf16) (harg8 : arg8.IsWhole) (arg9 : Memref sig .tc .vmem S1x256x512 .bf16) (harg9 : arg9.IsWhole) (arg10 : Memref sig .tc .vmem S1x256x512 .bf16) (harg10 : arg10.IsWhole) (arg11 : Memref sig .tc .vmem S1x256x512 .bf16) (harg11 : arg11.IsWhole) (arg12 : Memref sig .tc .vmem S1x256x512 .bf16) (harg12 : arg12.IsWhole) (arg13 : Memref sig .tc .vmem S8x6144 .f32) (harg13 : arg13.IsWhole) (arg14 : Memref sig .tc .vmem S384x1024 .bf16) (harg14 : arg14.IsWhole) (arg15 : Memref sig .tc .vmem S256x1024 .bf16) (harg15 : arg15.IsWhole) (arg16 : Memref sig .tc .vmem S384x1024 .bf16) (harg16 : arg16.IsWhole) (arg17 : Memref sig .tc .vmem S1024x1024 .bf16) (harg17 : arg17.IsWhole) (arg18 : Memref sig .tc .vmem S1x256x384 .bf16) (harg18 : arg18.IsWhole) (arg19 : Memref sig .tc .vmem S1x256x256 .bf16) (harg19 : arg19.IsWhole) (arg20 : Memref sig .tc .vmem S1x256x384 .bf16) (harg20 : arg20.IsWhole) (arg21 : Memref sig .tc .vmem S1x256x1024 .bf16) (harg21 : arg21.IsWhole) (arg22 : Memref sig .tc .vmem S1x256x1024 .bf16) (harg22 : arg22.IsWhole) (arg23 : Memref sig .tc .vmem S1x256x1024 .bf16) (harg23 : arg23.IsWhole) (arg24 : Memref sig .tc .vmem S1x256x1024 .bf16) (harg24 : arg24.IsWhole) (arg25 : Memref sig .tc .vmem S1x256x1024 .bf16) (harg25 : arg25.IsWhole) (arg26 : Memref sig .tc .vmem S1x256x3072 .bf16) (harg26 : arg26.IsWhole) (arg27 : Memref sig .tc .vmem S8x1024 .f32) (harg27 : arg27.IsWhole) (hc0 : cond0_0 i) (hc1 : ¬cond0_1 i) (hc2 : cond0_2 i)
    (x0 : Vec F S1x256x1024 .f32) (x1 : Vec F S1x256x1024 .bf16) (x2 : Vec F S1x256x384 .bf16) (x3 : Vec F S1x256x256 .bf16) (x4 : Vec F S1x256x384 .bf16) (x5 : Vec F S1x256x512 .bf16) (x6 : Vec F S1x256x512 .bf16) (x7 : Vec F S1x256x512 .bf16) (x8 : Vec F S1x256x512 .bf16) (x9 : Vec F S1x256x512 .bf16) (x10 : Vec F S1x256x512 .bf16) (x11 : Vec F S8x6144 .f32) (x12 : Vec F S384x1024 .bf16) (x13 : Vec F S256x1024 .bf16) (x14 : Vec F S384x1024 .bf16) (x15 : Vec F S1024x1024 .bf16) :
    Σ' (L16 : List (View.Piece (Elt F) S1x256x384 .bf16)), Σ' (L17 : List (View.Piece (Elt F) S1x256x256 .bf16)), Σ' (L18 : List (View.Piece (Elt F) S1x256x384 .bf16)), Σ' (L19 : List (View.Piece (Elt F) S1x256x1024 .bf16)), Σ' (L20 : List (View.Piece (Elt F) S1x256x1024 .bf16)), Σ' (L21 : List (View.Piece (Elt F) S1x256x1024 .bf16)), Σ' (L22 : List (View.Piece (Elt F) S1x256x1024 .bf16)), Σ' (L23 : List (View.Piece (Elt F) S1x256x1024 .bf16)), Σ' (L24 : List (View.Piece (Elt F) S1x256x3072 .bf16)), { L25 : List (View.Piece (Elt F) S8x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f L24) ∗ (∃ f, arg27.view.loc (c : Thread nD τ) ↦[arg27.view.set]{fullShare} arg27.view.writes (Elt F) f L25)) -∗ K ⟨⟩))
          ⊢ wp frame (wpE (defs₀ (F := F)) Variants.none c none) E (cc0_merge_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, ?_, ?_, ?_, ?_, ?_, fun E K => ?run⟩
  case run =>
    simp only [cc0_merge_bwd_eq_skeleton]; unfold cc0_merge_bwd_skel
    simp only [k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    iexists _; iexact H25

end Cert.Kernel13Ideal.Gen

end
-- ==== Proof.MergeLastRunB.lean ====
module

public import proofs.«01_k».proof.Proof.MergeLastRunA

/-! # The last layer's body: a live point

The body run once on any staging buffers at a point of a live block row: the gradients computed, the gate's gradient carried on. -/

@[expose] public section

-- membership in a rectangle of production extents (`View.cover_of_tiled`): the elaborator's structural look
-- recurses once per coordinate of the long axes
set_option maxRecDepth 16384

noncomputable section

namespace Cert.Kernel13Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large
set_option maxHeartbeats 2000000 in
/-- At a live point: from the input buffers and the carried gradient at their contents and the other outputs' at anything,
    the body ends with the inputs as they were and each output's buffer with the stored pieces (last first) written. -/
noncomputable def kernelRun0_B (c : Dev nD) (i : grid0.Coords) (arg2 : Memref sig .tc .vmem S1x256x1024 .f32) (harg2 : arg2.IsWhole) (arg3 : Memref sig .tc .vmem S1x256x1024 .bf16) (harg3 : arg3.IsWhole) (arg4 : Memref sig .tc .vmem S1x256x384 .bf16) (harg4 : arg4.IsWhole) (arg5 : Memref sig .tc .vmem S1x256x256 .bf16) (harg5 : arg5.IsWhole) (arg6 : Memref sig .tc .vmem S1x256x384 .bf16) (harg6 : arg6.IsWhole) (arg7 : Memref sig .tc .vmem S1x256x512 .bf16) (harg7 : arg7.IsWhole) (arg8 : Memref sig .tc .vmem S1x256x512 .bf16) (harg8 : arg8.IsWhole) (arg9 : Memref sig .tc .vmem S1x256x512 .bf16) (harg9 : arg9.IsWhole) (arg10 : Memref sig .tc .vmem S1x256x512 .bf16) (harg10 : arg10.IsWhole) (arg11 : Memref sig .tc .vmem S1x256x512 .bf16) (harg11 : arg11.IsWhole) (arg12 : Memref sig .tc .vmem S1x256x512 .bf16) (harg12 : arg12.IsWhole) (arg13 : Memref sig .tc .vmem S8x6144 .f32) (harg13 : arg13.IsWhole) (arg14 : Memref sig .tc .vmem S384x1024 .bf16) (harg14 : arg14.IsWhole) (arg15 : Memref sig .tc .vmem S256x1024 .bf16) (harg15 : arg15.IsWhole) (arg16 : Memref sig .tc .vmem S384x1024 .bf16) (harg16 : arg16.IsWhole) (arg17 : Memref sig .tc .vmem S1024x1024 .bf16) (harg17 : arg17.IsWhole) (arg18 : Memref sig .tc .vmem S1x256x384 .bf16) (harg18 : arg18.IsWhole) (arg19 : Memref sig .tc .vmem S1x256x256 .bf16) (harg19 : arg19.IsWhole) (arg20 : Memref sig .tc .vmem S1x256x384 .bf16) (harg20 : arg20.IsWhole) (arg21 : Memref sig .tc .vmem S1x256x1024 .bf16) (harg21 : arg21.IsWhole) (arg22 : Memref sig .tc .vmem S1x256x1024 .bf16) (harg22 : arg22.IsWhole) (arg23 : Memref sig .tc .vmem S1x256x1024 .bf16) (harg23 : arg23.IsWhole) (arg24 : Memref sig .tc .vmem S1x256x1024 .bf16) (harg24 : arg24.IsWhole) (arg25 : Memref sig .tc .vmem S1x256x1024 .bf16) (harg25 : arg25.IsWhole) (arg26 : Memref sig .tc .vmem S1x256x3072 .bf16) (harg26 : arg26.IsWhole) (arg27 : Memref sig .tc .vmem S8x1024 .f32) (harg27 : arg27.IsWhole) (hc0 : ¬cond0_0 i) (hc1 : cond0_1 i) (hc2 : ¬cond0_2 i)
    (x0 : Vec F S1x256x1024 .f32) (x1 : Vec F S1x256x1024 .bf16) (x2 : Vec F S1x256x384 .bf16) (x3 : Vec F S1x256x256 .bf16) (x4 : Vec F S1x256x384 .bf16) (x5 : Vec F S1x256x512 .bf16) (x6 : Vec F S1x256x512 .bf16) (x7 : Vec F S1x256x512 .bf16) (x8 : Vec F S1x256x512 .bf16) (x9 : Vec F S1x256x512 .bf16) (x10 : Vec F S1x256x512 .bf16) (x11 : Vec F S8x6144 .f32) (x12 : Vec F S384x1024 .bf16) (x13 : Vec F S256x1024 .bf16) (x14 : Vec F S384x1024 .bf16) (x15 : Vec F S1024x1024 .bf16) (xo25 : Vec F S8x1024 .f32) :
    Σ' (L16 : List (View.Piece (Elt F) S1x256x384 .bf16)), Σ' (L17 : List (View.Piece (Elt F) S1x256x256 .bf16)), Σ' (L18 : List (View.Piece (Elt F) S1x256x384 .bf16)), Σ' (L19 : List (View.Piece (Elt F) S1x256x1024 .bf16)), Σ' (L20 : List (View.Piece (Elt F) S1x256x1024 .bf16)), Σ' (L21 : List (View.Piece (Elt F) S1x256x1024 .bf16)), Σ' (L22 : List (View.Piece (Elt F) S1x256x1024 .bf16)), Σ' (L23 : List (View.Piece (Elt F) S1x256x1024 .bf16)), Σ' (L24 : List (View.Piece (Elt F) S1x256x3072 .bf16)), { L25 : List (View.Piece (Elt F) S8x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ owns (c : Thread nD τ) arg27 fullShare xo25
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f L24) ∗ (arg27.view.loc (c : Thread nD τ) ↦[arg27.view.set]{fullShare} arg27.view.writes (Elt F) (harg27.unread xo25) L25)) -∗ K ⟨⟩))
          ⊢ wp frame (wpE (defs₀ (F := F)) Variants.none c none) E (cc0_merge_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, ?_, ?_, ?_, ?_, ?_, fun E K => ?run⟩
  case run =>
    simp only [cc0_merge_bwd_eq_skeleton]; unfold cc0_merge_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%f25, %hf25, H25⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg27.eq_unread hf25
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    iexact H25

end Cert.Kernel13Ideal.Gen

end
-- ==== Proof.MergeLastRunC.lean ====
module

public import proofs.«01_k».proof.Proof.MergeLastRunB

/-! # The last layer's body: a context point

The body run once on any staging buffers at a context row's point after the first: zero output blocks, the gate's gradient untouched. -/

@[expose] public section

-- membership in a rectangle of production extents (`View.cover_of_tiled`): the elaborator's structural look
-- recurses once per coordinate of the long axes
set_option maxRecDepth 16384

noncomputable section

namespace Cert.Kernel13Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large
set_option maxHeartbeats 2000000 in
/-- At a later context point: from the input buffers and the carried gradient at their contents and the other outputs' at
    anything, the body ends with the inputs and the carried gradient as they were and each other output's buffer with the
    stored pieces (last first) written. -/
noncomputable def kernelRun0_C (c : Dev nD) (i : grid0.Coords) (arg2 : Memref sig .tc .vmem S1x256x1024 .f32) (harg2 : arg2.IsWhole) (arg3 : Memref sig .tc .vmem S1x256x1024 .bf16) (harg3 : arg3.IsWhole) (arg4 : Memref sig .tc .vmem S1x256x384 .bf16) (harg4 : arg4.IsWhole) (arg5 : Memref sig .tc .vmem S1x256x256 .bf16) (harg5 : arg5.IsWhole) (arg6 : Memref sig .tc .vmem S1x256x384 .bf16) (harg6 : arg6.IsWhole) (arg7 : Memref sig .tc .vmem S1x256x512 .bf16) (harg7 : arg7.IsWhole) (arg8 : Memref sig .tc .vmem S1x256x512 .bf16) (harg8 : arg8.IsWhole) (arg9 : Memref sig .tc .vmem S1x256x512 .bf16) (harg9 : arg9.IsWhole) (arg10 : Memref sig .tc .vmem S1x256x512 .bf16) (harg10 : arg10.IsWhole) (arg11 : Memref sig .tc .vmem S1x256x512 .bf16) (harg11 : arg11.IsWhole) (arg12 : Memref sig .tc .vmem S1x256x512 .bf16) (harg12 : arg12.IsWhole) (arg13 : Memref sig .tc .vmem S8x6144 .f32) (harg13 : arg13.IsWhole) (arg14 : Memref sig .tc .vmem S384x1024 .bf16) (harg14 : arg14.IsWhole) (arg15 : Memref sig .tc .vmem S256x1024 .bf16) (harg15 : arg15.IsWhole) (arg16 : Memref sig .tc .vmem S384x1024 .bf16) (harg16 : arg16.IsWhole) (arg17 : Memref sig .tc .vmem S1024x1024 .bf16) (harg17 : arg17.IsWhole) (arg18 : Memref sig .tc .vmem S1x256x384 .bf16) (harg18 : arg18.IsWhole) (arg19 : Memref sig .tc .vmem S1x256x256 .bf16) (harg19 : arg19.IsWhole) (arg20 : Memref sig .tc .vmem S1x256x384 .bf16) (harg20 : arg20.IsWhole) (arg21 : Memref sig .tc .vmem S1x256x1024 .bf16) (harg21 : arg21.IsWhole) (arg22 : Memref sig .tc .vmem S1x256x1024 .bf16) (harg22 : arg22.IsWhole) (arg23 : Memref sig .tc .vmem S1x256x1024 .bf16) (harg23 : arg23.IsWhole) (arg24 : Memref sig .tc .vmem S1x256x1024 .bf16) (harg24 : arg24.IsWhole) (arg25 : Memref sig .tc .vmem S1x256x1024 .bf16) (harg25 : arg25.IsWhole) (arg26 : Memref sig .tc .vmem S1x256x3072 .bf16) (harg26 : arg26.IsWhole) (arg27 : Memref sig .tc .vmem S8x1024 .f32) (harg27 : arg27.IsWhole) (hc0 : ¬cond0_0 i) (hc1 : ¬cond0_1 i) (hc2 : cond0_2 i)
    (x0 : Vec F S1x256x1024 .f32) (x1 : Vec F S1x256x1024 .bf16) (x2 : Vec F S1x256x384 .bf16) (x3 : Vec F S1x256x256 .bf16) (x4 : Vec F S1x256x384 .bf16) (x5 : Vec F S1x256x512 .bf16) (x6 : Vec F S1x256x512 .bf16) (x7 : Vec F S1x256x512 .bf16) (x8 : Vec F S1x256x512 .bf16) (x9 : Vec F S1x256x512 .bf16) (x10 : Vec F S1x256x512 .bf16) (x11 : Vec F S8x6144 .f32) (x12 : Vec F S384x1024 .bf16) (x13 : Vec F S256x1024 .bf16) (x14 : Vec F S384x1024 .bf16) (x15 : Vec F S1024x1024 .bf16) :
    Σ' (L16 : List (View.Piece (Elt F) S1x256x384 .bf16)), Σ' (L17 : List (View.Piece (Elt F) S1x256x256 .bf16)), Σ' (L18 : List (View.Piece (Elt F) S1x256x384 .bf16)), Σ' (L19 : List (View.Piece (Elt F) S1x256x1024 .bf16)), Σ' (L20 : List (View.Piece (Elt F) S1x256x1024 .bf16)), Σ' (L21 : List (View.Piece (Elt F) S1x256x1024 .bf16)), Σ' (L22 : List (View.Piece (Elt F) S1x256x1024 .bf16)), Σ' (L23 : List (View.Piece (Elt F) S1x256x1024 .bf16)), Σ' (L24 : List (View.Piece (Elt F) S1x256x3072 .bf16)), { L25 : List (View.Piece (Elt F) S8x1024 .f32) //
      ∀ (xi25 : Vec F S8x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ owns (c : Thread nD τ) arg27 fullShare xi25
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f L24) ∗ owns (c : Thread nD τ) arg27 fullShare xi25) -∗ K ⟨⟩))
          ⊢ wp frame (wpE (defs₀ (F := F)) Variants.none c none) E (cc0_merge_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, ?_, ?_, ?_, ?_, [], fun xi25 E K => ?run⟩
  case run =>
    simp only [cc0_merge_bwd_eq_skeleton]; unfold cc0_merge_bwd_skel
    simp only [k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%f25, %hf25, H25⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg27.eq_unread hf25
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    iexists _; isplitr; · ipureintro; exact harg27.read_unread _
    iexact H25

end Cert.Kernel13Ideal.Gen

end
-- ==== Proof.MergeLastFrame.lean ====
module

public import proofs.«01_k».proof.Proof.MergeLastRunC
public import Idealize.ShloMosaic.Lib.Claim

/-! # The last layer's backward merge: the whole grid

What the output buffers hold after every grid point, the pipeline's proof data, and the run of the whole program. The
text is over any reading of the floats, so it serves the program as printed and its ideal reading. -/

@[expose] public section

set_option maxRecDepth 16384

noncomputable section

namespace Cert.Kernel13Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the ten outputs' buffers hold. -/
abbrev Outs (F : FTy → Type) : Type := Vec F S1x256x384 .bf16 × Vec F S1x256x256 .bf16 × Vec F S1x256x384 .bf16 × Vec F S1x256x1024 .bf16 × Vec F S1x256x1024 .bf16 × Vec F S1x256x1024 .bf16 × Vec F S1x256x1024 .bf16 × Vec F S1x256x1024 .bf16 × Vec F S1x256x3072 .bf16 × Vec F S8x1024 .f32

/-- The body's run at point `t`, on the point's own buffers and blocks: the first point, -/
abbrev runA (c : Dev nD) (t : Fin cfg0.N) (h0 : t.val % 36 = 0) (h1 : ¬1 ≤ t.val % 9) (h2 : t.val % 9 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) ((hcond0_0 t).mpr h0) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
/-- and a live one, over the gradient `xo` the point before left, -/
abbrev runB (c : Dev nD) (t : Fin cfg0.N) (h0 : ¬t.val % 36 = 0) (h1 : 1 ≤ t.val % 9) (h2 : ¬t.val % 9 = 0) (xo : Vec F S8x1024 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) xo
/-- and a later context one. -/
abbrev runC (c : Dev nD) (t : Fin cfg0.N) (h0 : ¬t.val % 36 = 0) (h1 : ¬1 ≤ t.val % 9) (h2 : t.val % 9 = 0) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)

/-! ## Each output's stores cover its buffer -/

theorem coverA_16 (c : Dev nD) (t : Fin cfg0.N) (h0 : t.val % 36 = 0) (h1 : ¬1 ≤ t.val % 9) (h2 : t.val % 9 = 0) (y : S1x256x384.Idx) :
    ∃ pc ∈ (runA m c t h0 h1 h2).1, y ∈ pc.1.set :=
  View.cover_of_tiledL _ S1x256x384.size (by sl_kernel_rfl) y
theorem coverA_17 (c : Dev nD) (t : Fin cfg0.N) (h0 : t.val % 36 = 0) (h1 : ¬1 ≤ t.val % 9) (h2 : t.val % 9 = 0) (y : S1x256x256.Idx) :
    ∃ pc ∈ (runA m c t h0 h1 h2).2.1, y ∈ pc.1.set :=
  View.cover_of_tiledL _ S1x256x256.size (by sl_kernel_rfl) y
theorem coverA_18 (c : Dev nD) (t : Fin cfg0.N) (h0 : t.val % 36 = 0) (h1 : ¬1 ≤ t.val % 9) (h2 : t.val % 9 = 0) (y : S1x256x384.Idx) :
    ∃ pc ∈ (runA m c t h0 h1 h2).2.2.1, y ∈ pc.1.set :=
  View.cover_of_tiledL _ S1x256x384.size (by sl_kernel_rfl) y
theorem coverA_19 (c : Dev nD) (t : Fin cfg0.N) (h0 : t.val % 36 = 0) (h1 : ¬1 ≤ t.val % 9) (h2 : t.val % 9 = 0) (y : S1x256x1024.Idx) :
    ∃ pc ∈ (runA m c t h0 h1 h2).2.2.2.1, y ∈ pc.1.set :=
  View.cover_of_tiledL _ S1x256x1024.size (by sl_kernel_rfl) y
theorem coverA_20 (c : Dev nD) (t : Fin cfg0.N) (h0 : t.val % 36 = 0) (h1 : ¬1 ≤ t.val % 9) (h2 : t.val % 9 = 0) (y : S1x256x1024.Idx) :
    ∃ pc ∈ (runA m c t h0 h1 h2).2.2.2.2.1, y ∈ pc.1.set :=
  View.cover_of_tiledL _ S1x256x1024.size (by sl_kernel_rfl) y
theorem coverA_21 (c : Dev nD) (t : Fin cfg0.N) (h0 : t.val % 36 = 0) (h1 : ¬1 ≤ t.val % 9) (h2 : t.val % 9 = 0) (y : S1x256x1024.Idx) :
    ∃ pc ∈ (runA m c t h0 h1 h2).2.2.2.2.2.1, y ∈ pc.1.set :=
  View.cover_of_tiledL _ S1x256x1024.size (by sl_kernel_rfl) y
theorem coverA_22 (c : Dev nD) (t : Fin cfg0.N) (h0 : t.val % 36 = 0) (h1 : ¬1 ≤ t.val % 9) (h2 : t.val % 9 = 0) (y : S1x256x1024.Idx) :
    ∃ pc ∈ (runA m c t h0 h1 h2).2.2.2.2.2.2.1, y ∈ pc.1.set :=
  View.cover_of_tiledL _ S1x256x1024.size (by sl_kernel_rfl) y
theorem coverA_23 (c : Dev nD) (t : Fin cfg0.N) (h0 : t.val % 36 = 0) (h1 : ¬1 ≤ t.val % 9) (h2 : t.val % 9 = 0) (y : S1x256x1024.Idx) :
    ∃ pc ∈ (runA m c t h0 h1 h2).2.2.2.2.2.2.2.1, y ∈ pc.1.set :=
  View.cover_of_tiledL _ S1x256x1024.size (by sl_kernel_rfl) y
theorem coverA_24 (c : Dev nD) (t : Fin cfg0.N) (h0 : t.val % 36 = 0) (h1 : ¬1 ≤ t.val % 9) (h2 : t.val % 9 = 0) (y : S1x256x3072.Idx) :
    ∃ pc ∈ (runA m c t h0 h1 h2).2.2.2.2.2.2.2.2.1, y ∈ pc.1.set :=
  View.cover_of_tiledL _ S1x256x3072.size (by sl_kernel_rfl) y
theorem coverA_25 (c : Dev nD) (t : Fin cfg0.N) (h0 : t.val % 36 = 0) (h1 : ¬1 ≤ t.val % 9) (h2 : t.val % 9 = 0) (y : S8x1024.Idx) :
    ∃ pc ∈ (runA m c t h0 h1 h2).2.2.2.2.2.2.2.2.2.1, y ∈ pc.1.set :=
  View.cover_of_wholeMem _ (by sl_whole_mem) y
theorem coverB_16 (c : Dev nD) (t : Fin cfg0.N) (h0 : ¬t.val % 36 = 0) (h1 : 1 ≤ t.val % 9) (h2 : ¬t.val % 9 = 0) (xo : Vec F S8x1024 .f32) (y : S1x256x384.Idx) :
    ∃ pc ∈ (runB m c t h0 h1 h2 xo).1, y ∈ pc.1.set :=
  View.cover_of_tiledL _ S1x256x384.size (by sl_kernel_rfl) y
theorem coverB_17 (c : Dev nD) (t : Fin cfg0.N) (h0 : ¬t.val % 36 = 0) (h1 : 1 ≤ t.val % 9) (h2 : ¬t.val % 9 = 0) (xo : Vec F S8x1024 .f32) (y : S1x256x256.Idx) :
    ∃ pc ∈ (runB m c t h0 h1 h2 xo).2.1, y ∈ pc.1.set :=
  View.cover_of_tiledL _ S1x256x256.size (by sl_kernel_rfl) y
theorem coverB_18 (c : Dev nD) (t : Fin cfg0.N) (h0 : ¬t.val % 36 = 0) (h1 : 1 ≤ t.val % 9) (h2 : ¬t.val % 9 = 0) (xo : Vec F S8x1024 .f32) (y : S1x256x384.Idx) :
    ∃ pc ∈ (runB m c t h0 h1 h2 xo).2.2.1, y ∈ pc.1.set :=
  View.cover_of_tiledL _ S1x256x384.size (by sl_kernel_rfl) y
theorem coverB_19 (c : Dev nD) (t : Fin cfg0.N) (h0 : ¬t.val % 36 = 0) (h1 : 1 ≤ t.val % 9) (h2 : ¬t.val % 9 = 0) (xo : Vec F S8x1024 .f32) (y : S1x256x1024.Idx) :
    ∃ pc ∈ (runB m c t h0 h1 h2 xo).2.2.2.1, y ∈ pc.1.set :=
  View.cover_of_tiledL _ S1x256x1024.size (by sl_kernel_rfl) y
theorem coverB_20 (c : Dev nD) (t : Fin cfg0.N) (h0 : ¬t.val % 36 = 0) (h1 : 1 ≤ t.val % 9) (h2 : ¬t.val % 9 = 0) (xo : Vec F S8x1024 .f32) (y : S1x256x1024.Idx) :
    ∃ pc ∈ (runB m c t h0 h1 h2 xo).2.2.2.2.1, y ∈ pc.1.set :=
  View.cover_of_tiledL _ S1x256x1024.size (by sl_kernel_rfl) y
theorem coverB_21 (c : Dev nD) (t : Fin cfg0.N) (h0 : ¬t.val % 36 = 0) (h1 : 1 ≤ t.val % 9) (h2 : ¬t.val % 9 = 0) (xo : Vec F S8x1024 .f32) (y : S1x256x1024.Idx) :
    ∃ pc ∈ (runB m c t h0 h1 h2 xo).2.2.2.2.2.1, y ∈ pc.1.set :=
  View.cover_of_tiledL _ S1x256x1024.size (by sl_kernel_rfl) y
theorem coverB_22 (c : Dev nD) (t : Fin cfg0.N) (h0 : ¬t.val % 36 = 0) (h1 : 1 ≤ t.val % 9) (h2 : ¬t.val % 9 = 0) (xo : Vec F S8x1024 .f32) (y : S1x256x1024.Idx) :
    ∃ pc ∈ (runB m c t h0 h1 h2 xo).2.2.2.2.2.2.1, y ∈ pc.1.set :=
  View.cover_of_tiledL _ S1x256x1024.size (by sl_kernel_rfl) y
theorem coverB_23 (c : Dev nD) (t : Fin cfg0.N) (h0 : ¬t.val % 36 = 0) (h1 : 1 ≤ t.val % 9) (h2 : ¬t.val % 9 = 0) (xo : Vec F S8x1024 .f32) (y : S1x256x1024.Idx) :
    ∃ pc ∈ (runB m c t h0 h1 h2 xo).2.2.2.2.2.2.2.1, y ∈ pc.1.set :=
  View.cover_of_tiledL _ S1x256x1024.size (by sl_kernel_rfl) y
theorem coverB_24 (c : Dev nD) (t : Fin cfg0.N) (h0 : ¬t.val % 36 = 0) (h1 : 1 ≤ t.val % 9) (h2 : ¬t.val % 9 = 0) (xo : Vec F S8x1024 .f32) (y : S1x256x3072.Idx) :
    ∃ pc ∈ (runB m c t h0 h1 h2 xo).2.2.2.2.2.2.2.2.1, y ∈ pc.1.set :=
  View.cover_of_tiledL _ S1x256x3072.size (by sl_kernel_rfl) y
theorem coverC_16 (c : Dev nD) (t : Fin cfg0.N) (h0 : ¬t.val % 36 = 0) (h1 : ¬1 ≤ t.val % 9) (h2 : t.val % 9 = 0) (y : S1x256x384.Idx) :
    ∃ pc ∈ (runC m c t h0 h1 h2).1, y ∈ pc.1.set :=
  View.cover_of_tiledL _ S1x256x384.size (by sl_kernel_rfl) y
theorem coverC_17 (c : Dev nD) (t : Fin cfg0.N) (h0 : ¬t.val % 36 = 0) (h1 : ¬1 ≤ t.val % 9) (h2 : t.val % 9 = 0) (y : S1x256x256.Idx) :
    ∃ pc ∈ (runC m c t h0 h1 h2).2.1, y ∈ pc.1.set :=
  View.cover_of_tiledL _ S1x256x256.size (by sl_kernel_rfl) y
theorem coverC_18 (c : Dev nD) (t : Fin cfg0.N) (h0 : ¬t.val % 36 = 0) (h1 : ¬1 ≤ t.val % 9) (h2 : t.val % 9 = 0) (y : S1x256x384.Idx) :
    ∃ pc ∈ (runC m c t h0 h1 h2).2.2.1, y ∈ pc.1.set :=
  View.cover_of_tiledL _ S1x256x384.size (by sl_kernel_rfl) y
theorem coverC_19 (c : Dev nD) (t : Fin cfg0.N) (h0 : ¬t.val % 36 = 0) (h1 : ¬1 ≤ t.val % 9) (h2 : t.val % 9 = 0) (y : S1x256x1024.Idx) :
    ∃ pc ∈ (runC m c t h0 h1 h2).2.2.2.1, y ∈ pc.1.set :=
  View.cover_of_tiledL _ S1x256x1024.size (by sl_kernel_rfl) y
theorem coverC_20 (c : Dev nD) (t : Fin cfg0.N) (h0 : ¬t.val % 36 = 0) (h1 : ¬1 ≤ t.val % 9) (h2 : t.val % 9 = 0) (y : S1x256x1024.Idx) :
    ∃ pc ∈ (runC m c t h0 h1 h2).2.2.2.2.1, y ∈ pc.1.set :=
  View.cover_of_tiledL _ S1x256x1024.size (by sl_kernel_rfl) y
theorem coverC_21 (c : Dev nD) (t : Fin cfg0.N) (h0 : ¬t.val % 36 = 0) (h1 : ¬1 ≤ t.val % 9) (h2 : t.val % 9 = 0) (y : S1x256x1024.Idx) :
    ∃ pc ∈ (runC m c t h0 h1 h2).2.2.2.2.2.1, y ∈ pc.1.set :=
  View.cover_of_tiledL _ S1x256x1024.size (by sl_kernel_rfl) y
theorem coverC_22 (c : Dev nD) (t : Fin cfg0.N) (h0 : ¬t.val % 36 = 0) (h1 : ¬1 ≤ t.val % 9) (h2 : t.val % 9 = 0) (y : S1x256x1024.Idx) :
    ∃ pc ∈ (runC m c t h0 h1 h2).2.2.2.2.2.2.1, y ∈ pc.1.set :=
  View.cover_of_tiledL _ S1x256x1024.size (by sl_kernel_rfl) y
theorem coverC_23 (c : Dev nD) (t : Fin cfg0.N) (h0 : ¬t.val % 36 = 0) (h1 : ¬1 ≤ t.val % 9) (h2 : t.val % 9 = 0) (y : S1x256x1024.Idx) :
    ∃ pc ∈ (runC m c t h0 h1 h2).2.2.2.2.2.2.2.1, y ∈ pc.1.set :=
  View.cover_of_tiledL _ S1x256x1024.size (by sl_kernel_rfl) y
theorem coverC_24 (c : Dev nD) (t : Fin cfg0.N) (h0 : ¬t.val % 36 = 0) (h1 : ¬1 ≤ t.val % 9) (h2 : t.val % 9 = 0) (y : S1x256x3072.Idx) :
    ∃ pc ∈ (runC m c t h0 h1 h2).2.2.2.2.2.2.2.2.1, y ∈ pc.1.set :=
  View.cover_of_tiledL _ S1x256x3072.size (by sl_kernel_rfl) y

/-- What the first point leaves in the outputs' buffers: its pieces read back. -/
def outA (c : Dev nD) (t : Fin cfg0.N) (h0 : t.val % 36 = 0) (h1 : ¬1 ≤ t.val % 9) (h2 : t.val % 9 = 0) : Outs F :=
  (VO0_16.read (Elt F) (VO0_16.writes (Elt F) VO0_16.junk (runA m c t h0 h1 h2).1),
   VO0_17.read (Elt F) (VO0_17.writes (Elt F) VO0_17.junk (runA m c t h0 h1 h2).2.1),
   VO0_18.read (Elt F) (VO0_18.writes (Elt F) VO0_18.junk (runA m c t h0 h1 h2).2.2.1),
   VO0_19.read (Elt F) (VO0_19.writes (Elt F) VO0_19.junk (runA m c t h0 h1 h2).2.2.2.1),
   VO0_20.read (Elt F) (VO0_20.writes (Elt F) VO0_20.junk (runA m c t h0 h1 h2).2.2.2.2.1),
   VO0_21.read (Elt F) (VO0_21.writes (Elt F) VO0_21.junk (runA m c t h0 h1 h2).2.2.2.2.2.1),
   VO0_22.read (Elt F) (VO0_22.writes (Elt F) VO0_22.junk (runA m c t h0 h1 h2).2.2.2.2.2.2.1),
   VO0_23.read (Elt F) (VO0_23.writes (Elt F) VO0_23.junk (runA m c t h0 h1 h2).2.2.2.2.2.2.2.1),
   VO0_24.read (Elt F) (VO0_24.writes (Elt F) VO0_24.junk (runA m c t h0 h1 h2).2.2.2.2.2.2.2.2.1),
   VO0_25.read (Elt F) (VO0_25.writes (Elt F) VO0_25.junk (runA m c t h0 h1 h2).2.2.2.2.2.2.2.2.2.1))

/-- What a live point leaves, over the gradient `xo` the point before left. -/
def outB (c : Dev nD) (t : Fin cfg0.N) (h0 : ¬t.val % 36 = 0) (h1 : 1 ≤ t.val % 9) (h2 : ¬t.val % 9 = 0) (xo : Vec F S8x1024 .f32) : Outs F :=
  (VO0_16.read (Elt F) (VO0_16.writes (Elt F) VO0_16.junk (runB m c t h0 h1 h2 xo).1),
   VO0_17.read (Elt F) (VO0_17.writes (Elt F) VO0_17.junk (runB m c t h0 h1 h2 xo).2.1),
   VO0_18.read (Elt F) (VO0_18.writes (Elt F) VO0_18.junk (runB m c t h0 h1 h2 xo).2.2.1),
   VO0_19.read (Elt F) (VO0_19.writes (Elt F) VO0_19.junk (runB m c t h0 h1 h2 xo).2.2.2.1),
   VO0_20.read (Elt F) (VO0_20.writes (Elt F) VO0_20.junk (runB m c t h0 h1 h2 xo).2.2.2.2.1),
   VO0_21.read (Elt F) (VO0_21.writes (Elt F) VO0_21.junk (runB m c t h0 h1 h2 xo).2.2.2.2.2.1),
   VO0_22.read (Elt F) (VO0_22.writes (Elt F) VO0_22.junk (runB m c t h0 h1 h2 xo).2.2.2.2.2.2.1),
   VO0_23.read (Elt F) (VO0_23.writes (Elt F) VO0_23.junk (runB m c t h0 h1 h2 xo).2.2.2.2.2.2.2.1),
   VO0_24.read (Elt F) (VO0_24.writes (Elt F) VO0_24.junk (runB m c t h0 h1 h2 xo).2.2.2.2.2.2.2.2.1),
   (ms0_25 t).view.read (Elt F) ((ms0_25 t).view.writes (Elt F) ((hs0_25 t).unread xo) (runB m c t h0 h1 h2 xo).2.2.2.2.2.2.2.2.2.1))

/-- What a later context point leaves: zero blocks, and the gradient `xo` the point before left. -/
def outC (c : Dev nD) (t : Fin cfg0.N) (h0 : ¬t.val % 36 = 0) (h1 : ¬1 ≤ t.val % 9) (h2 : t.val % 9 = 0) (xo : Vec F S8x1024 .f32) : Outs F :=
  (VO0_16.read (Elt F) (VO0_16.writes (Elt F) VO0_16.junk (runC m c t h0 h1 h2).1),
   VO0_17.read (Elt F) (VO0_17.writes (Elt F) VO0_17.junk (runC m c t h0 h1 h2).2.1),
   VO0_18.read (Elt F) (VO0_18.writes (Elt F) VO0_18.junk (runC m c t h0 h1 h2).2.2.1),
   VO0_19.read (Elt F) (VO0_19.writes (Elt F) VO0_19.junk (runC m c t h0 h1 h2).2.2.2.1),
   VO0_20.read (Elt F) (VO0_20.writes (Elt F) VO0_20.junk (runC m c t h0 h1 h2).2.2.2.2.1),
   VO0_21.read (Elt F) (VO0_21.writes (Elt F) VO0_21.junk (runC m c t h0 h1 h2).2.2.2.2.2.1),
   VO0_22.read (Elt F) (VO0_22.writes (Elt F) VO0_22.junk (runC m c t h0 h1 h2).2.2.2.2.2.2.1),
   VO0_23.read (Elt F) (VO0_23.writes (Elt F) VO0_23.junk (runC m c t h0 h1 h2).2.2.2.2.2.2.2.1),
   VO0_24.read (Elt F) (VO0_24.writes (Elt F) VO0_24.junk (runC m c t h0 h1 h2).2.2.2.2.2.2.2.2.1),
   xo)

/-- What the outputs' buffers hold after point `n`. -/
def outs (c : Dev nD) : (n : ℕ) → n < cfg0.N → Outs F
  | 0, hn => outA m c ⟨0, hn⟩ (Nat.zero_mod _) (fun h => absurd (h.trans (Nat.zero_mod 9).le) (by omega)) (Nat.zero_mod _)
  | n + 1, hn =>
    if h0 : (n + 1) % 36 = 0 then outA m c ⟨n + 1, hn⟩ h0 (by dsimp only; omega) (by dsimp only; omega)
    else if h1 : 1 ≤ (n + 1) % 9 then outB m c ⟨n + 1, hn⟩ h0 h1 (by dsimp only; omega) (outs c n (Nat.lt_of_succ_lt hn)).2.2.2.2.2.2.2.2.2
    else outC m c ⟨n + 1, hn⟩ h0 h1 (by dsimp only; omega) (outs c n (Nat.lt_of_succ_lt hn)).2.2.2.2.2.2.2.2.2

theorem outs_A (c : Dev nD) (t : Fin cfg0.N) (h0 : t.val % 36 = 0) (h1 : ¬1 ≤ t.val % 9) (h2 : t.val % 9 = 0) : outs m c t.val t.isLt = outA m c t h0 h1 h2 := by
  obtain ⟨n, hn⟩ := t
  cases n with
  | zero => rfl
  | succ n => exact dif_pos h0

theorem outs_B (c : Dev nD) (t : Fin cfg0.N) (h0 : ¬t.val % 36 = 0) (h1 : 1 ≤ t.val % 9) (h2 : ¬t.val % 9 = 0) :
    outs m c t.val t.isLt = outB m c t h0 h1 h2 (outs m c (t.val - 1) (Nat.lt_of_le_of_lt (Nat.sub_le _ _) t.isLt)).2.2.2.2.2.2.2.2.2 := by
  obtain ⟨n, hn⟩ := t
  cases n with
  | zero => exact absurd (Nat.zero_mod _) h0
  | succ n => exact (dif_neg h0).trans (dif_pos h1)

theorem outs_C (c : Dev nD) (t : Fin cfg0.N) (h0 : ¬t.val % 36 = 0) (h1 : ¬1 ≤ t.val % 9) (h2 : t.val % 9 = 0) :
    outs m c t.val t.isLt = outC m c t h0 h1 h2 (outs m c (t.val - 1) (Nat.lt_of_le_of_lt (Nat.sub_le _ _) t.isLt)).2.2.2.2.2.2.2.2.2 := by
  obtain ⟨n, hn⟩ := t
  cases n with
  | zero => exact absurd (Nat.zero_mod _) h0
  | succ n => exact (dif_neg h0).trans (dif_neg h1)

/-! ## The pipeline's proof data -/

/-- The arrays as the region finds them; after a point each input's buffer at its block and the outputs' at `outs`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => (outs m c t.val t.isLt).1
    | ⟨17, _⟩ => (outs m c t.val t.isLt).2.1
    | ⟨18, _⟩ => (outs m c t.val t.isLt).2.2.1
    | ⟨19, _⟩ => (outs m c t.val t.isLt).2.2.2.1
    | ⟨20, _⟩ => (outs m c t.val t.isLt).2.2.2.2.1
    | ⟨21, _⟩ => (outs m c t.val t.isLt).2.2.2.2.2.1
    | ⟨22, _⟩ => (outs m c t.val t.isLt).2.2.2.2.2.2.1
    | ⟨23, _⟩ => (outs m c t.val t.isLt).2.2.2.2.2.2.2.1
    | ⟨24, _⟩ => (outs m c t.val t.isLt).2.2.2.2.2.2.2.2.1
    | ⟨25, _⟩ => (outs m c t.val t.isLt).2.2.2.2.2.2.2.2.2
    | ⟨_ + 26, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = (outs m c t.val t.isLt).1 := by dsimp only [dats]
theorem after0_17 (c : Dev nD) (t : Fin cfg0.N) : (dats m 0 c).after 17 t = (outs m c t.val t.isLt).2.1 := by dsimp only [dats]
theorem after0_18 (c : Dev nD) (t : Fin cfg0.N) : (dats m 0 c).after 18 t = (outs m c t.val t.isLt).2.2.1 := by dsimp only [dats]
theorem after0_19 (c : Dev nD) (t : Fin cfg0.N) : (dats m 0 c).after 19 t = (outs m c t.val t.isLt).2.2.2.1 := by dsimp only [dats]
theorem after0_20 (c : Dev nD) (t : Fin cfg0.N) : (dats m 0 c).after 20 t = (outs m c t.val t.isLt).2.2.2.2.1 := by dsimp only [dats]
theorem after0_21 (c : Dev nD) (t : Fin cfg0.N) : (dats m 0 c).after 21 t = (outs m c t.val t.isLt).2.2.2.2.2.1 := by dsimp only [dats]
theorem after0_22 (c : Dev nD) (t : Fin cfg0.N) : (dats m 0 c).after 22 t = (outs m c t.val t.isLt).2.2.2.2.2.2.1 := by dsimp only [dats]
theorem after0_23 (c : Dev nD) (t : Fin cfg0.N) : (dats m 0 c).after 23 t = (outs m c t.val t.isLt).2.2.2.2.2.2.2.1 := by dsimp only [dats]
theorem after0_24 (c : Dev nD) (t : Fin cfg0.N) : (dats m 0 c).after 24 t = (outs m c t.val t.isLt).2.2.2.2.2.2.2.2.1 := by dsimp only [dats]
theorem after0_25 (c : Dev nD) (t : Fin cfg0.N) : (dats m 0 c).after 25 t = (outs m c t.val t.isLt).2.2.2.2.2.2.2.2.2 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-- A context point after the first leaves the gradient as the point before left it. -/
theorem carry (c : Dev nD) : ∀ (t : Fin cfg0.N) (_ : t.val ≠ 0), cfg0.idle 25 (grid0.coords t) = true → cfg0.fresh 25 t.val = false →
    (dats m 0 c).after 25 t = (dats m 0 c).after 25 ⟨t.val - 1, by omega⟩ := by
  intro t _ hi _
  have hN : t.val < 36 := lt_of_lt_of_eq t.isLt (show cfg0.N = 36 from N_0)
  rw [after0_25, after0_25]
  by_cases h0 : t.val % 36 = 0
  · rw [liveAt0_25_A t ((hcond0_0 t).mpr h0) (fun h => absurd ((hcond0_1 t).mp h) (by omega)) ((hcond0_2 t).mpr (by omega))] at hi
    exact absurd hi Bool.false_ne_true
  by_cases h1 : 1 ≤ t.val % 9
  · rw [liveAt0_25_B t (fun h => h0 ((hcond0_0 t).mp h)) ((hcond0_1 t).mpr h1) (fun h => absurd ((hcond0_2 t).mp h) (by omega))] at hi
    exact absurd hi Bool.false_ne_true
  · rw [outs_C m c t h0 h1 (by omega)]
    dsimp only [outC]

/-- At a live point the gradient's buffer holds what the body left at the point before. -/
theorem before0_25_B (c : Dev nD) (t : Fin cfg0.N) (h0 : ¬t.val % 36 = 0) (h1 : 1 ≤ t.val % 9) (h2 : ¬t.val % 9 = 0) (d) :
    (dats m 0 c).before 25 t d = (outs m c (t.val - 1) (Nat.lt_of_le_of_lt (Nat.sub_le _ _) t.isLt)).2.2.2.2.2.2.2.2.2 := by
  rw [Dat.before_out_traj _ 25 rfl (fun _ _ => rfl) (carry m c) t.val t rfl d,
    if_neg (by rw [notFresh0_25_B t (fun h => h0 ((hcond0_0 t).mp h)) ((hcond0_1 t).mpr h1) (fun h => h2 ((hcond0_2 t).mp h))]; exact Bool.false_ne_true)]
  dsimp only [dats]

/-! ## The body at a point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t
    ∗ (dats m 0 c).leavesExact 25 t)

/-! A window the point touches leaves what the proof data says. -/
theorem leaves0_0 (c : Dev nD) (t : Fin cfg0.N) (h : cfg0.idle 0 (grid0.coords t) = false) :
    (dats m 0 c).leavesExact 0 t = owns (c : Thread nD τ) (ms0_0 t) fullShare ((dats m 0 c).after 0 t) := by
  unfold Dat.leavesExact; rw [h]
theorem leaves0_1 (c : Dev nD) (t : Fin cfg0.N) (h : cfg0.idle 1 (grid0.coords t) = false) :
    (dats m 0 c).leavesExact 1 t = owns (c : Thread nD τ) (ms0_1 t) fullShare ((dats m 0 c).after 1 t) := by
  unfold Dat.leavesExact; rw [h]
theorem leaves0_2 (c : Dev nD) (t : Fin cfg0.N) (h : cfg0.idle 2 (grid0.coords t) = false) :
    (dats m 0 c).leavesExact 2 t = owns (c : Thread nD τ) (ms0_2 t) fullShare ((dats m 0 c).after 2 t) := by
  unfold Dat.leavesExact; rw [h]
theorem leaves0_3 (c : Dev nD) (t : Fin cfg0.N) (h : cfg0.idle 3 (grid0.coords t) = false) :
    (dats m 0 c).leavesExact 3 t = owns (c : Thread nD τ) (ms0_3 t) fullShare ((dats m 0 c).after 3 t) := by
  unfold Dat.leavesExact; rw [h]
theorem leaves0_4 (c : Dev nD) (t : Fin cfg0.N) (h : cfg0.idle 4 (grid0.coords t) = false) :
    (dats m 0 c).leavesExact 4 t = owns (c : Thread nD τ) (ms0_4 t) fullShare ((dats m 0 c).after 4 t) := by
  unfold Dat.leavesExact; rw [h]
theorem leaves0_5 (c : Dev nD) (t : Fin cfg0.N) (h : cfg0.idle 5 (grid0.coords t) = false) :
    (dats m 0 c).leavesExact 5 t = owns (c : Thread nD τ) (ms0_5 t) fullShare ((dats m 0 c).after 5 t) := by
  unfold Dat.leavesExact; rw [h]
theorem leaves0_6 (c : Dev nD) (t : Fin cfg0.N) (h : cfg0.idle 6 (grid0.coords t) = false) :
    (dats m 0 c).leavesExact 6 t = owns (c : Thread nD τ) (ms0_6 t) fullShare ((dats m 0 c).after 6 t) := by
  unfold Dat.leavesExact; rw [h]
theorem leaves0_7 (c : Dev nD) (t : Fin cfg0.N) (h : cfg0.idle 7 (grid0.coords t) = false) :
    (dats m 0 c).leavesExact 7 t = owns (c : Thread nD τ) (ms0_7 t) fullShare ((dats m 0 c).after 7 t) := by
  unfold Dat.leavesExact; rw [h]
theorem leaves0_8 (c : Dev nD) (t : Fin cfg0.N) (h : cfg0.idle 8 (grid0.coords t) = false) :
    (dats m 0 c).leavesExact 8 t = owns (c : Thread nD τ) (ms0_8 t) fullShare ((dats m 0 c).after 8 t) := by
  unfold Dat.leavesExact; rw [h]
theorem leaves0_9 (c : Dev nD) (t : Fin cfg0.N) (h : cfg0.idle 9 (grid0.coords t) = false) :
    (dats m 0 c).leavesExact 9 t = owns (c : Thread nD τ) (ms0_9 t) fullShare ((dats m 0 c).after 9 t) := by
  unfold Dat.leavesExact; rw [h]
theorem leaves0_10 (c : Dev nD) (t : Fin cfg0.N) (h : cfg0.idle 10 (grid0.coords t) = false) :
    (dats m 0 c).leavesExact 10 t = owns (c : Thread nD τ) (ms0_10 t) fullShare ((dats m 0 c).after 10 t) := by
  unfold Dat.leavesExact; rw [h]
theorem leaves0_11 (c : Dev nD) (t : Fin cfg0.N) (h : cfg0.idle 11 (grid0.coords t) = false) :
    (dats m 0 c).leavesExact 11 t = owns (c : Thread nD τ) (ms0_11 t) fullShare ((dats m 0 c).after 11 t) := by
  unfold Dat.leavesExact; rw [h]
theorem leaves0_12 (c : Dev nD) (t : Fin cfg0.N) (h : cfg0.idle 12 (grid0.coords t) = false) :
    (dats m 0 c).leavesExact 12 t = owns (c : Thread nD τ) (ms0_12 t) fullShare ((dats m 0 c).after 12 t) := by
  unfold Dat.leavesExact; rw [h]
theorem leaves0_13 (c : Dev nD) (t : Fin cfg0.N) (h : cfg0.idle 13 (grid0.coords t) = false) :
    (dats m 0 c).leavesExact 13 t = owns (c : Thread nD τ) (ms0_13 t) fullShare ((dats m 0 c).after 13 t) := by
  unfold Dat.leavesExact; rw [h]
theorem leaves0_14 (c : Dev nD) (t : Fin cfg0.N) (h : cfg0.idle 14 (grid0.coords t) = false) :
    (dats m 0 c).leavesExact 14 t = owns (c : Thread nD τ) (ms0_14 t) fullShare ((dats m 0 c).after 14 t) := by
  unfold Dat.leavesExact; rw [h]
theorem leaves0_15 (c : Dev nD) (t : Fin cfg0.N) (h : cfg0.idle 15 (grid0.coords t) = false) :
    (dats m 0 c).leavesExact 15 t = owns (c : Thread nD τ) (ms0_15 t) fullShare ((dats m 0 c).after 15 t) := by
  unfold Dat.leavesExact; rw [h]
theorem leaves0_16 (c : Dev nD) (t : Fin cfg0.N) (h : cfg0.idle 16 (grid0.coords t) = false) :
    (dats m 0 c).leavesExact 16 t = owns (c : Thread nD τ) (ms0_16 t) fullShare ((dats m 0 c).after 16 t) := by
  unfold Dat.leavesExact; rw [h]
theorem leaves0_17 (c : Dev nD) (t : Fin cfg0.N) (h : cfg0.idle 17 (grid0.coords t) = false) :
    (dats m 0 c).leavesExact 17 t = owns (c : Thread nD τ) (ms0_17 t) fullShare ((dats m 0 c).after 17 t) := by
  unfold Dat.leavesExact; rw [h]
theorem leaves0_18 (c : Dev nD) (t : Fin cfg0.N) (h : cfg0.idle 18 (grid0.coords t) = false) :
    (dats m 0 c).leavesExact 18 t = owns (c : Thread nD τ) (ms0_18 t) fullShare ((dats m 0 c).after 18 t) := by
  unfold Dat.leavesExact; rw [h]
theorem leaves0_19 (c : Dev nD) (t : Fin cfg0.N) (h : cfg0.idle 19 (grid0.coords t) = false) :
    (dats m 0 c).leavesExact 19 t = owns (c : Thread nD τ) (ms0_19 t) fullShare ((dats m 0 c).after 19 t) := by
  unfold Dat.leavesExact; rw [h]
theorem leaves0_20 (c : Dev nD) (t : Fin cfg0.N) (h : cfg0.idle 20 (grid0.coords t) = false) :
    (dats m 0 c).leavesExact 20 t = owns (c : Thread nD τ) (ms0_20 t) fullShare ((dats m 0 c).after 20 t) := by
  unfold Dat.leavesExact; rw [h]
theorem leaves0_21 (c : Dev nD) (t : Fin cfg0.N) (h : cfg0.idle 21 (grid0.coords t) = false) :
    (dats m 0 c).leavesExact 21 t = owns (c : Thread nD τ) (ms0_21 t) fullShare ((dats m 0 c).after 21 t) := by
  unfold Dat.leavesExact; rw [h]
theorem leaves0_22 (c : Dev nD) (t : Fin cfg0.N) (h : cfg0.idle 22 (grid0.coords t) = false) :
    (dats m 0 c).leavesExact 22 t = owns (c : Thread nD τ) (ms0_22 t) fullShare ((dats m 0 c).after 22 t) := by
  unfold Dat.leavesExact; rw [h]
theorem leaves0_23 (c : Dev nD) (t : Fin cfg0.N) (h : cfg0.idle 23 (grid0.coords t) = false) :
    (dats m 0 c).leavesExact 23 t = owns (c : Thread nD τ) (ms0_23 t) fullShare ((dats m 0 c).after 23 t) := by
  unfold Dat.leavesExact; rw [h]
theorem leaves0_24 (c : Dev nD) (t : Fin cfg0.N) (h : cfg0.idle 24 (grid0.coords t) = false) :
    (dats m 0 c).leavesExact 24 t = owns (c : Thread nD τ) (ms0_24 t) fullShare ((dats m 0 c).after 24 t) := by
  unfold Dat.leavesExact; rw [h]
theorem leaves0_25 (c : Dev nD) (t : Fin cfg0.N) (h : cfg0.idle 25 (grid0.coords t) = false) :
    (dats m 0 c).leavesExact 25 t = owns (c : Thread nD τ) (ms0_25 t) fullShare ((dats m 0 c).after 25 t) := by
  unfold Dat.leavesExact; rw [h]

set_option maxHeartbeats 4800000 in
/-- The body at the first point: the run of the case applies. -/
theorem bodyA (c : Dev nD) (t : Fin cfg0.N) (h0 : t.val % 36 = 0) (h1 : ¬1 ≤ t.val % 9) (h2 : t.val % 9 = 0) :
    bodyPre m c t ⊢ wp frame (wpE (defs₀ (F := F)) Variants.none c none) Set.univ (bodyAt0 t) (fun _ => bodyPost m c t) := by
  have c0 : cond0_0 (grid0.coords t) := (hcond0_0 t).mpr h0
  have c1 : ¬cond0_1 (grid0.coords t) := fun h => h1 ((hcond0_1 t).mp h)
  have c2 : cond0_2 (grid0.coords t) := (hcond0_2 t).mpr h2
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl]
  rw [leaves0_0 m c t (liveAt0_0 t), leaves0_1 m c t (liveAt0_1 t), leaves0_2 m c t (liveAt0_2 t), leaves0_3 m c t (liveAt0_3 t), leaves0_4 m c t (liveAt0_4 t), leaves0_5 m c t (liveAt0_5 t), leaves0_6 m c t (liveAt0_6 t), leaves0_7 m c t (liveAt0_7 t), leaves0_8 m c t (liveAt0_8 t), leaves0_9 m c t (liveAt0_9 t), leaves0_10 m c t (liveAt0_10 t), leaves0_11 m c t (liveAt0_11 t), leaves0_12 m c t (liveAt0_12 t), leaves0_13 m c t (liveAt0_13 t), leaves0_14 m c t (liveAt0_14 t), leaves0_15 m c t (liveAt0_15 t), leaves0_16 m c t (liveAt0_16_A t c0 c1 c2), leaves0_17 m c t (liveAt0_17_A t c0 c1 c2), leaves0_18 m c t (liveAt0_18_A t c0 c1 c2), leaves0_19 m c t (liveAt0_19_A t c0 c1 c2), leaves0_20 m c t (liveAt0_20_A t c0 c1 c2), leaves0_21 m c t (liveAt0_21_A t c0 c1 c2), leaves0_22 m c t (liveAt0_22_A t c0 c1 c2), leaves0_23 m c t (liveAt0_23_A t c0 c1 c2), leaves0_24 m c t (liveAt0_24_A t c0 c1 c2), leaves0_25 m c t (liveAt0_25_A t c0 c1 c2)]
  rw [after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25]
  rw [outs_A m c t h0 h1 h2]
  unfold outA; dsimp only
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply ((runA m c t h0 h1 h2).2.2.2.2.2.2.2.2.2.2 Set.univ _)
  isplitl [H0]; iexact H0; isplitl [H1]; iexact H1; isplitl [H2]; iexact H2; isplitl [H3]; iexact H3
  isplitl [H4]; iexact H4; isplitl [H5]; iexact H5; isplitl [H6]; iexact H6; isplitl [H7]; iexact H7
  isplitl [H8]; iexact H8; isplitl [H9]; iexact H9; isplitl [H10]; iexact H10; isplitl [H11]; iexact H11
  isplitl [H12]; iexact H12; isplitl [H13]; iexact H13; isplitl [H14]; iexact H14; isplitl [H15]; iexact H15
  isplitl [H16]; iexists _; iexact H16; isplitl [H17]; iexists _; iexact H17; isplitl [H18]; iexists _; iexact H18; isplitl [H19]; iexists _; iexact H19
  isplitl [H20]; iexists _; iexact H20; isplitl [H21]; iexists _; iexact H21; isplitl [H22]; iexists _; iexact H22; isplitl [H23]; iexists _; iexact H23
  isplitl [H24]; iexists _; iexact H24; isplitl [H25]; iexists _; iexact H25
  iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩⟩
  isplitl [HΦ]; iexact HΦ; isplitl [Ho]; iexact Ho
  isplitl [H0]; iexact H0; isplitl [H1]; iexact H1; isplitl [H2]; iexact H2; isplitl [H3]; iexact H3
  isplitl [H4]; iexact H4; isplitl [H5]; iexact H5; isplitl [H6]; iexact H6; isplitl [H7]; iexact H7
  isplitl [H8]; iexact H8; isplitl [H9]; iexact H9; isplitl [H10]; iexact H10; isplitl [H11]; iexact H11
  isplitl [H12]; iexact H12; isplitl [H13]; iexact H13; isplitl [H14]; iexact H14; isplitl [H15]; iexact H15
  isplitl [H16]
  · unfold owns; iexists _; isplitr
    swap; · iexact H16
    ipureintro; exact View.read_writes_of_cover _ _ _ _ _ (coverA_16 m c t h0 h1 h2)
  isplitl [H17]
  · unfold owns; iexists _; isplitr
    swap; · iexact H17
    ipureintro; exact View.read_writes_of_cover _ _ _ _ _ (coverA_17 m c t h0 h1 h2)
  isplitl [H18]
  · unfold owns; iexists _; isplitr
    swap; · iexact H18
    ipureintro; exact View.read_writes_of_cover _ _ _ _ _ (coverA_18 m c t h0 h1 h2)
  isplitl [H19]
  · unfold owns; iexists _; isplitr
    swap; · iexact H19
    ipureintro; exact View.read_writes_of_cover _ _ _ _ _ (coverA_19 m c t h0 h1 h2)
  isplitl [H20]
  · unfold owns; iexists _; isplitr
    swap; · iexact H20
    ipureintro; exact View.read_writes_of_cover _ _ _ _ _ (coverA_20 m c t h0 h1 h2)
  isplitl [H21]
  · unfold owns; iexists _; isplitr
    swap; · iexact H21
    ipureintro; exact View.read_writes_of_cover _ _ _ _ _ (coverA_21 m c t h0 h1 h2)
  isplitl [H22]
  · unfold owns; iexists _; isplitr
    swap; · iexact H22
    ipureintro; exact View.read_writes_of_cover _ _ _ _ _ (coverA_22 m c t h0 h1 h2)
  isplitl [H23]
  · unfold owns; iexists _; isplitr
    swap; · iexact H23
    ipureintro; exact View.read_writes_of_cover _ _ _ _ _ (coverA_23 m c t h0 h1 h2)
  isplitl [H24]
  · unfold owns; iexists _; isplitr
    swap; · iexact H24
    ipureintro; exact View.read_writes_of_cover _ _ _ _ _ (coverA_24 m c t h0 h1 h2)
  unfold owns; iexists _; isplitr
  swap; · iexact H25
  ipureintro; exact View.read_writes_of_cover _ _ _ _ _ (coverA_25 m c t h0 h1 h2)

set_option maxHeartbeats 4800000 in
/-- The body at a live point: the run of the case applies. -/
theorem bodyB (c : Dev nD) (t : Fin cfg0.N) (h0 : ¬t.val % 36 = 0) (h1 : 1 ≤ t.val % 9) (h2 : ¬t.val % 9 = 0) :
    bodyPre m c t ⊢ wp frame (wpE (defs₀ (F := F)) Variants.none c none) Set.univ (bodyAt0 t) (fun _ => bodyPost m c t) := by
  have c0 : ¬cond0_0 (grid0.coords t) := fun h => h0 ((hcond0_0 t).mp h)
  have c1 : cond0_1 (grid0.coords t) := (hcond0_1 t).mpr h1
  have c2 : ¬cond0_2 (grid0.coords t) := fun h => h2 ((hcond0_2 t).mp h)
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl]
  rw [leaves0_0 m c t (liveAt0_0 t), leaves0_1 m c t (liveAt0_1 t), leaves0_2 m c t (liveAt0_2 t), leaves0_3 m c t (liveAt0_3 t), leaves0_4 m c t (liveAt0_4 t), leaves0_5 m c t (liveAt0_5 t), leaves0_6 m c t (liveAt0_6 t), leaves0_7 m c t (liveAt0_7 t), leaves0_8 m c t (liveAt0_8 t), leaves0_9 m c t (liveAt0_9 t), leaves0_10 m c t (liveAt0_10 t), leaves0_11 m c t (liveAt0_11 t), leaves0_12 m c t (liveAt0_12 t), leaves0_13 m c t (liveAt0_13 t), leaves0_14 m c t (liveAt0_14 t), leaves0_15 m c t (liveAt0_15 t), leaves0_16 m c t (liveAt0_16_B t c0 c1 c2), leaves0_17 m c t (liveAt0_17_B t c0 c1 c2), leaves0_18 m c t (liveAt0_18_B t c0 c1 c2), leaves0_19 m c t (liveAt0_19_B t c0 c1 c2), leaves0_20 m c t (liveAt0_20_B t c0 c1 c2), leaves0_21 m c t (liveAt0_21_B t c0 c1 c2), leaves0_22 m c t (liveAt0_22_B t c0 c1 c2), leaves0_23 m c t (liveAt0_23_B t c0 c1 c2), leaves0_24 m c t (liveAt0_24_B t c0 c1 c2), leaves0_25 m c t (liveAt0_25_B t c0 c1 c2)]
  rw [after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25]
  rw [outs_B m c t h0 h1 h2]
  simp only [before0_25_B m c t h0 h1 h2]
  unfold outB; dsimp only
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply ((runB m c t h0 h1 h2 _).2.2.2.2.2.2.2.2.2.2 Set.univ _)
  isplitl [H0]; iexact H0; isplitl [H1]; iexact H1; isplitl [H2]; iexact H2; isplitl [H3]; iexact H3
  isplitl [H4]; iexact H4; isplitl [H5]; iexact H5; isplitl [H6]; iexact H6; isplitl [H7]; iexact H7
  isplitl [H8]; iexact H8; isplitl [H9]; iexact H9; isplitl [H10]; iexact H10; isplitl [H11]; iexact H11
  isplitl [H12]; iexact H12; isplitl [H13]; iexact H13; isplitl [H14]; iexact H14; isplitl [H15]; iexact H15
  isplitl [H16]; iexists _; iexact H16; isplitl [H17]; iexists _; iexact H17; isplitl [H18]; iexists _; iexact H18; isplitl [H19]; iexists _; iexact H19
  isplitl [H20]; iexists _; iexact H20; isplitl [H21]; iexists _; iexact H21; isplitl [H22]; iexists _; iexact H22; isplitl [H23]; iexists _; iexact H23
  isplitl [H24]; iexists _; iexact H24
  isplitl [H25]; iexact H25
  iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, H25⟩
  isplitl [HΦ]; iexact HΦ; isplitl [Ho]; iexact Ho
  isplitl [H0]; iexact H0; isplitl [H1]; iexact H1; isplitl [H2]; iexact H2; isplitl [H3]; iexact H3
  isplitl [H4]; iexact H4; isplitl [H5]; iexact H5; isplitl [H6]; iexact H6; isplitl [H7]; iexact H7
  isplitl [H8]; iexact H8; isplitl [H9]; iexact H9; isplitl [H10]; iexact H10; isplitl [H11]; iexact H11
  isplitl [H12]; iexact H12; isplitl [H13]; iexact H13; isplitl [H14]; iexact H14; isplitl [H15]; iexact H15
  isplitl [H16]
  · unfold owns; iexists _; isplitr
    swap; · iexact H16
    ipureintro; exact View.read_writes_of_cover _ _ _ _ _ (coverB_16 m c t h0 h1 h2 _)
  isplitl [H17]
  · unfold owns; iexists _; isplitr
    swap; · iexact H17
    ipureintro; exact View.read_writes_of_cover _ _ _ _ _ (coverB_17 m c t h0 h1 h2 _)
  isplitl [H18]
  · unfold owns; iexists _; isplitr
    swap; · iexact H18
    ipureintro; exact View.read_writes_of_cover _ _ _ _ _ (coverB_18 m c t h0 h1 h2 _)
  isplitl [H19]
  · unfold owns; iexists _; isplitr
    swap; · iexact H19
    ipureintro; exact View.read_writes_of_cover _ _ _ _ _ (coverB_19 m c t h0 h1 h2 _)
  isplitl [H20]
  · unfold owns; iexists _; isplitr
    swap; · iexact H20
    ipureintro; exact View.read_writes_of_cover _ _ _ _ _ (coverB_20 m c t h0 h1 h2 _)
  isplitl [H21]
  · unfold owns; iexists _; isplitr
    swap; · iexact H21
    ipureintro; exact View.read_writes_of_cover _ _ _ _ _ (coverB_21 m c t h0 h1 h2 _)
  isplitl [H22]
  · unfold owns; iexists _; isplitr
    swap; · iexact H22
    ipureintro; exact View.read_writes_of_cover _ _ _ _ _ (coverB_22 m c t h0 h1 h2 _)
  isplitl [H23]
  · unfold owns; iexists _; isplitr
    swap; · iexact H23
    ipureintro; exact View.read_writes_of_cover _ _ _ _ _ (coverB_23 m c t h0 h1 h2 _)
  isplitl [H24]
  · unfold owns; iexists _; isplitr
    swap; · iexact H24
    ipureintro; exact View.read_writes_of_cover _ _ _ _ _ (coverB_24 m c t h0 h1 h2 _)
  unfold owns; iexists _; isplitr
  swap; · iexact H25
  ipureintro; rfl

set_option maxHeartbeats 4800000 in
/-- The body at a later context point: the run of the case applies. -/
theorem bodyC (c : Dev nD) (t : Fin cfg0.N) (h0 : ¬t.val % 36 = 0) (h1 : ¬1 ≤ t.val % 9) (h2 : t.val % 9 = 0) :
    bodyPre m c t ⊢ wp frame (wpE (defs₀ (F := F)) Variants.none c none) Set.univ (bodyAt0 t) (fun _ => bodyPost m c t) := by
  have c0 : ¬cond0_0 (grid0.coords t) := fun h => h0 ((hcond0_0 t).mp h)
  have c1 : ¬cond0_1 (grid0.coords t) := fun h => h1 ((hcond0_1 t).mp h)
  have c2 : cond0_2 (grid0.coords t) := (hcond0_2 t).mpr h2
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl]
  rw [leaves0_0 m c t (liveAt0_0 t), leaves0_1 m c t (liveAt0_1 t), leaves0_2 m c t (liveAt0_2 t), leaves0_3 m c t (liveAt0_3 t), leaves0_4 m c t (liveAt0_4 t), leaves0_5 m c t (liveAt0_5 t), leaves0_6 m c t (liveAt0_6 t), leaves0_7 m c t (liveAt0_7 t), leaves0_8 m c t (liveAt0_8 t), leaves0_9 m c t (liveAt0_9 t), leaves0_10 m c t (liveAt0_10 t), leaves0_11 m c t (liveAt0_11 t), leaves0_12 m c t (liveAt0_12 t), leaves0_13 m c t (liveAt0_13 t), leaves0_14 m c t (liveAt0_14 t), leaves0_15 m c t (liveAt0_15 t), leaves0_16 m c t (liveAt0_16_C t c0 c1 c2), leaves0_17 m c t (liveAt0_17_C t c0 c1 c2), leaves0_18 m c t (liveAt0_18_C t c0 c1 c2), leaves0_19 m c t (liveAt0_19_C t c0 c1 c2), leaves0_20 m c t (liveAt0_20_C t c0 c1 c2), leaves0_21 m c t (liveAt0_21_C t c0 c1 c2), leaves0_22 m c t (liveAt0_22_C t c0 c1 c2), leaves0_23 m c t (liveAt0_23_C t c0 c1 c2), leaves0_24 m c t (liveAt0_24_C t c0 c1 c2),
    Dat.leavesExact_idle (dats m 0 c) 25 t (idleAt0_25_C t c0 c1 c2) (noFlush0_25_C t c0 c1 c2)]
  rw [after0_0, after0_1, after0_2, after0_3, after0_4, after0_5, after0_6, after0_7, after0_8, after0_9, after0_10, after0_11, after0_12, after0_13, after0_14, after0_15, after0_16, after0_17, after0_18, after0_19, after0_20, after0_21, after0_22, after0_23, after0_24]
  rw [outs_C m c t h0 h1 h2]
  unfold outC; dsimp only
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply ((runC m c t h0 h1 h2).2.2.2.2.2.2.2.2.2.2 _ Set.univ _)
  isplitl [H0]; iexact H0; isplitl [H1]; iexact H1; isplitl [H2]; iexact H2; isplitl [H3]; iexact H3
  isplitl [H4]; iexact H4; isplitl [H5]; iexact H5; isplitl [H6]; iexact H6; isplitl [H7]; iexact H7
  isplitl [H8]; iexact H8; isplitl [H9]; iexact H9; isplitl [H10]; iexact H10; isplitl [H11]; iexact H11
  isplitl [H12]; iexact H12; isplitl [H13]; iexact H13; isplitl [H14]; iexact H14; isplitl [H15]; iexact H15
  isplitl [H16]; iexists _; iexact H16; isplitl [H17]; iexists _; iexact H17; isplitl [H18]; iexists _; iexact H18; isplitl [H19]; iexists _; iexact H19
  isplitl [H20]; iexists _; iexact H20; isplitl [H21]; iexists _; iexact H21; isplitl [H22]; iexists _; iexact H22; isplitl [H23]; iexists _; iexact H23
  isplitl [H24]; iexists _; iexact H24
  isplitl [H25]; iexact H25
  iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, H25⟩
  isplitl [HΦ]; iexact HΦ; isplitl [Ho]; iexact Ho
  isplitl [H0]; iexact H0; isplitl [H1]; iexact H1; isplitl [H2]; iexact H2; isplitl [H3]; iexact H3
  isplitl [H4]; iexact H4; isplitl [H5]; iexact H5; isplitl [H6]; iexact H6; isplitl [H7]; iexact H7
  isplitl [H8]; iexact H8; isplitl [H9]; iexact H9; isplitl [H10]; iexact H10; isplitl [H11]; iexact H11
  isplitl [H12]; iexact H12; isplitl [H13]; iexact H13; isplitl [H14]; iexact H14; isplitl [H15]; iexact H15
  isplitl [H16]
  · unfold owns; iexists _; isplitr
    swap; · iexact H16
    ipureintro; exact View.read_writes_of_cover _ _ _ _ _ (coverC_16 m c t h0 h1 h2)
  isplitl [H17]
  · unfold owns; iexists _; isplitr
    swap; · iexact H17
    ipureintro; exact View.read_writes_of_cover _ _ _ _ _ (coverC_17 m c t h0 h1 h2)
  isplitl [H18]
  · unfold owns; iexists _; isplitr
    swap; · iexact H18
    ipureintro; exact View.read_writes_of_cover _ _ _ _ _ (coverC_18 m c t h0 h1 h2)
  isplitl [H19]
  · unfold owns; iexists _; isplitr
    swap; · iexact H19
    ipureintro; exact View.read_writes_of_cover _ _ _ _ _ (coverC_19 m c t h0 h1 h2)
  isplitl [H20]
  · unfold owns; iexists _; isplitr
    swap; · iexact H20
    ipureintro; exact View.read_writes_of_cover _ _ _ _ _ (coverC_20 m c t h0 h1 h2)
  isplitl [H21]
  · unfold owns; iexists _; isplitr
    swap; · iexact H21
    ipureintro; exact View.read_writes_of_cover _ _ _ _ _ (coverC_21 m c t h0 h1 h2)
  isplitl [H22]
  · unfold owns; iexists _; isplitr
    swap; · iexact H22
    ipureintro; exact View.read_writes_of_cover _ _ _ _ _ (coverC_22 m c t h0 h1 h2)
  isplitl [H23]
  · unfold owns; iexists _; isplitr
    swap; · iexact H23
    ipureintro; exact View.read_writes_of_cover _ _ _ _ _ (coverC_23 m c t h0 h1 h2)
  isplitl [H24]
  · unfold owns; iexists _; isplitr
    swap; · iexact H24
    ipureintro; exact View.read_writes_of_cover _ _ _ _ _ (coverC_24 m c t h0 h1 h2)
  iexists _; iexact H25

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 36 := lt_of_lt_of_eq t.isLt (show cfg0.N = 36 from N_0)
  by_cases h0 : t.val % 36 = 0
  · exact bodyA m c t h0 (by omega) (by omega)
  by_cases h1 : 1 ≤ t.val % 9
  · exact bodyB m c t h0 h1 (by omega)
  · exact bodyC m c t h0 h1 (by omega)

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

set_option maxHeartbeats 1600000 in
/-- The pipeline's body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every fair run ends, with each pipelined array at what the proof data says and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The frame: the arguments unchanged and the machine quiet. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Kernel13Ideal.Gen

end
-- ==== Proof.MergeLastFrames.lean ====
module

public import proofs.«01_k».proof.Defs
public import proofs.«01_k».proof.Proof.Gen.Kernel13
public import proofs.«01_k».proof.Proof.MergeLastFrame

/-! # The last layer's backward merge: the two frames

The program as printed and its ideal reading are the same text, so the run of `MergeLastFrame`, over any reading of the floats,
gives both frames. -/

@[expose] public section

set_option maxRecDepth 16384

noncomputable section

namespace Cert.Proof

open Idealize.ShloMosaic Idealize.ShloMosaic.TcCoe Idealize.SL.Sem

/-- The ideal program's frame over any reading `F` of the floats. -/
def LastFrameAt (F : FTy → Type) [FloatOps F] : Prop :=
  ∀ (m : (ℓ : Loc Cert.Kernel13Ideal.nD Cert.Kernel13Ideal.τ Cert.Kernel13Ideal.sig) → Buf (Elt F) ℓ) (g : Dev Cert.Kernel13Ideal.nD → PrngReg), True →
    θ_run (@Cert.Kernel13Ideal.defs F _ Cert.Kernel13Ideal.Gen.facts) (onTc (τ := Cert.Kernel13Ideal.τ) (@Cert.Kernel13Ideal.main F _ Cert.Kernel13Ideal.Gen.facts))
      ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
      ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
      ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9))
      ∧ r.2.sem = fun _ => 0)

theorem last_frameAt (F : FTy → Type) [FloatOps F] : LastFrameAt F := fun m g _ => Cert.Kernel13Ideal.Gen.frame m g

theorem last_frame_ideal : @Cert.quiescent_Kernel13Ideal Cert.Kernel13Ideal.Gen.facts :=
  fun m g _ => Cert.Kernel13Ideal.Gen.frame m g

/-- The two programs are one text, so their frame statements are one proposition. -/
theorem last_same : @Cert.quiescent_Kernel13 Cert.Kernel13.Gen.facts = LastFrameAt Bits := by sl_kernel_rfl

theorem last_frame_printed : @Cert.quiescent_Kernel13 Cert.Kernel13.Gen.facts := last_same.mpr (last_frameAt Bits)

end Cert.Proof

end
-- ==== Proof.MergeLast.lean ====
module

public import proofs.«01_k».proof.Proof.Fwd
public import proofs.«01_k».proof.Proof.Gen.Kernel13Ideal.Frame.Runs
public import Idealize.ShloMosaic.Lib.Pipeline.ValueKit

/-! # The last layer's backward merge: what it computes, and the blocks a grid point reads

A latent token's cotangents are the first layer's; a context token's are zero, and so is the context's gate's. -/

@[expose] public section

set_option maxRecDepth 16384

noncomputable section

namespace Cert.MergeLast

open Cert.Merge Cert.MergeFwd Idealize.ShloMosaic

/-- Zeros for the 256 context tokens. -/
def keep {K : ℕ} (f : Fin 4 → Fin 2304 → Fin K → EReal) (b : Fin 4) (t : Fin 2304) (k : Fin K) : EReal := if t.val < 256 then 0 else f b t k

variable (a : Args)

/-! The ten results: the cotangents of the branches and of their projections, the gated sum, the cotangents of the merge's result and of the
gates' arguments, and the cotangent of the modulation's gates. The first argument is the cotangent of the block's result. -/

def doa := keep (dbr a.wa a.x a.z a.md a.wo 1536 (by omega))
def dob := keep (dbr a.wb a.x a.z a.md a.wo 2560 (by omega))
def doc := keep (dbr a.wc a.x a.z a.md a.wo 3584 (by omega))
def dpa := keep (dp a.x a.z a.md a.wo 1536 (by omega))
def dpb := keep (dp a.x a.z a.md a.wo 2560 (by omega))
def dpc := keep (dp a.x a.z a.md a.wo 3584 (by omega))
def ys := keep (ysum a.oa a.ob a.oc a.z a.wa a.wb a.wc)
def dm := keep (dmo a.x a.md)
def dzs := keep (dzg a.x a.oa a.ob a.oc a.z a.md a.wa a.wb a.wc a.wo)
def share := keep (gterm a.x a.oa a.ob a.oc a.z a.wa a.wb a.wc a.wo)
def dg := dgate (share a)

end Cert.MergeLast

namespace Cert.Kernel13Ideal.Body

open Cert.Kernel13Ideal Cert.Kernel13Ideal.Gen Idealize.ShloMosaic Idealize.ShloMosaic.TcCoe

/-! ## The payloads, at one element -/

theorem pay8_at (v13 : Vec Ideal S1x256x1024 .f32) (v16 : Vec Ideal S1x1024 .f32) (v18 : Vec Ideal S1x256x1024 .bf16) (k : Fin 1024) :
    k0_pay8 v13 v16 v18 (ix2 0 k) = v16 (ix2 0 k) + ∑ r : Fin 256, v13 (ix3 0 r k) * v18 (ix3 0 r k) := by pointwise [k0_pay8, k0_pay7]
theorem pay10_at (v13 : Vec Ideal S1x256x1024 .f32) (v28 : Vec Ideal S1x1024 .f32) (r : Fin 256) (k : Fin 1024) :
    k0_pay10 v13 v28 (ix3 0 r k) = v13 (ix3 0 r k) * v28 (ix2 0 k) := by pointwise [k0_pay10, k0_pay9, k0_pay7]
theorem pay11_at (v13 : Vec Ideal S1x256x1024 .f32) (v28 : Vec Ideal S1x1024 .f32) (v35 : Vec Ideal S1024x1024 .bf16) (r : Fin 256) (d : Fin 1024) :
    k0_pay11 v13 v28 v35 (ix2 r d) = ∑ k : Fin 1024, v13 (ix3 0 r k) * v28 (ix2 0 k) * v35 (ix2 d k) := by pointwise [k0_pay11, k0_pay9, k0_pay7]
theorem pay15_at (v w : Vec Ideal S1x256x512 .bf16) (r : Fin 256) (d : Fin 1024) :
    k0_pay15 (k0_pay12 v w) (ix2 r d) = Ideal.logistic (if h : d.val < 512 then v (ix3 0 r ⟨d.val, h⟩) else w (ix3 0 r ⟨d.val - 512, by omega⟩)) := by
  pointwise [k0_pay15, k0_pay12]
theorem pay23_at (v w : Vec Ideal S1x256x512 .bf16) (r : Fin 256) (d : Fin 1024) :
    k0_pay23 (k0_pay13 v w) (ix2 r d) = Ideal.logistic (if h : d.val < 512 then v (ix3 0 r ⟨d.val, h⟩) else w (ix3 0 r ⟨d.val - 512, by omega⟩)) := by
  pointwise [k0_pay23, k0_pay13]
theorem pay30_at (v w : Vec Ideal S1x256x512 .bf16) (r : Fin 256) (d : Fin 1024) :
    k0_pay30 (k0_pay14 v w) (ix2 r d) = Ideal.logistic (if h : d.val < 512 then v (ix3 0 r ⟨d.val, h⟩) else w (ix3 0 r ⟨d.val - 512, by omega⟩)) := by
  pointwise [k0_pay30, k0_pay14]
theorem pay16_at (v : Vec Ideal S1x256x384 .bf16) (w : Vec Ideal S384x1024 .bf16) (r : Fin 256) (d : Fin 1024) :
    k0_pay16 v w (ix2 r d) = ∑ k : Fin 384, v (ix3 0 r k) * w (ix2 k d) := by pointwise [k0_pay16]
theorem pay24_at (v : Vec Ideal S1x256x256 .bf16) (w : Vec Ideal S256x1024 .bf16) (r : Fin 256) (d : Fin 1024) :
    k0_pay24 v w (ix2 r d) = ∑ k : Fin 256, v (ix3 0 r k) * w (ix2 k d) := by pointwise [k0_pay24]
theorem pay31_at (v : Vec Ideal S1x256x384 .bf16) (w : Vec Ideal S384x1024 .bf16) (r : Fin 256) (d : Fin 1024) :
    k0_pay31 v w (ix2 r d) = ∑ k : Fin 384, v (ix3 0 r k) * w (ix2 k d) := by pointwise [k0_pay31]

section
variable (v36 v42 v48 v54 v56 v62 v74 v86 v104 v108 v109 : FVec Ideal S256x1024 .f32) (v79 v103 : FVec Ideal S256x1024 .bf16)
  (v57 : Vec Ideal S1x256x384 .bf16) (v59 : Vec Ideal S384x1024 .bf16) (v81 : Vec Ideal S1x256x256 .bf16) (v83 : Vec Ideal S256x1024 .bf16)
  (r : Fin 256) (d : Fin 1024)

theorem pay3_at : k0_pay3 v36 v104 (ix3 0 r d) = v36 (ix2 r d) * v104 (ix2 r d) := by pointwise [k0_pay3, k0_pay2]
theorem pay4_at (j : Fin 384) : k0_pay4 v36 v104 v59 (ix3 0 r j) = ∑ d : Fin 1024, v36 (ix2 r d) * v104 (ix2 r d) * v59 (ix2 j d) := by
  pointwise [k0_pay4, k0_pay2]
theorem pay5_at : k0_pay5 v86 v109 (ix3 0 r d) = v86 (ix2 r d) + v109 (ix2 r d) := by pointwise [k0_pay5]
theorem pay6_at (e : Fin 3072) : k0_pay6 v36 v79 v103 v104 v108 (ix3 0 r e)
      = if h : e.val < 1024 then v79 (ix2 r ⟨e.val, h⟩)
        else if h' : e.val - 1024 < 1024 then v103 (ix2 r ⟨e.val - 1024, by omega⟩)
        else v36 (ix2 r ⟨e.val - 1024 - 1024, by omega⟩) * v108 (ix2 r ⟨e.val - 1024 - 1024, by omega⟩)
          * v104 (ix2 r ⟨e.val - 1024 - 1024, by omega⟩) * (1 - v104 (ix2 r ⟨e.val - 1024 - 1024, by omega⟩)) := by
  pointwise [k0_pay6]
theorem pay17_at : k0_pay17 v42 v57 v59 (ix2 r d) = k0_pay15 v42 (ix2 r d) * k0_pay16 v57 v59 (ix2 r d) := by pointwise [k0_pay17]
theorem pay19_at : k0_pay19 v36 v42 (ix3 0 r d) = v36 (ix2 r d) * k0_pay15 v42 (ix2 r d) := by pointwise [k0_pay19, k0_pay18]
theorem pay20_at (j : Fin 384) : k0_pay20 v36 v42 v59 (ix3 0 r j) = ∑ d : Fin 1024, v36 (ix2 r d) * k0_pay15 v42 (ix2 r d) * v59 (ix2 j d) := by
  pointwise [k0_pay20, k0_pay18]
theorem pay21_at : k0_pay21 v36 v57 v59 (ix2 r d) = v36 (ix2 r d) * k0_pay16 v57 v59 (ix2 r d) := by pointwise [k0_pay21]
theorem pay22_at : k0_pay22 v56 v74 (ix2 r d) = v74 (ix2 r d) * v56 (ix2 r d) * (1 - v56 (ix2 r d)) := by pointwise [k0_pay22]
theorem pay25_at : k0_pay25 v48 v62 v81 v83 (ix2 r d) = v62 (ix2 r d) + k0_pay23 v48 (ix2 r d) * k0_pay24 v81 v83 (ix2 r d) := by pointwise [k0_pay25]
theorem pay27_at : k0_pay27 v36 v48 (ix3 0 r d) = v36 (ix2 r d) * k0_pay23 v48 (ix2 r d) := by pointwise [k0_pay27, k0_pay26]
theorem pay28_at (j : Fin 256) : k0_pay28 v36 v48 v83 (ix3 0 r j) = ∑ d : Fin 1024, v36 (ix2 r d) * k0_pay23 v48 (ix2 r d) * v83 (ix2 j d) := by
  pointwise [k0_pay28, k0_pay26]
theorem pay29_at : k0_pay29 v36 v48 v81 v83 (ix2 r d)
    = v36 (ix2 r d) * k0_pay24 v81 v83 (ix2 r d) * k0_pay23 v48 (ix2 r d) * (1 - k0_pay23 v48 (ix2 r d)) := by pointwise [k0_pay29]
theorem pay32_at : k0_pay32 v54 v57 v59 (ix2 r d) = k0_pay30 v54 (ix2 r d) * k0_pay31 v57 v59 (ix2 r d) := by pointwise [k0_pay32]
end

/-! A context point's blocks are zero. -/

theorem z1 (i : Fin 8) (k : Fin 1024) : k0_pay1 (F := Ideal) (ix2 i k) = 0 := by pointwise [k0_pay1]
theorem z33 (r : Fin 256) (k : Fin 384) : k0_pay33 (F := Ideal) (ix3 0 r k) = 0 := by pointwise [k0_pay33]
theorem z34 (r : Fin 256) (k : Fin 256) : k0_pay34 (F := Ideal) (ix3 0 r k) = 0 := by pointwise [k0_pay34]
theorem z35 (r : Fin 256) (k : Fin 384) : k0_pay35 (F := Ideal) (ix3 0 r k) = 0 := by pointwise [k0_pay35]
theorem z36 (r : Fin 256) (k : Fin 1024) : k0_pay36 (F := Ideal) (ix3 0 r k) = 0 := by pointwise [k0_pay36]
theorem z37 (r : Fin 256) (k : Fin 1024) : k0_pay37 (F := Ideal) (ix3 0 r k) = 0 := by pointwise [k0_pay37]
theorem z38 (r : Fin 256) (k : Fin 1024) : k0_pay38 (F := Ideal) (ix3 0 r k) = 0 := by pointwise [k0_pay38]
theorem z39 (r : Fin 256) (k : Fin 1024) : k0_pay39 (F := Ideal) (ix3 0 r k) = 0 := by pointwise [k0_pay39]
theorem z40 (r : Fin 256) (k : Fin 1024) : k0_pay40 (F := Ideal) (ix3 0 r k) = 0 := by pointwise [k0_pay40]
theorem z41 (r : Fin 256) (k : Fin 3072) : k0_pay41 (F := Ideal) (ix3 0 r k) = 0 := by pointwise [k0_pay41]

end Cert.Kernel13Ideal.Body

namespace Cert.Kernel13Ideal.Blocks

open Cert.Kernel13Ideal Cert.Kernel13Ideal.Gen Cert.Merge Cert.MergeFwd Cert.MergeLast Idealize.ShloMosaic Idealize.ShloMosaic.TcCoe Idealize.SL.Sem
open Cert.KernelIdeal.Blocks (bt tk rw_ row_eq)

variable (m : (ℓ : Loc nD τ sig) → Buf (Elt Ideal) ℓ)

/-- The arguments a device's memory holds. -/
abbrev ar (c : Dev nD) : Args :=
  ⟨m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5),
    m ((c : Thread nD τ).loc main_arg6), m ((c : Thread nD τ).loc main_arg7), m ((c : Thread nD τ).loc main_arg8),
    m ((c : Thread nD τ).loc main_arg9)⟩

theorem idx : ∀ t : Fin cfg0.N,
    win0_0.index t = ![t.val / 9, t.val % 9, 0]
    ∧ win0_1.index t = ![t.val / 9, t.val % 9, 0]
    ∧ win0_2.index t = ![t.val / 9, t.val % 9, 0]
    ∧ win0_3.index t = ![t.val / 9, t.val % 9, 0]
    ∧ win0_4.index t = ![t.val / 9, t.val % 9, 0]
    ∧ win0_5.index t = ![t.val / 9, t.val % 9, 3]
    ∧ win0_6.index t = ![t.val / 9, t.val % 9, 4]
    ∧ win0_7.index t = ![t.val / 9, t.val % 9, 5]
    ∧ win0_8.index t = ![t.val / 9, t.val % 9, 6]
    ∧ win0_9.index t = ![t.val / 9, t.val % 9, 7]
    ∧ win0_10.index t = ![t.val / 9, t.val % 9, 8]
    ∧ win0_11.index t = ![0, 0]
    ∧ win0_12.index t = ![0, 0]
    ∧ win0_13.index t = ![0, 0]
    ∧ win0_14.index t = ![0, 0]
    ∧ win0_15.index t = ![0, 0] :=
  (by decide +kernel : ∀ t : Fin grid0.N, _)
theorem idx_out : ∀ t : Fin cfg0.N,
    win0_16.index t = ![t.val / 9, t.val % 9, 0]
    ∧ win0_17.index t = ![t.val / 9, t.val % 9, 0]
    ∧ win0_18.index t = ![t.val / 9, t.val % 9, 0]
    ∧ win0_19.index t = ![t.val / 9, t.val % 9, 0]
    ∧ win0_20.index t = ![t.val / 9, t.val % 9, 0]
    ∧ win0_21.index t = ![t.val / 9, t.val % 9, 0]
    ∧ win0_22.index t = ![t.val / 9, t.val % 9, 0]
    ∧ win0_23.index t = ![t.val / 9, t.val % 9, 0]
    ∧ win0_24.index t = ![t.val / 9, t.val % 9, 0]
    ∧ win0_25.index t = ![0, 0] :=
  (by decide +kernel : ∀ t : Fin grid0.N, _)
/-- Where a point finds its row of the modulation and of the gate's gradient. -/
theorem off2 : ∀ t : Fin cfg0.N, k0_off2 (grid0.coords t) = ![if t.val % 9 = 0 then 4 else t.val / 9, 2048] :=
  (by decide +kernel : ∀ t : Fin grid0.N, _)
theorem off1 : ∀ t : Fin cfg0.N, k0_off1 (grid0.coords t) = ![if t.val % 9 = 0 then 4 else t.val / 9, 0] :=
  (by decide +kernel : ∀ t : Fin grid0.N, _)
/-- Where a point's tokens lie. -/
theorem ctx (t : Fin cfg0.N) (h : t.val % 9 = 0) (r : Fin 256) : (tk t r).val < 256 := by unfold tk; dsimp only; omega
theorem lat (t : Fin cfg0.N) (h : ¬t.val % 9 = 0) (r : Fin 256) : ¬(tk t r).val < 256 := by unfold tk; dsimp only; omega

section
variable (c : Dev nD) (t : Fin cfg0.N) (r : Fin 256)

theorem blk0 (k : Fin 1024) : (iblk m c 0 t : Vec Ideal S1x256x1024 .f32) (ix3 0 r k) = (ar m c).x (ix3 (bt t) (tk t r) k) := by
  blk_point [iblk, V_main_arg0, idx t, bt, tk]
theorem blk2 (k : Fin 384) : (iblk m c 2 t : Vec Ideal S1x256x384 .bf16) (ix3 0 r k) = (ar m c).oa (ix3 (bt t) (tk t r) k) := by
  blk_point [iblk, V_main_arg1, idx t, bt, tk]
theorem blk3 (k : Fin 256) : (iblk m c 3 t : Vec Ideal S1x256x256 .bf16) (ix3 0 r k) = (ar m c).ob (ix3 (bt t) (tk t r) k) := by
  blk_point [iblk, V_main_arg2, idx t, bt, tk]
theorem blk4 (k : Fin 384) : (iblk m c 4 t : Vec Ideal S1x256x384 .bf16) (ix3 0 r k) = (ar m c).oc (ix3 (bt t) (tk t r) k) := by
  blk_point [iblk, V_main_arg3, idx t, bt, tk]
theorem blk1 (k : Fin 1024) : (iblk m c 1 t : Vec Ideal S1x256x1024 .bf16) (ix3 0 r k) = V m c main_v42 (ix3 (bt t) (tk t r) k) := by
  blk_point [iblk, idx t, bt, tk]
theorem blk5 (k : Fin 512) : (iblk m c 5 t : Vec Ideal S1x256x512 .bf16) (ix3 0 r k) = (ar m c).z (ix3 (bt t) (tk t r) ⟨1536 + k.val, by omega⟩) := by
  blk_point [iblk, V_main_arg4, idx t, bt, tk]
theorem blk6 (k : Fin 512) : (iblk m c 6 t : Vec Ideal S1x256x512 .bf16) (ix3 0 r k) = (ar m c).z (ix3 (bt t) (tk t r) ⟨2048 + k.val, by omega⟩) := by
  blk_point [iblk, V_main_arg4, idx t, bt, tk]
theorem blk7 (k : Fin 512) : (iblk m c 7 t : Vec Ideal S1x256x512 .bf16) (ix3 0 r k) = (ar m c).z (ix3 (bt t) (tk t r) ⟨2560 + k.val, by omega⟩) := by
  blk_point [iblk, V_main_arg4, idx t, bt, tk]
theorem blk8 (k : Fin 512) : (iblk m c 8 t : Vec Ideal S1x256x512 .bf16) (ix3 0 r k) = (ar m c).z (ix3 (bt t) (tk t r) ⟨3072 + k.val, by omega⟩) := by
  blk_point [iblk, V_main_arg4, idx t, bt, tk]
theorem blk9 (k : Fin 512) : (iblk m c 9 t : Vec Ideal S1x256x512 .bf16) (ix3 0 r k) = (ar m c).z (ix3 (bt t) (tk t r) ⟨3584 + k.val, by omega⟩) := by
  blk_point [iblk, V_main_arg4, idx t, bt, tk]
theorem blk10 (k : Fin 512) : (iblk m c 10 t : Vec Ideal S1x256x512 .bf16) (ix3 0 r k) = (ar m c).z (ix3 (bt t) (tk t r) ⟨4096 + k.val, by omega⟩) := by
  blk_point [iblk, V_main_arg4, idx t, bt, tk]
end

section
variable (c : Dev nD) (t : Fin cfg0.N)

theorem blk12 (r : Fin 384) (k : Fin 1024) : (iblk m c 12 t : Vec Ideal S384x1024 .bf16) (ix2 r k) = (ar m c).wa (ix2 r k) := by
  blk_point [iblk, V_main_arg6, idx t]
theorem blk13 (r : Fin 256) (k : Fin 1024) : (iblk m c 13 t : Vec Ideal S256x1024 .bf16) (ix2 r k) = (ar m c).wb (ix2 r k) := by
  blk_point [iblk, V_main_arg7, idx t]
theorem blk14 (r : Fin 384) (k : Fin 1024) : (iblk m c 14 t : Vec Ideal S384x1024 .bf16) (ix2 r k) = (ar m c).wc (ix2 r k) := by
  blk_point [iblk, V_main_arg8, idx t]
theorem blk15 (r : Fin 1024) (k : Fin 1024) : (iblk m c 15 t : Vec Ideal S1024x1024 .bf16) (ix2 r k) = (ar m c).wo (ix2 r k) := by
  blk_point [iblk, V_main_arg9, idx t]
/-- The gate a point multiplies its tokens by. -/
theorem gate_at (k : Fin 1024) (h) :
    View.ld (iblk m c 11 t : Vec Ideal S8x6144 .f32) (Rect.unit (s := S8x6144) (k0_off2 (grid0.coords t)) ![1, 1024] h) (ix2 0 k)
      = (ar m c).md (ix2 (rw_ t) ⟨2048 + k.val, by omega⟩) := by
  pointwise []
  blk_point [iblk, V_main_arg5, idx t, off2 t]
  unfold rw_
  split <;> rfl

variable (r : Fin 256) (d : Fin 1024)

/-- Two joined blocks of 512 channels are 1024 channels. -/
theorem join {K : ℕ} {f : Fin K → EReal} {o : ℕ} (ho : o + 1024 ≤ K) {v w : Fin 512 → EReal} (hv : ∀ k : Fin 512, v k = f ⟨o + k.val, by omega⟩)
    (hw : ∀ k : Fin 512, w k = f ⟨o + 512 + k.val, by omega⟩) :
    (if h : d.val < 512 then v ⟨d.val, h⟩ else w ⟨d.val - 512, by omega⟩) = f ⟨o + d.val, by omega⟩ := by
  split
  · rw [hv]
  · rw [hw]
    exact congrArg f (Fin.ext (by dsimp only; omega))

/-- The sigmoid gates of a point's tokens. -/
theorem g15 : k0_pay15 (k0_pay12 (iblk m c 5 t) (iblk m c 6 t)) (ix2 r d) = sg (ar m c).z 1536 (by omega) (bt t) (tk t r) d := by
  rw [Body.pay15_at]
  exact congrArg Ideal.logistic (join d (f := fun e => (ar m c).z (ix3 (bt t) (tk t r) e)) (by omega) (blk5 m c t r) (blk6 m c t r))
theorem g23 : k0_pay23 (k0_pay13 (iblk m c 7 t) (iblk m c 8 t)) (ix2 r d) = sg (ar m c).z 2560 (by omega) (bt t) (tk t r) d := by
  rw [Body.pay23_at]
  exact congrArg Ideal.logistic (join d (f := fun e => (ar m c).z (ix3 (bt t) (tk t r) e)) (by omega) (blk7 m c t r) (blk8 m c t r))
theorem g30 : k0_pay30 (k0_pay14 (iblk m c 9 t) (iblk m c 10 t)) (ix2 r d) = sg (ar m c).z 3584 (by omega) (bt t) (tk t r) d := by
  rw [Body.pay30_at]
  exact congrArg Ideal.logistic (join d (f := fun e => (ar m c).z (ix3 (bt t) (tk t r) e)) (by omega) (blk9 m c t r) (blk10 m c t r))
/-- The branches projected at a point's tokens. -/
theorem p16 : k0_pay16 (iblk m c 2 t) (iblk m c 12 t) (ix2 r d) = proj (ar m c).oa (ar m c).wa (bt t) (tk t r) d := by
  rw [Body.pay16_at]; simp only [blk2, blk12]; rfl
theorem p24 : k0_pay24 (iblk m c 3 t) (iblk m c 13 t) (ix2 r d) = proj (ar m c).ob (ar m c).wb (bt t) (tk t r) d := by
  rw [Body.pay24_at]; simp only [blk3, blk13]; rfl
theorem p31 : k0_pay31 (iblk m c 4 t) (iblk m c 14 t) (ix2 r d) = proj (ar m c).oc (ar m c).wc (bt t) (tk t r) d := by
  rw [Body.pay31_at]; simp only [blk4, blk14]; rfl
/-- The gated sum's cotangent at a point's tokens. -/
theorem p11 (h) :
    k0_pay11 (iblk m c 0 t) (View.ld (iblk m c 11 t : Vec Ideal S8x6144 .f32) (Rect.unit (s := S8x6144) (k0_off2 (grid0.coords t)) ![1, 1024] h))
        (iblk m c 15 t) (ix2 r d) = dy (ar m c).x (ar m c).md (ar m c).wo (bt t) (tk t r) d := by
  rw [Body.pay11_at]; simp only [blk0, gate_at, blk15]
  unfold dy dmo gate; simp only [row_eq]
end

end Cert.Kernel13Ideal.Blocks

end
-- ==== Proof.MergeLastBranches.lean ====
module

public import proofs.«01_k».proof.Proof.MergeLast
public import proofs.«01_k».proof.Proof.MergeLastFrame

/-! # The last layer's backward merge: the cotangents of the branches and of their projections after the run -/

@[expose] public section

set_option maxRecDepth 16384
set_option maxHeartbeats 1600000

noncomputable section

namespace Cert.Kernel13Ideal.Blocks

open Cert.Kernel13Ideal Cert.Kernel13Ideal.Gen Cert.Merge Cert.MergeFwd Cert.MergeLast Idealize.ShloMosaic Idealize.ShloMosaic.TcCoe Idealize.SL.Sem
open Cert.KernelIdeal.Blocks (bt tk rw_ row_eq close)

variable (m : (ℓ : Loc nD τ sig) → Buf (Elt Ideal) ℓ)

/-- The first branch's cotangent. -/
theorem out16 (c : Dev nD) : (dats m 0 c).arrAt 16 cfg0.N = fun i => doa (ar m c) (i 0) (i 1) (i 2) := by
  refine (dats m 0 c).arrAt_eq_of_covers 16 _ (by decide +kernel) fun t hf y => ?_
  blk_simp
  rw [after0_16]
  by_cases h : t.val % 9 = 0
  · by_cases h0 : t.val % 36 = 0
    · rw [outs_A m c t h0 (by omega) h]
      unfold outA runA
      frame_out
      refine close (t := t) (f := doa (ar m c)) (fun r k => (Body.z33 r k).trans (if_pos (ctx t h r)).symm) ?_ ?_ ?_
      all_goals blk_simp [idx_out t]
    · rw [outs_C m c t h0 (by omega) h]
      unfold outC runC
      frame_out
      refine close (t := t) (f := doa (ar m c)) (fun r k => (Body.z33 r k).trans (if_pos (ctx t h r)).symm) ?_ ?_ ?_
      all_goals blk_simp [idx_out t]
  · rw [outs_B m c t (by omega) (by omega) h]
    unfold outB runB
    frame_out
    refine close (t := t) (f := doa (ar m c)) (fun r k => Eq.trans ?_ (if_neg (lat t h r)).symm) ?_ ?_ ?_
    · simp only [Body.pay20_at, p11, g15, blk12]; rfl
    all_goals blk_simp [idx_out t]

/-- The second branch's cotangent. -/
theorem out17 (c : Dev nD) : (dats m 0 c).arrAt 17 cfg0.N = fun i => dob (ar m c) (i 0) (i 1) (i 2) := by
  refine (dats m 0 c).arrAt_eq_of_covers 17 _ (by decide +kernel) fun t hf y => ?_
  blk_simp
  rw [after0_17]
  by_cases h : t.val % 9 = 0
  · by_cases h0 : t.val % 36 = 0
    · rw [outs_A m c t h0 (by omega) h]
      unfold outA runA
      frame_out
      refine close (t := t) (f := dob (ar m c)) (fun r k => (Body.z34 r k).trans (if_pos (ctx t h r)).symm) ?_ ?_ ?_
      all_goals blk_simp [idx_out t]
    · rw [outs_C m c t h0 (by omega) h]
      unfold outC runC
      frame_out
      refine close (t := t) (f := dob (ar m c)) (fun r k => (Body.z34 r k).trans (if_pos (ctx t h r)).symm) ?_ ?_ ?_
      all_goals blk_simp [idx_out t]
  · rw [outs_B m c t (by omega) (by omega) h]
    unfold outB runB
    frame_out
    refine close (t := t) (f := dob (ar m c)) (fun r k => Eq.trans ?_ (if_neg (lat t h r)).symm) ?_ ?_ ?_
    · simp only [Body.pay28_at, p11, g23, blk13]; rfl
    all_goals blk_simp [idx_out t]

/-- The third branch's cotangent. -/
theorem out18 (c : Dev nD) : (dats m 0 c).arrAt 18 cfg0.N = fun i => doc (ar m c) (i 0) (i 1) (i 2) := by
  refine (dats m 0 c).arrAt_eq_of_covers 18 _ (by decide +kernel) fun t hf y => ?_
  blk_simp
  rw [after0_18]
  by_cases h : t.val % 9 = 0
  · by_cases h0 : t.val % 36 = 0
    · rw [outs_A m c t h0 (by omega) h]
      unfold outA runA
      frame_out
      refine close (t := t) (f := doc (ar m c)) (fun r k => (Body.z35 r k).trans (if_pos (ctx t h r)).symm) ?_ ?_ ?_
      all_goals blk_simp [idx_out t]
    · rw [outs_C m c t h0 (by omega) h]
      unfold outC runC
      frame_out
      refine close (t := t) (f := doc (ar m c)) (fun r k => (Body.z35 r k).trans (if_pos (ctx t h r)).symm) ?_ ?_ ?_
      all_goals blk_simp [idx_out t]
  · rw [outs_B m c t (by omega) (by omega) h]
    unfold outB runB
    frame_out
    refine close (t := t) (f := doc (ar m c)) (fun r k => Eq.trans ?_ (if_neg (lat t h r)).symm) ?_ ?_ ?_
    · simp only [Body.pay4_at, p11, g30, blk14]; rfl
    all_goals blk_simp [idx_out t]

/-- The first projection's cotangent. -/
theorem out19 (c : Dev nD) : (dats m 0 c).arrAt 19 cfg0.N = fun i => dpa (ar m c) (i 0) (i 1) (i 2) := by
  refine (dats m 0 c).arrAt_eq_of_covers 19 _ (by decide +kernel) fun t hf y => ?_
  blk_simp
  rw [after0_19]
  by_cases h : t.val % 9 = 0
  · by_cases h0 : t.val % 36 = 0
    · rw [outs_A m c t h0 (by omega) h]
      unfold outA runA
      frame_out
      refine close (t := t) (f := dpa (ar m c)) (fun r k => (Body.z36 r k).trans (if_pos (ctx t h r)).symm) ?_ ?_ ?_
      all_goals blk_simp [idx_out t]
    · rw [outs_C m c t h0 (by omega) h]
      unfold outC runC
      frame_out
      refine close (t := t) (f := dpa (ar m c)) (fun r k => (Body.z36 r k).trans (if_pos (ctx t h r)).symm) ?_ ?_ ?_
      all_goals blk_simp [idx_out t]
  · rw [outs_B m c t (by omega) (by omega) h]
    unfold outB runB
    frame_out
    refine close (t := t) (f := dpa (ar m c)) (fun r k => Eq.trans ?_ (if_neg (lat t h r)).symm) ?_ ?_ ?_
    · simp only [Body.pay19_at, p11, g15]; rfl
    all_goals blk_simp [idx_out t]

/-- The second projection's cotangent. -/
theorem out20 (c : Dev nD) : (dats m 0 c).arrAt 20 cfg0.N = fun i => dpb (ar m c) (i 0) (i 1) (i 2) := by
  refine (dats m 0 c).arrAt_eq_of_covers 20 _ (by decide +kernel) fun t hf y => ?_
  blk_simp
  rw [after0_20]
  by_cases h : t.val % 9 = 0
  · by_cases h0 : t.val % 36 = 0
    · rw [outs_A m c t h0 (by omega) h]
      unfold outA runA
      frame_out
      refine close (t := t) (f := dpb (ar m c)) (fun r k => (Body.z37 r k).trans (if_pos (ctx t h r)).symm) ?_ ?_ ?_
      all_goals blk_simp [idx_out t]
    · rw [outs_C m c t h0 (by omega) h]
      unfold outC runC
      frame_out
      refine close (t := t) (f := dpb (ar m c)) (fun r k => (Body.z37 r k).trans (if_pos (ctx t h r)).symm) ?_ ?_ ?_
      all_goals blk_simp [idx_out t]
  · rw [outs_B m c t (by omega) (by omega) h]
    unfold outB runB
    frame_out
    refine close (t := t) (f := dpb (ar m c)) (fun r k => Eq.trans ?_ (if_neg (lat t h r)).symm) ?_ ?_ ?_
    · simp only [Body.pay27_at, p11, g23]; rfl
    all_goals blk_simp [idx_out t]

end Cert.Kernel13Ideal.Blocks

end
-- ==== Proof.MergeLastOuts.lean ====
module

public import proofs.«01_k».proof.Proof.MergeLast
public import proofs.«01_k».proof.Proof.MergeLastFrame

/-! # The last layer's backward merge: the gated sum and the cotangents of the gates after the run -/

@[expose] public section

set_option maxRecDepth 16384
set_option maxHeartbeats 1600000

noncomputable section

namespace Cert.Kernel13Ideal.Blocks

open Cert.Kernel13Ideal Cert.Kernel13Ideal.Gen Cert.Merge Cert.MergeFwd Cert.MergeLast Idealize.ShloMosaic Idealize.ShloMosaic.TcCoe Idealize.SL.Sem
open Cert.KernelIdeal.Blocks (bt tk rw_ row_eq close)

variable (m : (ℓ : Loc nD τ sig) → Buf (Elt Ideal) ℓ)

/-- The third projection's cotangent. -/
theorem out21 (c : Dev nD) : (dats m 0 c).arrAt 21 cfg0.N = fun i => dpc (ar m c) (i 0) (i 1) (i 2) := by
  refine (dats m 0 c).arrAt_eq_of_covers 21 _ (by decide +kernel) fun t hf y => ?_
  blk_simp
  rw [after0_21]
  by_cases h : t.val % 9 = 0
  · by_cases h0 : t.val % 36 = 0
    · rw [outs_A m c t h0 (by omega) h]
      unfold outA runA
      frame_out
      refine close (t := t) (f := dpc (ar m c)) (fun r k => (Body.z38 r k).trans (if_pos (ctx t h r)).symm) ?_ ?_ ?_
      all_goals blk_simp [idx_out t]
    · rw [outs_C m c t h0 (by omega) h]
      unfold outC runC
      frame_out
      refine close (t := t) (f := dpc (ar m c)) (fun r k => (Body.z38 r k).trans (if_pos (ctx t h r)).symm) ?_ ?_ ?_
      all_goals blk_simp [idx_out t]
  · rw [outs_B m c t (by omega) (by omega) h]
    unfold outB runB
    frame_out
    refine close (t := t) (f := dpc (ar m c)) (fun r k => Eq.trans ?_ (if_neg (lat t h r)).symm) ?_ ?_ ?_
    · simp only [Body.pay3_at, p11, g30]; rfl
    all_goals blk_simp [idx_out t]

/-- The gated sum. -/
theorem out22 (c : Dev nD) : (dats m 0 c).arrAt 22 cfg0.N = fun i => ys (ar m c) (i 0) (i 1) (i 2) := by
  refine (dats m 0 c).arrAt_eq_of_covers 22 _ (by decide +kernel) fun t hf y => ?_
  blk_simp
  rw [after0_22]
  by_cases h : t.val % 9 = 0
  · by_cases h0 : t.val % 36 = 0
    · rw [outs_A m c t h0 (by omega) h]
      unfold outA runA
      frame_out
      refine close (t := t) (f := ys (ar m c)) (fun r k => (Body.z39 r k).trans (if_pos (ctx t h r)).symm) ?_ ?_ ?_
      all_goals blk_simp [idx_out t]
    · rw [outs_C m c t h0 (by omega) h]
      unfold outC runC
      frame_out
      refine close (t := t) (f := ys (ar m c)) (fun r k => (Body.z39 r k).trans (if_pos (ctx t h r)).symm) ?_ ?_ ?_
      all_goals blk_simp [idx_out t]
  · rw [outs_B m c t (by omega) (by omega) h]
    unfold outB runB
    frame_out
    refine close (t := t) (f := ys (ar m c)) (fun r k => Eq.trans ?_ (if_neg (lat t h r)).symm) ?_ ?_ ?_
    · simp only [Body.pay5_at, Body.pay25_at, Body.pay17_at, Body.pay32_at, g15, g23, g30, p16, p24, p31]; rfl
    all_goals blk_simp [idx_out t]

/-- The cotangent of the merge's result. -/
theorem out23 (c : Dev nD) : (dats m 0 c).arrAt 23 cfg0.N = fun i => dm (ar m c) (i 0) (i 1) (i 2) := by
  refine (dats m 0 c).arrAt_eq_of_covers 23 _ (by decide +kernel) fun t hf y => ?_
  blk_simp
  rw [after0_23]
  by_cases h : t.val % 9 = 0
  · by_cases h0 : t.val % 36 = 0
    · rw [outs_A m c t h0 (by omega) h]
      unfold outA runA
      frame_out
      refine close (t := t) (f := dm (ar m c)) (fun r k => (Body.z40 r k).trans (if_pos (ctx t h r)).symm) ?_ ?_ ?_
      all_goals blk_simp [idx_out t]
    · rw [outs_C m c t h0 (by omega) h]
      unfold outC runC
      frame_out
      refine close (t := t) (f := dm (ar m c)) (fun r k => (Body.z40 r k).trans (if_pos (ctx t h r)).symm) ?_ ?_ ?_
      all_goals blk_simp [idx_out t]
  · rw [outs_B m c t (by omega) (by omega) h]
    unfold outB runB
    frame_out
    refine close (t := t) (f := dm (ar m c)) (fun r k => Eq.trans ?_ (if_neg (lat t h r)).symm) ?_ ?_ ?_
    · simp only [Body.pay10_at, blk0, gate_at]; unfold dmo gate; rw [row_eq]
    all_goals blk_simp [idx_out t]

/-- The three gates' cotangents side by side. -/
theorem out24 (c : Dev nD) : (dats m 0 c).arrAt 24 cfg0.N = fun i => dzs (ar m c) (i 0) (i 1) (i 2) := by
  refine (dats m 0 c).arrAt_eq_of_covers 24 _ (by decide +kernel) fun t hf y => ?_
  blk_simp
  rw [after0_24]
  by_cases h : t.val % 9 = 0
  · by_cases h0 : t.val % 36 = 0
    · rw [outs_A m c t h0 (by omega) h]
      unfold outA runA
      frame_out
      refine close (t := t) (f := dzs (ar m c)) (fun r k => (Body.z41 r k).trans (if_pos (ctx t h r)).symm) ?_ ?_ ?_
      all_goals blk_simp [idx_out t]
    · rw [outs_C m c t h0 (by omega) h]
      unfold outC runC
      frame_out
      refine close (t := t) (f := dzs (ar m c)) (fun r k => (Body.z41 r k).trans (if_pos (ctx t h r)).symm) ?_ ?_ ?_
      all_goals blk_simp [idx_out t]
  · rw [outs_B m c t (by omega) (by omega) h]
    unfold outB runB
    frame_out
    refine close (t := t) (f := dzs (ar m c)) (fun r k => Eq.trans ?_ (if_neg (lat t h r)).symm) ?_ ?_ ?_
    · simp only [Body.pay6_at, Body.pay22_at, Body.pay21_at, Body.pay29_at, p11, g15, g23, g30, p16, p24, p31]; rfl
    all_goals blk_simp [idx_out t]

end Cert.Kernel13Ideal.Blocks

end
-- ==== Proof.MergeLastGate.lean ====
module

public import proofs.«01_k».proof.Proof.MergeLast
public import proofs.«01_k».proof.Proof.MergeLastFrame
public import proofs.«01_k».proof.Proof.Gates

/-! # The last layer's backward merge: the cotangent of the modulation's gates

As in the first layer, but the context's points add nothing. -/

@[expose] public section

set_option maxRecDepth 16384

noncomputable section

namespace Cert.Kernel13Ideal.Blocks

open Cert.Kernel13Ideal Cert.Kernel13Ideal.Gen Cert.Merge Cert.MergeFwd Cert.MergeLast Idealize.ShloMosaic Idealize.ShloMosaic.TcCoe Idealize.SL.Sem
open Cert.KernelIdeal.Blocks (bt tk rw_ row_eq close)

variable (m : (ℓ : Loc nD τ sig) → Buf (Elt Ideal) ℓ)

open Cert.KernelIdeal.Blocks (row_emb row_not_mem row_ld total)

/-- The saved result of the merge at a latent token, that the host recomputes from its lines. -/
theorem mgo_at (c : Dev nD) (b : Fin 4) (t : Fin 2304) (h : ¬t.val < 256) (k : Fin 1024) : V m c main_v42 (ix3 b t k) = out (ar m c) b t k := by
  entry_read
  pointwise []
  have e1 : ∀ (x : Fin 1024) (h), (⟨1536 + (1024 + x.val), h⟩ : Fin 4608) = ⟨2560 + x.val, by omega⟩ := fun x h => Fin.ext (by dsimp only; omega)
  have e2 : ∀ (x : Fin 1024) (h), (⟨1536 + (2048 + x.val), h⟩ : Fin 4608) = ⟨3584 + x.val, by omega⟩ := fun x h => Fin.ext (by dsimp only; omega)
  have e : ∀ q, (⟨256 + (t.val - 256), q⟩ : Fin 2304) = t := fun q => Fin.ext (by dsimp only; omega)
  rw [dif_neg h]
  simp only [e, e1, e2]
  rfl

/-- What a point adds to row `i`. -/
def part (c : Dev nD) (t : Fin cfg0.N) (i : Fin 8) (k : Fin 1024) : EReal :=
  if i = rw_ t then ∑ r : Fin 256, share (ar m c) (bt t) (tk t r) k else 0

/-- A context point adds nothing. -/
theorem part_ctx (c : Dev nD) (t : Fin cfg0.N) (h : t.val % 9 = 0) (i : Fin 8) (k : Fin 1024) : part m c t i k = 0 := by
  unfold part
  split
  · exact Finset.sum_eq_zero fun r _ => if_pos (ctx t h r)
  · rfl

theorem off1' (t : Fin cfg0.N) : k0_off1 (grid0.coords t) = ![(rw_ t).val, 0] := by
  rw [off1 t]; unfold rw_; split <;> rfl

/-- The row a latent point stores: what it read, plus its tokens' shares. -/
theorem pay8_share (c : Dev nD) (t : Fin cfg0.N) (h : ¬t.val % 9 = 0) (v : Vec Ideal S1x1024 .f32) (k : Fin 1024) :
    k0_pay8 (iblk m c 0 t) v (iblk m c 1 t) (ix2 0 k) = v (ix2 0 k) + ∑ r : Fin 256, share (ar m c) (bt t) (tk t r) k := by
  rw [Body.pay8_at]
  refine congrArg (_ + ·) (Finset.sum_congr rfl fun r _ => ?_)
  rw [blk0, blk1, mgo_at m c _ _ (lat t h r)]
  exact (if_neg (lat t h r)).symm

set_option maxHeartbeats 1600000 in
theorem stepA (c : Dev nD) (t : Fin cfg0.N) (h : t.val % 36 = 0) (i : Fin 8) (k : Fin 1024) :
    (outs m c t.val t.isLt).2.2.2.2.2.2.2.2.2 (ix2 i k) = 0 + part m c t i k := by
  rw [outs_A m c t h (by omega) (by omega), part_ctx m c t (by omega), add_zero]
  unfold outA runA
  frame_out
  exact Body.z1 i k

set_option maxHeartbeats 1600000 in
theorem stepB (c : Dev nD) (t : Fin cfg0.N) (h : ¬t.val % 36 = 0) (i : Fin 8) (k : Fin 1024) :
    (outs m c t.val t.isLt).2.2.2.2.2.2.2.2.2 (ix2 i k)
      = (outs m c (t.val - 1) (Nat.lt_of_le_of_lt (Nat.sub_le _ _) t.isLt)).2.2.2.2.2.2.2.2.2 (ix2 i k) + part m c t i k := by
  by_cases h9 : t.val % 9 = 0
  · rw [outs_C m c t h (by omega) h9, part_ctx m c t h9, add_zero]
    rfl
  · rw [outs_B m c t h (by omega) h9]
    unfold outB runB
    frame_out
    unfold part
    have hc := (hcond0_1 t).mpr (by omega : 1 ≤ t.val % 9)
    by_cases hi : i = rw_ t
    · rw [if_pos hi]
      have hv : i.val = (rw_ t).val := congrArg Fin.val hi
      refine (congrArg (View.read _ _ _) (row_emb (off1' t) (k0_off1_inb (grid0.coords t) hc) i k hv).symm).trans ?_
      rw [View.read_writes_cons_emb, pay8_share m c t h9, row_ld (off1' t) _ _ i k hv]
    · rw [if_neg hi, View.read_writes_apply_of_forall_not_mem _ _ _ _ (fun p hp => by
        obtain rfl := List.mem_singleton.mp hp
        exact row_not_mem (off1' t) (k0_off1_inb (grid0.coords t) hc) i k fun e => hi (Fin.ext e)), add_zero, Memref.IsWhole.read_unread]

/-- The cotangent of the eight gates after the run. -/
theorem out25 (c : Dev nD) : (dats m 0 c).arrAt 25 cfg0.N = fun i => dg (ar m c) (i 0) (i 1) := by
  refine (dats m 0 c).arrAt_eq_of_covers 25 _ (by decide +kernel) fun t hf y => ?_
  blk_simp
  rw [after0_25]
  have ht : t.val % 36 = 35 := (flush0_25 t).mp hf
  have hN : cfg0.N = 36 := N_0
  have e : ∀ (i : Fin 8) (k : Fin 1024), (outs m c t.val t.isLt).2.2.2.2.2.2.2.2.2 (ix2 i k) = dg (ar m c) i k := fun i k => by
    have := Pipeline.eq_sum_fin_of_reset_step_apply_last (fun n h (j : Fin 8 × Fin 1024) => (outs m c n h).2.2.2.2.2.2.2.2.2 (ix2 j.1 j.2)) 36
      (fun _ => (0 : EReal)) (fun t j => part m c t j.1 j.2) (fun t h j => stepA m c t h j.1 j.2) (fun t h j => stepB m c t h j.1 j.2)
      (le_of_eq hN) t (by have h1 : t.val < cfg0.N := t.isLt; omega) (i, k)
    refine this.trans ((zero_add _).trans ?_)
    exact total (fun b t => share (ar m c) b t k) i
  have hy : y = ix2 (y 0) (y 1) := by blk_ext []
  refine (congrArg _ hy).trans ((e (y 0) (y 1)).trans ?_)
  have e0 : (y 0 : Fin 8) = ((win0_25.blk t).view.emb y 0 : Fin 8) := Fin.ext (by blk_simp [idx_out t])
  have e1 : (y 1 : Fin 1024) = ((win0_25.blk t).view.emb y 1 : Fin 1024) := Fin.ext (by blk_simp [idx_out t])
  exact congrArg₂ _ e0 e1

end Cert.Kernel13Ideal.Blocks

end
-- ==== Proof.MergeLastValues.lean ====
module

public import proofs.«01_k».proof.Proof.MergeLastBranches
public import proofs.«01_k».proof.Proof.MergeLastOuts
public import proofs.«01_k».proof.Proof.MergeLastGate

/-! # The last layer's backward merge: the run, with every result named -/

@[expose] public section

set_option maxRecDepth 16384

noncomputable section

namespace Cert.Kernel13Ideal.Blocks

open Cert.Kernel13Ideal Cert.Kernel13Ideal.Gen Cert.Merge Cert.MergeFwd Cert.MergeLast Idealize.ShloMosaic Idealize.ShloMosaic.TcCoe Idealize.SL.Sem
open Cert.KernelIdeal.Blocks (bt tk rw_ row_eq close)

variable (m : (ℓ : Loc nD τ sig) → Buf (Elt Ideal) ℓ)

theorem post16 (r : PUnit × MemSt nD τ sig (Elt Ideal)) (h : Pipeline.FramePost cfgs (dats m) 0 (V m) r) (c : Dev nD) :
    r.2.mem ((c : Thread nD τ).loc main_v43_0) = (dats m 0 c).arrAt 16 cfg0.N := (h c).1 16
theorem post17 (r : PUnit × MemSt nD τ sig (Elt Ideal)) (h : Pipeline.FramePost cfgs (dats m) 0 (V m) r) (c : Dev nD) :
    r.2.mem ((c : Thread nD τ).loc main_v43_1) = (dats m 0 c).arrAt 17 cfg0.N := (h c).1 17
theorem post18 (r : PUnit × MemSt nD τ sig (Elt Ideal)) (h : Pipeline.FramePost cfgs (dats m) 0 (V m) r) (c : Dev nD) :
    r.2.mem ((c : Thread nD τ).loc main_v43_2) = (dats m 0 c).arrAt 18 cfg0.N := (h c).1 18
theorem post19 (r : PUnit × MemSt nD τ sig (Elt Ideal)) (h : Pipeline.FramePost cfgs (dats m) 0 (V m) r) (c : Dev nD) :
    r.2.mem ((c : Thread nD τ).loc main_v43_3) = (dats m 0 c).arrAt 19 cfg0.N := (h c).1 19
theorem post20 (r : PUnit × MemSt nD τ sig (Elt Ideal)) (h : Pipeline.FramePost cfgs (dats m) 0 (V m) r) (c : Dev nD) :
    r.2.mem ((c : Thread nD τ).loc main_v43_4) = (dats m 0 c).arrAt 20 cfg0.N := (h c).1 20
theorem post21 (r : PUnit × MemSt nD τ sig (Elt Ideal)) (h : Pipeline.FramePost cfgs (dats m) 0 (V m) r) (c : Dev nD) :
    r.2.mem ((c : Thread nD τ).loc main_v43_5) = (dats m 0 c).arrAt 21 cfg0.N := (h c).1 21
theorem post22 (r : PUnit × MemSt nD τ sig (Elt Ideal)) (h : Pipeline.FramePost cfgs (dats m) 0 (V m) r) (c : Dev nD) :
    r.2.mem ((c : Thread nD τ).loc main_v43_6) = (dats m 0 c).arrAt 22 cfg0.N := (h c).1 22
theorem post23 (r : PUnit × MemSt nD τ sig (Elt Ideal)) (h : Pipeline.FramePost cfgs (dats m) 0 (V m) r) (c : Dev nD) :
    r.2.mem ((c : Thread nD τ).loc main_v43_7) = (dats m 0 c).arrAt 23 cfg0.N := (h c).1 23
theorem post24 (r : PUnit × MemSt nD τ sig (Elt Ideal)) (h : Pipeline.FramePost cfgs (dats m) 0 (V m) r) (c : Dev nD) :
    r.2.mem ((c : Thread nD τ).loc main_v43_8) = (dats m 0 c).arrAt 24 cfg0.N := (h c).1 24
theorem post25 (r : PUnit × MemSt nD τ sig (Elt Ideal)) (h : Pipeline.FramePost cfgs (dats m) 0 (V m) r) (c : Dev nD) :
    r.2.mem ((c : Thread nD τ).loc main_v43_9) = (dats m 0 c).arrAt 25 cfg0.N := (h c).1 25

/-- The launch's results and its unchanged arguments. -/
theorem run_values (g : Dev nD → PrngReg) : θ_run defs (onTc (τ := τ) (main (F := Ideal))) ⟨m, fun _ => 0, g⟩ fun r => ∀ c : Dev nD,
      r.2.mem ((c : Thread nD τ).loc main_v43_0) = (fun i => doa (ar m c) (i 0) (i 1) (i 2))
      ∧ r.2.mem ((c : Thread nD τ).loc main_v43_1) = (fun i => dob (ar m c) (i 0) (i 1) (i 2))
      ∧ r.2.mem ((c : Thread nD τ).loc main_v43_2) = (fun i => doc (ar m c) (i 0) (i 1) (i 2))
      ∧ r.2.mem ((c : Thread nD τ).loc main_v43_3) = (fun i => dpa (ar m c) (i 0) (i 1) (i 2))
      ∧ r.2.mem ((c : Thread nD τ).loc main_v43_4) = (fun i => dpb (ar m c) (i 0) (i 1) (i 2))
      ∧ r.2.mem ((c : Thread nD τ).loc main_v43_5) = (fun i => dpc (ar m c) (i 0) (i 1) (i 2))
      ∧ r.2.mem ((c : Thread nD τ).loc main_v43_6) = (fun i => ys (ar m c) (i 0) (i 1) (i 2))
      ∧ r.2.mem ((c : Thread nD τ).loc main_v43_7) = (fun i => dm (ar m c) (i 0) (i 1) (i 2))
      ∧ r.2.mem ((c : Thread nD τ).loc main_v43_8) = (fun i => dzs (ar m c) (i 0) (i 1) (i 2))
      ∧ r.2.mem ((c : Thread nD τ).loc main_v43_9) = (fun i => dg (ar m c) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(post16 m r h.1 c).trans (out16 m c),
      (post17 m r h.1 c).trans (out17 m c),
      (post18 m r h.1 c).trans (out18 m c),
      (post19 m r h.1 c).trans (out19 m c),
      (post20 m r h.1 c).trans (out20 m c),
      (post21 m r h.1 c).trans (out21 m c),
      (post22 m r h.1 c).trans (out22 m c),
      (post23 m r h.1 c).trans (out23 m c),
      (post24 m r h.1 c).trans (out24 m c),
      (post25 m r h.1 c).trans (out25 m c),
      h.2 c⟩) (θ_run_and (run_main m g) (unchanged m g))

end Cert.Kernel13Ideal.Blocks

end
-- ==== Proof.MergeLastRef.lean ====
module

public import proofs.«01_k».proof.Proof.Gen.Reference13Ideal.Read
public import proofs.«01_k».proof.Proof.Gen.Reference13Ideal.Run
public import proofs.«01_k».proof.Proof.MergeLast
public import proofs.«01_k».proof.Proof.Ref

/-! # What the reference of the last layer's backward merge computes

Its lines begin with the first layer's, whose values are known; it keeps those of the latent tokens. -/

@[expose] public section

set_option maxRecDepth 16384

noncomputable section

namespace Cert.Reference13Ideal.Stage

open Cert.Reference13Ideal Cert.Reference13Ideal.Gen Cert.Reference13Ideal.Read Cert.Merge Cert.MergeFwd Cert.MergeLast Idealize.ShloMosaic Idealize.ShloMosaic.TcCoe Idealize.SL.Sem
open Cert.ReferenceIdeal.Stage (ext3)

variable (a : Args)

/-- Zeros before the latent tokens' values. -/
theorem keep_of {K : ℕ} (f : Fin 4 → Fin 2304 → Fin K → EReal) (b : Fin 4) (t : Fin 2304) (k : Fin K) :
    (if h : t.val < 256 then (0 : EReal) else f b ⟨256 + (t.val - 256), by omega⟩ k) = keep f b t k := by
  unfold keep
  by_cases h : t.val < 256
  · rw [dif_pos h, if_pos h]
  · have e : ∀ q, (⟨256 + (t.val - 256), q⟩ : Fin 2304) = t := fun q => Fin.ext (by dsimp only; omega)
    rw [dif_neg h, if_neg h]
    simp only [e]

theorem r86 (b : Fin 4) (t : Fin 2304) (k : Fin 384) : val_main_v86 (F := Ideal) a.x a.z a.md a.wa a.wo (ix3 b t k) = doa a b t k := by
  have e : ∀ b t k, val_main_v81 (F := Ideal) a.x a.z a.md a.wa a.wo (ix3 b t k) = _ := Cert.ReferenceIdeal.Stage.do_a a.x a.z a.md a.wa a.wo
  pointwise [val_main_v86, val_main_v85, val_main_v84, val_main_v83, val_main_cst_13]
  simp only [e]
  exact keep_of _ b t k
theorem r90 (b : Fin 4) (t : Fin 2304) (k : Fin 256) : val_main_v90 (F := Ideal) a.x a.z a.md a.wb a.wo (ix3 b t k) = dob a b t k := by
  have e : ∀ b t k, val_main_v80 (F := Ideal) a.x a.z a.md a.wb a.wo (ix3 b t k) = _ := Cert.ReferenceIdeal.Stage.do_b a.x a.z a.md a.wb a.wo
  pointwise [val_main_v90, val_main_v89, val_main_v88, val_main_v87, val_main_cst_14]
  simp only [e]
  exact keep_of _ b t k
theorem r94 (b : Fin 4) (t : Fin 2304) (k : Fin 384) : val_main_v94 (F := Ideal) a.x a.z a.md a.wc a.wo (ix3 b t k) = doc a b t k := by
  have e : ∀ b t k, val_main_v79 (F := Ideal) a.x a.z a.md a.wc a.wo (ix3 b t k) = _ := Cert.ReferenceIdeal.Stage.do_c a.x a.z a.md a.wc a.wo
  pointwise [val_main_v94, val_main_v93, val_main_v92, val_main_v91, val_main_cst_15]
  simp only [e]
  exact keep_of _ b t k
theorem r98 (b : Fin 4) (t : Fin 2304) (k : Fin 1024) : val_main_v98 (F := Ideal) a.x a.z a.md a.wo (ix3 b t k) = dpa a b t k := by
  have e : ∀ b t k, val_main_v76 (F := Ideal) a.x a.z a.md a.wo (ix3 b t k) = _ := Cert.ReferenceIdeal.Stage.dp_a a.x a.z a.md a.wo
  pointwise [val_main_v98, val_main_v97, val_main_v96, val_main_v95, val_main_cst_16]
  simp only [e]
  exact keep_of _ b t k
theorem r102 (b : Fin 4) (t : Fin 2304) (k : Fin 1024) : val_main_v102 (F := Ideal) a.x a.z a.md a.wo (ix3 b t k) = dpb a b t k := by
  have e : ∀ b t k, val_main_v73 (F := Ideal) a.x a.z a.md a.wo (ix3 b t k) = _ := Cert.ReferenceIdeal.Stage.dp_b a.x a.z a.md a.wo
  pointwise [val_main_v102, val_main_v101, val_main_v100, val_main_v99, val_main_cst_17]
  simp only [e]
  exact keep_of _ b t k
theorem r106 (b : Fin 4) (t : Fin 2304) (k : Fin 1024) : val_main_v106 (F := Ideal) a.x a.z a.md a.wo (ix3 b t k) = dpc a b t k := by
  have e : ∀ b t k, val_main_v70 (F := Ideal) a.x a.z a.md a.wo (ix3 b t k) = _ := Cert.ReferenceIdeal.Stage.dp_c a.x a.z a.md a.wo
  pointwise [val_main_v106, val_main_v105, val_main_v104, val_main_v103, val_main_cst_18]
  simp only [e]
  exact keep_of _ b t k
theorem r110 (b : Fin 4) (t : Fin 2304) (k : Fin 1024) : val_main_v110 (F := Ideal) a.oa a.ob a.oc a.z a.wa a.wb a.wc (ix3 b t k) = ys a b t k := by
  have e : ∀ b t k, val_main_v49 (F := Ideal) a.oa a.ob a.oc a.z a.wa a.wb a.wc (ix3 b t k) = _ := Cert.ReferenceIdeal.Stage.y_at a.oa a.ob a.oc a.z a.wa a.wb a.wc
  pointwise [val_main_v110, val_main_v109, val_main_v108, val_main_v107, val_main_cst_19]
  simp only [e]
  exact keep_of _ b t k
theorem r114 (b : Fin 4) (t : Fin 2304) (k : Fin 1024) : val_main_v114 (F := Ideal) a.x a.md (ix3 b t k) = dm a b t k := by
  have e : ∀ b t k, val_main_v58 (F := Ideal) a.x a.md (ix3 b t k) = _ := Cert.ReferenceIdeal.Stage.dmo_at a.x a.md
  pointwise [val_main_v114, val_main_v113, val_main_v112, val_main_v111, val_main_cst_20]
  simp only [e]
  exact keep_of _ b t k
theorem r118 (b : Fin 4) (t : Fin 2304) (k : Fin 3072) : val_main_v118 (F := Ideal) a.x a.oa a.ob a.oc a.z a.md a.wa a.wb a.wc a.wo (ix3 b t k) = dzs a b t k := by
  have e : ∀ b t k, val_main_v82 (F := Ideal) a.x a.oa a.ob a.oc a.z a.md a.wa a.wb a.wc a.wo (ix3 b t k) = _ := Cert.ReferenceIdeal.Stage.dzg_at a.x a.oa a.ob a.oc a.z a.md a.wa a.wb a.wc a.wo
  pointwise [val_main_v118, val_main_v117, val_main_v116, val_main_v115, val_main_cst_21]
  simp only [e]
  exact keep_of _ b t k
theorem r120 (r : Fin 8) (k : Fin 1024) : val_main_v120 (F := Ideal) a.x a.oa a.ob a.oc a.z a.wa a.wb a.wc a.wo (ix2 r k) = dg a r k := by
  have e : ∀ b t k, val_main_v59 (F := Ideal) a.x a.oa a.ob a.oc a.z a.wa a.wb a.wc a.wo (ix3 b t k) = _ := Cert.ReferenceIdeal.Stage.g_at a.x a.oa a.ob a.oc a.z a.wa a.wb a.wc a.wo
  pointwise [val_main_v120, val_main_v119, val_main_cst_22, val_main_v64, val_main_v63, val_main_v62, val_main_v61, val_main_cst_8, val_main_cst_9]
  simp only [e]
  unfold dg dgate share keep
  by_cases h : r.val < 4
  · rw [dif_pos h, dif_pos h]
    simp
  · rw [dif_neg h, dif_neg h]
    split
    · simp
    · rfl

variable (m : (ℓ : Loc nD τ sig) → Buf (Elt Ideal) ℓ)

/-- A device's arguments. -/
abbrev ar (c : Dev nD) : Args :=
  ⟨m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5),
    m ((c : Thread nD τ).loc main_arg6), m ((c : Thread nD τ).loc main_arg7), m ((c : Thread nD τ).loc main_arg8),
    m ((c : Thread nD τ).loc main_arg9)⟩

/-- The cotangent of the gates as a whole array. -/
theorem r120_all : val_main_v120 (F := Ideal) a.x a.oa a.ob a.oc a.z a.wa a.wb a.wc a.wo = fun i => dg a (i 0) (i 1) := by
  funext i
  have hi : i = ix2 (i 0) (i 1) := by blk_ext []
  exact (congrArg _ hi).trans (r120 a (i 0) (i 1))

/-- The reference's run, with every result named. -/
theorem run_values (g : Dev nD → PrngReg) : θ_run defs (onTc (τ := τ) (main (F := Ideal))) ⟨m, fun _ => 0, g⟩ fun r => ∀ c : Dev nD,
      r.2.mem ((c : Thread nD τ).loc main_v86) = (fun i => doa (ar m c) (i 0) (i 1) (i 2))
      ∧ r.2.mem ((c : Thread nD τ).loc main_v90) = (fun i => dob (ar m c) (i 0) (i 1) (i 2))
      ∧ r.2.mem ((c : Thread nD τ).loc main_v94) = (fun i => doc (ar m c) (i 0) (i 1) (i 2))
      ∧ r.2.mem ((c : Thread nD τ).loc main_v98) = (fun i => dpa (ar m c) (i 0) (i 1) (i 2))
      ∧ r.2.mem ((c : Thread nD τ).loc main_v102) = (fun i => dpb (ar m c) (i 0) (i 1) (i 2))
      ∧ r.2.mem ((c : Thread nD τ).loc main_v106) = (fun i => dpc (ar m c) (i 0) (i 1) (i 2))
      ∧ r.2.mem ((c : Thread nD τ).loc main_v110) = (fun i => ys (ar m c) (i 0) (i 1) (i 2))
      ∧ r.2.mem ((c : Thread nD τ).loc main_v114) = (fun i => dm (ar m c) (i 0) (i 1) (i 2))
      ∧ r.2.mem ((c : Thread nD τ).loc main_v118) = (fun i => dzs (ar m c) (i 0) (i 1) (i 2))
      ∧ r.2.mem ((c : Thread nD τ).loc main_v120) = (fun i => dg (ar m c) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) := by
  refine (θ_run _ _ _).mono (fun r h c => ?_) (Cert.Reference13Ideal.Value.run (F := Ideal) m g)
  obtain ⟨e0, e1, e2, e3, e4, e5, e6, e7, e8, e9, hk⟩ := h c
  exact ⟨(e0.trans (val_main_v86_eq _ _ _ _ _)).trans (ext3 (r86 (ar m c))),
    (e1.trans (val_main_v90_eq _ _ _ _ _)).trans (ext3 (r90 (ar m c))),
    (e2.trans (val_main_v94_eq _ _ _ _ _)).trans (ext3 (r94 (ar m c))),
    (e3.trans (val_main_v98_eq _ _ _ _)).trans (ext3 (r98 (ar m c))),
    (e4.trans (val_main_v102_eq _ _ _ _)).trans (ext3 (r102 (ar m c))),
    (e5.trans (val_main_v106_eq _ _ _ _)).trans (ext3 (r106 (ar m c))),
    (e6.trans (val_main_v110_eq _ _ _ _ _ _ _)).trans (ext3 (r110 (ar m c))),
    (e7.trans (val_main_v114_eq _ _)).trans (ext3 (r114 (ar m c))),
    (e8.trans (val_main_v118_eq m c)).trans (ext3 (r118 (ar m c))),
    (e9.trans (val_main_v120_eq _ _ _ _ _ _ _ _ _)).trans (r120_all (ar m c)),
    hk⟩

end Cert.Reference13Ideal.Stage

end
-- ==== Proof.MergeLastEquation.lean ====
module

public import proofs.«01_k».proof.Defs
public import proofs.«01_k».proof.Proof.MergeLastValues
public import proofs.«01_k».proof.Proof.MergeLastRef

/-! # The equation of the last layer's backward merge -/

@[expose] public section

set_option maxRecDepth 16384
set_option maxHeartbeats 1600000

noncomputable section

namespace Cert.Proof

open Cert.MergeFwd Cert.MergeLast Idealize.ShloMosaic Idealize.ShloMosaic.TcCoe Idealize.SL.Sem

/-- Kernel and reference compute the same ten arrays over the extended reals. -/
theorem merge_bwd_last : @Cert.algebraic_Kernel13Ideal_Reference13Ideal Cert.Kernel13Ideal.Gen.facts Cert.Reference13Ideal.Gen.facts := by
  intro m g m' g' _ hargs
  have e : ∀ c, Cert.Reference13Ideal.Stage.ar m' c = Cert.Kernel13Ideal.Blocks.ar m c := fun c => by
    obtain ⟨h0, h1, h2, h3, h4, h5, h6, h7, h8, h9⟩ := hargs c
    unfold Cert.Reference13Ideal.Stage.ar Cert.Kernel13Ideal.Blocks.ar
    rw [h0, h1, h2, h3, h4, h5, h6, h7, h8, h9]
  refine ⟨fun c i => doa (Cert.Kernel13Ideal.Blocks.ar m c) (i 0) (i 1) (i 2),
    fun c i => dob (Cert.Kernel13Ideal.Blocks.ar m c) (i 0) (i 1) (i 2),
    fun c i => doc (Cert.Kernel13Ideal.Blocks.ar m c) (i 0) (i 1) (i 2),
    fun c i => dpa (Cert.Kernel13Ideal.Blocks.ar m c) (i 0) (i 1) (i 2),
    fun c i => dpb (Cert.Kernel13Ideal.Blocks.ar m c) (i 0) (i 1) (i 2),
    fun c i => dpc (Cert.Kernel13Ideal.Blocks.ar m c) (i 0) (i 1) (i 2),
    fun c i => ys (Cert.Kernel13Ideal.Blocks.ar m c) (i 0) (i 1) (i 2),
    fun c i => dm (Cert.Kernel13Ideal.Blocks.ar m c) (i 0) (i 1) (i 2),
    fun c i => dzs (Cert.Kernel13Ideal.Blocks.ar m c) (i 0) (i 1) (i 2),
    fun c i => dg (Cert.Kernel13Ideal.Blocks.ar m c) (i 0) (i 1), ?_, ?_⟩
  · exact Cert.Kernel13Ideal.Blocks.run_values m g
  · refine (θ_run _ _ _).mono (fun r h c => ?_) (Cert.Reference13Ideal.Stage.run_values m' g')
    have := h c
    rw [e c] at this
    exact this

end Cert.Proof

end
-- ==== Proof.lean ====
/- The certificate: the three frames, the ideal program being the printed one, and the equation between the ideal kernel and the
   reference. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Reference2Ideal
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Reference3Ideal
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Reference4Ideal
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Reference5Ideal
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal
public import proofs.«01_k».proof.Proof.Gen.Reference6Ideal
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7Ideal
public import proofs.«01_k».proof.Proof.Gen.Reference7Ideal
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8Ideal
public import proofs.«01_k».proof.Proof.Gen.Reference8Ideal
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9
public import proofs.«01_k».proof.Proof.Gen.Kernel9Ideal
public import proofs.«01_k».proof.Proof.Gen.Reference9Ideal
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10
public import proofs.«01_k».proof.Proof.Gen.Kernel10Ideal
public import proofs.«01_k».proof.Proof.Gen.Reference10Ideal
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11
public import proofs.«01_k».proof.Proof.Gen.Kernel11Ideal
public import proofs.«01_k».proof.Proof.Gen.Reference11Ideal
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12
public import proofs.«01_k».proof.Proof.Gen.Kernel12Ideal
public import proofs.«01_k».proof.Proof.Gen.Reference12Ideal
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13
public import proofs.«01_k».proof.Proof.Gen.Kernel13Ideal
public import proofs.«01_k».proof.Proof.Gen.Reference13Ideal
public import proofs.«01_k».proof.Proof.Gen.Reference13Ideal.Run
public import proofs.«01_k».proof.Proof.Gen.Reference13Ideal.Read
public import proofs.«01_k».proof.Proof.Frames
public import proofs.«01_k».proof.Proof.Equation
public import proofs.«01_k».proof.Proof.DwEquation
public import proofs.«01_k».proof.Proof.MlpEquation
public import proofs.«01_k».proof.Proof.InpEquation
public import proofs.«01_k».proof.Proof.OutEquation
public import proofs.«01_k».proof.Proof.InpNextEquation
public import proofs.«01_k».proof.Proof.FwdEquation
public import proofs.«01_k».proof.Proof.FwdLastEquation
public import proofs.«01_k».proof.Proof.MergeLastFrames
public import proofs.«01_k».proof.Proof.MergeLastEquation
public import Idealize.ShloMosaic.Adequacy
public import Idealize.ShloMosaic.Init

@[expose] public section

noncomputable section

namespace Cert.Proof

open Idealize.ShloMosaic Idealize.SL.Sem

/-- The reference's frame: a run of host operations. -/
theorem frame_reference : @Cert.quiescent_ReferenceIdeal Cert.ReferenceIdeal.Gen.facts :=
  fun m g _ => (θ_run Cert.ReferenceIdeal.defs _ _).mono
    (fun r h => ⟨fun c => (h c).2.2.2.2.2.2.2.2.2.2, sem_eq_zero_of_no_sems (by decide) r.2⟩)
    (Cert.ReferenceIdeal.Value.run (F := Ideal) m g)

theorem frame_reference2 : @Cert.quiescent_Reference2Ideal Cert.Reference2Ideal.Gen.facts :=
  fun m g _ => (θ_run Cert.Reference2Ideal.defs _ _).mono
    (fun r h => ⟨fun c => (h c).2.2.2.2.2.2, sem_eq_zero_of_no_sems (by decide) r.2⟩)
    (Cert.Reference2Ideal.Value.run (F := Ideal) m g)

theorem frame_reference3 : @Cert.quiescent_Reference3Ideal Cert.Reference3Ideal.Gen.facts :=
  fun m g _ => (θ_run Cert.Reference3Ideal.defs _ _).mono
    (fun r h => ⟨fun c => (h c).2, sem_eq_zero_of_no_sems (by decide) r.2⟩)
    (Cert.Reference3Ideal.Value.run (F := Ideal) m g)

theorem frame_reference4 : @Cert.quiescent_Reference4Ideal Cert.Reference4Ideal.Gen.facts :=
  fun m g _ => (θ_run Cert.Reference4Ideal.defs _ _).mono
    (fun r h => ⟨fun c => (h c).2, sem_eq_zero_of_no_sems (by decide) r.2⟩)
    (Cert.Reference4Ideal.Value.run (F := Ideal) m g)

theorem frame_reference5 : @Cert.quiescent_Reference5Ideal Cert.Reference5Ideal.Gen.facts :=
  fun m g _ => (θ_run Cert.Reference5Ideal.defs _ _).mono
    (fun r h => ⟨fun c => (h c).2, sem_eq_zero_of_no_sems (by decide) r.2⟩)
    (Cert.Reference5Ideal.Value.run (F := Ideal) m g)

theorem frame_reference6 : @Cert.quiescent_Reference6Ideal Cert.Reference6Ideal.Gen.facts :=
  fun m g _ => (θ_run Cert.Reference6Ideal.defs _ _).mono
    (fun r h => ⟨fun c => (h c).2, sem_eq_zero_of_no_sems (by decide) r.2⟩)
    (Cert.Reference6Ideal.Value.run (F := Ideal) m g)

theorem frame_reference7 : @Cert.quiescent_Reference7Ideal Cert.Reference7Ideal.Gen.facts :=
  fun m g _ => (θ_run Cert.Reference7Ideal.defs _ _).mono
    (fun r h => ⟨fun c => (h c).2, sem_eq_zero_of_no_sems (by decide) r.2⟩)
    (Cert.Reference7Ideal.Value.run (F := Ideal) m g)

theorem frame_reference8 : @Cert.quiescent_Reference8Ideal Cert.Reference8Ideal.Gen.facts :=
  fun m g _ => (θ_run Cert.Reference8Ideal.defs _ _).mono
    (fun r h => ⟨fun c => (h c).2.2.2.2, sem_eq_zero_of_no_sems (by decide) r.2⟩)
    (Cert.Reference8Ideal.Value.run (F := Ideal) m g)

theorem frame_reference9 : @Cert.quiescent_Reference9Ideal Cert.Reference9Ideal.Gen.facts :=
  fun m g _ => (θ_run Cert.Reference9Ideal.defs _ _).mono
    (fun r h => ⟨fun c => (h c).2.2.2.2, sem_eq_zero_of_no_sems (by decide) r.2⟩)
    (Cert.Reference9Ideal.Value.run (F := Ideal) m g)

theorem frame_reference10 : @Cert.quiescent_Reference10Ideal Cert.Reference10Ideal.Gen.facts :=
  fun m g _ => (θ_run Cert.Reference10Ideal.defs _ _).mono
    (fun r h => ⟨fun c => (h c).2.2.2.2, sem_eq_zero_of_no_sems (by decide) r.2⟩)
    (Cert.Reference10Ideal.Value.run (F := Ideal) m g)

theorem frame_reference11 : @Cert.quiescent_Reference11Ideal Cert.Reference11Ideal.Gen.facts :=
  fun m g _ => (θ_run Cert.Reference11Ideal.defs _ _).mono
    (fun r h => ⟨fun c => (h c).2.2, sem_eq_zero_of_no_sems (by decide) r.2⟩)
    (Cert.Reference11Ideal.Value.run (F := Ideal) m g)

theorem frame_reference12 : @Cert.quiescent_Reference12Ideal Cert.Reference12Ideal.Gen.facts :=
  fun m g _ => (θ_run Cert.Reference12Ideal.defs _ _).mono
    (fun r h => ⟨fun c => (h c).2.2, sem_eq_zero_of_no_sems (by decide) r.2⟩)
    (Cert.Reference12Ideal.Value.run (F := Ideal) m g)

theorem frame_reference13 : @Cert.quiescent_Reference13Ideal Cert.Reference13Ideal.Gen.facts :=
  fun m g _ => (θ_run Cert.Reference13Ideal.defs _ _).mono
    (fun r h => ⟨fun c => (h c).2.2.2.2.2.2.2.2.2.2, sem_eq_zero_of_no_sems (by decide) r.2⟩)
    (Cert.Reference13Ideal.Value.run (F := Ideal) m g)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    frame_printed, frame_ideal, frame_reference,
    fun m g _ => Cert.Kernel2.Gen.frame m g, fun m g _ => Cert.Kernel2Ideal.Gen.frame m g, frame_reference2,
    fun m g _ => Cert.Kernel3.Gen.frame m g, fun m g _ => Cert.Kernel3Ideal.Gen.frame m g, frame_reference3,
    fun m g _ => Cert.Kernel4.Gen.frame m g, fun m g _ => Cert.Kernel4Ideal.Gen.frame m g, frame_reference4,
    fun m g _ => Cert.Kernel5.Gen.frame m g, fun m g _ => Cert.Kernel5Ideal.Gen.frame m g, frame_reference5,
    fun m g _ => Cert.Kernel6.Gen.frame m g, fun m g _ => Cert.Kernel6Ideal.Gen.frame m g, frame_reference6,
    fun m g _ => Cert.Kernel7.Gen.frame m g, fun m g _ => Cert.Kernel7Ideal.Gen.frame m g, frame_reference7,
    fun m g _ => Cert.Kernel8.Gen.frame m g, fun m g _ => Cert.Kernel8Ideal.Gen.frame m g, frame_reference8,
    fun m g _ => Cert.Kernel9.Gen.frame m g, fun m g _ => Cert.Kernel9Ideal.Gen.frame m g, frame_reference9,
    fun m g _ => Cert.Kernel10.Gen.frame m g, fun m g _ => Cert.Kernel10Ideal.Gen.frame m g, frame_reference10,
    fun m g _ => Cert.Kernel11.Gen.frame m g, fun m g _ => Cert.Kernel11Ideal.Gen.frame m g, frame_reference11,
    fun m g _ => Cert.Kernel12.Gen.frame m g, fun m g _ => Cert.Kernel12Ideal.Gen.frame m g, frame_reference12,
    last_frame_printed, last_frame_ideal, frame_reference13,
    trivial, merge_bwd, trivial, mlp_bwd, trivial, grad3, trivial, grad4, trivial, grad5, trivial, grad6, trivial, grad7, trivial, in_proj_bwd, trivial, mlp_fwd,
    trivial, in_proj_bwd_next, trivial, merge_fwd, trivial, merge_fwd_last, trivial, merge_bwd_last⟩

end Cert.Proof

end
